-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite [hPre_finite : Cert.Pre_finite.Facts] (m : (ℓ : Loc Cert.FfnIdeal.nD Cert.FfnIdeal.τ Cert.FfnIdeal.sig) → Buf (Elt Ideal) ℓ) : Prop :=
  ∀ c : Dev Cert.FfnIdeal.nD,
    (Cert.Pre_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).1 = (fun _ => 1#1)
    ∧ (Cert.Pre_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.1 = (fun _ => 1#1)
    ∧ (Cert.Pre_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite [hPre_finite : Cert.Pre_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).1 = (fun _ => 1#1)
    ∧ (Cert.Pre_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.1 = (fun _ => 1#1)
    ∧ (Cert.Pre_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.2 = (fun _ => 1#1)

def Pre_Wgrad (m : (ℓ : Loc Cert.Wgrad.nD Cert.Wgrad.τ Cert.Wgrad.sig) → Buf (Elt Bits) ℓ) : Prop :=
  True

def Pre_WgradIdeal (m : (ℓ : Loc Cert.WgradIdeal.nD Cert.WgradIdeal.τ Cert.WgradIdeal.sig) → Buf (Elt Ideal) ℓ) : Prop :=
  True

def Pre_WgradRefIdeal (m : (ℓ : Loc Cert.WgradRefIdeal.nD Cert.WgradRefIdeal.τ Cert.WgradRefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_NormBack (m : (ℓ : Loc Cert.NormBack.nD Cert.NormBack.τ Cert.NormBack.sig) → Buf (Elt Bits) ℓ) : Prop :=
  True

def Pre_NormBackIdeal (m : (ℓ : Loc Cert.NormBackIdeal.nD Cert.NormBackIdeal.τ Cert.NormBackIdeal.sig) → Buf (Elt Ideal) ℓ) : Prop :=
  True

def Pre_NormBackIdeal_norm_finite [hPre_norm_finite : Cert.Pre_norm_finite.Facts] (m : (ℓ : Loc Cert.NormBackIdeal.nD Cert.NormBackIdeal.τ Cert.NormBackIdeal.sig) → Buf (Elt Ideal) ℓ) : Prop :=
  ∀ c : Dev Cert.NormBackIdeal.nD,
    (Cert.Pre_norm_finite.fn (F := Ideal) (m ((c.tc : Thread Cert.NormBackIdeal.nD Cert.NormBackIdeal.τ).loc Cert.NormBackIdeal.main_arg0)) (m ((c.tc : Thread Cert.NormBackIdeal.nD Cert.NormBackIdeal.τ).loc Cert.NormBackIdeal.main_arg1)) (m ((c.tc : Thread Cert.NormBackIdeal.nD Cert.NormBackIdeal.τ).loc Cert.NormBackIdeal.main_arg2)) (m ((c.tc : Thread Cert.NormBackIdeal.nD Cert.NormBackIdeal.τ).loc Cert.NormBackIdeal.main_arg3)) (m ((c.tc : Thread Cert.NormBackIdeal.nD Cert.NormBackIdeal.τ).loc Cert.NormBackIdeal.main_arg4)) (m ((c.tc : Thread Cert.NormBackIdeal.nD Cert.NormBackIdeal.τ).loc Cert.NormBackIdeal.main_arg5)) (m ((c.tc : Thread Cert.NormBackIdeal.nD Cert.NormBackIdeal.τ).loc Cert.NormBackIdeal.main_arg6))).1 = (fun _ => 1#1)
    ∧ (Cert.Pre_norm_finite.fn (F := Ideal) (m ((c.tc : Thread Cert.NormBackIdeal.nD Cert.NormBackIdeal.τ).loc Cert.NormBackIdeal.main_arg0)) (m ((c.tc : Thread Cert.NormBackIdeal.nD Cert.NormBackIdeal.τ).loc Cert.NormBackIdeal.main_arg1)) (m ((c.tc : Thread Cert.NormBackIdeal.nD Cert.NormBackIdeal.τ).loc Cert.NormBackIdeal.main_arg2)) (m ((c.tc : Thread Cert.NormBackIdeal.nD Cert.NormBackIdeal.τ).loc Cert.NormBackIdeal.main_arg3)) (m ((c.tc : Thread Cert.NormBackIdeal.nD Cert.NormBackIdeal.τ).loc Cert.NormBackIdeal.main_arg4)) (m ((c.tc : Thread Cert.NormBackIdeal.nD Cert.NormBackIdeal.τ).loc Cert.NormBackIdeal.main_arg5)) (m ((c.tc : Thread Cert.NormBackIdeal.nD Cert.NormBackIdeal.τ).loc Cert.NormBackIdeal.main_arg6))).2.1 = (fun _ => 1#1)
    ∧ (Cert.Pre_norm_finite.fn (F := Ideal) (m ((c.tc : Thread Cert.NormBackIdeal.nD Cert.NormBackIdeal.τ).loc Cert.NormBackIdeal.main_arg0)) (m ((c.tc : Thread Cert.NormBackIdeal.nD Cert.NormBackIdeal.τ).loc Cert.NormBackIdeal.main_arg1)) (m ((c.tc : Thread Cert.NormBackIdeal.nD Cert.NormBackIdeal.τ).loc Cert.NormBackIdeal.main_arg2)) (m ((c.tc : Thread Cert.NormBackIdeal.nD Cert.NormBackIdeal.τ).loc Cert.NormBackIdeal.main_arg3)) (m ((c.tc : Thread Cert.NormBackIdeal.nD Cert.NormBackIdeal.τ).loc Cert.NormBackIdeal.main_arg4)) (m ((c.tc : Thread Cert.NormBackIdeal.nD Cert.NormBackIdeal.τ).loc Cert.NormBackIdeal.main_arg5)) (m ((c.tc : Thread Cert.NormBackIdeal.nD Cert.NormBackIdeal.τ).loc Cert.NormBackIdeal.main_arg6))).2.2.1 = (fun _ => 1#1)
    ∧ (Cert.Pre_norm_finite.fn (F := Ideal) (m ((c.tc : Thread Cert.NormBackIdeal.nD Cert.NormBackIdeal.τ).loc Cert.NormBackIdeal.main_arg0)) (m ((c.tc : Thread Cert.NormBackIdeal.nD Cert.NormBackIdeal.τ).loc Cert.NormBackIdeal.main_arg1)) (m ((c.tc : Thread Cert.NormBackIdeal.nD Cert.NormBackIdeal.τ).loc Cert.NormBackIdeal.main_arg2)) (m ((c.tc : Thread Cert.NormBackIdeal.nD Cert.NormBackIdeal.τ).loc Cert.NormBackIdeal.main_arg3)) (m ((c.tc : Thread Cert.NormBackIdeal.nD Cert.NormBackIdeal.τ).loc Cert.NormBackIdeal.main_arg4)) (m ((c.tc : Thread Cert.NormBackIdeal.nD Cert.NormBackIdeal.τ).loc Cert.NormBackIdeal.main_arg5)) (m ((c.tc : Thread Cert.NormBackIdeal.nD Cert.NormBackIdeal.τ).loc Cert.NormBackIdeal.main_arg6))).2.2.2.1 = (fun _ => 1#1)
    ∧ (Cert.Pre_norm_finite.fn (F := Ideal) (m ((c.tc : Thread Cert.NormBackIdeal.nD Cert.NormBackIdeal.τ).loc Cert.NormBackIdeal.main_arg0)) (m ((c.tc : Thread Cert.NormBackIdeal.nD Cert.NormBackIdeal.τ).loc Cert.NormBackIdeal.main_arg1)) (m ((c.tc : Thread Cert.NormBackIdeal.nD Cert.NormBackIdeal.τ).loc Cert.NormBackIdeal.main_arg2)) (m ((c.tc : Thread Cert.NormBackIdeal.nD Cert.NormBackIdeal.τ).loc Cert.NormBackIdeal.main_arg3)) (m ((c.tc : Thread Cert.NormBackIdeal.nD Cert.NormBackIdeal.τ).loc Cert.NormBackIdeal.main_arg4)) (m ((c.tc : Thread Cert.NormBackIdeal.nD Cert.NormBackIdeal.τ).loc Cert.NormBackIdeal.main_arg5)) (m ((c.tc : Thread Cert.NormBackIdeal.nD Cert.NormBackIdeal.τ).loc Cert.NormBackIdeal.main_arg6))).2.2.2.2.1 = (fun _ => 1#1)
    ∧ (Cert.Pre_norm_finite.fn (F := Ideal) (m ((c.tc : Thread Cert.NormBackIdeal.nD Cert.NormBackIdeal.τ).loc Cert.NormBackIdeal.main_arg0)) (m ((c.tc : Thread Cert.NormBackIdeal.nD Cert.NormBackIdeal.τ).loc Cert.NormBackIdeal.main_arg1)) (m ((c.tc : Thread Cert.NormBackIdeal.nD Cert.NormBackIdeal.τ).loc Cert.NormBackIdeal.main_arg2)) (m ((c.tc : Thread Cert.NormBackIdeal.nD Cert.NormBackIdeal.τ).loc Cert.NormBackIdeal.main_arg3)) (m ((c.tc : Thread Cert.NormBackIdeal.nD Cert.NormBackIdeal.τ).loc Cert.NormBackIdeal.main_arg4)) (m ((c.tc : Thread Cert.NormBackIdeal.nD Cert.NormBackIdeal.τ).loc Cert.NormBackIdeal.main_arg5)) (m ((c.tc : Thread Cert.NormBackIdeal.nD Cert.NormBackIdeal.τ).loc Cert.NormBackIdeal.main_arg6))).2.2.2.2.2 = (fun _ => 1#1)

def Pre_NormBackRefIdeal (m : (ℓ : Loc Cert.NormBackRefIdeal.nD Cert.NormBackRefIdeal.τ Cert.NormBackRefIdeal.sig) → Buf (Elt Ideal) ℓ) : Prop :=
  True

def Pre_NormBackRefIdeal_norm_finite [hPre_norm_finite : Cert.Pre_norm_finite.Facts] (m : (ℓ : Loc Cert.NormBackRefIdeal.nD Cert.NormBackRefIdeal.τ Cert.NormBackRefIdeal.sig) → Buf (Elt Ideal) ℓ) : Prop :=
  ∀ c : Dev Cert.NormBackRefIdeal.nD,
    (Cert.Pre_norm_finite.fn (F := Ideal) (m ((c.tc : Thread Cert.NormBackRefIdeal.nD Cert.NormBackRefIdeal.τ).loc Cert.NormBackRefIdeal.main_arg0)) (m ((c.tc : Thread Cert.NormBackRefIdeal.nD Cert.NormBackRefIdeal.τ).loc Cert.NormBackRefIdeal.main_arg1)) (m ((c.tc : Thread Cert.NormBackRefIdeal.nD Cert.NormBackRefIdeal.τ).loc Cert.NormBackRefIdeal.main_arg2)) (m ((c.tc : Thread Cert.NormBackRefIdeal.nD Cert.NormBackRefIdeal.τ).loc Cert.NormBackRefIdeal.main_arg3)) (m ((c.tc : Thread Cert.NormBackRefIdeal.nD Cert.NormBackRefIdeal.τ).loc Cert.NormBackRefIdeal.main_arg4)) (m ((c.tc : Thread Cert.NormBackRefIdeal.nD Cert.NormBackRefIdeal.τ).loc Cert.NormBackRefIdeal.main_arg5)) (m ((c.tc : Thread Cert.NormBackRefIdeal.nD Cert.NormBackRefIdeal.τ).loc Cert.NormBackRefIdeal.main_arg6))).1 = (fun _ => 1#1)
    ∧ (Cert.Pre_norm_finite.fn (F := Ideal) (m ((c.tc : Thread Cert.NormBackRefIdeal.nD Cert.NormBackRefIdeal.τ).loc Cert.NormBackRefIdeal.main_arg0)) (m ((c.tc : Thread Cert.NormBackRefIdeal.nD Cert.NormBackRefIdeal.τ).loc Cert.NormBackRefIdeal.main_arg1)) (m ((c.tc : Thread Cert.NormBackRefIdeal.nD Cert.NormBackRefIdeal.τ).loc Cert.NormBackRefIdeal.main_arg2)) (m ((c.tc : Thread Cert.NormBackRefIdeal.nD Cert.NormBackRefIdeal.τ).loc Cert.NormBackRefIdeal.main_arg3)) (m ((c.tc : Thread Cert.NormBackRefIdeal.nD Cert.NormBackRefIdeal.τ).loc Cert.NormBackRefIdeal.main_arg4)) (m ((c.tc : Thread Cert.NormBackRefIdeal.nD Cert.NormBackRefIdeal.τ).loc Cert.NormBackRefIdeal.main_arg5)) (m ((c.tc : Thread Cert.NormBackRefIdeal.nD Cert.NormBackRefIdeal.τ).loc Cert.NormBackRefIdeal.main_arg6))).2.1 = (fun _ => 1#1)
    ∧ (Cert.Pre_norm_finite.fn (F := Ideal) (m ((c.tc : Thread Cert.NormBackRefIdeal.nD Cert.NormBackRefIdeal.τ).loc Cert.NormBackRefIdeal.main_arg0)) (m ((c.tc : Thread Cert.NormBackRefIdeal.nD Cert.NormBackRefIdeal.τ).loc Cert.NormBackRefIdeal.main_arg1)) (m ((c.tc : Thread Cert.NormBackRefIdeal.nD Cert.NormBackRefIdeal.τ).loc Cert.NormBackRefIdeal.main_arg2)) (m ((c.tc : Thread Cert.NormBackRefIdeal.nD Cert.NormBackRefIdeal.τ).loc Cert.NormBackRefIdeal.main_arg3)) (m ((c.tc : Thread Cert.NormBackRefIdeal.nD Cert.NormBackRefIdeal.τ).loc Cert.NormBackRefIdeal.main_arg4)) (m ((c.tc : Thread Cert.NormBackRefIdeal.nD Cert.NormBackRefIdeal.τ).loc Cert.NormBackRefIdeal.main_arg5)) (m ((c.tc : Thread Cert.NormBackRefIdeal.nD Cert.NormBackRefIdeal.τ).loc Cert.NormBackRefIdeal.main_arg6))).2.2.1 = (fun _ => 1#1)
    ∧ (Cert.Pre_norm_finite.fn (F := Ideal) (m ((c.tc : Thread Cert.NormBackRefIdeal.nD Cert.NormBackRefIdeal.τ).loc Cert.NormBackRefIdeal.main_arg0)) (m ((c.tc : Thread Cert.NormBackRefIdeal.nD Cert.NormBackRefIdeal.τ).loc Cert.NormBackRefIdeal.main_arg1)) (m ((c.tc : Thread Cert.NormBackRefIdeal.nD Cert.NormBackRefIdeal.τ).loc Cert.NormBackRefIdeal.main_arg2)) (m ((c.tc : Thread Cert.NormBackRefIdeal.nD Cert.NormBackRefIdeal.τ).loc Cert.NormBackRefIdeal.main_arg3)) (m ((c.tc : Thread Cert.NormBackRefIdeal.nD Cert.NormBackRefIdeal.τ).loc Cert.NormBackRefIdeal.main_arg4)) (m ((c.tc : Thread Cert.NormBackRefIdeal.nD Cert.NormBackRefIdeal.τ).loc Cert.NormBackRefIdeal.main_arg5)) (m ((c.tc : Thread Cert.NormBackRefIdeal.nD Cert.NormBackRefIdeal.τ).loc Cert.NormBackRefIdeal.main_arg6))).2.2.2.1 = (fun _ => 1#1)
    ∧ (Cert.Pre_norm_finite.fn (F := Ideal) (m ((c.tc : Thread Cert.NormBackRefIdeal.nD Cert.NormBackRefIdeal.τ).loc Cert.NormBackRefIdeal.main_arg0)) (m ((c.tc : Thread Cert.NormBackRefIdeal.nD Cert.NormBackRefIdeal.τ).loc Cert.NormBackRefIdeal.main_arg1)) (m ((c.tc : Thread Cert.NormBackRefIdeal.nD Cert.NormBackRefIdeal.τ).loc Cert.NormBackRefIdeal.main_arg2)) (m ((c.tc : Thread Cert.NormBackRefIdeal.nD Cert.NormBackRefIdeal.τ).loc Cert.NormBackRefIdeal.main_arg3)) (m ((c.tc : Thread Cert.NormBackRefIdeal.nD Cert.NormBackRefIdeal.τ).loc Cert.NormBackRefIdeal.main_arg4)) (m ((c.tc : Thread Cert.NormBackRefIdeal.nD Cert.NormBackRefIdeal.τ).loc Cert.NormBackRefIdeal.main_arg5)) (m ((c.tc : Thread Cert.NormBackRefIdeal.nD Cert.NormBackRefIdeal.τ).loc Cert.NormBackRefIdeal.main_arg6))).2.2.2.2.1 = (fun _ => 1#1)
    ∧ (Cert.Pre_norm_finite.fn (F := Ideal) (m ((c.tc : Thread Cert.NormBackRefIdeal.nD Cert.NormBackRefIdeal.τ).loc Cert.NormBackRefIdeal.main_arg0)) (m ((c.tc : Thread Cert.NormBackRefIdeal.nD Cert.NormBackRefIdeal.τ).loc Cert.NormBackRefIdeal.main_arg1)) (m ((c.tc : Thread Cert.NormBackRefIdeal.nD Cert.NormBackRefIdeal.τ).loc Cert.NormBackRefIdeal.main_arg2)) (m ((c.tc : Thread Cert.NormBackRefIdeal.nD Cert.NormBackRefIdeal.τ).loc Cert.NormBackRefIdeal.main_arg3)) (m ((c.tc : Thread Cert.NormBackRefIdeal.nD Cert.NormBackRefIdeal.τ).loc Cert.NormBackRefIdeal.main_arg4)) (m ((c.tc : Thread Cert.NormBackRefIdeal.nD Cert.NormBackRefIdeal.τ).loc Cert.NormBackRefIdeal.main_arg5)) (m ((c.tc : Thread Cert.NormBackRefIdeal.nD Cert.NormBackRefIdeal.τ).loc Cert.NormBackRefIdeal.main_arg6))).2.2.2.2.2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_InGrad (m : (ℓ : Loc Cert.InGrad.nD Cert.InGrad.τ Cert.InGrad.sig) → Buf (Elt Bits) ℓ) : Prop :=
  True

def Pre_InGradIdeal (m : (ℓ : Loc Cert.InGradIdeal.nD Cert.InGradIdeal.τ Cert.InGradIdeal.sig) → Buf (Elt Ideal) ℓ) : Prop :=
  True

def Pre_InGradRefIdeal (m : (ℓ : Loc Cert.InGradRefIdeal.nD Cert.InGradRefIdeal.τ Cert.InGradRefIdeal.sig) → Buf (Elt Ideal) ℓ) : Prop :=
  True

def Pre_InBack (m : (ℓ : Loc Cert.InBack.nD Cert.InBack.τ Cert.InBack.sig) → Buf (Elt Bits) ℓ) : Prop :=
  True

def Pre_InBackIdeal (m : (ℓ : Loc Cert.InBackIdeal.nD Cert.InBackIdeal.τ Cert.InBackIdeal.sig) → Buf (Elt Ideal) ℓ) : Prop :=
  True

def Pre_InBackIdeal_in_finite [hPre_in_finite : Cert.Pre_in_finite.Facts] (m : (ℓ : Loc Cert.InBackIdeal.nD Cert.InBackIdeal.τ Cert.InBackIdeal.sig) → Buf (Elt Ideal) ℓ) : Prop :=
  ∀ c : Dev Cert.InBackIdeal.nD,
    (Cert.Pre_in_finite.fn (F := Ideal) (m ((c.tc : Thread Cert.InBackIdeal.nD Cert.InBackIdeal.τ).loc Cert.InBackIdeal.main_arg0)) (m ((c.tc : Thread Cert.InBackIdeal.nD Cert.InBackIdeal.τ).loc Cert.InBackIdeal.main_arg1)) (m ((c.tc : Thread Cert.InBackIdeal.nD Cert.InBackIdeal.τ).loc Cert.InBackIdeal.main_arg2)) (m ((c.tc : Thread Cert.InBackIdeal.nD Cert.InBackIdeal.τ).loc Cert.InBackIdeal.main_arg3)) (m ((c.tc : Thread Cert.InBackIdeal.nD Cert.InBackIdeal.τ).loc Cert.InBackIdeal.main_arg4)) (m ((c.tc : Thread Cert.InBackIdeal.nD Cert.InBackIdeal.τ).loc Cert.InBackIdeal.main_arg5)) (m ((c.tc : Thread Cert.InBackIdeal.nD Cert.InBackIdeal.τ).loc Cert.InBackIdeal.main_arg6)) (m ((c.tc : Thread Cert.InBackIdeal.nD Cert.InBackIdeal.τ).loc Cert.InBackIdeal.main_arg7)) (m ((c.tc : Thread Cert.InBackIdeal.nD Cert.InBackIdeal.τ).loc Cert.InBackIdeal.main_arg8)) (m ((c.tc : Thread Cert.InBackIdeal.nD Cert.InBackIdeal.τ).loc Cert.InBackIdeal.main_arg9))).1 = (fun _ => 1#1)
    ∧ (Cert.Pre_in_finite.fn (F := Ideal) (m ((c.tc : Thread Cert.InBackIdeal.nD Cert.InBackIdeal.τ).loc Cert.InBackIdeal.main_arg0)) (m ((c.tc : Thread Cert.InBackIdeal.nD Cert.InBackIdeal.τ).loc Cert.InBackIdeal.main_arg1)) (m ((c.tc : Thread Cert.InBackIdeal.nD Cert.InBackIdeal.τ).loc Cert.InBackIdeal.main_arg2)) (m ((c.tc : Thread Cert.InBackIdeal.nD Cert.InBackIdeal.τ).loc Cert.InBackIdeal.main_arg3)) (m ((c.tc : Thread Cert.InBackIdeal.nD Cert.InBackIdeal.τ).loc Cert.InBackIdeal.main_arg4)) (m ((c.tc : Thread Cert.InBackIdeal.nD Cert.InBackIdeal.τ).loc Cert.InBackIdeal.main_arg5)) (m ((c.tc : Thread Cert.InBackIdeal.nD Cert.InBackIdeal.τ).loc Cert.InBackIdeal.main_arg6)) (m ((c.tc : Thread Cert.InBackIdeal.nD Cert.InBackIdeal.τ).loc Cert.InBackIdeal.main_arg7)) (m ((c.tc : Thread Cert.InBackIdeal.nD Cert.InBackIdeal.τ).loc Cert.InBackIdeal.main_arg8)) (m ((c.tc : Thread Cert.InBackIdeal.nD Cert.InBackIdeal.τ).loc Cert.InBackIdeal.main_arg9))).2.1 = (fun _ => 1#1)
    ∧ (Cert.Pre_in_finite.fn (F := Ideal) (m ((c.tc : Thread Cert.InBackIdeal.nD Cert.InBackIdeal.τ).loc Cert.InBackIdeal.main_arg0)) (m ((c.tc : Thread Cert.InBackIdeal.nD Cert.InBackIdeal.τ).loc Cert.InBackIdeal.main_arg1)) (m ((c.tc : Thread Cert.InBackIdeal.nD Cert.InBackIdeal.τ).loc Cert.InBackIdeal.main_arg2)) (m ((c.tc : Thread Cert.InBackIdeal.nD Cert.InBackIdeal.τ).loc Cert.InBackIdeal.main_arg3)) (m ((c.tc : Thread Cert.InBackIdeal.nD Cert.InBackIdeal.τ).loc Cert.InBackIdeal.main_arg4)) (m ((c.tc : Thread Cert.InBackIdeal.nD Cert.InBackIdeal.τ).loc Cert.InBackIdeal.main_arg5)) (m ((c.tc : Thread Cert.InBackIdeal.nD Cert.InBackIdeal.τ).loc Cert.InBackIdeal.main_arg6)) (m ((c.tc : Thread Cert.InBackIdeal.nD Cert.InBackIdeal.τ).loc Cert.InBackIdeal.main_arg7)) (m ((c.tc : Thread Cert.InBackIdeal.nD Cert.InBackIdeal.τ).loc Cert.InBackIdeal.main_arg8)) (m ((c.tc : Thread Cert.InBackIdeal.nD Cert.InBackIdeal.τ).loc Cert.InBackIdeal.main_arg9))).2.2.1 = (fun _ => 1#1)
    ∧ (Cert.Pre_in_finite.fn (F := Ideal) (m ((c.tc : Thread Cert.InBackIdeal.nD Cert.InBackIdeal.τ).loc Cert.InBackIdeal.main_arg0)) (m ((c.tc : Thread Cert.InBackIdeal.nD Cert.InBackIdeal.τ).loc Cert.InBackIdeal.main_arg1)) (m ((c.tc : Thread Cert.InBackIdeal.nD Cert.InBackIdeal.τ).loc Cert.InBackIdeal.main_arg2)) (m ((c.tc : Thread Cert.InBackIdeal.nD Cert.InBackIdeal.τ).loc Cert.InBackIdeal.main_arg3)) (m ((c.tc : Thread Cert.InBackIdeal.nD Cert.InBackIdeal.τ).loc Cert.InBackIdeal.main_arg4)) (m ((c.tc : Thread Cert.InBackIdeal.nD Cert.InBackIdeal.τ).loc Cert.InBackIdeal.main_arg5)) (m ((c.tc : Thread Cert.InBackIdeal.nD Cert.InBackIdeal.τ).loc Cert.InBackIdeal.main_arg6)) (m ((c.tc : Thread Cert.InBackIdeal.nD Cert.InBackIdeal.τ).loc Cert.InBackIdeal.main_arg7)) (m ((c.tc : Thread Cert.InBackIdeal.nD Cert.InBackIdeal.τ).loc Cert.InBackIdeal.main_arg8)) (m ((c.tc : Thread Cert.InBackIdeal.nD Cert.InBackIdeal.τ).loc Cert.InBackIdeal.main_arg9))).2.2.2.1 = (fun _ => 1#1)
    ∧ (Cert.Pre_in_finite.fn (F := Ideal) (m ((c.tc : Thread Cert.InBackIdeal.nD Cert.InBackIdeal.τ).loc Cert.InBackIdeal.main_arg0)) (m ((c.tc : Thread Cert.InBackIdeal.nD Cert.InBackIdeal.τ).loc Cert.InBackIdeal.main_arg1)) (m ((c.tc : Thread Cert.InBackIdeal.nD Cert.InBackIdeal.τ).loc Cert.InBackIdeal.main_arg2)) (m ((c.tc : Thread Cert.InBackIdeal.nD Cert.InBackIdeal.τ).loc Cert.InBackIdeal.main_arg3)) (m ((c.tc : Thread Cert.InBackIdeal.nD Cert.InBackIdeal.τ).loc Cert.InBackIdeal.main_arg4)) (m ((c.tc : Thread Cert.InBackIdeal.nD Cert.InBackIdeal.τ).loc Cert.InBackIdeal.main_arg5)) (m ((c.tc : Thread Cert.InBackIdeal.nD Cert.InBackIdeal.τ).loc Cert.InBackIdeal.main_arg6)) (m ((c.tc : Thread Cert.InBackIdeal.nD Cert.InBackIdeal.τ).loc Cert.InBackIdeal.main_arg7)) (m ((c.tc : Thread Cert.InBackIdeal.nD Cert.InBackIdeal.τ).loc Cert.InBackIdeal.main_arg8)) (m ((c.tc : Thread Cert.InBackIdeal.nD Cert.InBackIdeal.τ).loc Cert.InBackIdeal.main_arg9))).2.2.2.2.1 = (fun _ => 1#1)
    ∧ (Cert.Pre_in_finite.fn (F := Ideal) (m ((c.tc : Thread Cert.InBackIdeal.nD Cert.InBackIdeal.τ).loc Cert.InBackIdeal.main_arg0)) (m ((c.tc : Thread Cert.InBackIdeal.nD Cert.InBackIdeal.τ).loc Cert.InBackIdeal.main_arg1)) (m ((c.tc : Thread Cert.InBackIdeal.nD Cert.InBackIdeal.τ).loc Cert.InBackIdeal.main_arg2)) (m ((c.tc : Thread Cert.InBackIdeal.nD Cert.InBackIdeal.τ).loc Cert.InBackIdeal.main_arg3)) (m ((c.tc : Thread Cert.InBackIdeal.nD Cert.InBackIdeal.τ).loc Cert.InBackIdeal.main_arg4)) (m ((c.tc : Thread Cert.InBackIdeal.nD Cert.InBackIdeal.τ).loc Cert.InBackIdeal.main_arg5)) (m ((c.tc : Thread Cert.InBackIdeal.nD Cert.InBackIdeal.τ).loc Cert.InBackIdeal.main_arg6)) (m ((c.tc : Thread Cert.InBackIdeal.nD Cert.InBackIdeal.τ).loc Cert.InBackIdeal.main_arg7)) (m ((c.tc : Thread Cert.InBackIdeal.nD Cert.InBackIdeal.τ).loc Cert.InBackIdeal.main_arg8)) (m ((c.tc : Thread Cert.InBackIdeal.nD Cert.InBackIdeal.τ).loc Cert.InBackIdeal.main_arg9))).2.2.2.2.2.1 = (fun _ => 1#1)
    ∧ (Cert.Pre_in_finite.fn (F := Ideal) (m ((c.tc : Thread Cert.InBackIdeal.nD Cert.InBackIdeal.τ).loc Cert.InBackIdeal.main_arg0)) (m ((c.tc : Thread Cert.InBackIdeal.nD Cert.InBackIdeal.τ).loc Cert.InBackIdeal.main_arg1)) (m ((c.tc : Thread Cert.InBackIdeal.nD Cert.InBackIdeal.τ).loc Cert.InBackIdeal.main_arg2)) (m ((c.tc : Thread Cert.InBackIdeal.nD Cert.InBackIdeal.τ).loc Cert.InBackIdeal.main_arg3)) (m ((c.tc : Thread Cert.InBackIdeal.nD Cert.InBackIdeal.τ).loc Cert.InBackIdeal.main_arg4)) (m ((c.tc : Thread Cert.InBackIdeal.nD Cert.InBackIdeal.τ).loc Cert.InBackIdeal.main_arg5)) (m ((c.tc : Thread Cert.InBackIdeal.nD Cert.InBackIdeal.τ).loc Cert.InBackIdeal.main_arg6)) (m ((c.tc : Thread Cert.InBackIdeal.nD Cert.InBackIdeal.τ).loc Cert.InBackIdeal.main_arg7)) (m ((c.tc : Thread Cert.InBackIdeal.nD Cert.InBackIdeal.τ).loc Cert.InBackIdeal.main_arg8)) (m ((c.tc : Thread Cert.InBackIdeal.nD Cert.InBackIdeal.τ).loc Cert.InBackIdeal.main_arg9))).2.2.2.2.2.2.1 = (fun _ => 1#1)
    ∧ (Cert.Pre_in_finite.fn (F := Ideal) (m ((c.tc : Thread Cert.InBackIdeal.nD Cert.InBackIdeal.τ).loc Cert.InBackIdeal.main_arg0)) (m ((c.tc : Thread Cert.InBackIdeal.nD Cert.InBackIdeal.τ).loc Cert.InBackIdeal.main_arg1)) (m ((c.tc : Thread Cert.InBackIdeal.nD Cert.InBackIdeal.τ).loc Cert.InBackIdeal.main_arg2)) (m ((c.tc : Thread Cert.InBackIdeal.nD Cert.InBackIdeal.τ).loc Cert.InBackIdeal.main_arg3)) (m ((c.tc : Thread Cert.InBackIdeal.nD Cert.InBackIdeal.τ).loc Cert.InBackIdeal.main_arg4)) (m ((c.tc : Thread Cert.InBackIdeal.nD Cert.InBackIdeal.τ).loc Cert.InBackIdeal.main_arg5)) (m ((c.tc : Thread Cert.InBackIdeal.nD Cert.InBackIdeal.τ).loc Cert.InBackIdeal.main_arg6)) (m ((c.tc : Thread Cert.InBackIdeal.nD Cert.InBackIdeal.τ).loc Cert.InBackIdeal.main_arg7)) (m ((c.tc : Thread Cert.InBackIdeal.nD Cert.InBackIdeal.τ).loc Cert.InBackIdeal.main_arg8)) (m ((c.tc : Thread Cert.InBackIdeal.nD Cert.InBackIdeal.τ).loc Cert.InBackIdeal.main_arg9))).2.2.2.2.2.2.2.1 = (fun _ => 1#1)
    ∧ (Cert.Pre_in_finite.fn (F := Ideal) (m ((c.tc : Thread Cert.InBackIdeal.nD Cert.InBackIdeal.τ).loc Cert.InBackIdeal.main_arg0)) (m ((c.tc : Thread Cert.InBackIdeal.nD Cert.InBackIdeal.τ).loc Cert.InBackIdeal.main_arg1)) (m ((c.tc : Thread Cert.InBackIdeal.nD Cert.InBackIdeal.τ).loc Cert.InBackIdeal.main_arg2)) (m ((c.tc : Thread Cert.InBackIdeal.nD Cert.InBackIdeal.τ).loc Cert.InBackIdeal.main_arg3)) (m ((c.tc : Thread Cert.InBackIdeal.nD Cert.InBackIdeal.τ).loc Cert.InBackIdeal.main_arg4)) (m ((c.tc : Thread Cert.InBackIdeal.nD Cert.InBackIdeal.τ).loc Cert.InBackIdeal.main_arg5)) (m ((c.tc : Thread Cert.InBackIdeal.nD Cert.InBackIdeal.τ).loc Cert.InBackIdeal.main_arg6)) (m ((c.tc : Thread Cert.InBackIdeal.nD Cert.InBackIdeal.τ).loc Cert.InBackIdeal.main_arg7)) (m ((c.tc : Thread Cert.InBackIdeal.nD Cert.InBackIdeal.τ).loc Cert.InBackIdeal.main_arg8)) (m ((c.tc : Thread Cert.InBackIdeal.nD Cert.InBackIdeal.τ).loc Cert.InBackIdeal.main_arg9))).2.2.2.2.2.2.2.2 = (fun _ => 1#1)

def Pre_InBackRefIdeal (m : (ℓ : Loc Cert.InBackRefIdeal.nD Cert.InBackRefIdeal.τ Cert.InBackRefIdeal.sig) → Buf (Elt Ideal) ℓ) : Prop :=
  True

def Pre_InBackRefIdeal_in_finite [hPre_in_finite : Cert.Pre_in_finite.Facts] (m : (ℓ : Loc Cert.InBackRefIdeal.nD Cert.InBackRefIdeal.τ Cert.InBackRefIdeal.sig) → Buf (Elt Ideal) ℓ) : Prop :=
  ∀ c : Dev Cert.InBackRefIdeal.nD,
    (Cert.Pre_in_finite.fn (F := Ideal) (m ((c.tc : Thread Cert.InBackRefIdeal.nD Cert.InBackRefIdeal.τ).loc Cert.InBackRefIdeal.main_arg0)) (m ((c.tc : Thread Cert.InBackRefIdeal.nD Cert.InBackRefIdeal.τ).loc Cert.InBackRefIdeal.main_arg1)) (m ((c.tc : Thread Cert.InBackRefIdeal.nD Cert.InBackRefIdeal.τ).loc Cert.InBackRefIdeal.main_arg2)) (m ((c.tc : Thread Cert.InBackRefIdeal.nD Cert.InBackRefIdeal.τ).loc Cert.InBackRefIdeal.main_arg3)) (m ((c.tc : Thread Cert.InBackRefIdeal.nD Cert.InBackRefIdeal.τ).loc Cert.InBackRefIdeal.main_arg4)) (m ((c.tc : Thread Cert.InBackRefIdeal.nD Cert.InBackRefIdeal.τ).loc Cert.InBackRefIdeal.main_arg5)) (m ((c.tc : Thread Cert.InBackRefIdeal.nD Cert.InBackRefIdeal.τ).loc Cert.InBackRefIdeal.main_arg6)) (m ((c.tc : Thread Cert.InBackRefIdeal.nD Cert.InBackRefIdeal.τ).loc Cert.InBackRefIdeal.main_arg7)) (m ((c.tc : Thread Cert.InBackRefIdeal.nD Cert.InBackRefIdeal.τ).loc Cert.InBackRefIdeal.main_arg8)) (m ((c.tc : Thread Cert.InBackRefIdeal.nD Cert.InBackRefIdeal.τ).loc Cert.InBackRefIdeal.main_arg9))).1 = (fun _ => 1#1)
    ∧ (Cert.Pre_in_finite.fn (F := Ideal) (m ((c.tc : Thread Cert.InBackRefIdeal.nD Cert.InBackRefIdeal.τ).loc Cert.InBackRefIdeal.main_arg0)) (m ((c.tc : Thread Cert.InBackRefIdeal.nD Cert.InBackRefIdeal.τ).loc Cert.InBackRefIdeal.main_arg1)) (m ((c.tc : Thread Cert.InBackRefIdeal.nD Cert.InBackRefIdeal.τ).loc Cert.InBackRefIdeal.main_arg2)) (m ((c.tc : Thread Cert.InBackRefIdeal.nD Cert.InBackRefIdeal.τ).loc Cert.InBackRefIdeal.main_arg3)) (m ((c.tc : Thread Cert.InBackRefIdeal.nD Cert.InBackRefIdeal.τ).loc Cert.InBackRefIdeal.main_arg4)) (m ((c.tc : Thread Cert.InBackRefIdeal.nD Cert.InBackRefIdeal.τ).loc Cert.InBackRefIdeal.main_arg5)) (m ((c.tc : Thread Cert.InBackRefIdeal.nD Cert.InBackRefIdeal.τ).loc Cert.InBackRefIdeal.main_arg6)) (m ((c.tc : Thread Cert.InBackRefIdeal.nD Cert.InBackRefIdeal.τ).loc Cert.InBackRefIdeal.main_arg7)) (m ((c.tc : Thread Cert.InBackRefIdeal.nD Cert.InBackRefIdeal.τ).loc Cert.InBackRefIdeal.main_arg8)) (m ((c.tc : Thread Cert.InBackRefIdeal.nD Cert.InBackRefIdeal.τ).loc Cert.InBackRefIdeal.main_arg9))).2.1 = (fun _ => 1#1)
    ∧ (Cert.Pre_in_finite.fn (F := Ideal) (m ((c.tc : Thread Cert.InBackRefIdeal.nD Cert.InBackRefIdeal.τ).loc Cert.InBackRefIdeal.main_arg0)) (m ((c.tc : Thread Cert.InBackRefIdeal.nD Cert.InBackRefIdeal.τ).loc Cert.InBackRefIdeal.main_arg1)) (m ((c.tc : Thread Cert.InBackRefIdeal.nD Cert.InBackRefIdeal.τ).loc Cert.InBackRefIdeal.main_arg2)) (m ((c.tc : Thread Cert.InBackRefIdeal.nD Cert.InBackRefIdeal.τ).loc Cert.InBackRefIdeal.main_arg3)) (m ((c.tc : Thread Cert.InBackRefIdeal.nD Cert.InBackRefIdeal.τ).loc Cert.InBackRefIdeal.main_arg4)) (m ((c.tc : Thread Cert.InBackRefIdeal.nD Cert.InBackRefIdeal.τ).loc Cert.InBackRefIdeal.main_arg5)) (m ((c.tc : Thread Cert.InBackRefIdeal.nD Cert.InBackRefIdeal.τ).loc Cert.InBackRefIdeal.main_arg6)) (m ((c.tc : Thread Cert.InBackRefIdeal.nD Cert.InBackRefIdeal.τ).loc Cert.InBackRefIdeal.main_arg7)) (m ((c.tc : Thread Cert.InBackRefIdeal.nD Cert.InBackRefIdeal.τ).loc Cert.InBackRefIdeal.main_arg8)) (m ((c.tc : Thread Cert.InBackRefIdeal.nD Cert.InBackRefIdeal.τ).loc Cert.InBackRefIdeal.main_arg9))).2.2.1 = (fun _ => 1#1)
    ∧ (Cert.Pre_in_finite.fn (F := Ideal) (m ((c.tc : Thread Cert.InBackRefIdeal.nD Cert.InBackRefIdeal.τ).loc Cert.InBackRefIdeal.main_arg0)) (m ((c.tc : Thread Cert.InBackRefIdeal.nD Cert.InBackRefIdeal.τ).loc Cert.InBackRefIdeal.main_arg1)) (m ((c.tc : Thread Cert.InBackRefIdeal.nD Cert.InBackRefIdeal.τ).loc Cert.InBackRefIdeal.main_arg2)) (m ((c.tc : Thread Cert.InBackRefIdeal.nD Cert.InBackRefIdeal.τ).loc Cert.InBackRefIdeal.main_arg3)) (m ((c.tc : Thread Cert.InBackRefIdeal.nD Cert.InBackRefIdeal.τ).loc Cert.InBackRefIdeal.main_arg4)) (m ((c.tc : Thread Cert.InBackRefIdeal.nD Cert.InBackRefIdeal.τ).loc Cert.InBackRefIdeal.main_arg5)) (m ((c.tc : Thread Cert.InBackRefIdeal.nD Cert.InBackRefIdeal.τ).loc Cert.InBackRefIdeal.main_arg6)) (m ((c.tc : Thread Cert.InBackRefIdeal.nD Cert.InBackRefIdeal.τ).loc Cert.InBackRefIdeal.main_arg7)) (m ((c.tc : Thread Cert.InBackRefIdeal.nD Cert.InBackRefIdeal.τ).loc Cert.InBackRefIdeal.main_arg8)) (m ((c.tc : Thread Cert.InBackRefIdeal.nD Cert.InBackRefIdeal.τ).loc Cert.InBackRefIdeal.main_arg9))).2.2.2.1 = (fun _ => 1#1)
    ∧ (Cert.Pre_in_finite.fn (F := Ideal) (m ((c.tc : Thread Cert.InBackRefIdeal.nD Cert.InBackRefIdeal.τ).loc Cert.InBackRefIdeal.main_arg0)) (m ((c.tc : Thread Cert.InBackRefIdeal.nD Cert.InBackRefIdeal.τ).loc Cert.InBackRefIdeal.main_arg1)) (m ((c.tc : Thread Cert.InBackRefIdeal.nD Cert.InBackRefIdeal.τ).loc Cert.InBackRefIdeal.main_arg2)) (m ((c.tc : Thread Cert.InBackRefIdeal.nD Cert.InBackRefIdeal.τ).loc Cert.InBackRefIdeal.main_arg3)) (m ((c.tc : Thread Cert.InBackRefIdeal.nD Cert.InBackRefIdeal.τ).loc Cert.InBackRefIdeal.main_arg4)) (m ((c.tc : Thread Cert.InBackRefIdeal.nD Cert.InBackRefIdeal.τ).loc Cert.InBackRefIdeal.main_arg5)) (m ((c.tc : Thread Cert.InBackRefIdeal.nD Cert.InBackRefIdeal.τ).loc Cert.InBackRefIdeal.main_arg6)) (m ((c.tc : Thread Cert.InBackRefIdeal.nD Cert.InBackRefIdeal.τ).loc Cert.InBackRefIdeal.main_arg7)) (m ((c.tc : Thread Cert.InBackRefIdeal.nD Cert.InBackRefIdeal.τ).loc Cert.InBackRefIdeal.main_arg8)) (m ((c.tc : Thread Cert.InBackRefIdeal.nD Cert.InBackRefIdeal.τ).loc Cert.InBackRefIdeal.main_arg9))).2.2.2.2.1 = (fun _ => 1#1)
    ∧ (Cert.Pre_in_finite.fn (F := Ideal) (m ((c.tc : Thread Cert.InBackRefIdeal.nD Cert.InBackRefIdeal.τ).loc Cert.InBackRefIdeal.main_arg0)) (m ((c.tc : Thread Cert.InBackRefIdeal.nD Cert.InBackRefIdeal.τ).loc Cert.InBackRefIdeal.main_arg1)) (m ((c.tc : Thread Cert.InBackRefIdeal.nD Cert.InBackRefIdeal.τ).loc Cert.InBackRefIdeal.main_arg2)) (m ((c.tc : Thread Cert.InBackRefIdeal.nD Cert.InBackRefIdeal.τ).loc Cert.InBackRefIdeal.main_arg3)) (m ((c.tc : Thread Cert.InBackRefIdeal.nD Cert.InBackRefIdeal.τ).loc Cert.InBackRefIdeal.main_arg4)) (m ((c.tc : Thread Cert.InBackRefIdeal.nD Cert.InBackRefIdeal.τ).loc Cert.InBackRefIdeal.main_arg5)) (m ((c.tc : Thread Cert.InBackRefIdeal.nD Cert.InBackRefIdeal.τ).loc Cert.InBackRefIdeal.main_arg6)) (m ((c.tc : Thread Cert.InBackRefIdeal.nD Cert.InBackRefIdeal.τ).loc Cert.InBackRefIdeal.main_arg7)) (m ((c.tc : Thread Cert.InBackRefIdeal.nD Cert.InBackRefIdeal.τ).loc Cert.InBackRefIdeal.main_arg8)) (m ((c.tc : Thread Cert.InBackRefIdeal.nD Cert.InBackRefIdeal.τ).loc Cert.InBackRefIdeal.main_arg9))).2.2.2.2.2.1 = (fun _ => 1#1)
    ∧ (Cert.Pre_in_finite.fn (F := Ideal) (m ((c.tc : Thread Cert.InBackRefIdeal.nD Cert.InBackRefIdeal.τ).loc Cert.InBackRefIdeal.main_arg0)) (m ((c.tc : Thread Cert.InBackRefIdeal.nD Cert.InBackRefIdeal.τ).loc Cert.InBackRefIdeal.main_arg1)) (m ((c.tc : Thread Cert.InBackRefIdeal.nD Cert.InBackRefIdeal.τ).loc Cert.InBackRefIdeal.main_arg2)) (m ((c.tc : Thread Cert.InBackRefIdeal.nD Cert.InBackRefIdeal.τ).loc Cert.InBackRefIdeal.main_arg3)) (m ((c.tc : Thread Cert.InBackRefIdeal.nD Cert.InBackRefIdeal.τ).loc Cert.InBackRefIdeal.main_arg4)) (m ((c.tc : Thread Cert.InBackRefIdeal.nD Cert.InBackRefIdeal.τ).loc Cert.InBackRefIdeal.main_arg5)) (m ((c.tc : Thread Cert.InBackRefIdeal.nD Cert.InBackRefIdeal.τ).loc Cert.InBackRefIdeal.main_arg6)) (m ((c.tc : Thread Cert.InBackRefIdeal.nD Cert.InBackRefIdeal.τ).loc Cert.InBackRefIdeal.main_arg7)) (m ((c.tc : Thread Cert.InBackRefIdeal.nD Cert.InBackRefIdeal.τ).loc Cert.InBackRefIdeal.main_arg8)) (m ((c.tc : Thread Cert.InBackRefIdeal.nD Cert.InBackRefIdeal.τ).loc Cert.InBackRefIdeal.main_arg9))).2.2.2.2.2.2.1 = (fun _ => 1#1)
    ∧ (Cert.Pre_in_finite.fn (F := Ideal) (m ((c.tc : Thread Cert.InBackRefIdeal.nD Cert.InBackRefIdeal.τ).loc Cert.InBackRefIdeal.main_arg0)) (m ((c.tc : Thread Cert.InBackRefIdeal.nD Cert.InBackRefIdeal.τ).loc Cert.InBackRefIdeal.main_arg1)) (m ((c.tc : Thread Cert.InBackRefIdeal.nD Cert.InBackRefIdeal.τ).loc Cert.InBackRefIdeal.main_arg2)) (m ((c.tc : Thread Cert.InBackRefIdeal.nD Cert.InBackRefIdeal.τ).loc Cert.InBackRefIdeal.main_arg3)) (m ((c.tc : Thread Cert.InBackRefIdeal.nD Cert.InBackRefIdeal.τ).loc Cert.InBackRefIdeal.main_arg4)) (m ((c.tc : Thread Cert.InBackRefIdeal.nD Cert.InBackRefIdeal.τ).loc Cert.InBackRefIdeal.main_arg5)) (m ((c.tc : Thread Cert.InBackRefIdeal.nD Cert.InBackRefIdeal.τ).loc Cert.InBackRefIdeal.main_arg6)) (m ((c.tc : Thread Cert.InBackRefIdeal.nD Cert.InBackRefIdeal.τ).loc Cert.InBackRefIdeal.main_arg7)) (m ((c.tc : Thread Cert.InBackRefIdeal.nD Cert.InBackRefIdeal.τ).loc Cert.InBackRefIdeal.main_arg8)) (m ((c.tc : Thread Cert.InBackRefIdeal.nD Cert.InBackRefIdeal.τ).loc Cert.InBackRefIdeal.main_arg9))).2.2.2.2.2.2.2.1 = (fun _ => 1#1)
    ∧ (Cert.Pre_in_finite.fn (F := Ideal) (m ((c.tc : Thread Cert.InBackRefIdeal.nD Cert.InBackRefIdeal.τ).loc Cert.InBackRefIdeal.main_arg0)) (m ((c.tc : Thread Cert.InBackRefIdeal.nD Cert.InBackRefIdeal.τ).loc Cert.InBackRefIdeal.main_arg1)) (m ((c.tc : Thread Cert.InBackRefIdeal.nD Cert.InBackRefIdeal.τ).loc Cert.InBackRefIdeal.main_arg2)) (m ((c.tc : Thread Cert.InBackRefIdeal.nD Cert.InBackRefIdeal.τ).loc Cert.InBackRefIdeal.main_arg3)) (m ((c.tc : Thread Cert.InBackRefIdeal.nD Cert.InBackRefIdeal.τ).loc Cert.InBackRefIdeal.main_arg4)) (m ((c.tc : Thread Cert.InBackRefIdeal.nD Cert.InBackRefIdeal.τ).loc Cert.InBackRefIdeal.main_arg5)) (m ((c.tc : Thread Cert.InBackRefIdeal.nD Cert.InBackRefIdeal.τ).loc Cert.InBackRefIdeal.main_arg6)) (m ((c.tc : Thread Cert.InBackRefIdeal.nD Cert.InBackRefIdeal.τ).loc Cert.InBackRefIdeal.main_arg7)) (m ((c.tc : Thread Cert.InBackRefIdeal.nD Cert.InBackRefIdeal.τ).loc Cert.InBackRefIdeal.main_arg8)) (m ((c.tc : Thread Cert.InBackRefIdeal.nD Cert.InBackRefIdeal.τ).loc Cert.InBackRefIdeal.main_arg9))).2.2.2.2.2.2.2.2 = (fun _ => 1#1)

def Pre_DownLoss (m : (ℓ : Loc Cert.DownLoss.nD Cert.DownLoss.τ Cert.DownLoss.sig) → Buf (Elt Bits) ℓ) : Prop :=
  True

def Pre_DownLossIdeal (m : (ℓ : Loc Cert.DownLossIdeal.nD Cert.DownLossIdeal.τ Cert.DownLossIdeal.sig) → Buf (Elt Ideal) ℓ) : Prop :=
  True

def Pre_DownLossIdeal_down_finite [hPre_down_finite : Cert.Pre_down_finite.Facts] (m : (ℓ : Loc Cert.DownLossIdeal.nD Cert.DownLossIdeal.τ Cert.DownLossIdeal.sig) → Buf (Elt Ideal) ℓ) : Prop :=
  ∀ c : Dev Cert.DownLossIdeal.nD,
    (Cert.Pre_down_finite.fn (F := Ideal) (m ((c.tc : Thread Cert.DownLossIdeal.nD Cert.DownLossIdeal.τ).loc Cert.DownLossIdeal.main_arg0)) (m ((c.tc : Thread Cert.DownLossIdeal.nD Cert.DownLossIdeal.τ).loc Cert.DownLossIdeal.main_arg1)) (m ((c.tc : Thread Cert.DownLossIdeal.nD Cert.DownLossIdeal.τ).loc Cert.DownLossIdeal.main_arg2)) (m ((c.tc : Thread Cert.DownLossIdeal.nD Cert.DownLossIdeal.τ).loc Cert.DownLossIdeal.main_arg3)) (m ((c.tc : Thread Cert.DownLossIdeal.nD Cert.DownLossIdeal.τ).loc Cert.DownLossIdeal.main_arg4))).1 = (fun _ => 1#1)
    ∧ (Cert.Pre_down_finite.fn (F := Ideal) (m ((c.tc : Thread Cert.DownLossIdeal.nD Cert.DownLossIdeal.τ).loc Cert.DownLossIdeal.main_arg0)) (m ((c.tc : Thread Cert.DownLossIdeal.nD Cert.DownLossIdeal.τ).loc Cert.DownLossIdeal.main_arg1)) (m ((c.tc : Thread Cert.DownLossIdeal.nD Cert.DownLossIdeal.τ).loc Cert.DownLossIdeal.main_arg2)) (m ((c.tc : Thread Cert.DownLossIdeal.nD Cert.DownLossIdeal.τ).loc Cert.DownLossIdeal.main_arg3)) (m ((c.tc : Thread Cert.DownLossIdeal.nD Cert.DownLossIdeal.τ).loc Cert.DownLossIdeal.main_arg4))).2.1 = (fun _ => 1#1)
    ∧ (Cert.Pre_down_finite.fn (F := Ideal) (m ((c.tc : Thread Cert.DownLossIdeal.nD Cert.DownLossIdeal.τ).loc Cert.DownLossIdeal.main_arg0)) (m ((c.tc : Thread Cert.DownLossIdeal.nD Cert.DownLossIdeal.τ).loc Cert.DownLossIdeal.main_arg1)) (m ((c.tc : Thread Cert.DownLossIdeal.nD Cert.DownLossIdeal.τ).loc Cert.DownLossIdeal.main_arg2)) (m ((c.tc : Thread Cert.DownLossIdeal.nD Cert.DownLossIdeal.τ).loc Cert.DownLossIdeal.main_arg3)) (m ((c.tc : Thread Cert.DownLossIdeal.nD Cert.DownLossIdeal.τ).loc Cert.DownLossIdeal.main_arg4))).2.2.1 = (fun _ => 1#1)
    ∧ (Cert.Pre_down_finite.fn (F := Ideal) (m ((c.tc : Thread Cert.DownLossIdeal.nD Cert.DownLossIdeal.τ).loc Cert.DownLossIdeal.main_arg0)) (m ((c.tc : Thread Cert.DownLossIdeal.nD Cert.DownLossIdeal.τ).loc Cert.DownLossIdeal.main_arg1)) (m ((c.tc : Thread Cert.DownLossIdeal.nD Cert.DownLossIdeal.τ).loc Cert.DownLossIdeal.main_arg2)) (m ((c.tc : Thread Cert.DownLossIdeal.nD Cert.DownLossIdeal.τ).loc Cert.DownLossIdeal.main_arg3)) (m ((c.tc : Thread Cert.DownLossIdeal.nD Cert.DownLossIdeal.τ).loc Cert.DownLossIdeal.main_arg4))).2.2.2.1 = (fun _ => 1#1)
    ∧ (Cert.Pre_down_finite.fn (F := Ideal) (m ((c.tc : Thread Cert.DownLossIdeal.nD Cert.DownLossIdeal.τ).loc Cert.DownLossIdeal.main_arg0)) (m ((c.tc : Thread Cert.DownLossIdeal.nD Cert.DownLossIdeal.τ).loc Cert.DownLossIdeal.main_arg1)) (m ((c.tc : Thread Cert.DownLossIdeal.nD Cert.DownLossIdeal.τ).loc Cert.DownLossIdeal.main_arg2)) (m ((c.tc : Thread Cert.DownLossIdeal.nD Cert.DownLossIdeal.τ).loc Cert.DownLossIdeal.main_arg3)) (m ((c.tc : Thread Cert.DownLossIdeal.nD Cert.DownLossIdeal.τ).loc Cert.DownLossIdeal.main_arg4))).2.2.2.2 = (fun _ => 1#1)

def Pre_DownLossRefIdeal (m : (ℓ : Loc Cert.DownLossRefIdeal.nD Cert.DownLossRefIdeal.τ Cert.DownLossRefIdeal.sig) → Buf (Elt Ideal) ℓ) : Prop :=
  True

def Pre_DownLossRefIdeal_down_finite [hPre_down_finite : Cert.Pre_down_finite.Facts] (m : (ℓ : Loc Cert.DownLossRefIdeal.nD Cert.DownLossRefIdeal.τ Cert.DownLossRefIdeal.sig) → Buf (Elt Ideal) ℓ) : Prop :=
  ∀ c : Dev Cert.DownLossRefIdeal.nD,
    (Cert.Pre_down_finite.fn (F := Ideal) (m ((c.tc : Thread Cert.DownLossRefIdeal.nD Cert.DownLossRefIdeal.τ).loc Cert.DownLossRefIdeal.main_arg0)) (m ((c.tc : Thread Cert.DownLossRefIdeal.nD Cert.DownLossRefIdeal.τ).loc Cert.DownLossRefIdeal.main_arg1)) (m ((c.tc : Thread Cert.DownLossRefIdeal.nD Cert.DownLossRefIdeal.τ).loc Cert.DownLossRefIdeal.main_arg2)) (m ((c.tc : Thread Cert.DownLossRefIdeal.nD Cert.DownLossRefIdeal.τ).loc Cert.DownLossRefIdeal.main_arg3)) (m ((c.tc : Thread Cert.DownLossRefIdeal.nD Cert.DownLossRefIdeal.τ).loc Cert.DownLossRefIdeal.main_arg4))).1 = (fun _ => 1#1)
    ∧ (Cert.Pre_down_finite.fn (F := Ideal) (m ((c.tc : Thread Cert.DownLossRefIdeal.nD Cert.DownLossRefIdeal.τ).loc Cert.DownLossRefIdeal.main_arg0)) (m ((c.tc : Thread Cert.DownLossRefIdeal.nD Cert.DownLossRefIdeal.τ).loc Cert.DownLossRefIdeal.main_arg1)) (m ((c.tc : Thread Cert.DownLossRefIdeal.nD Cert.DownLossRefIdeal.τ).loc Cert.DownLossRefIdeal.main_arg2)) (m ((c.tc : Thread Cert.DownLossRefIdeal.nD Cert.DownLossRefIdeal.τ).loc Cert.DownLossRefIdeal.main_arg3)) (m ((c.tc : Thread Cert.DownLossRefIdeal.nD Cert.DownLossRefIdeal.τ).loc Cert.DownLossRefIdeal.main_arg4))).2.1 = (fun _ => 1#1)
    ∧ (Cert.Pre_down_finite.fn (F := Ideal) (m ((c.tc : Thread Cert.DownLossRefIdeal.nD Cert.DownLossRefIdeal.τ).loc Cert.DownLossRefIdeal.main_arg0)) (m ((c.tc : Thread Cert.DownLossRefIdeal.nD Cert.DownLossRefIdeal.τ).loc Cert.DownLossRefIdeal.main_arg1)) (m ((c.tc : Thread Cert.DownLossRefIdeal.nD Cert.DownLossRefIdeal.τ).loc Cert.DownLossRefIdeal.main_arg2)) (m ((c.tc : Thread Cert.DownLossRefIdeal.nD Cert.DownLossRefIdeal.τ).loc Cert.DownLossRefIdeal.main_arg3)) (m ((c.tc : Thread Cert.DownLossRefIdeal.nD Cert.DownLossRefIdeal.τ).loc Cert.DownLossRefIdeal.main_arg4))).2.2.1 = (fun _ => 1#1)
    ∧ (Cert.Pre_down_finite.fn (F := Ideal) (m ((c.tc : Thread Cert.DownLossRefIdeal.nD Cert.DownLossRefIdeal.τ).loc Cert.DownLossRefIdeal.main_arg0)) (m ((c.tc : Thread Cert.DownLossRefIdeal.nD Cert.DownLossRefIdeal.τ).loc Cert.DownLossRefIdeal.main_arg1)) (m ((c.tc : Thread Cert.DownLossRefIdeal.nD Cert.DownLossRefIdeal.τ).loc Cert.DownLossRefIdeal.main_arg2)) (m ((c.tc : Thread Cert.DownLossRefIdeal.nD Cert.DownLossRefIdeal.τ).loc Cert.DownLossRefIdeal.main_arg3)) (m ((c.tc : Thread Cert.DownLossRefIdeal.nD Cert.DownLossRefIdeal.τ).loc Cert.DownLossRefIdeal.main_arg4))).2.2.2.1 = (fun _ => 1#1)
    ∧ (Cert.Pre_down_finite.fn (F := Ideal) (m ((c.tc : Thread Cert.DownLossRefIdeal.nD Cert.DownLossRefIdeal.τ).loc Cert.DownLossRefIdeal.main_arg0)) (m ((c.tc : Thread Cert.DownLossRefIdeal.nD Cert.DownLossRefIdeal.τ).loc Cert.DownLossRefIdeal.main_arg1)) (m ((c.tc : Thread Cert.DownLossRefIdeal.nD Cert.DownLossRefIdeal.τ).loc Cert.DownLossRefIdeal.main_arg2)) (m ((c.tc : Thread Cert.DownLossRefIdeal.nD Cert.DownLossRefIdeal.τ).loc Cert.DownLossRefIdeal.main_arg3)) (m ((c.tc : Thread Cert.DownLossRefIdeal.nD Cert.DownLossRefIdeal.τ).loc Cert.DownLossRefIdeal.main_arg4))).2.2.2.2 = (fun _ => 1#1)

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_MixBack (m : (ℓ : Loc Cert.MixBack.nD Cert.MixBack.τ Cert.MixBack.sig) → Buf (Elt Bits) ℓ) : Prop :=
  True

def Pre_MixBackIdeal (m : (ℓ : Loc Cert.MixBackIdeal.nD Cert.MixBackIdeal.τ Cert.MixBackIdeal.sig) → Buf (Elt Ideal) ℓ) : Prop :=
  True

def Pre_MixBackIdeal_mix_finite [hPre_mix_finite : Cert.Pre_mix_finite.Facts] (m : (ℓ : Loc Cert.MixBackIdeal.nD Cert.MixBackIdeal.τ Cert.MixBackIdeal.sig) → Buf (Elt Ideal) ℓ) : Prop :=
  ∀ c : Dev Cert.MixBackIdeal.nD,
    (Cert.Pre_mix_finite.fn (F := Ideal) (m ((c.tc : Thread Cert.MixBackIdeal.nD Cert.MixBackIdeal.τ).loc Cert.MixBackIdeal.main_arg0)) (m ((c.tc : Thread Cert.MixBackIdeal.nD Cert.MixBackIdeal.τ).loc Cert.MixBackIdeal.main_arg1)) (m ((c.tc : Thread Cert.MixBackIdeal.nD Cert.MixBackIdeal.τ).loc Cert.MixBackIdeal.main_arg2)) (m ((c.tc : Thread Cert.MixBackIdeal.nD Cert.MixBackIdeal.τ).loc Cert.MixBackIdeal.main_arg3)) (m ((c.tc : Thread Cert.MixBackIdeal.nD Cert.MixBackIdeal.τ).loc Cert.MixBackIdeal.main_arg4))).1 = (fun _ => 1#1)
    ∧ (Cert.Pre_mix_finite.fn (F := Ideal) (m ((c.tc : Thread Cert.MixBackIdeal.nD Cert.MixBackIdeal.τ).loc Cert.MixBackIdeal.main_arg0)) (m ((c.tc : Thread Cert.MixBackIdeal.nD Cert.MixBackIdeal.τ).loc Cert.MixBackIdeal.main_arg1)) (m ((c.tc : Thread Cert.MixBackIdeal.nD Cert.MixBackIdeal.τ).loc Cert.MixBackIdeal.main_arg2)) (m ((c.tc : Thread Cert.MixBackIdeal.nD Cert.MixBackIdeal.τ).loc Cert.MixBackIdeal.main_arg3)) (m ((c.tc : Thread Cert.MixBackIdeal.nD Cert.MixBackIdeal.τ).loc Cert.MixBackIdeal.main_arg4))).2.1 = (fun _ => 1#1)
    ∧ (Cert.Pre_mix_finite.fn (F := Ideal) (m ((c.tc : Thread Cert.MixBackIdeal.nD Cert.MixBackIdeal.τ).loc Cert.MixBackIdeal.main_arg0)) (m ((c.tc : Thread Cert.MixBackIdeal.nD Cert.MixBackIdeal.τ).loc Cert.MixBackIdeal.main_arg1)) (m ((c.tc : Thread Cert.MixBackIdeal.nD Cert.MixBackIdeal.τ).loc Cert.MixBackIdeal.main_arg2)) (m ((c.tc : Thread Cert.MixBackIdeal.nD Cert.MixBackIdeal.τ).loc Cert.MixBackIdeal.main_arg3)) (m ((c.tc : Thread Cert.MixBackIdeal.nD Cert.MixBackIdeal.τ).loc Cert.MixBackIdeal.main_arg4))).2.2.1 = (fun _ => 1#1)
    ∧ (Cert.Pre_mix_finite.fn (F := Ideal) (m ((c.tc : Thread Cert.MixBackIdeal.nD Cert.MixBackIdeal.τ).loc Cert.MixBackIdeal.main_arg0)) (m ((c.tc : Thread Cert.MixBackIdeal.nD Cert.MixBackIdeal.τ).loc Cert.MixBackIdeal.main_arg1)) (m ((c.tc : Thread Cert.MixBackIdeal.nD Cert.MixBackIdeal.τ).loc Cert.MixBackIdeal.main_arg2)) (m ((c.tc : Thread Cert.MixBackIdeal.nD Cert.MixBackIdeal.τ).loc Cert.MixBackIdeal.main_arg3)) (m ((c.tc : Thread Cert.MixBackIdeal.nD Cert.MixBackIdeal.τ).loc Cert.MixBackIdeal.main_arg4))).2.2.2 = (fun _ => 1#1)

def Pre_MixBackRefIdeal (m : (ℓ : Loc Cert.MixBackRefIdeal.nD Cert.MixBackRefIdeal.τ Cert.MixBackRefIdeal.sig) → Buf (Elt Ideal) ℓ) : Prop :=
  True

def Pre_MixBackRefIdeal_mix_finite [hPre_mix_finite : Cert.Pre_mix_finite.Facts] (m : (ℓ : Loc Cert.MixBackRefIdeal.nD Cert.MixBackRefIdeal.τ Cert.MixBackRefIdeal.sig) → Buf (Elt Ideal) ℓ) : Prop :=
  ∀ c : Dev Cert.MixBackRefIdeal.nD,
    (Cert.Pre_mix_finite.fn (F := Ideal) (m ((c.tc : Thread Cert.MixBackRefIdeal.nD Cert.MixBackRefIdeal.τ).loc Cert.MixBackRefIdeal.main_arg0)) (m ((c.tc : Thread Cert.MixBackRefIdeal.nD Cert.MixBackRefIdeal.τ).loc Cert.MixBackRefIdeal.main_arg1)) (m ((c.tc : Thread Cert.MixBackRefIdeal.nD Cert.MixBackRefIdeal.τ).loc Cert.MixBackRefIdeal.main_arg2)) (m ((c.tc : Thread Cert.MixBackRefIdeal.nD Cert.MixBackRefIdeal.τ).loc Cert.MixBackRefIdeal.main_arg3)) (m ((c.tc : Thread Cert.MixBackRefIdeal.nD Cert.MixBackRefIdeal.τ).loc Cert.MixBackRefIdeal.main_arg4))).1 = (fun _ => 1#1)
    ∧ (Cert.Pre_mix_finite.fn (F := Ideal) (m ((c.tc : Thread Cert.MixBackRefIdeal.nD Cert.MixBackRefIdeal.τ).loc Cert.MixBackRefIdeal.main_arg0)) (m ((c.tc : Thread Cert.MixBackRefIdeal.nD Cert.MixBackRefIdeal.τ).loc Cert.MixBackRefIdeal.main_arg1)) (m ((c.tc : Thread Cert.MixBackRefIdeal.nD Cert.MixBackRefIdeal.τ).loc Cert.MixBackRefIdeal.main_arg2)) (m ((c.tc : Thread Cert.MixBackRefIdeal.nD Cert.MixBackRefIdeal.τ).loc Cert.MixBackRefIdeal.main_arg3)) (m ((c.tc : Thread Cert.MixBackRefIdeal.nD Cert.MixBackRefIdeal.τ).loc Cert.MixBackRefIdeal.main_arg4))).2.1 = (fun _ => 1#1)
    ∧ (Cert.Pre_mix_finite.fn (F := Ideal) (m ((c.tc : Thread Cert.MixBackRefIdeal.nD Cert.MixBackRefIdeal.τ).loc Cert.MixBackRefIdeal.main_arg0)) (m ((c.tc : Thread Cert.MixBackRefIdeal.nD Cert.MixBackRefIdeal.τ).loc Cert.MixBackRefIdeal.main_arg1)) (m ((c.tc : Thread Cert.MixBackRefIdeal.nD Cert.MixBackRefIdeal.τ).loc Cert.MixBackRefIdeal.main_arg2)) (m ((c.tc : Thread Cert.MixBackRefIdeal.nD Cert.MixBackRefIdeal.τ).loc Cert.MixBackRefIdeal.main_arg3)) (m ((c.tc : Thread Cert.MixBackRefIdeal.nD Cert.MixBackRefIdeal.τ).loc Cert.MixBackRefIdeal.main_arg4))).2.2.1 = (fun _ => 1#1)
    ∧ (Cert.Pre_mix_finite.fn (F := Ideal) (m ((c.tc : Thread Cert.MixBackRefIdeal.nD Cert.MixBackRefIdeal.τ).loc Cert.MixBackRefIdeal.main_arg0)) (m ((c.tc : Thread Cert.MixBackRefIdeal.nD Cert.MixBackRefIdeal.τ).loc Cert.MixBackRefIdeal.main_arg1)) (m ((c.tc : Thread Cert.MixBackRefIdeal.nD Cert.MixBackRefIdeal.τ).loc Cert.MixBackRefIdeal.main_arg2)) (m ((c.tc : Thread Cert.MixBackRefIdeal.nD Cert.MixBackRefIdeal.τ).loc Cert.MixBackRefIdeal.main_arg3)) (m ((c.tc : Thread Cert.MixBackRefIdeal.nD Cert.MixBackRefIdeal.τ).loc Cert.MixBackRefIdeal.main_arg4))).2.2.2 = (fun _ => 1#1)

def Pre_OutGrad (m : (ℓ : Loc Cert.OutGrad.nD Cert.OutGrad.τ Cert.OutGrad.sig) → Buf (Elt Bits) ℓ) : Prop :=
  True

def Pre_OutGradIdeal (m : (ℓ : Loc Cert.OutGradIdeal.nD Cert.OutGradIdeal.τ Cert.OutGradIdeal.sig) → Buf (Elt Ideal) ℓ) : Prop :=
  True

def Pre_OutGradRefIdeal (m : (ℓ : Loc Cert.OutGradRefIdeal.nD Cert.OutGradRefIdeal.τ Cert.OutGradRefIdeal.sig) → Buf (Elt Ideal) ℓ) : Prop :=
  True

def Pre_AdamW (m : (ℓ : Loc Cert.AdamW.nD Cert.AdamW.τ Cert.AdamW.sig) → Buf (Elt Bits) ℓ) : Prop :=
  True

def Pre_AdamWIdeal (m : (ℓ : Loc Cert.AdamWIdeal.nD Cert.AdamWIdeal.τ Cert.AdamWIdeal.sig) → Buf (Elt Ideal) ℓ) : Prop :=
  True

def Pre_AdamWRefIdeal (m : (ℓ : Loc Cert.AdamWRefIdeal.nD Cert.AdamWRefIdeal.τ Cert.AdamWRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_att_finite [hPre_att_finite : Cert.Pre_att_finite.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_att_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))).1 = (fun _ => 1#1)
    ∧ (Cert.Pre_att_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))).2.1 = (fun _ => 1#1)
    ∧ (Cert.Pre_att_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))).2.2 = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_att_finite [hPre_att_finite : Cert.Pre_att_finite.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_att_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2))).1 = (fun _ => 1#1)
    ∧ (Cert.Pre_att_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2))).2.1 = (fun _ => 1#1)
    ∧ (Cert.Pre_att_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2))).2.2 = (fun _ => 1#1)

def Pre_SmallUpd (m : (ℓ : Loc Cert.SmallUpd.nD Cert.SmallUpd.τ Cert.SmallUpd.sig) → Buf (Elt Bits) ℓ) : Prop :=
  True

def Pre_SmallUpdIdeal (m : (ℓ : Loc Cert.SmallUpdIdeal.nD Cert.SmallUpdIdeal.τ Cert.SmallUpdIdeal.sig) → Buf (Elt Ideal) ℓ) : Prop :=
  True

def Pre_SmallUpdIdeal_small_finite [hPre_small_finite : Cert.Pre_small_finite.Facts] (m : (ℓ : Loc Cert.SmallUpdIdeal.nD Cert.SmallUpdIdeal.τ Cert.SmallUpdIdeal.sig) → Buf (Elt Ideal) ℓ) : Prop :=
  ∀ c : Dev Cert.SmallUpdIdeal.nD,
    (Cert.Pre_small_finite.fn (F := Ideal) (m ((c.tc : Thread Cert.SmallUpdIdeal.nD Cert.SmallUpdIdeal.τ).loc Cert.SmallUpdIdeal.main_arg0)) (m ((c.tc : Thread Cert.SmallUpdIdeal.nD Cert.SmallUpdIdeal.τ).loc Cert.SmallUpdIdeal.main_arg1)) (m ((c.tc : Thread Cert.SmallUpdIdeal.nD Cert.SmallUpdIdeal.τ).loc Cert.SmallUpdIdeal.main_arg2)) (m ((c.tc : Thread Cert.SmallUpdIdeal.nD Cert.SmallUpdIdeal.τ).loc Cert.SmallUpdIdeal.main_arg3)) (m ((c.tc : Thread Cert.SmallUpdIdeal.nD Cert.SmallUpdIdeal.τ).loc Cert.SmallUpdIdeal.main_arg4))).1 = (fun _ => 1#1)
    ∧ (Cert.Pre_small_finite.fn (F := Ideal) (m ((c.tc : Thread Cert.SmallUpdIdeal.nD Cert.SmallUpdIdeal.τ).loc Cert.SmallUpdIdeal.main_arg0)) (m ((c.tc : Thread Cert.SmallUpdIdeal.nD Cert.SmallUpdIdeal.τ).loc Cert.SmallUpdIdeal.main_arg1)) (m ((c.tc : Thread Cert.SmallUpdIdeal.nD Cert.SmallUpdIdeal.τ).loc Cert.SmallUpdIdeal.main_arg2)) (m ((c.tc : Thread Cert.SmallUpdIdeal.nD Cert.SmallUpdIdeal.τ).loc Cert.SmallUpdIdeal.main_arg3)) (m ((c.tc : Thread Cert.SmallUpdIdeal.nD Cert.SmallUpdIdeal.τ).loc Cert.SmallUpdIdeal.main_arg4))).2 = (fun _ => 1#1)

def Pre_SmallUpdRefIdeal (m : (ℓ : Loc Cert.SmallUpdRefIdeal.nD Cert.SmallUpdRefIdeal.τ Cert.SmallUpdRefIdeal.sig) → Buf (Elt Ideal) ℓ) : Prop :=
  True

def Pre_SmallUpdRefIdeal_small_finite [hPre_small_finite : Cert.Pre_small_finite.Facts] (m : (ℓ : Loc Cert.SmallUpdRefIdeal.nD Cert.SmallUpdRefIdeal.τ Cert.SmallUpdRefIdeal.sig) → Buf (Elt Ideal) ℓ) : Prop :=
  ∀ c : Dev Cert.SmallUpdRefIdeal.nD,
    (Cert.Pre_small_finite.fn (F := Ideal) (m ((c.tc : Thread Cert.SmallUpdRefIdeal.nD Cert.SmallUpdRefIdeal.τ).loc Cert.SmallUpdRefIdeal.main_arg0)) (m ((c.tc : Thread Cert.SmallUpdRefIdeal.nD Cert.SmallUpdRefIdeal.τ).loc Cert.SmallUpdRefIdeal.main_arg1)) (m ((c.tc : Thread Cert.SmallUpdRefIdeal.nD Cert.SmallUpdRefIdeal.τ).loc Cert.SmallUpdRefIdeal.main_arg2)) (m ((c.tc : Thread Cert.SmallUpdRefIdeal.nD Cert.SmallUpdRefIdeal.τ).loc Cert.SmallUpdRefIdeal.main_arg3)) (m ((c.tc : Thread Cert.SmallUpdRefIdeal.nD Cert.SmallUpdRefIdeal.τ).loc Cert.SmallUpdRefIdeal.main_arg4))).1 = (fun _ => 1#1)
    ∧ (Cert.Pre_small_finite.fn (F := Ideal) (m ((c.tc : Thread Cert.SmallUpdRefIdeal.nD Cert.SmallUpdRefIdeal.τ).loc Cert.SmallUpdRefIdeal.main_arg0)) (m ((c.tc : Thread Cert.SmallUpdRefIdeal.nD Cert.SmallUpdRefIdeal.τ).loc Cert.SmallUpdRefIdeal.main_arg1)) (m ((c.tc : Thread Cert.SmallUpdRefIdeal.nD Cert.SmallUpdRefIdeal.τ).loc Cert.SmallUpdRefIdeal.main_arg2)) (m ((c.tc : Thread Cert.SmallUpdRefIdeal.nD Cert.SmallUpdRefIdeal.τ).loc Cert.SmallUpdRefIdeal.main_arg3)) (m ((c.tc : Thread Cert.SmallUpdRefIdeal.nD Cert.SmallUpdRefIdeal.τ).loc Cert.SmallUpdRefIdeal.main_arg4))).2 = (fun _ => 1#1)

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnIdeal_pre_finite [hFfnIdeal : Cert.FfnIdeal.Facts] [hPre_finite : Cert.Pre_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnRefIdeal_pre_finite [hFfnRefIdeal : Cert.FfnRefIdeal.Facts] [hPre_finite : Cert.Pre_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Wgrad [hWgrad : Cert.Wgrad.Facts] : Prop :=
  ∀ (m : (ℓ : Loc Cert.Wgrad.nD Cert.Wgrad.τ Cert.Wgrad.sig) → Buf (Elt Bits) ℓ) (g : Dev Cert.Wgrad.nD → PrngReg), Pre_Wgrad m →
    θ_run (Cert.Wgrad.defs (F := Bits)) (onTc (τ := Cert.Wgrad.τ) (Cert.Wgrad.main (F := Bits))) ⟨m, fun _ => 0, g⟩ (fun r => (∀ c : Dev Cert.Wgrad.nD,
      r.2.mem ((c.tc : Thread Cert.Wgrad.nD Cert.Wgrad.τ).loc Cert.Wgrad.main_arg0) = m ((c.tc : Thread Cert.Wgrad.nD Cert.Wgrad.τ).loc Cert.Wgrad.main_arg0)
      ∧ r.2.mem ((c.tc : Thread Cert.Wgrad.nD Cert.Wgrad.τ).loc Cert.Wgrad.main_arg1) = m ((c.tc : Thread Cert.Wgrad.nD Cert.Wgrad.τ).loc Cert.Wgrad.main_arg1))
      ∧ r.2.sem = fun _ => 0)

def quiescent_WgradIdeal [hWgradIdeal : Cert.WgradIdeal.Facts] : Prop :=
  ∀ (m : (ℓ : Loc Cert.WgradIdeal.nD Cert.WgradIdeal.τ Cert.WgradIdeal.sig) → Buf (Elt Ideal) ℓ) (g : Dev Cert.WgradIdeal.nD → PrngReg), Pre_WgradIdeal m →
    θ_run (Cert.WgradIdeal.defs (F := Ideal)) (onTc (τ := Cert.WgradIdeal.τ) (Cert.WgradIdeal.main (F := Ideal))) ⟨m, fun _ => 0, g⟩ (fun r => (∀ c : Dev Cert.WgradIdeal.nD,
      r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
      ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1))
      ∧ r.2.sem = fun _ => 0)

def quiescent_WgradRefIdeal [hWgradRefIdeal : Cert.WgradRefIdeal.Facts] : Prop :=
  ∀ (m : (ℓ : Loc Cert.WgradRefIdeal.nD Cert.WgradRefIdeal.τ Cert.WgradRefIdeal.sig) → Buf (Elt Ideal) ℓ) (g : Dev Cert.WgradRefIdeal.nD → PrngReg), Pre_WgradRefIdeal m →
    θ_run (Cert.WgradRefIdeal.defs (F := Ideal)) (onTc (τ := Cert.WgradRefIdeal.τ) (Cert.WgradRefIdeal.main (F := Ideal))) ⟨m, fun _ => 0, g⟩ (fun r => (∀ c : Dev Cert.WgradRefIdeal.nD,
      r.2.mem ((c.tc : Thread Cert.WgradRefIdeal.nD Cert.WgradRefIdeal.τ).loc Cert.WgradRefIdeal.main_arg0) = m ((c.tc : Thread Cert.WgradRefIdeal.nD Cert.WgradRefIdeal.τ).loc Cert.WgradRefIdeal.main_arg0)
      ∧ r.2.mem ((c.tc : Thread Cert.WgradRefIdeal.nD Cert.WgradRefIdeal.τ).loc Cert.WgradRefIdeal.main_arg1) = m ((c.tc : Thread Cert.WgradRefIdeal.nD Cert.WgradRefIdeal.τ).loc Cert.WgradRefIdeal.main_arg1))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2)
      ∧ r.2.mem ((c.tc : Thread Cert.FfnIn.nD Cert.FfnIn.τ).loc Cert.FfnIn.main_arg3) = m ((c.tc : Thread Cert.FfnIn.nD Cert.FfnIn.τ).loc Cert.FfnIn.main_arg3)
      ∧ r.2.mem ((c.tc : Thread Cert.FfnIn.nD Cert.FfnIn.τ).loc Cert.FfnIn.main_arg4) = m ((c.tc : Thread Cert.FfnIn.nD Cert.FfnIn.τ).loc Cert.FfnIn.main_arg4))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4))
      ∧ r.2.sem = fun _ => 0)

def quiescent_NormBack [hNormBack : Cert.NormBack.Facts] : Prop :=
  ∀ (m : (ℓ : Loc Cert.NormBack.nD Cert.NormBack.τ Cert.NormBack.sig) → Buf (Elt Bits) ℓ) (g : Dev Cert.NormBack.nD → PrngReg), Pre_NormBack m →
    θ_run (Cert.NormBack.defs (F := Bits)) (onTc (τ := Cert.NormBack.τ) (Cert.NormBack.main (F := Bits))) ⟨m, fun _ => 0, g⟩ (fun r => (∀ c : Dev Cert.NormBack.nD,
      r.2.mem ((c.tc : Thread Cert.NormBack.nD Cert.NormBack.τ).loc Cert.NormBack.main_arg0) = m ((c.tc : Thread Cert.NormBack.nD Cert.NormBack.τ).loc Cert.NormBack.main_arg0)
      ∧ r.2.mem ((c.tc : Thread Cert.NormBack.nD Cert.NormBack.τ).loc Cert.NormBack.main_arg1) = m ((c.tc : Thread Cert.NormBack.nD Cert.NormBack.τ).loc Cert.NormBack.main_arg1)
      ∧ r.2.mem ((c.tc : Thread Cert.NormBack.nD Cert.NormBack.τ).loc Cert.NormBack.main_arg2) = m ((c.tc : Thread Cert.NormBack.nD Cert.NormBack.τ).loc Cert.NormBack.main_arg2)
      ∧ r.2.mem ((c.tc : Thread Cert.NormBack.nD Cert.NormBack.τ).loc Cert.NormBack.main_arg3) = m ((c.tc : Thread Cert.NormBack.nD Cert.NormBack.τ).loc Cert.NormBack.main_arg3)
      ∧ r.2.mem ((c.tc : Thread Cert.NormBack.nD Cert.NormBack.τ).loc Cert.NormBack.main_arg4) = m ((c.tc : Thread Cert.NormBack.nD Cert.NormBack.τ).loc Cert.NormBack.main_arg4)
      ∧ r.2.mem ((c.tc : Thread Cert.NormBack.nD Cert.NormBack.τ).loc Cert.NormBack.main_arg5) = m ((c.tc : Thread Cert.NormBack.nD Cert.NormBack.τ).loc Cert.NormBack.main_arg5)
      ∧ r.2.mem ((c.tc : Thread Cert.NormBack.nD Cert.NormBack.τ).loc Cert.NormBack.main_arg6) = m ((c.tc : Thread Cert.NormBack.nD Cert.NormBack.τ).loc Cert.NormBack.main_arg6))
      ∧ r.2.sem = fun _ => 0)

def quiescent_NormBackIdeal [hNormBackIdeal : Cert.NormBackIdeal.Facts] : Prop :=
  ∀ (m : (ℓ : Loc Cert.NormBackIdeal.nD Cert.NormBackIdeal.τ Cert.NormBackIdeal.sig) → Buf (Elt Ideal) ℓ) (g : Dev Cert.NormBackIdeal.nD → PrngReg), Pre_NormBackIdeal m →
    θ_run (Cert.NormBackIdeal.defs (F := Ideal)) (onTc (τ := Cert.NormBackIdeal.τ) (Cert.NormBackIdeal.main (F := Ideal))) ⟨m, fun _ => 0, g⟩ (fun r => (∀ c : Dev Cert.NormBackIdeal.nD,
      r.2.mem ((c.tc : Thread Cert.NormBackIdeal.nD Cert.NormBackIdeal.τ).loc Cert.NormBackIdeal.main_arg0) = m ((c.tc : Thread Cert.NormBackIdeal.nD Cert.NormBackIdeal.τ).loc Cert.NormBackIdeal.main_arg0)
      ∧ r.2.mem ((c.tc : Thread Cert.NormBackIdeal.nD Cert.NormBackIdeal.τ).loc Cert.NormBackIdeal.main_arg1) = m ((c.tc : Thread Cert.NormBackIdeal.nD Cert.NormBackIdeal.τ).loc Cert.NormBackIdeal.main_arg1)
      ∧ r.2.mem ((c.tc : Thread Cert.NormBackIdeal.nD Cert.NormBackIdeal.τ).loc Cert.NormBackIdeal.main_arg2) = m ((c.tc : Thread Cert.NormBackIdeal.nD Cert.NormBackIdeal.τ).loc Cert.NormBackIdeal.main_arg2)
      ∧ r.2.mem ((c.tc : Thread Cert.NormBackIdeal.nD Cert.NormBackIdeal.τ).loc Cert.NormBackIdeal.main_arg3) = m ((c.tc : Thread Cert.NormBackIdeal.nD Cert.NormBackIdeal.τ).loc Cert.NormBackIdeal.main_arg3)
      ∧ r.2.mem ((c.tc : Thread Cert.NormBackIdeal.nD Cert.NormBackIdeal.τ).loc Cert.NormBackIdeal.main_arg4) = m ((c.tc : Thread Cert.NormBackIdeal.nD Cert.NormBackIdeal.τ).loc Cert.NormBackIdeal.main_arg4)
      ∧ r.2.mem ((c.tc : Thread Cert.NormBackIdeal.nD Cert.NormBackIdeal.τ).loc Cert.NormBackIdeal.main_arg5) = m ((c.tc : Thread Cert.NormBackIdeal.nD Cert.NormBackIdeal.τ).loc Cert.NormBackIdeal.main_arg5)
      ∧ r.2.mem ((c.tc : Thread Cert.NormBackIdeal.nD Cert.NormBackIdeal.τ).loc Cert.NormBackIdeal.main_arg6) = m ((c.tc : Thread Cert.NormBackIdeal.nD Cert.NormBackIdeal.τ).loc Cert.NormBackIdeal.main_arg6))
      ∧ r.2.sem = fun _ => 0)

def quiescent_NormBackIdeal_pre_norm_finite [hNormBackIdeal : Cert.NormBackIdeal.Facts] [hPre_norm_finite : Cert.Pre_norm_finite.Facts] : Prop :=
  ∀ (m : (ℓ : Loc Cert.NormBackIdeal.nD Cert.NormBackIdeal.τ Cert.NormBackIdeal.sig) → Buf (Elt Ideal) ℓ) (g : Dev Cert.NormBackIdeal.nD → PrngReg), Pre_NormBackIdeal_norm_finite m →
    θ_run (Cert.NormBackIdeal.defs (F := Ideal)) (onTc (τ := Cert.NormBackIdeal.τ) (Cert.NormBackIdeal.main (F := Ideal))) ⟨m, fun _ => 0, g⟩ (fun r => (∀ c : Dev Cert.NormBackIdeal.nD,
      r.2.mem ((c.tc : Thread Cert.NormBackIdeal.nD Cert.NormBackIdeal.τ).loc Cert.NormBackIdeal.main_arg0) = m ((c.tc : Thread Cert.NormBackIdeal.nD Cert.NormBackIdeal.τ).loc Cert.NormBackIdeal.main_arg0)
      ∧ r.2.mem ((c.tc : Thread Cert.NormBackIdeal.nD Cert.NormBackIdeal.τ).loc Cert.NormBackIdeal.main_arg1) = m ((c.tc : Thread Cert.NormBackIdeal.nD Cert.NormBackIdeal.τ).loc Cert.NormBackIdeal.main_arg1)
      ∧ r.2.mem ((c.tc : Thread Cert.NormBackIdeal.nD Cert.NormBackIdeal.τ).loc Cert.NormBackIdeal.main_arg2) = m ((c.tc : Thread Cert.NormBackIdeal.nD Cert.NormBackIdeal.τ).loc Cert.NormBackIdeal.main_arg2)
      ∧ r.2.mem ((c.tc : Thread Cert.NormBackIdeal.nD Cert.NormBackIdeal.τ).loc Cert.NormBackIdeal.main_arg3) = m ((c.tc : Thread Cert.NormBackIdeal.nD Cert.NormBackIdeal.τ).loc Cert.NormBackIdeal.main_arg3)
      ∧ r.2.mem ((c.tc : Thread Cert.NormBackIdeal.nD Cert.NormBackIdeal.τ).loc Cert.NormBackIdeal.main_arg4) = m ((c.tc : Thread Cert.NormBackIdeal.nD Cert.NormBackIdeal.τ).loc Cert.NormBackIdeal.main_arg4)
      ∧ r.2.mem ((c.tc : Thread Cert.NormBackIdeal.nD Cert.NormBackIdeal.τ).loc Cert.NormBackIdeal.main_arg5) = m ((c.tc : Thread Cert.NormBackIdeal.nD Cert.NormBackIdeal.τ).loc Cert.NormBackIdeal.main_arg5)
      ∧ r.2.mem ((c.tc : Thread Cert.NormBackIdeal.nD Cert.NormBackIdeal.τ).loc Cert.NormBackIdeal.main_arg6) = m ((c.tc : Thread Cert.NormBackIdeal.nD Cert.NormBackIdeal.τ).loc Cert.NormBackIdeal.main_arg6))
      ∧ r.2.sem = fun _ => 0)

def quiescent_NormBackRefIdeal [hNormBackRefIdeal : Cert.NormBackRefIdeal.Facts] : Prop :=
  ∀ (m : (ℓ : Loc Cert.NormBackRefIdeal.nD Cert.NormBackRefIdeal.τ Cert.NormBackRefIdeal.sig) → Buf (Elt Ideal) ℓ) (g : Dev Cert.NormBackRefIdeal.nD → PrngReg), Pre_NormBackRefIdeal m →
    θ_run (Cert.NormBackRefIdeal.defs (F := Ideal)) (onTc (τ := Cert.NormBackRefIdeal.τ) (Cert.NormBackRefIdeal.main (F := Ideal))) ⟨m, fun _ => 0, g⟩ (fun r => (∀ c : Dev Cert.NormBackRefIdeal.nD,
      r.2.mem ((c.tc : Thread Cert.NormBackRefIdeal.nD Cert.NormBackRefIdeal.τ).loc Cert.NormBackRefIdeal.main_arg0) = m ((c.tc : Thread Cert.NormBackRefIdeal.nD Cert.NormBackRefIdeal.τ).loc Cert.NormBackRefIdeal.main_arg0)
      ∧ r.2.mem ((c.tc : Thread Cert.NormBackRefIdeal.nD Cert.NormBackRefIdeal.τ).loc Cert.NormBackRefIdeal.main_arg1) = m ((c.tc : Thread Cert.NormBackRefIdeal.nD Cert.NormBackRefIdeal.τ).loc Cert.NormBackRefIdeal.main_arg1)
      ∧ r.2.mem ((c.tc : Thread Cert.NormBackRefIdeal.nD Cert.NormBackRefIdeal.τ).loc Cert.NormBackRefIdeal.main_arg2) = m ((c.tc : Thread Cert.NormBackRefIdeal.nD Cert.NormBackRefIdeal.τ).loc Cert.NormBackRefIdeal.main_arg2)
      ∧ r.2.mem ((c.tc : Thread Cert.NormBackRefIdeal.nD Cert.NormBackRefIdeal.τ).loc Cert.NormBackRefIdeal.main_arg3) = m ((c.tc : Thread Cert.NormBackRefIdeal.nD Cert.NormBackRefIdeal.τ).loc Cert.NormBackRefIdeal.main_arg3)
      ∧ r.2.mem ((c.tc : Thread Cert.NormBackRefIdeal.nD Cert.NormBackRefIdeal.τ).loc Cert.NormBackRefIdeal.main_arg4) = m ((c.tc : Thread Cert.NormBackRefIdeal.nD Cert.NormBackRefIdeal.τ).loc Cert.NormBackRefIdeal.main_arg4)
      ∧ r.2.mem ((c.tc : Thread Cert.NormBackRefIdeal.nD Cert.NormBackRefIdeal.τ).loc Cert.NormBackRefIdeal.main_arg5) = m ((c.tc : Thread Cert.NormBackRefIdeal.nD Cert.NormBackRefIdeal.τ).loc Cert.NormBackRefIdeal.main_arg5)
      ∧ r.2.mem ((c.tc : Thread Cert.NormBackRefIdeal.nD Cert.NormBackRefIdeal.τ).loc Cert.NormBackRefIdeal.main_arg6) = m ((c.tc : Thread Cert.NormBackRefIdeal.nD Cert.NormBackRefIdeal.τ).loc Cert.NormBackRefIdeal.main_arg6))
      ∧ r.2.sem = fun _ => 0)

def quiescent_NormBackRefIdeal_pre_norm_finite [hNormBackRefIdeal : Cert.NormBackRefIdeal.Facts] [hPre_norm_finite : Cert.Pre_norm_finite.Facts] : Prop :=
  ∀ (m : (ℓ : Loc Cert.NormBackRefIdeal.nD Cert.NormBackRefIdeal.τ Cert.NormBackRefIdeal.sig) → Buf (Elt Ideal) ℓ) (g : Dev Cert.NormBackRefIdeal.nD → PrngReg), Pre_NormBackRefIdeal_norm_finite m →
    θ_run (Cert.NormBackRefIdeal.defs (F := Ideal)) (onTc (τ := Cert.NormBackRefIdeal.τ) (Cert.NormBackRefIdeal.main (F := Ideal))) ⟨m, fun _ => 0, g⟩ (fun r => (∀ c : Dev Cert.NormBackRefIdeal.nD,
      r.2.mem ((c.tc : Thread Cert.NormBackRefIdeal.nD Cert.NormBackRefIdeal.τ).loc Cert.NormBackRefIdeal.main_arg0) = m ((c.tc : Thread Cert.NormBackRefIdeal.nD Cert.NormBackRefIdeal.τ).loc Cert.NormBackRefIdeal.main_arg0)
      ∧ r.2.mem ((c.tc : Thread Cert.NormBackRefIdeal.nD Cert.NormBackRefIdeal.τ).loc Cert.NormBackRefIdeal.main_arg1) = m ((c.tc : Thread Cert.NormBackRefIdeal.nD Cert.NormBackRefIdeal.τ).loc Cert.NormBackRefIdeal.main_arg1)
      ∧ r.2.mem ((c.tc : Thread Cert.NormBackRefIdeal.nD Cert.NormBackRefIdeal.τ).loc Cert.NormBackRefIdeal.main_arg2) = m ((c.tc : Thread Cert.NormBackRefIdeal.nD Cert.NormBackRefIdeal.τ).loc Cert.NormBackRefIdeal.main_arg2)
      ∧ r.2.mem ((c.tc : Thread Cert.NormBackRefIdeal.nD Cert.NormBackRefIdeal.τ).loc Cert.NormBackRefIdeal.main_arg3) = m ((c.tc : Thread Cert.NormBackRefIdeal.nD Cert.NormBackRefIdeal.τ).loc Cert.NormBackRefIdeal.main_arg3)
      ∧ r.2.mem ((c.tc : Thread Cert.NormBackRefIdeal.nD Cert.NormBackRefIdeal.τ).loc Cert.NormBackRefIdeal.main_arg4) = m ((c.tc : Thread Cert.NormBackRefIdeal.nD Cert.NormBackRefIdeal.τ).loc Cert.NormBackRefIdeal.main_arg4)
      ∧ r.2.mem ((c.tc : Thread Cert.NormBackRefIdeal.nD Cert.NormBackRefIdeal.τ).loc Cert.NormBackRefIdeal.main_arg5) = m ((c.tc : Thread Cert.NormBackRefIdeal.nD Cert.NormBackRefIdeal.τ).loc Cert.NormBackRefIdeal.main_arg5)
      ∧ r.2.mem ((c.tc : Thread Cert.NormBackRefIdeal.nD Cert.NormBackRefIdeal.τ).loc Cert.NormBackRefIdeal.main_arg6) = m ((c.tc : Thread Cert.NormBackRefIdeal.nD Cert.NormBackRefIdeal.τ).loc Cert.NormBackRefIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_InGrad [hInGrad : Cert.InGrad.Facts] : Prop :=
  ∀ (m : (ℓ : Loc Cert.InGrad.nD Cert.InGrad.τ Cert.InGrad.sig) → Buf (Elt Bits) ℓ) (g : Dev Cert.InGrad.nD → PrngReg), Pre_InGrad m →
    θ_run (Cert.InGrad.defs (F := Bits)) (onTc (τ := Cert.InGrad.τ) (Cert.InGrad.main (F := Bits))) ⟨m, fun _ => 0, g⟩ (fun r => (∀ c : Dev Cert.InGrad.nD,
      r.2.mem ((c.tc : Thread Cert.InGrad.nD Cert.InGrad.τ).loc Cert.InGrad.main_arg0) = m ((c.tc : Thread Cert.InGrad.nD Cert.InGrad.τ).loc Cert.InGrad.main_arg0)
      ∧ r.2.mem ((c.tc : Thread Cert.InGrad.nD Cert.InGrad.τ).loc Cert.InGrad.main_arg1) = m ((c.tc : Thread Cert.InGrad.nD Cert.InGrad.τ).loc Cert.InGrad.main_arg1)
      ∧ r.2.mem ((c.tc : Thread Cert.InGrad.nD Cert.InGrad.τ).loc Cert.InGrad.main_arg2) = m ((c.tc : Thread Cert.InGrad.nD Cert.InGrad.τ).loc Cert.InGrad.main_arg2)
      ∧ r.2.mem ((c.tc : Thread Cert.InGrad.nD Cert.InGrad.τ).loc Cert.InGrad.main_arg3) = m ((c.tc : Thread Cert.InGrad.nD Cert.InGrad.τ).loc Cert.InGrad.main_arg3)
      ∧ r.2.mem ((c.tc : Thread Cert.InGrad.nD Cert.InGrad.τ).loc Cert.InGrad.main_arg4) = m ((c.tc : Thread Cert.InGrad.nD Cert.InGrad.τ).loc Cert.InGrad.main_arg4)
      ∧ r.2.mem ((c.tc : Thread Cert.InGrad.nD Cert.InGrad.τ).loc Cert.InGrad.main_arg5) = m ((c.tc : Thread Cert.InGrad.nD Cert.InGrad.τ).loc Cert.InGrad.main_arg5)
      ∧ r.2.mem ((c.tc : Thread Cert.InGrad.nD Cert.InGrad.τ).loc Cert.InGrad.main_arg6) = m ((c.tc : Thread Cert.InGrad.nD Cert.InGrad.τ).loc Cert.InGrad.main_arg6))
      ∧ r.2.sem = fun _ => 0)

def quiescent_InGradIdeal [hInGradIdeal : Cert.InGradIdeal.Facts] : Prop :=
  ∀ (m : (ℓ : Loc Cert.InGradIdeal.nD Cert.InGradIdeal.τ Cert.InGradIdeal.sig) → Buf (Elt Ideal) ℓ) (g : Dev Cert.InGradIdeal.nD → PrngReg), Pre_InGradIdeal m →
    θ_run (Cert.InGradIdeal.defs (F := Ideal)) (onTc (τ := Cert.InGradIdeal.τ) (Cert.InGradIdeal.main (F := Ideal))) ⟨m, fun _ => 0, g⟩ (fun r => (∀ c : Dev Cert.InGradIdeal.nD,
      r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
      ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1)
      ∧ r.2.mem ((c.tc : Thread Cert.InGradIdeal.nD Cert.InGradIdeal.τ).loc Cert.InGradIdeal.main_arg2) = m ((c.tc : Thread Cert.InGradIdeal.nD Cert.InGradIdeal.τ).loc Cert.InGradIdeal.main_arg2)
      ∧ r.2.mem ((c.tc : Thread Cert.InGradIdeal.nD Cert.InGradIdeal.τ).loc Cert.InGradIdeal.main_arg3) = m ((c.tc : Thread Cert.InGradIdeal.nD Cert.InGradIdeal.τ).loc Cert.InGradIdeal.main_arg3)
      ∧ r.2.mem ((c.tc : Thread Cert.InGradIdeal.nD Cert.InGradIdeal.τ).loc Cert.InGradIdeal.main_arg4) = m ((c.tc : Thread Cert.InGradIdeal.nD Cert.InGradIdeal.τ).loc Cert.InGradIdeal.main_arg4)
      ∧ r.2.mem ((c.tc : Thread Cert.InGradIdeal.nD Cert.InGradIdeal.τ).loc Cert.InGradIdeal.main_arg5) = m ((c.tc : Thread Cert.InGradIdeal.nD Cert.InGradIdeal.τ).loc Cert.InGradIdeal.main_arg5)
      ∧ r.2.mem ((c.tc : Thread Cert.InGradIdeal.nD Cert.InGradIdeal.τ).loc Cert.InGradIdeal.main_arg6) = m ((c.tc : Thread Cert.InGradIdeal.nD Cert.InGradIdeal.τ).loc Cert.InGradIdeal.main_arg6))
      ∧ r.2.sem = fun _ => 0)

def quiescent_InGradRefIdeal [hInGradRefIdeal : Cert.InGradRefIdeal.Facts] : Prop :=
  ∀ (m : (ℓ : Loc Cert.InGradRefIdeal.nD Cert.InGradRefIdeal.τ Cert.InGradRefIdeal.sig) → Buf (Elt Ideal) ℓ) (g : Dev Cert.InGradRefIdeal.nD → PrngReg), Pre_InGradRefIdeal m →
    θ_run (Cert.InGradRefIdeal.defs (F := Ideal)) (onTc (τ := Cert.InGradRefIdeal.τ) (Cert.InGradRefIdeal.main (F := Ideal))) ⟨m, fun _ => 0, g⟩ (fun r => (∀ c : Dev Cert.InGradRefIdeal.nD,
      r.2.mem ((c.tc : Thread Cert.InGradRefIdeal.nD Cert.InGradRefIdeal.τ).loc Cert.InGradRefIdeal.main_arg0) = m ((c.tc : Thread Cert.InGradRefIdeal.nD Cert.InGradRefIdeal.τ).loc Cert.InGradRefIdeal.main_arg0)
      ∧ r.2.mem ((c.tc : Thread Cert.InGradRefIdeal.nD Cert.InGradRefIdeal.τ).loc Cert.InGradRefIdeal.main_arg1) = m ((c.tc : Thread Cert.InGradRefIdeal.nD Cert.InGradRefIdeal.τ).loc Cert.InGradRefIdeal.main_arg1)
      ∧ r.2.mem ((c.tc : Thread Cert.InGradRefIdeal.nD Cert.InGradRefIdeal.τ).loc Cert.InGradRefIdeal.main_arg2) = m ((c.tc : Thread Cert.InGradRefIdeal.nD Cert.InGradRefIdeal.τ).loc Cert.InGradRefIdeal.main_arg2)
      ∧ r.2.mem ((c.tc : Thread Cert.InGradRefIdeal.nD Cert.InGradRefIdeal.τ).loc Cert.InGradRefIdeal.main_arg3) = m ((c.tc : Thread Cert.InGradRefIdeal.nD Cert.InGradRefIdeal.τ).loc Cert.InGradRefIdeal.main_arg3)
      ∧ r.2.mem ((c.tc : Thread Cert.InGradRefIdeal.nD Cert.InGradRefIdeal.τ).loc Cert.InGradRefIdeal.main_arg4) = m ((c.tc : Thread Cert.InGradRefIdeal.nD Cert.InGradRefIdeal.τ).loc Cert.InGradRefIdeal.main_arg4)
      ∧ r.2.mem ((c.tc : Thread Cert.InGradRefIdeal.nD Cert.InGradRefIdeal.τ).loc Cert.InGradRefIdeal.main_arg5) = m ((c.tc : Thread Cert.InGradRefIdeal.nD Cert.InGradRefIdeal.τ).loc Cert.InGradRefIdeal.main_arg5)
      ∧ r.2.mem ((c.tc : Thread Cert.InGradRefIdeal.nD Cert.InGradRefIdeal.τ).loc Cert.InGradRefIdeal.main_arg6) = m ((c.tc : Thread Cert.InGradRefIdeal.nD Cert.InGradRefIdeal.τ).loc Cert.InGradRefIdeal.main_arg6))
      ∧ r.2.sem = fun _ => 0)

def quiescent_InBack [hInBack : Cert.InBack.Facts] : Prop :=
  ∀ (m : (ℓ : Loc Cert.InBack.nD Cert.InBack.τ Cert.InBack.sig) → Buf (Elt Bits) ℓ) (g : Dev Cert.InBack.nD → PrngReg), Pre_InBack m →
    θ_run (Cert.InBack.defs (F := Bits)) (onTc (τ := Cert.InBack.τ) (Cert.InBack.main (F := Bits))) ⟨m, fun _ => 0, g⟩ (fun r => (∀ c : Dev Cert.InBack.nD,
      r.2.mem ((c.tc : Thread Cert.InBack.nD Cert.InBack.τ).loc Cert.InBack.main_arg0) = m ((c.tc : Thread Cert.InBack.nD Cert.InBack.τ).loc Cert.InBack.main_arg0)
      ∧ r.2.mem ((c.tc : Thread Cert.InBack.nD Cert.InBack.τ).loc Cert.InBack.main_arg1) = m ((c.tc : Thread Cert.InBack.nD Cert.InBack.τ).loc Cert.InBack.main_arg1)
      ∧ r.2.mem ((c.tc : Thread Cert.InBack.nD Cert.InBack.τ).loc Cert.InBack.main_arg2) = m ((c.tc : Thread Cert.InBack.nD Cert.InBack.τ).loc Cert.InBack.main_arg2)
      ∧ r.2.mem ((c.tc : Thread Cert.InBack.nD Cert.InBack.τ).loc Cert.InBack.main_arg3) = m ((c.tc : Thread Cert.InBack.nD Cert.InBack.τ).loc Cert.InBack.main_arg3)
      ∧ r.2.mem ((c.tc : Thread Cert.InBack.nD Cert.InBack.τ).loc Cert.InBack.main_arg4) = m ((c.tc : Thread Cert.InBack.nD Cert.InBack.τ).loc Cert.InBack.main_arg4)
      ∧ r.2.mem ((c.tc : Thread Cert.InBack.nD Cert.InBack.τ).loc Cert.InBack.main_arg5) = m ((c.tc : Thread Cert.InBack.nD Cert.InBack.τ).loc Cert.InBack.main_arg5)
      ∧ r.2.mem ((c.tc : Thread Cert.InBack.nD Cert.InBack.τ).loc Cert.InBack.main_arg6) = m ((c.tc : Thread Cert.InBack.nD Cert.InBack.τ).loc Cert.InBack.main_arg6)
      ∧ r.2.mem ((c.tc : Thread Cert.InBack.nD Cert.InBack.τ).loc Cert.InBack.main_arg7) = m ((c.tc : Thread Cert.InBack.nD Cert.InBack.τ).loc Cert.InBack.main_arg7)
      ∧ r.2.mem ((c.tc : Thread Cert.InBack.nD Cert.InBack.τ).loc Cert.InBack.main_arg8) = m ((c.tc : Thread Cert.InBack.nD Cert.InBack.τ).loc Cert.InBack.main_arg8)
      ∧ r.2.mem ((c.tc : Thread Cert.InBack.nD Cert.InBack.τ).loc Cert.InBack.main_arg9) = m ((c.tc : Thread Cert.InBack.nD Cert.InBack.τ).loc Cert.InBack.main_arg9))
      ∧ r.2.sem = fun _ => 0)

def quiescent_InBackIdeal [hInBackIdeal : Cert.InBackIdeal.Facts] : Prop :=
  ∀ (m : (ℓ : Loc Cert.InBackIdeal.nD Cert.InBackIdeal.τ Cert.InBackIdeal.sig) → Buf (Elt Ideal) ℓ) (g : Dev Cert.InBackIdeal.nD → PrngReg), Pre_InBackIdeal m →
    θ_run (Cert.InBackIdeal.defs (F := Ideal)) (onTc (τ := Cert.InBackIdeal.τ) (Cert.InBackIdeal.main (F := Ideal))) ⟨m, fun _ => 0, g⟩ (fun r => (∀ c : Dev Cert.InBackIdeal.nD,
      r.2.mem ((c.tc : Thread Cert.InBackIdeal.nD Cert.InBackIdeal.τ).loc Cert.InBackIdeal.main_arg0) = m ((c.tc : Thread Cert.InBackIdeal.nD Cert.InBackIdeal.τ).loc Cert.InBackIdeal.main_arg0)
      ∧ r.2.mem ((c.tc : Thread Cert.InBackIdeal.nD Cert.InBackIdeal.τ).loc Cert.InBackIdeal.main_arg1) = m ((c.tc : Thread Cert.InBackIdeal.nD Cert.InBackIdeal.τ).loc Cert.InBackIdeal.main_arg1)
      ∧ r.2.mem ((c.tc : Thread Cert.InBackIdeal.nD Cert.InBackIdeal.τ).loc Cert.InBackIdeal.main_arg2) = m ((c.tc : Thread Cert.InBackIdeal.nD Cert.InBackIdeal.τ).loc Cert.InBackIdeal.main_arg2)
      ∧ r.2.mem ((c.tc : Thread Cert.InBackIdeal.nD Cert.InBackIdeal.τ).loc Cert.InBackIdeal.main_arg3) = m ((c.tc : Thread Cert.InBackIdeal.nD Cert.InBackIdeal.τ).loc Cert.InBackIdeal.main_arg3)
      ∧ r.2.mem ((c.tc : Thread Cert.InBackIdeal.nD Cert.InBackIdeal.τ).loc Cert.InBackIdeal.main_arg4) = m ((c.tc : Thread Cert.InBackIdeal.nD Cert.InBackIdeal.τ).loc Cert.InBackIdeal.main_arg4)
      ∧ r.2.mem ((c.tc : Thread Cert.InBackIdeal.nD Cert.InBackIdeal.τ).loc Cert.InBackIdeal.main_arg5) = m ((c.tc : Thread Cert.InBackIdeal.nD Cert.InBackIdeal.τ).loc Cert.InBackIdeal.main_arg5)
      ∧ r.2.mem ((c.tc : Thread Cert.InBackIdeal.nD Cert.InBackIdeal.τ).loc Cert.InBackIdeal.main_arg6) = m ((c.tc : Thread Cert.InBackIdeal.nD Cert.InBackIdeal.τ).loc Cert.InBackIdeal.main_arg6)
      ∧ r.2.mem ((c.tc : Thread Cert.InBackIdeal.nD Cert.InBackIdeal.τ).loc Cert.InBackIdeal.main_arg7) = m ((c.tc : Thread Cert.InBackIdeal.nD Cert.InBackIdeal.τ).loc Cert.InBackIdeal.main_arg7)
      ∧ r.2.mem ((c.tc : Thread Cert.InBackIdeal.nD Cert.InBackIdeal.τ).loc Cert.InBackIdeal.main_arg8) = m ((c.tc : Thread Cert.InBackIdeal.nD Cert.InBackIdeal.τ).loc Cert.InBackIdeal.main_arg8)
      ∧ r.2.mem ((c.tc : Thread Cert.InBackIdeal.nD Cert.InBackIdeal.τ).loc Cert.InBackIdeal.main_arg9) = m ((c.tc : Thread Cert.InBackIdeal.nD Cert.InBackIdeal.τ).loc Cert.InBackIdeal.main_arg9))
      ∧ r.2.sem = fun _ => 0)

def quiescent_InBackIdeal_pre_in_finite [hInBackIdeal : Cert.InBackIdeal.Facts] [hPre_in_finite : Cert.Pre_in_finite.Facts] : Prop :=
  ∀ (m : (ℓ : Loc Cert.InBackIdeal.nD Cert.InBackIdeal.τ Cert.InBackIdeal.sig) → Buf (Elt Ideal) ℓ) (g : Dev Cert.InBackIdeal.nD → PrngReg), Pre_InBackIdeal_in_finite m →
    θ_run (Cert.InBackIdeal.defs (F := Ideal)) (onTc (τ := Cert.InBackIdeal.τ) (Cert.InBackIdeal.main (F := Ideal))) ⟨m, fun _ => 0, g⟩ (fun r => (∀ c : Dev Cert.InBackIdeal.nD,
      r.2.mem ((c.tc : Thread Cert.InBackIdeal.nD Cert.InBackIdeal.τ).loc Cert.InBackIdeal.main_arg0) = m ((c.tc : Thread Cert.InBackIdeal.nD Cert.InBackIdeal.τ).loc Cert.InBackIdeal.main_arg0)
      ∧ r.2.mem ((c.tc : Thread Cert.InBackIdeal.nD Cert.InBackIdeal.τ).loc Cert.InBackIdeal.main_arg1) = m ((c.tc : Thread Cert.InBackIdeal.nD Cert.InBackIdeal.τ).loc Cert.InBackIdeal.main_arg1)
      ∧ r.2.mem ((c.tc : Thread Cert.InBackIdeal.nD Cert.InBackIdeal.τ).loc Cert.InBackIdeal.main_arg2) = m ((c.tc : Thread Cert.InBackIdeal.nD Cert.InBackIdeal.τ).loc Cert.InBackIdeal.main_arg2)
      ∧ r.2.mem ((c.tc : Thread Cert.InBackIdeal.nD Cert.InBackIdeal.τ).loc Cert.InBackIdeal.main_arg3) = m ((c.tc : Thread Cert.InBackIdeal.nD Cert.InBackIdeal.τ).loc Cert.InBackIdeal.main_arg3)
      ∧ r.2.mem ((c.tc : Thread Cert.InBackIdeal.nD Cert.InBackIdeal.τ).loc Cert.InBackIdeal.main_arg4) = m ((c.tc : Thread Cert.InBackIdeal.nD Cert.InBackIdeal.τ).loc Cert.InBackIdeal.main_arg4)
      ∧ r.2.mem ((c.tc : Thread Cert.InBackIdeal.nD Cert.InBackIdeal.τ).loc Cert.InBackIdeal.main_arg5) = m ((c.tc : Thread Cert.InBackIdeal.nD Cert.InBackIdeal.τ).loc Cert.InBackIdeal.main_arg5)
      ∧ r.2.mem ((c.tc : Thread Cert.InBackIdeal.nD Cert.InBackIdeal.τ).loc Cert.InBackIdeal.main_arg6) = m ((c.tc : Thread Cert.InBackIdeal.nD Cert.InBackIdeal.τ).loc Cert.InBackIdeal.main_arg6)
      ∧ r.2.mem ((c.tc : Thread Cert.InBackIdeal.nD Cert.InBackIdeal.τ).loc Cert.InBackIdeal.main_arg7) = m ((c.tc : Thread Cert.InBackIdeal.nD Cert.InBackIdeal.τ).loc Cert.InBackIdeal.main_arg7)
      ∧ r.2.mem ((c.tc : Thread Cert.InBackIdeal.nD Cert.InBackIdeal.τ).loc Cert.InBackIdeal.main_arg8) = m ((c.tc : Thread Cert.InBackIdeal.nD Cert.InBackIdeal.τ).loc Cert.InBackIdeal.main_arg8)
      ∧ r.2.mem ((c.tc : Thread Cert.InBackIdeal.nD Cert.InBackIdeal.τ).loc Cert.InBackIdeal.main_arg9) = m ((c.tc : Thread Cert.InBackIdeal.nD Cert.InBackIdeal.τ).loc Cert.InBackIdeal.main_arg9))
      ∧ r.2.sem = fun _ => 0)

def quiescent_InBackRefIdeal [hInBackRefIdeal : Cert.InBackRefIdeal.Facts] : Prop :=
  ∀ (m : (ℓ : Loc Cert.InBackRefIdeal.nD Cert.InBackRefIdeal.τ Cert.InBackRefIdeal.sig) → Buf (Elt Ideal) ℓ) (g : Dev Cert.InBackRefIdeal.nD → PrngReg), Pre_InBackRefIdeal m →
    θ_run (Cert.InBackRefIdeal.defs (F := Ideal)) (onTc (τ := Cert.InBackRefIdeal.τ) (Cert.InBackRefIdeal.main (F := Ideal))) ⟨m, fun _ => 0, g⟩ (fun r => (∀ c : Dev Cert.InBackRefIdeal.nD,
      r.2.mem ((c.tc : Thread Cert.InBackRefIdeal.nD Cert.InBackRefIdeal.τ).loc Cert.InBackRefIdeal.main_arg0) = m ((c.tc : Thread Cert.InBackRefIdeal.nD Cert.InBackRefIdeal.τ).loc Cert.InBackRefIdeal.main_arg0)
      ∧ r.2.mem ((c.tc : Thread Cert.InBackRefIdeal.nD Cert.InBackRefIdeal.τ).loc Cert.InBackRefIdeal.main_arg1) = m ((c.tc : Thread Cert.InBackRefIdeal.nD Cert.InBackRefIdeal.τ).loc Cert.InBackRefIdeal.main_arg1)
      ∧ r.2.mem ((c.tc : Thread Cert.InBackRefIdeal.nD Cert.InBackRefIdeal.τ).loc Cert.InBackRefIdeal.main_arg2) = m ((c.tc : Thread Cert.InBackRefIdeal.nD Cert.InBackRefIdeal.τ).loc Cert.InBackRefIdeal.main_arg2)
      ∧ r.2.mem ((c.tc : Thread Cert.InBackRefIdeal.nD Cert.InBackRefIdeal.τ).loc Cert.InBackRefIdeal.main_arg3) = m ((c.tc : Thread Cert.InBackRefIdeal.nD Cert.InBackRefIdeal.τ).loc Cert.InBackRefIdeal.main_arg3)
      ∧ r.2.mem ((c.tc : Thread Cert.InBackRefIdeal.nD Cert.InBackRefIdeal.τ).loc Cert.InBackRefIdeal.main_arg4) = m ((c.tc : Thread Cert.InBackRefIdeal.nD Cert.InBackRefIdeal.τ).loc Cert.InBackRefIdeal.main_arg4)
      ∧ r.2.mem ((c.tc : Thread Cert.InBackRefIdeal.nD Cert.InBackRefIdeal.τ).loc Cert.InBackRefIdeal.main_arg5) = m ((c.tc : Thread Cert.InBackRefIdeal.nD Cert.InBackRefIdeal.τ).loc Cert.InBackRefIdeal.main_arg5)
      ∧ r.2.mem ((c.tc : Thread Cert.InBackRefIdeal.nD Cert.InBackRefIdeal.τ).loc Cert.InBackRefIdeal.main_arg6) = m ((c.tc : Thread Cert.InBackRefIdeal.nD Cert.InBackRefIdeal.τ).loc Cert.InBackRefIdeal.main_arg6)
      ∧ r.2.mem ((c.tc : Thread Cert.InBackRefIdeal.nD Cert.InBackRefIdeal.τ).loc Cert.InBackRefIdeal.main_arg7) = m ((c.tc : Thread Cert.InBackRefIdeal.nD Cert.InBackRefIdeal.τ).loc Cert.InBackRefIdeal.main_arg7)
      ∧ r.2.mem ((c.tc : Thread Cert.InBackRefIdeal.nD Cert.InBackRefIdeal.τ).loc Cert.InBackRefIdeal.main_arg8) = m ((c.tc : Thread Cert.InBackRefIdeal.nD Cert.InBackRefIdeal.τ).loc Cert.InBackRefIdeal.main_arg8)
      ∧ r.2.mem ((c.tc : Thread Cert.InBackRefIdeal.nD Cert.InBackRefIdeal.τ).loc Cert.InBackRefIdeal.main_arg9) = m ((c.tc : Thread Cert.InBackRefIdeal.nD Cert.InBackRefIdeal.τ).loc Cert.InBackRefIdeal.main_arg9))
      ∧ r.2.sem = fun _ => 0)

def quiescent_InBackRefIdeal_pre_in_finite [hInBackRefIdeal : Cert.InBackRefIdeal.Facts] [hPre_in_finite : Cert.Pre_in_finite.Facts] : Prop :=
  ∀ (m : (ℓ : Loc Cert.InBackRefIdeal.nD Cert.InBackRefIdeal.τ Cert.InBackRefIdeal.sig) → Buf (Elt Ideal) ℓ) (g : Dev Cert.InBackRefIdeal.nD → PrngReg), Pre_InBackRefIdeal_in_finite m →
    θ_run (Cert.InBackRefIdeal.defs (F := Ideal)) (onTc (τ := Cert.InBackRefIdeal.τ) (Cert.InBackRefIdeal.main (F := Ideal))) ⟨m, fun _ => 0, g⟩ (fun r => (∀ c : Dev Cert.InBackRefIdeal.nD,
      r.2.mem ((c.tc : Thread Cert.InBackRefIdeal.nD Cert.InBackRefIdeal.τ).loc Cert.InBackRefIdeal.main_arg0) = m ((c.tc : Thread Cert.InBackRefIdeal.nD Cert.InBackRefIdeal.τ).loc Cert.InBackRefIdeal.main_arg0)
      ∧ r.2.mem ((c.tc : Thread Cert.InBackRefIdeal.nD Cert.InBackRefIdeal.τ).loc Cert.InBackRefIdeal.main_arg1) = m ((c.tc : Thread Cert.InBackRefIdeal.nD Cert.InBackRefIdeal.τ).loc Cert.InBackRefIdeal.main_arg1)
      ∧ r.2.mem ((c.tc : Thread Cert.InBackRefIdeal.nD Cert.InBackRefIdeal.τ).loc Cert.InBackRefIdeal.main_arg2) = m ((c.tc : Thread Cert.InBackRefIdeal.nD Cert.InBackRefIdeal.τ).loc Cert.InBackRefIdeal.main_arg2)
      ∧ r.2.mem ((c.tc : Thread Cert.InBackRefIdeal.nD Cert.InBackRefIdeal.τ).loc Cert.InBackRefIdeal.main_arg3) = m ((c.tc : Thread Cert.InBackRefIdeal.nD Cert.InBackRefIdeal.τ).loc Cert.InBackRefIdeal.main_arg3)
      ∧ r.2.mem ((c.tc : Thread Cert.InBackRefIdeal.nD Cert.InBackRefIdeal.τ).loc Cert.InBackRefIdeal.main_arg4) = m ((c.tc : Thread Cert.InBackRefIdeal.nD Cert.InBackRefIdeal.τ).loc Cert.InBackRefIdeal.main_arg4)
      ∧ r.2.mem ((c.tc : Thread Cert.InBackRefIdeal.nD Cert.InBackRefIdeal.τ).loc Cert.InBackRefIdeal.main_arg5) = m ((c.tc : Thread Cert.InBackRefIdeal.nD Cert.InBackRefIdeal.τ).loc Cert.InBackRefIdeal.main_arg5)
      ∧ r.2.mem ((c.tc : Thread Cert.InBackRefIdeal.nD Cert.InBackRefIdeal.τ).loc Cert.InBackRefIdeal.main_arg6) = m ((c.tc : Thread Cert.InBackRefIdeal.nD Cert.InBackRefIdeal.τ).loc Cert.InBackRefIdeal.main_arg6)
      ∧ r.2.mem ((c.tc : Thread Cert.InBackRefIdeal.nD Cert.InBackRefIdeal.τ).loc Cert.InBackRefIdeal.main_arg7) = m ((c.tc : Thread Cert.InBackRefIdeal.nD Cert.InBackRefIdeal.τ).loc Cert.InBackRefIdeal.main_arg7)
      ∧ r.2.mem ((c.tc : Thread Cert.InBackRefIdeal.nD Cert.InBackRefIdeal.τ).loc Cert.InBackRefIdeal.main_arg8) = m ((c.tc : Thread Cert.InBackRefIdeal.nD Cert.InBackRefIdeal.τ).loc Cert.InBackRefIdeal.main_arg8)
      ∧ r.2.mem ((c.tc : Thread Cert.InBackRefIdeal.nD Cert.InBackRefIdeal.τ).loc Cert.InBackRefIdeal.main_arg9) = m ((c.tc : Thread Cert.InBackRefIdeal.nD Cert.InBackRefIdeal.τ).loc Cert.InBackRefIdeal.main_arg9))
      ∧ r.2.sem = fun _ => 0)

def quiescent_DownLoss [hDownLoss : Cert.DownLoss.Facts] : Prop :=
  ∀ (m : (ℓ : Loc Cert.DownLoss.nD Cert.DownLoss.τ Cert.DownLoss.sig) → Buf (Elt Bits) ℓ) (g : Dev Cert.DownLoss.nD → PrngReg), Pre_DownLoss m →
    θ_run (Cert.DownLoss.defs (F := Bits)) (onTc (τ := Cert.DownLoss.τ) (Cert.DownLoss.main (F := Bits))) ⟨m, fun _ => 0, g⟩ (fun r => (∀ c : Dev Cert.DownLoss.nD,
      r.2.mem ((c.tc : Thread Cert.DownLoss.nD Cert.DownLoss.τ).loc Cert.DownLoss.main_arg0) = m ((c.tc : Thread Cert.DownLoss.nD Cert.DownLoss.τ).loc Cert.DownLoss.main_arg0)
      ∧ r.2.mem ((c.tc : Thread Cert.DownLoss.nD Cert.DownLoss.τ).loc Cert.DownLoss.main_arg1) = m ((c.tc : Thread Cert.DownLoss.nD Cert.DownLoss.τ).loc Cert.DownLoss.main_arg1)
      ∧ r.2.mem ((c.tc : Thread Cert.DownLoss.nD Cert.DownLoss.τ).loc Cert.DownLoss.main_arg2) = m ((c.tc : Thread Cert.DownLoss.nD Cert.DownLoss.τ).loc Cert.DownLoss.main_arg2)
      ∧ r.2.mem ((c.tc : Thread Cert.DownLoss.nD Cert.DownLoss.τ).loc Cert.DownLoss.main_arg3) = m ((c.tc : Thread Cert.DownLoss.nD Cert.DownLoss.τ).loc Cert.DownLoss.main_arg3)
      ∧ r.2.mem ((c.tc : Thread Cert.DownLoss.nD Cert.DownLoss.τ).loc Cert.DownLoss.main_arg4) = m ((c.tc : Thread Cert.DownLoss.nD Cert.DownLoss.τ).loc Cert.DownLoss.main_arg4))
      ∧ r.2.sem = fun _ => 0)

def quiescent_DownLossIdeal [hDownLossIdeal : Cert.DownLossIdeal.Facts] : Prop :=
  ∀ (m : (ℓ : Loc Cert.DownLossIdeal.nD Cert.DownLossIdeal.τ Cert.DownLossIdeal.sig) → Buf (Elt Ideal) ℓ) (g : Dev Cert.DownLossIdeal.nD → PrngReg), Pre_DownLossIdeal m →
    θ_run (Cert.DownLossIdeal.defs (F := Ideal)) (onTc (τ := Cert.DownLossIdeal.τ) (Cert.DownLossIdeal.main (F := Ideal))) ⟨m, fun _ => 0, g⟩ (fun r => (∀ c : Dev Cert.DownLossIdeal.nD,
      r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
      ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
      ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
      ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3)
      ∧ r.2.mem ((c.tc : Thread Cert.DownLossIdeal.nD Cert.DownLossIdeal.τ).loc Cert.DownLossIdeal.main_arg4) = m ((c.tc : Thread Cert.DownLossIdeal.nD Cert.DownLossIdeal.τ).loc Cert.DownLossIdeal.main_arg4))
      ∧ r.2.sem = fun _ => 0)

def quiescent_DownLossIdeal_pre_down_finite [hDownLossIdeal : Cert.DownLossIdeal.Facts] [hPre_down_finite : Cert.Pre_down_finite.Facts] : Prop :=
  ∀ (m : (ℓ : Loc Cert.DownLossIdeal.nD Cert.DownLossIdeal.τ Cert.DownLossIdeal.sig) → Buf (Elt Ideal) ℓ) (g : Dev Cert.DownLossIdeal.nD → PrngReg), Pre_DownLossIdeal_down_finite m →
    θ_run (Cert.DownLossIdeal.defs (F := Ideal)) (onTc (τ := Cert.DownLossIdeal.τ) (Cert.DownLossIdeal.main (F := Ideal))) ⟨m, fun _ => 0, g⟩ (fun r => (∀ c : Dev Cert.DownLossIdeal.nD,
      r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
      ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
      ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
      ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3)
      ∧ r.2.mem ((c.tc : Thread Cert.DownLossIdeal.nD Cert.DownLossIdeal.τ).loc Cert.DownLossIdeal.main_arg4) = m ((c.tc : Thread Cert.DownLossIdeal.nD Cert.DownLossIdeal.τ).loc Cert.DownLossIdeal.main_arg4))
      ∧ r.2.sem = fun _ => 0)

def quiescent_DownLossRefIdeal [hDownLossRefIdeal : Cert.DownLossRefIdeal.Facts] : Prop :=
  ∀ (m : (ℓ : Loc Cert.DownLossRefIdeal.nD Cert.DownLossRefIdeal.τ Cert.DownLossRefIdeal.sig) → Buf (Elt Ideal) ℓ) (g : Dev Cert.DownLossRefIdeal.nD → PrngReg), Pre_DownLossRefIdeal m →
    θ_run (Cert.DownLossRefIdeal.defs (F := Ideal)) (onTc (τ := Cert.DownLossRefIdeal.τ) (Cert.DownLossRefIdeal.main (F := Ideal))) ⟨m, fun _ => 0, g⟩ (fun r => (∀ c : Dev Cert.DownLossRefIdeal.nD,
      r.2.mem ((c.tc : Thread Cert.DownLossRefIdeal.nD Cert.DownLossRefIdeal.τ).loc Cert.DownLossRefIdeal.main_arg0) = m ((c.tc : Thread Cert.DownLossRefIdeal.nD Cert.DownLossRefIdeal.τ).loc Cert.DownLossRefIdeal.main_arg0)
      ∧ r.2.mem ((c.tc : Thread Cert.DownLossRefIdeal.nD Cert.DownLossRefIdeal.τ).loc Cert.DownLossRefIdeal.main_arg1) = m ((c.tc : Thread Cert.DownLossRefIdeal.nD Cert.DownLossRefIdeal.τ).loc Cert.DownLossRefIdeal.main_arg1)
      ∧ r.2.mem ((c.tc : Thread Cert.DownLossRefIdeal.nD Cert.DownLossRefIdeal.τ).loc Cert.DownLossRefIdeal.main_arg2) = m ((c.tc : Thread Cert.DownLossRefIdeal.nD Cert.DownLossRefIdeal.τ).loc Cert.DownLossRefIdeal.main_arg2)
      ∧ r.2.mem ((c.tc : Thread Cert.DownLossRefIdeal.nD Cert.DownLossRefIdeal.τ).loc Cert.DownLossRefIdeal.main_arg3) = m ((c.tc : Thread Cert.DownLossRefIdeal.nD Cert.DownLossRefIdeal.τ).loc Cert.DownLossRefIdeal.main_arg3)
      ∧ r.2.mem ((c.tc : Thread Cert.DownLossRefIdeal.nD Cert.DownLossRefIdeal.τ).loc Cert.DownLossRefIdeal.main_arg4) = m ((c.tc : Thread Cert.DownLossRefIdeal.nD Cert.DownLossRefIdeal.τ).loc Cert.DownLossRefIdeal.main_arg4))
      ∧ r.2.sem = fun _ => 0)

def quiescent_DownLossRefIdeal_pre_down_finite [hDownLossRefIdeal : Cert.DownLossRefIdeal.Facts] [hPre_down_finite : Cert.Pre_down_finite.Facts] : Prop :=
  ∀ (m : (ℓ : Loc Cert.DownLossRefIdeal.nD Cert.DownLossRefIdeal.τ Cert.DownLossRefIdeal.sig) → Buf (Elt Ideal) ℓ) (g : Dev Cert.DownLossRefIdeal.nD → PrngReg), Pre_DownLossRefIdeal_down_finite m →
    θ_run (Cert.DownLossRefIdeal.defs (F := Ideal)) (onTc (τ := Cert.DownLossRefIdeal.τ) (Cert.DownLossRefIdeal.main (F := Ideal))) ⟨m, fun _ => 0, g⟩ (fun r => (∀ c : Dev Cert.DownLossRefIdeal.nD,
      r.2.mem ((c.tc : Thread Cert.DownLossRefIdeal.nD Cert.DownLossRefIdeal.τ).loc Cert.DownLossRefIdeal.main_arg0) = m ((c.tc : Thread Cert.DownLossRefIdeal.nD Cert.DownLossRefIdeal.τ).loc Cert.DownLossRefIdeal.main_arg0)
      ∧ r.2.mem ((c.tc : Thread Cert.DownLossRefIdeal.nD Cert.DownLossRefIdeal.τ).loc Cert.DownLossRefIdeal.main_arg1) = m ((c.tc : Thread Cert.DownLossRefIdeal.nD Cert.DownLossRefIdeal.τ).loc Cert.DownLossRefIdeal.main_arg1)
      ∧ r.2.mem ((c.tc : Thread Cert.DownLossRefIdeal.nD Cert.DownLossRefIdeal.τ).loc Cert.DownLossRefIdeal.main_arg2) = m ((c.tc : Thread Cert.DownLossRefIdeal.nD Cert.DownLossRefIdeal.τ).loc Cert.DownLossRefIdeal.main_arg2)
      ∧ r.2.mem ((c.tc : Thread Cert.DownLossRefIdeal.nD Cert.DownLossRefIdeal.τ).loc Cert.DownLossRefIdeal.main_arg3) = m ((c.tc : Thread Cert.DownLossRefIdeal.nD Cert.DownLossRefIdeal.τ).loc Cert.DownLossRefIdeal.main_arg3)
      ∧ r.2.mem ((c.tc : Thread Cert.DownLossRefIdeal.nD Cert.DownLossRefIdeal.τ).loc Cert.DownLossRefIdeal.main_arg4) = m ((c.tc : Thread Cert.DownLossRefIdeal.nD Cert.DownLossRefIdeal.τ).loc Cert.DownLossRefIdeal.main_arg4))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5)
      ∧ r.2.mem ((c.tc : Thread Cert.MixOutRefIdeal.nD Cert.MixOutRefIdeal.τ).loc Cert.MixOutRefIdeal.main_arg6) = m ((c.tc : Thread Cert.MixOutRefIdeal.nD Cert.MixOutRefIdeal.τ).loc Cert.MixOutRefIdeal.main_arg6))
      ∧ r.2.sem = fun _ => 0)

def quiescent_MixBack [hMixBack : Cert.MixBack.Facts] : Prop :=
  ∀ (m : (ℓ : Loc Cert.MixBack.nD Cert.MixBack.τ Cert.MixBack.sig) → Buf (Elt Bits) ℓ) (g : Dev Cert.MixBack.nD → PrngReg), Pre_MixBack m →
    θ_run (Cert.MixBack.defs (F := Bits)) (onTc (τ := Cert.MixBack.τ) (Cert.MixBack.main (F := Bits))) ⟨m, fun _ => 0, g⟩ (fun r => (∀ c : Dev Cert.MixBack.nD,
      r.2.mem ((c.tc : Thread Cert.MixBack.nD Cert.MixBack.τ).loc Cert.MixBack.main_arg0) = m ((c.tc : Thread Cert.MixBack.nD Cert.MixBack.τ).loc Cert.MixBack.main_arg0)
      ∧ r.2.mem ((c.tc : Thread Cert.MixBack.nD Cert.MixBack.τ).loc Cert.MixBack.main_arg1) = m ((c.tc : Thread Cert.MixBack.nD Cert.MixBack.τ).loc Cert.MixBack.main_arg1)
      ∧ r.2.mem ((c.tc : Thread Cert.MixBack.nD Cert.MixBack.τ).loc Cert.MixBack.main_arg2) = m ((c.tc : Thread Cert.MixBack.nD Cert.MixBack.τ).loc Cert.MixBack.main_arg2)
      ∧ r.2.mem ((c.tc : Thread Cert.MixBack.nD Cert.MixBack.τ).loc Cert.MixBack.main_arg3) = m ((c.tc : Thread Cert.MixBack.nD Cert.MixBack.τ).loc Cert.MixBack.main_arg3)
      ∧ r.2.mem ((c.tc : Thread Cert.MixBack.nD Cert.MixBack.τ).loc Cert.MixBack.main_arg4) = m ((c.tc : Thread Cert.MixBack.nD Cert.MixBack.τ).loc Cert.MixBack.main_arg4))
      ∧ r.2.sem = fun _ => 0)

def quiescent_MixBackIdeal [hMixBackIdeal : Cert.MixBackIdeal.Facts] : Prop :=
  ∀ (m : (ℓ : Loc Cert.MixBackIdeal.nD Cert.MixBackIdeal.τ Cert.MixBackIdeal.sig) → Buf (Elt Ideal) ℓ) (g : Dev Cert.MixBackIdeal.nD → PrngReg), Pre_MixBackIdeal m →
    θ_run (Cert.MixBackIdeal.defs (F := Ideal)) (onTc (τ := Cert.MixBackIdeal.τ) (Cert.MixBackIdeal.main (F := Ideal))) ⟨m, fun _ => 0, g⟩ (fun r => (∀ c : Dev Cert.MixBackIdeal.nD,
      r.2.mem ((c.tc : Thread Cert.MixBackIdeal.nD Cert.MixBackIdeal.τ).loc Cert.MixBackIdeal.main_arg0) = m ((c.tc : Thread Cert.MixBackIdeal.nD Cert.MixBackIdeal.τ).loc Cert.MixBackIdeal.main_arg0)
      ∧ r.2.mem ((c.tc : Thread Cert.MixBackIdeal.nD Cert.MixBackIdeal.τ).loc Cert.MixBackIdeal.main_arg1) = m ((c.tc : Thread Cert.MixBackIdeal.nD Cert.MixBackIdeal.τ).loc Cert.MixBackIdeal.main_arg1)
      ∧ r.2.mem ((c.tc : Thread Cert.MixBackIdeal.nD Cert.MixBackIdeal.τ).loc Cert.MixBackIdeal.main_arg2) = m ((c.tc : Thread Cert.MixBackIdeal.nD Cert.MixBackIdeal.τ).loc Cert.MixBackIdeal.main_arg2)
      ∧ r.2.mem ((c.tc : Thread Cert.MixBackIdeal.nD Cert.MixBackIdeal.τ).loc Cert.MixBackIdeal.main_arg3) = m ((c.tc : Thread Cert.MixBackIdeal.nD Cert.MixBackIdeal.τ).loc Cert.MixBackIdeal.main_arg3)
      ∧ r.2.mem ((c.tc : Thread Cert.MixBackIdeal.nD Cert.MixBackIdeal.τ).loc Cert.MixBackIdeal.main_arg4) = m ((c.tc : Thread Cert.MixBackIdeal.nD Cert.MixBackIdeal.τ).loc Cert.MixBackIdeal.main_arg4))
      ∧ r.2.sem = fun _ => 0)

def quiescent_MixBackIdeal_pre_mix_finite [hMixBackIdeal : Cert.MixBackIdeal.Facts] [hPre_mix_finite : Cert.Pre_mix_finite.Facts] : Prop :=
  ∀ (m : (ℓ : Loc Cert.MixBackIdeal.nD Cert.MixBackIdeal.τ Cert.MixBackIdeal.sig) → Buf (Elt Ideal) ℓ) (g : Dev Cert.MixBackIdeal.nD → PrngReg), Pre_MixBackIdeal_mix_finite m →
    θ_run (Cert.MixBackIdeal.defs (F := Ideal)) (onTc (τ := Cert.MixBackIdeal.τ) (Cert.MixBackIdeal.main (F := Ideal))) ⟨m, fun _ => 0, g⟩ (fun r => (∀ c : Dev Cert.MixBackIdeal.nD,
      r.2.mem ((c.tc : Thread Cert.MixBackIdeal.nD Cert.MixBackIdeal.τ).loc Cert.MixBackIdeal.main_arg0) = m ((c.tc : Thread Cert.MixBackIdeal.nD Cert.MixBackIdeal.τ).loc Cert.MixBackIdeal.main_arg0)
      ∧ r.2.mem ((c.tc : Thread Cert.MixBackIdeal.nD Cert.MixBackIdeal.τ).loc Cert.MixBackIdeal.main_arg1) = m ((c.tc : Thread Cert.MixBackIdeal.nD Cert.MixBackIdeal.τ).loc Cert.MixBackIdeal.main_arg1)
      ∧ r.2.mem ((c.tc : Thread Cert.MixBackIdeal.nD Cert.MixBackIdeal.τ).loc Cert.MixBackIdeal.main_arg2) = m ((c.tc : Thread Cert.MixBackIdeal.nD Cert.MixBackIdeal.τ).loc Cert.MixBackIdeal.main_arg2)
      ∧ r.2.mem ((c.tc : Thread Cert.MixBackIdeal.nD Cert.MixBackIdeal.τ).loc Cert.MixBackIdeal.main_arg3) = m ((c.tc : Thread Cert.MixBackIdeal.nD Cert.MixBackIdeal.τ).loc Cert.MixBackIdeal.main_arg3)
      ∧ r.2.mem ((c.tc : Thread Cert.MixBackIdeal.nD Cert.MixBackIdeal.τ).loc Cert.MixBackIdeal.main_arg4) = m ((c.tc : Thread Cert.MixBackIdeal.nD Cert.MixBackIdeal.τ).loc Cert.MixBackIdeal.main_arg4))
      ∧ r.2.sem = fun _ => 0)

def quiescent_MixBackRefIdeal [hMixBackRefIdeal : Cert.MixBackRefIdeal.Facts] : Prop :=
  ∀ (m : (ℓ : Loc Cert.MixBackRefIdeal.nD Cert.MixBackRefIdeal.τ Cert.MixBackRefIdeal.sig) → Buf (Elt Ideal) ℓ) (g : Dev Cert.MixBackRefIdeal.nD → PrngReg), Pre_MixBackRefIdeal m →
    θ_run (Cert.MixBackRefIdeal.defs (F := Ideal)) (onTc (τ := Cert.MixBackRefIdeal.τ) (Cert.MixBackRefIdeal.main (F := Ideal))) ⟨m, fun _ => 0, g⟩ (fun r => (∀ c : Dev Cert.MixBackRefIdeal.nD,
      r.2.mem ((c.tc : Thread Cert.MixBackRefIdeal.nD Cert.MixBackRefIdeal.τ).loc Cert.MixBackRefIdeal.main_arg0) = m ((c.tc : Thread Cert.MixBackRefIdeal.nD Cert.MixBackRefIdeal.τ).loc Cert.MixBackRefIdeal.main_arg0)
      ∧ r.2.mem ((c.tc : Thread Cert.MixBackRefIdeal.nD Cert.MixBackRefIdeal.τ).loc Cert.MixBackRefIdeal.main_arg1) = m ((c.tc : Thread Cert.MixBackRefIdeal.nD Cert.MixBackRefIdeal.τ).loc Cert.MixBackRefIdeal.main_arg1)
      ∧ r.2.mem ((c.tc : Thread Cert.MixBackRefIdeal.nD Cert.MixBackRefIdeal.τ).loc Cert.MixBackRefIdeal.main_arg2) = m ((c.tc : Thread Cert.MixBackRefIdeal.nD Cert.MixBackRefIdeal.τ).loc Cert.MixBackRefIdeal.main_arg2)
      ∧ r.2.mem ((c.tc : Thread Cert.MixBackRefIdeal.nD Cert.MixBackRefIdeal.τ).loc Cert.MixBackRefIdeal.main_arg3) = m ((c.tc : Thread Cert.MixBackRefIdeal.nD Cert.MixBackRefIdeal.τ).loc Cert.MixBackRefIdeal.main_arg3)
      ∧ r.2.mem ((c.tc : Thread Cert.MixBackRefIdeal.nD Cert.MixBackRefIdeal.τ).loc Cert.MixBackRefIdeal.main_arg4) = m ((c.tc : Thread Cert.MixBackRefIdeal.nD Cert.MixBackRefIdeal.τ).loc Cert.MixBackRefIdeal.main_arg4))
      ∧ r.2.sem = fun _ => 0)

def quiescent_MixBackRefIdeal_pre_mix_finite [hMixBackRefIdeal : Cert.MixBackRefIdeal.Facts] [hPre_mix_finite : Cert.Pre_mix_finite.Facts] : Prop :=
  ∀ (m : (ℓ : Loc Cert.MixBackRefIdeal.nD Cert.MixBackRefIdeal.τ Cert.MixBackRefIdeal.sig) → Buf (Elt Ideal) ℓ) (g : Dev Cert.MixBackRefIdeal.nD → PrngReg), Pre_MixBackRefIdeal_mix_finite m →
    θ_run (Cert.MixBackRefIdeal.defs (F := Ideal)) (onTc (τ := Cert.MixBackRefIdeal.τ) (Cert.MixBackRefIdeal.main (F := Ideal))) ⟨m, fun _ => 0, g⟩ (fun r => (∀ c : Dev Cert.MixBackRefIdeal.nD,
      r.2.mem ((c.tc : Thread Cert.MixBackRefIdeal.nD Cert.MixBackRefIdeal.τ).loc Cert.MixBackRefIdeal.main_arg0) = m ((c.tc : Thread Cert.MixBackRefIdeal.nD Cert.MixBackRefIdeal.τ).loc Cert.MixBackRefIdeal.main_arg0)
      ∧ r.2.mem ((c.tc : Thread Cert.MixBackRefIdeal.nD Cert.MixBackRefIdeal.τ).loc Cert.MixBackRefIdeal.main_arg1) = m ((c.tc : Thread Cert.MixBackRefIdeal.nD Cert.MixBackRefIdeal.τ).loc Cert.MixBackRefIdeal.main_arg1)
      ∧ r.2.mem ((c.tc : Thread Cert.MixBackRefIdeal.nD Cert.MixBackRefIdeal.τ).loc Cert.MixBackRefIdeal.main_arg2) = m ((c.tc : Thread Cert.MixBackRefIdeal.nD Cert.MixBackRefIdeal.τ).loc Cert.MixBackRefIdeal.main_arg2)
      ∧ r.2.mem ((c.tc : Thread Cert.MixBackRefIdeal.nD Cert.MixBackRefIdeal.τ).loc Cert.MixBackRefIdeal.main_arg3) = m ((c.tc : Thread Cert.MixBackRefIdeal.nD Cert.MixBackRefIdeal.τ).loc Cert.MixBackRefIdeal.main_arg3)
      ∧ r.2.mem ((c.tc : Thread Cert.MixBackRefIdeal.nD Cert.MixBackRefIdeal.τ).loc Cert.MixBackRefIdeal.main_arg4) = m ((c.tc : Thread Cert.MixBackRefIdeal.nD Cert.MixBackRefIdeal.τ).loc Cert.MixBackRefIdeal.main_arg4))
      ∧ r.2.sem = fun _ => 0)

def quiescent_OutGrad [hOutGrad : Cert.OutGrad.Facts] : Prop :=
  ∀ (m : (ℓ : Loc Cert.OutGrad.nD Cert.OutGrad.τ Cert.OutGrad.sig) → Buf (Elt Bits) ℓ) (g : Dev Cert.OutGrad.nD → PrngReg), Pre_OutGrad m →
    θ_run (Cert.OutGrad.defs (F := Bits)) (onTc (τ := Cert.OutGrad.τ) (Cert.OutGrad.main (F := Bits))) ⟨m, fun _ => 0, g⟩ (fun r => (∀ c : Dev Cert.OutGrad.nD,
      r.2.mem ((c.tc : Thread Cert.OutGrad.nD Cert.OutGrad.τ).loc Cert.OutGrad.main_arg0) = m ((c.tc : Thread Cert.OutGrad.nD Cert.OutGrad.τ).loc Cert.OutGrad.main_arg0)
      ∧ r.2.mem ((c.tc : Thread Cert.OutGrad.nD Cert.OutGrad.τ).loc Cert.OutGrad.main_arg1) = m ((c.tc : Thread Cert.OutGrad.nD Cert.OutGrad.τ).loc Cert.OutGrad.main_arg1))
      ∧ r.2.sem = fun _ => 0)

def quiescent_OutGradIdeal [hOutGradIdeal : Cert.OutGradIdeal.Facts] : Prop :=
  ∀ (m : (ℓ : Loc Cert.OutGradIdeal.nD Cert.OutGradIdeal.τ Cert.OutGradIdeal.sig) → Buf (Elt Ideal) ℓ) (g : Dev Cert.OutGradIdeal.nD → PrngReg), Pre_OutGradIdeal m →
    θ_run (Cert.OutGradIdeal.defs (F := Ideal)) (onTc (τ := Cert.OutGradIdeal.τ) (Cert.OutGradIdeal.main (F := Ideal))) ⟨m, fun _ => 0, g⟩ (fun r => (∀ c : Dev Cert.OutGradIdeal.nD,
      r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
      ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ r.2.sem = fun _ => 0)

def quiescent_OutGradRefIdeal [hOutGradRefIdeal : Cert.OutGradRefIdeal.Facts] : Prop :=
  ∀ (m : (ℓ : Loc Cert.OutGradRefIdeal.nD Cert.OutGradRefIdeal.τ Cert.OutGradRefIdeal.sig) → Buf (Elt Ideal) ℓ) (g : Dev Cert.OutGradRefIdeal.nD → PrngReg), Pre_OutGradRefIdeal m →
    θ_run (Cert.OutGradRefIdeal.defs (F := Ideal)) (onTc (τ := Cert.OutGradRefIdeal.τ) (Cert.OutGradRefIdeal.main (F := Ideal))) ⟨m, fun _ => 0, g⟩ (fun r => (∀ c : Dev Cert.OutGradRefIdeal.nD,
      r.2.mem ((c.tc : Thread Cert.OutGradRefIdeal.nD Cert.OutGradRefIdeal.τ).loc Cert.OutGradRefIdeal.main_arg0) = m ((c.tc : Thread Cert.OutGradRefIdeal.nD Cert.OutGradRefIdeal.τ).loc Cert.OutGradRefIdeal.main_arg0)
      ∧ r.2.mem ((c.tc : Thread Cert.OutGradRefIdeal.nD Cert.OutGradRefIdeal.τ).loc Cert.OutGradRefIdeal.main_arg1) = m ((c.tc : Thread Cert.OutGradRefIdeal.nD Cert.OutGradRefIdeal.τ).loc Cert.OutGradRefIdeal.main_arg1))
      ∧ r.2.sem = fun _ => 0)

def quiescent_AdamW [hAdamW : Cert.AdamW.Facts] : Prop :=
  ∀ (m : (ℓ : Loc Cert.AdamW.nD Cert.AdamW.τ Cert.AdamW.sig) → Buf (Elt Bits) ℓ) (g : Dev Cert.AdamW.nD → PrngReg), Pre_AdamW m →
    θ_run (Cert.AdamW.defs (F := Bits)) (onTc (τ := Cert.AdamW.τ) (Cert.AdamW.main (F := Bits))) ⟨m, fun _ => 0, g⟩ (fun r => (∀ c : Dev Cert.AdamW.nD,
      r.2.mem ((c.tc : Thread Cert.AdamW.nD Cert.AdamW.τ).loc Cert.AdamW.main_arg0) = m ((c.tc : Thread Cert.AdamW.nD Cert.AdamW.τ).loc Cert.AdamW.main_arg0)
      ∧ r.2.mem ((c.tc : Thread Cert.AdamW.nD Cert.AdamW.τ).loc Cert.AdamW.main_arg1) = m ((c.tc : Thread Cert.AdamW.nD Cert.AdamW.τ).loc Cert.AdamW.main_arg1)
      ∧ r.2.mem ((c.tc : Thread Cert.AdamW.nD Cert.AdamW.τ).loc Cert.AdamW.main_arg2) = m ((c.tc : Thread Cert.AdamW.nD Cert.AdamW.τ).loc Cert.AdamW.main_arg2)
      ∧ r.2.mem ((c.tc : Thread Cert.AdamW.nD Cert.AdamW.τ).loc Cert.AdamW.main_arg3) = m ((c.tc : Thread Cert.AdamW.nD Cert.AdamW.τ).loc Cert.AdamW.main_arg3))
      ∧ r.2.sem = fun _ => 0)

def quiescent_AdamWIdeal [hAdamWIdeal : Cert.AdamWIdeal.Facts] : Prop :=
  ∀ (m : (ℓ : Loc Cert.AdamWIdeal.nD Cert.AdamWIdeal.τ Cert.AdamWIdeal.sig) → Buf (Elt Ideal) ℓ) (g : Dev Cert.AdamWIdeal.nD → PrngReg), Pre_AdamWIdeal m →
    θ_run (Cert.AdamWIdeal.defs (F := Ideal)) (onTc (τ := Cert.AdamWIdeal.τ) (Cert.AdamWIdeal.main (F := Ideal))) ⟨m, fun _ => 0, g⟩ (fun r => (∀ c : Dev Cert.AdamWIdeal.nD,
      r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
      ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
      ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
      ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ r.2.sem = fun _ => 0)

def quiescent_AdamWRefIdeal [hAdamWRefIdeal : Cert.AdamWRefIdeal.Facts] : Prop :=
  ∀ (m : (ℓ : Loc Cert.AdamWRefIdeal.nD Cert.AdamWRefIdeal.τ Cert.AdamWRefIdeal.sig) → Buf (Elt Ideal) ℓ) (g : Dev Cert.AdamWRefIdeal.nD → PrngReg), Pre_AdamWRefIdeal m →
    θ_run (Cert.AdamWRefIdeal.defs (F := Ideal)) (onTc (τ := Cert.AdamWRefIdeal.τ) (Cert.AdamWRefIdeal.main (F := Ideal))) ⟨m, fun _ => 0, g⟩ (fun r => (∀ c : Dev Cert.AdamWRefIdeal.nD,
      r.2.mem ((c.tc : Thread Cert.AdamWRefIdeal.nD Cert.AdamWRefIdeal.τ).loc Cert.AdamWRefIdeal.main_arg0) = m ((c.tc : Thread Cert.AdamWRefIdeal.nD Cert.AdamWRefIdeal.τ).loc Cert.AdamWRefIdeal.main_arg0)
      ∧ r.2.mem ((c.tc : Thread Cert.AdamWRefIdeal.nD Cert.AdamWRefIdeal.τ).loc Cert.AdamWRefIdeal.main_arg1) = m ((c.tc : Thread Cert.AdamWRefIdeal.nD Cert.AdamWRefIdeal.τ).loc Cert.AdamWRefIdeal.main_arg1)
      ∧ r.2.mem ((c.tc : Thread Cert.AdamWRefIdeal.nD Cert.AdamWRefIdeal.τ).loc Cert.AdamWRefIdeal.main_arg2) = m ((c.tc : Thread Cert.AdamWRefIdeal.nD Cert.AdamWRefIdeal.τ).loc Cert.AdamWRefIdeal.main_arg2)
      ∧ r.2.mem ((c.tc : Thread Cert.AdamWRefIdeal.nD Cert.AdamWRefIdeal.τ).loc Cert.AdamWRefIdeal.main_arg3) = m ((c.tc : Thread Cert.AdamWRefIdeal.nD Cert.AdamWRefIdeal.τ).loc Cert.AdamWRefIdeal.main_arg3))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdIdeal_pre_att_finite [hAttnFwdIdeal : Cert.AttnFwdIdeal.Facts] [hPre_att_finite : Cert.Pre_att_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_att_finite m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_AttnFwdRefIdeal_pre_att_finite [hAttnFwdRefIdeal : Cert.AttnFwdRefIdeal.Facts] [hPre_att_finite : Cert.Pre_att_finite.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_att_finite m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_SmallUpd [hSmallUpd : Cert.SmallUpd.Facts] : Prop :=
  ∀ (m : (ℓ : Loc Cert.SmallUpd.nD Cert.SmallUpd.τ Cert.SmallUpd.sig) → Buf (Elt Bits) ℓ) (g : Dev Cert.SmallUpd.nD → PrngReg), Pre_SmallUpd m →
    θ_run (Cert.SmallUpd.defs (F := Bits)) (onTc (τ := Cert.SmallUpd.τ) (Cert.SmallUpd.main (F := Bits))) ⟨m, fun _ => 0, g⟩ (fun r => (∀ c : Dev Cert.SmallUpd.nD,
      r.2.mem ((c.tc : Thread Cert.SmallUpd.nD Cert.SmallUpd.τ).loc Cert.SmallUpd.main_arg0) = m ((c.tc : Thread Cert.SmallUpd.nD Cert.SmallUpd.τ).loc Cert.SmallUpd.main_arg0)
      ∧ r.2.mem ((c.tc : Thread Cert.SmallUpd.nD Cert.SmallUpd.τ).loc Cert.SmallUpd.main_arg1) = m ((c.tc : Thread Cert.SmallUpd.nD Cert.SmallUpd.τ).loc Cert.SmallUpd.main_arg1)
      ∧ r.2.mem ((c.tc : Thread Cert.SmallUpd.nD Cert.SmallUpd.τ).loc Cert.SmallUpd.main_arg2) = m ((c.tc : Thread Cert.SmallUpd.nD Cert.SmallUpd.τ).loc Cert.SmallUpd.main_arg2)
      ∧ r.2.mem ((c.tc : Thread Cert.SmallUpd.nD Cert.SmallUpd.τ).loc Cert.SmallUpd.main_arg3) = m ((c.tc : Thread Cert.SmallUpd.nD Cert.SmallUpd.τ).loc Cert.SmallUpd.main_arg3)
      ∧ r.2.mem ((c.tc : Thread Cert.SmallUpd.nD Cert.SmallUpd.τ).loc Cert.SmallUpd.main_arg4) = m ((c.tc : Thread Cert.SmallUpd.nD Cert.SmallUpd.τ).loc Cert.SmallUpd.main_arg4))
      ∧ r.2.sem = fun _ => 0)

def quiescent_SmallUpdIdeal [hSmallUpdIdeal : Cert.SmallUpdIdeal.Facts] : Prop :=
  ∀ (m : (ℓ : Loc Cert.SmallUpdIdeal.nD Cert.SmallUpdIdeal.τ Cert.SmallUpdIdeal.sig) → Buf (Elt Ideal) ℓ) (g : Dev Cert.SmallUpdIdeal.nD → PrngReg), Pre_SmallUpdIdeal m →
    θ_run (Cert.SmallUpdIdeal.defs (F := Ideal)) (onTc (τ := Cert.SmallUpdIdeal.τ) (Cert.SmallUpdIdeal.main (F := Ideal))) ⟨m, fun _ => 0, g⟩ (fun r => (∀ c : Dev Cert.SmallUpdIdeal.nD,
      r.2.mem ((c.tc : Thread Cert.SmallUpdIdeal.nD Cert.SmallUpdIdeal.τ).loc Cert.SmallUpdIdeal.main_arg0) = m ((c.tc : Thread Cert.SmallUpdIdeal.nD Cert.SmallUpdIdeal.τ).loc Cert.SmallUpdIdeal.main_arg0)
      ∧ r.2.mem ((c.tc : Thread Cert.SmallUpdIdeal.nD Cert.SmallUpdIdeal.τ).loc Cert.SmallUpdIdeal.main_arg1) = m ((c.tc : Thread Cert.SmallUpdIdeal.nD Cert.SmallUpdIdeal.τ).loc Cert.SmallUpdIdeal.main_arg1)
      ∧ r.2.mem ((c.tc : Thread Cert.SmallUpdIdeal.nD Cert.SmallUpdIdeal.τ).loc Cert.SmallUpdIdeal.main_arg2) = m ((c.tc : Thread Cert.SmallUpdIdeal.nD Cert.SmallUpdIdeal.τ).loc Cert.SmallUpdIdeal.main_arg2)
      ∧ r.2.mem ((c.tc : Thread Cert.SmallUpdIdeal.nD Cert.SmallUpdIdeal.τ).loc Cert.SmallUpdIdeal.main_arg3) = m ((c.tc : Thread Cert.SmallUpdIdeal.nD Cert.SmallUpdIdeal.τ).loc Cert.SmallUpdIdeal.main_arg3)
      ∧ r.2.mem ((c.tc : Thread Cert.SmallUpdIdeal.nD Cert.SmallUpdIdeal.τ).loc Cert.SmallUpdIdeal.main_arg4) = m ((c.tc : Thread Cert.SmallUpdIdeal.nD Cert.SmallUpdIdeal.τ).loc Cert.SmallUpdIdeal.main_arg4))
      ∧ r.2.sem = fun _ => 0)

def quiescent_SmallUpdIdeal_pre_small_finite [hSmallUpdIdeal : Cert.SmallUpdIdeal.Facts] [hPre_small_finite : Cert.Pre_small_finite.Facts] : Prop :=
  ∀ (m : (ℓ : Loc Cert.SmallUpdIdeal.nD Cert.SmallUpdIdeal.τ Cert.SmallUpdIdeal.sig) → Buf (Elt Ideal) ℓ) (g : Dev Cert.SmallUpdIdeal.nD → PrngReg), Pre_SmallUpdIdeal_small_finite m →
    θ_run (Cert.SmallUpdIdeal.defs (F := Ideal)) (onTc (τ := Cert.SmallUpdIdeal.τ) (Cert.SmallUpdIdeal.main (F := Ideal))) ⟨m, fun _ => 0, g⟩ (fun r => (∀ c : Dev Cert.SmallUpdIdeal.nD,
      r.2.mem ((c.tc : Thread Cert.SmallUpdIdeal.nD Cert.SmallUpdIdeal.τ).loc Cert.SmallUpdIdeal.main_arg0) = m ((c.tc : Thread Cert.SmallUpdIdeal.nD Cert.SmallUpdIdeal.τ).loc Cert.SmallUpdIdeal.main_arg0)
      ∧ r.2.mem ((c.tc : Thread Cert.SmallUpdIdeal.nD Cert.SmallUpdIdeal.τ).loc Cert.SmallUpdIdeal.main_arg1) = m ((c.tc : Thread Cert.SmallUpdIdeal.nD Cert.SmallUpdIdeal.τ).loc Cert.SmallUpdIdeal.main_arg1)
      ∧ r.2.mem ((c.tc : Thread Cert.SmallUpdIdeal.nD Cert.SmallUpdIdeal.τ).loc Cert.SmallUpdIdeal.main_arg2) = m ((c.tc : Thread Cert.SmallUpdIdeal.nD Cert.SmallUpdIdeal.τ).loc Cert.SmallUpdIdeal.main_arg2)
      ∧ r.2.mem ((c.tc : Thread Cert.SmallUpdIdeal.nD Cert.SmallUpdIdeal.τ).loc Cert.SmallUpdIdeal.main_arg3) = m ((c.tc : Thread Cert.SmallUpdIdeal.nD Cert.SmallUpdIdeal.τ).loc Cert.SmallUpdIdeal.main_arg3)
      ∧ r.2.mem ((c.tc : Thread Cert.SmallUpdIdeal.nD Cert.SmallUpdIdeal.τ).loc Cert.SmallUpdIdeal.main_arg4) = m ((c.tc : Thread Cert.SmallUpdIdeal.nD Cert.SmallUpdIdeal.τ).loc Cert.SmallUpdIdeal.main_arg4))
      ∧ r.2.sem = fun _ => 0)

def quiescent_SmallUpdRefIdeal [hSmallUpdRefIdeal : Cert.SmallUpdRefIdeal.Facts] : Prop :=
  ∀ (m : (ℓ : Loc Cert.SmallUpdRefIdeal.nD Cert.SmallUpdRefIdeal.τ Cert.SmallUpdRefIdeal.sig) → Buf (Elt Ideal) ℓ) (g : Dev Cert.SmallUpdRefIdeal.nD → PrngReg), Pre_SmallUpdRefIdeal m →
    θ_run (Cert.SmallUpdRefIdeal.defs (F := Ideal)) (onTc (τ := Cert.SmallUpdRefIdeal.τ) (Cert.SmallUpdRefIdeal.main (F := Ideal))) ⟨m, fun _ => 0, g⟩ (fun r => (∀ c : Dev Cert.SmallUpdRefIdeal.nD,
      r.2.mem ((c.tc : Thread Cert.SmallUpdRefIdeal.nD Cert.SmallUpdRefIdeal.τ).loc Cert.SmallUpdRefIdeal.main_arg0) = m ((c.tc : Thread Cert.SmallUpdRefIdeal.nD Cert.SmallUpdRefIdeal.τ).loc Cert.SmallUpdRefIdeal.main_arg0)
      ∧ r.2.mem ((c.tc : Thread Cert.SmallUpdRefIdeal.nD Cert.SmallUpdRefIdeal.τ).loc Cert.SmallUpdRefIdeal.main_arg1) = m ((c.tc : Thread Cert.SmallUpdRefIdeal.nD Cert.SmallUpdRefIdeal.τ).loc Cert.SmallUpdRefIdeal.main_arg1)
      ∧ r.2.mem ((c.tc : Thread Cert.SmallUpdRefIdeal.nD Cert.SmallUpdRefIdeal.τ).loc Cert.SmallUpdRefIdeal.main_arg2) = m ((c.tc : Thread Cert.SmallUpdRefIdeal.nD Cert.SmallUpdRefIdeal.τ).loc Cert.SmallUpdRefIdeal.main_arg2)
      ∧ r.2.mem ((c.tc : Thread Cert.SmallUpdRefIdeal.nD Cert.SmallUpdRefIdeal.τ).loc Cert.SmallUpdRefIdeal.main_arg3) = m ((c.tc : Thread Cert.SmallUpdRefIdeal.nD Cert.SmallUpdRefIdeal.τ).loc Cert.SmallUpdRefIdeal.main_arg3)
      ∧ r.2.mem ((c.tc : Thread Cert.SmallUpdRefIdeal.nD Cert.SmallUpdRefIdeal.τ).loc Cert.SmallUpdRefIdeal.main_arg4) = m ((c.tc : Thread Cert.SmallUpdRefIdeal.nD Cert.SmallUpdRefIdeal.τ).loc Cert.SmallUpdRefIdeal.main_arg4))
      ∧ r.2.sem = fun _ => 0)

def quiescent_SmallUpdRefIdeal_pre_small_finite [hSmallUpdRefIdeal : Cert.SmallUpdRefIdeal.Facts] [hPre_small_finite : Cert.Pre_small_finite.Facts] : Prop :=
  ∀ (m : (ℓ : Loc Cert.SmallUpdRefIdeal.nD Cert.SmallUpdRefIdeal.τ Cert.SmallUpdRefIdeal.sig) → Buf (Elt Ideal) ℓ) (g : Dev Cert.SmallUpdRefIdeal.nD → PrngReg), Pre_SmallUpdRefIdeal_small_finite m →
    θ_run (Cert.SmallUpdRefIdeal.defs (F := Ideal)) (onTc (τ := Cert.SmallUpdRefIdeal.τ) (Cert.SmallUpdRefIdeal.main (F := Ideal))) ⟨m, fun _ => 0, g⟩ (fun r => (∀ c : Dev Cert.SmallUpdRefIdeal.nD,
      r.2.mem ((c.tc : Thread Cert.SmallUpdRefIdeal.nD Cert.SmallUpdRefIdeal.τ).loc Cert.SmallUpdRefIdeal.main_arg0) = m ((c.tc : Thread Cert.SmallUpdRefIdeal.nD Cert.SmallUpdRefIdeal.τ).loc Cert.SmallUpdRefIdeal.main_arg0)
      ∧ r.2.mem ((c.tc : Thread Cert.SmallUpdRefIdeal.nD Cert.SmallUpdRefIdeal.τ).loc Cert.SmallUpdRefIdeal.main_arg1) = m ((c.tc : Thread Cert.SmallUpdRefIdeal.nD Cert.SmallUpdRefIdeal.τ).loc Cert.SmallUpdRefIdeal.main_arg1)
      ∧ r.2.mem ((c.tc : Thread Cert.SmallUpdRefIdeal.nD Cert.SmallUpdRefIdeal.τ).loc Cert.SmallUpdRefIdeal.main_arg2) = m ((c.tc : Thread Cert.SmallUpdRefIdeal.nD Cert.SmallUpdRefIdeal.τ).loc Cert.SmallUpdRefIdeal.main_arg2)
      ∧ r.2.mem ((c.tc : Thread Cert.SmallUpdRefIdeal.nD Cert.SmallUpdRefIdeal.τ).loc Cert.SmallUpdRefIdeal.main_arg3) = m ((c.tc : Thread Cert.SmallUpdRefIdeal.nD Cert.SmallUpdRefIdeal.τ).loc Cert.SmallUpdRefIdeal.main_arg3)
      ∧ r.2.mem ((c.tc : Thread Cert.SmallUpdRefIdeal.nD Cert.SmallUpdRefIdeal.τ).loc Cert.SmallUpdRefIdeal.main_arg4) = m ((c.tc : Thread Cert.SmallUpdRefIdeal.nD Cert.SmallUpdRefIdeal.τ).loc Cert.SmallUpdRefIdeal.main_arg4))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def preserves_Ffn_FfnIdeal : Prop :=
  True

def algebraic_FfnIdeal_FfnRefIdeal_pre_finite [hFfnIdeal : Cert.FfnIdeal.Facts] [hFfnRefIdeal : Cert.FfnRefIdeal.Facts] [hPre_finite : Cert.Pre_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v29_0)) (v1 : (c : Dev Cert.FfnIdeal.nD) → Buf (Elt Ideal) ((c.tc : Thread Cert.FfnIdeal.nD Cert.FfnIdeal.τ).loc Cert.FfnIdeal.main_v29_1)) (v2 : (c : Dev Cert.FfnIdeal.nD) → Buf (Elt Ideal) ((c.tc : Thread Cert.FfnIdeal.nD Cert.FfnIdeal.τ).loc Cert.FfnIdeal.main_v29_2)) (v3 : (c : Dev Cert.FfnIdeal.nD) → Buf (Elt Ideal) ((c.tc : Thread Cert.FfnIdeal.nD Cert.FfnIdeal.τ).loc Cert.FfnIdeal.main_v29_3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v29_0) = v0 c
          ∧ r.2.mem ((c.tc : Thread Cert.FfnIdeal.nD Cert.FfnIdeal.τ).loc Cert.FfnIdeal.main_v29_1) = v1 c
          ∧ r.2.mem ((c.tc : Thread Cert.FfnIdeal.nD Cert.FfnIdeal.τ).loc Cert.FfnIdeal.main_v29_2) = v2 c
          ∧ r.2.mem ((c.tc : Thread Cert.FfnIdeal.nD Cert.FfnIdeal.τ).loc Cert.FfnIdeal.main_v29_3) = v3 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v75) = v0 c
          ∧ r.2.mem ((c.tc : Thread Cert.FfnRefIdeal.nD Cert.FfnRefIdeal.τ).loc Cert.FfnRefIdeal.main_v76) = v1 c
          ∧ r.2.mem ((c.tc : Thread Cert.FfnRefIdeal.nD Cert.FfnRefIdeal.τ).loc Cert.FfnRefIdeal.main_v78) = v2 c
          ∧ r.2.mem ((c.tc : Thread Cert.FfnRefIdeal.nD Cert.FfnRefIdeal.τ).loc Cert.FfnRefIdeal.main_v41) = v3 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Wgrad_WgradIdeal : Prop :=
  True

def algebraic_WgradIdeal_WgradRefIdeal [hWgradIdeal : Cert.WgradIdeal.Facts] [hWgradRefIdeal : Cert.WgradRefIdeal.Facts] : Prop :=
  ∀ (m : (ℓ : Loc Cert.WgradIdeal.nD Cert.WgradIdeal.τ Cert.WgradIdeal.sig) → Buf (Elt Ideal) ℓ) (g : Dev Cert.WgradIdeal.nD → PrngReg)
    (m' : (ℓ : Loc Cert.WgradRefIdeal.nD Cert.WgradRefIdeal.τ Cert.WgradRefIdeal.sig) → Buf (Elt Ideal) ℓ) (g' : Dev Cert.WgradRefIdeal.nD → PrngReg), Pre_WgradIdeal m →
    (∀ c : Dev Cert.WgradIdeal.nD,
      m' ((c.tc : Thread Cert.WgradRefIdeal.nD Cert.WgradRefIdeal.τ).loc Cert.WgradRefIdeal.main_arg0) = m ((c.tc : Thread Cert.WgradIdeal.nD Cert.WgradIdeal.τ).loc Cert.WgradIdeal.main_arg0)
      ∧ m' ((c.tc : Thread Cert.WgradRefIdeal.nD Cert.WgradRefIdeal.τ).loc Cert.WgradRefIdeal.main_arg1) = m ((c.tc : Thread Cert.WgradIdeal.nD Cert.WgradIdeal.τ).loc Cert.WgradIdeal.main_arg1)) →
    ∃ (v0 : (c : Dev Cert.WgradIdeal.nD) → Buf (Elt Ideal) ((c.tc : Thread Cert.WgradIdeal.nD Cert.WgradIdeal.τ).loc Cert.WgradIdeal.main_v0)),
      θ_run (Cert.WgradIdeal.defs (F := Ideal)) (onTc (τ := Cert.WgradIdeal.τ) (Cert.WgradIdeal.main (F := Ideal))) ⟨m, fun _ => 0, g⟩ (fun r => ∀ c : Dev Cert.WgradIdeal.nD,
          r.2.mem ((c.tc : Thread Cert.WgradIdeal.nD Cert.WgradIdeal.τ).loc Cert.WgradIdeal.main_v0) = v0 c
          ∧ r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
          ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1))
      ∧ θ_run (Cert.WgradRefIdeal.defs (F := Ideal)) (onTc (τ := Cert.WgradRefIdeal.τ) (Cert.WgradRefIdeal.main (F := Ideal))) ⟨m', fun _ => 0, g'⟩ (fun r => ∀ c : Dev Cert.WgradRefIdeal.nD,
          r.2.mem ((c.tc : Thread Cert.WgradRefIdeal.nD Cert.WgradRefIdeal.τ).loc Cert.WgradRefIdeal.main_v6) = v0 c
          ∧ r.2.mem ((c.tc : Thread Cert.WgradRefIdeal.nD Cert.WgradRefIdeal.τ).loc Cert.WgradRefIdeal.main_arg0) = m' ((c.tc : Thread Cert.WgradRefIdeal.nD Cert.WgradRefIdeal.τ).loc Cert.WgradRefIdeal.main_arg0)
          ∧ r.2.mem ((c.tc : Thread Cert.WgradRefIdeal.nD Cert.WgradRefIdeal.τ).loc Cert.WgradRefIdeal.main_arg1) = m' ((c.tc : Thread Cert.WgradRefIdeal.nD Cert.WgradRefIdeal.τ).loc Cert.WgradRefIdeal.main_arg1))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)
      ∧ m' ((c.tc : Thread Cert.FfnInRefIdeal.nD Cert.FfnInRefIdeal.τ).loc Cert.FfnInRefIdeal.main_arg3) = m ((c.tc : Thread Cert.FfnInIdeal.nD Cert.FfnInIdeal.τ).loc Cert.FfnInIdeal.main_arg3)
      ∧ m' ((c.tc : Thread Cert.FfnInRefIdeal.nD Cert.FfnInRefIdeal.τ).loc Cert.FfnInRefIdeal.main_arg4) = m ((c.tc : Thread Cert.FfnInIdeal.nD Cert.FfnInIdeal.τ).loc Cert.FfnInIdeal.main_arg4)) →
    ∃ (v0 : (c : Dev Cert.FfnInIdeal.nD) → Buf (Elt Ideal) ((c.tc : Thread Cert.FfnInIdeal.nD Cert.FfnInIdeal.τ).loc Cert.FfnInIdeal.main_v2_0)) (v1 : (c : Dev Cert.FfnInIdeal.nD) → Buf (Elt Ideal) ((c.tc : Thread Cert.FfnInIdeal.nD Cert.FfnInIdeal.τ).loc Cert.FfnInIdeal.main_v2_1)) (v2 : (c : Dev Cert.FfnInIdeal.nD) → Buf (Elt Ideal) ((c.tc : Thread Cert.FfnInIdeal.nD Cert.FfnInIdeal.τ).loc Cert.FfnInIdeal.main_v2_2)) (v3 : (c : Dev Cert.FfnInIdeal.nD) → Buf (Elt Ideal) ((c.tc : Thread Cert.FfnInIdeal.nD Cert.FfnInIdeal.τ).loc Cert.FfnInIdeal.main_v2_3)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v2_0) = v0 c
          ∧ r.2.mem ((c.tc : Thread Cert.FfnInIdeal.nD Cert.FfnInIdeal.τ).loc Cert.FfnInIdeal.main_v2_1) = v1 c
          ∧ r.2.mem ((c.tc : Thread Cert.FfnInIdeal.nD Cert.FfnInIdeal.τ).loc Cert.FfnInIdeal.main_v2_2) = v2 c
          ∧ r.2.mem ((c.tc : Thread Cert.FfnInIdeal.nD Cert.FfnInIdeal.τ).loc Cert.FfnInIdeal.main_v2_3) = v3 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
          ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
          ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v33) = v0 c
          ∧ r.2.mem ((c.tc : Thread Cert.FfnInRefIdeal.nD Cert.FfnInRefIdeal.τ).loc Cert.FfnInRefIdeal.main_v34) = v1 c
          ∧ r.2.mem ((c.tc : Thread Cert.FfnInRefIdeal.nD Cert.FfnInRefIdeal.τ).loc Cert.FfnInRefIdeal.main_v32) = v2 c
          ∧ r.2.mem ((c.tc : Thread Cert.FfnInRefIdeal.nD Cert.FfnInRefIdeal.τ).loc Cert.FfnInRefIdeal.main_v37) = v3 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2)
          ∧ r.2.mem ((c.tc : Thread Cert.FfnInRefIdeal.nD Cert.FfnInRefIdeal.τ).loc Cert.FfnInRefIdeal.main_arg3) = m' ((c.tc : Thread Cert.FfnInRefIdeal.nD Cert.FfnInRefIdeal.τ).loc Cert.FfnInRefIdeal.main_arg3)
          ∧ r.2.mem ((c.tc : Thread Cert.FfnInRefIdeal.nD Cert.FfnInRefIdeal.τ).loc Cert.FfnInRefIdeal.main_arg4) = m' ((c.tc : Thread Cert.FfnInRefIdeal.nD Cert.FfnInRefIdeal.τ).loc Cert.FfnInRefIdeal.main_arg4))

def preserves_NormBack_NormBackIdeal : Prop :=
  True

def algebraic_NormBackIdeal_NormBackRefIdeal_pre_norm_finite [hNormBackIdeal : Cert.NormBackIdeal.Facts] [hNormBackRefIdeal : Cert.NormBackRefIdeal.Facts] [hPre_norm_finite : Cert.Pre_norm_finite.Facts] : Prop :=
  ∀ (m : (ℓ : Loc Cert.NormBackIdeal.nD Cert.NormBackIdeal.τ Cert.NormBackIdeal.sig) → Buf (Elt Ideal) ℓ) (g : Dev Cert.NormBackIdeal.nD → PrngReg)
    (m' : (ℓ : Loc Cert.NormBackRefIdeal.nD Cert.NormBackRefIdeal.τ Cert.NormBackRefIdeal.sig) → Buf (Elt Ideal) ℓ) (g' : Dev Cert.NormBackRefIdeal.nD → PrngReg), Pre_NormBackIdeal_norm_finite m →
    (∀ c : Dev Cert.NormBackIdeal.nD,
      m' ((c.tc : Thread Cert.NormBackRefIdeal.nD Cert.NormBackRefIdeal.τ).loc Cert.NormBackRefIdeal.main_arg0) = m ((c.tc : Thread Cert.NormBackIdeal.nD Cert.NormBackIdeal.τ).loc Cert.NormBackIdeal.main_arg0)
      ∧ m' ((c.tc : Thread Cert.NormBackRefIdeal.nD Cert.NormBackRefIdeal.τ).loc Cert.NormBackRefIdeal.main_arg1) = m ((c.tc : Thread Cert.NormBackIdeal.nD Cert.NormBackIdeal.τ).loc Cert.NormBackIdeal.main_arg1)
      ∧ m' ((c.tc : Thread Cert.NormBackRefIdeal.nD Cert.NormBackRefIdeal.τ).loc Cert.NormBackRefIdeal.main_arg2) = m ((c.tc : Thread Cert.NormBackIdeal.nD Cert.NormBackIdeal.τ).loc Cert.NormBackIdeal.main_arg2)
      ∧ m' ((c.tc : Thread Cert.NormBackRefIdeal.nD Cert.NormBackRefIdeal.τ).loc Cert.NormBackRefIdeal.main_arg3) = m ((c.tc : Thread Cert.NormBackIdeal.nD Cert.NormBackIdeal.τ).loc Cert.NormBackIdeal.main_arg3)
      ∧ m' ((c.tc : Thread Cert.NormBackRefIdeal.nD Cert.NormBackRefIdeal.τ).loc Cert.NormBackRefIdeal.main_arg4) = m ((c.tc : Thread Cert.NormBackIdeal.nD Cert.NormBackIdeal.τ).loc Cert.NormBackIdeal.main_arg4)
      ∧ m' ((c.tc : Thread Cert.NormBackRefIdeal.nD Cert.NormBackRefIdeal.τ).loc Cert.NormBackRefIdeal.main_arg5) = m ((c.tc : Thread Cert.NormBackIdeal.nD Cert.NormBackIdeal.τ).loc Cert.NormBackIdeal.main_arg5)
      ∧ m' ((c.tc : Thread Cert.NormBackRefIdeal.nD Cert.NormBackRefIdeal.τ).loc Cert.NormBackRefIdeal.main_arg6) = m ((c.tc : Thread Cert.NormBackIdeal.nD Cert.NormBackIdeal.τ).loc Cert.NormBackIdeal.main_arg6)) →
    ∃ (v0 : (c : Dev Cert.NormBackIdeal.nD) → Buf (Elt Ideal) ((c.tc : Thread Cert.NormBackIdeal.nD Cert.NormBackIdeal.τ).loc Cert.NormBackIdeal.main_v0_0)) (v1 : (c : Dev Cert.NormBackIdeal.nD) → Buf (Elt Ideal) ((c.tc : Thread Cert.NormBackIdeal.nD Cert.NormBackIdeal.τ).loc Cert.NormBackIdeal.main_v0_1)) (v2 : (c : Dev Cert.NormBackIdeal.nD) → Buf (Elt Ideal) ((c.tc : Thread Cert.NormBackIdeal.nD Cert.NormBackIdeal.τ).loc Cert.NormBackIdeal.main_v0_2)),
      θ_run (Cert.NormBackIdeal.defs (F := Ideal)) (onTc (τ := Cert.NormBackIdeal.τ) (Cert.NormBackIdeal.main (F := Ideal))) ⟨m, fun _ => 0, g⟩ (fun r => ∀ c : Dev Cert.NormBackIdeal.nD,
          r.2.mem ((c.tc : Thread Cert.NormBackIdeal.nD Cert.NormBackIdeal.τ).loc Cert.NormBackIdeal.main_v0_0) = v0 c
          ∧ r.2.mem ((c.tc : Thread Cert.NormBackIdeal.nD Cert.NormBackIdeal.τ).loc Cert.NormBackIdeal.main_v0_1) = v1 c
          ∧ r.2.mem ((c.tc : Thread Cert.NormBackIdeal.nD Cert.NormBackIdeal.τ).loc Cert.NormBackIdeal.main_v0_2) = v2 c
          ∧ r.2.mem ((c.tc : Thread Cert.NormBackIdeal.nD Cert.NormBackIdeal.τ).loc Cert.NormBackIdeal.main_arg0) = m ((c.tc : Thread Cert.NormBackIdeal.nD Cert.NormBackIdeal.τ).loc Cert.NormBackIdeal.main_arg0)
          ∧ r.2.mem ((c.tc : Thread Cert.NormBackIdeal.nD Cert.NormBackIdeal.τ).loc Cert.NormBackIdeal.main_arg1) = m ((c.tc : Thread Cert.NormBackIdeal.nD Cert.NormBackIdeal.τ).loc Cert.NormBackIdeal.main_arg1)
          ∧ r.2.mem ((c.tc : Thread Cert.NormBackIdeal.nD Cert.NormBackIdeal.τ).loc Cert.NormBackIdeal.main_arg2) = m ((c.tc : Thread Cert.NormBackIdeal.nD Cert.NormBackIdeal.τ).loc Cert.NormBackIdeal.main_arg2)
          ∧ r.2.mem ((c.tc : Thread Cert.NormBackIdeal.nD Cert.NormBackIdeal.τ).loc Cert.NormBackIdeal.main_arg3) = m ((c.tc : Thread Cert.NormBackIdeal.nD Cert.NormBackIdeal.τ).loc Cert.NormBackIdeal.main_arg3)
          ∧ r.2.mem ((c.tc : Thread Cert.NormBackIdeal.nD Cert.NormBackIdeal.τ).loc Cert.NormBackIdeal.main_arg4) = m ((c.tc : Thread Cert.NormBackIdeal.nD Cert.NormBackIdeal.τ).loc Cert.NormBackIdeal.main_arg4)
          ∧ r.2.mem ((c.tc : Thread Cert.NormBackIdeal.nD Cert.NormBackIdeal.τ).loc Cert.NormBackIdeal.main_arg5) = m ((c.tc : Thread Cert.NormBackIdeal.nD Cert.NormBackIdeal.τ).loc Cert.NormBackIdeal.main_arg5)
          ∧ r.2.mem ((c.tc : Thread Cert.NormBackIdeal.nD Cert.NormBackIdeal.τ).loc Cert.NormBackIdeal.main_arg6) = m ((c.tc : Thread Cert.NormBackIdeal.nD Cert.NormBackIdeal.τ).loc Cert.NormBackIdeal.main_arg6))
      ∧ θ_run (Cert.NormBackRefIdeal.defs (F := Ideal)) (onTc (τ := Cert.NormBackRefIdeal.τ) (Cert.NormBackRefIdeal.main (F := Ideal))) ⟨m', fun _ => 0, g'⟩ (fun r => ∀ c : Dev Cert.NormBackRefIdeal.nD,
          r.2.mem ((c.tc : Thread Cert.NormBackRefIdeal.nD Cert.NormBackRefIdeal.τ).loc Cert.NormBackRefIdeal.main_v45) = v0 c
          ∧ r.2.mem ((c.tc : Thread Cert.NormBackRefIdeal.nD Cert.NormBackRefIdeal.τ).loc Cert.NormBackRefIdeal.main_v46) = v1 c
          ∧ r.2.mem ((c.tc : Thread Cert.NormBackRefIdeal.nD Cert.NormBackRefIdeal.τ).loc Cert.NormBackRefIdeal.main_v28) = v2 c
          ∧ r.2.mem ((c.tc : Thread Cert.NormBackRefIdeal.nD Cert.NormBackRefIdeal.τ).loc Cert.NormBackRefIdeal.main_arg0) = m' ((c.tc : Thread Cert.NormBackRefIdeal.nD Cert.NormBackRefIdeal.τ).loc Cert.NormBackRefIdeal.main_arg0)
          ∧ r.2.mem ((c.tc : Thread Cert.NormBackRefIdeal.nD Cert.NormBackRefIdeal.τ).loc Cert.NormBackRefIdeal.main_arg1) = m' ((c.tc : Thread Cert.NormBackRefIdeal.nD Cert.NormBackRefIdeal.τ).loc Cert.NormBackRefIdeal.main_arg1)
          ∧ r.2.mem ((c.tc : Thread Cert.NormBackRefIdeal.nD Cert.NormBackRefIdeal.τ).loc Cert.NormBackRefIdeal.main_arg2) = m' ((c.tc : Thread Cert.NormBackRefIdeal.nD Cert.NormBackRefIdeal.τ).loc Cert.NormBackRefIdeal.main_arg2)
          ∧ r.2.mem ((c.tc : Thread Cert.NormBackRefIdeal.nD Cert.NormBackRefIdeal.τ).loc Cert.NormBackRefIdeal.main_arg3) = m' ((c.tc : Thread Cert.NormBackRefIdeal.nD Cert.NormBackRefIdeal.τ).loc Cert.NormBackRefIdeal.main_arg3)
          ∧ r.2.mem ((c.tc : Thread Cert.NormBackRefIdeal.nD Cert.NormBackRefIdeal.τ).loc Cert.NormBackRefIdeal.main_arg4) = m' ((c.tc : Thread Cert.NormBackRefIdeal.nD Cert.NormBackRefIdeal.τ).loc Cert.NormBackRefIdeal.main_arg4)
          ∧ r.2.mem ((c.tc : Thread Cert.NormBackRefIdeal.nD Cert.NormBackRefIdeal.τ).loc Cert.NormBackRefIdeal.main_arg5) = m' ((c.tc : Thread Cert.NormBackRefIdeal.nD Cert.NormBackRefIdeal.τ).loc Cert.NormBackRefIdeal.main_arg5)
          ∧ r.2.mem ((c.tc : Thread Cert.NormBackRefIdeal.nD Cert.NormBackRefIdeal.τ).loc Cert.NormBackRefIdeal.main_arg6) = m' ((c.tc : Thread Cert.NormBackRefIdeal.nD Cert.NormBackRefIdeal.τ).loc Cert.NormBackRefIdeal.main_arg6))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0_0)) (v1 : (c : Dev Cert.InProjIdeal.nD) → Buf (Elt Ideal) ((c.tc : Thread Cert.InProjIdeal.nD Cert.InProjIdeal.τ).loc Cert.InProjIdeal.main_v0_1)) (v2 : (c : Dev Cert.InProjIdeal.nD) → Buf (Elt Ideal) ((c.tc : Thread Cert.InProjIdeal.nD Cert.InProjIdeal.τ).loc Cert.InProjIdeal.main_v0_2)) (v3 : (c : Dev Cert.InProjIdeal.nD) → Buf (Elt Ideal) ((c.tc : Thread Cert.InProjIdeal.nD Cert.InProjIdeal.τ).loc Cert.InProjIdeal.main_v0_3)) (v4 : (c : Dev Cert.InProjIdeal.nD) → Buf (Elt Ideal) ((c.tc : Thread Cert.InProjIdeal.nD Cert.InProjIdeal.τ).loc Cert.InProjIdeal.main_v0_4)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_v0_1) = v1 c
          ∧ r.2.mem ((c.tc : Thread Cert.InProjIdeal.nD Cert.InProjIdeal.τ).loc Cert.InProjIdeal.main_v0_2) = v2 c
          ∧ r.2.mem ((c.tc : Thread Cert.InProjIdeal.nD Cert.InProjIdeal.τ).loc Cert.InProjIdeal.main_v0_3) = v3 c
          ∧ r.2.mem ((c.tc : Thread Cert.InProjIdeal.nD Cert.InProjIdeal.τ).loc Cert.InProjIdeal.main_v0_4) = v4 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v4) = v0 c
          ∧ r.2.mem ((c.tc : Thread Cert.InProjRefIdeal.nD Cert.InProjRefIdeal.τ).loc Cert.InProjRefIdeal.main_v5) = v1 c
          ∧ r.2.mem ((c.tc : Thread Cert.InProjRefIdeal.nD Cert.InProjRefIdeal.τ).loc Cert.InProjRefIdeal.main_v6) = v2 c
          ∧ r.2.mem ((c.tc : Thread Cert.InProjRefIdeal.nD Cert.InProjRefIdeal.τ).loc Cert.InProjRefIdeal.main_v7) = v3 c
          ∧ r.2.mem ((c.tc : Thread Cert.InProjRefIdeal.nD Cert.InProjRefIdeal.τ).loc Cert.InProjRefIdeal.main_v8) = v4 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_InGrad_InGradIdeal : Prop :=
  True

def algebraic_InGradIdeal_InGradRefIdeal [hInGradIdeal : Cert.InGradIdeal.Facts] [hInGradRefIdeal : Cert.InGradRefIdeal.Facts] : Prop :=
  ∀ (m : (ℓ : Loc Cert.InGradIdeal.nD Cert.InGradIdeal.τ Cert.InGradIdeal.sig) → Buf (Elt Ideal) ℓ) (g : Dev Cert.InGradIdeal.nD → PrngReg)
    (m' : (ℓ : Loc Cert.InGradRefIdeal.nD Cert.InGradRefIdeal.τ Cert.InGradRefIdeal.sig) → Buf (Elt Ideal) ℓ) (g' : Dev Cert.InGradRefIdeal.nD → PrngReg), Pre_InGradIdeal m →
    (∀ c : Dev Cert.InGradIdeal.nD,
      m' ((c.tc : Thread Cert.InGradRefIdeal.nD Cert.InGradRefIdeal.τ).loc Cert.InGradRefIdeal.main_arg0) = m ((c.tc : Thread Cert.InGradIdeal.nD Cert.InGradIdeal.τ).loc Cert.InGradIdeal.main_arg0)
      ∧ m' ((c.tc : Thread Cert.InGradRefIdeal.nD Cert.InGradRefIdeal.τ).loc Cert.InGradRefIdeal.main_arg1) = m ((c.tc : Thread Cert.InGradIdeal.nD Cert.InGradIdeal.τ).loc Cert.InGradIdeal.main_arg1)
      ∧ m' ((c.tc : Thread Cert.InGradRefIdeal.nD Cert.InGradRefIdeal.τ).loc Cert.InGradRefIdeal.main_arg2) = m ((c.tc : Thread Cert.InGradIdeal.nD Cert.InGradIdeal.τ).loc Cert.InGradIdeal.main_arg2)
      ∧ m' ((c.tc : Thread Cert.InGradRefIdeal.nD Cert.InGradRefIdeal.τ).loc Cert.InGradRefIdeal.main_arg3) = m ((c.tc : Thread Cert.InGradIdeal.nD Cert.InGradIdeal.τ).loc Cert.InGradIdeal.main_arg3)
      ∧ m' ((c.tc : Thread Cert.InGradRefIdeal.nD Cert.InGradRefIdeal.τ).loc Cert.InGradRefIdeal.main_arg4) = m ((c.tc : Thread Cert.InGradIdeal.nD Cert.InGradIdeal.τ).loc Cert.InGradIdeal.main_arg4)
      ∧ m' ((c.tc : Thread Cert.InGradRefIdeal.nD Cert.InGradRefIdeal.τ).loc Cert.InGradRefIdeal.main_arg5) = m ((c.tc : Thread Cert.InGradIdeal.nD Cert.InGradIdeal.τ).loc Cert.InGradIdeal.main_arg5)
      ∧ m' ((c.tc : Thread Cert.InGradRefIdeal.nD Cert.InGradRefIdeal.τ).loc Cert.InGradRefIdeal.main_arg6) = m ((c.tc : Thread Cert.InGradIdeal.nD Cert.InGradIdeal.τ).loc Cert.InGradIdeal.main_arg6)) →
    ∃ (v0 : (c : Dev Cert.InGradIdeal.nD) → Buf (Elt Ideal) ((c.tc : Thread Cert.InGradIdeal.nD Cert.InGradIdeal.τ).loc Cert.InGradIdeal.main_v0)),
      θ_run (Cert.InGradIdeal.defs (F := Ideal)) (onTc (τ := Cert.InGradIdeal.τ) (Cert.InGradIdeal.main (F := Ideal))) ⟨m, fun _ => 0, g⟩ (fun r => ∀ c : Dev Cert.InGradIdeal.nD,
          r.2.mem ((c.tc : Thread Cert.InGradIdeal.nD Cert.InGradIdeal.τ).loc Cert.InGradIdeal.main_v0) = v0 c
          ∧ r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
          ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1)
          ∧ r.2.mem ((c.tc : Thread Cert.InGradIdeal.nD Cert.InGradIdeal.τ).loc Cert.InGradIdeal.main_arg2) = m ((c.tc : Thread Cert.InGradIdeal.nD Cert.InGradIdeal.τ).loc Cert.InGradIdeal.main_arg2)
          ∧ r.2.mem ((c.tc : Thread Cert.InGradIdeal.nD Cert.InGradIdeal.τ).loc Cert.InGradIdeal.main_arg3) = m ((c.tc : Thread Cert.InGradIdeal.nD Cert.InGradIdeal.τ).loc Cert.InGradIdeal.main_arg3)
          ∧ r.2.mem ((c.tc : Thread Cert.InGradIdeal.nD Cert.InGradIdeal.τ).loc Cert.InGradIdeal.main_arg4) = m ((c.tc : Thread Cert.InGradIdeal.nD Cert.InGradIdeal.τ).loc Cert.InGradIdeal.main_arg4)
          ∧ r.2.mem ((c.tc : Thread Cert.InGradIdeal.nD Cert.InGradIdeal.τ).loc Cert.InGradIdeal.main_arg5) = m ((c.tc : Thread Cert.InGradIdeal.nD Cert.InGradIdeal.τ).loc Cert.InGradIdeal.main_arg5)
          ∧ r.2.mem ((c.tc : Thread Cert.InGradIdeal.nD Cert.InGradIdeal.τ).loc Cert.InGradIdeal.main_arg6) = m ((c.tc : Thread Cert.InGradIdeal.nD Cert.InGradIdeal.τ).loc Cert.InGradIdeal.main_arg6))
      ∧ θ_run (Cert.InGradRefIdeal.defs (F := Ideal)) (onTc (τ := Cert.InGradRefIdeal.τ) (Cert.InGradRefIdeal.main (F := Ideal))) ⟨m', fun _ => 0, g'⟩ (fun r => ∀ c : Dev Cert.InGradRefIdeal.nD,
          r.2.mem ((c.tc : Thread Cert.InGradRefIdeal.nD Cert.InGradRefIdeal.τ).loc Cert.InGradRefIdeal.main_v14) = v0 c
          ∧ r.2.mem ((c.tc : Thread Cert.InGradRefIdeal.nD Cert.InGradRefIdeal.τ).loc Cert.InGradRefIdeal.main_arg0) = m' ((c.tc : Thread Cert.InGradRefIdeal.nD Cert.InGradRefIdeal.τ).loc Cert.InGradRefIdeal.main_arg0)
          ∧ r.2.mem ((c.tc : Thread Cert.InGradRefIdeal.nD Cert.InGradRefIdeal.τ).loc Cert.InGradRefIdeal.main_arg1) = m' ((c.tc : Thread Cert.InGradRefIdeal.nD Cert.InGradRefIdeal.τ).loc Cert.InGradRefIdeal.main_arg1)
          ∧ r.2.mem ((c.tc : Thread Cert.InGradRefIdeal.nD Cert.InGradRefIdeal.τ).loc Cert.InGradRefIdeal.main_arg2) = m' ((c.tc : Thread Cert.InGradRefIdeal.nD Cert.InGradRefIdeal.τ).loc Cert.InGradRefIdeal.main_arg2)
          ∧ r.2.mem ((c.tc : Thread Cert.InGradRefIdeal.nD Cert.InGradRefIdeal.τ).loc Cert.InGradRefIdeal.main_arg3) = m' ((c.tc : Thread Cert.InGradRefIdeal.nD Cert.InGradRefIdeal.τ).loc Cert.InGradRefIdeal.main_arg3)
          ∧ r.2.mem ((c.tc : Thread Cert.InGradRefIdeal.nD Cert.InGradRefIdeal.τ).loc Cert.InGradRefIdeal.main_arg4) = m' ((c.tc : Thread Cert.InGradRefIdeal.nD Cert.InGradRefIdeal.τ).loc Cert.InGradRefIdeal.main_arg4)
          ∧ r.2.mem ((c.tc : Thread Cert.InGradRefIdeal.nD Cert.InGradRefIdeal.τ).loc Cert.InGradRefIdeal.main_arg5) = m' ((c.tc : Thread Cert.InGradRefIdeal.nD Cert.InGradRefIdeal.τ).loc Cert.InGradRefIdeal.main_arg5)
          ∧ r.2.mem ((c.tc : Thread Cert.InGradRefIdeal.nD Cert.InGradRefIdeal.τ).loc Cert.InGradRefIdeal.main_arg6) = m' ((c.tc : Thread Cert.InGradRefIdeal.nD Cert.InGradRefIdeal.τ).loc Cert.InGradRefIdeal.main_arg6))

def preserves_InBack_InBackIdeal : Prop :=
  True

def algebraic_InBackIdeal_InBackRefIdeal_pre_in_finite [hInBackIdeal : Cert.InBackIdeal.Facts] [hInBackRefIdeal : Cert.InBackRefIdeal.Facts] [hPre_in_finite : Cert.Pre_in_finite.Facts] : Prop :=
  ∀ (m : (ℓ : Loc Cert.InBackIdeal.nD Cert.InBackIdeal.τ Cert.InBackIdeal.sig) → Buf (Elt Ideal) ℓ) (g : Dev Cert.InBackIdeal.nD → PrngReg)
    (m' : (ℓ : Loc Cert.InBackRefIdeal.nD Cert.InBackRefIdeal.τ Cert.InBackRefIdeal.sig) → Buf (Elt Ideal) ℓ) (g' : Dev Cert.InBackRefIdeal.nD → PrngReg), Pre_InBackIdeal_in_finite m →
    (∀ c : Dev Cert.InBackIdeal.nD,
      m' ((c.tc : Thread Cert.InBackRefIdeal.nD Cert.InBackRefIdeal.τ).loc Cert.InBackRefIdeal.main_arg0) = m ((c.tc : Thread Cert.InBackIdeal.nD Cert.InBackIdeal.τ).loc Cert.InBackIdeal.main_arg0)
      ∧ m' ((c.tc : Thread Cert.InBackRefIdeal.nD Cert.InBackRefIdeal.τ).loc Cert.InBackRefIdeal.main_arg1) = m ((c.tc : Thread Cert.InBackIdeal.nD Cert.InBackIdeal.τ).loc Cert.InBackIdeal.main_arg1)
      ∧ m' ((c.tc : Thread Cert.InBackRefIdeal.nD Cert.InBackRefIdeal.τ).loc Cert.InBackRefIdeal.main_arg2) = m ((c.tc : Thread Cert.InBackIdeal.nD Cert.InBackIdeal.τ).loc Cert.InBackIdeal.main_arg2)
      ∧ m' ((c.tc : Thread Cert.InBackRefIdeal.nD Cert.InBackRefIdeal.τ).loc Cert.InBackRefIdeal.main_arg3) = m ((c.tc : Thread Cert.InBackIdeal.nD Cert.InBackIdeal.τ).loc Cert.InBackIdeal.main_arg3)
      ∧ m' ((c.tc : Thread Cert.InBackRefIdeal.nD Cert.InBackRefIdeal.τ).loc Cert.InBackRefIdeal.main_arg4) = m ((c.tc : Thread Cert.InBackIdeal.nD Cert.InBackIdeal.τ).loc Cert.InBackIdeal.main_arg4)
      ∧ m' ((c.tc : Thread Cert.InBackRefIdeal.nD Cert.InBackRefIdeal.τ).loc Cert.InBackRefIdeal.main_arg5) = m ((c.tc : Thread Cert.InBackIdeal.nD Cert.InBackIdeal.τ).loc Cert.InBackIdeal.main_arg5)
      ∧ m' ((c.tc : Thread Cert.InBackRefIdeal.nD Cert.InBackRefIdeal.τ).loc Cert.InBackRefIdeal.main_arg6) = m ((c.tc : Thread Cert.InBackIdeal.nD Cert.InBackIdeal.τ).loc Cert.InBackIdeal.main_arg6)
      ∧ m' ((c.tc : Thread Cert.InBackRefIdeal.nD Cert.InBackRefIdeal.τ).loc Cert.InBackRefIdeal.main_arg7) = m ((c.tc : Thread Cert.InBackIdeal.nD Cert.InBackIdeal.τ).loc Cert.InBackIdeal.main_arg7)
      ∧ m' ((c.tc : Thread Cert.InBackRefIdeal.nD Cert.InBackRefIdeal.τ).loc Cert.InBackRefIdeal.main_arg8) = m ((c.tc : Thread Cert.InBackIdeal.nD Cert.InBackIdeal.τ).loc Cert.InBackIdeal.main_arg8)
      ∧ m' ((c.tc : Thread Cert.InBackRefIdeal.nD Cert.InBackRefIdeal.τ).loc Cert.InBackRefIdeal.main_arg9) = m ((c.tc : Thread Cert.InBackIdeal.nD Cert.InBackIdeal.τ).loc Cert.InBackIdeal.main_arg9)) →
    ∃ (v0 : (c : Dev Cert.InBackIdeal.nD) → Buf (Elt Ideal) ((c.tc : Thread Cert.InBackIdeal.nD Cert.InBackIdeal.τ).loc Cert.InBackIdeal.main_v0_0)) (v1 : (c : Dev Cert.InBackIdeal.nD) → Buf (Elt Ideal) ((c.tc : Thread Cert.InBackIdeal.nD Cert.InBackIdeal.τ).loc Cert.InBackIdeal.main_v0_1)),
      θ_run (Cert.InBackIdeal.defs (F := Ideal)) (onTc (τ := Cert.InBackIdeal.τ) (Cert.InBackIdeal.main (F := Ideal))) ⟨m, fun _ => 0, g⟩ (fun r => ∀ c : Dev Cert.InBackIdeal.nD,
          r.2.mem ((c.tc : Thread Cert.InBackIdeal.nD Cert.InBackIdeal.τ).loc Cert.InBackIdeal.main_v0_0) = v0 c
          ∧ r.2.mem ((c.tc : Thread Cert.InBackIdeal.nD Cert.InBackIdeal.τ).loc Cert.InBackIdeal.main_v0_1) = v1 c
          ∧ r.2.mem ((c.tc : Thread Cert.InBackIdeal.nD Cert.InBackIdeal.τ).loc Cert.InBackIdeal.main_arg0) = m ((c.tc : Thread Cert.InBackIdeal.nD Cert.InBackIdeal.τ).loc Cert.InBackIdeal.main_arg0)
          ∧ r.2.mem ((c.tc : Thread Cert.InBackIdeal.nD Cert.InBackIdeal.τ).loc Cert.InBackIdeal.main_arg1) = m ((c.tc : Thread Cert.InBackIdeal.nD Cert.InBackIdeal.τ).loc Cert.InBackIdeal.main_arg1)
          ∧ r.2.mem ((c.tc : Thread Cert.InBackIdeal.nD Cert.InBackIdeal.τ).loc Cert.InBackIdeal.main_arg2) = m ((c.tc : Thread Cert.InBackIdeal.nD Cert.InBackIdeal.τ).loc Cert.InBackIdeal.main_arg2)
          ∧ r.2.mem ((c.tc : Thread Cert.InBackIdeal.nD Cert.InBackIdeal.τ).loc Cert.InBackIdeal.main_arg3) = m ((c.tc : Thread Cert.InBackIdeal.nD Cert.InBackIdeal.τ).loc Cert.InBackIdeal.main_arg3)
          ∧ r.2.mem ((c.tc : Thread Cert.InBackIdeal.nD Cert.InBackIdeal.τ).loc Cert.InBackIdeal.main_arg4) = m ((c.tc : Thread Cert.InBackIdeal.nD Cert.InBackIdeal.τ).loc Cert.InBackIdeal.main_arg4)
          ∧ r.2.mem ((c.tc : Thread Cert.InBackIdeal.nD Cert.InBackIdeal.τ).loc Cert.InBackIdeal.main_arg5) = m ((c.tc : Thread Cert.InBackIdeal.nD Cert.InBackIdeal.τ).loc Cert.InBackIdeal.main_arg5)
          ∧ r.2.mem ((c.tc : Thread Cert.InBackIdeal.nD Cert.InBackIdeal.τ).loc Cert.InBackIdeal.main_arg6) = m ((c.tc : Thread Cert.InBackIdeal.nD Cert.InBackIdeal.τ).loc Cert.InBackIdeal.main_arg6)
          ∧ r.2.mem ((c.tc : Thread Cert.InBackIdeal.nD Cert.InBackIdeal.τ).loc Cert.InBackIdeal.main_arg7) = m ((c.tc : Thread Cert.InBackIdeal.nD Cert.InBackIdeal.τ).loc Cert.InBackIdeal.main_arg7)
          ∧ r.2.mem ((c.tc : Thread Cert.InBackIdeal.nD Cert.InBackIdeal.τ).loc Cert.InBackIdeal.main_arg8) = m ((c.tc : Thread Cert.InBackIdeal.nD Cert.InBackIdeal.τ).loc Cert.InBackIdeal.main_arg8)
          ∧ r.2.mem ((c.tc : Thread Cert.InBackIdeal.nD Cert.InBackIdeal.τ).loc Cert.InBackIdeal.main_arg9) = m ((c.tc : Thread Cert.InBackIdeal.nD Cert.InBackIdeal.τ).loc Cert.InBackIdeal.main_arg9))
      ∧ θ_run (Cert.InBackRefIdeal.defs (F := Ideal)) (onTc (τ := Cert.InBackRefIdeal.τ) (Cert.InBackRefIdeal.main (F := Ideal))) ⟨m', fun _ => 0, g'⟩ (fun r => ∀ c : Dev Cert.InBackRefIdeal.nD,
          r.2.mem ((c.tc : Thread Cert.InBackRefIdeal.nD Cert.InBackRefIdeal.τ).loc Cert.InBackRefIdeal.main_v45) = v0 c
          ∧ r.2.mem ((c.tc : Thread Cert.InBackRefIdeal.nD Cert.InBackRefIdeal.τ).loc Cert.InBackRefIdeal.main_v28) = v1 c
          ∧ r.2.mem ((c.tc : Thread Cert.InBackRefIdeal.nD Cert.InBackRefIdeal.τ).loc Cert.InBackRefIdeal.main_arg0) = m' ((c.tc : Thread Cert.InBackRefIdeal.nD Cert.InBackRefIdeal.τ).loc Cert.InBackRefIdeal.main_arg0)
          ∧ r.2.mem ((c.tc : Thread Cert.InBackRefIdeal.nD Cert.InBackRefIdeal.τ).loc Cert.InBackRefIdeal.main_arg1) = m' ((c.tc : Thread Cert.InBackRefIdeal.nD Cert.InBackRefIdeal.τ).loc Cert.InBackRefIdeal.main_arg1)
          ∧ r.2.mem ((c.tc : Thread Cert.InBackRefIdeal.nD Cert.InBackRefIdeal.τ).loc Cert.InBackRefIdeal.main_arg2) = m' ((c.tc : Thread Cert.InBackRefIdeal.nD Cert.InBackRefIdeal.τ).loc Cert.InBackRefIdeal.main_arg2)
          ∧ r.2.mem ((c.tc : Thread Cert.InBackRefIdeal.nD Cert.InBackRefIdeal.τ).loc Cert.InBackRefIdeal.main_arg3) = m' ((c.tc : Thread Cert.InBackRefIdeal.nD Cert.InBackRefIdeal.τ).loc Cert.InBackRefIdeal.main_arg3)
          ∧ r.2.mem ((c.tc : Thread Cert.InBackRefIdeal.nD Cert.InBackRefIdeal.τ).loc Cert.InBackRefIdeal.main_arg4) = m' ((c.tc : Thread Cert.InBackRefIdeal.nD Cert.InBackRefIdeal.τ).loc Cert.InBackRefIdeal.main_arg4)
          ∧ r.2.mem ((c.tc : Thread Cert.InBackRefIdeal.nD Cert.InBackRefIdeal.τ).loc Cert.InBackRefIdeal.main_arg5) = m' ((c.tc : Thread Cert.InBackRefIdeal.nD Cert.InBackRefIdeal.τ).loc Cert.InBackRefIdeal.main_arg5)
          ∧ r.2.mem ((c.tc : Thread Cert.InBackRefIdeal.nD Cert.InBackRefIdeal.τ).loc Cert.InBackRefIdeal.main_arg6) = m' ((c.tc : Thread Cert.InBackRefIdeal.nD Cert.InBackRefIdeal.τ).loc Cert.InBackRefIdeal.main_arg6)
          ∧ r.2.mem ((c.tc : Thread Cert.InBackRefIdeal.nD Cert.InBackRefIdeal.τ).loc Cert.InBackRefIdeal.main_arg7) = m' ((c.tc : Thread Cert.InBackRefIdeal.nD Cert.InBackRefIdeal.τ).loc Cert.InBackRefIdeal.main_arg7)
          ∧ r.2.mem ((c.tc : Thread Cert.InBackRefIdeal.nD Cert.InBackRefIdeal.τ).loc Cert.InBackRefIdeal.main_arg8) = m' ((c.tc : Thread Cert.InBackRefIdeal.nD Cert.InBackRefIdeal.τ).loc Cert.InBackRefIdeal.main_arg8)
          ∧ r.2.mem ((c.tc : Thread Cert.InBackRefIdeal.nD Cert.InBackRefIdeal.τ).loc Cert.InBackRefIdeal.main_arg9) = m' ((c.tc : Thread Cert.InBackRefIdeal.nD Cert.InBackRefIdeal.τ).loc Cert.InBackRefIdeal.main_arg9))

def preserves_DownLoss_DownLossIdeal : Prop :=
  True

def algebraic_DownLossIdeal_DownLossRefIdeal_pre_down_finite [hDownLossIdeal : Cert.DownLossIdeal.Facts] [hDownLossRefIdeal : Cert.DownLossRefIdeal.Facts] [hPre_down_finite : Cert.Pre_down_finite.Facts] : Prop :=
  ∀ (m : (ℓ : Loc Cert.DownLossIdeal.nD Cert.DownLossIdeal.τ Cert.DownLossIdeal.sig) → Buf (Elt Ideal) ℓ) (g : Dev Cert.DownLossIdeal.nD → PrngReg)
    (m' : (ℓ : Loc Cert.DownLossRefIdeal.nD Cert.DownLossRefIdeal.τ Cert.DownLossRefIdeal.sig) → Buf (Elt Ideal) ℓ) (g' : Dev Cert.DownLossRefIdeal.nD → PrngReg), Pre_DownLossIdeal_down_finite m →
    (∀ c : Dev Cert.DownLossIdeal.nD,
      m' ((c.tc : Thread Cert.DownLossRefIdeal.nD Cert.DownLossRefIdeal.τ).loc Cert.DownLossRefIdeal.main_arg0) = m ((c.tc : Thread Cert.DownLossIdeal.nD Cert.DownLossIdeal.τ).loc Cert.DownLossIdeal.main_arg0)
      ∧ m' ((c.tc : Thread Cert.DownLossRefIdeal.nD Cert.DownLossRefIdeal.τ).loc Cert.DownLossRefIdeal.main_arg1) = m ((c.tc : Thread Cert.DownLossIdeal.nD Cert.DownLossIdeal.τ).loc Cert.DownLossIdeal.main_arg1)
      ∧ m' ((c.tc : Thread Cert.DownLossRefIdeal.nD Cert.DownLossRefIdeal.τ).loc Cert.DownLossRefIdeal.main_arg2) = m ((c.tc : Thread Cert.DownLossIdeal.nD Cert.DownLossIdeal.τ).loc Cert.DownLossIdeal.main_arg2)
      ∧ m' ((c.tc : Thread Cert.DownLossRefIdeal.nD Cert.DownLossRefIdeal.τ).loc Cert.DownLossRefIdeal.main_arg3) = m ((c.tc : Thread Cert.DownLossIdeal.nD Cert.DownLossIdeal.τ).loc Cert.DownLossIdeal.main_arg3)
      ∧ m' ((c.tc : Thread Cert.DownLossRefIdeal.nD Cert.DownLossRefIdeal.τ).loc Cert.DownLossRefIdeal.main_arg4) = m ((c.tc : Thread Cert.DownLossIdeal.nD Cert.DownLossIdeal.τ).loc Cert.DownLossIdeal.main_arg4)) →
    ∃ (v0 : (c : Dev Cert.DownLossIdeal.nD) → Buf (Elt Ideal) ((c.tc : Thread Cert.DownLossIdeal.nD Cert.DownLossIdeal.τ).loc Cert.DownLossIdeal.main_v0_0)) (v1 : (c : Dev Cert.DownLossIdeal.nD) → Buf (Elt Ideal) ((c.tc : Thread Cert.DownLossIdeal.nD Cert.DownLossIdeal.τ).loc Cert.DownLossIdeal.main_v0_1)) (v2 : (c : Dev Cert.DownLossIdeal.nD) → Buf (Elt Ideal) ((c.tc : Thread Cert.DownLossIdeal.nD Cert.DownLossIdeal.τ).loc Cert.DownLossIdeal.main_v0_2)) (v3 : (c : Dev Cert.DownLossIdeal.nD) → Buf (Elt Ideal) ((c.tc : Thread Cert.DownLossIdeal.nD Cert.DownLossIdeal.τ).loc Cert.DownLossIdeal.main_v0_3)),
      θ_run (Cert.DownLossIdeal.defs (F := Ideal)) (onTc (τ := Cert.DownLossIdeal.τ) (Cert.DownLossIdeal.main (F := Ideal))) ⟨m, fun _ => 0, g⟩ (fun r => ∀ c : Dev Cert.DownLossIdeal.nD,
          r.2.mem ((c.tc : Thread Cert.DownLossIdeal.nD Cert.DownLossIdeal.τ).loc Cert.DownLossIdeal.main_v0_0) = v0 c
          ∧ r.2.mem ((c.tc : Thread Cert.DownLossIdeal.nD Cert.DownLossIdeal.τ).loc Cert.DownLossIdeal.main_v0_1) = v1 c
          ∧ r.2.mem ((c.tc : Thread Cert.DownLossIdeal.nD Cert.DownLossIdeal.τ).loc Cert.DownLossIdeal.main_v0_2) = v2 c
          ∧ r.2.mem ((c.tc : Thread Cert.DownLossIdeal.nD Cert.DownLossIdeal.τ).loc Cert.DownLossIdeal.main_v0_3) = v3 c
          ∧ r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
          ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
          ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
          ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3)
          ∧ r.2.mem ((c.tc : Thread Cert.DownLossIdeal.nD Cert.DownLossIdeal.τ).loc Cert.DownLossIdeal.main_arg4) = m ((c.tc : Thread Cert.DownLossIdeal.nD Cert.DownLossIdeal.τ).loc Cert.DownLossIdeal.main_arg4))
      ∧ θ_run (Cert.DownLossRefIdeal.defs (F := Ideal)) (onTc (τ := Cert.DownLossRefIdeal.τ) (Cert.DownLossRefIdeal.main (F := Ideal))) ⟨m', fun _ => 0, g'⟩ (fun r => ∀ c : Dev Cert.DownLossRefIdeal.nD,
          r.2.mem ((c.tc : Thread Cert.DownLossRefIdeal.nD Cert.DownLossRefIdeal.τ).loc Cert.DownLossRefIdeal.main_v55) = v0 c
          ∧ r.2.mem ((c.tc : Thread Cert.DownLossRefIdeal.nD Cert.DownLossRefIdeal.τ).loc Cert.DownLossRefIdeal.main_v56) = v1 c
          ∧ r.2.mem ((c.tc : Thread Cert.DownLossRefIdeal.nD Cert.DownLossRefIdeal.τ).loc Cert.DownLossRefIdeal.main_v28) = v2 c
          ∧ r.2.mem ((c.tc : Thread Cert.DownLossRefIdeal.nD Cert.DownLossRefIdeal.τ).loc Cert.DownLossRefIdeal.main_v39) = v3 c
          ∧ r.2.mem ((c.tc : Thread Cert.DownLossRefIdeal.nD Cert.DownLossRefIdeal.τ).loc Cert.DownLossRefIdeal.main_arg0) = m' ((c.tc : Thread Cert.DownLossRefIdeal.nD Cert.DownLossRefIdeal.τ).loc Cert.DownLossRefIdeal.main_arg0)
          ∧ r.2.mem ((c.tc : Thread Cert.DownLossRefIdeal.nD Cert.DownLossRefIdeal.τ).loc Cert.DownLossRefIdeal.main_arg1) = m' ((c.tc : Thread Cert.DownLossRefIdeal.nD Cert.DownLossRefIdeal.τ).loc Cert.DownLossRefIdeal.main_arg1)
          ∧ r.2.mem ((c.tc : Thread Cert.DownLossRefIdeal.nD Cert.DownLossRefIdeal.τ).loc Cert.DownLossRefIdeal.main_arg2) = m' ((c.tc : Thread Cert.DownLossRefIdeal.nD Cert.DownLossRefIdeal.τ).loc Cert.DownLossRefIdeal.main_arg2)
          ∧ r.2.mem ((c.tc : Thread Cert.DownLossRefIdeal.nD Cert.DownLossRefIdeal.τ).loc Cert.DownLossRefIdeal.main_arg3) = m' ((c.tc : Thread Cert.DownLossRefIdeal.nD Cert.DownLossRefIdeal.τ).loc Cert.DownLossRefIdeal.main_arg3)
          ∧ r.2.mem ((c.tc : Thread Cert.DownLossRefIdeal.nD Cert.DownLossRefIdeal.τ).loc Cert.DownLossRefIdeal.main_arg4) = m' ((c.tc : Thread Cert.DownLossRefIdeal.nD Cert.DownLossRefIdeal.τ).loc Cert.DownLossRefIdeal.main_arg4))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)
      ∧ m' ((c.tc : Thread Cert.MixOutRefIdeal.nD Cert.MixOutRefIdeal.τ).loc Cert.MixOutRefIdeal.main_arg5) = m ((c.tc : Thread Cert.MixOutIdeal.nD Cert.MixOutIdeal.τ).loc Cert.MixOutIdeal.main_arg5)
      ∧ m' ((c.tc : Thread Cert.MixOutRefIdeal.nD Cert.MixOutRefIdeal.τ).loc Cert.MixOutRefIdeal.main_arg6) = m ((c.tc : Thread Cert.MixOutIdeal.nD Cert.MixOutIdeal.τ).loc Cert.MixOutIdeal.main_arg6)) →
    ∃ (v0 : (c : Dev Cert.MixOutIdeal.nD) → Buf (Elt Ideal) ((c.tc : Thread Cert.MixOutIdeal.nD Cert.MixOutIdeal.τ).loc Cert.MixOutIdeal.main_v0_0)) (v1 : (c : Dev Cert.MixOutIdeal.nD) → Buf (Elt Ideal) ((c.tc : Thread Cert.MixOutIdeal.nD Cert.MixOutIdeal.τ).loc Cert.MixOutIdeal.main_v0_1)) (v2 : (c : Dev Cert.MixOutIdeal.nD) → Buf (Elt Ideal) ((c.tc : Thread Cert.MixOutIdeal.nD Cert.MixOutIdeal.τ).loc Cert.MixOutIdeal.main_v0_2)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0_0) = v0 c
          ∧ r.2.mem ((c.tc : Thread Cert.MixOutIdeal.nD Cert.MixOutIdeal.τ).loc Cert.MixOutIdeal.main_v0_1) = v1 c
          ∧ r.2.mem ((c.tc : Thread Cert.MixOutIdeal.nD Cert.MixOutIdeal.τ).loc Cert.MixOutIdeal.main_v0_2) = v2 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v20) = v0 c
          ∧ r.2.mem ((c.tc : Thread Cert.MixOutRefIdeal.nD Cert.MixOutRefIdeal.τ).loc Cert.MixOutRefIdeal.main_v33) = v1 c
          ∧ r.2.mem ((c.tc : Thread Cert.MixOutRefIdeal.nD Cert.MixOutRefIdeal.τ).loc Cert.MixOutRefIdeal.main_v34) = v2 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4)
          ∧ r.2.mem ((c.tc : Thread Cert.MixOutRefIdeal.nD Cert.MixOutRefIdeal.τ).loc Cert.MixOutRefIdeal.main_arg5) = m' ((c.tc : Thread Cert.MixOutRefIdeal.nD Cert.MixOutRefIdeal.τ).loc Cert.MixOutRefIdeal.main_arg5)
          ∧ r.2.mem ((c.tc : Thread Cert.MixOutRefIdeal.nD Cert.MixOutRefIdeal.τ).loc Cert.MixOutRefIdeal.main_arg6) = m' ((c.tc : Thread Cert.MixOutRefIdeal.nD Cert.MixOutRefIdeal.τ).loc Cert.MixOutRefIdeal.main_arg6))

def preserves_MixBack_MixBackIdeal : Prop :=
  True

def algebraic_MixBackIdeal_MixBackRefIdeal_pre_mix_finite [hMixBackIdeal : Cert.MixBackIdeal.Facts] [hMixBackRefIdeal : Cert.MixBackRefIdeal.Facts] [hPre_mix_finite : Cert.Pre_mix_finite.Facts] : Prop :=
  ∀ (m : (ℓ : Loc Cert.MixBackIdeal.nD Cert.MixBackIdeal.τ Cert.MixBackIdeal.sig) → Buf (Elt Ideal) ℓ) (g : Dev Cert.MixBackIdeal.nD → PrngReg)
    (m' : (ℓ : Loc Cert.MixBackRefIdeal.nD Cert.MixBackRefIdeal.τ Cert.MixBackRefIdeal.sig) → Buf (Elt Ideal) ℓ) (g' : Dev Cert.MixBackRefIdeal.nD → PrngReg), Pre_MixBackIdeal_mix_finite m →
    (∀ c : Dev Cert.MixBackIdeal.nD,
      m' ((c.tc : Thread Cert.MixBackRefIdeal.nD Cert.MixBackRefIdeal.τ).loc Cert.MixBackRefIdeal.main_arg0) = m ((c.tc : Thread Cert.MixBackIdeal.nD Cert.MixBackIdeal.τ).loc Cert.MixBackIdeal.main_arg0)
      ∧ m' ((c.tc : Thread Cert.MixBackRefIdeal.nD Cert.MixBackRefIdeal.τ).loc Cert.MixBackRefIdeal.main_arg1) = m ((c.tc : Thread Cert.MixBackIdeal.nD Cert.MixBackIdeal.τ).loc Cert.MixBackIdeal.main_arg1)
      ∧ m' ((c.tc : Thread Cert.MixBackRefIdeal.nD Cert.MixBackRefIdeal.τ).loc Cert.MixBackRefIdeal.main_arg2) = m ((c.tc : Thread Cert.MixBackIdeal.nD Cert.MixBackIdeal.τ).loc Cert.MixBackIdeal.main_arg2)
      ∧ m' ((c.tc : Thread Cert.MixBackRefIdeal.nD Cert.MixBackRefIdeal.τ).loc Cert.MixBackRefIdeal.main_arg3) = m ((c.tc : Thread Cert.MixBackIdeal.nD Cert.MixBackIdeal.τ).loc Cert.MixBackIdeal.main_arg3)
      ∧ m' ((c.tc : Thread Cert.MixBackRefIdeal.nD Cert.MixBackRefIdeal.τ).loc Cert.MixBackRefIdeal.main_arg4) = m ((c.tc : Thread Cert.MixBackIdeal.nD Cert.MixBackIdeal.τ).loc Cert.MixBackIdeal.main_arg4)) →
    ∃ (v0 : (c : Dev Cert.MixBackIdeal.nD) → Buf (Elt Ideal) ((c.tc : Thread Cert.MixBackIdeal.nD Cert.MixBackIdeal.τ).loc Cert.MixBackIdeal.main_v0_0)) (v1 : (c : Dev Cert.MixBackIdeal.nD) → Buf (Elt Ideal) ((c.tc : Thread Cert.MixBackIdeal.nD Cert.MixBackIdeal.τ).loc Cert.MixBackIdeal.main_v0_1)) (v2 : (c : Dev Cert.MixBackIdeal.nD) → Buf (Elt Ideal) ((c.tc : Thread Cert.MixBackIdeal.nD Cert.MixBackIdeal.τ).loc Cert.MixBackIdeal.main_v0_2)) (v3 : (c : Dev Cert.MixBackIdeal.nD) → Buf (Elt Ideal) ((c.tc : Thread Cert.MixBackIdeal.nD Cert.MixBackIdeal.τ).loc Cert.MixBackIdeal.main_v0_3)),
      θ_run (Cert.MixBackIdeal.defs (F := Ideal)) (onTc (τ := Cert.MixBackIdeal.τ) (Cert.MixBackIdeal.main (F := Ideal))) ⟨m, fun _ => 0, g⟩ (fun r => ∀ c : Dev Cert.MixBackIdeal.nD,
          r.2.mem ((c.tc : Thread Cert.MixBackIdeal.nD Cert.MixBackIdeal.τ).loc Cert.MixBackIdeal.main_v0_0) = v0 c
          ∧ r.2.mem ((c.tc : Thread Cert.MixBackIdeal.nD Cert.MixBackIdeal.τ).loc Cert.MixBackIdeal.main_v0_1) = v1 c
          ∧ r.2.mem ((c.tc : Thread Cert.MixBackIdeal.nD Cert.MixBackIdeal.τ).loc Cert.MixBackIdeal.main_v0_2) = v2 c
          ∧ r.2.mem ((c.tc : Thread Cert.MixBackIdeal.nD Cert.MixBackIdeal.τ).loc Cert.MixBackIdeal.main_v0_3) = v3 c
          ∧ r.2.mem ((c.tc : Thread Cert.MixBackIdeal.nD Cert.MixBackIdeal.τ).loc Cert.MixBackIdeal.main_arg0) = m ((c.tc : Thread Cert.MixBackIdeal.nD Cert.MixBackIdeal.τ).loc Cert.MixBackIdeal.main_arg0)
          ∧ r.2.mem ((c.tc : Thread Cert.MixBackIdeal.nD Cert.MixBackIdeal.τ).loc Cert.MixBackIdeal.main_arg1) = m ((c.tc : Thread Cert.MixBackIdeal.nD Cert.MixBackIdeal.τ).loc Cert.MixBackIdeal.main_arg1)
          ∧ r.2.mem ((c.tc : Thread Cert.MixBackIdeal.nD Cert.MixBackIdeal.τ).loc Cert.MixBackIdeal.main_arg2) = m ((c.tc : Thread Cert.MixBackIdeal.nD Cert.MixBackIdeal.τ).loc Cert.MixBackIdeal.main_arg2)
          ∧ r.2.mem ((c.tc : Thread Cert.MixBackIdeal.nD Cert.MixBackIdeal.τ).loc Cert.MixBackIdeal.main_arg3) = m ((c.tc : Thread Cert.MixBackIdeal.nD Cert.MixBackIdeal.τ).loc Cert.MixBackIdeal.main_arg3)
          ∧ r.2.mem ((c.tc : Thread Cert.MixBackIdeal.nD Cert.MixBackIdeal.τ).loc Cert.MixBackIdeal.main_arg4) = m ((c.tc : Thread Cert.MixBackIdeal.nD Cert.MixBackIdeal.τ).loc Cert.MixBackIdeal.main_arg4))
      ∧ θ_run (Cert.MixBackRefIdeal.defs (F := Ideal)) (onTc (τ := Cert.MixBackRefIdeal.τ) (Cert.MixBackRefIdeal.main (F := Ideal))) ⟨m', fun _ => 0, g'⟩ (fun r => ∀ c : Dev Cert.MixBackRefIdeal.nD,
          r.2.mem ((c.tc : Thread Cert.MixBackRefIdeal.nD Cert.MixBackRefIdeal.τ).loc Cert.MixBackRefIdeal.main_v53) = v0 c
          ∧ r.2.mem ((c.tc : Thread Cert.MixBackRefIdeal.nD Cert.MixBackRefIdeal.τ).loc Cert.MixBackRefIdeal.main_v54) = v1 c
          ∧ r.2.mem ((c.tc : Thread Cert.MixBackRefIdeal.nD Cert.MixBackRefIdeal.τ).loc Cert.MixBackRefIdeal.main_v27) = v2 c
          ∧ r.2.mem ((c.tc : Thread Cert.MixBackRefIdeal.nD Cert.MixBackRefIdeal.τ).loc Cert.MixBackRefIdeal.main_v38) = v3 c
          ∧ r.2.mem ((c.tc : Thread Cert.MixBackRefIdeal.nD Cert.MixBackRefIdeal.τ).loc Cert.MixBackRefIdeal.main_arg0) = m' ((c.tc : Thread Cert.MixBackRefIdeal.nD Cert.MixBackRefIdeal.τ).loc Cert.MixBackRefIdeal.main_arg0)
          ∧ r.2.mem ((c.tc : Thread Cert.MixBackRefIdeal.nD Cert.MixBackRefIdeal.τ).loc Cert.MixBackRefIdeal.main_arg1) = m' ((c.tc : Thread Cert.MixBackRefIdeal.nD Cert.MixBackRefIdeal.τ).loc Cert.MixBackRefIdeal.main_arg1)
          ∧ r.2.mem ((c.tc : Thread Cert.MixBackRefIdeal.nD Cert.MixBackRefIdeal.τ).loc Cert.MixBackRefIdeal.main_arg2) = m' ((c.tc : Thread Cert.MixBackRefIdeal.nD Cert.MixBackRefIdeal.τ).loc Cert.MixBackRefIdeal.main_arg2)
          ∧ r.2.mem ((c.tc : Thread Cert.MixBackRefIdeal.nD Cert.MixBackRefIdeal.τ).loc Cert.MixBackRefIdeal.main_arg3) = m' ((c.tc : Thread Cert.MixBackRefIdeal.nD Cert.MixBackRefIdeal.τ).loc Cert.MixBackRefIdeal.main_arg3)
          ∧ r.2.mem ((c.tc : Thread Cert.MixBackRefIdeal.nD Cert.MixBackRefIdeal.τ).loc Cert.MixBackRefIdeal.main_arg4) = m' ((c.tc : Thread Cert.MixBackRefIdeal.nD Cert.MixBackRefIdeal.τ).loc Cert.MixBackRefIdeal.main_arg4))

def preserves_OutGrad_OutGradIdeal : Prop :=
  True

def algebraic_OutGradIdeal_OutGradRefIdeal [hOutGradIdeal : Cert.OutGradIdeal.Facts] [hOutGradRefIdeal : Cert.OutGradRefIdeal.Facts] : Prop :=
  ∀ (m : (ℓ : Loc Cert.OutGradIdeal.nD Cert.OutGradIdeal.τ Cert.OutGradIdeal.sig) → Buf (Elt Ideal) ℓ) (g : Dev Cert.OutGradIdeal.nD → PrngReg)
    (m' : (ℓ : Loc Cert.OutGradRefIdeal.nD Cert.OutGradRefIdeal.τ Cert.OutGradRefIdeal.sig) → Buf (Elt Ideal) ℓ) (g' : Dev Cert.OutGradRefIdeal.nD → PrngReg), Pre_OutGradIdeal m →
    (∀ c : Dev Cert.OutGradIdeal.nD,
      m' ((c.tc : Thread Cert.OutGradRefIdeal.nD Cert.OutGradRefIdeal.τ).loc Cert.OutGradRefIdeal.main_arg0) = m ((c.tc : Thread Cert.OutGradIdeal.nD Cert.OutGradIdeal.τ).loc Cert.OutGradIdeal.main_arg0)
      ∧ m' ((c.tc : Thread Cert.OutGradRefIdeal.nD Cert.OutGradRefIdeal.τ).loc Cert.OutGradRefIdeal.main_arg1) = m ((c.tc : Thread Cert.OutGradIdeal.nD Cert.OutGradIdeal.τ).loc Cert.OutGradIdeal.main_arg1)) →
    ∃ (v0 : (c : Dev Cert.OutGradIdeal.nD) → Buf (Elt Ideal) ((c.tc : Thread Cert.OutGradIdeal.nD Cert.OutGradIdeal.τ).loc Cert.OutGradIdeal.main_v0)),
      θ_run (Cert.OutGradIdeal.defs (F := Ideal)) (onTc (τ := Cert.OutGradIdeal.τ) (Cert.OutGradIdeal.main (F := Ideal))) ⟨m, fun _ => 0, g⟩ (fun r => ∀ c : Dev Cert.OutGradIdeal.nD,
          r.2.mem ((c.tc : Thread Cert.OutGradIdeal.nD Cert.OutGradIdeal.τ).loc Cert.OutGradIdeal.main_v0) = v0 c
          ∧ r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
          ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ θ_run (Cert.OutGradRefIdeal.defs (F := Ideal)) (onTc (τ := Cert.OutGradRefIdeal.τ) (Cert.OutGradRefIdeal.main (F := Ideal))) ⟨m', fun _ => 0, g'⟩ (fun r => ∀ c : Dev Cert.OutGradRefIdeal.nD,
          r.2.mem ((c.tc : Thread Cert.OutGradRefIdeal.nD Cert.OutGradRefIdeal.τ).loc Cert.OutGradRefIdeal.main_v6) = v0 c
          ∧ r.2.mem ((c.tc : Thread Cert.OutGradRefIdeal.nD Cert.OutGradRefIdeal.τ).loc Cert.OutGradRefIdeal.main_arg0) = m' ((c.tc : Thread Cert.OutGradRefIdeal.nD Cert.OutGradRefIdeal.τ).loc Cert.OutGradRefIdeal.main_arg0)
          ∧ r.2.mem ((c.tc : Thread Cert.OutGradRefIdeal.nD Cert.OutGradRefIdeal.τ).loc Cert.OutGradRefIdeal.main_arg1) = m' ((c.tc : Thread Cert.OutGradRefIdeal.nD Cert.OutGradRefIdeal.τ).loc Cert.OutGradRefIdeal.main_arg1))

def preserves_AdamW_AdamWIdeal : Prop :=
  True

def algebraic_AdamWIdeal_AdamWRefIdeal [hAdamWIdeal : Cert.AdamWIdeal.Facts] [hAdamWRefIdeal : Cert.AdamWRefIdeal.Facts] : Prop :=
  ∀ (m : (ℓ : Loc Cert.AdamWIdeal.nD Cert.AdamWIdeal.τ Cert.AdamWIdeal.sig) → Buf (Elt Ideal) ℓ) (g : Dev Cert.AdamWIdeal.nD → PrngReg)
    (m' : (ℓ : Loc Cert.AdamWRefIdeal.nD Cert.AdamWRefIdeal.τ Cert.AdamWRefIdeal.sig) → Buf (Elt Ideal) ℓ) (g' : Dev Cert.AdamWRefIdeal.nD → PrngReg), Pre_AdamWIdeal m →
    (∀ c : Dev Cert.AdamWIdeal.nD,
      m' ((c.tc : Thread Cert.AdamWRefIdeal.nD Cert.AdamWRefIdeal.τ).loc Cert.AdamWRefIdeal.main_arg0) = m ((c.tc : Thread Cert.AdamWIdeal.nD Cert.AdamWIdeal.τ).loc Cert.AdamWIdeal.main_arg0)
      ∧ m' ((c.tc : Thread Cert.AdamWRefIdeal.nD Cert.AdamWRefIdeal.τ).loc Cert.AdamWRefIdeal.main_arg1) = m ((c.tc : Thread Cert.AdamWIdeal.nD Cert.AdamWIdeal.τ).loc Cert.AdamWIdeal.main_arg1)
      ∧ m' ((c.tc : Thread Cert.AdamWRefIdeal.nD Cert.AdamWRefIdeal.τ).loc Cert.AdamWRefIdeal.main_arg2) = m ((c.tc : Thread Cert.AdamWIdeal.nD Cert.AdamWIdeal.τ).loc Cert.AdamWIdeal.main_arg2)
      ∧ m' ((c.tc : Thread Cert.AdamWRefIdeal.nD Cert.AdamWRefIdeal.τ).loc Cert.AdamWRefIdeal.main_arg3) = m ((c.tc : Thread Cert.AdamWIdeal.nD Cert.AdamWIdeal.τ).loc Cert.AdamWIdeal.main_arg3)) →
    ∃ (v0 : (c : Dev Cert.AdamWIdeal.nD) → Buf (Elt Ideal) ((c.tc : Thread Cert.AdamWIdeal.nD Cert.AdamWIdeal.τ).loc Cert.AdamWIdeal.main_v0_0)) (v1 : (c : Dev Cert.AdamWIdeal.nD) → Buf (Elt Ideal) ((c.tc : Thread Cert.AdamWIdeal.nD Cert.AdamWIdeal.τ).loc Cert.AdamWIdeal.main_v0_1)) (v2 : (c : Dev Cert.AdamWIdeal.nD) → Buf (Elt Ideal) ((c.tc : Thread Cert.AdamWIdeal.nD Cert.AdamWIdeal.τ).loc Cert.AdamWIdeal.main_v0_2)) (v3 : (c : Dev Cert.AdamWIdeal.nD) → Buf (Elt Ideal) ((c.tc : Thread Cert.AdamWIdeal.nD Cert.AdamWIdeal.τ).loc Cert.AdamWIdeal.main_v0_3)),
      θ_run (Cert.AdamWIdeal.defs (F := Ideal)) (onTc (τ := Cert.AdamWIdeal.τ) (Cert.AdamWIdeal.main (F := Ideal))) ⟨m, fun _ => 0, g⟩ (fun r => ∀ c : Dev Cert.AdamWIdeal.nD,
          r.2.mem ((c.tc : Thread Cert.AdamWIdeal.nD Cert.AdamWIdeal.τ).loc Cert.AdamWIdeal.main_v0_0) = v0 c
          ∧ r.2.mem ((c.tc : Thread Cert.AdamWIdeal.nD Cert.AdamWIdeal.τ).loc Cert.AdamWIdeal.main_v0_1) = v1 c
          ∧ r.2.mem ((c.tc : Thread Cert.AdamWIdeal.nD Cert.AdamWIdeal.τ).loc Cert.AdamWIdeal.main_v0_2) = v2 c
          ∧ r.2.mem ((c.tc : Thread Cert.AdamWIdeal.nD Cert.AdamWIdeal.τ).loc Cert.AdamWIdeal.main_v0_3) = v3 c
          ∧ r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
          ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
          ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
          ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ θ_run (Cert.AdamWRefIdeal.defs (F := Ideal)) (onTc (τ := Cert.AdamWRefIdeal.τ) (Cert.AdamWRefIdeal.main (F := Ideal))) ⟨m', fun _ => 0, g'⟩ (fun r => ∀ c : Dev Cert.AdamWRefIdeal.nD,
          r.2.mem ((c.tc : Thread Cert.AdamWRefIdeal.nD Cert.AdamWRefIdeal.τ).loc Cert.AdamWRefIdeal.main_arg1) = v0 c
          ∧ r.2.mem ((c.tc : Thread Cert.AdamWRefIdeal.nD Cert.AdamWRefIdeal.τ).loc Cert.AdamWRefIdeal.main_v23) = v1 c
          ∧ r.2.mem ((c.tc : Thread Cert.AdamWRefIdeal.nD Cert.AdamWRefIdeal.τ).loc Cert.AdamWRefIdeal.main_v4) = v2 c
          ∧ r.2.mem ((c.tc : Thread Cert.AdamWRefIdeal.nD Cert.AdamWRefIdeal.τ).loc Cert.AdamWRefIdeal.main_v10) = v3 c
          ∧ r.2.mem ((c.tc : Thread Cert.AdamWRefIdeal.nD Cert.AdamWRefIdeal.τ).loc Cert.AdamWRefIdeal.main_arg0) = m' ((c.tc : Thread Cert.AdamWRefIdeal.nD Cert.AdamWRefIdeal.τ).loc Cert.AdamWRefIdeal.main_arg0)
          ∧ r.2.mem ((c.tc : Thread Cert.AdamWRefIdeal.nD Cert.AdamWRefIdeal.τ).loc Cert.AdamWRefIdeal.main_arg1) = m' ((c.tc : Thread Cert.AdamWRefIdeal.nD Cert.AdamWRefIdeal.τ).loc Cert.AdamWRefIdeal.main_arg1)
          ∧ r.2.mem ((c.tc : Thread Cert.AdamWRefIdeal.nD Cert.AdamWRefIdeal.τ).loc Cert.AdamWRefIdeal.main_arg2) = m' ((c.tc : Thread Cert.AdamWRefIdeal.nD Cert.AdamWRefIdeal.τ).loc Cert.AdamWRefIdeal.main_arg2)
          ∧ r.2.mem ((c.tc : Thread Cert.AdamWRefIdeal.nD Cert.AdamWRefIdeal.τ).loc Cert.AdamWRefIdeal.main_arg3) = m' ((c.tc : Thread Cert.AdamWRefIdeal.nD Cert.AdamWRefIdeal.τ).loc Cert.AdamWRefIdeal.main_arg3))

def preserves_AttnFwd_AttnFwdIdeal : Prop :=
  IdealRules.named_const.Statement Cert.AttnFwdIdeal.κ "mask" .f32 0xF149F2CA#32 ⊥

def algebraic_AttnFwdIdeal_AttnFwdRefIdeal_pre_att_finite [hAttnFwdIdeal : Cert.AttnFwdIdeal.Facts] [hAttnFwdRefIdeal : Cert.AttnFwdRefIdeal.Facts] [hPre_att_finite : Cert.Pre_att_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_att_finite m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)) →
    ∃ (v0 : (c : Dev Cert.AttnFwdIdeal.nD) → Buf (Elt Ideal) ((c.tc : Thread Cert.AttnFwdIdeal.nD Cert.AttnFwdIdeal.τ).loc Cert.AttnFwdIdeal.main_v0)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v0) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v83) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2))

def preserves_SmallUpd_SmallUpdIdeal : Prop :=
  True

def algebraic_SmallUpdIdeal_SmallUpdRefIdeal_pre_small_finite [hSmallUpdIdeal : Cert.SmallUpdIdeal.Facts] [hSmallUpdRefIdeal : Cert.SmallUpdRefIdeal.Facts] [hPre_small_finite : Cert.Pre_small_finite.Facts] : Prop :=
  ∀ (m : (ℓ : Loc Cert.SmallUpdIdeal.nD Cert.SmallUpdIdeal.τ Cert.SmallUpdIdeal.sig) → Buf (Elt Ideal) ℓ) (g : Dev Cert.SmallUpdIdeal.nD → PrngReg)
    (m' : (ℓ : Loc Cert.SmallUpdRefIdeal.nD Cert.SmallUpdRefIdeal.τ Cert.SmallUpdRefIdeal.sig) → Buf (Elt Ideal) ℓ) (g' : Dev Cert.SmallUpdRefIdeal.nD → PrngReg), Pre_SmallUpdIdeal_small_finite m →
    (∀ c : Dev Cert.SmallUpdIdeal.nD,
      m' ((c.tc : Thread Cert.SmallUpdRefIdeal.nD Cert.SmallUpdRefIdeal.τ).loc Cert.SmallUpdRefIdeal.main_arg0) = m ((c.tc : Thread Cert.SmallUpdIdeal.nD Cert.SmallUpdIdeal.τ).loc Cert.SmallUpdIdeal.main_arg0)
      ∧ m' ((c.tc : Thread Cert.SmallUpdRefIdeal.nD Cert.SmallUpdRefIdeal.τ).loc Cert.SmallUpdRefIdeal.main_arg1) = m ((c.tc : Thread Cert.SmallUpdIdeal.nD Cert.SmallUpdIdeal.τ).loc Cert.SmallUpdIdeal.main_arg1)
      ∧ m' ((c.tc : Thread Cert.SmallUpdRefIdeal.nD Cert.SmallUpdRefIdeal.τ).loc Cert.SmallUpdRefIdeal.main_arg2) = m ((c.tc : Thread Cert.SmallUpdIdeal.nD Cert.SmallUpdIdeal.τ).loc Cert.SmallUpdIdeal.main_arg2)
      ∧ m' ((c.tc : Thread Cert.SmallUpdRefIdeal.nD Cert.SmallUpdRefIdeal.τ).loc Cert.SmallUpdRefIdeal.main_arg3) = m ((c.tc : Thread Cert.SmallUpdIdeal.nD Cert.SmallUpdIdeal.τ).loc Cert.SmallUpdIdeal.main_arg3)
      ∧ m' ((c.tc : Thread Cert.SmallUpdRefIdeal.nD Cert.SmallUpdRefIdeal.τ).loc Cert.SmallUpdRefIdeal.main_arg4) = m ((c.tc : Thread Cert.SmallUpdIdeal.nD Cert.SmallUpdIdeal.τ).loc Cert.SmallUpdIdeal.main_arg4)) →
    ∃ (v0 : (c : Dev Cert.SmallUpdIdeal.nD) → Buf (Elt Ideal) ((c.tc : Thread Cert.SmallUpdIdeal.nD Cert.SmallUpdIdeal.τ).loc Cert.SmallUpdIdeal.main_v0_0)) (v1 : (c : Dev Cert.SmallUpdIdeal.nD) → Buf (Elt Ideal) ((c.tc : Thread Cert.SmallUpdIdeal.nD Cert.SmallUpdIdeal.τ).loc Cert.SmallUpdIdeal.main_v0_1)) (v2 : (c : Dev Cert.SmallUpdIdeal.nD) → Buf (Elt Ideal) ((c.tc : Thread Cert.SmallUpdIdeal.nD Cert.SmallUpdIdeal.τ).loc Cert.SmallUpdIdeal.main_v0_2)) (v3 : (c : Dev Cert.SmallUpdIdeal.nD) → Buf (Elt Ideal) ((c.tc : Thread Cert.SmallUpdIdeal.nD Cert.SmallUpdIdeal.τ).loc Cert.SmallUpdIdeal.main_v0_3)) (v4 : (c : Dev Cert.SmallUpdIdeal.nD) → Buf (Elt Ideal) ((c.tc : Thread Cert.SmallUpdIdeal.nD Cert.SmallUpdIdeal.τ).loc Cert.SmallUpdIdeal.main_v0_4)),
      θ_run (Cert.SmallUpdIdeal.defs (F := Ideal)) (onTc (τ := Cert.SmallUpdIdeal.τ) (Cert.SmallUpdIdeal.main (F := Ideal))) ⟨m, fun _ => 0, g⟩ (fun r => ∀ c : Dev Cert.SmallUpdIdeal.nD,
          r.2.mem ((c.tc : Thread Cert.SmallUpdIdeal.nD Cert.SmallUpdIdeal.τ).loc Cert.SmallUpdIdeal.main_v0_0) = v0 c
          ∧ r.2.mem ((c.tc : Thread Cert.SmallUpdIdeal.nD Cert.SmallUpdIdeal.τ).loc Cert.SmallUpdIdeal.main_v0_1) = v1 c
          ∧ r.2.mem ((c.tc : Thread Cert.SmallUpdIdeal.nD Cert.SmallUpdIdeal.τ).loc Cert.SmallUpdIdeal.main_v0_2) = v2 c
          ∧ r.2.mem ((c.tc : Thread Cert.SmallUpdIdeal.nD Cert.SmallUpdIdeal.τ).loc Cert.SmallUpdIdeal.main_v0_3) = v3 c
          ∧ r.2.mem ((c.tc : Thread Cert.SmallUpdIdeal.nD Cert.SmallUpdIdeal.τ).loc Cert.SmallUpdIdeal.main_v0_4) = v4 c
          ∧ r.2.mem ((c.tc : Thread Cert.SmallUpdIdeal.nD Cert.SmallUpdIdeal.τ).loc Cert.SmallUpdIdeal.main_arg0) = m ((c.tc : Thread Cert.SmallUpdIdeal.nD Cert.SmallUpdIdeal.τ).loc Cert.SmallUpdIdeal.main_arg0)
          ∧ r.2.mem ((c.tc : Thread Cert.SmallUpdIdeal.nD Cert.SmallUpdIdeal.τ).loc Cert.SmallUpdIdeal.main_arg1) = m ((c.tc : Thread Cert.SmallUpdIdeal.nD Cert.SmallUpdIdeal.τ).loc Cert.SmallUpdIdeal.main_arg1)
          ∧ r.2.mem ((c.tc : Thread Cert.SmallUpdIdeal.nD Cert.SmallUpdIdeal.τ).loc Cert.SmallUpdIdeal.main_arg2) = m ((c.tc : Thread Cert.SmallUpdIdeal.nD Cert.SmallUpdIdeal.τ).loc Cert.SmallUpdIdeal.main_arg2)
          ∧ r.2.mem ((c.tc : Thread Cert.SmallUpdIdeal.nD Cert.SmallUpdIdeal.τ).loc Cert.SmallUpdIdeal.main_arg3) = m ((c.tc : Thread Cert.SmallUpdIdeal.nD Cert.SmallUpdIdeal.τ).loc Cert.SmallUpdIdeal.main_arg3)
          ∧ r.2.mem ((c.tc : Thread Cert.SmallUpdIdeal.nD Cert.SmallUpdIdeal.τ).loc Cert.SmallUpdIdeal.main_arg4) = m ((c.tc : Thread Cert.SmallUpdIdeal.nD Cert.SmallUpdIdeal.τ).loc Cert.SmallUpdIdeal.main_arg4))
      ∧ θ_run (Cert.SmallUpdRefIdeal.defs (F := Ideal)) (onTc (τ := Cert.SmallUpdRefIdeal.τ) (Cert.SmallUpdRefIdeal.main (F := Ideal))) ⟨m', fun _ => 0, g'⟩ (fun r => ∀ c : Dev Cert.SmallUpdRefIdeal.nD,
          r.2.mem ((c.tc : Thread Cert.SmallUpdRefIdeal.nD Cert.SmallUpdRefIdeal.τ).loc Cert.SmallUpdRefIdeal.main_v54) = v0 c
          ∧ r.2.mem ((c.tc : Thread Cert.SmallUpdRefIdeal.nD Cert.SmallUpdRefIdeal.τ).loc Cert.SmallUpdRefIdeal.main_v78) = v1 c
          ∧ r.2.mem ((c.tc : Thread Cert.SmallUpdRefIdeal.nD Cert.SmallUpdRefIdeal.τ).loc Cert.SmallUpdRefIdeal.main_v59) = v2 c
          ∧ r.2.mem ((c.tc : Thread Cert.SmallUpdRefIdeal.nD Cert.SmallUpdRefIdeal.τ).loc Cert.SmallUpdRefIdeal.main_v65) = v3 c
          ∧ r.2.mem ((c.tc : Thread Cert.SmallUpdRefIdeal.nD Cert.SmallUpdRefIdeal.τ).loc Cert.SmallUpdRefIdeal.main_v79) = v4 c
          ∧ r.2.mem ((c.tc : Thread Cert.SmallUpdRefIdeal.nD Cert.SmallUpdRefIdeal.τ).loc Cert.SmallUpdRefIdeal.main_arg0) = m' ((c.tc : Thread Cert.SmallUpdRefIdeal.nD Cert.SmallUpdRefIdeal.τ).loc Cert.SmallUpdRefIdeal.main_arg0)
          ∧ r.2.mem ((c.tc : Thread Cert.SmallUpdRefIdeal.nD Cert.SmallUpdRefIdeal.τ).loc Cert.SmallUpdRefIdeal.main_arg1) = m' ((c.tc : Thread Cert.SmallUpdRefIdeal.nD Cert.SmallUpdRefIdeal.τ).loc Cert.SmallUpdRefIdeal.main_arg1)
          ∧ r.2.mem ((c.tc : Thread Cert.SmallUpdRefIdeal.nD Cert.SmallUpdRefIdeal.τ).loc Cert.SmallUpdRefIdeal.main_arg2) = m' ((c.tc : Thread Cert.SmallUpdRefIdeal.nD Cert.SmallUpdRefIdeal.τ).loc Cert.SmallUpdRefIdeal.main_arg2)
          ∧ r.2.mem ((c.tc : Thread Cert.SmallUpdRefIdeal.nD Cert.SmallUpdRefIdeal.τ).loc Cert.SmallUpdRefIdeal.main_arg3) = m' ((c.tc : Thread Cert.SmallUpdRefIdeal.nD Cert.SmallUpdRefIdeal.τ).loc Cert.SmallUpdRefIdeal.main_arg3)
          ∧ r.2.mem ((c.tc : Thread Cert.SmallUpdRefIdeal.nD Cert.SmallUpdRefIdeal.τ).loc Cert.SmallUpdRefIdeal.main_arg4) = m' ((c.tc : Thread Cert.SmallUpdRefIdeal.nD Cert.SmallUpdRefIdeal.τ).loc Cert.SmallUpdRefIdeal.main_arg4))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_arg1) = v0 c
          ∧ r.2.mem ((c.tc : Thread Cert.AdamOutRefIdeal.nD Cert.AdamOutRefIdeal.τ).loc Cert.AdamOutRefIdeal.main_v23) = v1 c
          ∧ r.2.mem ((c.tc : Thread Cert.AdamOutRefIdeal.nD Cert.AdamOutRefIdeal.τ).loc Cert.AdamOutRefIdeal.main_v4) = v2 c
          ∧ r.2.mem ((c.tc : Thread Cert.AdamOutRefIdeal.nD Cert.AdamOutRefIdeal.τ).loc Cert.AdamOutRefIdeal.main_v10) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def Claim : Prop :=
  ∃ (hFfn : Cert.Ffn.Facts) (hFfnIdeal : Cert.FfnIdeal.Facts) (hFfnRefIdeal : Cert.FfnRefIdeal.Facts) (hWgrad : Cert.Wgrad.Facts) (hWgradIdeal : Cert.WgradIdeal.Facts) (hWgradRefIdeal : Cert.WgradRefIdeal.Facts) (hFfnIn : Cert.FfnIn.Facts) (hFfnInIdeal : Cert.FfnInIdeal.Facts) (hFfnInRefIdeal : Cert.FfnInRefIdeal.Facts) (hNormBack : Cert.NormBack.Facts) (hNormBackIdeal : Cert.NormBackIdeal.Facts) (hNormBackRefIdeal : Cert.NormBackRefIdeal.Facts) (hInProj : Cert.InProj.Facts) (hInProjIdeal : Cert.InProjIdeal.Facts) (hInProjRefIdeal : Cert.InProjRefIdeal.Facts) (hInGrad : Cert.InGrad.Facts) (hInGradIdeal : Cert.InGradIdeal.Facts) (hInGradRefIdeal : Cert.InGradRefIdeal.Facts) (hInBack : Cert.InBack.Facts) (hInBackIdeal : Cert.InBackIdeal.Facts) (hInBackRefIdeal : Cert.InBackRefIdeal.Facts) (hDownLoss : Cert.DownLoss.Facts) (hDownLossIdeal : Cert.DownLossIdeal.Facts) (hDownLossRefIdeal : Cert.DownLossRefIdeal.Facts) (hMixOut : Cert.MixOut.Facts) (hMixOutIdeal : Cert.MixOutIdeal.Facts) (hMixOutRefIdeal : Cert.MixOutRefIdeal.Facts) (hMixBack : Cert.MixBack.Facts) (hMixBackIdeal : Cert.MixBackIdeal.Facts) (hMixBackRefIdeal : Cert.MixBackRefIdeal.Facts) (hOutGrad : Cert.OutGrad.Facts) (hOutGradIdeal : Cert.OutGradIdeal.Facts) (hOutGradRefIdeal : Cert.OutGradRefIdeal.Facts) (hAdamW : Cert.AdamW.Facts) (hAdamWIdeal : Cert.AdamWIdeal.Facts) (hAdamWRefIdeal : Cert.AdamWRefIdeal.Facts) (hAttnFwd : Cert.AttnFwd.Facts) (hAttnFwdIdeal : Cert.AttnFwdIdeal.Facts) (hAttnFwdRefIdeal : Cert.AttnFwdRefIdeal.Facts) (hSmallUpd : Cert.SmallUpd.Facts) (hSmallUpdIdeal : Cert.SmallUpdIdeal.Facts) (hSmallUpdRefIdeal : Cert.SmallUpdRefIdeal.Facts) (hAdamOut : Cert.AdamOut.Facts) (hAdamOutIdeal : Cert.AdamOutIdeal.Facts) (hAdamOutRefIdeal : Cert.AdamOutRefIdeal.Facts) (hPre_finite : Cert.Pre_finite.Facts) (hPre_norm_finite : Cert.Pre_norm_finite.Facts) (hPre_in_finite : Cert.Pre_in_finite.Facts) (hPre_down_finite : Cert.Pre_down_finite.Facts) (hPre_mix_finite : Cert.Pre_mix_finite.Facts) (hPre_att_finite : Cert.Pre_att_finite.Facts) (hPre_small_finite : Cert.Pre_small_finite.Facts),
    quiescent_Ffn (hFfn := hFfn)
    ∧ quiescent_FfnIdeal (hFfnIdeal := hFfnIdeal)
    ∧ quiescent_FfnIdeal_pre_finite (hFfnIdeal := hFfnIdeal) (hPre_finite := hPre_finite)
    ∧ quiescent_FfnRefIdeal (hFfnRefIdeal := hFfnRefIdeal)
    ∧ quiescent_FfnRefIdeal_pre_finite (hFfnRefIdeal := hFfnRefIdeal) (hPre_finite := hPre_finite)
    ∧ quiescent_Wgrad (hWgrad := hWgrad)
    ∧ quiescent_WgradIdeal (hWgradIdeal := hWgradIdeal)
    ∧ quiescent_WgradRefIdeal (hWgradRefIdeal := hWgradRefIdeal)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_NormBack (hNormBack := hNormBack)
    ∧ quiescent_NormBackIdeal (hNormBackIdeal := hNormBackIdeal)
    ∧ quiescent_NormBackIdeal_pre_norm_finite (hNormBackIdeal := hNormBackIdeal) (hPre_norm_finite := hPre_norm_finite)
    ∧ quiescent_NormBackRefIdeal (hNormBackRefIdeal := hNormBackRefIdeal)
    ∧ quiescent_NormBackRefIdeal_pre_norm_finite (hNormBackRefIdeal := hNormBackRefIdeal) (hPre_norm_finite := hPre_norm_finite)
    ∧ quiescent_InProj (hInProj := hInProj)
    ∧ quiescent_InProjIdeal (hInProjIdeal := hInProjIdeal)
    ∧ quiescent_InProjRefIdeal (hInProjRefIdeal := hInProjRefIdeal)
    ∧ quiescent_InGrad (hInGrad := hInGrad)
    ∧ quiescent_InGradIdeal (hInGradIdeal := hInGradIdeal)
    ∧ quiescent_InGradRefIdeal (hInGradRefIdeal := hInGradRefIdeal)
    ∧ quiescent_InBack (hInBack := hInBack)
    ∧ quiescent_InBackIdeal (hInBackIdeal := hInBackIdeal)
    ∧ quiescent_InBackIdeal_pre_in_finite (hInBackIdeal := hInBackIdeal) (hPre_in_finite := hPre_in_finite)
    ∧ quiescent_InBackRefIdeal (hInBackRefIdeal := hInBackRefIdeal)
    ∧ quiescent_InBackRefIdeal_pre_in_finite (hInBackRefIdeal := hInBackRefIdeal) (hPre_in_finite := hPre_in_finite)
    ∧ quiescent_DownLoss (hDownLoss := hDownLoss)
    ∧ quiescent_DownLossIdeal (hDownLossIdeal := hDownLossIdeal)
    ∧ quiescent_DownLossIdeal_pre_down_finite (hDownLossIdeal := hDownLossIdeal) (hPre_down_finite := hPre_down_finite)
    ∧ quiescent_DownLossRefIdeal (hDownLossRefIdeal := hDownLossRefIdeal)
    ∧ quiescent_DownLossRefIdeal_pre_down_finite (hDownLossRefIdeal := hDownLossRefIdeal) (hPre_down_finite := hPre_down_finite)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_MixBack (hMixBack := hMixBack)
    ∧ quiescent_MixBackIdeal (hMixBackIdeal := hMixBackIdeal)
    ∧ quiescent_MixBackIdeal_pre_mix_finite (hMixBackIdeal := hMixBackIdeal) (hPre_mix_finite := hPre_mix_finite)
    ∧ quiescent_MixBackRefIdeal (hMixBackRefIdeal := hMixBackRefIdeal)
    ∧ quiescent_MixBackRefIdeal_pre_mix_finite (hMixBackRefIdeal := hMixBackRefIdeal) (hPre_mix_finite := hPre_mix_finite)
    ∧ quiescent_OutGrad (hOutGrad := hOutGrad)
    ∧ quiescent_OutGradIdeal (hOutGradIdeal := hOutGradIdeal)
    ∧ quiescent_OutGradRefIdeal (hOutGradRefIdeal := hOutGradRefIdeal)
    ∧ quiescent_AdamW (hAdamW := hAdamW)
    ∧ quiescent_AdamWIdeal (hAdamWIdeal := hAdamWIdeal)
    ∧ quiescent_AdamWRefIdeal (hAdamWRefIdeal := hAdamWRefIdeal)
    ∧ quiescent_AttnFwd (hAttnFwd := hAttnFwd)
    ∧ quiescent_AttnFwdIdeal (hAttnFwdIdeal := hAttnFwdIdeal)
    ∧ quiescent_AttnFwdIdeal_pre_att_finite (hAttnFwdIdeal := hAttnFwdIdeal) (hPre_att_finite := hPre_att_finite)
    ∧ quiescent_AttnFwdRefIdeal (hAttnFwdRefIdeal := hAttnFwdRefIdeal)
    ∧ quiescent_AttnFwdRefIdeal_pre_att_finite (hAttnFwdRefIdeal := hAttnFwdRefIdeal) (hPre_att_finite := hPre_att_finite)
    ∧ quiescent_SmallUpd (hSmallUpd := hSmallUpd)
    ∧ quiescent_SmallUpdIdeal (hSmallUpdIdeal := hSmallUpdIdeal)
    ∧ quiescent_SmallUpdIdeal_pre_small_finite (hSmallUpdIdeal := hSmallUpdIdeal) (hPre_small_finite := hPre_small_finite)
    ∧ quiescent_SmallUpdRefIdeal (hSmallUpdRefIdeal := hSmallUpdRefIdeal)
    ∧ quiescent_SmallUpdRefIdeal_pre_small_finite (hSmallUpdRefIdeal := hSmallUpdRefIdeal) (hPre_small_finite := hPre_small_finite)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ preserves_Ffn_FfnIdeal
    ∧ algebraic_FfnIdeal_FfnRefIdeal_pre_finite (hFfnIdeal := hFfnIdeal) (hFfnRefIdeal := hFfnRefIdeal) (hPre_finite := hPre_finite)
    ∧ preserves_Wgrad_WgradIdeal
    ∧ algebraic_WgradIdeal_WgradRefIdeal (hWgradIdeal := hWgradIdeal) (hWgradRefIdeal := hWgradRefIdeal)
    ∧ preserves_FfnIn_FfnInIdeal
    ∧ algebraic_FfnInIdeal_FfnInRefIdeal (hFfnInIdeal := hFfnInIdeal) (hFfnInRefIdeal := hFfnInRefIdeal)
    ∧ preserves_NormBack_NormBackIdeal
    ∧ algebraic_NormBackIdeal_NormBackRefIdeal_pre_norm_finite (hNormBackIdeal := hNormBackIdeal) (hNormBackRefIdeal := hNormBackRefIdeal) (hPre_norm_finite := hPre_norm_finite)
    ∧ preserves_InProj_InProjIdeal
    ∧ algebraic_InProjIdeal_InProjRefIdeal (hInProjIdeal := hInProjIdeal) (hInProjRefIdeal := hInProjRefIdeal)
    ∧ preserves_InGrad_InGradIdeal
    ∧ algebraic_InGradIdeal_InGradRefIdeal (hInGradIdeal := hInGradIdeal) (hInGradRefIdeal := hInGradRefIdeal)
    ∧ preserves_InBack_InBackIdeal
    ∧ algebraic_InBackIdeal_InBackRefIdeal_pre_in_finite (hInBackIdeal := hInBackIdeal) (hInBackRefIdeal := hInBackRefIdeal) (hPre_in_finite := hPre_in_finite)
    ∧ preserves_DownLoss_DownLossIdeal
    ∧ algebraic_DownLossIdeal_DownLossRefIdeal_pre_down_finite (hDownLossIdeal := hDownLossIdeal) (hDownLossRefIdeal := hDownLossRefIdeal) (hPre_down_finite := hPre_down_finite)
    ∧ preserves_MixOut_MixOutIdeal
    ∧ algebraic_MixOutIdeal_MixOutRefIdeal (hMixOutIdeal := hMixOutIdeal) (hMixOutRefIdeal := hMixOutRefIdeal)
    ∧ preserves_MixBack_MixBackIdeal
    ∧ algebraic_MixBackIdeal_MixBackRefIdeal_pre_mix_finite (hMixBackIdeal := hMixBackIdeal) (hMixBackRefIdeal := hMixBackRefIdeal) (hPre_mix_finite := hPre_mix_finite)
    ∧ preserves_OutGrad_OutGradIdeal
    ∧ algebraic_OutGradIdeal_OutGradRefIdeal (hOutGradIdeal := hOutGradIdeal) (hOutGradRefIdeal := hOutGradRefIdeal)
    ∧ preserves_AdamW_AdamWIdeal
    ∧ algebraic_AdamWIdeal_AdamWRefIdeal (hAdamWIdeal := hAdamWIdeal) (hAdamWRefIdeal := hAdamWRefIdeal)
    ∧ preserves_AttnFwd_AttnFwdIdeal
    ∧ algebraic_AttnFwdIdeal_AttnFwdRefIdeal_pre_att_finite (hAttnFwdIdeal := hAttnFwdIdeal) (hAttnFwdRefIdeal := hAttnFwdRefIdeal) (hPre_att_finite := hPre_att_finite)
    ∧ preserves_SmallUpd_SmallUpdIdeal
    ∧ algebraic_SmallUpdIdeal_SmallUpdRefIdeal_pre_small_finite (hSmallUpdIdeal := hSmallUpdIdeal) (hSmallUpdRefIdeal := hSmallUpdRefIdeal) (hPre_small_finite := hPre_small_finite)
    ∧ preserves_AdamOut_AdamOutIdeal
    ∧ algebraic_AdamOutIdeal_AdamOutRefIdeal (hAdamOutIdeal := hAdamOutIdeal) (hAdamOutRefIdeal := hAdamOutRefIdeal)
-- ==== Pre_att_finite.lean ====
abbrev S4096x768 : Shape := ⟨2, ![4096, 768]⟩
abbrev S1x768 : Shape := ⟨2, ![1, 768]⟩
abbrev S1x8 : Shape := ⟨2, ![1, 8]⟩
abbrev S4096x640 : Shape := ⟨2, ![4096, 640]⟩
abbrev S1x640 : Shape := ⟨2, ![1, 640]⟩
abbrev S_ : Shape := ⟨0, ![]⟩

class Facts : Prop where
  slices_S4096x768_S4096x640_0_0 : S4096x768.Slices ![0, 0] S4096x640
  slices_S1x768_S1x640_0_0 : S1x768.Slices ![0, 0] S1x640
  bcast_S_S4096x640 : S_.BroadcastsInDim S4096x640 (![] : Fin 0 → Fin S4096x640.rank)
  bcast_S_S1x640 : S_.BroadcastsInDim S1x640 (![] : Fin 0 → Fin S1x640.rank)
  bcast_S_S1x8 : S_.BroadcastsInDim S1x8 (![] : Fin 0 → Fin S1x8.rank)

variable [Facts]

def fn {F : FTy → Type} [FloatOps F] (main_arg0 : FVec F S4096x768 .f32) (main_arg1 : FVec F S1x768 .f32) (main_arg2 : FVec F S1x8 .f32) : IVec S4096x640 1 × IVec S1x640 1 × IVec S1x8 1 :=
  let main_v0 : FVec F S4096x640 .f32 := (extractStridedSlice S4096x640 ![0, 0] · slices_S4096x768_S4096x640_0_0) main_arg0
  let main_v1 : FVec F S1x640 .f32 := (extractStridedSlice S1x640 ![0, 0] · slices_S1x768_S1x640_0_0) main_arg1
  let main_v2 : FVec F S4096x640 .f32 := Host.absf main_v0
  let main_cst : FVec F S_ .f32 := constant S_ .f32 0x7F800000#32
  let main_v3 : FVec F S4096x640 .f32 := broadcastInDim S4096x640 ![] bcast_S_S4096x640 main_cst
  let main_v4 : IVec S4096x640 1 := cmpf .olt main_v2 main_v3
  let main_v5 : FVec F S1x640 .f32 := Host.absf main_v1
  let main_cst_0 : FVec F S_ .f32 := constant S_ .f32 0x7F800000#32
  let main_v6 : FVec F S1x640 .f32 := broadcastInDim S1x640 ![] bcast_S_S1x640 main_cst_0
  let main_v7 : IVec S1x640 1 := cmpf .olt main_v5 main_v6
  let main_v8 : FVec F S1x8 .f32 := Host.absf main_arg2
  let main_cst_1 : FVec F S_ .f32 := constant S_ .f32 0x7F800000#32
  let main_v9 : FVec F S1x8 .f32 := broadcastInDim S1x8 ![] bcast_S_S1x8 main_cst_1
  let main_v10 : IVec S1x8 1 := cmpf .olt main_v8 main_v9
  (main_v4, main_v7, main_v10)
-- ==== Pre_down_finite.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x2816 : S_.BroadcastsInDim S4096x2816 (![] : Fin 0 → Fin S4096x2816.rank)
  bcast_S_S2816x1024 : S_.BroadcastsInDim S2816x1024 (![] : Fin 0 → Fin S2816x1024.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x2816 .bf16) (main_arg1 : FVec F S2816x1024 .bf16) (main_arg2 : FVec F S4096x1024 .f32) (main_arg3 : FVec F S4096x1024 .f32) (main_arg4 : FVec F S1x1024 .f32) : IVec S4096x2816 1 × IVec S2816x1024 1 × IVec S4096x1024 1 × IVec S4096x1024 1 × IVec S1x1024 1 :=
  let main_v0 : FVec F S4096x2816 .f32 := (extf .f32 · bitsLt_bf16_f32) main_arg0
  let main_v1 : FVec F S4096x2816 .f32 := Host.absf main_v0
  let main_cst : FVec F S_ .f32 := constant S_ .f32 0x7F800000#32
  let main_v2 : FVec F S4096x2816 .f32 := broadcastInDim S4096x2816 ![] bcast_S_S4096x2816 main_cst
  let main_v3 : IVec S4096x2816 1 := cmpf .olt main_v1 main_v2
  let main_v4 : FVec F S2816x1024 .f32 := (extf .f32 · bitsLt_bf16_f32) main_arg1
  let main_v5 : FVec F S2816x1024 .f32 := Host.absf main_v4
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_v8 : FVec F S4096x1024 .f32 := Host.absf main_arg2
  let main_cst_1 : FVec F S_ .f32 := constant S_ .f32 0x7F800000#32
  let main_v9 : FVec F S4096x1024 .f32 := broadcastInDim S4096x1024 ![] bcast_S_S4096x1024 main_cst_1
  let main_v10 : IVec S4096x1024 1 := cmpf .olt main_v8 main_v9
  let main_v11 : FVec F S4096x1024 .f32 := Host.absf main_arg3
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_v14 : FVec F S1x1024 .f32 := Host.absf main_arg4
  let main_cst_3 : FVec F S_ .f32 := constant S_ .f32 0x7F800000#32
  let main_v15 : FVec F S1x1024 .f32 := broadcastInDim S1x1024 ![] bcast_S_S1x1024 main_cst_3
  let main_v16 : IVec S1x1024 1 := cmpf .olt main_v14 main_v15
  (main_v3, main_v7, main_v10, main_v13, main_v16)
-- ==== Pre_finite.lean ====
abbrev S4096x1024 : Shape := ⟨2, ![4096, 1024]⟩
abbrev S2816x1024 : Shape := ⟨2, ![2816, 1024]⟩
abbrev S4096x2816 : Shape := ⟨2, ![4096, 2816]⟩
abbrev S3x2816 : Shape := ⟨2, ![3, 2816]⟩
abbrev S1x2816 : Shape := ⟨2, ![1, 2816]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S2816x1024 : S_.BroadcastsInDim S2816x1024 (![] : Fin 0 → Fin S2816x1024.rank)
  bcast_S_S4096x2816 : S_.BroadcastsInDim S4096x2816 (![] : Fin 0 → Fin S4096x2816.rank)

variable [Facts]

def fn {F : FTy → Type} [FloatOps F] (main_arg0 : FVec F S4096x1024 .bf16) (main_arg1 : FVec F S2816x1024 .bf16) (main_arg2 : FVec F S4096x2816 .bf16) (main_arg3 : FVec F S4096x2816 .bf16) (main_arg4 : FVec F S3x2816 .f32) (main_arg5 : FVec F S1x2816 .f32) : IVec S4096x1024 1 × IVec S2816x1024 1 × IVec S4096x2816 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S2816x1024 .f32 := (extf .f32 · bitsLt_bf16_f32) main_arg1
  let main_v5 : FVec F S2816x1024 .f32 := Host.absf main_v4
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_v8 : FVec F S4096x2816 .f32 := (extf .f32 · bitsLt_bf16_f32) main_arg3
  let main_v9 : FVec F S4096x2816 .f32 := Host.absf main_v8
  let main_cst_1 : FVec F S_ .f32 := constant S_ .f32 0x7F800000#32
  let main_v10 : FVec F S4096x2816 .f32 := broadcastInDim S4096x2816 ![] bcast_S_S4096x2816 main_cst_1
  let main_v11 : IVec S4096x2816 1 := cmpf .olt main_v9 main_v10
  (main_v3, main_v7, main_v11)
-- ==== Pre_in_finite.lean ====
abbrev S4096x512 : Shape := ⟨2, ![4096, 512]⟩
abbrev S4096x256 : Shape := ⟨2, ![4096, 256]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x512 : S_.BroadcastsInDim S4096x512 (![] : Fin 0 → Fin S4096x512.rank)
  bcast_S_S4096x256 : S_.BroadcastsInDim S4096x256 (![] : Fin 0 → Fin S4096x256.rank)
  bcast_S_S2816x1024 : S_.BroadcastsInDim S2816x1024 (![] : Fin 0 → Fin S2816x1024.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn_part1 {F : FTy → Type} [FloatOps F] (main_arg5 : FVec F S4096x256 .bf16) (main_arg6 : FVec F S2816x1024 .bf16) (main_arg7 : FVec F S4096x1024 .f32) (main_arg9 : FVec F S1x1024 .f32) (main_v3 : IVec S4096x512 1) (main_v7 : IVec S4096x512 1) (main_v11 : IVec S4096x512 1) (main_v15 : IVec S4096x512 1) (main_v17 : FVec F S4096x512 .f32) (main_v18 : FVec F S4096x512 .f32) : IVec S4096x512 1 × IVec S4096x512 1 × IVec S4096x512 1 × IVec S4096x512 1 × IVec S4096x512 1 × IVec S4096x256 1 × IVec S2816x1024 1 × IVec S4096x1024 1 × IVec S1x1024 1 :=
  let main_v19 : IVec S4096x512 1 := cmpf .olt main_v17 main_v18
  let main_v20 : FVec F S4096x256 .f32 := (extf .f32 · bitsLt_bf16_f32) main_arg5
  let main_v21 : FVec F S4096x256 .f32 := Host.absf main_v20
  let main_cst_4 : FVec F S_ .f32 := constant S_ .f32 0x7F800000#32
  let main_v22 : FVec F S4096x256 .f32 := broadcastInDim S4096x256 ![] bcast_S_S4096x256 main_cst_4
  let main_v23 : IVec S4096x256 1 := cmpf .olt main_v21 main_v22
  let main_v24 : FVec F S2816x1024 .f32 := (extf .f32 · bitsLt_bf16_f32) main_arg6
  let main_v25 : FVec F S2816x1024 .f32 := Host.absf main_v24
  let main_cst_5 : FVec F S_ .f32 := constant S_ .f32 0x7F800000#32
  let main_v26 : FVec F S2816x1024 .f32 := broadcastInDim S2816x1024 ![] bcast_S_S2816x1024 main_cst_5
  let main_v27 : IVec S2816x1024 1 := cmpf .olt main_v25 main_v26
  let main_v28 : FVec F S4096x1024 .f32 := Host.absf main_arg7
  let main_cst_6 : FVec F S_ .f32 := constant S_ .f32 0x7F800000#32
  let main_v29 : FVec F S4096x1024 .f32 := broadcastInDim S4096x1024 ![] bcast_S_S4096x1024 main_cst_6
  let main_v30 : IVec S4096x1024 1 := cmpf .olt main_v28 main_v29
  let main_v31 : FVec F S1x1024 .f32 := Host.absf main_arg9
  let main_cst_7 : FVec F S_ .f32 := constant S_ .f32 0x7F800000#32
  let main_v32 : FVec F S1x1024 .f32 := broadcastInDim S1x1024 ![] bcast_S_S1x1024 main_cst_7
  let main_v33 : IVec S1x1024 1 := cmpf .olt main_v31 main_v32
  (main_v3, main_v7, main_v11, main_v15, main_v19, main_v23, main_v27, main_v30, main_v33)

def fn {F : FTy → Type} [FloatOps F] (main_arg0 : FVec F S4096x512 .bf16) (main_arg1 : FVec F S4096x512 .bf16) (main_arg2 : FVec F S4096x512 .bf16) (main_arg3 : FVec F S4096x512 .bf16) (main_arg4 : FVec F S4096x512 .bf16) (main_arg5 : FVec F S4096x256 .bf16) (main_arg6 : FVec F S2816x1024 .bf16) (main_arg7 : FVec F S4096x1024 .f32) (main_arg8 : FVec F S4096x1024 .f32) (main_arg9 : FVec F S1x1024 .f32) : IVec S4096x512 1 × IVec S4096x512 1 × IVec S4096x512 1 × IVec S4096x512 1 × IVec S4096x512 1 × IVec S4096x256 1 × IVec S2816x1024 1 × IVec S4096x1024 1 × IVec S1x1024 1 :=
  let main_v0 : FVec F S4096x512 .f32 := (extf .f32 · bitsLt_bf16_f32) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  let main_v4 : FVec F S4096x512 .f32 := (extf .f32 · bitsLt_bf16_f32) main_arg1
  let main_v5 : FVec F S4096x512 .f32 := Host.absf main_v4
  let main_cst_0 : FVec F S_ .f32 := constant S_ .f32 0x7F800000#32
  let main_v6 : FVec F S4096x512 .f32 := broadcastInDim S4096x512 ![] bcast_S_S4096x512 main_cst_0
  let main_v7 : IVec S4096x512 1 := cmpf .olt main_v5 main_v6
  let main_v8 : FVec F S4096x512 .f32 := (extf .f32 · bitsLt_bf16_f32) main_arg2
  let main_v9 : FVec F S4096x512 .f32 := Host.absf main_v8
  let main_cst_1 : FVec F S_ .f32 := constant S_ .f32 0x7F800000#32
  let main_v10 : FVec F S4096x512 .f32 := broadcastInDim S4096x512 ![] bcast_S_S4096x512 main_cst_1
  let main_v11 : IVec S4096x512 1 := cmpf .olt main_v9 main_v10
  let main_v12 : FVec F S4096x512 .f32 := (extf .f32 · bitsLt_bf16_f32) main_arg3
  let main_v13 : FVec F S4096x512 .f32 := Host.absf main_v12
  let main_cst_2 : FVec F S_ .f32 := constant S_ .f32 0x7F800000#32
  let main_v14 : FVec F S4096x512 .f32 := broadcastInDim S4096x512 ![] bcast_S_S4096x512 main_cst_2
  let main_v15 : IVec S4096x512 1 := cmpf .olt main_v13 main_v14
  let main_v16 : FVec F S4096x512 .f32 := (extf .f32 · bitsLt_bf16_f32) main_arg4
  let main_v17 : FVec F S4096x512 .f32 := Host.absf main_v16
  let main_cst_3 : FVec F S_ .f32 := constant S_ .f32 0x7F800000#32
  let main_v18 : FVec F S4096x512 .f32 := broadcastInDim S4096x512 ![] bcast_S_S4096x512 main_cst_3
  fn_part1 (F := F) main_arg5 main_arg6 main_arg7 main_arg9 main_v3 main_v7 main_v11 main_v15 main_v17 main_v18
-- ==== Pre_mix_finite.lean ====
abbrev S4096x1024 : Shape := ⟨2, ![4096, 1024]⟩
abbrev S1024x1024 : Shape := ⟨2, ![1024, 1024]⟩
abbrev S4096x512 : Shape := ⟨2, ![4096, 512]⟩
abbrev S1x128 : Shape := ⟨2, ![1, 128]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S1024x1024 : S_.BroadcastsInDim S1024x1024 (![] : Fin 0 → Fin S1024x1024.rank)
  bcast_S_S4096x512 : S_.BroadcastsInDim S4096x512 (![] : Fin 0 → Fin S4096x512.rank)
  bcast_S_S1x128 : S_.BroadcastsInDim S1x128 (![] : Fin 0 → Fin S1x128.rank)

variable [Facts]

def fn {F : FTy → Type} [FloatOps F] (main_arg0 : FVec F S4096x1024 .bf16) (main_arg1 : FVec F S1024x1024 .bf16) (main_arg2 : FVec F S4096x512 .f32) (main_arg3 : FVec F S4096x512 .f32) (main_arg4 : FVec F S1x128 .f32) : IVec S4096x1024 1 × IVec S1024x1024 1 × IVec S4096x512 1 × IVec S1x128 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S1024x1024 .f32 := (extf .f32 · bitsLt_bf16_f32) main_arg1
  let main_v5 : FVec F S1024x1024 .f32 := Host.absf main_v4
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_v8 : FVec F S4096x512 .f32 := Host.absf main_arg2
  let main_cst_1 : FVec F S_ .f32 := constant S_ .f32 0x7F800000#32
  let main_v9 : FVec F S4096x512 .f32 := broadcastInDim S4096x512 ![] bcast_S_S4096x512 main_cst_1
  let main_v10 : IVec S4096x512 1 := cmpf .olt main_v8 main_v9
  let main_v11 : FVec F S1x128 .f32 := Host.absf main_arg4
  let main_cst_2 : FVec F S_ .f32 := constant S_ .f32 0x7F800000#32
  let main_v12 : FVec F S1x128 .f32 := broadcastInDim S1x128 ![] bcast_S_S1x128 main_cst_2
  let main_v13 : IVec S1x128 1 := cmpf .olt main_v11 main_v12
  (main_v3, main_v7, main_v10, main_v13)
-- ==== Pre_norm_finite.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x2816 : S_.BroadcastsInDim S4096x2816 (![] : Fin 0 → Fin S4096x2816.rank)
  bcast_S_S2816x1024 : S_.BroadcastsInDim S2816x1024 (![] : Fin 0 → Fin S2816x1024.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn_part1 {F : FTy → Type} [FloatOps F] (main_arg6 : FVec F S1x1024 .f32) (main_v3 : IVec S4096x2816 1) (main_v7 : IVec S4096x2816 1) (main_v11 : IVec S2816x1024 1) (main_v15 : IVec S2816x1024 1) (main_v18 : IVec S4096x1024 1) : IVec S4096x2816 1 × IVec S4096x2816 1 × IVec S2816x1024 1 × IVec S2816x1024 1 × IVec S4096x1024 1 × IVec S1x1024 1 :=
  let main_v19 : FVec F S1x1024 .f32 := Host.absf main_arg6
  let main_cst_4 : FVec F S_ .f32 := constant S_ .f32 0x7F800000#32
  let main_v20 : FVec F S1x1024 .f32 := broadcastInDim S1x1024 ![] bcast_S_S1x1024 main_cst_4
  let main_v21 : IVec S1x1024 1 := cmpf .olt main_v19 main_v20
  (main_v3, main_v7, main_v11, main_v15, main_v18, main_v21)

def fn {F : FTy → Type} [FloatOps F] (main_arg0 : FVec F S4096x2816 .bf16) (main_arg1 : FVec F S4096x2816 .bf16) (main_arg2 : FVec F S2816x1024 .bf16) (main_arg3 : FVec F S2816x1024 .bf16) (main_arg4 : FVec F S4096x1024 .f32) (main_arg5 : FVec F S4096x1024 .f32) (main_arg6 : FVec F S1x1024 .f32) : IVec S4096x2816 1 × IVec S4096x2816 1 × IVec S2816x1024 1 × IVec S2816x1024 1 × IVec S4096x1024 1 × IVec S1x1024 1 :=
  let main_v0 : FVec F S4096x2816 .f32 := (extf .f32 · bitsLt_bf16_f32) main_arg0
  let main_v1 : FVec F S4096x2816 .f32 := Host.absf main_v0
  let main_cst : FVec F S_ .f32 := constant S_ .f32 0x7F800000#32
  let main_v2 : FVec F S4096x2816 .f32 := broadcastInDim S4096x2816 ![] bcast_S_S4096x2816 main_cst
  let main_v3 : IVec S4096x2816 1 := cmpf .olt main_v1 main_v2
  let main_v4 : FVec F S4096x2816 .f32 := (extf .f32 · bitsLt_bf16_f32) main_arg1
  let main_v5 : FVec F S4096x2816 .f32 := Host.absf main_v4
  let main_cst_0 : FVec F S_ .f32 := constant S_ .f32 0x7F800000#32
  let main_v6 : FVec F S4096x2816 .f32 := broadcastInDim S4096x2816 ![] bcast_S_S4096x2816 main_cst_0
  let main_v7 : IVec S4096x2816 1 := cmpf .olt main_v5 main_v6
  let main_v8 : FVec F S2816x1024 .f32 := (extf .f32 · bitsLt_bf16_f32) main_arg2
  let main_v9 : FVec F S2816x1024 .f32 := Host.absf main_v8
  let main_cst_1 : FVec F S_ .f32 := constant S_ .f32 0x7F800000#32
  let main_v10 : FVec F S2816x1024 .f32 := broadcastInDim S2816x1024 ![] bcast_S_S2816x1024 main_cst_1
  let main_v11 : IVec S2816x1024 1 := cmpf .olt main_v9 main_v10
  let main_v12 : FVec F S2816x1024 .f32 := (extf .f32 · bitsLt_bf16_f32) main_arg3
  let main_v13 : FVec F S2816x1024 .f32 := Host.absf main_v12
  let main_cst_2 : FVec F S_ .f32 := constant S_ .f32 0x7F800000#32
  let main_v14 : FVec F S2816x1024 .f32 := broadcastInDim S2816x1024 ![] bcast_S_S2816x1024 main_cst_2
  let main_v15 : IVec S2816x1024 1 := cmpf .olt main_v13 main_v14
  let main_v16 : FVec F S4096x1024 .f32 := Host.absf main_arg4
  let main_cst_3 : FVec F S_ .f32 := constant S_ .f32 0x7F800000#32
  let main_v17 : FVec F S4096x1024 .f32 := broadcastInDim S4096x1024 ![] bcast_S_S4096x1024 main_cst_3
  let main_v18 : IVec S4096x1024 1 := cmpf .olt main_v16 main_v17
  fn_part1 (F := F) main_arg6 main_v3 main_v7 main_v11 main_v15 main_v18
-- ==== Pre_small_finite.lean ====
abbrev S8x128 : Shape := ⟨2, ![8, 128]⟩
abbrev S8x160x128 : Shape := ⟨3, ![8, 160, 128]⟩
abbrev S160x128 : Shape := ⟨2, ![160, 128]⟩
abbrev S8x8x128 : Shape := ⟨3, ![8, 8, 128]⟩
abbrev S_ : Shape := ⟨0, ![]⟩

class Facts : Prop where
  slices_S8x160x128_S8x8x128_0_24_0 : S8x160x128.Slices ![0, 24, 0] S8x8x128
  slices_S160x128_S8x128_24_0 : S160x128.Slices ![24, 0] S8x128
  bcast_S_S8x8x128 : S_.BroadcastsInDim S8x8x128 (![] : Fin 0 → Fin S8x8x128.rank)
  bcast_S_S8x128 : S_.BroadcastsInDim S8x128 (![] : Fin 0 → Fin S8x128.rank)

variable [Facts]

def fn {F : FTy → Type} [FloatOps F] (main_arg0 : FVec F S8x128 .f32) (main_arg1 : FVec F S8x160x128 .f32) (main_arg2 : FVec F S160x128 .f32) (main_arg3 : FVec F S160x128 .f32) (main_arg4 : FVec F S160x128 .f32) : IVec S8x8x128 1 × IVec S8x128 1 :=
  let main_v0 : FVec F S8x8x128 .f32 := (extractStridedSlice S8x8x128 ![0, 24, 0] · slices_S8x160x128_S8x8x128_0_24_0) main_arg1
  let main_v1 : FVec F S8x128 .f32 := (extractStridedSlice S8x128 ![24, 0] · slices_S160x128_S8x128_24_0) main_arg2
  let main_v2 : FVec F S8x8x128 .f32 := Host.absf main_v0
  let main_cst : FVec F S_ .f32 := constant S_ .f32 0x7F800000#32
  let main_v3 : FVec F S8x8x128 .f32 := broadcastInDim S8x8x128 ![] bcast_S_S8x8x128 main_cst
  let main_v4 : IVec S8x8x128 1 := cmpf .olt main_v2 main_v3
  let main_v5 : FVec F S8x128 .f32 := Host.absf main_v1
  let main_cst_0 : FVec F S_ .f32 := constant S_ .f32 0x7F800000#32
  let main_v6 : FVec F S8x128 .f32 := broadcastInDim S8x128 ![] bcast_S_S8x128 main_cst_0
  let main_v7 : IVec S8x128 1 := cmpf .olt main_v5 main_v6
  (main_v4, main_v7)
-- ==== Ffn.lean ====
abbrev S4096x1024 : Shape := ⟨2, ![4096, 1024]⟩
abbrev S2816x1024 : Shape := ⟨2, ![2816, 1024]⟩
abbrev S4096x2816 : Shape := ⟨2, ![4096, 2816]⟩
abbrev S3x2816 : Shape := ⟨2, ![3, 2816]⟩
abbrev S1x2816 : Shape := ⟨2, ![1, 2816]⟩
abbrev S_ : Shape := ⟨0, ![]⟩
abbrev S2x2816 : Shape := ⟨2, ![2, 2816]⟩
abbrev S4098x2816 : Shape := ⟨2, ![4098, 2816]⟩
abbrev S2816 : Shape := ⟨1, ![2816]⟩
abbrev S5x2816 : Shape := ⟨2, ![5, 2816]⟩
abbrev S8x2816 : Shape := ⟨2, ![8, 2816]⟩
abbrev S512x1024 : Shape := ⟨2, ![512, 1024]⟩
abbrev S1408x1024 : Shape := ⟨2, ![1408, 1024]⟩
abbrev S512x1408 : Shape := ⟨2, ![512, 1408]⟩
abbrev S8x1408 : Shape := ⟨2, ![8, 1408]⟩
abbrev S1x1408 : Shape := ⟨2, ![1, 1408]⟩
abbrev S520x1408 : Shape := ⟨2, ![520, 1408]⟩
abbrev S1408 : Shape := ⟨1, ![1408]⟩
abbrev S5x1408 : Shape := ⟨2, ![5, 1408]⟩

abbrev nBuf : Space → Nat
  | .hbm => 41
  | .vmem => 21
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .hbm, ⟨3, _⟩ => ⟨S4096x2816, .bf16⟩
  | .hbm, ⟨4, _⟩ => ⟨S3x2816, .f32⟩
  | .hbm, ⟨5, _⟩ => ⟨S1x2816, .f32⟩
  | .hbm, ⟨6, _⟩ => ⟨S4096x2816, .f32⟩
  | .hbm, ⟨7, _⟩ => ⟨S_, .f32⟩
  | .hbm, ⟨8, _⟩ => ⟨S2x2816, .f32⟩
  | .hbm, ⟨9, _⟩ => ⟨S4098x2816, .f32⟩
  | .hbm, ⟨10, _⟩ => ⟨S4096x2816, .f32⟩
  | .hbm, ⟨11, _⟩ => ⟨S1x2816, .f32⟩
  | .hbm, ⟨12, _⟩ => ⟨S2816, .f32⟩
  | .hbm, ⟨13, _⟩ => ⟨S1x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S1x2816, .f32⟩
  | .hbm, ⟨18, _⟩ => ⟨S2816, .f32⟩
  | .hbm, ⟨19, _⟩ => ⟨S1x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S1x2816, .f32⟩
  | .hbm, ⟨25, _⟩ => ⟨S2816, .f32⟩
  | .hbm, ⟨26, _⟩ => ⟨S1x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S2816, .f32⟩
  | .hbm, ⟨31, _⟩ => ⟨S1x2816, .f32⟩
  | .hbm, ⟨32, _⟩ => ⟨S4096x2816, .f32⟩
  | .hbm, ⟨33, _⟩ => ⟨S4096x2816, .f32⟩
  | .hbm, ⟨34, _⟩ => ⟨S_, .f32⟩
  | .hbm, ⟨35, _⟩ => ⟨S5x2816, .f32⟩
  | .hbm, ⟨36, _⟩ => ⟨S8x2816, .f32⟩
  | .hbm, ⟨37, _⟩ => ⟨S4096x2816, .bf16⟩
  | .hbm, ⟨38, _⟩ => ⟨S4096x2816, .bf16⟩
  | .hbm, ⟨39, _⟩ => ⟨S8x2816, .f32⟩
  | .hbm, ⟨40, _⟩ => ⟨S1x2816, .f32⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .f32⟩
  | .local _ .vmem, ⟨9, _⟩ => ⟨S512x1408, .f32⟩
  | .local _ .vmem, ⟨10, _⟩ => ⟨S8x1408, .f32⟩
  | .local _ .vmem, ⟨11, _⟩ => ⟨S8x1408, .f32⟩
  | .local _ .vmem, ⟨12, _⟩ => ⟨S512x1408, .bf16⟩
  | .local _ .vmem, ⟨13, _⟩ => ⟨S512x1408, .bf16⟩
  | .local _ .vmem, ⟨14, _⟩ => ⟨S512x1408, .bf16⟩
  | .local _ .vmem, ⟨15, _⟩ => ⟨S512x1408, .bf16⟩
  | .local _ .vmem, ⟨16, _⟩ => ⟨S8x1408, .f32⟩
  | .local _ .vmem, ⟨17, _⟩ => ⟨S8x1408, .f32⟩
  | .local _ .vmem, ⟨18, _⟩ => ⟨S1x1408, .f32⟩
  | .local _ .vmem, ⟨19, _⟩ => ⟨S1x1408, .f32⟩
  | .local _ .vmem, ⟨20, _⟩ => ⟨S8x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_0 : Ref sig .tc := ⟨.hbm, 34, rfl⟩
abbrev main_v27 : Ref sig .tc := ⟨.hbm, 35, rfl⟩
abbrev main_v28 : Ref sig .tc := ⟨.hbm, 36, rfl⟩
abbrev main_v29_0 : Ref sig .tc := ⟨.hbm, 37, rfl⟩
abbrev main_v29_1 : Ref sig .tc := ⟨.hbm, 38, rfl⟩
abbrev main_v29_2 : Ref sig .tc := ⟨.hbm, 39, rfl⟩
abbrev main_v29_3 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_7 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== FfnRefIdeal.lean ====
abbrev S4096x1024 : Shape := ⟨2, ![4096, 1024]⟩
abbrev S2816x1024 : Shape := ⟨2, ![2816, 1024]⟩
abbrev S4096x2816 : Shape := ⟨2, ![4096, 2816]⟩
abbrev S3x2816 : Shape := ⟨2, ![3, 2816]⟩
abbrev S1x2816 : Shape := ⟨2, ![1, 2816]⟩
abbrev S_ : Shape := ⟨0, ![]⟩
abbrev S2x2816 : Shape := ⟨2, ![2, 2816]⟩
abbrev S4098x2816 : Shape := ⟨2, ![4098, 2816]⟩
abbrev S2816 : Shape := ⟨1, ![2816]⟩
abbrev S5x2816 : Shape := ⟨2, ![5, 2816]⟩
abbrev S8x2816 : Shape := ⟨2, ![8, 2816]⟩

abbrev nBuf : Space → Nat
  | .hbm => 117
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .hbm, ⟨3, _⟩ => ⟨S4096x2816, .bf16⟩
  | .hbm, ⟨4, _⟩ => ⟨S3x2816, .f32⟩
  | .hbm, ⟨5, _⟩ => ⟨S1x2816, .f32⟩
  | .hbm, ⟨6, _⟩ => ⟨S4096x2816, .f32⟩
  | .hbm, ⟨7, _⟩ => ⟨S4096x2816, .f32⟩
  | .hbm, ⟨8, _⟩ => ⟨S2816x1024, .f32⟩
  | .hbm, ⟨9, _⟩ => ⟨S_, .f32⟩
  | .hbm, ⟨10, _⟩ => ⟨S2x2816, .f32⟩
  | .hbm, ⟨11, _⟩ => ⟨S4098x2816, .f32⟩
  | .hbm, ⟨12, _⟩ => ⟨S_, .f32⟩
  | .hbm, ⟨13, _⟩ => ⟨S2x2816, .f32⟩
  | .hbm, ⟨14, _⟩ => ⟨S4096x2816, .f32⟩
  | .hbm, ⟨15, _⟩ => ⟨S1x2816, .f32⟩
  | .hbm, ⟨16, _⟩ => ⟨S2816, .f32⟩
  | .hbm, ⟨17, _⟩ => ⟨S1x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S1x2816, .f32⟩
  | .hbm, ⟨22, _⟩ => ⟨S2816, .f32⟩
  | .hbm, ⟨23, _⟩ => ⟨S1x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S1x2816, .f32⟩
  | .hbm, ⟨29, _⟩ => ⟨S2816, .f32⟩
  | .hbm, ⟨30, _⟩ => ⟨S1x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S2816, .f32⟩
  | .hbm, ⟨35, _⟩ => ⟨S1x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S_, .f32⟩
  | .hbm, ⟨41, _⟩ => ⟨S4096x2816, .f32⟩
  | .hbm, ⟨42, _⟩ => ⟨S4096x2816, .f32⟩
  | .hbm, ⟨43, _⟩ => ⟨S_, .f32⟩
  | .hbm, ⟨44, _⟩ => ⟨S4096x2816, .f32⟩
  | .hbm, ⟨45, _⟩ => ⟨S4096x2816, .f32⟩
  | .hbm, ⟨46, _⟩ => ⟨S_, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S4096x1024, .f32⟩
  | .hbm, ⟨53, _⟩ => ⟨S4096x1024, .f32⟩
  | .hbm, ⟨54, _⟩ => ⟨S4096x2816, .f32⟩
  | .hbm, ⟨55, _⟩ => ⟨S4096x2816, .f32⟩
  | .hbm, ⟨56, _⟩ => ⟨S4096x2816, .f32⟩
  | .hbm, ⟨57, _⟩ => ⟨S4096x2816, .f32⟩
  | .hbm, ⟨58, _⟩ => ⟨S4096x2816, .f32⟩
  | .hbm, ⟨59, _⟩ => ⟨S4096x2816, .f32⟩
  | .hbm, ⟨60, _⟩ => ⟨S4096x2816, .f32⟩
  | .hbm, ⟨61, _⟩ => ⟨S_, .f32⟩
  | .hbm, ⟨62, _⟩ => ⟨S2816, .f32⟩
  | .hbm, ⟨63, _⟩ => ⟨S1x2816, .f32⟩
  | .hbm, ⟨64, _⟩ => ⟨S_, .f32⟩
  | .hbm, ⟨65, _⟩ => ⟨S2816, .f32⟩
  | .hbm, ⟨66, _⟩ => ⟨S1x2816, .f32⟩
  | .hbm, ⟨67, _⟩ => ⟨S4096x2816, .f32⟩
  | .hbm, ⟨68, _⟩ => ⟨S_, .f32⟩
  | .hbm, ⟨69, _⟩ => ⟨S2816, .f32⟩
  | .hbm, ⟨70, _⟩ => ⟨S1x2816, .f32⟩
  | .hbm, ⟨71, _⟩ => ⟨S4096x2816, .f32⟩
  | .hbm, ⟨72, _⟩ => ⟨S4096x2816, .f32⟩
  | .hbm, ⟨73, _⟩ => ⟨S_, .f32⟩
  | .hbm, ⟨74, _⟩ => ⟨S2816, .f32⟩
  | .hbm, ⟨75, _⟩ => ⟨S1x2816, .f32⟩
  | .hbm, ⟨76, _⟩ => ⟨S_, .f32⟩
  | .hbm, ⟨77, _⟩ => ⟨S3x2816, .f32⟩
  | .hbm, ⟨78, _⟩ => ⟨S_, .f32⟩
  | .hbm, ⟨79, _⟩ => ⟨S4098x2816, .f32⟩
  | .hbm, ⟨80, _⟩ => ⟨S4096x2816, .f32⟩
  | .hbm, ⟨81, _⟩ => ⟨S_, .f32⟩
  | .hbm, ⟨82, _⟩ => ⟨S2816, .f32⟩
  | .hbm, ⟨83, _⟩ => ⟨S1x2816, .f32⟩
  | .hbm, ⟨84, _⟩ => ⟨S4096x2816, .f32⟩
  | .hbm, ⟨85, _⟩ => ⟨S4096x2816, .f32⟩
  | .hbm, ⟨86, _⟩ => ⟨S_, .f32⟩
  | .hbm, ⟨87, _⟩ => ⟨S2816, .f32⟩
  | .hbm, ⟨88, _⟩ => ⟨S1x2816, .f32⟩
  | .hbm, ⟨89, _⟩ => ⟨S_, .f32⟩
  | .hbm, ⟨90, _⟩ => ⟨S3x2816, .f32⟩
  | .hbm, ⟨91, _⟩ => ⟨S3x2816, .f32⟩
  | .hbm, ⟨92, _⟩ => ⟨S_, .f32⟩
  | .hbm, ⟨93, _⟩ => ⟨S4098x2816, .f32⟩
  | .hbm, ⟨94, _⟩ => ⟨S4098x2816, .f32⟩
  | .hbm, ⟨95, _⟩ => ⟨S4096x2816, .f32⟩
  | .hbm, ⟨96, _⟩ => ⟨S_, .f32⟩
  | .hbm, ⟨97, _⟩ => ⟨S2816, .f32⟩
  | .hbm, ⟨98, _⟩ => ⟨S1x2816, .f32⟩
  | .hbm, ⟨99, _⟩ => ⟨S4096x2816, .f32⟩
  | .hbm, ⟨100, _⟩ => ⟨S4096x2816, .f32⟩
  | .hbm, ⟨101, _⟩ => ⟨S_, .f32⟩
  | .hbm, ⟨102, _⟩ => ⟨S2816, .f32⟩
  | .hbm, ⟨103, _⟩ => ⟨S1x2816, .f32⟩
  | .hbm, ⟨104, _⟩ => ⟨S_, .f32⟩
  | .hbm, ⟨105, _⟩ => ⟨S3x2816, .f32⟩
  | .hbm, ⟨106, _⟩ => ⟨S3x2816, .f32⟩
  | .hbm, ⟨107, _⟩ => ⟨S_, .f32⟩
  | .hbm, ⟨108, _⟩ => ⟨S4098x2816, .f32⟩
  | .hbm, ⟨109, _⟩ => ⟨S4098x2816, .f32⟩
  | .hbm, ⟨110, _⟩ => ⟨S2x2816, .f32⟩
  | .hbm, ⟨111, _⟩ => ⟨S4096x2816, .f32⟩
  | .hbm, ⟨112, _⟩ => ⟨S4096x2816, .bf16⟩
  | .hbm, ⟨113, _⟩ => ⟨S4096x2816, .bf16⟩
  | .hbm, ⟨114, _⟩ => ⟨S_, .f32⟩
  | .hbm, ⟨115, _⟩ => ⟨S5x2816, .f32⟩
  | .hbm, ⟨116, _⟩ => ⟨S8x2816, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v30_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v30_1 : Ref sig .tc := ⟨.hbm, 49, rfl⟩
abbrev main_v30_0 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v37 : Ref sig .tc := ⟨.hbm, 60, rfl⟩
abbrev main_cst_1 : Ref sig .tc := ⟨.hbm, 61, rfl⟩
abbrev main_v38 : Ref sig .tc := ⟨.hbm, 62, rfl⟩
abbrev main_v39 : Ref sig .tc := ⟨.hbm, 63, rfl⟩
abbrev main_cst_2 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_3 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_4 : Ref sig .tc := ⟨.hbm, 73, rfl⟩
abbrev main_v47 : Ref sig .tc := ⟨.hbm, 74, rfl⟩
abbrev main_v48 : Ref sig .tc := ⟨.hbm, 75, rfl⟩
abbrev main_cst_5 : Ref sig .tc := ⟨.hbm, 76, rfl⟩
abbrev main_v49 : Ref sig .tc := ⟨.hbm, 77, rfl⟩
abbrev main_cst_6 : Ref sig .tc := ⟨.hbm, 78, rfl⟩
abbrev main_v50 : Ref sig .tc := ⟨.hbm, 79, rfl⟩
abbrev main_v51 : Ref sig .tc := ⟨.hbm, 80, rfl⟩
abbrev main_cst_7 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_8 : Ref sig .tc := ⟨.hbm, 86, rfl⟩
abbrev main_v56 : Ref sig .tc := ⟨.hbm, 87, rfl⟩
abbrev main_v57 : Ref sig .tc := ⟨.hbm, 88, rfl⟩
abbrev main_cst_9 : Ref sig .tc := ⟨.hbm, 89, rfl⟩
abbrev main_v58 : Ref sig .tc := ⟨.hbm, 90, rfl⟩
abbrev main_v59 : Ref sig .tc := ⟨.hbm, 91, rfl⟩
abbrev main_cst_10 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_11 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_12 : Ref sig .tc := ⟨.hbm, 101, rfl⟩
abbrev main_v67 : Ref sig .tc := ⟨.hbm, 102, rfl⟩
abbrev main_v68 : Ref sig .tc := ⟨.hbm, 103, rfl⟩
abbrev main_cst_13 : Ref sig .tc := ⟨.hbm, 104, rfl⟩
abbrev main_v69 : Ref sig .tc := ⟨.hbm, 105, rfl⟩
abbrev main_v70 : Ref sig .tc := ⟨.hbm, 106, rfl⟩
abbrev main_cst_14 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_cst_15 : Ref sig .tc := ⟨.hbm, 114, rfl⟩
abbrev main_v77 : Ref sig .tc := ⟨.hbm, 115, rfl⟩
abbrev main_v78 : Ref sig .tc := ⟨.hbm, 116, rfl⟩

abbrev nD : Nat := 1
abbrev τ : Topo := Topo.v7x

variable {F : FTy → Type} [FloatOps F]
-- ==== Wgrad.lean ====
abbrev S4096x2816 : Shape := ⟨2, ![4096, 2816]⟩
abbrev S4096x1024 : Shape := ⟨2, ![4096, 1024]⟩
abbrev S2816x1024 : Shape := ⟨2, ![2816, 1024]⟩
abbrev S1024x2816 : Shape := ⟨2, ![1024, 2816]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .bf16⟩
  | .local _ .vmem, ⟨5, _⟩ => ⟨S2816x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v11 : BitVec 1 := Scalar.cmpi .eq arg0 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== WgradRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfnIn.lean ====
abbrev S4096x1024 : Shape := ⟨2, ![4096, 1024]⟩
abbrev S2816x1024 : Shape := ⟨2, ![2816, 1024]⟩
abbrev S3x2816 : Shape := ⟨2, ![3, 2816]⟩
abbrev S1x2816 : Shape := ⟨2, ![1, 2816]⟩
abbrev S_ : Shape := ⟨0, ![]⟩
abbrev S5x2816 : Shape := ⟨2, ![5, 2816]⟩
abbrev S8x2816 : Shape := ⟨2, ![8, 2816]⟩
abbrev S4096x2816 : Shape := ⟨2, ![4096, 2816]⟩
abbrev S256x1024 : Shape := ⟨2, ![256, 1024]⟩
abbrev S256x2816 : Shape := ⟨2, ![256, 2816]⟩
abbrev S264x2816 : Shape := ⟨2, ![264, 2816]⟩

abbrev nBuf : Space → Nat
  | .hbm => 12
  | .vmem => 15
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2816x1024, .bf16⟩
  | .hbm, ⟨3, _⟩ => ⟨S3x2816, .f32⟩
  | .hbm, ⟨4, _⟩ => ⟨S1x2816, .f32⟩
  | .hbm, ⟨5, _⟩ => ⟨S_, .f32⟩
  | .hbm, ⟨6, _⟩ => ⟨S5x2816, .f32⟩
  | .hbm, ⟨7, _⟩ => ⟨S8x2816, .f32⟩
  | .hbm, ⟨8, _⟩ => ⟨S4096x2816, .bf16⟩
  | .hbm, ⟨9, _⟩ => ⟨S4096x2816, .bf16⟩
  | .hbm, ⟨10, _⟩ => ⟨S4096x2816, .f32⟩
  | .hbm, ⟨11, _⟩ => ⟨S4096x2816, .bf16⟩
  | .local _ .vmem, ⟨0, _⟩ => ⟨S256x1024, .bf16⟩
  | .local _ .vmem, ⟨1, _⟩ => ⟨S256x1024, .bf16⟩
  | .local _ .vmem, ⟨2, _⟩ => ⟨S2816x1024, .bf16⟩
  | .local _ .vmem, ⟨3, _⟩ => ⟨S2816x1024, .bf16⟩
  | .local _ .vmem, ⟨4, _⟩ => ⟨S8x2816, .f32⟩
  | .local _ .vmem, ⟨5, _⟩ => ⟨S1x2816, .f32⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .f32⟩
  | .local _ .vmem, ⟨11, _⟩ => ⟨S256x2816, .f32⟩
  | .local _ .vmem, ⟨12, _⟩ => ⟨S256x2816, .bf16⟩
  | .local _ .vmem, ⟨13, _⟩ => ⟨S256x2816, .bf16⟩
  | .local _ .vmem, ⟨14, _⟩ => ⟨S8x2816, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnInRefIdeal.lean ====
abbrev S4096x1024 : Shape := ⟨2, ![4096, 1024]⟩
abbrev S2816x1024 : Shape := ⟨2, ![2816, 1024]⟩
abbrev S3x2816 : Shape := ⟨2, ![3, 2816]⟩
abbrev S1x2816 : Shape := ⟨2, ![1, 2816]⟩
abbrev S1024x2816 : Shape := ⟨2, ![1024, 2816]⟩
abbrev S4096x2816 : Shape := ⟨2, ![4096, 2816]⟩
abbrev S_ : Shape := ⟨0, ![]⟩
abbrev S2x2816 : Shape := ⟨2, ![2, 2816]⟩
abbrev S4098x2816 : Shape := ⟨2, ![4098, 2816]⟩
abbrev S2816 : Shape := ⟨1, ![2816]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2816x1024, .bf16⟩
  | .hbm, ⟨3, _⟩ => ⟨S3x2816, .f32⟩
  | .hbm, ⟨4, _⟩ => ⟨S1x2816, .f32⟩
  | .hbm, ⟨5, _⟩ => ⟨S4096x1024, .f32⟩
  | .hbm, ⟨6, _⟩ => ⟨S2816x1024, .f32⟩
  | .hbm, ⟨7, _⟩ => ⟨S1024x2816, .f32⟩
  | .hbm, ⟨8, _⟩ => ⟨S4096x2816, .f32⟩
  | .hbm, ⟨9, _⟩ => ⟨S2816x1024, .f32⟩
  | .hbm, ⟨10, _⟩ => ⟨S1024x2816, .f32⟩
  | .hbm, ⟨11, _⟩ => ⟨S4096x2816, .f32⟩
  | .hbm, ⟨12, _⟩ => ⟨S_, .f32⟩
  | .hbm, ⟨13, _⟩ => ⟨S2x2816, .f32⟩
  | .hbm, ⟨14, _⟩ => ⟨S4098x2816, .f32⟩
  | .hbm, ⟨15, _⟩ => ⟨S4096x2816, .f32⟩
  | .hbm, ⟨16, _⟩ => ⟨S1x2816, .f32⟩
  | .hbm, ⟨17, _⟩ => ⟨S2816, .f32⟩
  | .hbm, ⟨18, _⟩ => ⟨S1x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S1x2816, .f32⟩
  | .hbm, ⟨23, _⟩ => ⟨S2816, .f32⟩
  | .hbm, ⟨24, _⟩ => ⟨S1x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S1x2816, .f32⟩
  | .hbm, ⟨30, _⟩ => ⟨S2816, .f32⟩
  | .hbm, ⟨31, _⟩ => ⟨S1x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S2816, .f32⟩
  | .hbm, ⟨36, _⟩ => ⟨S1x2816, .f32⟩
  | .hbm, ⟨37, _⟩ => ⟨S4096x2816, .f32⟩
  | .hbm, ⟨38, _⟩ => ⟨S4096x2816, .f32⟩
  | .hbm, ⟨39, _⟩ => ⟨S4096x2816, .bf16⟩
  | .hbm, ⟨40, _⟩ => ⟨S4096x2816, .bf16⟩
  | .hbm, ⟨41, _⟩ => ⟨S4096x2816, .f32⟩
  | .hbm, ⟨42, _⟩ => ⟨S4096x2816, .f32⟩
  | .hbm, ⟨43, _⟩ => ⟨S_, .f32⟩
  | .hbm, ⟨44, _⟩ => ⟨S4096x2816, .f32⟩
  | .hbm, ⟨45, _⟩ => ⟨S4096x2816, .f32⟩
  | .hbm, ⟨46, _⟩ => ⟨S_, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== NormBack.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S2816x1024, .bf16⟩
  | .hbm, ⟨3, _⟩ => ⟨S2816x1024, .bf16⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S4096x1024, .bf16⟩
  | .hbm, ⟨9, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormBackRefIdeal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S1024 : Shape := ⟨1, ![1024]⟩

abbrev nBuf : Space → Nat
  | .hbm => 62
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S2816x1024, .bf16⟩
  | .hbm, ⟨3, _⟩ => ⟨S2816x1024, .bf16⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S2816x1024, .f32⟩
  | .hbm, ⟨27, _⟩ => ⟨S1024x2816, .f32⟩
  | .hbm, ⟨28, _⟩ => ⟨S4096x2816, .f32⟩
  | .hbm, ⟨29, _⟩ => ⟨S2816x1024, .f32⟩
  | .hbm, ⟨30, _⟩ => ⟨S1024x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== InProj.lean ====
abbrev S4096x1024 : Shape := ⟨2, ![4096, 1024]⟩
abbrev S2816x1024 : Shape := ⟨2, ![2816, 1024]⟩
abbrev S4096x512 : Shape := ⟨2, ![4096, 512]⟩
abbrev S4096x768 : Shape := ⟨2, ![4096, 768]⟩
abbrev S512x1024 : Shape := ⟨2, ![512, 1024]⟩
abbrev S512x512 : Shape := ⟨2, ![512, 512]⟩
abbrev S512x768 : Shape := ⟨2, ![512, 768]⟩
abbrev S512x2816 : Shape := ⟨2, ![512, 2816]⟩

abbrev nBuf : Space → Nat
  | .hbm => 7
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x768, .f32⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x768, .f32⟩
  | .local _ .vmem, ⟨12, _⟩ => ⟨S512x768, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== InProjRefIdeal.lean ====
abbrev S4096x1024 : Shape := ⟨2, ![4096, 1024]⟩
abbrev S2816x1024 : Shape := ⟨2, ![2816, 1024]⟩
abbrev S1024x2816 : Shape := ⟨2, ![1024, 2816]⟩
abbrev S4096x2816 : Shape := ⟨2, ![4096, 2816]⟩
abbrev S4096x512 : Shape := ⟨2, ![4096, 512]⟩
abbrev S4096x768 : Shape := ⟨2, ![4096, 768]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x1024, .f32⟩
  | .hbm, ⟨3, _⟩ => ⟨S2816x1024, .f32⟩
  | .hbm, ⟨4, _⟩ => ⟨S1024x2816, .f32⟩
  | .hbm, ⟨5, _⟩ => ⟨S4096x2816, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x768, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== InGrad.lean ====
abbrev S4096x512 : Shape := ⟨2, ![4096, 512]⟩
abbrev S4096x256 : Shape := ⟨2, ![4096, 256]⟩
abbrev S4096x1024 : Shape := ⟨2, ![4096, 1024]⟩
abbrev S2816x1024 : Shape := ⟨2, ![2816, 1024]⟩
abbrev S1024x512 : Shape := ⟨2, ![1024, 512]⟩
abbrev S1024x256 : Shape := ⟨2, ![1024, 256]⟩
abbrev S1024x1024 : Shape := ⟨2, ![1024, 1024]⟩
abbrev S512x1024 : Shape := ⟨2, ![512, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x256, .bf16⟩
  | .hbm, ⟨6, _⟩ => ⟨S4096x1024, .bf16⟩
  | .hbm, ⟨7, _⟩ => ⟨S2816x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x256, .bf16⟩
  | .local _ .vmem, ⟨11, _⟩ => ⟨S1024x256, .bf16⟩
  | .local _ .vmem, ⟨12, _⟩ => ⟨S1024x1024, .bf16⟩
  | .local _ .vmem, ⟨13, _⟩ => ⟨S1024x1024, .bf16⟩
  | .local _ .vmem, ⟨14, _⟩ => ⟨S2816x1024, .bf16⟩
  | .local _ .vmem, ⟨15, _⟩ => ⟨S2816x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v46 : BitVec 1 := Scalar.cmpi .eq arg0 c3_i32
  let v47 : BitVec 32 := Scalar.extui v46
  let c0_i32_38 : BitVec 32 := 0#32
  let v48 : BitVec 1 := Scalar.cmpi .ne v47 c0_i32_38
  v48

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== InGradRefIdeal.lean ====
abbrev S4096x512 : Shape := ⟨2, ![4096, 512]⟩
abbrev S4096x256 : Shape := ⟨2, ![4096, 256]⟩
abbrev S4096x1024 : Shape := ⟨2, ![4096, 1024]⟩
abbrev S4096x2816 : Shape := ⟨2, ![4096, 2816]⟩
abbrev S_ : Shape := ⟨0, ![]⟩
abbrev S2816x1024 : Shape := ⟨2, ![2816, 1024]⟩
abbrev S1024x2816 : Shape := ⟨2, ![1024, 2816]⟩

abbrev nBuf : Space → Nat
  | .hbm => 23
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x256, .bf16⟩
  | .hbm, ⟨6, _⟩ => ⟨S4096x1024, .bf16⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S4096x256, .f32⟩
  | .hbm, ⟨13, _⟩ => ⟨S4096x2816, .f32⟩
  | .hbm, ⟨14, _⟩ => ⟨S_, .f32⟩
  | .hbm, ⟨15, _⟩ => ⟨S2816x1024, .f32⟩
  | .hbm, ⟨16, _⟩ => ⟨S4096x1024, .f32⟩
  | .hbm, ⟨17, _⟩ => ⟨S1024x2816, .f32⟩
  | .hbm, ⟨18, _⟩ => ⟨S4096x2816, .f32⟩
  | .hbm, ⟨19, _⟩ => ⟨S2816x1024, .f32⟩
  | .hbm, ⟨20, _⟩ => ⟨S1024x2816, .f32⟩
  | .hbm, ⟨21, _⟩ => ⟨S2816x1024, .f32⟩
  | .hbm, ⟨22, _⟩ => ⟨S2816x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== InBack.lean ====
abbrev S4096x512 : Shape := ⟨2, ![4096, 512]⟩
abbrev S4096x256 : Shape := ⟨2, ![4096, 256]⟩
abbrev S2816x1024 : Shape := ⟨2, ![2816, 1024]⟩
abbrev S4096x1024 : Shape := ⟨2, ![4096, 1024]⟩
abbrev S1x1024 : Shape := ⟨2, ![1, 1024]⟩
abbrev S512x512 : Shape := ⟨2, ![512, 512]⟩
abbrev S512x256 : Shape := ⟨2, ![512, 256]⟩
abbrev S512x1024 : Shape := ⟨2, ![512, 1024]⟩
abbrev S256x1024 : Shape := ⟨2, ![256, 1024]⟩
abbrev S512 : Shape := ⟨1, ![512]⟩
abbrev S512x1 : Shape := ⟨2, ![512, 1]⟩
abbrev S1024 : Shape := ⟨1, ![1024]⟩

abbrev nBuf : Space → Nat
  | .hbm => 12
  | .vmem => 21
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x256, .bf16⟩
  | .hbm, ⟨6, _⟩ => ⟨S2816x1024, .bf16⟩
  | .hbm, ⟨7, _⟩ => ⟨S4096x1024, .f32⟩
  | .hbm, ⟨8, _⟩ => ⟨S4096x1024, .f32⟩
  | .hbm, ⟨9, _⟩ => ⟨S1x1024, .f32⟩
  | .hbm, ⟨10, _⟩ => ⟨S4096x1024, .f32⟩
  | .hbm, ⟨11, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x256, .bf16⟩
  | .local _ .vmem, ⟨11, _⟩ => ⟨S512x256, .bf16⟩
  | .local _ .vmem, ⟨12, _⟩ => ⟨S2816x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S1x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== InBackRefIdeal.lean ====
abbrev S4096x512 : Shape := ⟨2, ![4096, 512]⟩
abbrev S4096x256 : Shape := ⟨2, ![4096, 256]⟩
abbrev S2816x1024 : Shape := ⟨2, ![2816, 1024]⟩
abbrev S4096x1024 : Shape := ⟨2, ![4096, 1024]⟩
abbrev S1x1024 : Shape := ⟨2, ![1, 1024]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S1024 : Shape := ⟨1, ![1024]⟩

abbrev nBuf : Space → Nat
  | .hbm => 64
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x256, .bf16⟩
  | .hbm, ⟨6, _⟩ => ⟨S2816x1024, .bf16⟩
  | .hbm, ⟨7, _⟩ => ⟨S4096x1024, .f32⟩
  | .hbm, ⟨8, _⟩ => ⟨S4096x1024, .f32⟩
  | .hbm, ⟨9, _⟩ => ⟨S1x1024, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S4096x256, .f32⟩
  | .hbm, ⟨16, _⟩ => ⟨S4096x2816, .f32⟩
  | .hbm, ⟨17, _⟩ => ⟨S4096x1024, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S2816x1024, .f32⟩
  | .hbm, ⟨37, _⟩ => ⟨S1024x2816, .f32⟩
  | .hbm, ⟨38, _⟩ => ⟨S4096x2816, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096, .f32⟩
  | .hbm, ⟨49, _⟩ => ⟨S4096x1, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S_, .f32⟩
  | .hbm, ⟨58, _⟩ => ⟨S4096, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩

abbrev nD : Nat := 1
abbrev τ : Topo := Topo.v7x

variable {F : FTy → Type} [FloatOps F]
-- ==== DownLoss.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .hbm, ⟨8, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== DownLossRefIdeal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 78
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x2816, .f32⟩
  | .hbm, ⟨6, _⟩ => ⟨S2816x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S_, .f32⟩
  | .hbm, ⟨40, _⟩ => ⟨S1x1024, .f32⟩
  | .hbm, ⟨41, _⟩ => ⟨S1x1024, .f32⟩
  | .hbm, ⟨42, _⟩ => ⟨S_, .f32⟩
  | .hbm, ⟨43, _⟩ => ⟨S1x1024, .f32⟩
  | .hbm, ⟨44, _⟩ => ⟨S_, .f32⟩
  | .hbm, ⟨45, _⟩ => ⟨S1x1024, .f32⟩
  | .hbm, ⟨46, _⟩ => ⟨S1x1024, .f32⟩
  | .hbm, ⟨47, _⟩ => ⟨S_, .f32⟩
  | .hbm, ⟨48, _⟩ => ⟨S1024, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S4096x1024, .f32⟩
  | .hbm, ⟨65, _⟩ => ⟨S4096x1024, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S_, .f32⟩
  | .hbm, ⟨71, _⟩ => ⟨S4096, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩
abbrev main_cst_9 : Ref sig .tc := ⟨.hbm, 47, rfl⟩
abbrev main_v32 : Ref sig .tc := ⟨.hbm, 48, rfl⟩
abbrev main_v33 : Ref sig .tc := ⟨.hbm, 49, rfl⟩
abbrev main_cst_10 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_11 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_12 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_13 : Ref sig .tc := ⟨.hbm, 67, rfl⟩
abbrev main_v48 : Ref sig .tc := ⟨.hbm, 68, rfl⟩
abbrev main_v49 : Ref sig .tc := ⟨.hbm, 69, rfl⟩
abbrev main_cst_14 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩

abbrev nD : Nat := 1
abbrev τ : Topo := Topo.v7x

variable {F : FTy → Type} [FloatOps F]
-- ==== MixOut.lean ====
abbrev S4096x512 : Shape := ⟨2, ![4096, 512]⟩
abbrev S1x128 : Shape := ⟨2, ![1, 128]⟩
abbrev S1024x1024 : Shape := ⟨2, ![1024, 1024]⟩
abbrev S4096x1024 : Shape := ⟨2, ![4096, 1024]⟩
abbrev S1x1024 : Shape := ⟨2, ![1, 1024]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 10
  | .vmem => 17
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S1x128, .f32⟩
  | .hbm, ⟨4, _⟩ => ⟨S1024x1024, .bf16⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S4096x1024, .bf16⟩
  | .hbm, ⟨9, _⟩ => ⟨S4096x1024, .bf16⟩
  | .local _ .vmem, ⟨0, _⟩ => ⟨S1024x1024, .bf16⟩
  | .local _ .vmem, ⟨1, _⟩ => ⟨S512x1024, .f32⟩
  | .local _ .vmem, ⟨2, _⟩ => ⟨S512x1024, .f32⟩
  | .local _ .vmem, ⟨3, _⟩ => ⟨S1x1024, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S1x128, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixOutRefIdeal.lean ====
abbrev S4096x512 : Shape := ⟨2, ![4096, 512]⟩
abbrev S1x128 : Shape := ⟨2, ![1, 128]⟩
abbrev S1024x1024 : Shape := ⟨2, ![1024, 1024]⟩
abbrev S4096x1024 : Shape := ⟨2, ![4096, 1024]⟩
abbrev S1x1024 : Shape := ⟨2, ![1, 1024]⟩
abbrev S4096x4x128 : Shape := ⟨3, ![4096, 4, 128]⟩
abbrev S_ : Shape := ⟨0, ![]⟩
abbrev S4096x4 : Shape := ⟨2, ![4096, 4]⟩
abbrev S4096x4x1 : Shape := ⟨3, ![4096, 4, 1]⟩
abbrev S1x1x128 : Shape := ⟨3, ![1, 1, 128]⟩
abbrev S4096 : Shape := ⟨1, ![4096]⟩
abbrev S4096x1 : Shape := ⟨2, ![4096, 1]⟩

abbrev nBuf : Space → Nat
  | .hbm => 56
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S1x128, .f32⟩
  | .hbm, ⟨4, _⟩ => ⟨S1024x1024, .bf16⟩
  | .hbm, ⟨5, _⟩ => ⟨S4096x1024, .f32⟩
  | .hbm, ⟨6, _⟩ => ⟨S1x1024, .f32⟩
  | .hbm, ⟨7, _⟩ => ⟨S4096x4x128, .f32⟩
  | .hbm, ⟨8, _⟩ => ⟨S4096x4x128, .f32⟩
  | .hbm, ⟨9, _⟩ => ⟨S_, .f32⟩
  | .hbm, ⟨10, _⟩ => ⟨S4096x4, .f32⟩
  | .hbm, ⟨11, _⟩ => ⟨S4096x4x1, .f32⟩
  | .hbm, ⟨12, _⟩ => ⟨S_, .f32⟩
  | .hbm, ⟨13, _⟩ => ⟨S4096x4x1, .f32⟩
  | .hbm, ⟨14, _⟩ => ⟨S4096x4x1, .f32⟩
  | .hbm, ⟨15, _⟩ => ⟨S_, .f32⟩
  | .hbm, ⟨16, _⟩ => ⟨S4096x4x1, .f32⟩
  | .hbm, ⟨17, _⟩ => ⟨S4096x4x1, .f32⟩
  | .hbm, ⟨18, _⟩ => ⟨S4096x4x1, .f32⟩
  | .hbm, ⟨19, _⟩ => ⟨S4096x4x128, .f32⟩
  | .hbm, ⟨20, _⟩ => ⟨S4096x4x128, .f32⟩
  | .hbm, ⟨21, _⟩ => ⟨S1x1x128, .f32⟩
  | .hbm, ⟨22, _⟩ => ⟨S4096x4x128, .f32⟩
  | .hbm, ⟨23, _⟩ => ⟨S4096x4x128, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S_, .f32⟩
  | .hbm, ⟨28, _⟩ => ⟨S4096x512, .f32⟩
  | .hbm, ⟨29, _⟩ => ⟨S4096x512, .f32⟩
  | .hbm, ⟨30, _⟩ => ⟨S_, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x1024, .f32⟩
  | .hbm, ⟨36, _⟩ => ⟨S1024x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096x1, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .bf16⟩
  | .hbm, ⟨55, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_cst_3 : Ref sig .tc := ⟨.hbm, 43, rfl⟩
abbrev main_v24 : Ref sig .tc := ⟨.hbm, 44, rfl⟩
abbrev main_v25 : Ref sig .tc := ⟨.hbm, 45, rfl⟩
abbrev main_cst_4 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== MixBack.lean ====
abbrev S4096x1024 : Shape := ⟨2, ![4096, 1024]⟩
abbrev S1024x1024 : Shape := ⟨2, ![1024, 1024]⟩
abbrev S4096x512 : Shape := ⟨2, ![4096, 512]⟩
abbrev S1x128 : Shape := ⟨2, ![1, 128]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S128 : Shape := ⟨1, ![128]⟩

abbrev nBuf : Space → Nat
  | .hbm => 9
  | .vmem => 15
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x512, .f32⟩
  | .hbm, ⟨3, _⟩ => ⟨S4096x512, .f32⟩
  | .hbm, ⟨4, _⟩ => ⟨S1x128, .f32⟩
  | .hbm, ⟨5, _⟩ => ⟨S4096x512, .f32⟩
  | .hbm, ⟨6, _⟩ => ⟨S4096x512, .bf16⟩
  | .hbm, ⟨7, _⟩ => ⟨S4096x512, .f32⟩
  | .hbm, ⟨8, _⟩ => ⟨S1x128, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S1x128, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S512x512, .f32⟩
  | .local _ .vmem, ⟨13, _⟩ => ⟨S512x512, .f32⟩
  | .local _ .vmem, ⟨14, _⟩ => ⟨S1x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== MixBackRefIdeal.lean ====
abbrev S4096x1024 : Shape := ⟨2, ![4096, 1024]⟩
abbrev S1024x1024 : Shape := ⟨2, ![1024, 1024]⟩
abbrev S4096x512 : Shape := ⟨2, ![4096, 512]⟩
abbrev S1x128 : Shape := ⟨2, ![1, 128]⟩
abbrev S_ : Shape := ⟨0, ![]⟩
abbrev S4096x4x128 : Shape := ⟨3, ![4096, 4, 128]⟩
abbrev S4096x4 : Shape := ⟨2, ![4096, 4]⟩
abbrev S4096x4x1 : Shape := ⟨3, ![4096, 4, 1]⟩
abbrev S1x1x128 : Shape := ⟨3, ![1, 1, 128]⟩
abbrev S128 : Shape := ⟨1, ![128]⟩

abbrev nBuf : Space → Nat
  | .hbm => 85
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x512, .f32⟩
  | .hbm, ⟨3, _⟩ => ⟨S4096x512, .f32⟩
  | .hbm, ⟨4, _⟩ => ⟨S1x128, .f32⟩
  | .hbm, ⟨5, _⟩ => ⟨S_, .f32⟩
  | .hbm, ⟨6, _⟩ => ⟨S4096x512, .f32⟩
  | .hbm, ⟨7, _⟩ => ⟨S4096x4x128, .f32⟩
  | .hbm, ⟨8, _⟩ => ⟨S4096x4x128, .f32⟩
  | .hbm, ⟨9, _⟩ => ⟨S_, .f32⟩
  | .hbm, ⟨10, _⟩ => ⟨S4096x4, .f32⟩
  | .hbm, ⟨11, _⟩ => ⟨S4096x4x1, .f32⟩
  | .hbm, ⟨12, _⟩ => ⟨S_, .f32⟩
  | .hbm, ⟨13, _⟩ => ⟨S4096x4x1, .f32⟩
  | .hbm, ⟨14, _⟩ => ⟨S4096x4x1, .f32⟩
  | .hbm, ⟨15, _⟩ => ⟨S_, .f32⟩
  | .hbm, ⟨16, _⟩ => ⟨S4096x4x1, .f32⟩
  | .hbm, ⟨17, _⟩ => ⟨S4096x4x1, .f32⟩
  | .hbm, ⟨18, _⟩ => ⟨S4096x4x1, .f32⟩
  | .hbm, ⟨19, _⟩ => ⟨S4096x4x1, .f32⟩
  | .hbm, ⟨20, _⟩ => ⟨S_, .f32⟩
  | .hbm, ⟨21, _⟩ => ⟨S4096x4x1, .f32⟩
  | .hbm, ⟨22, _⟩ => ⟨S4096x4x1, .f32⟩
  | .hbm, ⟨23, _⟩ => ⟨S4096x4x128, .f32⟩
  | .hbm, ⟨24, _⟩ => ⟨S4096x4x128, .f32⟩
  | .hbm, ⟨25, _⟩ => ⟨S1x1x128, .f32⟩
  | .hbm, ⟨26, _⟩ => ⟨S4096x4x128, .f32⟩
  | .hbm, ⟨27, _⟩ => ⟨S4096x4x128, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S_, .f32⟩
  | .hbm, ⟨32, _⟩ => ⟨S4096x512, .f32⟩
  | .hbm, ⟨33, _⟩ => ⟨S4096x512, .f32⟩
  | .hbm, ⟨34, _⟩ => ⟨S_, .f32⟩
  | .hbm, ⟨35, _⟩ => ⟨S4096x512, .f32⟩
  | .hbm, ⟨36, _⟩ => ⟨S4096x512, .f32⟩
  | .hbm, ⟨37, _⟩ => ⟨S_, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S4096x512, .f32⟩
  | .hbm, ⟨42, _⟩ => ⟨S4096x512, .f32⟩
  | .hbm, ⟨43, _⟩ => ⟨S4096x1024, .f32⟩
  | .hbm, ⟨44, _⟩ => ⟨S1024x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x512, .f32⟩
  | .hbm, ⟨49, _⟩ => ⟨S4096x512, .f32⟩
  | .hbm, ⟨50, _⟩ => ⟨S4096x512, .f32⟩
  | .hbm, ⟨51, _⟩ => ⟨S4096x512, .f32⟩
  | .hbm, ⟨52, _⟩ => ⟨S4096x512, .f32⟩
  | .hbm, ⟨53, _⟩ => ⟨S4096x512, .f32⟩
  | .hbm, ⟨54, _⟩ => ⟨S4096x512, .f32⟩
  | .hbm, ⟨55, _⟩ => ⟨S4096x512, .f32⟩
  | .hbm, ⟨56, _⟩ => ⟨S4096x4x128, .f32⟩
  | .hbm, ⟨57, _⟩ => ⟨S4096x4x128, .f32⟩
  | .hbm, ⟨58, _⟩ => ⟨S_, .f32⟩
  | .hbm, ⟨59, _⟩ => ⟨S128, .f32⟩
  | .hbm, ⟨60, _⟩ => ⟨S1x1x128, .f32⟩
  | .hbm, ⟨61, _⟩ => ⟨S4096x4x128, .f32⟩
  | .hbm, ⟨62, _⟩ => ⟨S4096x4x128, .f32⟩
  | .hbm, ⟨63, _⟩ => ⟨S_, .f32⟩
  | .hbm, ⟨64, _⟩ => ⟨S128, .f32⟩
  | .hbm, ⟨65, _⟩ => ⟨S1x128, .f32⟩
  | .hbm, ⟨66, _⟩ => ⟨S4096x4x128, .f32⟩
  | .hbm, ⟨67, _⟩ => ⟨S_, .f32⟩
  | .hbm, ⟨68, _⟩ => ⟨S4096x4, .f32⟩
  | .hbm, ⟨69, _⟩ => ⟨S4096x4x1, .f32⟩
  | .hbm, ⟨70, _⟩ => ⟨S4096x4x128, .f32⟩
  | .hbm, ⟨71, _⟩ => ⟨S4096x4x128, .f32⟩
  | .hbm, ⟨72, _⟩ => ⟨S4096x4x1, .f32⟩
  | .hbm, ⟨73, _⟩ => ⟨S_, .f32⟩
  | .hbm, ⟨74, _⟩ => ⟨S4096x4x1, .f32⟩
  | .hbm, ⟨75, _⟩ => ⟨S4096x4x1, .f32⟩
  | .hbm, ⟨76, _⟩ => ⟨S_, .f32⟩
  | .hbm, ⟨77, _⟩ => ⟨S4096x4, .f32⟩
  | .hbm, ⟨78, _⟩ => ⟨S4096x4x128, .f32⟩
  | .hbm, ⟨79, _⟩ => ⟨S4096x4x128, .f32⟩
  | .hbm, ⟨80, _⟩ => ⟨S4096x4x128, .f32⟩
  | .hbm, ⟨81, _⟩ => ⟨S4096x4x128, .f32⟩
  | .hbm, ⟨82, _⟩ => ⟨S4096x4x128, .f32⟩
  | .hbm, ⟨83, _⟩ => ⟨S4096x512, .f32⟩
  | .hbm, ⟨84, _⟩ => ⟨S4096x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v19_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v19_1 : Ref sig .tc := ⟨.hbm, 40, rfl⟩
abbrev main_v19_0 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_4 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_5 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_6 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_7 : Ref sig .tc := ⟨.hbm, 73, rfl⟩
abbrev main_v45 : Ref sig .tc := ⟨.hbm, 74, rfl⟩
abbrev main_v46 : Ref sig .tc := ⟨.hbm, 75, rfl⟩
abbrev main_cst_8 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩

abbrev nD : Nat := 1
abbrev τ : Topo := Topo.v7x

variable {F : FTy → Type} [FloatOps F]
-- ==== OutGrad.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v11 : BitVec 1 := Scalar.cmpi .eq arg0 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== OutGradRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AdamW.lean ====
abbrev S704x1024 : Shape := ⟨2, ![704, 1024]⟩
abbrev S352x1024 : Shape := ⟨2, ![352, 1024]⟩

abbrev nBuf : Space → Nat
  | .hbm => 8
  | .vmem => 16
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamWRefIdeal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AttnFwd.lean ====
abbrev S4096x768 : Shape := ⟨2, ![4096, 768]⟩
abbrev S1x768 : Shape := ⟨2, ![1, 768]⟩
abbrev S1x8 : Shape := ⟨2, ![1, 8]⟩
abbrev S4096x512 : Shape := ⟨2, ![4096, 512]⟩
abbrev S128x768 : Shape := ⟨2, ![128, 768]⟩
abbrev S128x512 : Shape := ⟨2, ![128, 512]⟩
abbrev S192x256 : Shape := ⟨2, ![192, 256]⟩
abbrev S128x64 : Shape := ⟨2, ![128, 64]⟩
abbrev S1x64 : Shape := ⟨2, ![1, 64]⟩
abbrev S512x64 : Shape := ⟨2, ![512, 64]⟩
abbrev S256x64 : Shape := ⟨2, ![256, 64]⟩
abbrev S64x64 : Shape := ⟨2, ![64, 64]⟩
abbrev S192x64 : Shape := ⟨2, ![192, 64]⟩
abbrev S1x1 : Shape := ⟨2, ![1, 1]⟩
abbrev S1x256 : Shape := ⟨2, ![1, 256]⟩
abbrev S256 : Shape := ⟨1, ![256]⟩

abbrev nBuf : Space → Nat
  | .hbm => 4
  | .vmem => 7
  | .smem => 1
  | _ => 0

abbrev bufTy : (tb : Table) → Fin (tcTables nBuf tb) → BufTy
  | .hbm, ⟨0, _⟩ => ⟨S4096x768, .f32⟩
  | .hbm, ⟨1, _⟩ => ⟨S1x768, .f32⟩
  | .hbm, ⟨2, _⟩ => ⟨S1x8, .f32⟩
  | .hbm, ⟨3, _⟩ => ⟨S4096x512, .f32⟩
  | .local _ .vmem, ⟨0, _⟩ => ⟨S128x768, .f32⟩
  | .local _ .vmem, ⟨1, _⟩ => ⟨S128x768, .f32⟩
  | .local _ .vmem, ⟨2, _⟩ => ⟨S128x768, .f32⟩
  | .local _ .vmem, ⟨3, _⟩ => ⟨S128x768, .f32⟩
  | .local _ .vmem, ⟨4, _⟩ => ⟨S1x768, .f32⟩
  | .local _ .vmem, ⟨5, _⟩ => ⟨S128x512, .f32⟩
  | .local _ .vmem, ⟨6, _⟩ => ⟨S128x512, .f32⟩
  | .local _ .smem, ⟨0, _⟩ => ⟨S1x8, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== AttnFwdIdeal.lean ====
variable {F : FTy → Type} [FloatOps F] [Named F]
def κ : String → Option EReal := fun
  | "mask" => some ⊥
  | _ => none
-- ==== AttnFwdRefIdeal.lean ====
abbrev S4096x768 : Shape := ⟨2, ![4096, 768]⟩
abbrev S1x768 : Shape := ⟨2, ![1, 768]⟩
abbrev S1x8 : Shape := ⟨2, ![1, 8]⟩
abbrev S1x4096x768 : Shape := ⟨3, ![1, 4096, 768]⟩
abbrev S768 : Shape := ⟨1, ![768]⟩
abbrev S1x1x768 : Shape := ⟨3, ![1, 1, 768]⟩
abbrev S1x4096x512 : Shape := ⟨3, ![1, 4096, 512]⟩
abbrev S1x4096x128 : Shape := ⟨3, ![1, 4096, 128]⟩
abbrev S1x4096x8x64 : Shape := ⟨4, ![1, 4096, 8, 64]⟩
abbrev S1x4096x2x64 : Shape := ⟨4, ![1, 4096, 2, 64]⟩
abbrev S8 : Shape := ⟨1, ![8]⟩
abbrev S1x32x128x2x4x64 : Shape := ⟨6, ![1, 32, 128, 2, 4, 64]⟩
abbrev S_ : Shape := ⟨0, ![]⟩
abbrev S1x128x2x64 : Shape := ⟨4, ![1, 128, 2, 64]⟩
abbrev S1x4224x2x64 : Shape := ⟨4, ![1, 4224, 2, 64]⟩
abbrev S1x33x128x2x64 : Shape := ⟨5, ![1, 33, 128, 2, 64]⟩
abbrev S1x32x128x2x64 : Shape := ⟨5, ![1, 32, 128, 2, 64]⟩
abbrev S1x32x256x2x64 : Shape := ⟨5, ![1, 32, 256, 2, 64]⟩
abbrev S1x32x2x256x128x4 : Shape := ⟨6, ![1, 32, 2, 256, 128, 4]⟩
abbrev S1x32x2x4x128x256 : Shape := ⟨6, ![1, 32, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1 : Shape := ⟨2, ![32, 1]⟩
abbrev S32x256 : Shape := ⟨2, ![32, 256]⟩
abbrev S1x128x256 : Shape := ⟨3, ![1, 128, 256]⟩
abbrev S32x1x256 : Shape := ⟨3, ![32, 1, 256]⟩
abbrev S32x128x256 : Shape := ⟨3, ![32, 128, 256]⟩
abbrev S1x32x1x1x128x256 : Shape := ⟨6, ![1, 32, 1, 1, 128, 256]⟩
abbrev S2x4 : Shape := ⟨2, ![2, 4]⟩
abbrev S1x1x2x4x1x1 : Shape := ⟨6, ![1, 1, 2, 4, 1, 1]⟩
abbrev S1x32x2x4x128 : Shape := ⟨5, ![1, 32, 2, 4, 128]⟩
abbrev S1x32x2x4x128x1 : Shape := ⟨6, ![1, 32, 2, 4, 128, 1]⟩
abbrev S1x32x2x64x4x128 : Shape := ⟨6, ![1, 32, 2, 64, 4, 128]⟩
abbrev S4096x512 : Shape := ⟨2, ![4096, 512]⟩

abbrev nBuf : Space → Nat
  | .hbm => 102
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S1x768, .f32⟩
  | .hbm, ⟨2, _⟩ => ⟨S1x8, .f32⟩
  | .hbm, ⟨3, _⟩ => ⟨S1x4096x768, .f32⟩
  | .hbm, ⟨4, _⟩ => ⟨S768, .f32⟩
  | .hbm, ⟨5, _⟩ => ⟨S1x1x768, .f32⟩
  | .hbm, ⟨6, _⟩ => ⟨S1x4096x768, .f32⟩
  | .hbm, ⟨7, _⟩ => ⟨S1x4096x768, .f32⟩
  | .hbm, ⟨8, _⟩ => ⟨S1x4096x512, .f32⟩
  | .hbm, ⟨9, _⟩ => ⟨S1x4096x128, .f32⟩
  | .hbm, ⟨10, _⟩ => ⟨S1x4096x128, .f32⟩
  | .hbm, ⟨11, _⟩ => ⟨S1x4096x8x64, .f32⟩
  | .hbm, ⟨12, _⟩ => ⟨S1x4096x2x64, .f32⟩
  | .hbm, ⟨13, _⟩ => ⟨S1x4096x2x64, .f32⟩
  | .hbm, ⟨14, _⟩ => ⟨S8, .f32⟩
  | .hbm, ⟨15, _⟩ => ⟨S1x32x128x2x4x64, .f32⟩
  | .hbm, ⟨16, _⟩ => ⟨S_, .f32⟩
  | .hbm, ⟨17, _⟩ => ⟨S1x128x2x64, .f32⟩
  | .hbm, ⟨18, _⟩ => ⟨S1x4224x2x64, .f32⟩
  | .hbm, ⟨19, _⟩ => ⟨S1x33x128x2x64, .f32⟩
  | .hbm, ⟨20, _⟩ => ⟨S1x32x128x2x64, .f32⟩
  | .hbm, ⟨21, _⟩ => ⟨S1x32x128x2x64, .f32⟩
  | .hbm, ⟨22, _⟩ => ⟨S1x32x256x2x64, .f32⟩
  | .hbm, ⟨23, _⟩ => ⟨S_, .f32⟩
  | .hbm, ⟨24, _⟩ => ⟨S1x128x2x64, .f32⟩
  | .hbm, ⟨25, _⟩ => ⟨S1x4224x2x64, .f32⟩
  | .hbm, ⟨26, _⟩ => ⟨S1x33x128x2x64, .f32⟩
  | .hbm, ⟨27, _⟩ => ⟨S1x32x128x2x64, .f32⟩
  | .hbm, ⟨28, _⟩ => ⟨S1x32x128x2x64, .f32⟩
  | .hbm, ⟨29, _⟩ => ⟨S1x32x256x2x64, .f32⟩
  | .hbm, ⟨30, _⟩ => ⟨S1x32x2x256x128x4, .f32⟩
  | .hbm, ⟨31, _⟩ => ⟨S1x32x2x4x128x256, .f32⟩
  | .hbm, ⟨32, _⟩ => ⟨S_, .f32⟩
  | .hbm, ⟨33, _⟩ => ⟨S1x32x2x4x128x256, .f32⟩
  | .hbm, ⟨34, _⟩ => ⟨S1x32x2x4x128x256, .f32⟩
  | .hbm, ⟨35, _⟩ => ⟨S128, .i32⟩
  | .hbm, ⟨36, _⟩ => ⟨S128x1, .i32⟩
  | .hbm, ⟨37, _⟩ => ⟨S256, .i32⟩
  | .hbm, ⟨38, _⟩ => ⟨S1x256, .i32⟩
  | .hbm, ⟨39, _⟩ => ⟨S_, .i32⟩
  | .hbm, ⟨40, _⟩ => ⟨S128x1, .i32⟩
  | .hbm, ⟨41, _⟩ => ⟨S128x1, .i32⟩
  | .hbm, ⟨42, _⟩ => ⟨S128x256, .i32⟩
  | .hbm, ⟨43, _⟩ => ⟨S128x256, .i32⟩
  | .hbm, ⟨44, _⟩ => ⟨S128x256, .i32⟩
  | .hbm, ⟨45, _⟩ => ⟨S_, .i32⟩
  | .hbm, ⟨46, _⟩ => ⟨S128x256, .i32⟩
  | .hbm, ⟨47, _⟩ => ⟨S128x256, .i1⟩
  | .hbm, ⟨48, _⟩ => ⟨S_, .i32⟩
  | .hbm, ⟨49, _⟩ => ⟨S128x256, .i32⟩
  | .hbm, ⟨50, _⟩ => ⟨S128x256, .i1⟩
  | .hbm, ⟨51, _⟩ => ⟨S128x256, .i1⟩
  | .hbm, ⟨52, _⟩ => ⟨S32, .i32⟩
  | .hbm, ⟨53, _⟩ => ⟨S32x1, .i32⟩
  | .hbm, ⟨54, _⟩ => ⟨S_, .i32⟩
  | .hbm, ⟨55, _⟩ => ⟨S32x1, .i32⟩
  | .hbm, ⟨56, _⟩ => ⟨S32x1, .i32⟩
  | .hbm, ⟨57, _⟩ => ⟨S256, .i32⟩
  | .hbm, ⟨58, _⟩ => ⟨S1x256, .i32⟩
  | .hbm, ⟨59, _⟩ => ⟨S32x256, .i32⟩
  | .hbm, ⟨60, _⟩ => ⟨S32x256, .i32⟩
  | .hbm, ⟨61, _⟩ => ⟨S32x256, .i32⟩
  | .hbm, ⟨62, _⟩ => ⟨S_, .i32⟩
  | .hbm, ⟨63, _⟩ => ⟨S32x256, .i32⟩
  | .hbm, ⟨64, _⟩ => ⟨S32x256, .i32⟩
  | .hbm, ⟨65, _⟩ => ⟨S1x128x256, .i1⟩
  | .hbm, ⟨66, _⟩ => ⟨S_, .i32⟩
  | .hbm, ⟨67, _⟩ => ⟨S32x256, .i32⟩
  | .hbm, ⟨68, _⟩ => ⟨S32x256, .i1⟩
  | .hbm, ⟨69, _⟩ => ⟨S32x1x256, .i1⟩
  | .hbm, ⟨70, _⟩ => ⟨S32x128x256, .i1⟩
  | .hbm, ⟨71, _⟩ => ⟨S32x128x256, .i1⟩
  | .hbm, ⟨72, _⟩ => ⟨S32x128x256, .i1⟩
  | .hbm, ⟨73, _⟩ => ⟨S1x32x1x1x128x256, .i1⟩
  | .hbm, ⟨74, _⟩ => ⟨S_, .f32⟩
  | .hbm, ⟨75, _⟩ => ⟨S_, .f32⟩
  | .hbm, ⟨76, _⟩ => ⟨S1x32x2x4x128x256, .i1⟩
  | .hbm, ⟨77, _⟩ => ⟨S1x32x2x4x128x256, .f32⟩
  | .hbm, ⟨78, _⟩ => ⟨S1x32x2x4x128x256, .f32⟩
  | .hbm, ⟨79, _⟩ => ⟨S2x4, .f32⟩
  | .hbm, ⟨80, _⟩ => ⟨S1x1x2x4x1x1, .f32⟩
  | .hbm, ⟨81, _⟩ => ⟨S_, .f32⟩
  | .hbm, ⟨82, _⟩ => ⟨S1x32x2x4x128, .f32⟩
  | .hbm, ⟨83, _⟩ => ⟨S1x32x2x4x128x1, .f32⟩
  | .hbm, ⟨84, _⟩ => ⟨S1x32x2x4x128x1, .f32⟩
  | .hbm, ⟨85, _⟩ => ⟨S1x32x2x4x128x1, .f32⟩
  | .hbm, ⟨86, _⟩ => ⟨S1x32x2x4x128x256, .f32⟩
  | .hbm, ⟨87, _⟩ => ⟨S1x32x2x4x128x256, .f32⟩
  | .hbm, ⟨88, _⟩ => ⟨S1x32x2x4x128x256, .f32⟩
  | .hbm, ⟨89, _⟩ => ⟨S_, .f32⟩
  | .hbm, ⟨90, _⟩ => ⟨S1x32x2x4x128, .f32⟩
  | .hbm, ⟨91, _⟩ => ⟨S1x32x2x4x128x1, .f32⟩
  | .hbm, ⟨92, _⟩ => ⟨S1x32x2x4x128x1, .f32⟩
  | .hbm, ⟨93, _⟩ => ⟨S1x32x2x4x128x1, .f32⟩
  | .hbm, ⟨94, _⟩ => ⟨S1x32x2x4x128x1, .f32⟩
  | .hbm, ⟨95, _⟩ => ⟨S1x32x2x4x128x1, .f32⟩
  | .hbm, ⟨96, _⟩ => ⟨S1x32x2x4x128x256, .f32⟩
  | .hbm, ⟨97, _⟩ => ⟨S1x32x2x4x128x256, .f32⟩
  | .hbm, ⟨98, _⟩ => ⟨S1x32x2x64x4x128, .f32⟩
  | .hbm, ⟨99, _⟩ => ⟨S1x32x128x2x4x64, .f32⟩
  | .hbm, ⟨100, _⟩ => ⟨S1x4096x512, .f32⟩
  | .hbm, ⟨101, _⟩ => ⟨S4096x512, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst_1 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_c : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_c_2 : Ref sig .tc := ⟨.hbm, 45, rfl⟩
abbrev main_v38 : Ref sig .tc := ⟨.hbm, 46, rfl⟩
abbrev main_v39 : Ref sig .tc := ⟨.hbm, 47, rfl⟩
abbrev main_c_3 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_c_4 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_c_5 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_c_6 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_cst_7 : Ref sig .tc := ⟨.hbm, 74, rfl⟩
abbrev main_call0_v0 : Ref sig .tc := ⟨.hbm, 75, rfl⟩
abbrev main_call0_v1 : Ref sig .tc := ⟨.hbm, 76, rfl⟩
abbrev main_call0_v2 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_8 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_9 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩

abbrev nD : Nat := 1
abbrev τ : Topo := Topo.v7x

variable {F : FTy → Type} [FloatOps F]
-- ==== SmallUpd.lean ====
abbrev S8x128 : Shape := ⟨2, ![8, 128]⟩
abbrev S8x160x128 : Shape := ⟨3, ![8, 160, 128]⟩
abbrev S160x128 : Shape := ⟨2, ![160, 128]⟩
abbrev S1x160x128 : Shape := ⟨3, ![1, 160, 128]⟩
abbrev S8 : Shape := ⟨1, ![8]⟩
abbrev S8x1 : Shape := ⟨2, ![8, 1]⟩
abbrev S1 : Shape := ⟨1, ![1]⟩
abbrev S1x1 : Shape := ⟨2, ![1, 1]⟩
abbrev S24x128 : Shape := ⟨2, ![24, 128]⟩
abbrev S128x128 : Shape := ⟨2, ![128, 128]⟩

abbrev nBuf : Space → Nat
  | .hbm => 10
  | .vmem => 9
  | .smem => 0
  | _ => 0

abbrev bufTy : (tb : Table) → Fin (tcTables nBuf tb) → BufTy
  | .hbm, ⟨0, _⟩ => ⟨S8x128, .f32⟩
  | .hbm, ⟨1, _⟩ => ⟨S8x160x128, .f32⟩
  | .hbm, ⟨2, _⟩ => ⟨S160x128, .f32⟩
  | .hbm, ⟨3, _⟩ => ⟨S160x128, .f32⟩
  | .hbm, ⟨4, _⟩ => ⟨S160x128, .f32⟩
  | .hbm, ⟨5, _⟩ => ⟨S160x128, .f32⟩
  | .hbm, ⟨6, _⟩ => ⟨S160x128, .f32⟩
  | .hbm, ⟨7, _⟩ => ⟨S160x128, .f32⟩
  | .hbm, ⟨8, _⟩ => ⟨S160x128, .f32⟩
  | .hbm, ⟨9, _⟩ => ⟨S8x128, .f32⟩
  | .local _ .vmem, ⟨0, _⟩ => ⟨S8x160x128, .f32⟩
  | .local _ .vmem, ⟨1, _⟩ => ⟨S160x128, .f32⟩
  | .local _ .vmem, ⟨2, _⟩ => ⟨S160x128, .f32⟩
  | .local _ .vmem, ⟨3, _⟩ => ⟨S160x128, .f32⟩
  | .local _ .vmem, ⟨4, _⟩ => ⟨S160x128, .f32⟩
  | .local _ .vmem, ⟨5, _⟩ => ⟨S160x128, .f32⟩
  | .local _ .vmem, ⟨6, _⟩ => ⟨S160x128, .f32⟩
  | .local _ .vmem, ⟨7, _⟩ => ⟨S160x128, .f32⟩
  | .local _ .vmem, ⟨8, _⟩ => ⟨S8x128, .f32⟩
  | _, _ => ⟨S8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S8x160x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S160x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S160x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S160x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S160x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S160x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S160x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S160x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== SmallUpdRefIdeal.lean ====
abbrev S8x128 : Shape := ⟨2, ![8, 128]⟩
abbrev S8x160x128 : Shape := ⟨3, ![8, 160, 128]⟩
abbrev S160x128 : Shape := ⟨2, ![160, 128]⟩
abbrev S_ : Shape := ⟨0, ![]⟩
abbrev S2x512 : Shape := ⟨2, ![2, 512]⟩
abbrev S512 : Shape := ⟨1, ![512]⟩
abbrev S1x512 : Shape := ⟨2, ![1, 512]⟩
abbrev S24x128 : Shape := ⟨2, ![24, 128]⟩
abbrev S128x128 : Shape := ⟨2, ![128, 128]⟩

abbrev nBuf : Space → Nat
  | .hbm => 110
  | .vmem => 0
  | .smem => 0
  | _ => 0

abbrev bufTy : (tb : Table) → Fin (tcTables nBuf tb) → BufTy
  | .hbm, ⟨0, _⟩ => ⟨S8x128, .f32⟩
  | .hbm, ⟨1, _⟩ => ⟨S8x160x128, .f32⟩
  | .hbm, ⟨2, _⟩ => ⟨S160x128, .f32⟩
  | .hbm, ⟨3, _⟩ => ⟨S160x128, .f32⟩
  | .hbm, ⟨4, _⟩ => ⟨S160x128, .f32⟩
  | .hbm, ⟨5, _⟩ => ⟨S_, .f32⟩
  | .hbm, ⟨6, _⟩ => ⟨S160x128, .f32⟩
  | .hbm, ⟨7, _⟩ => ⟨S8x128, .f32⟩
  | .hbm, ⟨8, _⟩ => ⟨S_, .f32⟩
  | .hbm, ⟨9, _⟩ => ⟨S_, .f32⟩
  | .hbm, ⟨10, _⟩ => ⟨S8x128, .f32⟩
  | .hbm, ⟨11, _⟩ => ⟨S2x512, .f32⟩
  | .hbm, ⟨12, _⟩ => ⟨S_, .f32⟩
  | .hbm, ⟨13, _⟩ => ⟨S512, .f32⟩
  | .hbm, ⟨14, _⟩ => ⟨S1x512, .f32⟩
  | .hbm, ⟨15, _⟩ => ⟨S8x128, .f32⟩
  | .hbm, ⟨16, _⟩ => ⟨S2x512, .f32⟩
  | .hbm, ⟨17, _⟩ => ⟨S_, .f32⟩
  | .hbm, ⟨18, _⟩ => ⟨S512, .f32⟩
  | .hbm, ⟨19, _⟩ => ⟨S1x512, .f32⟩
  | .hbm, ⟨20, _⟩ => ⟨S2x512, .f32⟩
  | .hbm, ⟨21, _⟩ => ⟨S2x512, .i1⟩
  | .hbm, ⟨22, _⟩ => ⟨S2x512, .f32⟩
  | .hbm, ⟨23, _⟩ => ⟨S_, .f32⟩
  | .hbm, ⟨24, _⟩ => ⟨S512, .f32⟩
  | .hbm, ⟨25, _⟩ => ⟨S_, .f32⟩
  | .hbm, ⟨26, _⟩ => ⟨S512, .f32⟩
  | .hbm, ⟨27, _⟩ => ⟨S512, .f32⟩
  | .hbm, ⟨28, _⟩ => ⟨S_, .f32⟩
  | .hbm, ⟨29, _⟩ => ⟨S512, .f32⟩
  | .hbm, ⟨30, _⟩ => ⟨S512, .i1⟩
  | .hbm, ⟨31, _⟩ => ⟨S_, .f32⟩
  | .hbm, ⟨32, _⟩ => ⟨S512, .f32⟩
  | .hbm, ⟨33, _⟩ => ⟨S512, .i1⟩
  | .hbm, ⟨34, _⟩ => ⟨S_, .f32⟩
  | .hbm, ⟨35, _⟩ => ⟨S512, .f32⟩
  | .hbm, ⟨36, _⟩ => ⟨S_, .f32⟩
  | .hbm, ⟨37, _⟩ => ⟨S512, .f32⟩
  | .hbm, ⟨38, _⟩ => ⟨S_, .f32⟩
  | .hbm, ⟨39, _⟩ => ⟨S512, .f32⟩
  | .hbm, ⟨40, _⟩ => ⟨S512, .f32⟩
  | .hbm, ⟨41, _⟩ => ⟨S512, .f32⟩
  | .hbm, ⟨42, _⟩ => ⟨S1x512, .f32⟩
  | .hbm, ⟨43, _⟩ => ⟨S2x512, .f32⟩
  | .hbm, ⟨44, _⟩ => ⟨S2x512, .f32⟩
  | .hbm, ⟨45, _⟩ => ⟨S2x512, .f32⟩
  | .hbm, ⟨46, _⟩ => ⟨S_, .f32⟩
  | .hbm, ⟨47, _⟩ => ⟨S512, .f32⟩
  | .hbm, ⟨48, _⟩ => ⟨S1x512, .f32⟩
  | .hbm, ⟨49, _⟩ => ⟨S2x512, .f32⟩
  | .hbm, ⟨50, _⟩ => ⟨S2x512, .f32⟩
  | .hbm, ⟨51, _⟩ => ⟨S1x512, .f32⟩
  | .hbm, ⟨52, _⟩ => ⟨S_, .f32⟩
  | .hbm, ⟨53, _⟩ => ⟨S1x512, .f32⟩
  | .hbm, ⟨54, _⟩ => ⟨S1x512, .f32⟩
  | .hbm, ⟨55, _⟩ => ⟨S1x512, .f32⟩
  | .hbm, ⟨56, _⟩ => ⟨S_, .f32⟩
  | .hbm, ⟨57, _⟩ => ⟨S2x512, .f32⟩
  | .hbm, ⟨58, _⟩ => ⟨S2x512, .f32⟩
  | .hbm, ⟨59, _⟩ => ⟨S2x512, .f32⟩
  | .hbm, ⟨60, _⟩ => ⟨S2x512, .f32⟩
  | .hbm, ⟨61, _⟩ => ⟨S_, .f32⟩
  | .hbm, ⟨62, _⟩ => ⟨S512, .f32⟩
  | .hbm, ⟨63, _⟩ => ⟨S1x512, .f32⟩
  | .hbm, ⟨64, _⟩ => ⟨S1x512, .f32⟩
  | .hbm, ⟨65, _⟩ => ⟨S2x512, .f32⟩
  | .hbm, ⟨66, _⟩ => ⟨S2x512, .f32⟩
  | .hbm, ⟨67, _⟩ => ⟨S_, .f32⟩
  | .hbm, ⟨68, _⟩ => ⟨S512, .f32⟩
  | .hbm, ⟨69, _⟩ => ⟨S2x512, .f32⟩
  | .hbm, ⟨70, _⟩ => ⟨S2x512, .f32⟩
  | .hbm, ⟨71, _⟩ => ⟨S2x512, .f32⟩
  | .hbm, ⟨72, _⟩ => ⟨S24x128, .f32⟩
  | .hbm, ⟨73, _⟩ => ⟨S8x128, .f32⟩
  | .hbm, ⟨74, _⟩ => ⟨S128x128, .f32⟩
  | .hbm, ⟨75, _⟩ => ⟨S160x128, .f32⟩
  | .hbm, ⟨76, _⟩ => ⟨S_, .f32⟩
  | .hbm, ⟨77, _⟩ => ⟨S160x128, .f32⟩
  | .hbm, ⟨78, _⟩ => ⟨S160x128, .f32⟩
  | .hbm, ⟨79, _⟩ => ⟨S_, .f32⟩
  | .hbm, ⟨80, _⟩ => ⟨S160x128, .f32⟩
  | .hbm, ⟨81, _⟩ => ⟨S160x128, .f32⟩
  | .hbm, ⟨82, _⟩ => ⟨S160x128, .f32⟩
  | .hbm, ⟨83, _⟩ => ⟨S_, .f32⟩
  | .hbm, ⟨84, _⟩ => ⟨S160x128, .f32⟩
  | .hbm, ⟨85, _⟩ => ⟨S160x128, .f32⟩
  | .hbm, ⟨86, _⟩ => ⟨S160x128, .f32⟩
  | .hbm, ⟨87, _⟩ => ⟨S_, .f32⟩
  | .hbm, ⟨88, _⟩ => ⟨S160x128, .f32⟩
  | .hbm, ⟨89, _⟩ => ⟨S160x128, .f32⟩
  | .hbm, ⟨90, _⟩ => ⟨S160x128, .f32⟩
  | .hbm, ⟨91, _⟩ => ⟨S_, .f32⟩
  | .hbm, ⟨92, _⟩ => ⟨S160x128, .f32⟩
  | .hbm, ⟨93, _⟩ => ⟨S160x128, .f32⟩
  | .hbm, ⟨94, _⟩ => ⟨S_, .f32⟩
  | .hbm, ⟨95, _⟩ => ⟨S160x128, .f32⟩
  | .hbm, ⟨96, _⟩ => ⟨S160x128, .f32⟩
  | .hbm, ⟨97, _⟩ => ⟨S160x128, .f32⟩
  | .hbm, ⟨98, _⟩ => ⟨S_, .f32⟩
  | .hbm, ⟨99, _⟩ => ⟨S160x128, .f32⟩
  | .hbm, ⟨100, _⟩ => ⟨S160x128, .f32⟩
  | .hbm, ⟨101, _⟩ => ⟨S160x128, .f32⟩
  | .hbm, ⟨102, _⟩ => ⟨S_, .f32⟩
  | .hbm, ⟨103, _⟩ => ⟨S160x128, .f32⟩
  | .hbm, ⟨104, _⟩ => ⟨S160x128, .f32⟩
  | .hbm, ⟨105, _⟩ => ⟨S160x128, .f32⟩
  | .hbm, ⟨106, _⟩ => ⟨S_, .f32⟩
  | .hbm, ⟨107, _⟩ => ⟨S160x128, .f32⟩
  | .hbm, ⟨108, _⟩ => ⟨S160x128, .f32⟩
  | .hbm, ⟨109, _⟩ => ⟨S8x128, .f32⟩
  | _, _ => ⟨S8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_cst_8 : Ref sig .tc := ⟨.hbm, 36, rfl⟩
abbrev main_v22 : Ref sig .tc := ⟨.hbm, 37, rfl⟩
abbrev main_cst_9 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_15 : Ref sig .tc := ⟨.hbm, 76, rfl⟩
abbrev main_v55 : Ref sig .tc := ⟨.hbm, 77, rfl⟩
abbrev main_v56 : Ref sig .tc := ⟨.hbm, 78, rfl⟩
abbrev main_cst_16 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_17 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_18 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_19 : Ref sig .tc := ⟨.hbm, 91, rfl⟩
abbrev main_v66 : Ref sig .tc := ⟨.hbm, 92, rfl⟩
abbrev main_v67 : Ref sig .tc := ⟨.hbm, 93, rfl⟩
abbrev main_cst_20 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_21 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_22 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_23 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩

abbrev nD : Nat := 1
abbrev τ : Topo := Topo.v7x

variable {F : FTy → Type} [FloatOps F]
-- ==== AdamOut.lean ====
abbrev S256x1024 : Shape := ⟨2, ![256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamOutRefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.WgradValue.lean ====
/-
  The weight gradient `aᵀ · dy` of a linear layer, as the kernel computes it: the rows are walked in four tiles of 1024,
  each tile's product is added into a scratch accumulator that the first point resets, and the last point writes the
  accumulator out. Read over the extended reals the array after the run is, at `(r, l)`, the sum over all 4096 rows `k` of
  `a k r * dy k l`; the reference's transposed product is the same sum with the factors exchanged.
-/
module

public import proofs.«01_k».proof.Proof.Gen.WgradIdeal.Value
public import proofs.«01_k».proof.Proof.Gen.WgradRefIdeal.Run
public import proofs.«01_k».proof.Proof.Gen.WgradRefIdeal.Read
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

namespace Cert.WgradIdeal.Hand

open Cert.WgradIdeal Cert.WgradIdeal.Gen Idealize.ShloMosaic Idealize.ShloMosaic.TcCoe Idealize.SL.Sem

variable (m : (ℓ : Loc nD τ sig) → Buf (Elt Ideal) ℓ)

/-- The sum over all rows of the products of the two operands' entries. -/
def G (a : S4096x2816.Idx → EReal) (dy : S4096x1024.Idx → EReal) : S2816x1024.Idx → EReal :=
  fun i => ∑ k : Fin 4096, a (ix2 k (i 0)) * dy (ix2 k (i 1))

/-- The block indices of the two inputs at a point: the point's row tile, all columns. -/
theorem idx : ∀ t : Fin cfg0.N, win0_0.index t = ![t.val, 0] ∧ win0_1.index t = ![t.val, 0] :=
  (by decide +kernel : ∀ t : Fin grid0.N, win0_0.index t = ![t.val, 0] ∧ win0_1.index t = ![t.val, 0])

/-- What a tile adds to the accumulator, at an entry. -/
theorem pay_add (x1 : Vec Ideal S1024x1024 .bf16) (acc : Vec Ideal S2816x1024 .f32) (x0 : Vec Ideal S1024x2816 .bf16)
    (j : S2816x1024.Idx) :
    k0_pay2 (F := Ideal) x1 acc x0 j = acc j + ∑ k : Fin 1024, x0 (ix2 k (j 0)) * x1 (ix2 k (j 1)) := by
  pointwise [k0_pay2]

theorem pay_zero (j : S2816x1024.Idx) : k0_pay1 (F := Ideal) j = 0 := by
  pointwise [k0_pay1]

/-- The accumulator after the last point is the sum over all rows. -/
theorem acc_eq (c : Dev nD) (j : S2816x1024.Idx) :
    (outsAt0 m c t0_3.val t0_3.isLt).2 j = G (m ((c : Thread nD τ).loc main_arg0)) (m ((c : Thread nD τ).loc main_arg1)) j := by
  rw [Pipeline.eq_sum_fin_of_reset_step_apply_last (fun n h => (outsAt0 m c n h).2) 4 (fun _ => 0) _
      (fun t h j => by rw [outsAt0_A m c t h (by omega)]; frame_out; rw [pay_add, pay_zero])
      (fun t h j => by
        by_cases h3 : t.val % 4 = 3
        · rw [outsAt0_C m c t h h3]; frame_out; rw [pay_add, (Memref.isWhole_whole _).read_unread]
        · rw [outsAt0_B m c t h h3]; frame_out; rw [pay_add, (Memref.isWhole_whole _).read_unread])
      (le_of_eq N_0) t0_3 rfl j, zero_add]
  unfold G
  refine Fin.sum_mul_add_congr fun s k hl => ?_
  congr 1 <;> blk_ext [Gen.iblk, Gen.V, (idx s).1, (idx s).2]

/-- The output block after the last point is the accumulator it leaves. -/
theorem out_eq (c : Dev nD) (j : S2816x1024.Idx) :
    (outsAt0 m c t0_3.val t0_3.isLt).1 j = (outsAt0 m c t0_3.val t0_3.isLt).2 j := by
  rw [outsAt0_C m c t0_3 (by decide) (by decide)]
  frame_out
  rfl

/-- The result array after the run. -/
theorem arr_eq (c : Dev nD) : (dats m 0 c).arrAt 2 cfg0.N
    = G (m ((c : Thread nD τ).loc main_arg0)) (m ((c : Thread nD τ).loc main_arg1)) :=
  (dats m 0 c).arrAt_eq_of_after_last 2 t0_3 (by decide +kernel) _ fun j => by
    blk_simp
    rw [after0_2, out_eq, acc_eq]

/-- The reference's result is the same sum, the factors exchanged. -/
theorem ref_eq (x0 : S4096x2816.Idx → EReal) (x1 : S4096x1024.Idx → EReal) :
    Cert.WgradRefIdeal.Read.val_main_v6 (F := Ideal) x0 x1 = G x0 x1 := by
  funext i
  rw [Cert.WgradRefIdeal.Read.val_main_v6_apply, Cert.WgradRefIdeal.Read.val_main_v5_apply,
    Cert.WgradRefIdeal.Read.val_main_v4_apply]
  unfold G
  refine Finset.sum_congr rfl fun k _ => ?_
  rw [Cert.WgradRefIdeal.Read.val_main_v3_apply, Cert.WgradRefIdeal.Read.val_main_v1_apply, mul_comm]
  exact congrArg₂ (· * ·) (congrArg x0 (eq_ix2 _)) (congrArg x1 (eq_ix2 _))

/-- Kernel and reference end with the same gradient. -/
theorem algebraic : Cert.algebraic_WgradIdeal_WgradRefIdeal := by
  intro m g m' g' _ hm
  refine ⟨fun c => G (m ((c.tc : Thread nD τ).loc main_arg0)) (m ((c.tc : Thread nD τ).loc main_arg1)), ?_, ?_⟩
  · exact (θ_run defs _ _).mono (fun r h c => ⟨(h c).1.trans (arr_eq m c), (h c).2⟩) (Cert.WgradIdeal.Value.run_blocks m g)
  · refine (θ_run Cert.WgradRefIdeal.defs _ _).mono (fun r h c => ⟨(h c).1.trans ?_, (h c).2⟩) (Cert.WgradRefIdeal.Value.run m' g')
    rw [Cert.WgradRefIdeal.Read.val_main_v6_eq, (hm c).1, (hm c).2, ref_eq]

/-- The reference is a straight-line host program without semaphores. -/
theorem frame_ref : Cert.quiescent_WgradRefIdeal := fun m ρ _ =>
  (θ_run Cert.WgradRefIdeal.defs _ _).mono (fun r h => ⟨fun c => (h c).2, sem_eq_zero_of_no_sems (by decide) r.2⟩)
    (Cert.WgradRefIdeal.Value.run m ρ)

end Cert.WgradIdeal.Hand

end
-- ==== Proof.FfnMath.lean ====
/-
  The gradient of `silu(conv gp) * up` through the down projection, written on whole arrays: row `r`, channel `l`. The
  convolution is causal and three rows wide, so its gradient reads the gate's gradient at the rows `r`, `r + 1`, `r + 2`,
  a row past the last being zero (`ext`).
-/
module

public import proofs.«01_k».proof.Proof.Gen.FfnIdeal.Value
public import Idealize.ShloMosaic.Lib.Pipeline.ValueKit
public import Idealize.ShloMosaic.Lib.Pointwise

@[expose] public section

set_option maxRecDepth 16384

noncomputable section

namespace Cert.FfnIdeal.Hand

open Cert.FfnIdeal Cert.FfnIdeal.Gen Idealize.ShloMosaic Idealize.ShloMosaic.TcCoe Idealize.SL.Sem

/-- The logistic function. -/
def sg (x : EReal) : EReal := Ideal.div 1 (1 + Ideal.exp (0 - x))

/-- The gradient of the product `silu(gate) * up`, from the output's gradient and the transposed weight. -/
def dact (dh : S4096x1024.Idx → EReal) (wd : S2816x1024.Idx → EReal) (r : Fin 4096) (l : Fin 2816) : EReal :=
  ∑ k : Fin 1024, dh (ix2 r k) * wd (ix2 l k)

/-- The gradient of the gate: through the product with `up`, then through silu. -/
def dgate (dh : S4096x1024.Idx → EReal) (wd : S2816x1024.Idx → EReal) (up gate : S4096x2816.Idx → EReal)
    (r : Fin 4096) (l : Fin 2816) : EReal :=
  dact dh wd r l * up (ix2 r l) *
    (sg (gate (ix2 r l)) + gate (ix2 r l) * sg (gate (ix2 r l)) * (1 - sg (gate (ix2 r l))))

/-- A row of the gate's gradient, zero past the last row. -/
def ext (d : Fin 4096 → Fin 2816 → EReal) (n : ℕ) (l : Fin 2816) : EReal := if h : n < 4096 then d ⟨n, h⟩ l else 0

/-- A row of the convolution's input, zero before the first row. -/
def back (gp : S4096x2816.Idx → EReal) (k : ℕ) (r : Fin 4096) (l : Fin 2816) : EReal :=
  if h : r.val < k then 0 else gp (ix2 ⟨r.val - k, by omega⟩ l)

/-- The gate before silu: the causal convolution of three rows, plus the bias. -/
def gateOf (gp : S4096x2816.Idx → EReal) (w : S3x2816.Idx → EReal) (b : S1x2816.Idx → EReal) : S4096x2816.Idx → EReal := fun i =>
  back gp 2 (i 0) (i 1) * w (ix2 0 (i 1)) + back gp 1 (i 0) (i 1) * w (ix2 1 (i 1)) + gp (ix2 (i 0) (i 1)) * w (ix2 2 (i 1))
    + b (ix2 0 (i 1))

/-- The gradient of the convolution's input. -/
def gradGp (w : S3x2816.Idx → EReal) (d : Fin 4096 → Fin 2816 → EReal) : S4096x2816.Idx → EReal := fun i =>
  w (ix2 2 (i 1)) * d (i 0) (i 1) + w (ix2 1 (i 1)) * ext d ((i 0).val + 1) (i 1) + w (ix2 0 (i 1)) * ext d ((i 0).val + 2) (i 1)

/-- The gradient of the other factor. -/
def gradUp (dh : S4096x1024.Idx → EReal) (wd : S2816x1024.Idx → EReal) (gate : S4096x2816.Idx → EReal) :
    S4096x2816.Idx → EReal := fun i =>
  dact dh wd (i 0) (i 1) * (gate (ix2 (i 0) (i 1)) * sg (gate (ix2 (i 0) (i 1))))

/-- The gradient of the convolution's three taps, in the first three of eight rows. -/
def gradW (gp : S4096x2816.Idx → EReal) (d : Fin 4096 → Fin 2816 → EReal) : S8x2816.Idx → EReal := fun i =>
  if (i 0).val = 0 then ∑ r : Fin 4096, gp (ix2 r (i 1)) * ext d (r.val + 2) (i 1)
  else if (i 0).val = 1 then ∑ r : Fin 4096, gp (ix2 r (i 1)) * ext d (r.val + 1) (i 1)
  else if (i 0).val = 2 then ∑ r : Fin 4096, gp (ix2 r (i 1)) * d r (i 1)
  else 0

/-- The gradient of the convolution's bias. -/
def gradB (d : Fin 4096 → Fin 2816 → EReal) : S1x2816.Idx → EReal := fun i => ∑ r : Fin 4096, d r (i 1)

end Cert.FfnIdeal.Hand

end
-- ==== Proof.FfnPay.lean ====
/-
  What one grid point of the fused kernel computes, read at an entry: the stores' values over the blocks the point loads.
-/
module

public import proofs.«01_k».proof.Proof.FfnMath

@[expose] public section

set_option maxRecDepth 16384

noncomputable section

namespace Cert.FfnIdeal.Hand

open Cert.FfnIdeal Cert.FfnIdeal.Gen Idealize.ShloMosaic Idealize.ShloMosaic.TcCoe Idealize.SL.Sem

theorem pay12 (x0 : Vec Ideal S512x1024 .bf16) (x1 : Vec Ideal S1408x1024 .bf16) (x4 : Vec Ideal S512x1408 .f32)
    (x3 : Vec Ideal S512x1408 .bf16) (r : Fin 512) (l : Fin 1408) :
    k0_pay12 (F := Ideal) x0 x1 x4 x3 (ix2 r l) =
      (∑ k : Fin 1024, x0 (ix2 r k) * x1 (ix2 l k)) * x3 (ix2 r l) *
        (sg (x4 (ix2 r l)) + x4 (ix2 r l) * sg (x4 (ix2 r l)) * (1 - sg (x4 (ix2 r l)))) := by
  unfold sg
  pointwise [k0_pay12, k0_pay6, k0_pay10, k0_pay9, k0_pay8]

theorem pay11 (x0 : Vec Ideal S512x1024 .bf16) (x1 : Vec Ideal S1408x1024 .bf16) (x4 : Vec Ideal S512x1408 .f32)
    (r : Fin 512) (l : Fin 1408) :
    k0_pay11 (F := Ideal) x0 x1 x4 (ix2 r l) =
      (∑ k : Fin 1024, x0 (ix2 r k) * x1 (ix2 l k)) * (x4 (ix2 r l) * sg (x4 (ix2 r l))) := by
  unfold sg
  pointwise [k0_pay11, k0_pay6, k0_pay10, k0_pay9, k0_pay8]

/-- The tile of the gate's gradient with the rows carried from the tile below it. -/
theorem pay13 (x0 : Vec Ideal S512x1024 .bf16) (x1 : Vec Ideal S1408x1024 .bf16) (x4 : Vec Ideal S512x1408 .f32)
    (x3 : Vec Ideal S512x1408 .bf16) (car : Vec Ideal S8x1408 .f32) (r : Fin 520) (l : Fin 1408) :
    k0_pay13 (F := Ideal) x0 x1 x4 x3 car (ix2 r l) =
      if h : r.val < 512 then k0_pay12 (F := Ideal) x0 x1 x4 x3 (ix2 ⟨r.val, h⟩ l)
      else car (ix2 ⟨r.val - 512, by omega⟩ l) := by
  pointwise [k0_pay13]

theorem pay14 (v : FVec Ideal S520x1408 .f32) (r : Fin 512) (l : Fin 1408) :
    k0_pay14 (F := Ideal) v (ix2 r l) = v (ix2 ⟨r.val + 1, by omega⟩ l) := by
  pointwise [k0_pay14]
  congr 2; apply Fin.ext; show (r.val + 520 - 519) % 520 = r.val + 1; omega

theorem pay15 (v : FVec Ideal S520x1408 .f32) (r : Fin 512) (l : Fin 1408) :
    k0_pay15 (F := Ideal) v (ix2 r l) = v (ix2 ⟨r.val + 2, by omega⟩ l) := by
  pointwise [k0_pay15]
  congr 2; apply Fin.ext; show (r.val + 520 - 518) % 520 = r.val + 2; omega

theorem pay16 (w : Vec Ideal S8x1408 .f32) (d : FVec Ideal S512x1408 .f32) (v : FVec Ideal S520x1408 .f32) (r : Fin 512)
    (l : Fin 1408) :
    k0_pay16 (F := Ideal) (k0_pay5 w) d v (ix2 r l) =
      w (ix2 2 l) * d (ix2 r l) + w (ix2 1 l) * v (ix2 ⟨r.val + 1, by omega⟩ l) + w (ix2 0 l) * v (ix2 ⟨r.val + 2, by omega⟩ l) := by
  pointwise [k0_pay16, k0_pay5]
  rw [pay14, pay15]

theorem pay17 (gp : Vec Ideal S512x1408 .bf16) (d : FVec Ideal S512x1408 .f32) (v : FVec Ideal S520x1408 .f32)
    (acc : Vec Ideal S8x1408 .f32) (r : Fin 8) (l : Fin 1408) :
    k0_pay17 (F := Ideal) (k0_pay7 gp) d v acc (ix2 r l) = acc (ix2 r l) +
      if r.val = 0 then ∑ x : Fin 512, gp (ix2 x l) * v (ix2 ⟨x.val + 2, by omega⟩ l)
      else if r.val = 1 then ∑ x : Fin 512, gp (ix2 x l) * v (ix2 ⟨x.val + 1, by omega⟩ l)
      else if r.val = 2 then ∑ x : Fin 512, gp (ix2 x l) * d (ix2 x l)
      else 0 := by
  pointwise [k0_pay17, k0_pay7]
  simp only [pay14, pay15]
  congr 1
  by_cases h0 : r.val = 0
  · rw [dif_pos (by omega), if_pos h0]
  by_cases h1 : r.val = 1
  · rw [dif_neg (by omega), dif_pos (by omega), if_neg h0, if_pos h1]
  by_cases h2 : r.val = 2
  · rw [dif_neg (by omega), dif_neg (by omega), dif_pos (by omega), if_neg h0, if_neg h1, if_pos h2]
  · rw [dif_neg (by omega), dif_neg (by omega), dif_neg (by omega), if_neg h0, if_neg h1, if_neg h2]

theorem pay18 (d : FVec Ideal S512x1408 .f32) (acc : Vec Ideal S1x1408 .f32) (r : Fin 1) (l : Fin 1408) :
    k0_pay18 (F := Ideal) d acc (ix2 r l) = acc (ix2 r l) + ∑ x : Fin 512, d (ix2 x l) := by
  pointwise [k0_pay18]

theorem pay1 (d : FVec Ideal S512x1408 .f32) (r : Fin 8) (l : Fin 1408) :
    k0_pay1 (F := Ideal) (k0_pay19 d) (ix2 r l) = d (ix2 ⟨r.val, by omega⟩ l) := by
  pointwise [k0_pay1, k0_pay19]

theorem pay2 (j : S8x1408.Idx) : k0_pay2 (F := Ideal) j = 0 := by pointwise [k0_pay2]
theorem pay3 (j : S8x1408.Idx) : k0_pay3 (F := Ideal) j = 0 := by pointwise [k0_pay3]
theorem pay4 (j : S1x1408.Idx) : k0_pay4 (F := Ideal) j = 0 := by pointwise [k0_pay4]

variable (m : (ℓ : Loc nD τ sig) → Buf (Elt Ideal) ℓ)

/-- The block indices of a point's windows: the column tile is `t / 8`, the row tiles are walked from the last to the first. -/
theorem idx : ∀ t : Fin cfg0.N, win0_0.index t = ![7 - t.val % 8, 0] ∧ win0_1.index t = ![t.val / 8, 0]
    ∧ win0_2.index t = ![7 - t.val % 8, t.val / 8] ∧ win0_3.index t = ![7 - t.val % 8, t.val / 8]
    ∧ win0_4.index t = ![7 - t.val % 8, t.val / 8] ∧ win0_5.index t = ![0, t.val / 8]
    ∧ win0_6.index t = ![7 - t.val % 8, t.val / 8] ∧ win0_7.index t = ![7 - t.val % 8, t.val / 8]
    ∧ win0_8.index t = ![0, t.val / 8] ∧ win0_9.index t = ![0, t.val / 8] :=
  (by decide +kernel : ∀ t : Fin grid0.N, win0_0.index t = ![7 - t.val % 8, 0] ∧ win0_1.index t = ![t.val / 8, 0]
    ∧ win0_2.index t = ![7 - t.val % 8, t.val / 8] ∧ win0_3.index t = ![7 - t.val % 8, t.val / 8]
    ∧ win0_4.index t = ![7 - t.val % 8, t.val / 8] ∧ win0_5.index t = ![0, t.val / 8]
    ∧ win0_6.index t = ![7 - t.val % 8, t.val / 8] ∧ win0_7.index t = ![7 - t.val % 8, t.val / 8]
    ∧ win0_8.index t = ![0, t.val / 8] ∧ win0_9.index t = ![0, t.val / 8])

theorem lt16 (t : Fin cfg0.N) : t.val < 16 := lt_of_lt_of_eq t.isLt N_0

/-- The array row of a tile's row. -/
def row (t : Fin cfg0.N) (r : Fin 512) : Fin 4096 := ⟨(7 - t.val % 8) * 512 + r.val, by omega⟩

/-- The array column of a tile's column. -/
def col (t : Fin cfg0.N) (l : Fin 1408) : Fin 2816 := ⟨t.val / 8 * 1408 + l.val, by have := lt16 t; omega⟩

theorem blk0 (c : Dev nD) (t : Fin cfg0.N) (r : Fin 512) (k : Fin 1024) :
    iblk m c 0 t (ix2 r k) = m ((c : Thread nD τ).loc main_arg0) (ix2 (row t r) k) := by
  blk_ext [Gen.iblk, Gen.V, (idx t).1, row]
theorem blk1 (c : Dev nD) (t : Fin cfg0.N) (l : Fin 1408) (k : Fin 1024) :
    iblk m c 1 t (ix2 l k) = m ((c : Thread nD τ).loc main_arg1) (ix2 (col t l) k) := by
  blk_ext [Gen.iblk, Gen.V, (idx t).2.1, col]
theorem blk2 (c : Dev nD) (t : Fin cfg0.N) (r : Fin 512) (l : Fin 1408) :
    iblk m c 2 t (ix2 r l) = m ((c : Thread nD τ).loc main_arg2) (ix2 (row t r) (col t l)) := by
  blk_ext [Gen.iblk, Gen.V, (idx t).2.2.1, row, col]
theorem blk3 (c : Dev nD) (t : Fin cfg0.N) (r : Fin 512) (l : Fin 1408) :
    iblk m c 3 t (ix2 r l) = m ((c : Thread nD τ).loc main_arg3) (ix2 (row t r) (col t l)) := by
  blk_ext [Gen.iblk, Gen.V, (idx t).2.2.2.1, row, col]
theorem blk4 (c : Dev nD) (t : Fin cfg0.N) (r : Fin 512) (l : Fin 1408) :
    iblk m c 4 t (ix2 r l) = V m c main_v26 (ix2 (row t r) (col t l)) := by
  blk_ext [Gen.iblk, (idx t).2.2.2.2.1, row, col]
theorem blk5 (c : Dev nD) (t : Fin cfg0.N) (r : Fin 8) (l : Fin 1408) :
    iblk m c 5 t (ix2 r l) = V m c main_v28 (ix2 r (col t l)) := by
  blk_ext [Gen.iblk, (idx t).2.2.2.2.2.1, row, col]

/-- The padded taps hold the taps in their first three rows. -/
theorem taps (c : Dev nD) (r : Fin 3) (l : Fin 2816) :
    V m c main_v28 (ix2 (⟨r.val, by omega⟩ : Fin 8) l) = m ((c : Thread nD τ).loc main_arg4) (ix2 r l) := by
  entry_read
  pointwise

end Cert.FfnIdeal.Hand

end
-- ==== Proof.FfnValue.lean ====
/-
  The four arrays that the fused kernel writes, each as a closed form of the arguments.
-/
module

public import proofs.«01_k».proof.Proof.FfnPay
public import Idealize.ShloMosaic.Lib.Pipeline.ReadBack

@[expose] public section

set_option maxRecDepth 16384

noncomputable section

namespace Cert.FfnIdeal.Hand

open Cert.FfnIdeal Cert.FfnIdeal.Gen Idealize.ShloMosaic Idealize.ShloMosaic.TcCoe Idealize.SL.Sem

variable (m : (ℓ : Loc nD τ sig) → Buf (Elt Ideal) ℓ)

/-- The gate's gradient over the kernel's memory. -/
def D (c : Dev nD) : Fin 4096 → Fin 2816 → EReal :=
  dgate (m ((c : Thread nD τ).loc main_arg0)) (m ((c : Thread nD τ).loc main_arg1)) (m ((c : Thread nD τ).loc main_arg3)) (V m c main_v26)

theorem d_eq (c : Dev nD) (t : Fin cfg0.N) (r : Fin 512) (l : Fin 1408) :
    k0_pay12 (F := Ideal) (iblk m c 0 t) (iblk m c 1 t) (iblk m c 4 t) (iblk m c 3 t) (ix2 r l) = D m c (row t r) (col t l) := by
  rw [pay12]
  simp only [blk0, blk1, blk3, blk4]
  rfl

/-- The rows a point carries to the next one are the first rows of its tile. -/
theorem carry_eq (c : Dev nD) (t : Fin cfg0.N) (r : Fin 8) (l : Fin 1408) :
    (outsAt0 m c t.val t.isLt).2.2.2.2 (ix2 r l) = D m c (row t ⟨r.val, by omega⟩) (col t l) := by
  by_cases h : t.val % 8 = 0
  · rw [outsAt0_A m c t h]; frame_out; rw [pay1, d_eq]
  · rw [outsAt0_B m c t h]; frame_out; rw [pay1, d_eq]

theorem ext_lt (d : Fin 4096 → Fin 2816 → EReal) (n : Fin 4096) (k : ℕ) (h : k = n.val) (l : Fin 2816) : ext d k l = d n l := by
  subst h; unfold ext; rw [dif_pos n.isLt]

theorem ext_ge (d : Fin 4096 → Fin 2816 → EReal) (n : ℕ) (h : 4096 ≤ n) (l : Fin 2816) : ext d n l = 0 := by
  unfold ext; rw [dif_neg (by omega)]

/-- The tile with its carried rows: at the first point of a column tile. -/
theorem v_A (c : Dev nD) (t : Fin cfg0.N) (h : t.val % 8 = 0) (r : Fin 520) (l : Fin 1408) :
    k0_pay13 (F := Ideal) (iblk m c 0 t) (iblk m c 1 t) (iblk m c 4 t) (iblk m c 3 t) (k0_pay2 (F := Ideal)) (ix2 r l)
      = ext (D m c) ((7 - t.val % 8) * 512 + r.val) (col t l) := by
  rw [pay13]
  by_cases hr : r.val < 512
  · rw [dif_pos hr, d_eq]; exact (ext_lt _ (row t ⟨r.val, hr⟩) _ rfl _).symm
  · rw [dif_neg hr, pay2, ext_ge _ _ (by omega)]

/-- At a later point. -/
theorem v_B (c : Dev nD) (t : Fin cfg0.N) (h : ¬t.val % 8 = 0) (hp : t.val - 1 < cfg0.N) (r : Fin 520) (l : Fin 1408) :
    k0_pay13 (F := Ideal) (iblk m c 0 t) (iblk m c 1 t) (iblk m c 4 t) (iblk m c 3 t) (outsAt0 m c (t.val - 1) hp).2.2.2.2 (ix2 r l)
      = ext (D m c) ((7 - t.val % 8) * 512 + r.val) (col t l) := by
  rw [pay13]
  by_cases hr : r.val < 512
  · rw [dif_pos hr, d_eq]; exact (ext_lt _ (row t ⟨r.val, hr⟩) _ rfl _).symm
  · have hc := carry_eq m c ⟨t.val - 1, hp⟩ ⟨r.val - 512, by omega⟩ l
    have hcol : col ⟨t.val - 1, hp⟩ l = col t l := by
      apply Fin.ext; show (t.val - 1) / 8 * 1408 + l.val = t.val / 8 * 1408 + l.val
      have : (t.val - 1) / 8 = t.val / 8 := by omega
      rw [this]
    rw [dif_neg hr]
    refine hc.trans ?_
    rw [hcol, ext_lt _ (row ⟨t.val - 1, hp⟩ ⟨r.val - 512, by omega⟩)]
    show (7 - t.val % 8) * 512 + r.val = (7 - (t.val - 1) % 8) * 512 + (r.val - 512)
    omega

/-- The taps over the kernel's memory. -/
abbrev W (c : Dev nD) : S3x2816.Idx → EReal := m ((c : Thread nD τ).loc main_arg4)

/-- The convolution's input over the kernel's memory. -/
abbrev GP (c : Dev nD) : S4096x2816.Idx → EReal := m ((c : Thread nD τ).loc main_arg2)

theorem run_lt (t : Fin cfg0.N) (s : Fin 8) : 8 * (t.val / 8) + s.val < cfg0.N := by
  have := lt16 t
  exact lt_of_lt_of_eq (by omega) N_0.symm

theorem out6 (c : Dev nD) (t : Fin cfg0.N) (r : Fin 512) (l : Fin 1408) :
    (outsAt0 m c t.val t.isLt).1 (ix2 r l) = gradGp (W m c) (D m c) (ix2 (row t r) (col t l)) := by
  have key : ∀ (d : FVec Ideal S512x1408 .f32) (v : FVec Ideal S520x1408 .f32),
      (∀ r l, d (ix2 r l) = D m c (row t r) (col t l)) →
      (∀ r l, v (ix2 r l) = ext (D m c) ((7 - t.val % 8) * 512 + r.val) (col t l)) →
      k0_pay16 (F := Ideal) (k0_pay5 (iblk m c 5 t)) d v (ix2 r l) = gradGp (W m c) (D m c) (ix2 (row t r) (col t l)) := by
    intro d v hd hv
    rw [pay16, hd, hv, hv, blk5, blk5, blk5]
    have e0 := taps m c 0 (col t l)
    have e1 := taps m c 1 (col t l)
    have e2 := taps m c 2 (col t l)
    unfold gradGp W
    exact congrArg₂ (· + ·) (congrArg₂ (· + ·) (congrArg (· * _) e2) (congrArg (· * _) e1)) (congrArg (· * _) e0)
  by_cases h : t.val % 8 = 0
  · rw [outsAt0_A m c t h]; frame_out
    exact key _ _ (d_eq m c t) (v_A m c t h)
  · rw [outsAt0_B m c t h]; frame_out
    simp only [read_unread_whole]
    exact key _ _ (d_eq m c t) (v_B m c t h _)

theorem out7 (c : Dev nD) (t : Fin cfg0.N) (r : Fin 512) (l : Fin 1408) :
    (outsAt0 m c t.val t.isLt).2.1 (ix2 r l) = gradUp (m ((c : Thread nD τ).loc main_arg0)) (m ((c : Thread nD τ).loc main_arg1))
      (V m c main_v26) (ix2 (row t r) (col t l)) := by
  have key : k0_pay11 (F := Ideal) (iblk m c 0 t) (iblk m c 1 t) (iblk m c 4 t) (ix2 r l) = _ := pay11 _ _ _ r l
  simp only [blk0, blk1, blk4] at key
  by_cases h : t.val % 8 = 0
  · rw [outsAt0_A m c t h]; frame_out; exact key
  · rw [outsAt0_B m c t h]; frame_out; exact key

/-- The sum of the rows' contributions over the eight row tiles, walked from the last to the first, is the sum over all rows. -/
theorem sum_tiles (f : Fin 4096 → EReal) (t : Fin cfg0.N) :
    ∑ s : Fin 8, ∑ x : Fin 512, f (row ⟨8 * (t.val / 8) + s.val, run_lt t s⟩ x) = ∑ r : Fin 4096, f r := by
  rw [← Fin.sum_mul_add_fin 8 512 f, ← Equiv.sum_comp Fin.revPerm]
  refine Finset.sum_congr rfl fun s _ => Finset.sum_congr rfl fun x _ => ?_
  congr 1; apply Fin.ext
  show (7 - (8 * (t.val / 8) + (Fin.rev s).val) % 8) * 512 + x.val = s.val * 512 + x.val
  rw [Fin.val_rev]; omega

/-- What a point adds to the taps' gradient. -/
def termW (c : Dev nD) (t : Fin cfg0.N) (j : S8x1408.Idx) : EReal :=
  if (j 0).val = 0 then ∑ x : Fin 512, GP m c (ix2 (row t x) (col t (j 1))) * ext (D m c) ((row t x).val + 2) (col t (j 1))
  else if (j 0).val = 1 then ∑ x : Fin 512, GP m c (ix2 (row t x) (col t (j 1))) * ext (D m c) ((row t x).val + 1) (col t (j 1))
  else if (j 0).val = 2 then ∑ x : Fin 512, GP m c (ix2 (row t x) (col t (j 1))) * D m c (row t x) (col t (j 1))
  else 0

theorem key8 (c : Dev nD) (t : Fin cfg0.N) (acc : Vec Ideal S8x1408 .f32) (v : FVec Ideal S520x1408 .f32)
    (hv : ∀ r l, v (ix2 r l) = ext (D m c) ((7 - t.val % 8) * 512 + r.val) (col t l)) (j : S8x1408.Idx) :
    k0_pay17 (F := Ideal) (k0_pay7 (iblk m c 2 t)) (k0_pay12 (iblk m c 0 t) (iblk m c 1 t) (iblk m c 4 t) (iblk m c 3 t)) v acc j
      = acc j + termW m c t j := by
  idx_vars j
  rw [pay17]
  simp only [hv, d_eq, blk2]
  rfl

theorem out8 (c : Dev nD) (t : Fin cfg0.N) (ht : t.val % 8 = 7) (j : S8x1408.Idx) :
    (outsAt0 m c t.val t.isLt).2.2.1 j = gradW (GP m c) (D m c) (ix2 (j 0) (col t (j 1))) := by
  have hcol : ∀ s : Fin 8, col ⟨8 * (t.val / 8) + s.val, run_lt t s⟩ (j 1) = col t (j 1) := fun s => by
    apply Fin.ext; show (8 * (t.val / 8) + s.val) / 8 * 1408 + (j 1).val = t.val / 8 * 1408 + (j 1).val
    have : (8 * (t.val / 8) + s.val) / 8 = t.val / 8 := by omega
    rw [this]
  have := Pipeline.eq_sum_fin_of_reset_step_apply_of_flush (fun n h => (outsAt0 m c n h).2.2.1) 8 (fun _ => 0) (termW m c)
      (fun t h j => by rw [outsAt0_A m c t h]; frame_out; rw [key8 m c t _ _ (v_A m c t h), pay3])
      (fun t h j => by
        rw [outsAt0_B m c t h]; frame_out; simp only [read_unread_whole]
        rw [key8 m c t _ _ (v_B m c t h _)])
      t ht j
  refine this.trans ?_
  rw [zero_add]
  unfold termW
  simp only [hcol]
  by_cases h0 : (j 0).val = 0
  · simp only [if_pos h0]
    exact (sum_tiles (fun r => GP m c (ix2 r (col t (j 1))) * ext (D m c) (r.val + 2) (col t (j 1))) t).trans (if_pos h0).symm
  by_cases h1 : (j 0).val = 1
  · simp only [if_neg h0, if_pos h1]
    exact (sum_tiles (fun r => GP m c (ix2 r (col t (j 1))) * ext (D m c) (r.val + 1) (col t (j 1))) t).trans
      ((if_neg h0).trans (if_pos h1)).symm
  by_cases h2 : (j 0).val = 2
  · simp only [if_neg h0, if_neg h1, if_pos h2]
    exact (sum_tiles (fun r => GP m c (ix2 r (col t (j 1))) * D m c r (col t (j 1))) t).trans
      ((if_neg h0).trans ((if_neg h1).trans (if_pos h2))).symm
  · simp only [if_neg h0, if_neg h1, if_neg h2]
    exact Finset.sum_const_zero.trans ((if_neg h0).trans ((if_neg h1).trans (if_neg h2))).symm

theorem out9 (c : Dev nD) (t : Fin cfg0.N) (ht : t.val % 8 = 7) (j : S1x1408.Idx) :
    (outsAt0 m c t.val t.isLt).2.2.2.1 j = gradB (D m c) (ix2 0 (col t (j 1))) := by
  have hcol : ∀ s : Fin 8, col ⟨8 * (t.val / 8) + s.val, run_lt t s⟩ (j 1) = col t (j 1) := fun s => by
    apply Fin.ext; show (8 * (t.val / 8) + s.val) / 8 * 1408 + (j 1).val = t.val / 8 * 1408 + (j 1).val
    have : (8 * (t.val / 8) + s.val) / 8 = t.val / 8 := by omega
    rw [this]
  have key : ∀ (t : Fin cfg0.N) (acc : Vec Ideal S1x1408 .f32) (j : S1x1408.Idx),
      k0_pay18 (F := Ideal) (k0_pay12 (iblk m c 0 t) (iblk m c 1 t) (iblk m c 4 t) (iblk m c 3 t)) acc j
        = acc j + ∑ x : Fin 512, D m c (row t x) (col t (j 1)) := fun t acc j => by
    idx_vars j
    rw [pay18]
    simp only [d_eq]
  have := Pipeline.eq_sum_fin_of_reset_step_apply_of_flush (fun n h => (outsAt0 m c n h).2.2.2.1) 8 (fun _ => 0)
      (fun t j => ∑ x : Fin 512, D m c (row t x) (col t (j 1)))
      (fun t h j => by rw [outsAt0_A m c t h]; frame_out; rw [key, pay4])
      (fun t h j => by rw [outsAt0_B m c t h]; frame_out; rw [key])
      t ht j
  refine this.trans ?_
  rw [zero_add]
  simp only [hcol]
  exact sum_tiles (fun r => D m c r (col t (j 1))) t

theorem arr6 (c : Dev nD) : (dats m 0 c).arrAt 6 cfg0.N = gradGp (W m c) (D m c) :=
  (dats m 0 c).arrAt_eq_of_covers 6 _ (by decide +kernel) fun t hf y => by
    blk_simp
    rw [after0_6]
    refine (congrArg _ (eq_ix2 (n0 := 512) (n1 := 1408) y)).trans ((out6 m c t (y 0) (y 1)).trans (congrArg _ ?_))
    blk_ext [(idx t).2.2.2.2.2.2.1, row, col]

theorem arr7 (c : Dev nD) : (dats m 0 c).arrAt 7 cfg0.N = gradUp (m ((c : Thread nD τ).loc main_arg0))
    (m ((c : Thread nD τ).loc main_arg1)) (V m c main_v26) :=
  (dats m 0 c).arrAt_eq_of_covers 7 _ (by decide +kernel) fun t hf y => by
    blk_simp
    rw [after0_7]
    refine (congrArg _ (eq_ix2 (n0 := 512) (n1 := 1408) y)).trans ((out7 m c t (y 0) (y 1)).trans (congrArg _ ?_))
    blk_ext [(idx t).2.2.2.2.2.2.2.1, row, col]

theorem arr8 (c : Dev nD) : (dats m 0 c).arrAt 8 cfg0.N = gradW (GP m c) (D m c) :=
  (dats m 0 c).arrAt_eq_of_covers 8 _ (by decide +kernel) fun t hf y => by
    have ht := (flush0_8 t).mp hf
    blk_simp
    rw [after0_8]
    refine (out8 m c t ht y).trans (congrArg _ ?_)
    blk_ext [(idx t).2.2.2.2.2.2.2.2.1, col]

theorem arr9 (c : Dev nD) : (dats m 0 c).arrAt 9 cfg0.N = gradB (D m c) :=
  (dats m 0 c).arrAt_eq_of_covers 9 _ (by decide +kernel) fun t hf y => by
    have ht := (flush0_9 t).mp hf
    blk_simp
    rw [after0_9]
    refine (out9 m c t ht y).trans (congrArg _ ?_)
    blk_ext [(idx t).2.2.2.2.2.2.2.2.2, col]

end Cert.FfnIdeal.Hand

end
-- ==== Proof.RealNum.lean ====
/-
  Extended reals that are real numbers, and the derivative of silu at any extended real.
-/
module

public import Idealize.ShloMosaic.PureOps.Ideal
public import Idealize.ShloMosaic.Lib.Pointwise

@[expose] public section

noncomputable section

namespace Cert.RealNum

open Idealize.ShloMosaic

/-- The extended real is a real number. -/
def IsReal (x : EReal) : Prop := ∃ y : ℝ, x = (y : EReal)

theorem IsReal.coe (y : ℝ) : IsReal (y : EReal) := ⟨y, rfl⟩
theorem IsReal.zero : IsReal 0 := ⟨0, rfl⟩
theorem IsReal.one : IsReal 1 := ⟨1, rfl⟩

theorem IsReal.add {a b : EReal} (ha : IsReal a) (hb : IsReal b) : IsReal (a + b) := by
  obtain ⟨x, rfl⟩ := ha; obtain ⟨y, rfl⟩ := hb; exact ⟨x + y, (EReal.coe_add x y).symm⟩

theorem IsReal.mul {a b : EReal} (ha : IsReal a) (hb : IsReal b) : IsReal (a * b) := by
  obtain ⟨x, rfl⟩ := ha; obtain ⟨y, rfl⟩ := hb; exact ⟨x * y, (EReal.coe_mul x y).symm⟩

theorem IsReal.sub {a b : EReal} (ha : IsReal a) (hb : IsReal b) : IsReal (a - b) := by
  obtain ⟨x, rfl⟩ := ha; obtain ⟨y, rfl⟩ := hb; exact ⟨x - y, (EReal.coe_sub x y).symm⟩

theorem IsReal.sum {ι : Type*} (s : Finset ι) {f : ι → EReal} (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

/-- An absolute value below infinity is a real number's. -/
theorem IsReal.of_abs_lt {x : EReal} (h : max x (-x) < ⊤) : IsReal x := by
  induction x using EReal.rec with
  | bot => simp at h
  | top => simp at h
  | coe y => exact ⟨y, rfl⟩

/-- The logistic function at a real number. -/
theorem logistic_coe (x : ℝ) : Ideal.div 1 (1 + Ideal.exp (-(x : EReal))) = ((1 / (1 + Real.exp (-x)) : ℝ) : EReal) := by
  have h : (1 + Real.exp (-x)) ≠ 0 := by positivity
  rw [← EReal.coe_neg, Ideal.exp_coe, ← EReal.coe_one, ← EReal.coe_add, Ideal.div_coe h, ← EReal.coe_mul, one_mul]

/-- Silu's derivative written in two ways, times a real number. -/
theorem silu_deriv {c : EReal} (hc : IsReal c) (g : EReal) (s : EReal) (hs : s = Ideal.div 1 (1 + Ideal.exp (-g))) :
    c * (s + g * s * (1 - s)) = c * s + g * c * (s * (1 - s)) := by
  obtain ⟨c, rfl⟩ := hc
  induction g using EReal.rec with
  | bot =>
    have : s = 0 := by
      have h1 : (1 : EReal) + ⊤ = ⊤ := rfl
      rw [hs]; simp [Ideal.div, h1]
    simp [this]
  | top =>
    have : s = 1 := by
      rw [hs]; simp [Ideal.div]
    have h1 : (1 : EReal) - 1 = 0 := by rw [← EReal.coe_one, ← EReal.coe_sub, sub_self, EReal.coe_zero]
    rw [this, h1]; simp
  | coe g =>
    rw [logistic_coe] at hs
    generalize (1 / (1 + Real.exp (-g)) : ℝ) = q at hs
    subst hs
    rw [← EReal.coe_one]
    simp only [← EReal.coe_sub, ← EReal.coe_mul, ← EReal.coe_add]
    congr 1; ring

end Cert.RealNum

end
-- ==== Proof.FfnRef.lean ====
/-
  The reference's four results as the same closed forms.
-/
module

public import proofs.«01_k».proof.Proof.FfnMath
public import proofs.«01_k».proof.Proof.RealNum
public import proofs.«01_k».proof.Proof.Gen.FfnRefIdeal.Run
public import proofs.«01_k».proof.Proof.Gen.FfnRefIdeal.Read
public import Idealize.ShloMosaic.Lib.KernelVsHost

@[expose] public section

set_option maxRecDepth 16384

noncomputable section

namespace Cert.FfnRefIdeal.Hand

open Cert.FfnRefIdeal Cert.FfnRefIdeal.Gen Cert.FfnRefIdeal.Read Cert.FfnIdeal.Hand Cert.RealNum
open Idealize.ShloMosaic Idealize.ShloMosaic.TcCoe Idealize.SL.Sem

variable (x0 : S4096x1024.Idx → EReal) (x1 : S2816x1024.Idx → EReal) (x2 x3 : S4096x2816.Idx → EReal)
  (x4 : S3x2816.Idx → EReal) (x5 : S1x2816.Idx → EReal)

/-- The convolution's terms, a delayed row taken from a sequence with two zero rows in front. -/
theorem gateOf_rows (i0 : Fin 4096) (i1 : Fin 2816) : gateOf x2 x4 x5 (ix2 i0 i1)
    = (if h : i0.val < 2 then 0 else x2 (ix2 ⟨i0.val - 2, by omega⟩ i1)) * x4 (ix2 0 i1)
      + (if h : 1 + i0.val < 2 then 0 else x2 (ix2 ⟨1 + i0.val - 2, by omega⟩ i1)) * x4 (ix2 1 i1)
      + x2 (ix2 i0 i1) * x4 (ix2 2 i1) + x5 (ix2 0 i1) := by
  have e : back x2 1 i0 i1 = if h : 1 + i0.val < 2 then 0 else x2 (ix2 ⟨1 + i0.val - 2, by omega⟩ i1) := by
    unfold back
    by_cases h : i0.val < 1
    · rw [dif_pos h, dif_pos (by omega)]
    · rw [dif_neg h, dif_neg (by omega)]
      congr 2; apply Fin.ext; show i0.val - 1 = 1 + i0.val - 2; omega
  rw [← e]
  rfl

theorem gate_eq : val_main_v29 (F := Ideal) x2 x4 x5 = gateOf x2 x4 x5 := by
  funext i
  idx_vars i
  rw [gateOf_rows]
  pointwise [val_main_v29, val_main_v28, val_main_v27, val_main_v26, val_main_v25, val_main_v24, val_main_v23, val_main_v22,
    val_main_v21, val_main_v20, val_main_v19, val_main_v18, val_main_v17, val_main_v16, val_main_v15, val_main_v14, val_main_v13,
    val_main_v12, val_main_v11, val_main_v10, val_main_v9, val_main_v8, val_main_v7, val_main_v6, val_main_v5, val_main_v4,
    val_main_v3, val_main_v0, val_main_cst]

/-- The gate's gradient, where the product's gradient and `up` are real numbers. -/
theorem d_eq (h0 : ∀ i, IsReal (x0 i)) (h1 : ∀ i, IsReal (x1 i)) (h3 : ∀ i, IsReal (x3 i)) (r : Fin 4096) (l : Fin 2816) :
    val_main_v37 (F := Ideal) x0 x1 x2 x3 x4 x5 (ix2 r l) = dgate x0 x1 x3 (gateOf x2 x4 x5) r l := by
  pointwise [val_main_v37, val_main_call1_v2, val_main_call1_v1, val_main_call1_v0, val_main_v36, val_main_v34, val_main_v33,
    val_main_v30_1, val_main_v30_2, val_main_call0_v7, val_main_call0_v6, val_main_call0_cst_1, val_main_call0_v4,
    val_main_call0_cst_0, val_main_call0_v3, val_main_call0_v2, val_main_call0_cst, val_main_call0_v1, val_main_call0_v0,
    val_main_v1, val_main_v2]
  rw [gate_eq]
  have hc : IsReal (dact x0 x1 r l * x3 (ix2 r l)) :=
    (IsReal.sum _ fun k _ => (h0 _).mul (h1 _)).mul (h3 _)
  unfold dgate
  rw [silu_deriv hc _ _ (by unfold sg; rw [zero_sub])]
  unfold sg
  rw [zero_sub]
  rfl

theorem dup_eq (i : S4096x2816.Idx) :
    val_main_v76 (F := Ideal) x0 x1 x2 x4 x5 i = gradUp x0 x1 (gateOf x2 x4 x5) i := by
  idx_vars i
  pointwise [val_main_v76, val_main_v35, val_main_v34, val_main_v33,
    val_main_v30_0, val_main_v30_2, val_main_call0_v4,
    val_main_call0_cst_0, val_main_call0_v3, val_main_call0_v2, val_main_call0_cst, val_main_call0_v1, val_main_call0_v0,
    val_main_v2]
  rw [gate_eq]
  unfold gradUp sg
  rw [zero_sub, mul_comm]
  rfl

variable (d : Fin 4096 → Fin 2816 → EReal) (hd : ∀ r l, val_main_v37 (F := Ideal) x0 x1 x2 x3 x4 x5 (ix2 r l) = d r l)

include hd in
theorem dgp_eq (i : S4096x2816.Idx) : val_main_v75 (F := Ideal) x0 x1 x2 x3 x4 x5 i = gradGp x4 d i := by
  idx_vars i
  pointwise [val_main_v75, val_main_v74, val_main_v72, val_main_v71, val_main_v61, val_main_v60, val_main_v50, val_main_v46,
    val_main_v55, val_main_v66, val_main_v45, val_main_v54, val_main_v65, val_main_v22, val_main_v21, val_main_v20, val_main_v15,
    val_main_v14, val_main_v13, val_main_v9, val_main_v8, val_main_v7, val_main_cst_6, val_main_cst_10, val_main_cst_14]
  simp only [hd]
  show _ = x4 (ix2 2 i1) * d i0 i1 + x4 (ix2 1 i1) * ext d (i0.val + 1) i1 + x4 (ix2 0 i1) * ext d (i0.val + 2) i1
  unfold ext
  congr 1
  · congr 1
    · exact mul_comm _ _
    · by_cases h : i0.val + 1 < 4096
      · rw [dif_pos (by omega), dif_pos h, mul_comm]
        congr 2; apply Fin.ext; show 2 + i0.val - 1 = i0.val + 1; omega
      · rw [dif_neg (by omega), dif_neg h, mul_zero]
  · by_cases h : i0.val + 2 < 4096
    · rw [dif_pos (by omega), dif_pos h, mul_comm]
      congr 2; apply Fin.ext; show 2 + i0.val = i0.val + 2; omega
    · rw [dif_neg (by omega), dif_neg h, mul_zero]

/-- A sum over the rows of a delayed row times the gate's gradient is the sum of the row times the gradient further on. -/
theorem sum_back (k : ℕ) (l : Fin 2816) (gp : S4096x2816.Idx → EReal) :
    ∑ r : Fin 4096, back gp k r l * d r l = ∑ r : Fin 4096, gp (ix2 r l) * ext d (r.val + k) l := by
  let f : ℕ → EReal := fun n => if h : n < 4096 then gp (ix2 ⟨n, h⟩ l) else 0
  have e1 : ∀ r : Fin 4096, back gp k r l * d r l = (fun n : ℕ => if n < k then 0 else f (n - k) * ext d n l) r.val := fun r => by
    show _ = if r.val < k then 0 else f (r.val - k) * ext d r.val l
    have hr := r.isLt
    unfold back
    by_cases h : r.val < k
    · rw [dif_pos h, if_pos h, zero_mul]
    · rw [dif_neg h, if_neg h]; unfold ext; rw [dif_pos hr]
      show _ = (if h : r.val - k < 4096 then gp (ix2 ⟨r.val - k, h⟩ l) else 0) * _
      rw [dif_pos (by omega)]
  have e2 : ∀ r : Fin 4096, gp (ix2 r l) * ext d (r.val + k) l = (fun n : ℕ => f n * ext d (n + k) l) r.val := fun r => by
    show _ = (if h : r.val < 4096 then gp (ix2 ⟨r.val, h⟩ l) else 0) * _
    rw [dif_pos r.isLt]
  rw [Finset.sum_congr rfl fun r _ => e1 r, Finset.sum_congr rfl fun r _ => e2 r,
    Fin.sum_univ_eq_sum_range (fun n : ℕ => if n < k then 0 else f (n - k) * ext d n l) 4096,
    Fin.sum_univ_eq_sum_range (fun n : ℕ => f n * ext d (n + k) l) 4096]
  have hz : ∀ n, 4096 ≤ n → ext d n l = 0 := fun n h => by unfold ext; rw [dif_neg (by omega)]
  have a1 : ∑ n ∈ Finset.range (4096 + k), (if n < k then 0 else f (n - k) * ext d n l)
      = ∑ n ∈ Finset.range 4096, (if n < k then 0 else f (n - k) * ext d n l) := by
    rw [Finset.sum_range_add]
    conv_rhs => rw [← add_zero (∑ n ∈ Finset.range 4096, _)]
    congr 1
    refine Finset.sum_eq_zero fun n _ => ?_
    rw [hz _ (by omega), mul_zero, ite_self]
  rw [← a1, add_comm 4096 k, Finset.sum_range_add]
  have a2 : ∑ n ∈ Finset.range k, (if n < k then 0 else f (n - k) * ext d n l) = 0 :=
    Finset.sum_eq_zero fun n hn => if_pos (Finset.mem_range.1 hn)
  rw [a2, zero_add]
  refine Finset.sum_congr rfl fun n _ => ?_
  rw [if_neg (by omega), Nat.add_sub_cancel_left, add_comm k n]

include hd in
theorem db_eq (i : S1x2816.Idx) : val_main_v41 (F := Ideal) x0 x1 x2 x3 x4 x5 i = gradB d i := by
  idx_vars i
  pointwise [val_main_v41, val_main_v40, val_main_v39, val_main_v38, val_main_cst_1, val_main_cst_2]
  simp only [hd]
  exact Fin.sum_univ_one _

theorem z0 (r : Fin 4096) (l : Fin 2816) : val_main_v6 (F := Ideal) x2 (ix2 r l) = back x2 2 r l := by
  pointwise [val_main_v6, val_main_v4, val_main_v3, val_main_v0, val_main_cst]
  rfl

theorem z1 (r : Fin 4096) (l : Fin 2816) : val_main_v12 (F := Ideal) x2 (ix2 r l) = back x2 1 r l := by
  pointwise [val_main_v12, val_main_v4, val_main_v3, val_main_v0, val_main_cst]
  unfold back
  by_cases h : r.val < 1
  · rw [dif_pos h, dif_pos (by omega)]
  · rw [dif_neg h, dif_neg (by omega)]
    congr 2; apply Fin.ext; show 1 + r.val - 2 = r.val - 1; omega

theorem z2 (r : Fin 4096) (l : Fin 2816) : val_main_v19 (F := Ideal) x2 (ix2 r l) = x2 (ix2 r l) := by
  pointwise [val_main_v19, val_main_v4, val_main_v3, val_main_v0, val_main_cst]

include hd in
theorem tap0 (r : Fin 1) (l : Fin 2816) :
    val_main_v64 (F := Ideal) x0 x1 x2 x3 x4 x5 (ix2 r l) = ∑ r : Fin 4096, x2 (ix2 r l) * ext d (r.val + 2) l := by
  rw [← sum_back d 2 l x2]
  pointwise [val_main_v64, val_main_v63, val_main_v62, val_main_cst_11]
  exact Finset.sum_congr rfl fun r _ => congrArg₂ (· * ·) (z0 x2 r l) (hd r l)

include hd in
theorem tap1 (r : Fin 1) (l : Fin 2816) :
    val_main_v53 (F := Ideal) x0 x1 x2 x3 x4 x5 (ix2 r l) = ∑ r : Fin 4096, x2 (ix2 r l) * ext d (r.val + 1) l := by
  rw [← sum_back d 1 l x2]
  pointwise [val_main_v53, val_main_v52, val_main_v51, val_main_cst_7]
  exact Finset.sum_congr rfl fun r _ => congrArg₂ (· * ·) (z1 x2 r l) (hd r l)

include hd in
theorem tap2 (r : Fin 1) (l : Fin 2816) :
    val_main_v44 (F := Ideal) x0 x1 x2 x3 x4 x5 (ix2 r l) = ∑ r : Fin 4096, x2 (ix2 r l) * d r l := by
  pointwise [val_main_v44, val_main_v43, val_main_v42, val_main_cst_3]
  exact Finset.sum_congr rfl fun r _ => congrArg₂ (· * ·) (z2 x2 r l) (hd r l)

include hd in
theorem dw_eq (i : S8x2816.Idx) : val_main_v78 (F := Ideal) x0 x1 x2 x3 x4 x5 i = gradW x2 d i := by
  idx_vars i
  pointwise [val_main_v78, val_main_v77, val_main_v70, val_main_v69, val_main_v68, val_main_v67, val_main_v59, val_main_v58,
    val_main_v57, val_main_v56, val_main_v49, val_main_v48, val_main_v47, val_main_cst_2, val_main_cst_4, val_main_cst_5,
    val_main_cst_8, val_main_cst_9, val_main_cst_12, val_main_cst_13, val_main_cst_15]
  simp only [tap0 x0 x1 x2 x3 x4 x5 d hd, tap1 x0 x1 x2 x3 x4 x5 d hd, tap2 x0 x1 x2 x3 x4 x5 d hd, Fin.sum_univ_one]
  unfold gradW
  show _ = if i0.val = 0 then ∑ r : Fin 4096, x2 (ix2 r i1) * ext d (r.val + 2) i1
    else if i0.val = 1 then ∑ r : Fin 4096, x2 (ix2 r i1) * ext d (r.val + 1) i1
    else if i0.val = 2 then ∑ r : Fin 4096, x2 (ix2 r i1) * d r i1 else 0
  by_cases h0 : i0.val = 0
  · rw [dif_pos (by omega), dif_neg (by omega), dif_neg (by omega), dif_pos (by omega), if_pos h0, zero_add, zero_add]
  by_cases h1 : i0.val = 1
  · rw [dif_pos (by omega), dif_neg (by omega), dif_pos (by omega), dif_neg (by omega), if_neg h0, if_pos h1, zero_add,
      add_zero]
  by_cases h2 : i0.val = 2
  · rw [dif_pos (by omega), dif_pos (by omega), dif_neg (by omega), dif_neg (by omega), if_neg h0, if_neg h1, if_pos h2,
      add_zero, add_zero]
  · rw [dif_neg (by omega), if_neg h0, if_neg h1, if_neg h2]

end Cert.FfnRefIdeal.Hand

end
-- ==== Proof.FfnTie.lean ====
/-
  The feed-forward gradient kernel and its reference leave the same four arrays.
-/
module

public import proofs.«01_k».proof.Defs
public import proofs.«01_k».proof.Proof.FfnValue
public import proofs.«01_k».proof.Proof.FfnRef
public import proofs.«01_k».proof.Proof.Gen.Pre_finite
public import Idealize.ShloMosaic.Lib.Pipeline.ValueKit
public import Idealize.ShloMosaic.Lib.Pointwise
public import Idealize.ShloMosaic.Lib.Claim

@[expose] public section

set_option maxRecDepth 16384

noncomputable section

namespace Cert.FfnIdeal.Hand

open Cert.FfnIdeal Cert.FfnIdeal.Gen Cert.RealNum
open Idealize.ShloMosaic Idealize.ShloMosaic.TcCoe Idealize.SL.Sem

variable (m : (ℓ : Loc nD τ sig) → Buf (Elt Ideal) ℓ)

/-- The gate the kernel is given is the convolution of the saved projection. -/
theorem gate_host (c : Dev nD) : V m c main_v26 = gateOf (m ((c : Thread nD τ).loc main_arg2)) (m ((c : Thread nD τ).loc main_arg4))
    (m ((c : Thread nD τ).loc main_arg5)) := by
  funext i
  idx_vars i
  entry_read
  refine Eq.trans ?_ (Cert.FfnRefIdeal.Hand.gateOf_rows _ _ _ i0 i1).symm
  pointwise

/-- The precondition says that three of the arguments hold real numbers. -/
theorem pre_real (c : Dev nD) (h : Cert.Pre_FfnIdeal_finite m) :
    (∀ i, IsReal (m ((c : Thread nD τ).loc main_arg0) i)) ∧ (∀ i, IsReal (m ((c : Thread nD τ).loc main_arg1) i))
      ∧ ∀ i, IsReal (m ((c : Thread nD τ).loc main_arg3) i) := by
  have h := h c
  refine ⟨fun i => ?_, fun i => ?_, fun i => ?_⟩
  · have e := congrFun h.1 i
    exact IsReal.of_abs_lt ((Ideal.cmp_olt_eq_one _ _).1 e)
  · have e := congrFun h.2.1 i
    exact IsReal.of_abs_lt ((Ideal.cmp_olt_eq_one _ _).1 e)
  · have e := congrFun h.2.2 i
    exact IsReal.of_abs_lt ((Ideal.cmp_olt_eq_one _ _).1 e)

theorem algebraic : Cert.algebraic_FfnIdeal_FfnRefIdeal_pre_finite := by
  intro m g m' g' hp hm
  refine ⟨fun c => gradGp (W m c) (D m c),
    fun c => gradUp (m ((c : Thread nD τ).loc main_arg0)) (m ((c : Thread nD τ).loc main_arg1)) (V m c main_v26),
    fun c => gradW (GP m c) (D m c), fun c => gradB (D m c), ?_, ?_⟩
  · exact (θ_run defs _ _).mono (fun r h c => ⟨(h c).1.trans (arr6 m c), (h c).2.1.trans (arr7 m c),
      (h c).2.2.1.trans (arr8 m c), (h c).2.2.2.1.trans (arr9 m c), (h c).2.2.2.2⟩) (Cert.FfnIdeal.Value.run_blocks m g)
  · refine (θ_run Cert.FfnRefIdeal.defs _ _).mono (fun r h c => ?_) (Cert.FfnRefIdeal.Value.run m' g')
    obtain ⟨a0, a1, a2, a3, a4, a5⟩ := hm c
    obtain ⟨p0, p1, p3⟩ := pre_real m c hp
    have hd := Cert.FfnRefIdeal.Hand.d_eq (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) p0 p1 p3
    rw [← gate_host m c] at hd
    refine ⟨(h c).1.trans ?_, (h c).2.1.trans ?_, (h c).2.2.1.trans ?_, (h c).2.2.2.1.trans ?_, (h c).2.2.2.2⟩
    · rw [Cert.FfnRefIdeal.Read.val_main_v75_eq, a0, a1, a2, a3, a4, a5]
      exact funext fun i => Cert.FfnRefIdeal.Hand.dgp_eq _ _ _ _ _ _ _ hd i
    · rw [Cert.FfnRefIdeal.Read.val_main_v76_eq, a0, a1, a2, a4, a5]
      show _ = gradUp _ _ (V m c main_v26)
      rw [gate_host m c]
      exact funext fun i => Cert.FfnRefIdeal.Hand.dup_eq _ _ _ _ _ i
    · rw [Cert.FfnRefIdeal.Read.val_main_v78_eq, a0, a1, a2, a3, a4, a5]
      exact funext fun i => Cert.FfnRefIdeal.Hand.dw_eq _ _ _ _ _ _ _ hd i
    · rw [Cert.FfnRefIdeal.Read.val_main_v41_eq, a0, a1, a2, a3, a4, a5]
      exact funext fun i => Cert.FfnRefIdeal.Hand.db_eq _ _ _ _ _ _ _ hd i

/-- The reference is a straight-line host program without semaphores. -/
theorem frame_ref : Cert.quiescent_FfnRefIdeal := fun m ρ _ =>
  (θ_run Cert.FfnRefIdeal.defs _ _).mono (fun r h => ⟨fun c => (h c).2.2.2.2, sem_eq_zero_of_no_sems (by decide) r.2⟩)
    (Cert.FfnRefIdeal.Value.run m ρ)

end Cert.FfnIdeal.Hand

end
-- ==== Proof.RmsMath.lean ====
/-
  The derivative of dividing a row by its root mean square, over the reals.
-/
module

public import proofs.«01_k».proof.Proof.RealNum
public import Idealize.ShloMosaic.PureOps.Ideal
public import Idealize.ShloMosaic.Lib.Pointwise

@[expose] public section

set_option maxRecDepth 16384

noncomputable section

namespace Cert.Rms

open Cert.RealNum
open Idealize.ShloMosaic

/-- A row of an array with 1024 columns. -/
def line {n : ℕ} (h : (⟨2, ![n, 1024]⟩ : Shape).Idx → EReal) (r : Fin n) : Fin 1024 → EReal := fun l => h (ix2 r l)

/-- The row's length, the small number added to its mean square, and minus one half. -/
abbrev len : EReal := Ideal.ofBits FTy.f32 1149239296#32
abbrev eps : EReal := Ideal.ofBits FTy.f32 897988541#32
abbrev negHalf : EReal := Ideal.ofBits FTy.f32 3204448256#32

theorem len_eq : len = ((1024 : ℝ) : EReal) := by
  simp [len, Ideal.ofBits, Ideal.ieee, -EReal.coe_mul]; norm_num
theorem negHalf_eq : negHalf = ((-1 / 2 : ℝ) : EReal) := by
  simp [negHalf, Ideal.ofBits, Ideal.ieee, -EReal.coe_mul]; norm_num
theorem eps_pos : ∃ e : ℝ, 0 < e ∧ eps = (e : EReal) := by
  refine ⟨8796093 / 2 ^ 43, by norm_num, ?_⟩
  simp [eps, Ideal.ofBits, Ideal.ieee, -EReal.coe_mul]; norm_num

/-- A row's mean square, with the small number. -/
def ms (h : Fin 1024 → EReal) : EReal := Ideal.div (∑ x, h x * h x) len + eps
/-- One over the root. -/
def inv (h : Fin 1024 → EReal) : EReal := Ideal.rsqrt (ms h)
/-- The row divided by its root mean square. -/
def hat (h : Fin 1024 → EReal) (l : Fin 1024) : EReal := h l * inv h
/-- The gradient with the mean of the incoming gradient's part along the row taken away. -/
def bwd (h w dy : Fin 1024 → EReal) (l : Fin 1024) : EReal :=
  inv h * (dy l * w l - hat h l * Ideal.div (∑ x, dy x * w x * hat h x) len)
/-- The gradient that reaches a square of the row through the root. -/
def tail (h w dy : Fin 1024 → EReal) : EReal :=
  Ideal.div ((∑ x, h x * (dy x * w x)) * (negHalf * Ideal.div (inv h) (ms h))) len

theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- At a row of reals the mean square is a positive real. -/
theorem ms_coe {h : Fin 1024 → ℝ} : ∃ s : ℝ, 0 < s ∧ ms (fun x => (h x : EReal)) = (s : EReal) := by
  obtain ⟨e, he, h0⟩ := eps_pos
  refine ⟨(∑ x, h x * h x) * (1 / 1024) + e, ?_, ?_⟩
  · have : 0 ≤ ∑ x, h x * h x := Finset.sum_nonneg fun x _ => mul_self_nonneg _
    positivity
  · rw [ms, h0, len_eq, Ideal.div_coe (by norm_num)]
    simp only [← EReal.coe_mul, coe_sum, ← EReal.coe_add]

theorem inv_real {h : Fin 1024 → EReal} (hh : ∀ x, IsReal (h x)) : IsReal (inv h) := by
  choose h' e using hh
  obtain rfl : h = fun x => (h' x : EReal) := funext e
  obtain ⟨s, hs, e⟩ := ms_coe (h := h')
  rw [inv, e, Ideal.rsqrt_coe, if_neg hs.not_gt, if_neg hs.ne']
  exact ⟨_, rfl⟩

/-- The derivative by the product and chain rules is the gradient less its mean part along the row. -/
theorem bwd_eq {h w dy : Fin 1024 → EReal} (hh : ∀ x, IsReal (h x)) (hw : ∀ x, IsReal (w x)) (hd : ∀ x, IsReal (dy x)) (l : Fin 1024) :
    dy l * w l * inv h + h l * tail h w dy + tail h w dy * h l = bwd h w dy l := by
  choose h' e1 using hh
  choose w' e2 using hw
  choose d' e3 using hd
  obtain rfl : h = fun x => (h' x : EReal) := funext e1
  obtain rfl : w = fun x => (w' x : EReal) := funext e2
  obtain rfl : dy = fun x => (d' x : EReal) := funext e3
  obtain ⟨s, hs, e⟩ := ms_coe (h := h')
  have hi : inv (fun x => (h' x : EReal)) = (((√s)⁻¹ : ℝ) : EReal) := by
    rw [inv, e, Ideal.rsqrt_coe, if_neg hs.not_gt, if_neg hs.ne']
  have hq : (√s)⁻¹ * (√s)⁻¹ = 1 / s := by
    rw [← mul_inv, Real.mul_self_sqrt hs.le, one_div]
  simp only [bwd, tail, hat, hi, e, len_eq, negHalf_eq]
  rw [Ideal.div_coe hs.ne', Ideal.div_coe (by norm_num : (1024 : ℝ) ≠ 0), Ideal.div_coe (by norm_num : (1024 : ℝ) ≠ 0)]
  simp only [← EReal.coe_mul, coe_sum, ← EReal.coe_add, ← EReal.coe_sub]
  congr 1
  generalize (√s)⁻¹ = q at hq
  have hS : ∑ x, d' x * w' x * (h' x * q) = (∑ x, h' x * (d' x * w' x)) * q := by
    rw [Finset.sum_mul]; exact Finset.sum_congr rfl fun x _ => by ring
  rw [hS, ← hq]
  ring

end Cert.Rms

end
-- ==== Proof.DownLossValue.lean ====
/-
  The down projection, the last normalisation, the loss and its gradient: the kernel's row tiles and its two accumulated results, and the reference's derivative.
-/
module

public import proofs.«01_k».proof.Defs
public import proofs.«01_k».proof.Proof.RmsMath
public import proofs.«01_k».proof.Proof.Gen.Pre_down_finite
public import proofs.«01_k».proof.Proof.Gen.DownLossIdeal.Value
public import proofs.«01_k».proof.Proof.Gen.DownLossRefIdeal.Run
public import proofs.«01_k».proof.Proof.Gen.DownLossRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.DownLossIdeal.Hand

open Cert.DownLossIdeal Cert.DownLossIdeal.Gen Cert.RealNum Cert.Rms
open Idealize.ShloMosaic Idealize.ShloMosaic.TcCoe Idealize.SL.Sem

/-- One over the width, and one half of it. -/
abbrev invLen : EReal := Ideal.ofBits FTy.f32 981467136#32
abbrev halfInvLen : EReal := Ideal.ofBits FTy.f32 973078528#32

theorem invLen_eq : invLen = ((1 / 1024 : ℝ) : EReal) := by
  simp [invLen, Ideal.ofBits, Ideal.ieee, -EReal.coe_mul]; norm_num
theorem halfInvLen_eq : halfInvLen = ((1 / 2048 : ℝ) : EReal) := by
  simp [halfInvLen, Ideal.ofBits, Ideal.ieee, -EReal.coe_mul]; norm_num
theorem half_eq : Ideal.ofBits FTy.f32 1056964608#32 = ((1 / 2 : ℝ) : EReal) := by
  simp [Ideal.ofBits, Ideal.ieee, -EReal.coe_mul]; norm_num
theorem two_eq : Ideal.ofBits FTy.f32 1073741824#32 = ((2 : ℝ) : EReal) := by
  simp [Ideal.ofBits, Ideal.ieee, -EReal.coe_mul]; norm_num

/-- A finite nonnegative factor moves into a sum. -/
theorem mul_sum {ι : Type*} (s : Finset ι) (f : ι → EReal) {c : ℝ} (hc : 0 ≤ c) : (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (EReal.coe_nonneg.2 hc) (EReal.coe_ne_top c), ih]

/-- The stream after the down projection. -/
def h2 {n : ℕ} (a : (⟨2, ![n, 2816]⟩ : Shape).Idx → EReal) (w : S2816x1024.Idx → EReal) (h : (⟨2, ![n, 1024]⟩ : Shape).Idx → EReal) (r : Fin n) (l : Fin 1024) : EReal :=
  ∑ k : Fin 2816, a (ix2 r k) * w (ix2 k l) + h (ix2 r l)

/-- The output less the target. -/
def err {n : ℕ} (a : (⟨2, ![n, 2816]⟩ : Shape).Idx → EReal) (w : S2816x1024.Idx → EReal) (h tg : (⟨2, ![n, 1024]⟩ : Shape).Idx → EReal) (nw : S1x1024.Idx → EReal) (r : Fin n) (l : Fin 1024) : EReal :=
  Rms.hat (h2 a w h r) l * line nw 0 l - line tg r l

/-- The loss's gradient at the output. -/
def dy {n : ℕ} (a : (⟨2, ![n, 2816]⟩ : Shape).Idx → EReal) (w : S2816x1024.Idx → EReal) (h tg : (⟨2, ![n, 1024]⟩ : Shape).Idx → EReal) (nw : S1x1024.Idx → EReal) (r : Fin n) (l : Fin 1024) : EReal := err a w h tg nw r l * invLen

/-- The gradient of the stream. -/
def dx {n : ℕ} (a : (⟨2, ![n, 2816]⟩ : Shape).Idx → EReal) (w : S2816x1024.Idx → EReal) (h tg : (⟨2, ![n, 1024]⟩ : Shape).Idx → EReal) (nw : S1x1024.Idx → EReal) : (⟨2, ![n, 1024]⟩ : Shape).Idx → EReal :=
  fun i => Rms.bwd (h2 a w h (i 0)) (line nw 0) (dy a w h tg nw (i 0)) (i 1)

/-- One row's part of the gradient of the normalisation's weights. -/
def dwRow {n : ℕ} (a : (⟨2, ![n, 2816]⟩ : Shape).Idx → EReal) (w : S2816x1024.Idx → EReal) (h tg : (⟨2, ![n, 1024]⟩ : Shape).Idx → EReal) (nw : S1x1024.Idx → EReal) (r : Fin n) (l : Fin 1024) : EReal := dy a w h tg nw r l * Rms.hat (h2 a w h r) l

/-- One row's part of a column's loss. -/
def colRow {n : ℕ} (a : (⟨2, ![n, 2816]⟩ : Shape).Idx → EReal) (w : S2816x1024.Idx → EReal) (h tg : (⟨2, ![n, 1024]⟩ : Shape).Idx → EReal) (nw : S1x1024.Idx → EReal) (r : Fin n) (l : Fin 1024) : EReal := halfInvLen * (err a w h tg nw r l * err a w h tg nw r l)

theorem pay7 (v0 : Vec Ideal S512x1024 .f32) (v3 : Vec Ideal S512x2816 .bf16) (v4 : Vec Ideal S2816x1024 .bf16) (r : Fin 512) (l : Fin 1024) :
    k0_pay7 (F := Ideal) v0 v3 v4 (ix2 r l) = h2 (n := 512) v3 v4 v0 r l := by
  pointwise [k0_pay7]
  rfl
theorem pay8 (v0 v1 : Vec Ideal S512x1024 .f32) (v2 : Vec Ideal S1x1024 .f32) (v3 : Vec Ideal S512x2816 .bf16) (v4 : Vec Ideal S2816x1024 .bf16) (r : Fin 512) (l : Fin 1024) :
    k0_pay8 (F := Ideal) v0 v1 v2 v3 v4 (ix2 r l) = err (n := 512) v3 v4 v0 v1 v2 r l := by
  unfold k0_pay8
  have h := pay7 v0 v3 v4
  generalize k0_pay7 (F := Ideal) v0 v3 v4 = X at h
  pointwise
  simp only [h]
  rfl
theorem pay9 (v0 v1 : Vec Ideal S512x1024 .f32) (v2 : Vec Ideal S1x1024 .f32) (v3 : Vec Ideal S512x2816 .bf16) (v4 : Vec Ideal S2816x1024 .bf16) (r : Fin 1) (l : Fin 1024) :
    k0_pay9 (F := Ideal) v0 v1 v2 v3 v4 (ix2 r l) = ∑ x : Fin 512, colRow (n := 512) v3 v4 v0 v1 v2 x l := by
  unfold k0_pay9
  have h := pay8 v0 v1 v2 v3 v4
  generalize k0_pay8 (F := Ideal) v0 v1 v2 v3 v4 = X at h
  pointwise
  simp only [h]
  show halfInvLen * _ = _
  simp only [colRow]
  rw [halfInvLen_eq, mul_sum _ _ (by norm_num)]
theorem pay10 (v0 v1 : Vec Ideal S512x1024 .f32) (v2 : Vec Ideal S1x1024 .f32) (v3 : Vec Ideal S512x2816 .bf16) (v4 : Vec Ideal S2816x1024 .bf16) (r : Fin 512) (l : Fin 1024) :
    k0_pay10 (F := Ideal) v0 v1 v2 v3 v4 (ix2 r l) = dy (n := 512) v3 v4 v0 v1 v2 r l := by
  unfold k0_pay10
  have h := pay8 v0 v1 v2 v3 v4
  generalize k0_pay8 (F := Ideal) v0 v1 v2 v3 v4 = X at h
  pointwise
  simp only [h]
  rfl
theorem pay13 (v0 v1 : Vec Ideal S512x1024 .f32) (v2 : Vec Ideal S1x1024 .f32) (v3 : Vec Ideal S512x2816 .bf16) (v4 : Vec Ideal S2816x1024 .bf16) (r : Fin 512) (l : Fin 1024) :
    k0_pay13 (F := Ideal) v0 v1 v2 v3 v4 (ix2 r l) = dy (n := 512) v3 v4 v0 v1 v2 r l * line (n := 1) v2 0 l := by
  unfold k0_pay13
  have h := pay10 v0 v1 v2 v3 v4
  generalize k0_pay10 (F := Ideal) v0 v1 v2 v3 v4 = X at h
  pointwise
  simp only [h]
  rfl
theorem pay11 (v0 : Vec Ideal S512x1024 .f32) (v3 : Vec Ideal S512x2816 .bf16) (v4 : Vec Ideal S2816x1024 .bf16) (r : Fin 512) (l : Fin 1) :
    k0_pay11 (F := Ideal) v0 v3 v4 (ix2 r l) = Rms.inv (h2 (n := 512) v3 v4 v0 r) := by
  unfold k0_pay11
  have h := pay7 v0 v3 v4
  generalize k0_pay7 (F := Ideal) v0 v3 v4 = X at h
  pointwise
  simp only [h]
  rfl
theorem pay12 (v0 : Vec Ideal S512x1024 .f32) (v3 : Vec Ideal S512x2816 .bf16) (v4 : Vec Ideal S2816x1024 .bf16) (r : Fin 512) (l : Fin 1024) :
    k0_pay12 (F := Ideal) v0 v3 v4 (ix2 r l) = Rms.hat (h2 (n := 512) v3 v4 v0 r) l := by
  unfold k0_pay12
  have h := pay7 v0 v3 v4
  have h' := pay11 v0 v3 v4
  generalize k0_pay7 (F := Ideal) v0 v3 v4 = X at h
  generalize k0_pay11 (F := Ideal) v0 v3 v4 = Y at h'
  pointwise
  rw [h, h']
  rfl
theorem pay1 (v0 v1 : Vec Ideal S512x1024 .f32) (v2 : Vec Ideal S1x1024 .f32) (v3 : Vec Ideal S512x2816 .bf16) (v4 : Vec Ideal S2816x1024 .bf16) (r : Fin 512) (l : Fin 1024) :
    k0_pay1 (F := Ideal) (k0_pay11 (F := Ideal) v0 v3 v4) (k0_pay12 (F := Ideal) v0 v3 v4) (k0_pay13 (F := Ideal) v0 v1 v2 v3 v4) (ix2 r l)
      = dx (n := 512) v3 v4 v0 v1 v2 (ix2 r l) := by
  have h := pay11 v0 v3 v4
  have h' := pay12 v0 v3 v4
  have h'' := pay13 v0 v1 v2 v3 v4
  generalize k0_pay11 (F := Ideal) v0 v3 v4 = X at h
  generalize k0_pay12 (F := Ideal) v0 v3 v4 = Y at h'
  generalize k0_pay13 (F := Ideal) v0 v1 v2 v3 v4 = Z at h''
  pointwise [k0_pay1]
  simp only [h, h', h'']
  rfl
theorem pay2 (a : FVec Ideal S512x1 .f32) (b d : FVec Ideal S512x1024 .f32) (r : Fin 512) (l : Fin 1024) :
    k0_pay2 (F := Ideal) a b d (ix2 r l) = k0_pay1 (F := Ideal) a b d (ix2 r l) := by
  pointwise [k0_pay2]
theorem pay3 (i : S1x1024.Idx) : k0_pay3 (F := Ideal) i = 0 := by
  pointwise [k0_pay3]
theorem pay4 (i : S1x1024.Idx) : k0_pay4 (F := Ideal) i = 0 := by
  pointwise [k0_pay4]
theorem pay5 (a : FVec Ideal S1x1024 .f32) (b : Vec Ideal S1x1024 .f32) (r : Fin 1) (l : Fin 1024) :
    k0_pay5 (F := Ideal) a b (ix2 r l) = b (ix2 r l) + a (ix2 r l) := by
  pointwise [k0_pay5]
theorem pay6 (a d : FVec Ideal S512x1024 .f32) (b : Vec Ideal S1x1024 .f32) (r : Fin 1) (l : Fin 1024) :
    k0_pay6 (F := Ideal) a d b (ix2 r l) = b (ix2 r l) + ∑ x : Fin 512, a (ix2 x l) * d (ix2 x l) := by
  pointwise [k0_pay6]

section Blocks
variable (m : (ℓ : Loc nD τ sig) → Buf (Elt Ideal) ℓ)

/-- The block indices: row tiles of the rows' operands, the whole weights. -/
theorem idx : ∀ t : Fin cfg0.N, win0_0.index t = ![t.val, 0] ∧ win0_1.index t = ![0, 0] ∧ win0_2.index t = ![t.val, 0] ∧ win0_3.index t = ![t.val, 0] ∧ win0_4.index t = ![0, 0] ∧ win0_5.index t = ![t.val, 0] ∧ win0_6.index t = ![t.val, 0] :=
  (by decide +kernel : ∀ t : Fin grid0.N, win0_0.index t = ![t.val, 0] ∧ win0_1.index t = ![0, 0] ∧ win0_2.index t = ![t.val, 0] ∧ win0_3.index t = ![t.val, 0] ∧ win0_4.index t = ![0, 0] ∧ win0_5.index t = ![t.val, 0] ∧ win0_6.index t = ![t.val, 0])

/-- A tile's row, as a row of the whole array. -/
def row (t : Fin cfg0.N) (r : Fin 512) : Fin 4096 :=
  ⟨t.val * 512 + r.val, by have h := lt_of_lt_of_eq t.isLt N_0; omega⟩

/-- The inputs' blocks at a point, as arrays. -/
abbrev B0 (c : Dev nD) (t : Fin cfg0.N) : S512x2816.Idx → EReal := iblk m c 0 t
abbrev B1 (c : Dev nD) (t : Fin cfg0.N) : S2816x1024.Idx → EReal := iblk m c 1 t
abbrev B2 (c : Dev nD) (t : Fin cfg0.N) : S512x1024.Idx → EReal := iblk m c 2 t
abbrev B3 (c : Dev nD) (t : Fin cfg0.N) : S512x1024.Idx → EReal := iblk m c 3 t
abbrev B4 (c : Dev nD) (t : Fin cfg0.N) : S1x1024.Idx → EReal := iblk m c 4 t

theorem h2_blk (c : Dev nD) (t : Fin cfg0.N) (r : Fin 512) :
    h2 (n := 512) (B0 m c t) (B1 m c t) (B2 m c t) r = h2 (n := 4096) (m ((c : Thread nD τ).loc main_arg0)) (m ((c : Thread nD τ).loc main_arg1)) (m ((c : Thread nD τ).loc main_arg2)) (row t r) := by
  refine funext fun l => congrArg₂ (· + ·) (Finset.sum_congr rfl fun k _ => ?_) ?_
  · congr 1 <;> blk_ext [B0, B1, Gen.iblk, Gen.V, (idx t).1, (idx t).2.1, row]
  · blk_ext [B2, Gen.iblk, Gen.V, (idx t).2.2.1, row]

theorem t_blk (c : Dev nD) (t : Fin cfg0.N) (r : Fin 512) :
    line (n := 512) (B3 m c t) r = line (n := 4096) (m ((c : Thread nD τ).loc main_arg3)) (row t r) := by
  refine funext fun l => ?_
  unfold Rms.line
  blk_ext [B3, Gen.iblk, Gen.V, (idx t).2.2.2.1, row]

theorem w_blk (c : Dev nD) (t : Fin cfg0.N) : line (n := 1) (B4 m c t) 0 = line (n := 1) (m ((c : Thread nD τ).loc main_arg4)) 0 := by
  refine funext fun l => ?_
  unfold Rms.line
  blk_ext [B4, Gen.iblk, Gen.V, (idx t).2.2.2.2.1]

theorem err_blk (c : Dev nD) (t : Fin cfg0.N) (r : Fin 512) (l : Fin 1024) :
    err (n := 512) (B0 m c t) (B1 m c t) (B2 m c t) (B3 m c t) (B4 m c t) r l = err (n := 4096) (m ((c : Thread nD τ).loc main_arg0)) (m ((c : Thread nD τ).loc main_arg1)) (m ((c : Thread nD τ).loc main_arg2)) (m ((c : Thread nD τ).loc main_arg3)) (m ((c : Thread nD τ).loc main_arg4)) (row t r) l := by
  unfold err
  rw [h2_blk, t_blk, w_blk]

theorem dy_blk (c : Dev nD) (t : Fin cfg0.N) (r : Fin 512) :
    dy (n := 512) (B0 m c t) (B1 m c t) (B2 m c t) (B3 m c t) (B4 m c t) r = dy (n := 4096) (m ((c : Thread nD τ).loc main_arg0)) (m ((c : Thread nD τ).loc main_arg1)) (m ((c : Thread nD τ).loc main_arg2)) (m ((c : Thread nD τ).loc main_arg3)) (m ((c : Thread nD τ).loc main_arg4)) (row t r) :=
  funext fun l => congrArg (· * invLen) (err_blk m c t r l)

/-- The three results, as functions of the arguments. -/
def DX (c : Dev nD) : S4096x1024.Idx → EReal := dx (n := 4096) (m ((c : Thread nD τ).loc main_arg0)) (m ((c : Thread nD τ).loc main_arg1)) (m ((c : Thread nD τ).loc main_arg2)) (m ((c : Thread nD τ).loc main_arg3)) (m ((c : Thread nD τ).loc main_arg4))
def COL (c : Dev nD) : S1x1024.Idx → EReal := fun i => ∑ r : Fin 4096, colRow (n := 4096) (m ((c : Thread nD τ).loc main_arg0)) (m ((c : Thread nD τ).loc main_arg1)) (m ((c : Thread nD τ).loc main_arg2)) (m ((c : Thread nD τ).loc main_arg3)) (m ((c : Thread nD τ).loc main_arg4)) r (i 1)
def DW (c : Dev nD) : S1x1024.Idx → EReal := fun i => ∑ r : Fin 4096, dwRow (n := 4096) (m ((c : Thread nD τ).loc main_arg0)) (m ((c : Thread nD τ).loc main_arg1)) (m ((c : Thread nD τ).loc main_arg2)) (m ((c : Thread nD τ).loc main_arg3)) (m ((c : Thread nD τ).loc main_arg4)) r (i 1)

theorem dx_blk (c : Dev nD) (t : Fin cfg0.N) (r : Fin 512) (l : Fin 1024) :
    dx (n := 512) (B0 m c t) (B1 m c t) (B2 m c t) (B3 m c t) (B4 m c t) (ix2 r l) = DX m c (ix2 (row t r) l) := by
  show Rms.bwd (h2 (n := 512) (B0 m c t) (B1 m c t) (B2 m c t) r) (line (n := 1) (B4 m c t) 0) (dy (n := 512) (B0 m c t) (B1 m c t) (B2 m c t) (B3 m c t) (B4 m c t) r) l = _
  rw [h2_blk, w_blk, dy_blk]
  rfl

theorem dw_blk (c : Dev nD) (t : Fin cfg0.N) (r : Fin 512) (l : Fin 1024) :
    dwRow (n := 512) (B0 m c t) (B1 m c t) (B2 m c t) (B3 m c t) (B4 m c t) r l = dwRow (n := 4096) (m ((c : Thread nD τ).loc main_arg0)) (m ((c : Thread nD τ).loc main_arg1)) (m ((c : Thread nD τ).loc main_arg2)) (m ((c : Thread nD τ).loc main_arg3)) (m ((c : Thread nD τ).loc main_arg4)) (row t r) l := by
  unfold dwRow
  rw [h2_blk, dy_blk]

theorem col_blk (c : Dev nD) (t : Fin cfg0.N) (r : Fin 512) (l : Fin 1024) :
    colRow (n := 512) (B0 m c t) (B1 m c t) (B2 m c t) (B3 m c t) (B4 m c t) r l = colRow (n := 4096) (m ((c : Thread nD τ).loc main_arg0)) (m ((c : Thread nD τ).loc main_arg1)) (m ((c : Thread nD τ).loc main_arg2)) (m ((c : Thread nD τ).loc main_arg3)) (m ((c : Thread nD τ).loc main_arg4)) (row t r) l := by
  unfold colRow
  rw [err_blk]

theorem out5 (c : Dev nD) (t : Fin cfg0.N) (r : Fin 512) (l : Fin 1024) :
    (outsAt0 m c t.val t.isLt).1 (ix2 r l) = DX m c (ix2 (row t r) l) := by
  by_cases h : t.val % 8 = 0
  · rw [outsAt0_A m c t h]
    frame_out
    exact (pay1 _ _ _ _ _ r l).trans (dx_blk m c t r l)
  · rw [outsAt0_B m c t h]
    frame_out
    exact (pay1 _ _ _ _ _ r l).trans (dx_blk m c t r l)

theorem out6 (c : Dev nD) (t : Fin cfg0.N) (r : Fin 512) (l : Fin 1024) :
    (outsAt0 m c t.val t.isLt).2.1 (ix2 r l) = DX m c (ix2 (row t r) l) := by
  by_cases h : t.val % 8 = 0
  · rw [outsAt0_A m c t h]
    frame_out
    exact (pay2 _ _ _ r l).trans ((pay1 _ _ _ _ _ r l).trans (dx_blk m c t r l))
  · rw [outsAt0_B m c t h]
    frame_out
    exact (pay2 _ _ _ r l).trans ((pay1 _ _ _ _ _ r l).trans (dx_blk m c t r l))

/-- What a tile adds to the two accumulated results. -/
theorem addw (c : Dev nD) (t : Fin cfg0.N) (b : S1x1024.Idx → EReal) (r : Fin 1) (l : Fin 1024) :
    k0_pay6 (F := Ideal) (k0_pay10 (F := Ideal) (B2 m c t) (B3 m c t) (B4 m c t) (B0 m c t) (B1 m c t)) (k0_pay12 (F := Ideal) (B2 m c t) (B0 m c t) (B1 m c t)) b (ix2 r l)
      = b (ix2 r l) + ∑ x : Fin 512, dwRow (n := 512) (B0 m c t) (B1 m c t) (B2 m c t) (B3 m c t) (B4 m c t) x l := by
  rw [pay6]
  exact congrArg (b (ix2 r l) + ·) (Finset.sum_congr rfl fun x _ => congrArg₂ (· * ·) (pay10 _ _ _ _ _ x l) (pay12 _ _ _ x l))

theorem addc (c : Dev nD) (t : Fin cfg0.N) (b : S1x1024.Idx → EReal) (r : Fin 1) (l : Fin 1024) :
    k0_pay5 (F := Ideal) (k0_pay9 (F := Ideal) (B2 m c t) (B3 m c t) (B4 m c t) (B0 m c t) (B1 m c t)) b (ix2 r l)
      = b (ix2 r l) + ∑ x : Fin 512, colRow (n := 512) (B0 m c t) (B1 m c t) (B2 m c t) (B3 m c t) (B4 m c t) x l := by
  rw [pay5, pay9]

theorem acc_col (c : Dev nD) (j : S1x1024.Idx) : (outsAt0 m c t0_7.val t0_7.isLt).2.2.1 j = COL m c j := by
  rw [Pipeline.eq_sum_fin_of_reset_step_apply_last (fun n h => (outsAt0 m c n h).2.2.1) 8 (fun _ => 0)
      (fun t j => ∑ r : Fin 512, colRow (n := 512) (B0 m c t) (B1 m c t) (B2 m c t) (B3 m c t) (B4 m c t) r (j 1))
      (fun t h j => by
        idx_vars j
        rw [outsAt0_A m c t h]
        frame_out
        refine (addc m c t _ j0 j1).trans ?_
        rw [pay3])
      (fun t h j => by
        idx_vars j
        rw [outsAt0_B m c t h]
        frame_out
        exact addc m c t _ j0 j1)
      (le_of_eq N_0) t0_7 rfl j, zero_add]
  unfold COL
  refine Fin.sum_mul_add_congr fun s k hl => ?_
  exact (col_blk m c s k (j 1)).trans rfl

theorem acc_dw (c : Dev nD) (j : S1x1024.Idx) : (outsAt0 m c t0_7.val t0_7.isLt).2.2.2 j = DW m c j := by
  rw [Pipeline.eq_sum_fin_of_reset_step_apply_last (fun n h => (outsAt0 m c n h).2.2.2) 8 (fun _ => 0)
      (fun t j => ∑ r : Fin 512, dwRow (n := 512) (B0 m c t) (B1 m c t) (B2 m c t) (B3 m c t) (B4 m c t) r (j 1))
      (fun t h j => by
        idx_vars j
        rw [outsAt0_A m c t h]
        frame_out
        refine (addw m c t _ j0 j1).trans ?_
        rw [pay4])
      (fun t h j => by
        idx_vars j
        rw [outsAt0_B m c t h]
        frame_out
        exact addw m c t _ j0 j1)
      (le_of_eq N_0) t0_7 rfl j, zero_add]
  unfold DW
  refine Fin.sum_mul_add_congr fun s k hl => ?_
  exact (dw_blk m c s k (j 1)).trans rfl

theorem arr5 (c : Dev nD) : (dats m 0 c).arrAt 5 cfg0.N = DX m c :=
  (dats m 0 c).arrAt_eq_of_covers 5 _ (by decide +kernel) fun t hf y => by
    blk_simp
    rw [after0_5]
    refine (congrArg _ (eq_ix2 (n0 := 512) (n1 := 1024) y)).trans ((out5 m c t (y 0) (y 1)).trans (congrArg (DX m c)
      (show ix2 (row t (y 0)) (y 1) = _ from ?_)))
    blk_ext [(idx t).2.2.2.2.2.1, row]

theorem arr6 (c : Dev nD) : (dats m 0 c).arrAt 6 cfg0.N = DX m c :=
  (dats m 0 c).arrAt_eq_of_covers 6 _ (by decide +kernel) fun t hf y => by
    blk_simp
    rw [after0_6]
    refine (congrArg _ (eq_ix2 (n0 := 512) (n1 := 1024) y)).trans ((out6 m c t (y 0) (y 1)).trans (congrArg (DX m c)
      (show ix2 (row t (y 0)) (y 1) = _ from ?_)))
    blk_ext [(idx t).2.2.2.2.2.2, row]

theorem arr7 (c : Dev nD) : (dats m 0 c).arrAt 7 cfg0.N = COL m c :=
  (dats m 0 c).arrAt_eq_of_after_last 7 t0_7 (by decide +kernel) _ fun j => by
    blk_simp
    rw [after0_7, acc_col]

theorem arr8 (c : Dev nD) : (dats m 0 c).arrAt 8 cfg0.N = DW m c :=
  (dats m 0 c).arrAt_eq_of_after_last 8 t0_7 (by decide +kernel) _ fun j => by
    blk_simp
    rw [after0_8, acc_dw]

end Blocks

section Reference
open Cert.DownLossRefIdeal.Read
variable (x0 : S4096x2816.Idx → EReal) (x1 : S2816x1024.Idx → EReal) (x2 x3 : S4096x1024.Idx → EReal) (x4 : S1x1024.Idx → EReal)

theorem ref3 (r : Fin 4096) (l : Fin 1024) : val_main_v3 (F := Ideal) x0 x1 x2 (ix2 r l) = h2 (n := 4096) x0 x1 x2 r l := by
  pointwise [val_main_v0, val_main_v1, val_main_v2, val_main_v3]
  exact add_comm _ _

theorem ref10 (r : Fin 4096) (l : Fin 1) : val_main_v10 (F := Ideal) x0 x1 x2 (ix2 r l) = Rms.ms (h2 (n := 4096) x0 x1 x2 r) := by
  have h := ref3 x0 x1 x2
  unfold val_main_v10 val_main_v8 val_main_v6 val_main_v5 val_main_v4
  generalize val_main_v3 (F := Ideal) x0 x1 x2 = X at h
  pointwise [val_main_cst, val_main_cst_0, val_main_v7, val_main_cst_1, val_main_v9]
  simp only [h]
  rfl

theorem ref16 (r : Fin 4096) (l : Fin 1024) : val_main_v16 (F := Ideal) x0 x1 x2 (ix2 r l) = Rms.hat (h2 (n := 4096) x0 x1 x2 r) l := by
  have h := ref3 x0 x1 x2
  have h' := ref10 x0 x1 x2
  unfold val_main_v16 val_main_v15 val_main_v11
  generalize val_main_v3 (F := Ideal) x0 x1 x2 = X at h
  generalize val_main_v10 (F := Ideal) x0 x1 x2 = Y at h'
  pointwise
  rw [h, h']
  rfl

theorem ref19 (r : Fin 4096) (l : Fin 1024) : val_main_v19 (F := Ideal) x0 x1 x2 x3 x4 (ix2 r l) = err (n := 4096) x0 x1 x2 x3 x4 r l := by
  have h := ref16 x0 x1 x2
  unfold val_main_v19 val_main_v18
  generalize val_main_v16 (F := Ideal) x0 x1 x2 = X at h
  pointwise [val_main_v17]
  rw [h]
  rfl

theorem refcol : val_main_v28 (F := Ideal) x0 x1 x2 x3 x4 = fun i => ∑ r : Fin 4096, colRow (n := 4096) x0 x1 x2 x3 x4 r (i 1) := by
  funext i
  idx_vars i
  have h := ref19 x0 x1 x2 x3 x4
  unfold val_main_v28 val_main_v26 val_main_v25 val_main_v24 val_main_v20
  generalize val_main_v19 (F := Ideal) x0 x1 x2 x3 x4 = X at h
  pointwise [val_main_cst_4, val_main_v23, val_main_cst_5, val_main_cst_6, val_main_v27]
  simp only [h]
  rw [half_eq, mul_sum _ _ (by norm_num)]
  refine Finset.sum_congr rfl fun r _ => ?_
  show _ * Ideal.div _ Rms.len = _
  rw [Rms.len_eq, Ideal.div_coe (by norm_num), mul_comm _ ((1 / 1024 : ℝ) : EReal), ← mul_assoc, ← EReal.coe_mul]
  show _ = halfInvLen * _
  rw [halfInvLen_eq]
  norm_num

theorem ref36 (r : Fin 4096) (l : Fin 1024) : val_main_v36 (F := Ideal) x0 x1 x2 x3 x4 (ix2 r l) = dy (n := 4096) x0 x1 x2 x3 x4 r l := by
  have h := ref19 x0 x1 x2 x3 x4
  unfold val_main_v36 val_main_v22
  generalize val_main_v19 (F := Ideal) x0 x1 x2 x3 x4 = X at h
  pointwise [val_main_cst_3, val_main_v21, val_main_cst_7, val_main_v29, val_main_cst_8, val_main_v30, val_main_v31, val_main_cst_9, val_main_v32, val_main_v33, val_main_cst_10, val_main_v34, val_main_v35]
  rw [h]
  simp only [Fin.sum_univ_one]
  show Ideal.div _ Rms.len * _ = _ * invLen
  rw [Rms.len_eq, Ideal.div_coe (by norm_num), half_eq, two_eq, invLen_eq, mul_comm _ ((1 / 1024 : ℝ) : EReal)]
  generalize err (n := 4096) x0 x1 x2 x3 x4 r l = e
  rw [← mul_assoc, ← EReal.coe_mul, ← EReal.coe_mul, mul_comm e]
  norm_num

theorem refdw : val_main_v39 (F := Ideal) x0 x1 x2 x3 x4 = fun i => ∑ r : Fin 4096, dwRow (n := 4096) x0 x1 x2 x3 x4 r (i 1) := by
  funext i
  idx_vars i
  have h := ref36 x0 x1 x2 x3 x4
  have h' := ref16 x0 x1 x2
  unfold val_main_v39 val_main_v38 val_main_v37
  generalize val_main_v36 (F := Ideal) x0 x1 x2 x3 x4 = X at h
  generalize val_main_v16 (F := Ideal) x0 x1 x2 = Y at h'
  pointwise [val_main_cst_11]
  simp only [h, h']
  exact Finset.sum_congr rfl fun x _ => mul_comm _ _

theorem h2_real (h0 : ∀ i, IsReal (x0 i)) (h1 : ∀ i, IsReal (x1 i)) (h2' : ∀ i, IsReal (x2 i)) (r : Fin 4096) (l : Fin 1024) :
    IsReal (h2 (n := 4096) x0 x1 x2 r l) :=
  (IsReal.sum _ fun _ _ => (h0 _).mul (h1 _)).add (h2' _)

theorem dy_real (h0 : ∀ i, IsReal (x0 i)) (h1 : ∀ i, IsReal (x1 i)) (h2' : ∀ i, IsReal (x2 i)) (h3 : ∀ i, IsReal (x3 i)) (h4 : ∀ i, IsReal (x4 i))
    (r : Fin 4096) (l : Fin 1024) : IsReal (dy (n := 4096) x0 x1 x2 x3 x4 r l) := by
  unfold dy err Rms.hat
  rw [invLen_eq]
  exact ((((h2_real x0 x1 x2 h0 h1 h2' r l).mul (Rms.inv_real fun l => h2_real x0 x1 x2 h0 h1 h2' r l)).mul (h4 _)).sub (h3 _)).mul (IsReal.coe _)

theorem refdx (h0 : ∀ i, IsReal (x0 i)) (h1 : ∀ i, IsReal (x1 i)) (h2' : ∀ i, IsReal (x2 i)) (h3 : ∀ i, IsReal (x3 i)) (h4 : ∀ i, IsReal (x4 i)) :
    val_main_v55 (F := Ideal) x0 x1 x2 x3 x4 = dx (n := 4096) x0 x1 x2 x3 x4 := by
  funext i
  idx_vars i
  have e1 := ref3 x0 x1 x2
  have e2 := ref10 x0 x1 x2
  have e3 := ref36 x0 x1 x2 x3 x4
  unfold val_main_v55 val_main_v54 val_main_v53 val_main_v52 val_main_v51 val_main_v50 val_main_v49 val_main_v47 val_main_v46 val_main_v45 val_main_v44 val_main_v43 val_main_v42 val_main_v41 val_main_v14 val_main_v12 val_main_v11
  generalize val_main_v3 (F := Ideal) x0 x1 x2 = X at e1
  generalize val_main_v10 (F := Ideal) x0 x1 x2 = Y at e2
  generalize val_main_v36 (F := Ideal) x0 x1 x2 x3 x4 = Z at e3
  pointwise [val_main_cst_2, val_main_v13, val_main_v40, val_main_cst_12, val_main_cst_13, val_main_v48, val_main_cst_14]
  simp only [e1, e2, e3, Fin.sum_univ_one]
  exact Rms.bwd_eq (h := h2 (n := 4096) x0 x1 x2 i0) (w := line x4 0) (dy := dy (n := 4096) x0 x1 x2 x3 x4 i0)
    (fun l => h2_real x0 x1 x2 h0 h1 h2' i0 l) (fun _ => h4 _) (fun l => dy_real x0 x1 x2 x3 x4 h0 h1 h2' h3 h4 i0 l) i1

theorem refdxb : val_main_v56 (F := Ideal) x0 x1 x2 x3 x4 = val_main_v55 (F := Ideal) x0 x1 x2 x3 x4 := by
  funext i
  idx_vars i
  pointwise [val_main_v56]

end Reference

/-- The precondition says that the arguments hold real numbers. -/
theorem pre_real (m : (ℓ : Loc nD τ sig) → Buf (Elt Ideal) ℓ) (c : Dev nD) (h : Cert.Pre_DownLossIdeal_down_finite m) :
    (∀ i, IsReal ((m ((c : Thread nD τ).loc main_arg0)) i)) ∧ (∀ i, IsReal ((m ((c : Thread nD τ).loc main_arg1)) i)) ∧ (∀ i, IsReal ((m ((c : Thread nD τ).loc main_arg2)) i)) ∧ (∀ i, IsReal ((m ((c : Thread nD τ).loc main_arg3)) i)) ∧ (∀ i, IsReal ((m ((c : Thread nD τ).loc main_arg4)) i)) := by
  have h := h c
  exact ⟨fun i => IsReal.of_abs_lt ((Ideal.cmp_olt_eq_one _ _).1 (congrFun h.1 i)), fun i => IsReal.of_abs_lt ((Ideal.cmp_olt_eq_one _ _).1 (congrFun h.2.1 i)), fun i => IsReal.of_abs_lt ((Ideal.cmp_olt_eq_one _ _).1 (congrFun h.2.2.1 i)), fun i => IsReal.of_abs_lt ((Ideal.cmp_olt_eq_one _ _).1 (congrFun h.2.2.2.1 i)), fun i => IsReal.of_abs_lt ((Ideal.cmp_olt_eq_one _ _).1 (congrFun h.2.2.2.2 i))⟩

/-- Kernel and reference end with the same gradients and the same columns of the loss. -/
theorem algebraic : Cert.algebraic_DownLossIdeal_DownLossRefIdeal_pre_down_finite := by
  intro m g m' g' hp hm
  refine ⟨fun c => DX m c, fun c => DX m c, fun c => COL m c, fun c => DW m c, ?_, ?_⟩
  · exact (θ_run defs _ _).mono (fun r h c => ⟨(h c).1.trans (arr5 m c), (h c).2.1.trans (arr6 m c), (h c).2.2.1.trans (arr7 m c),
      (h c).2.2.2.1.trans (arr8 m c), (h c).2.2.2.2⟩) (Cert.DownLossIdeal.Value.run_blocks m g)
  · refine (θ_run Cert.DownLossRefIdeal.defs _ _).mono (fun r h c => ?_) (Cert.DownLossRefIdeal.Value.run m' g')
    obtain ⟨a0, a1, a2, a3, a4⟩ := hm c
    obtain ⟨p0, p1, p2, p3, p4⟩ := pre_real m c hp
    refine ⟨(h c).1.trans ?_, (h c).2.1.trans ?_, (h c).2.2.1.trans ?_, (h c).2.2.2.1.trans ?_, (h c).2.2.2.2⟩
    · rw [Cert.DownLossRefIdeal.Read.val_main_v55_eq, a0, a1, a2, a3, a4]
      exact refdx _ _ _ _ _ p0 p1 p2 p3 p4
    · rw [Cert.DownLossRefIdeal.Read.val_main_v56_eq, a0, a1, a2, a3, a4, refdxb]
      exact refdx _ _ _ _ _ p0 p1 p2 p3 p4
    · rw [Cert.DownLossRefIdeal.Read.val_main_v28_eq, a0, a1, a2, a3, a4]
      exact refcol _ _ _ _ _
    · rw [Cert.DownLossRefIdeal.Read.val_main_v39_eq, a0, a1, a2, a3, a4]
      exact refdw _ _ _ _ _

/-- The reference is a straight-line host program without semaphores. -/
theorem frame_ref : Cert.quiescent_DownLossRefIdeal := fun m ρ _ =>
  (θ_run Cert.DownLossRefIdeal.defs _ _).mono (fun r h => ⟨fun c => (h c).2.2.2.2, sem_eq_zero_of_no_sems (by decide) r.2⟩)
    (Cert.DownLossRefIdeal.Value.run m ρ)

end Cert.DownLossIdeal.Hand

end
-- ==== Proof.SixBlocks.lean ====
/-
  Six blocks of columns side by side.
-/
module

public import Idealize.ShloMosaic.PureOps.Ideal
public import Idealize.ShloMosaic.Lib.Pointwise

@[expose] public section

set_option maxRecDepth 16384

noncomputable section

namespace Cert.Six

open Idealize.ShloMosaic

/-- A sum over 2816 places is the sum over five blocks of 512 and one of 256. -/
theorem sum_six {M : Type*} [AddCommMonoid M] (f : Fin 2816 → M) : ∑ k, f k =
    ∑ k : Fin 512, f ⟨k.val, by omega⟩ + ∑ k : Fin 512, f ⟨512 + k.val, by omega⟩ + ∑ k : Fin 512, f ⟨1024 + k.val, by omega⟩
      + ∑ k : Fin 512, f ⟨1536 + k.val, by omega⟩ + ∑ k : Fin 512, f ⟨2048 + k.val, by omega⟩ + ∑ k : Fin 256, f ⟨2560 + k.val, by omega⟩ := by
  have s5 := Fin.sum_univ_add (a := 2560) (b := 256) f
  have s4 := Fin.sum_univ_add (a := 2048) (b := 512) fun k => f (Fin.castAdd 256 k)
  have s3 := Fin.sum_univ_add (a := 1536) (b := 512) fun k => f (Fin.castAdd 256 (Fin.castAdd 512 k))
  have s2 := Fin.sum_univ_add (a := 1024) (b := 512) fun k => f (Fin.castAdd 256 (Fin.castAdd 512 (Fin.castAdd 512 k)))
  have s1 := Fin.sum_univ_add (a := 512) (b := 512) fun k => f (Fin.castAdd 256 (Fin.castAdd 512 (Fin.castAdd 512 (Fin.castAdd 512 k))))
  exact s5.trans (congrArg₂ (· + ·) (s4.trans (congrArg₂ (· + ·) (s3.trans (congrArg₂ (· + ·) (s2.trans (congrArg₂ (· + ·) s1 rfl)) rfl)) rfl)) rfl)

variable {n : ℕ} (x0 x1 x2 x3 x4 : (⟨2, ![n, 512]⟩ : Shape).Idx → EReal) (x5 : (⟨2, ![n, 256]⟩ : Shape).Idx → EReal)

/-- An entry of the six blocks put side by side. -/
def cat (r : Fin n) (k : Fin 2816) : EReal :=
  if h0 : k.val < 512 then x0 (ix2 r ⟨k.val, h0⟩)
  else if h1 : k.val - 512 < 512 then x1 (ix2 r ⟨k.val - 512, h1⟩)
  else if h2 : k.val - 512 - 512 < 512 then x2 (ix2 r ⟨k.val - 512 - 512, h2⟩)
  else if h3 : k.val - 512 - 512 - 512 < 512 then x3 (ix2 r ⟨k.val - 512 - 512 - 512, h3⟩)
  else if h4 : k.val - 512 - 512 - 512 - 512 < 512 then x4 (ix2 r ⟨k.val - 512 - 512 - 512 - 512, h4⟩)
  else x5 (ix2 r ⟨k.val - 512 - 512 - 512 - 512 - 512, by omega⟩)

theorem cat0 (r : Fin n) (k : Fin 512) : cat x0 x1 x2 x3 x4 x5 r ⟨k.val, by omega⟩ = x0 (ix2 r k) := by
  unfold cat
  rw [dif_pos (by dsimp only; omega)]

theorem cat1 (r : Fin n) (k : Fin 512) : cat x0 x1 x2 x3 x4 x5 r ⟨512 + k.val, by omega⟩ = x1 (ix2 r k) := by
  unfold cat
  rw [dif_neg (by dsimp only; omega)]
  rw [dif_pos (by dsimp only; omega)]
  exact congrArg (fun q => x1 (ix2 r q)) (Fin.ext (by dsimp only; omega))

theorem cat2 (r : Fin n) (k : Fin 512) : cat x0 x1 x2 x3 x4 x5 r ⟨1024 + k.val, by omega⟩ = x2 (ix2 r k) := by
  unfold cat
  rw [dif_neg (by dsimp only; omega)]
  rw [dif_neg (by dsimp only; omega)]
  rw [dif_pos (by dsimp only; omega)]
  exact congrArg (fun q => x2 (ix2 r q)) (Fin.ext (by dsimp only; omega))

theorem cat3 (r : Fin n) (k : Fin 512) : cat x0 x1 x2 x3 x4 x5 r ⟨1536 + k.val, by omega⟩ = x3 (ix2 r k) := by
  unfold cat
  rw [dif_neg (by dsimp only; omega)]
  rw [dif_neg (by dsimp only; omega)]
  rw [dif_neg (by dsimp only; omega)]
  rw [dif_pos (by dsimp only; omega)]
  exact congrArg (fun q => x3 (ix2 r q)) (Fin.ext (by dsimp only; omega))

theorem cat4 (r : Fin n) (k : Fin 512) : cat x0 x1 x2 x3 x4 x5 r ⟨2048 + k.val, by omega⟩ = x4 (ix2 r k) := by
  unfold cat
  rw [dif_neg (by dsimp only; omega)]
  rw [dif_neg (by dsimp only; omega)]
  rw [dif_neg (by dsimp only; omega)]
  rw [dif_neg (by dsimp only; omega)]
  rw [dif_pos (by dsimp only; omega)]
  exact congrArg (fun q => x4 (ix2 r q)) (Fin.ext (by dsimp only; omega))

theorem cat5 (r : Fin n) (k : Fin 256) : cat x0 x1 x2 x3 x4 x5 r ⟨2560 + k.val, by omega⟩ = x5 (ix2 r k) := by
  unfold cat
  rw [dif_neg (by dsimp only; omega)]
  rw [dif_neg (by dsimp only; omega)]
  rw [dif_neg (by dsimp only; omega)]
  rw [dif_neg (by dsimp only; omega)]
  rw [dif_neg (by dsimp only; omega)]
  exact congrArg (fun q => x5 (ix2 r q)) (Fin.ext (by dsimp only; omega))

/-- A product with the six blocks side by side is the sum of six products. -/
theorem sum_cat (g : Fin 2816 → EReal) (r : Fin n) : ∑ k, cat x0 x1 x2 x3 x4 x5 r k * g k =
    ∑ k : Fin 512, x0 (ix2 r k) * g ⟨k.val, by omega⟩ + ∑ k : Fin 512, x1 (ix2 r k) * g ⟨512 + k.val, by omega⟩
      + ∑ k : Fin 512, x2 (ix2 r k) * g ⟨1024 + k.val, by omega⟩ + ∑ k : Fin 512, x3 (ix2 r k) * g ⟨1536 + k.val, by omega⟩
      + ∑ k : Fin 512, x4 (ix2 r k) * g ⟨2048 + k.val, by omega⟩ + ∑ k : Fin 256, x5 (ix2 r k) * g ⟨2560 + k.val, by omega⟩ := by
  rw [sum_six]
  simp only [cat0, cat1, cat2, cat3, cat4, cat5]

end Cert.Six

end
-- ==== Proof.InBackValue.lean ====
/-
  The gradient through the first normalisation: six products with the input projection's weights, the kernel's row tiles and its accumulated weight gradient, and the reference's derivative.
-/
module

public import proofs.«01_k».proof.Defs
public import proofs.«01_k».proof.Proof.RmsMath
public import proofs.«01_k».proof.Proof.SixBlocks
public import proofs.«01_k».proof.Proof.Gen.Pre_in_finite
public import proofs.«01_k».proof.Proof.Gen.InBackIdeal.Value
public import proofs.«01_k».proof.Proof.Gen.InBackRefIdeal.Run
public import proofs.«01_k».proof.Proof.Gen.InBackRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.InBackIdeal.Hand

open Cert.InBackIdeal Cert.InBackIdeal.Gen Cert.RealNum Cert.Rms Cert.Six
open Idealize.ShloMosaic Idealize.ShloMosaic.TcCoe Idealize.SL.Sem

/-- The gradient that reaches an entry of the normalised rows: six products added. -/
def dy {n : ℕ} (p0 p1 p2 p3 p4 : (⟨2, ![n, 512]⟩ : Shape).Idx → EReal) (p5 : (⟨2, ![n, 256]⟩ : Shape).Idx → EReal) (w : S2816x1024.Idx → EReal) (r : Fin n) (l : Fin 1024) : EReal :=
  ∑ k : Fin 512, p0 (ix2 r k) * w (ix2 ⟨k.val, by omega⟩ l) + ∑ k : Fin 512, p1 (ix2 r k) * w (ix2 ⟨512 + k.val, by omega⟩ l)
    + ∑ k : Fin 512, p2 (ix2 r k) * w (ix2 ⟨1024 + k.val, by omega⟩ l) + ∑ k : Fin 512, p3 (ix2 r k) * w (ix2 ⟨1536 + k.val, by omega⟩ l)
    + ∑ k : Fin 512, p4 (ix2 r k) * w (ix2 ⟨2048 + k.val, by omega⟩ l) + ∑ k : Fin 256, p5 (ix2 r k) * w (ix2 ⟨2560 + k.val, by omega⟩ l)

/-- The gradient of the rows. -/
def dx {n : ℕ} (p0 p1 p2 p3 p4 : (⟨2, ![n, 512]⟩ : Shape).Idx → EReal) (p5 : (⟨2, ![n, 256]⟩ : Shape).Idx → EReal) (w : S2816x1024.Idx → EReal) (h d : (⟨2, ![n, 1024]⟩ : Shape).Idx → EReal)
    (nw : S1x1024.Idx → EReal) : (⟨2, ![n, 1024]⟩ : Shape).Idx → EReal :=
  fun i => Rms.bwd (line h (i 0)) (line nw 0) (dy p0 p1 p2 p3 p4 p5 w (i 0)) (i 1) + d (ix2 (i 0) (i 1))

/-- One row's part of the gradient of the normalisation's weights. -/
def dwRow {n : ℕ} (p0 p1 p2 p3 p4 : (⟨2, ![n, 512]⟩ : Shape).Idx → EReal) (p5 : (⟨2, ![n, 256]⟩ : Shape).Idx → EReal) (w : S2816x1024.Idx → EReal) (h : (⟨2, ![n, 1024]⟩ : Shape).Idx → EReal)
    (r : Fin n) (l : Fin 1024) : EReal := dy p0 p1 p2 p3 p4 p5 w r l * Rms.hat (line h r) l

/-- The gradient of the normalisation's weights. -/
def dw (p0 p1 p2 p3 p4 : S4096x512.Idx → EReal) (p5 : (⟨2, ![4096, 256]⟩ : Shape).Idx → EReal) (w : S2816x1024.Idx → EReal) (h : S4096x1024.Idx → EReal) : S1x1024.Idx → EReal :=
  fun i => ∑ r : Fin 4096, dwRow p0 p1 p2 p3 p4 p5 w h r (i 1)

/-- The six products as the body adds them, the weights read in row blocks. -/
abbrev prods (p0 p1 p2 p3 p4 : S512x512.Idx → EReal) (w : S2816x1024.Idx → EReal) : FVec Ideal S512x1024 .f32 :=
  k0_pay7 (F := Ideal) p0 p1 p2 p3 p4 (View.ld (Val := Elt Ideal) (e' := .bf16) w (Rect.unit ![0, 0] ![512, 1024] inb_S2816x1024_S512x1024_0_0))
    (View.ld (Val := Elt Ideal) (e' := .bf16) w (Rect.unit ![512, 0] ![512, 1024] inb_S2816x1024_S512x1024_512_0)) (View.ld (Val := Elt Ideal) (e' := .bf16) w (Rect.unit ![1024, 0] ![512, 1024] inb_S2816x1024_S512x1024_1024_0))
    (View.ld (Val := Elt Ideal) (e' := .bf16) w (Rect.unit ![1536, 0] ![512, 1024] inb_S2816x1024_S512x1024_1536_0)) (View.ld (Val := Elt Ideal) (e' := .bf16) w (Rect.unit ![2048, 0] ![512, 1024] inb_S2816x1024_S512x1024_2048_0))

theorem prods_eq (p0 p1 p2 p3 p4 : S512x512.Idx → EReal) (p5 : S512x256.Idx → EReal) (w : S2816x1024.Idx → EReal) (r : Fin 512) (l : Fin 1024) :
    k0_pay1 (F := Ideal) p5 (prods p0 p1 p2 p3 p4 w) (View.ld (Val := Elt Ideal) (e' := .bf16) w (Rect.unit ![2560, 0] ![256, 1024] inb_S2816x1024_S256x1024_2560_0)) (ix2 r l)
      = dy (n := 512) p0 p1 p2 p3 p4 p5 w r l := by
  pointwise [k0_pay1, prods, k0_pay7]
  rfl

theorem pay4 (v0 v1 : Vec Ideal S512x1024 .f32) (v2 : Vec Ideal S1x1024 .f32) (v8 : Vec Ideal S512x256 .bf16) (v22 : FVec Ideal S512x1024 .f32) (v23 : Vec Ideal S256x1024 .bf16) (r : Fin 512) (l : Fin 1024) :
    k0_pay4 (F := Ideal) v0 v1 v2 v8 v22 v23 (ix2 r l)
      = Rms.bwd (line (n := 512) v0 r) (line (n := 1) v2 0) (fun x => k0_pay1 (F := Ideal) v8 v22 v23 (ix2 r x)) l + v1 (ix2 r l) := by
  pointwise [k0_pay4, k0_pay3, k0_pay2, k0_pay1]
  rfl
theorem pay5 (i : S1x1024.Idx) : k0_pay5 (F := Ideal) i = 0 := by
  pointwise [k0_pay5]
theorem pay6 (v0 : Vec Ideal S512x1024 .f32) (v8 : Vec Ideal S512x256 .bf16) (v22 : FVec Ideal S512x1024 .f32) (v23 : Vec Ideal S256x1024 .bf16) (v56 : Vec Ideal S1x1024 .f32) (r : Fin 1) (l : Fin 1024) :
    k0_pay6 (F := Ideal) v0 v8 v22 v23 v56 (ix2 r l)
      = v56 (ix2 r l) + ∑ x : Fin 512, k0_pay1 (F := Ideal) v8 v22 v23 (ix2 x l) * Rms.hat (line (n := 512) v0 x) l := by
  pointwise [k0_pay6, k0_pay3, k0_pay2, k0_pay1]
  rfl

section Blocks
variable (m : (ℓ : Loc nD τ sig) → Buf (Elt Ideal) ℓ)

/-- The block indices: row tiles of the rows' operands, the whole weights. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![0, 0] ∧ win0_7.index t = ![t.val, 0] ∧ win0_8.index t = ![t.val, 0] ∧ win0_9.index t = ![0, 0] ∧ win0_10.index t = ![t.val, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![0, 0] ∧ win0_7.index t = ![t.val, 0] ∧ win0_8.index t = ![t.val, 0] ∧ win0_9.index t = ![0, 0] ∧ win0_10.index t = ![t.val, 0])

/-- A tile's row, as a row of the whole array. -/
def row (t : Fin cfg0.N) (r : Fin 512) : Fin 4096 :=
  ⟨t.val * 512 + r.val, by have h := lt_of_lt_of_eq t.isLt N_0; omega⟩

/-- The inputs' blocks at a point, as arrays. -/
abbrev B0 (c : Dev nD) (t : Fin cfg0.N) : S512x512.Idx → EReal := iblk m c 0 t
abbrev B1 (c : Dev nD) (t : Fin cfg0.N) : S512x512.Idx → EReal := iblk m c 1 t
abbrev B2 (c : Dev nD) (t : Fin cfg0.N) : S512x512.Idx → EReal := iblk m c 2 t
abbrev B3 (c : Dev nD) (t : Fin cfg0.N) : S512x512.Idx → EReal := iblk m c 3 t
abbrev B4 (c : Dev nD) (t : Fin cfg0.N) : S512x512.Idx → EReal := iblk m c 4 t
abbrev B5 (c : Dev nD) (t : Fin cfg0.N) : S512x256.Idx → EReal := iblk m c 5 t
abbrev B6 (c : Dev nD) (t : Fin cfg0.N) : S2816x1024.Idx → EReal := iblk m c 6 t
abbrev B7 (c : Dev nD) (t : Fin cfg0.N) : S512x1024.Idx → EReal := iblk m c 7 t
abbrev B8 (c : Dev nD) (t : Fin cfg0.N) : S512x1024.Idx → EReal := iblk m c 8 t
abbrev B9 (c : Dev nD) (t : Fin cfg0.N) : S1x1024.Idx → EReal := iblk m c 9 t

/-- The gradient reaching a tile's row is the whole array's at that row. -/
theorem dy_blk (c : Dev nD) (t : Fin cfg0.N) (r : Fin 512) (l : Fin 1024) :
    dy (n := 512) (B0 m c t) (B1 m c t) (B2 m c t) (B3 m c t) (B4 m c t) (B5 m c t) (B6 m c t) r l
      = dy (n := 4096) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (row t r) l := by
  refine congrArg₂ (· + ·) (congrArg₂ (· + ·) (congrArg₂ (· + ·) (congrArg₂ (· + ·) (congrArg₂ (· + ·) (Finset.sum_congr rfl fun k _ => ?_) (Finset.sum_congr rfl fun k _ => ?_))
    (Finset.sum_congr rfl fun k _ => ?_)) (Finset.sum_congr rfl fun k _ => ?_)) (Finset.sum_congr rfl fun k _ => ?_)) (Finset.sum_congr rfl fun k _ => ?_)
  · congr 1 <;> blk_ext [B0, B6, Gen.iblk, Gen.V, (idx t).1, (idx t).2.2.2.2.2.2.1, row]
  · congr 1 <;> blk_ext [B1, B6, Gen.iblk, Gen.V, (idx t).2.1, (idx t).2.2.2.2.2.2.1, row]
  · congr 1 <;> blk_ext [B2, B6, Gen.iblk, Gen.V, (idx t).2.2.1, (idx t).2.2.2.2.2.2.1, row]
  · congr 1 <;> blk_ext [B3, B6, Gen.iblk, Gen.V, (idx t).2.2.2.1, (idx t).2.2.2.2.2.2.1, row]
  · congr 1 <;> blk_ext [B4, B6, Gen.iblk, Gen.V, (idx t).2.2.2.2.1, (idx t).2.2.2.2.2.2.1, row]
  · congr 1 <;> blk_ext [B5, B6, Gen.iblk, Gen.V, (idx t).2.2.2.2.2.1, (idx t).2.2.2.2.2.2.1, row]

theorem line_blk (c : Dev nD) (t : Fin cfg0.N) (r : Fin 512) :
    line (n := 512) (B7 m c t) r = line (n := 4096) (m ((c : Thread nD τ).loc main_arg7)) (row t r) := by
  refine funext fun l => ?_
  unfold Rms.line
  blk_ext [B7, Gen.iblk, Gen.V, (idx t).2.2.2.2.2.2.2.1, row]

theorem w_blk (c : Dev nD) (t : Fin cfg0.N) : line (n := 1) (B9 m c t) 0 = line (n := 1) (m ((c : Thread nD τ).loc main_arg9)) 0 := by
  refine funext fun l => ?_
  unfold Rms.line
  blk_ext [B9, Gen.iblk, Gen.V, (idx t).2.2.2.2.2.2.2.2.2.1]

theorem d_blk (c : Dev nD) (t : Fin cfg0.N) (r : Fin 512) (l : Fin 1024) :
    B8 m c t (ix2 r l) = (m ((c : Thread nD τ).loc main_arg8)) (ix2 (row t r) l) := by
  blk_ext [B8, Gen.iblk, Gen.V, (idx t).2.2.2.2.2.2.2.2.1, row]

/-- The rows' gradient, as a function of the arguments. -/
def DX (c : Dev nD) : S4096x1024.Idx → EReal :=
  dx (n := 4096) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- The weights' gradient, as a function of the arguments. -/
def DW (c : Dev nD) : S1x1024.Idx → EReal :=
  dw (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

theorem dx_blk (c : Dev nD) (t : Fin cfg0.N) (r : Fin 512) (l : Fin 1024) :
    dx (n := 512) (B0 m c t) (B1 m c t) (B2 m c t) (B3 m c t) (B4 m c t) (B5 m c t) (B6 m c t) (B7 m c t) (B8 m c t) (B9 m c t) (ix2 r l) = DX m c (ix2 (row t r) l) := by
  show Rms.bwd (line (n := 512) (B7 m c t) r) (line (n := 1) (B9 m c t) 0) (dy (n := 512) (B0 m c t) (B1 m c t) (B2 m c t) (B3 m c t) (B4 m c t) (B5 m c t) (B6 m c t) r) l + B8 m c t (ix2 r l) = _
  rw [line_blk, w_blk, d_blk, show dy (n := 512) (B0 m c t) (B1 m c t) (B2 m c t) (B3 m c t) (B4 m c t) (B5 m c t) (B6 m c t) r = _ from funext fun l => dy_blk m c t r l]
  rfl

theorem dw_blk (c : Dev nD) (t : Fin cfg0.N) (r : Fin 512) (l : Fin 1024) :
    dwRow (n := 512) (B0 m c t) (B1 m c t) (B2 m c t) (B3 m c t) (B4 m c t) (B5 m c t) (B6 m c t) (B7 m c t) r l
      = dwRow (n := 4096) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (row t r) l := by
  unfold dwRow
  rw [line_blk, dy_blk]

theorem tile (c : Dev nD) (t : Fin cfg0.N) (r : Fin 512) (l : Fin 1024) :
    k0_pay4 (F := Ideal) (B7 m c t) (B8 m c t) (B9 m c t) (B5 m c t) (prods (B0 m c t) (B1 m c t) (B2 m c t) (B3 m c t) (B4 m c t) (B6 m c t))
      (View.ld (Val := Elt Ideal) (e' := .bf16) (B6 m c t) (Rect.unit ![2560, 0] ![256, 1024] inb_S2816x1024_S256x1024_2560_0)) (ix2 r l) = DX m c (ix2 (row t r) l) := by
  rw [pay4, show (fun x => k0_pay1 (F := Ideal) (B5 m c t) (prods (B0 m c t) (B1 m c t) (B2 m c t) (B3 m c t) (B4 m c t) (B6 m c t))
      (View.ld (Val := Elt Ideal) (e' := .bf16) (B6 m c t) (Rect.unit ![2560, 0] ![256, 1024] inb_S2816x1024_S256x1024_2560_0)) (ix2 r x)) = _ from funext fun x => prods_eq _ _ _ _ _ _ _ r x]
  exact dx_blk m c t r l

theorem out10 (c : Dev nD) (t : Fin cfg0.N) (r : Fin 512) (l : Fin 1024) :
    (outsAt0 m c t.val t.isLt).1 (ix2 r l) = DX m c (ix2 (row t r) l) := by
  by_cases h : t.val % 8 = 0
  · rw [outsAt0_A m c t h]
    frame_out
    exact tile m c t r l
  · rw [outsAt0_B m c t h]
    frame_out
    exact tile m c t r l

/-- What a tile adds to the accumulated output. -/
theorem add (c : Dev nD) (t : Fin cfg0.N) (b : S1x1024.Idx → EReal) (r : Fin 1) (l : Fin 1024) :
    k0_pay6 (F := Ideal) (B7 m c t) (B5 m c t) (prods (B0 m c t) (B1 m c t) (B2 m c t) (B3 m c t) (B4 m c t) (B6 m c t))
      (View.ld (Val := Elt Ideal) (e' := .bf16) (B6 m c t) (Rect.unit ![2560, 0] ![256, 1024] inb_S2816x1024_S256x1024_2560_0)) b (ix2 r l)
      = b (ix2 r l) + ∑ x : Fin 512, dwRow (n := 512) (B0 m c t) (B1 m c t) (B2 m c t) (B3 m c t) (B4 m c t) (B5 m c t) (B6 m c t) (B7 m c t) x l := by
  rw [pay6]
  exact congrArg (b (ix2 r l) + ·) (Finset.sum_congr rfl fun x _ => congrArg (· * Rms.hat (line (n := 512) (B7 m c t) x) l) (prods_eq _ _ _ _ _ _ _ x l))

/-- The accumulated output after the last point is the sum over all rows. -/
theorem acc_eq (c : Dev nD) (j : S1x1024.Idx) : (outsAt0 m c t0_7.val t0_7.isLt).2 j = DW m c j := by
  rw [Pipeline.eq_sum_fin_of_reset_step_apply_last (fun n h => (outsAt0 m c n h).2) 8 (fun _ => 0)
      (fun t j => ∑ r : Fin 512, dwRow (n := 512) (B0 m c t) (B1 m c t) (B2 m c t) (B3 m c t) (B4 m c t) (B5 m c t) (B6 m c t) (B7 m c t) r (j 1))
      (fun t h j => by
        idx_vars j
        rw [outsAt0_A m c t h]
        frame_out
        refine (add m c t _ j0 j1).trans ?_
        rw [pay5])
      (fun t h j => by
        idx_vars j
        rw [outsAt0_B m c t h]
        frame_out
        exact add m c t _ j0 j1)
      (le_of_eq N_0) t0_7 rfl j, zero_add]
  unfold DW dw
  refine Fin.sum_mul_add_congr fun s k hl => ?_
  exact (dw_blk m c s k (j 1)).trans rfl

theorem arr10 (c : Dev nD) : (dats m 0 c).arrAt 10 cfg0.N = DX m c :=
  (dats m 0 c).arrAt_eq_of_covers 10 _ (by decide +kernel) fun t hf y => by
    blk_simp
    rw [after0_10]
    refine (congrArg _ (eq_ix2 (n0 := 512) (n1 := 1024) y)).trans ((out10 m c t (y 0) (y 1)).trans (congrArg (DX m c)
      (show ix2 (row t (y 0)) (y 1) = _ from ?_)))
    blk_ext [(idx t).2.2.2.2.2.2.2.2.2.2, row]

theorem arr11 (c : Dev nD) : (dats m 0 c).arrAt 11 cfg0.N = DW m c :=
  (dats m 0 c).arrAt_eq_of_after_last 11 t0_7 (by decide +kernel) _ fun j => by
    blk_simp
    rw [after0_11, acc_eq]

end Blocks

section Reference
open Cert.InBackRefIdeal.Read
variable (x0 x1 x2 x3 x4 : S4096x512.Idx → EReal) (x5 : (⟨2, ![4096, 256]⟩ : Shape).Idx → EReal) (x6 : S2816x1024.Idx → EReal)
  (x7 x8 : S4096x1024.Idx → EReal) (x9 : S1x1024.Idx → EReal)

theorem refdy (r : Fin 4096) (l : Fin 1024) : val_main_v25 (F := Ideal) x0 x1 x2 x3 x4 x5 x6 (ix2 r l) = dy (n := 4096) x0 x1 x2 x3 x4 x5 x6 r l := by
  pointwise [val_main_v0, val_main_v1, val_main_v2, val_main_v3, val_main_v4, val_main_v5, val_main_v6, val_main_v22, val_main_v23, val_main_v25]
  exact sum_cat x0 x1 x2 x3 x4 x5 (fun k => x6 (ix2 k l)) r

theorem refdw : val_main_v28 (F := Ideal) x0 x1 x2 x3 x4 x5 x6 x7 = dw x0 x1 x2 x3 x4 x5 x6 x7 := by
  funext i
  idx_vars i
  have hd := refdy x0 x1 x2 x3 x4 x5 x6
  generalize hg : val_main_v25 (F := Ideal) x0 x1 x2 x3 x4 x5 x6 = g at hd
  unfold val_main_v28 val_main_v27 val_main_v26
  rw [hg]
  pointwise [val_main_v7, val_main_cst, val_main_v8, val_main_v9, val_main_cst_0, val_main_v10, val_main_v11, val_main_cst_1, val_main_v12, val_main_v13, val_main_v14, val_main_v15, val_main_cst_2, val_main_v16, val_main_v17, val_main_v18, val_main_v19, val_main_cst_3]
  exact Finset.sum_congr rfl fun x _ => (mul_comm _ _).trans (congrArg (· * Rms.hat (line x7 x) i1) (hd x i1))

theorem dy_real (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (h6 : ∀ i, IsReal (x6 i)) (r : Fin 4096) (l : Fin 1024) :
    IsReal (dy (n := 4096) x0 x1 x2 x3 x4 x5 x6 r l) :=
  (((((IsReal.sum _ fun _ _ => (h0 _).mul (h6 _)).add (IsReal.sum _ fun _ _ => (h1 _).mul (h6 _))).add (IsReal.sum _ fun _ _ => (h2 _).mul (h6 _))).add
    (IsReal.sum _ fun _ _ => (h3 _).mul (h6 _))).add (IsReal.sum _ fun _ _ => (h4 _).mul (h6 _))).add (IsReal.sum _ fun _ _ => (h5 _).mul (h6 _))

theorem refdx (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (h6 : ∀ i, IsReal (x6 i))
    (h7 : ∀ i, IsReal (x7 i)) (h9 : ∀ i, IsReal (x9 i)) :
    val_main_v45 (F := Ideal) x0 x1 x2 x3 x4 x5 x6 x7 x8 x9 = dx (n := 4096) x0 x1 x2 x3 x4 x5 x6 x7 x8 x9 := by
  funext i
  idx_vars i
  have hd := refdy x0 x1 x2 x3 x4 x5 x6
  unfold val_main_v45 val_main_v44 val_main_v43 val_main_v42 val_main_v41 val_main_v40 val_main_v39 val_main_v37 val_main_v36 val_main_v35 val_main_v33 val_main_v32 val_main_v31 val_main_v30
  generalize val_main_v25 (F := Ideal) x0 x1 x2 x3 x4 x5 x6 = g at hd
  pointwise [val_main_v7, val_main_cst, val_main_v8, val_main_v9, val_main_cst_0, val_main_v10, val_main_v11, val_main_cst_1, val_main_v12, val_main_v13, val_main_v14, val_main_v15, val_main_cst_2, val_main_v16, val_main_v17, val_main_v18, val_main_v19, val_main_v24, val_main_v25, val_main_v26, val_main_cst_3, val_main_v27, val_main_v28, val_main_v29, val_main_v30, val_main_v31, val_main_cst_4, val_main_v32, val_main_v33, val_main_v34, val_main_v35, val_main_v36, val_main_v37, val_main_cst_5, val_main_v38, val_main_v39, val_main_cst_6, val_main_v40, val_main_v41, val_main_v42, val_main_v43, val_main_v44, val_main_v45]
  simp only [hd, Fin.sum_univ_one]
  have e := Rms.bwd_eq (h := line x7 i0) (w := line x9 0) (dy := dy (n := 4096) x0 x1 x2 x3 x4 x5 x6 i0) (fun _ => h7 _) (fun _ => h9 _)
    (fun l => dy_real x0 x1 x2 x3 x4 x5 x6 h0 h1 h2 h3 h4 h5 h6 i0 l) i1
  refine Eq.trans ?_ (congrArg (· + x8 (ix2 i0 i1)) e)
  rw [add_comm _ (x8 (ix2 i0 i1)), ← add_assoc, ← add_assoc]
  rfl

end Reference

/-- The precondition says that nine of the arguments hold real numbers. -/
theorem pre_real (m : (ℓ : Loc nD τ sig) → Buf (Elt Ideal) ℓ) (c : Dev nD) (h : Cert.Pre_InBackIdeal_in_finite m) :
    (∀ i, IsReal ((m ((c : Thread nD τ).loc main_arg0)) i)) ∧ (∀ i, IsReal ((m ((c : Thread nD τ).loc main_arg1)) i)) ∧ (∀ i, IsReal ((m ((c : Thread nD τ).loc main_arg2)) i)) ∧ (∀ i, IsReal ((m ((c : Thread nD τ).loc main_arg3)) i)) ∧ (∀ i, IsReal ((m ((c : Thread nD τ).loc main_arg4)) i)) ∧ (∀ i, IsReal ((m ((c : Thread nD τ).loc main_arg5)) i)) ∧ (∀ i, IsReal ((m ((c : Thread nD τ).loc main_arg6)) i)) ∧ (∀ i, IsReal ((m ((c : Thread nD τ).loc main_arg7)) i)) ∧ (∀ i, IsReal ((m ((c : Thread nD τ).loc main_arg9)) i)) := by
  have h := h c
  exact ⟨fun i => IsReal.of_abs_lt ((Ideal.cmp_olt_eq_one _ _).1 (congrFun h.1 i)), fun i => IsReal.of_abs_lt ((Ideal.cmp_olt_eq_one _ _).1 (congrFun h.2.1 i)), fun i => IsReal.of_abs_lt ((Ideal.cmp_olt_eq_one _ _).1 (congrFun h.2.2.1 i)), fun i => IsReal.of_abs_lt ((Ideal.cmp_olt_eq_one _ _).1 (congrFun h.2.2.2.1 i)), fun i => IsReal.of_abs_lt ((Ideal.cmp_olt_eq_one _ _).1 (congrFun h.2.2.2.2.1 i)), fun i => IsReal.of_abs_lt ((Ideal.cmp_olt_eq_one _ _).1 (congrFun h.2.2.2.2.2.1 i)), fun i => IsReal.of_abs_lt ((Ideal.cmp_olt_eq_one _ _).1 (congrFun h.2.2.2.2.2.2.1 i)), fun i => IsReal.of_abs_lt ((Ideal.cmp_olt_eq_one _ _).1 (congrFun h.2.2.2.2.2.2.2.1 i)), fun i => IsReal.of_abs_lt ((Ideal.cmp_olt_eq_one _ _).1 (congrFun h.2.2.2.2.2.2.2.2 i))⟩

/-- Kernel and reference end with the same rows' and weights' gradients. -/
theorem algebraic : Cert.algebraic_InBackIdeal_InBackRefIdeal_pre_in_finite := by
  intro m g m' g' hp hm
  refine ⟨fun c => DX m c, fun c => DW m c, ?_, ?_⟩
  · exact (θ_run defs _ _).mono (fun r h c => ⟨(h c).1.trans (arr10 m c), (h c).2.1.trans (arr11 m c),
      (h c).2.2⟩) (Cert.InBackIdeal.Value.run_blocks m g)
  · refine (θ_run Cert.InBackRefIdeal.defs _ _).mono (fun r h c => ?_) (Cert.InBackRefIdeal.Value.run m' g')
    obtain ⟨a0, a1, a2, a3, a4, a5, a6, a7, a8, a9⟩ := hm c
    obtain ⟨p0, p1, p2, p3, p4, p5, p6, p7, p9⟩ := pre_real m c hp
    refine ⟨(h c).1.trans ?_, (h c).2.1.trans ?_, (h c).2.2⟩
    · rw [Cert.InBackRefIdeal.Read.val_main_v45_eq, a0, a1, a2, a3, a4, a5, a6, a7, a8, a9]
      exact refdx _ _ _ _ _ _ _ _ _ _ p0 p1 p2 p3 p4 p5 p6 p7 p9
    · rw [Cert.InBackRefIdeal.Read.val_main_v28_eq, a0, a1, a2, a3, a4, a5, a6, a7]
      exact refdw _ _ _ _ _ _ _ _

/-- The reference is a straight-line host program without semaphores. -/
theorem frame_ref : Cert.quiescent_InBackRefIdeal := fun m ρ _ =>
  (θ_run Cert.InBackRefIdeal.defs _ _).mono (fun r h => ⟨fun c => (h c).2.2, sem_eq_zero_of_no_sems (by decide) r.2⟩)
    (Cert.InBackRefIdeal.Value.run m ρ)

end Cert.InBackIdeal.Hand

end
-- ==== Proof.InGradValue.lean ====
/-
  The gradient of the input projection's weights: six row blocks added into one accumulator over four tiles of rows, and the reference's product with the six blocks side by side.
-/
module

public import proofs.«01_k».proof.Defs
public import proofs.«01_k».proof.Proof.SixBlocks
public import proofs.«01_k».proof.Proof.Gen.InGradIdeal.Value
public import proofs.«01_k».proof.Proof.Gen.InGradRefIdeal.Run
public import proofs.«01_k».proof.Proof.Gen.InGradRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.InGradIdeal.Hand

open Cert.InGradIdeal Cert.InGradIdeal.Gen Cert.Six
open Idealize.ShloMosaic Idealize.ShloMosaic.TcCoe Idealize.SL.Sem

/-- The sum over the rows of a block of rows, of an entry of the six blocks side by side times an entry of the operand. -/
def part {n : ℕ} (p0 p1 p2 p3 p4 : (⟨2, ![n, 512]⟩ : Shape).Idx → EReal) (p5 : (⟨2, ![n, 256]⟩ : Shape).Idx → EReal)
    (u : (⟨2, ![n, 1024]⟩ : Shape).Idx → EReal) (r : Fin 2816) (l : Fin 1024) : EReal :=
  ∑ k : Fin n, cat p0 p1 p2 p3 p4 p5 k r * u (ix2 k l)

theorem pay6 (u : Vec Ideal S1024x1024 .bf16) (acc : Vec Ideal S512x1024 .f32) (p : Vec Ideal S1024x512 .bf16) (r : Fin 512) (l : Fin 1024) :
    k0_pay6 (F := Ideal) u acc p (ix2 r l) = acc (ix2 r l) + ∑ k : Fin 1024, p (ix2 k r) * u (ix2 k l) := by
  pointwise [k0_pay6]
theorem pay7 (u : Vec Ideal S1024x1024 .bf16) (acc : Vec Ideal S512x1024 .f32) (p : Vec Ideal S1024x512 .bf16) (r : Fin 512) (l : Fin 1024) :
    k0_pay7 (F := Ideal) u acc p (ix2 r l) = acc (ix2 r l) + ∑ k : Fin 1024, p (ix2 k r) * u (ix2 k l) := by
  pointwise [k0_pay7]
theorem pay8 (u : Vec Ideal S1024x1024 .bf16) (acc : Vec Ideal S512x1024 .f32) (p : Vec Ideal S1024x512 .bf16) (r : Fin 512) (l : Fin 1024) :
    k0_pay8 (F := Ideal) u acc p (ix2 r l) = acc (ix2 r l) + ∑ k : Fin 1024, p (ix2 k r) * u (ix2 k l) := by
  pointwise [k0_pay8]
theorem pay1 (u : Vec Ideal S1024x1024 .bf16) (acc : Vec Ideal S512x1024 .f32) (p : Vec Ideal S1024x512 .bf16) (r : Fin 512) (l : Fin 1024) :
    k0_pay1 (F := Ideal) u acc p (ix2 r l) = acc (ix2 r l) + ∑ k : Fin 1024, p (ix2 k r) * u (ix2 k l) := by
  pointwise [k0_pay1]
theorem pay2 (u : Vec Ideal S1024x1024 .bf16) (acc : Vec Ideal S512x1024 .f32) (p : Vec Ideal S1024x512 .bf16) (r : Fin 512) (l : Fin 1024) :
    k0_pay2 (F := Ideal) u acc p (ix2 r l) = acc (ix2 r l) + ∑ k : Fin 1024, p (ix2 k r) * u (ix2 k l) := by
  pointwise [k0_pay2]
theorem pay3 (u : Vec Ideal S1024x1024 .bf16) (acc : Vec Ideal S256x1024 .f32) (p : Vec Ideal S1024x256 .bf16) (r : Fin 256) (l : Fin 1024) :
    k0_pay3 (F := Ideal) u acc p (ix2 r l) = acc (ix2 r l) + ∑ k : Fin 1024, p (ix2 k r) * u (ix2 k l) := by
  pointwise [k0_pay3]
theorem pay5 (i : S2816x1024.Idx) : k0_pay5 (F := Ideal) i = 0 := by
  pointwise [k0_pay5]
theorem pay4 (v : Vec Ideal S2816x1024 .f32) (r : Fin 2816) (l : Fin 1024) : k0_pay4 (F := Ideal) v (ix2 r l) = v (ix2 r l) := by
  pointwise [k0_pay4]

/-- The six stores of a tile, each its block's product over what the accumulator held there. -/
def stores (acc : S2816x1024.Idx → EReal) (p0 p1 p2 p3 p4 : S1024x512.Idx → EReal) (p5 : S1024x256.Idx → EReal) (u : S1024x1024.Idx → EReal) :
    List (View.Piece (Elt Ideal) S2816x1024 .f32) :=
  [⟨(Rect.unit ![2560, 0] ![256, 1024] inb_S2816x1024_S256x1024_2560_0), k0_pay3 (F := Ideal) u (View.ld (Val := Elt Ideal) (e' := .f32) acc (Rect.unit ![2560, 0] ![256, 1024] inb_S2816x1024_S256x1024_2560_0)) p5⟩, ⟨(Rect.unit ![2048, 0] ![512, 1024] inb_S2816x1024_S512x1024_2048_0), k0_pay2 (F := Ideal) u (View.ld (Val := Elt Ideal) (e' := .f32) acc (Rect.unit ![2048, 0] ![512, 1024] inb_S2816x1024_S512x1024_2048_0)) p4⟩, ⟨(Rect.unit ![1536, 0] ![512, 1024] inb_S2816x1024_S512x1024_1536_0), k0_pay1 (F := Ideal) u (View.ld (Val := Elt Ideal) (e' := .f32) acc (Rect.unit ![1536, 0] ![512, 1024] inb_S2816x1024_S512x1024_1536_0)) p3⟩, ⟨(Rect.unit ![1024, 0] ![512, 1024] inb_S2816x1024_S512x1024_1024_0), k0_pay8 (F := Ideal) u (View.ld (Val := Elt Ideal) (e' := .f32) acc (Rect.unit ![1024, 0] ![512, 1024] inb_S2816x1024_S512x1024_1024_0)) p2⟩, ⟨(Rect.unit ![512, 0] ![512, 1024] inb_S2816x1024_S512x1024_512_0), k0_pay7 (F := Ideal) u (View.ld (Val := Elt Ideal) (e' := .f32) acc (Rect.unit ![512, 0] ![512, 1024] inb_S2816x1024_S512x1024_512_0)) p1⟩, ⟨(Rect.unit ![0, 0] ![512, 1024] inb_S2816x1024_S512x1024_0_0), k0_pay6 (F := Ideal) u (View.ld (Val := Elt Ideal) (e' := .f32) acc (Rect.unit ![0, 0] ![512, 1024] inb_S2816x1024_S512x1024_0_0)) p0⟩]

/-- Each store is a block of rows of one array. -/
theorem pieces (acc : S2816x1024.Idx → EReal) (p0 p1 p2 p3 p4 : S1024x512.Idx → EReal) (p5 : S1024x256.Idx → EReal) (u : S1024x1024.Idx → EReal) :
    View.PiecesOf (fun i => acc i + part (n := 1024) p0 p1 p2 p3 p4 p5 u (i 0) (i 1)) (stores acc p0 p1 p2 p3 p4 p5 u) := by
  unfold stores
  refine ⟨?_, ?_, ?_, ?_, ?_, ?_, trivial⟩
  · intro x
    have hx : (x 0).val < 256 := (x 0).isLt
    refine (congrArg _ (eq_ix2 (n0 := 256) (n1 := 1024) x)).trans ((pay3 u _ p5 (x 0) (x 1)).trans (congrArg₂ (· + ·) ?_ ?_))
    · exact congrArg (fun y => acc ((Rect.unit ![2560, 0] ![256, 1024] inb_S2816x1024_S256x1024_2560_0).idx y)) (eq_ix2 (n0 := 256) (n1 := 1024) x).symm
    · refine Finset.sum_congr rfl fun k _ => congrArg₂ (· * ·) ?_ ?_
      · refine (cat5 p0 p1 p2 p3 p4 p5 k (x 0)).symm.trans (congrArg (cat p0 p1 p2 p3 p4 p5 k) (Fin.ext ?_))
        show 2560 + (x 0).val = 2560 + 1 * (x 0).val
        omega
      · exact congrArg (fun q => u (ix2 k q)) (Fin.ext (show (x 1).val = 0 + 1 * (x 1).val by omega))
  · intro x
    have hx : (x 0).val < 512 := (x 0).isLt
    refine (congrArg _ (eq_ix2 (n0 := 512) (n1 := 1024) x)).trans ((pay2 u _ p4 (x 0) (x 1)).trans (congrArg₂ (· + ·) ?_ ?_))
    · exact congrArg (fun y => acc ((Rect.unit ![2048, 0] ![512, 1024] inb_S2816x1024_S512x1024_2048_0).idx y)) (eq_ix2 (n0 := 512) (n1 := 1024) x).symm
    · refine Finset.sum_congr rfl fun k _ => congrArg₂ (· * ·) ?_ ?_
      · refine (cat4 p0 p1 p2 p3 p4 p5 k (x 0)).symm.trans (congrArg (cat p0 p1 p2 p3 p4 p5 k) (Fin.ext ?_))
        show 2048 + (x 0).val = 2048 + 1 * (x 0).val
        omega
      · exact congrArg (fun q => u (ix2 k q)) (Fin.ext (show (x 1).val = 0 + 1 * (x 1).val by omega))
  · intro x
    have hx : (x 0).val < 512 := (x 0).isLt
    refine (congrArg _ (eq_ix2 (n0 := 512) (n1 := 1024) x)).trans ((pay1 u _ p3 (x 0) (x 1)).trans (congrArg₂ (· + ·) ?_ ?_))
    · exact congrArg (fun y => acc ((Rect.unit ![1536, 0] ![512, 1024] inb_S2816x1024_S512x1024_1536_0).idx y)) (eq_ix2 (n0 := 512) (n1 := 1024) x).symm
    · refine Finset.sum_congr rfl fun k _ => congrArg₂ (· * ·) ?_ ?_
      · refine (cat3 p0 p1 p2 p3 p4 p5 k (x 0)).symm.trans (congrArg (cat p0 p1 p2 p3 p4 p5 k) (Fin.ext ?_))
        show 1536 + (x 0).val = 1536 + 1 * (x 0).val
        omega
      · exact congrArg (fun q => u (ix2 k q)) (Fin.ext (show (x 1).val = 0 + 1 * (x 1).val by omega))
  · intro x
    have hx : (x 0).val < 512 := (x 0).isLt
    refine (congrArg _ (eq_ix2 (n0 := 512) (n1 := 1024) x)).trans ((pay8 u _ p2 (x 0) (x 1)).trans (congrArg₂ (· + ·) ?_ ?_))
    · exact congrArg (fun y => acc ((Rect.unit ![1024, 0] ![512, 1024] inb_S2816x1024_S512x1024_1024_0).idx y)) (eq_ix2 (n0 := 512) (n1 := 1024) x).symm
    · refine Finset.sum_congr rfl fun k _ => congrArg₂ (· * ·) ?_ ?_
      · refine (cat2 p0 p1 p2 p3 p4 p5 k (x 0)).symm.trans (congrArg (cat p0 p1 p2 p3 p4 p5 k) (Fin.ext ?_))
        show 1024 + (x 0).val = 1024 + 1 * (x 0).val
        omega
      · exact congrArg (fun q => u (ix2 k q)) (Fin.ext (show (x 1).val = 0 + 1 * (x 1).val by omega))
  · intro x
    have hx : (x 0).val < 512 := (x 0).isLt
    refine (congrArg _ (eq_ix2 (n0 := 512) (n1 := 1024) x)).trans ((pay7 u _ p1 (x 0) (x 1)).trans (congrArg₂ (· + ·) ?_ ?_))
    · exact congrArg (fun y => acc ((Rect.unit ![512, 0] ![512, 1024] inb_S2816x1024_S512x1024_512_0).idx y)) (eq_ix2 (n0 := 512) (n1 := 1024) x).symm
    · refine Finset.sum_congr rfl fun k _ => congrArg₂ (· * ·) ?_ ?_
      · refine (cat1 p0 p1 p2 p3 p4 p5 k (x 0)).symm.trans (congrArg (cat p0 p1 p2 p3 p4 p5 k) (Fin.ext ?_))
        show 512 + (x 0).val = 512 + 1 * (x 0).val
        omega
      · exact congrArg (fun q => u (ix2 k q)) (Fin.ext (show (x 1).val = 0 + 1 * (x 1).val by omega))
  · intro x
    have hx : (x 0).val < 512 := (x 0).isLt
    refine (congrArg _ (eq_ix2 (n0 := 512) (n1 := 1024) x)).trans ((pay6 u _ p0 (x 0) (x 1)).trans (congrArg₂ (· + ·) ?_ ?_))
    · exact congrArg (fun y => acc ((Rect.unit ![0, 0] ![512, 1024] inb_S2816x1024_S512x1024_0_0).idx y)) (eq_ix2 (n0 := 512) (n1 := 1024) x).symm
    · refine Finset.sum_congr rfl fun k _ => congrArg₂ (· * ·) ?_ ?_
      · refine (cat0 p0 p1 p2 p3 p4 p5 k (x 0)).symm.trans (congrArg (cat p0 p1 p2 p3 p4 p5 k) (Fin.ext ?_))
        show (x 0).val = 0 + 1 * (x 0).val
        omega
      · exact congrArg (fun q => u (ix2 k q)) (Fin.ext (show (x 1).val = 0 + 1 * (x 1).val by omega))

/-- The stores' rows are all the rows. -/
theorem cover (acc : S2816x1024.Idx → EReal) (p0 p1 p2 p3 p4 : S1024x512.Idx → EReal) (p5 : S1024x256.Idx → EReal) (u : S1024x1024.Idx → EReal) (r : Fin 2816) (l : Fin 1024) :
    ∃ p ∈ stores acc p0 p1 p2 p3 p4 p5 u, ix2 r l ∈ p.1.set := by
  unfold stores
  have hr := r.isLt
  have hl := l.isLt
  by_cases h5 : 2560 ≤ r.val
  · refine ⟨_, List.mem_cons_self, (Rect.mem_set_unit (inb := inb_S2816x1024_S256x1024_2560_0)).2 fun a => ?_⟩
    fin_cases a
    · exact ⟨h5, show r.val < 2560 + 256 by omega⟩
    · exact ⟨Nat.zero_le _, show l.val < 0 + 1024 by omega⟩
  by_cases h4 : 2048 ≤ r.val
  · refine ⟨_, List.mem_cons_of_mem _ (List.mem_cons_self), (Rect.mem_set_unit (inb := inb_S2816x1024_S512x1024_2048_0)).2 fun a => ?_⟩
    fin_cases a
    · exact ⟨h4, show r.val < 2048 + 512 by omega⟩
    · exact ⟨Nat.zero_le _, show l.val < 0 + 1024 by omega⟩
  by_cases h3 : 1536 ≤ r.val
  · refine ⟨_, List.mem_cons_of_mem _ (List.mem_cons_of_mem _ (List.mem_cons_self)), (Rect.mem_set_unit (inb := inb_S2816x1024_S512x1024_1536_0)).2 fun a => ?_⟩
    fin_cases a
    · exact ⟨h3, show r.val < 1536 + 512 by omega⟩
    · exact ⟨Nat.zero_le _, show l.val < 0 + 1024 by omega⟩
  by_cases h2 : 1024 ≤ r.val
  · refine ⟨_, List.mem_cons_of_mem _ (List.mem_cons_of_mem _ (List.mem_cons_of_mem _ (List.mem_cons_self))), (Rect.mem_set_unit (inb := inb_S2816x1024_S512x1024_1024_0)).2 fun a => ?_⟩
    fin_cases a
    · exact ⟨h2, show r.val < 1024 + 512 by omega⟩
    · exact ⟨Nat.zero_le _, show l.val < 0 + 1024 by omega⟩
  by_cases h1 : 512 ≤ r.val
  · refine ⟨_, List.mem_cons_of_mem _ (List.mem_cons_of_mem _ (List.mem_cons_of_mem _ (List.mem_cons_of_mem _ (List.mem_cons_self)))), (Rect.mem_set_unit (inb := inb_S2816x1024_S512x1024_512_0)).2 fun a => ?_⟩
    fin_cases a
    · exact ⟨h1, show r.val < 512 + 512 by omega⟩
    · exact ⟨Nat.zero_le _, show l.val < 0 + 1024 by omega⟩
  refine ⟨_, List.mem_cons_of_mem _ (List.mem_cons_of_mem _ (List.mem_cons_of_mem _ (List.mem_cons_of_mem _ (List.mem_cons_of_mem _ (List.mem_cons_self))))), (Rect.mem_set_unit (inb := inb_S2816x1024_S512x1024_0_0)).2 fun a => ?_⟩
  fin_cases a
  · exact ⟨Nat.zero_le _, show r.val < 0 + 512 by omega⟩
  · exact ⟨Nat.zero_le _, show l.val < 0 + 1024 by omega⟩

/-- After the six stores the accumulator holds, at every entry, what it held and the tile's part. -/
theorem stores_eq (acc : S2816x1024.Idx → EReal) (p0 p1 p2 p3 p4 : S1024x512.Idx → EReal) (p5 : S1024x256.Idx → EReal) (u : S1024x1024.Idx → EReal)
    (L : List (View.Piece (Elt Ideal) S2816x1024 .f32)) (r : Fin 2816) (l : Fin 1024) :
    View.canon (stores acc p0 p1 p2 p3 p4 p5 u ++ L) (ix2 r l) = acc (ix2 r l) + part (n := 1024) p0 p1 p2 p3 p4 p5 u r l := by
  exact (View.canon_append_of_piecesOf (fun i => acc i + part (n := 1024) p0 p1 p2 p3 p4 p5 u (i 0) (i 1)) L _ (pieces acc p0 p1 p2 p3 p4 p5 u)
    (ix2 r l) (cover acc p0 p1 p2 p3 p4 p5 u r l)).trans rfl

section Blocks
variable (m : (ℓ : Loc nD τ sig) → Buf (Elt Ideal) ℓ)
abbrev B0 (c : Dev nD) (t : Fin cfg0.N) : S1024x512.Idx → EReal := iblk m c 0 t
abbrev B1 (c : Dev nD) (t : Fin cfg0.N) : S1024x512.Idx → EReal := iblk m c 1 t
abbrev B2 (c : Dev nD) (t : Fin cfg0.N) : S1024x512.Idx → EReal := iblk m c 2 t
abbrev B3 (c : Dev nD) (t : Fin cfg0.N) : S1024x512.Idx → EReal := iblk m c 3 t
abbrev B4 (c : Dev nD) (t : Fin cfg0.N) : S1024x512.Idx → EReal := iblk m c 4 t
abbrev B5 (c : Dev nD) (t : Fin cfg0.N) : S1024x256.Idx → EReal := iblk m c 5 t
abbrev B6 (c : Dev nD) (t : Fin cfg0.N) : S1024x1024.Idx → EReal := iblk m c 6 t

theorem stepA (c : Dev nD) (t : Fin cfg0.N) (h : t.val % 4 = 0) (h' : ¬ t.val % 4 = 3) (r : Fin 2816) (l : Fin 1024) :
    (outsAt0 m c t.val t.isLt).2 (ix2 r l) = 0 + part (n := 1024) (B0 m c t) (B1 m c t) (B2 m c t) (B3 m c t) (B4 m c t) (B5 m c t) (B6 m c t) r l := by
  rw [outsAt0_A m c t h h']
  frame_out
  simp (disch := decide) only [↓View.readCov_skip, View.readCov_fill]
  refine (stores_eq (k0_pay5 (F := Ideal)) (B0 m c t) (B1 m c t) (B2 m c t) (B3 m c t) (B4 m c t) (B5 m c t) (B6 m c t) _ r l).trans ?_
  rw [pay5]

theorem stepB (c : Dev nD) (t : Fin cfg0.N) (h : ¬ t.val % 4 = 0) (h' : ¬ t.val % 4 = 3) (r : Fin 2816) (l : Fin 1024) :
    (outsAt0 m c t.val t.isLt).2 (ix2 r l)
      = (outsAt0 m c (t.val - 1) (Nat.lt_of_le_of_lt (Nat.sub_le _ _) t.isLt)).2 (ix2 r l) + part (n := 1024) (B0 m c t) (B1 m c t) (B2 m c t) (B3 m c t) (B4 m c t) (B5 m c t) (B6 m c t) r l := by
  rw [outsAt0_B m c t h h']
  frame_out
  simp only [read_unread_whole]
  exact stores_eq _ (B0 m c t) (B1 m c t) (B2 m c t) (B3 m c t) (B4 m c t) (B5 m c t) (B6 m c t) [] r l

theorem stepC (c : Dev nD) (t : Fin cfg0.N) (h : ¬ t.val % 4 = 0) (h' : t.val % 4 = 3) (r : Fin 2816) (l : Fin 1024) :
    (outsAt0 m c t.val t.isLt).2 (ix2 r l)
      = (outsAt0 m c (t.val - 1) (Nat.lt_of_le_of_lt (Nat.sub_le _ _) t.isLt)).2 (ix2 r l) + part (n := 1024) (B0 m c t) (B1 m c t) (B2 m c t) (B3 m c t) (B4 m c t) (B5 m c t) (B6 m c t) r l := by
  rw [outsAt0_C m c t h h']
  frame_out
  simp only [read_unread_whole]
  exact stores_eq _ (B0 m c t) (B1 m c t) (B2 m c t) (B3 m c t) (B4 m c t) (B5 m c t) (B6 m c t) [] r l

theorem out_eq (c : Dev nD) (r : Fin 2816) (l : Fin 1024) :
    (outsAt0 m c t0_3.val t0_3.isLt).1 (ix2 r l) = (outsAt0 m c t0_3.val t0_3.isLt).2 (ix2 r l) := by
  rw [outsAt0_C m c t0_3 (by decide) (by decide)]
  frame_out
  refine (pay4 _ r l).trans ?_
  rw [View.readCov_eq_canon']
  refine congrArg (View.canon _) (funext fun a => Fin.ext ?_)
  fin_cases a
  · show 0 + 1 * r.val = r.val
    omega
  · show 0 + 1 * l.val = l.val
    omega

/-- The block indices: the point's tile of rows. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0])

/-- The gradient of the weights, as a function of the arguments. -/
def DW (c : Dev nD) : S2816x1024.Idx → EReal := fun i => part (n := 4096) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (i 1)

/-- A tile's row, as a row of the whole array. -/
def row (t : Fin cfg0.N) (r : Fin 1024) : Fin 4096 :=
  ⟨t.val * 1024 + r.val, by have h := lt_of_lt_of_eq t.isLt N_0; omega⟩

theorem cat_blk (c : Dev nD) (t : Fin cfg0.N) (k : Fin 1024) (r : Fin 2816) :
    cat (n := 1024) (B0 m c t) (B1 m c t) (B2 m c t) (B3 m c t) (B4 m c t) (B5 m c t) k r = cat (n := 4096) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row t k) r := by
  unfold cat
  split_ifs
  · blk_ext [B0, Gen.iblk, Gen.V, (idx t).1, row]
  · blk_ext [B1, Gen.iblk, Gen.V, (idx t).2.1, row]
  · blk_ext [B2, Gen.iblk, Gen.V, (idx t).2.2.1, row]
  · blk_ext [B3, Gen.iblk, Gen.V, (idx t).2.2.2.1, row]
  · blk_ext [B4, Gen.iblk, Gen.V, (idx t).2.2.2.2.1, row]
  · blk_ext [B5, Gen.iblk, Gen.V, (idx t).2.2.2.2.2.1, row]

theorem u_blk (c : Dev nD) (t : Fin cfg0.N) (k : Fin 1024) (l : Fin 1024) :
    B6 m c t (ix2 k l) = (m ((c : Thread nD τ).loc main_arg6)) (ix2 (row t k) l) := by
  blk_ext [B6, Gen.iblk, Gen.V, (idx t).2.2.2.2.2.2, row]

/-- The accumulator after the last point is the sum over all rows. -/
theorem acc_eq (c : Dev nD) (j : S2816x1024.Idx) : (outsAt0 m c t0_3.val t0_3.isLt).2 j = DW m c j := by
  rw [Pipeline.eq_sum_fin_of_reset_step_apply_last (fun n h => (outsAt0 m c n h).2) 4 (fun _ => 0)
      (fun t j => part (n := 1024) (B0 m c t) (B1 m c t) (B2 m c t) (B3 m c t) (B4 m c t) (B5 m c t) (B6 m c t) (j 0) (j 1))
      (fun t h j => by
        idx_vars j
        exact stepA m c t h (by omega) j0 j1)
      (fun t h j => by
        idx_vars j
        by_cases h3 : t.val % 4 = 3
        · exact stepC m c t h h3 j0 j1
        · exact stepB m c t h h3 j0 j1)
      (le_of_eq N_0) t0_3 rfl j, zero_add]
  unfold DW part
  refine Fin.sum_mul_add_congr fun s k hl => ?_
  exact (congrArg₂ (· * ·) (cat_blk m c s k (j 0)) (u_blk m c s k (j 1))).trans rfl

theorem arr7 (c : Dev nD) : (dats m 0 c).arrAt 7 cfg0.N = DW m c :=
  (dats m 0 c).arrAt_eq_of_after_last 7 t0_3 (by decide +kernel) _ fun j => by
    blk_simp
    rw [after0_7]
    refine (congrArg _ (eq_ix2 (n0 := 2816) (n1 := 1024) j)).trans ((out_eq m c (j 0) (j 1)).trans ?_)
    exact (acc_eq m c _).trans (congrArg (DW m c) (eq_ix2 (n0 := 2816) (n1 := 1024) j).symm)

end Blocks

open Cert.InGradRefIdeal.Read in
theorem ref (x0 x1 x2 x3 x4 : S4096x512.Idx → EReal) (x5 : (⟨2, ![4096, 256]⟩ : Shape).Idx → EReal) (x6 : S4096x1024.Idx → EReal) :
    val_main_v14 (F := Ideal) x0 x1 x2 x3 x4 x5 x6 = fun i => part (n := 4096) x0 x1 x2 x3 x4 x5 x6 (i 0) (i 1) := by
  funext i
  idx_vars i
  pointwise [val_main_v0, val_main_v1, val_main_v2, val_main_v3, val_main_v4, val_main_v5, val_main_v6, val_main_cst, val_main_v7, val_main_v8, val_main_v9, val_main_v10, val_main_v11, val_main_v12, val_main_v13, val_main_v14]
  rfl

/-- Kernel and reference end with the same gradient. -/
theorem algebraic : Cert.algebraic_InGradIdeal_InGradRefIdeal := by
  intro m g m' g' _ hm
  refine ⟨fun c => DW m c, ?_, ?_⟩
  · exact (θ_run defs _ _).mono (fun r h c => ⟨(h c).1.trans (arr7 m c), (h c).2⟩) (Cert.InGradIdeal.Value.run_blocks m g)
  · refine (θ_run Cert.InGradRefIdeal.defs _ _).mono (fun r h c => ⟨(h c).1.trans ?_, (h c).2⟩) (Cert.InGradRefIdeal.Value.run m' g')
    obtain ⟨a0, a1, a2, a3, a4, a5, a6⟩ := hm c
    rw [Cert.InGradRefIdeal.Read.val_main_v14_eq, a0, a1, a2, a3, a4, a5, a6, ref]
    rfl

/-- The reference is a straight-line host program without semaphores. -/
theorem frame_ref : Cert.quiescent_InGradRefIdeal := fun m ρ _ =>
  (θ_run Cert.InGradRefIdeal.defs _ _).mono (fun r h => ⟨fun c => (h c).2, sem_eq_zero_of_no_sems (by decide) r.2⟩)
    (Cert.InGradRefIdeal.Value.run m ρ)

end Cert.InGradIdeal.Hand

end
-- ==== Proof.InProjValue.lean ====
/-
  The input projection: the kernel's five column slices of the product, and the reference's.
-/
module

public import proofs.«01_k».proof.Defs
public import proofs.«01_k».proof.Proof.Gen.InProjIdeal.Value
public import proofs.«01_k».proof.Proof.Gen.InProjRefIdeal.Run
public import proofs.«01_k».proof.Proof.Gen.InProjRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.InProjIdeal.Hand

open Cert.InProjIdeal Cert.InProjIdeal.Gen
open Idealize.ShloMosaic Idealize.ShloMosaic.TcCoe Idealize.SL.Sem

variable (m : (ℓ : Loc nD τ sig) → Buf (Elt Ideal) ℓ)

/-- The block indices: row tiles of the rows' operand and of the outputs, the whole weights. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![t.val, 0])

/-- An entry of the product of the rows with the weights' transpose. -/
def G (u : S4096x1024.Idx → EReal) (w : S2816x1024.Idx → EReal) (r : Fin 4096) (l : Fin 2816) : EReal :=
  ∑ k : Fin 1024, u (ix2 r k) * w (ix2 l k)

/-- A tile's row, as a row of the whole array. -/
def row (t : Fin cfg0.N) (r : Fin 512) : Fin 4096 :=
  ⟨t.val * 512 + r.val, by have h := lt_of_lt_of_eq t.isLt N_0; omega⟩

/-- The two inputs' blocks at a point, as arrays. -/
abbrev B0 (c : Dev nD) (t : Fin cfg0.N) : S512x1024.Idx → EReal := iblk m c 0 t
abbrev B1 (c : Dev nD) (t : Fin cfg0.N) : S2816x1024.Idx → EReal := iblk m c 1 t

/-- A product of a tile's row with a row of the weights. -/
theorem blk (c : Dev nD) (t : Fin cfg0.N) (r : Fin 512) (l : Fin 2816) :
    (∑ x : Fin 1024, B0 m c t (ix2 r x) * B1 m c t (ix2 l x))
      = G (m ((c : Thread nD τ).loc main_arg0)) (m ((c : Thread nD τ).loc main_arg1)) (row t r) l := by
  refine Finset.sum_congr rfl fun x _ => ?_
  congr 1 <;> blk_ext [B0, B1, Gen.iblk, Gen.V, (idx t).1, (idx t).2.1, row]

/-- The product's columns from `o` on. -/
def cols (u : S4096x1024.Idx → EReal) (w : S2816x1024.Idx → EReal) (o : ℕ) (ho : o + 512 ≤ 2816) : S4096x512.Idx → EReal :=
  fun i => G u w (i 0) ⟨o + (i 1).val, by have h : (i 1).val < 512 := (i 1).isLt; omega⟩

/-- The product's last 768 columns. -/
def lastCols (u : S4096x1024.Idx → EReal) (w : S2816x1024.Idx → EReal) : S4096x768.Idx → EReal :=
  fun i => G u w (i 0) ⟨2048 + (i 1).val, by have h : (i 1).val < 768 := (i 1).isLt; omega⟩

theorem pay2 (a : Vec Ideal S512x1024 .bf16) (b : Vec Ideal S2816x1024 .bf16) (r : Fin 512) (l : Fin 512) :
    k0_pay2 (F := Ideal) a b (ix2 r l) = ∑ x : Fin 1024, a (ix2 r x) * b (ix2 ⟨0 + l.val, by omega⟩ x) := by
  pointwise [k0_pay2, k0_pay1]

theorem arr2 (c : Dev nD) : (dats m 0 c).arrAt 2 cfg0.N =
    cols (m ((c : Thread nD τ).loc main_arg0)) (m ((c : Thread nD τ).loc main_arg1)) 0 (by decide) :=
  (dats m 0 c).arrAt_eq_of_covers 2 _ (by decide +kernel) fun t hf y => by
    blk_simp
    rw [after0_2]
    frame_out
    refine (congrArg _ (eq_ix2 (n0 := 512) (n1 := 512) y)).trans ((pay2 _ _ (y 0) (y 1)).trans ((blk m c t _ _).trans
      (congrArg (cols (m ((c : Thread nD τ).loc main_arg0)) (m ((c : Thread nD τ).loc main_arg1)) 0 (by decide))
        (show ix2 (row t (y 0)) (y 1) = _ from ?_))))
    blk_ext [(idx t).2.2.1, row]

theorem pay3 (a : Vec Ideal S512x1024 .bf16) (b : Vec Ideal S2816x1024 .bf16) (r : Fin 512) (l : Fin 512) :
    k0_pay3 (F := Ideal) a b (ix2 r l) = ∑ x : Fin 1024, a (ix2 r x) * b (ix2 ⟨512 + l.val, by omega⟩ x) := by
  pointwise [k0_pay3, k0_pay1]

theorem arr3 (c : Dev nD) : (dats m 0 c).arrAt 3 cfg0.N =
    cols (m ((c : Thread nD τ).loc main_arg0)) (m ((c : Thread nD τ).loc main_arg1)) 512 (by decide) :=
  (dats m 0 c).arrAt_eq_of_covers 3 _ (by decide +kernel) fun t hf y => by
    blk_simp
    rw [after0_3]
    frame_out
    refine (congrArg _ (eq_ix2 (n0 := 512) (n1 := 512) y)).trans ((pay3 _ _ (y 0) (y 1)).trans ((blk m c t _ _).trans
      (congrArg (cols (m ((c : Thread nD τ).loc main_arg0)) (m ((c : Thread nD τ).loc main_arg1)) 512 (by decide))
        (show ix2 (row t (y 0)) (y 1) = _ from ?_))))
    blk_ext [(idx t).2.2.2.1, row]

theorem pay4 (a : Vec Ideal S512x1024 .bf16) (b : Vec Ideal S2816x1024 .bf16) (r : Fin 512) (l : Fin 512) :
    k0_pay4 (F := Ideal) a b (ix2 r l) = ∑ x : Fin 1024, a (ix2 r x) * b (ix2 ⟨1024 + l.val, by omega⟩ x) := by
  pointwise [k0_pay4, k0_pay1]

theorem arr4 (c : Dev nD) : (dats m 0 c).arrAt 4 cfg0.N =
    cols (m ((c : Thread nD τ).loc main_arg0)) (m ((c : Thread nD τ).loc main_arg1)) 1024 (by decide) :=
  (dats m 0 c).arrAt_eq_of_covers 4 _ (by decide +kernel) fun t hf y => by
    blk_simp
    rw [after0_4]
    frame_out
    refine (congrArg _ (eq_ix2 (n0 := 512) (n1 := 512) y)).trans ((pay4 _ _ (y 0) (y 1)).trans ((blk m c t _ _).trans
      (congrArg (cols (m ((c : Thread nD τ).loc main_arg0)) (m ((c : Thread nD τ).loc main_arg1)) 1024 (by decide))
        (show ix2 (row t (y 0)) (y 1) = _ from ?_))))
    blk_ext [(idx t).2.2.2.2.1, row]

theorem pay5 (a : Vec Ideal S512x1024 .bf16) (b : Vec Ideal S2816x1024 .bf16) (r : Fin 512) (l : Fin 512) :
    k0_pay5 (F := Ideal) a b (ix2 r l) = ∑ x : Fin 1024, a (ix2 r x) * b (ix2 ⟨1536 + l.val, by omega⟩ x) := by
  pointwise [k0_pay5, k0_pay1]

theorem arr5 (c : Dev nD) : (dats m 0 c).arrAt 5 cfg0.N =
    cols (m ((c : Thread nD τ).loc main_arg0)) (m ((c : Thread nD τ).loc main_arg1)) 1536 (by decide) :=
  (dats m 0 c).arrAt_eq_of_covers 5 _ (by decide +kernel) fun t hf y => by
    blk_simp
    rw [after0_5]
    frame_out
    refine (congrArg _ (eq_ix2 (n0 := 512) (n1 := 512) y)).trans ((pay5 _ _ (y 0) (y 1)).trans ((blk m c t _ _).trans
      (congrArg (cols (m ((c : Thread nD τ).loc main_arg0)) (m ((c : Thread nD τ).loc main_arg1)) 1536 (by decide))
        (show ix2 (row t (y 0)) (y 1) = _ from ?_))))
    blk_ext [(idx t).2.2.2.2.2.1, row]

theorem pay6 (a : Vec Ideal S512x1024 .bf16) (b : Vec Ideal S2816x1024 .bf16) (r : Fin 512) (l : Fin 768) :
    k0_pay6 (F := Ideal) a b (ix2 r l) = ∑ x : Fin 1024, a (ix2 r x) * b (ix2 ⟨2048 + l.val, by omega⟩ x) := by
  pointwise [k0_pay6, k0_pay1]

theorem arr6 (c : Dev nD) : (dats m 0 c).arrAt 6 cfg0.N =
    lastCols (m ((c : Thread nD τ).loc main_arg0)) (m ((c : Thread nD τ).loc main_arg1)) :=
  (dats m 0 c).arrAt_eq_of_covers 6 _ (by decide +kernel) fun t hf y => by
    blk_simp
    rw [after0_6]
    frame_out
    refine (congrArg _ (eq_ix2 (n0 := 512) (n1 := 768) y)).trans ((pay6 _ _ (y 0) (y 1)).trans ((blk m c t _ _).trans
      (congrArg (lastCols (m ((c : Thread nD τ).loc main_arg0)) (m ((c : Thread nD τ).loc main_arg1)))
        (show ix2 (row t (y 0)) (y 1) = _ from ?_))))
    blk_ext [(idx t).2.2.2.2.2.2, row]

open Cert.InProjRefIdeal.Read

variable (x0 : S4096x1024.Idx → EReal) (x1 : S2816x1024.Idx → EReal)

theorem ref4 : val_main_v4 (F := Ideal) x0 x1 = cols x0 x1 0 (by decide) := by
  funext i
  idx_vars i
  pointwise [val_main_v4, val_main_v3, val_main_v2, val_main_v1, val_main_v0]
  exact Finset.sum_congr rfl fun x _ => congrArg (x0 (ix2 i0 x) * ·) (congrArg x1 (congrArg (ix2 · x) (Fin.ext (Nat.zero_add i1.val).symm)))

theorem ref5 : val_main_v5 (F := Ideal) x0 x1 = cols x0 x1 512 (by decide) := by
  funext i
  idx_vars i
  pointwise [val_main_v5, val_main_v3, val_main_v2, val_main_v1, val_main_v0]
  rfl

theorem ref6 : val_main_v6 (F := Ideal) x0 x1 = cols x0 x1 1024 (by decide) := by
  funext i
  idx_vars i
  pointwise [val_main_v6, val_main_v3, val_main_v2, val_main_v1, val_main_v0]
  rfl

theorem ref7 : val_main_v7 (F := Ideal) x0 x1 = cols x0 x1 1536 (by decide) := by
  funext i
  idx_vars i
  pointwise [val_main_v7, val_main_v3, val_main_v2, val_main_v1, val_main_v0]
  rfl

theorem ref8 : val_main_v8 (F := Ideal) x0 x1 = lastCols x0 x1 := by
  funext i
  idx_vars i
  pointwise [val_main_v8, val_main_v3, val_main_v2, val_main_v1, val_main_v0]
  rfl

/-- Kernel and reference end with the same five arrays. -/
theorem algebraic : Cert.algebraic_InProjIdeal_InProjRefIdeal := by
  intro m g m' g' _ hm
  refine ⟨fun c => cols (m ((c.tc : Thread nD τ).loc main_arg0)) (m ((c.tc : Thread nD τ).loc main_arg1)) 0 (by decide),
    fun c => cols (m ((c.tc : Thread nD τ).loc main_arg0)) (m ((c.tc : Thread nD τ).loc main_arg1)) 512 (by decide),
    fun c => cols (m ((c.tc : Thread nD τ).loc main_arg0)) (m ((c.tc : Thread nD τ).loc main_arg1)) 1024 (by decide),
    fun c => cols (m ((c.tc : Thread nD τ).loc main_arg0)) (m ((c.tc : Thread nD τ).loc main_arg1)) 1536 (by decide),
    fun c => lastCols (m ((c.tc : Thread nD τ).loc main_arg0)) (m ((c.tc : Thread nD τ).loc main_arg1)), ?_, ?_⟩
  · exact (θ_run defs _ _).mono (fun r h c => ⟨(h c).1.trans (arr2 m c), (h c).2.1.trans (arr3 m c), (h c).2.2.1.trans (arr4 m c),
      (h c).2.2.2.1.trans (arr5 m c), (h c).2.2.2.2.1.trans (arr6 m c), (h c).2.2.2.2.2⟩) (Cert.InProjIdeal.Value.run_blocks m g)
  · refine (θ_run Cert.InProjRefIdeal.defs _ _).mono (fun r h c => ⟨(h c).1.trans ?_, (h c).2.1.trans ?_, (h c).2.2.1.trans ?_,
      (h c).2.2.2.1.trans ?_, (h c).2.2.2.2.1.trans ?_, (h c).2.2.2.2.2⟩) (Cert.InProjRefIdeal.Value.run m' g')
    · rw [val_main_v4_eq, (hm c).1, (hm c).2, ref4]
    · rw [val_main_v5_eq, (hm c).1, (hm c).2, ref5]
    · rw [val_main_v6_eq, (hm c).1, (hm c).2, ref6]
    · rw [val_main_v7_eq, (hm c).1, (hm c).2, ref7]
    · rw [val_main_v8_eq, (hm c).1, (hm c).2, ref8]

/-- The reference is a straight-line host program without semaphores. -/
theorem frame_ref : Cert.quiescent_InProjRefIdeal := fun m ρ _ =>
  (θ_run Cert.InProjRefIdeal.defs _ _).mono (fun r h => ⟨fun c => (h c).2.2.2.2.2, sem_eq_zero_of_no_sems (by decide) r.2⟩)
    (Cert.InProjRefIdeal.Value.run m ρ)

end Cert.InProjIdeal.Hand

end
-- ==== Proof.NormBackValue.lean ====
/-
  The gradient through the second normalisation: the kernel's row tiles and its accumulated weight gradient, and the reference's derivative.
-/
module

public import proofs.«01_k».proof.Defs
public import proofs.«01_k».proof.Proof.RmsMath
public import proofs.«01_k».proof.Proof.Gen.Pre_norm_finite
public import proofs.«01_k».proof.Proof.Gen.NormBackIdeal.Value
public import proofs.«01_k».proof.Proof.Gen.NormBackRefIdeal.Run
public import proofs.«01_k».proof.Proof.Gen.NormBackRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.NormBackIdeal.Hand

open Cert.NormBackIdeal Cert.NormBackIdeal.Gen Cert.RealNum Cert.Rms
open Idealize.ShloMosaic Idealize.ShloMosaic.TcCoe Idealize.SL.Sem

/-- The gradient that reaches an entry of the normalised rows: two products added. -/
def dy {n : ℕ} (gp up : (⟨2, ![n, 2816]⟩ : Shape).Idx → EReal) (wg wu : S2816x1024.Idx → EReal) (r : Fin n) (l : Fin 1024) : EReal :=
  ∑ k : Fin 2816, gp (ix2 r k) * wg (ix2 k l) + ∑ k : Fin 2816, up (ix2 r k) * wu (ix2 k l)

/-- The gradient of the rows. -/
def dx {n : ℕ} (gp up : (⟨2, ![n, 2816]⟩ : Shape).Idx → EReal) (wg wu : S2816x1024.Idx → EReal) (h d : (⟨2, ![n, 1024]⟩ : Shape).Idx → EReal)
    (w : S1x1024.Idx → EReal) : (⟨2, ![n, 1024]⟩ : Shape).Idx → EReal :=
  fun i => Rms.bwd (line h (i 0)) (line w 0) (dy gp up wg wu (i 0)) (i 1) + d (ix2 (i 0) (i 1))

/-- One row's part of the gradient of the normalisation's weights. -/
def dwRow {n : ℕ} (gp up : (⟨2, ![n, 2816]⟩ : Shape).Idx → EReal) (wg wu : S2816x1024.Idx → EReal) (h : (⟨2, ![n, 1024]⟩ : Shape).Idx → EReal)
    (r : Fin n) (l : Fin 1024) : EReal := dy gp up wg wu r l * Rms.hat (line h r) l

/-- The gradient of the normalisation's weights. -/
def dw (gp up : S4096x2816.Idx → EReal) (wg wu : S2816x1024.Idx → EReal) (h : S4096x1024.Idx → EReal) : S1x1024.Idx → EReal :=
  fun i => ∑ r : Fin 4096, dwRow gp up wg wu h r (i 1)

theorem pay3 (a : FVec Ideal S1x1024 .f32) (b : Vec Ideal S1x1024 .f32) (r : Fin 1) (l : Fin 1024) :
    k0_pay3 (F := Ideal) a b (ix2 r l) = b (ix2 r l) + a (ix2 r l) := by
  pointwise [k0_pay3]
theorem pay2 (i : S1x1024.Idx) : k0_pay2 (F := Ideal) i = 0 := by
  pointwise [k0_pay2]
theorem pay7 (v0 : Vec Ideal S512x1024 .f32) (v3 v4 : Vec Ideal S512x2816 .bf16) (v5 v7 : Vec Ideal S2816x1024 .bf16) (r : Fin 1) (l : Fin 1024) :
    k0_pay7 (F := Ideal) v0 v3 v4 v5 v7 (ix2 r l) = ∑ x : Fin 512, dwRow (n := 512) v3 v4 v5 v7 v0 x l := by
  pointwise [k0_pay7, k0_pay6, k0_pay5, k0_pay4]
  rfl
theorem pay8 (v0 v1 : Vec Ideal S512x1024 .f32) (v2 : Vec Ideal S1x1024 .f32) (v3 v4 : Vec Ideal S512x2816 .bf16) (v5 v7 : Vec Ideal S2816x1024 .bf16) (r : Fin 512) (l : Fin 1024) :
    k0_pay8 (F := Ideal) v0 v1 v2 v3 v4 v5 v7 (ix2 r l) = dx (n := 512) v3 v4 v5 v7 v0 v1 v2 (ix2 r l) := by
  pointwise [k0_pay8, k0_pay6, k0_pay5, k0_pay4]
  rfl
theorem pay1 (v : FVec Ideal S512x1024 .f32) (r : Fin 512) (l : Fin 1024) : k0_pay1 (F := Ideal) v (ix2 r l) = v (ix2 r l) := by
  pointwise [k0_pay1]

section Blocks
variable (m : (ℓ : Loc nD τ sig) → Buf (Elt Ideal) ℓ)

/-- The block indices: row tiles of the rows' operands, the whole weights. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![0, 0]
    ∧ win0_7.index t = ![t.val, 0] ∧ win0_8.index t = ![t.val, 0] :=
  (by decide +kernel : ∀ t : Fin grid0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![0, 0]
    ∧ win0_7.index t = ![t.val, 0] ∧ win0_8.index t = ![t.val, 0])

/-- A tile's row, as a row of the whole array. -/
def row (t : Fin cfg0.N) (r : Fin 512) : Fin 4096 :=
  ⟨t.val * 512 + r.val, by have h := lt_of_lt_of_eq t.isLt N_0; omega⟩

/-- The inputs' blocks at a point, as arrays. -/
abbrev B0 (c : Dev nD) (t : Fin cfg0.N) : S512x2816.Idx → EReal := iblk m c 0 t
abbrev B1 (c : Dev nD) (t : Fin cfg0.N) : S512x2816.Idx → EReal := iblk m c 1 t
abbrev B2 (c : Dev nD) (t : Fin cfg0.N) : S2816x1024.Idx → EReal := iblk m c 2 t
abbrev B3 (c : Dev nD) (t : Fin cfg0.N) : S2816x1024.Idx → EReal := iblk m c 3 t
abbrev B4 (c : Dev nD) (t : Fin cfg0.N) : S512x1024.Idx → EReal := iblk m c 4 t
abbrev B5 (c : Dev nD) (t : Fin cfg0.N) : S512x1024.Idx → EReal := iblk m c 5 t
abbrev B6 (c : Dev nD) (t : Fin cfg0.N) : S1x1024.Idx → EReal := iblk m c 6 t

/-- The gradient reaching a tile's row is the whole array's at that row. -/
theorem dy_blk (c : Dev nD) (t : Fin cfg0.N) (r : Fin 512) (l : Fin 1024) :
    dy (n := 512) (B0 m c t) (B1 m c t) (B2 m c t) (B3 m c t) r l
      = dy (n := 4096) (m ((c : Thread nD τ).loc main_arg0)) (m ((c : Thread nD τ).loc main_arg1)) (m ((c : Thread nD τ).loc main_arg2)) (m ((c : Thread nD τ).loc main_arg3)) (row t r) l := by
  refine congrArg₂ (· + ·) (Finset.sum_congr rfl fun k _ => ?_) (Finset.sum_congr rfl fun k _ => ?_)
  · congr 1 <;> blk_ext [B0, B2, Gen.iblk, Gen.V, (idx t).1, (idx t).2.2.1, row]
  · congr 1 <;> blk_ext [B1, B3, Gen.iblk, Gen.V, (idx t).2.1, (idx t).2.2.2.1, row]

theorem line_blk (c : Dev nD) (t : Fin cfg0.N) (r : Fin 512) :
    line (n := 512) (B4 m c t) r = line (n := 4096) (m ((c : Thread nD τ).loc main_arg4)) (row t r) := by
  refine funext fun l => ?_
  unfold Rms.line
  blk_ext [B4, Gen.iblk, Gen.V, (idx t).2.2.2.2.1, row]

theorem w_blk (c : Dev nD) (t : Fin cfg0.N) : line (n := 1) (B6 m c t) 0 = line (n := 1) (m ((c : Thread nD τ).loc main_arg6)) 0 := by
  refine funext fun l => ?_
  unfold Rms.line
  blk_ext [B6, Gen.iblk, Gen.V, (idx t).2.2.2.2.2.2.1]

theorem d_blk (c : Dev nD) (t : Fin cfg0.N) (r : Fin 512) (l : Fin 1024) :
    B5 m c t (ix2 r l) = (m ((c : Thread nD τ).loc main_arg5)) (ix2 (row t r) l) := by
  blk_ext [B5, Gen.iblk, Gen.V, (idx t).2.2.2.2.2.1, row]

/-- The rows' gradient, as a function of the arguments. -/
def DX (c : Dev nD) : S4096x1024.Idx → EReal :=
  dx (n := 4096) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- The weights' gradient, as a function of the arguments. -/
def DW (c : Dev nD) : S1x1024.Idx → EReal :=
  dw (m ((c : Thread nD τ).loc main_arg0)) (m ((c : Thread nD τ).loc main_arg1)) (m ((c : Thread nD τ).loc main_arg2)) (m ((c : Thread nD τ).loc main_arg3)) (m ((c : Thread nD τ).loc main_arg4))

theorem dx_blk (c : Dev nD) (t : Fin cfg0.N) (r : Fin 512) (l : Fin 1024) :
    dx (n := 512) (B0 m c t) (B1 m c t) (B2 m c t) (B3 m c t) (B4 m c t) (B5 m c t) (B6 m c t) (ix2 r l) = DX m c (ix2 (row t r) l) := by
  show Rms.bwd (line (n := 512) (B4 m c t) r) (line (n := 1) (B6 m c t) 0) (dy (n := 512) (B0 m c t) (B1 m c t) (B2 m c t) (B3 m c t) r) l + B5 m c t (ix2 r l) = _
  rw [line_blk, w_blk, d_blk, show dy (n := 512) (B0 m c t) (B1 m c t) (B2 m c t) (B3 m c t) r = _ from funext fun l => dy_blk m c t r l]
  rfl

theorem dw_blk (c : Dev nD) (t : Fin cfg0.N) (r : Fin 512) (l : Fin 1024) :
    dwRow (n := 512) (B0 m c t) (B1 m c t) (B2 m c t) (B3 m c t) (B4 m c t) r l
      = dwRow (n := 4096) (m ((c : Thread nD τ).loc main_arg0)) (m ((c : Thread nD τ).loc main_arg1)) (m ((c : Thread nD τ).loc main_arg2)) (m ((c : Thread nD τ).loc main_arg3)) (m ((c : Thread nD τ).loc main_arg4)) (row t r) l := by
  unfold dwRow
  rw [line_blk, dy_blk]

theorem out7 (c : Dev nD) (t : Fin cfg0.N) (r : Fin 512) (l : Fin 1024) :
    (outsAt0 m c t.val t.isLt).1 (ix2 r l) = DX m c (ix2 (row t r) l) := by
  by_cases h : t.val % 8 = 0
  · rw [outsAt0_A m c t h]
    frame_out
    exact (pay8 _ _ _ _ _ _ _ r l).trans (dx_blk m c t r l)
  · rw [outsAt0_B m c t h]
    frame_out
    exact (pay8 _ _ _ _ _ _ _ r l).trans (dx_blk m c t r l)

theorem out8 (c : Dev nD) (t : Fin cfg0.N) (r : Fin 512) (l : Fin 1024) :
    (outsAt0 m c t.val t.isLt).2.1 (ix2 r l) = DX m c (ix2 (row t r) l) := by
  by_cases h : t.val % 8 = 0
  · rw [outsAt0_A m c t h]
    frame_out
    exact (pay1 _ r l).trans ((pay8 _ _ _ _ _ _ _ r l).trans (dx_blk m c t r l))
  · rw [outsAt0_B m c t h]
    frame_out
    exact (pay1 _ r l).trans ((pay8 _ _ _ _ _ _ _ r l).trans (dx_blk m c t r l))

/-- The accumulated output after the last point is the sum over all rows. -/
theorem acc_eq (c : Dev nD) (j : S1x1024.Idx) : (outsAt0 m c t0_7.val t0_7.isLt).2.2 j = DW m c j := by
  rw [Pipeline.eq_sum_fin_of_reset_step_apply_last (fun n h => (outsAt0 m c n h).2.2) 8 (fun _ => 0)
      (fun t j => ∑ r : Fin 512, dwRow (n := 512) (B0 m c t) (B1 m c t) (B2 m c t) (B3 m c t) (B4 m c t) r (j 1))
      (fun t h j => by
        idx_vars j
        rw [outsAt0_A m c t h]
        frame_out
        rw [pay3, pay7, pay2])
      (fun t h j => by
        idx_vars j
        rw [outsAt0_B m c t h]
        frame_out
        rw [pay3, pay7])
      (le_of_eq N_0) t0_7 rfl j, zero_add]
  unfold DW dw
  refine Fin.sum_mul_add_congr fun s k hl => ?_
  exact (dw_blk m c s k (j 1)).trans rfl

theorem arr7 (c : Dev nD) : (dats m 0 c).arrAt 7 cfg0.N = DX m c :=
  (dats m 0 c).arrAt_eq_of_covers 7 _ (by decide +kernel) fun t hf y => by
    blk_simp
    rw [after0_7]
    refine (congrArg _ (eq_ix2 (n0 := 512) (n1 := 1024) y)).trans ((out7 m c t (y 0) (y 1)).trans (congrArg (DX m c)
      (show ix2 (row t (y 0)) (y 1) = _ from ?_)))
    blk_ext [(idx t).2.2.2.2.2.2.2.1, row]

theorem arr8 (c : Dev nD) : (dats m 0 c).arrAt 8 cfg0.N = DX m c :=
  (dats m 0 c).arrAt_eq_of_covers 8 _ (by decide +kernel) fun t hf y => by
    blk_simp
    rw [after0_8]
    refine (congrArg _ (eq_ix2 (n0 := 512) (n1 := 1024) y)).trans ((out8 m c t (y 0) (y 1)).trans (congrArg (DX m c)
      (show ix2 (row t (y 0)) (y 1) = _ from ?_)))
    blk_ext [(idx t).2.2.2.2.2.2.2.2, row]

theorem arr9 (c : Dev nD) : (dats m 0 c).arrAt 9 cfg0.N = DW m c :=
  (dats m 0 c).arrAt_eq_of_after_last 9 t0_7 (by decide +kernel) _ fun j => by
    blk_simp
    rw [after0_9, acc_eq]

end Blocks

section Reference
open Cert.NormBackRefIdeal.Read
variable (x0 x1 : S4096x2816.Idx → EReal) (x2 x3 : S2816x1024.Idx → EReal) (x4 x5 : S4096x1024.Idx → EReal) (x6 : S1x1024.Idx → EReal)

theorem refdw : val_main_v28 (F := Ideal) x0 x1 x2 x3 x4 = dw x0 x1 x2 x3 x4 := by
  funext i
  idx_vars i
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_cst_3, val_main_v27, val_main_v28, val_main_v29, val_main_v30, val_main_v31, val_main_cst_4, val_main_v32, val_main_v33, val_main_v34, val_main_v35, val_main_v36, val_main_v37, val_main_cst_5, val_main_v38, val_main_v39, val_main_cst_6, val_main_v40, val_main_v41, val_main_v42, val_main_v43, val_main_v44, val_main_v45]
  exact Finset.sum_congr rfl fun x _ => (mul_comm _ _).trans (congrArg (· * Rms.hat (line x4 x) i1) (add_comm _ _))

theorem dy_real (h0 : ∀ i, IsReal (x0 i)) (h1 : ∀ i, IsReal (x1 i)) (h2 : ∀ i, IsReal (x2 i)) (h3 : ∀ i, IsReal (x3 i)) (r : Fin 4096) (l : Fin 1024) :
    IsReal (dy (n := 4096) x0 x1 x2 x3 r l) :=
  (IsReal.sum _ fun _ _ => (h0 _).mul (h2 _)).add (IsReal.sum _ fun _ _ => (h1 _).mul (h3 _))

theorem refdx (h0 : ∀ i, IsReal (x0 i)) (h1 : ∀ i, IsReal (x1 i)) (h2 : ∀ i, IsReal (x2 i)) (h3 : ∀ i, IsReal (x3 i))
    (h4 : ∀ i, IsReal (x4 i)) (h6 : ∀ i, IsReal (x6 i)) :
    val_main_v45 (F := Ideal) x0 x1 x2 x3 x4 x5 x6 = dx (n := 4096) x0 x1 x2 x3 x4 x5 x6 := by
  funext i
  idx_vars i
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_cst_3, val_main_v27, val_main_v28, val_main_v29, val_main_v30, val_main_v31, val_main_cst_4, val_main_v32, val_main_v33, val_main_v34, val_main_v35, val_main_v36, val_main_v37, val_main_cst_5, val_main_v38, val_main_v39, val_main_cst_6, val_main_v40, val_main_v41, val_main_v42, val_main_v43, val_main_v44, val_main_v45]
  have hd : ∀ x, (∑ k : Fin 2816, x1 (ix2 i0 k) * x3 (ix2 k x)) + (∑ k : Fin 2816, x0 (ix2 i0 k) * x2 (ix2 k x)) = dy (n := 4096) x0 x1 x2 x3 i0 x :=
    fun x => add_comm _ _
  simp only [hd, Fin.sum_univ_one]
  have e := Rms.bwd_eq (h := line x4 i0) (w := line x6 0) (dy := dy (n := 4096) x0 x1 x2 x3 i0) (fun _ => h4 _) (fun _ => h6 _)
    (fun l => dy_real x0 x1 x2 x3 h0 h1 h2 h3 i0 l) i1
  refine Eq.trans ?_ (congrArg (· + x5 (ix2 i0 i1)) e)
  rw [add_comm _ (x5 (ix2 i0 i1)), ← add_assoc, ← add_assoc]
  rfl

theorem refdxb : val_main_v46 (F := Ideal) x0 x1 x2 x3 x4 x5 x6 = val_main_v45 (F := Ideal) x0 x1 x2 x3 x4 x5 x6 := by
  funext i
  idx_vars i
  pointwise [val_main_v46]

end Reference

/-- The precondition says that six of the arguments hold real numbers. -/
theorem pre_real (m : (ℓ : Loc nD τ sig) → Buf (Elt Ideal) ℓ) (c : Dev nD) (h : Cert.Pre_NormBackIdeal_norm_finite m) :
    (∀ i, IsReal ((m ((c : Thread nD τ).loc main_arg0)) i)) ∧ (∀ i, IsReal ((m ((c : Thread nD τ).loc main_arg1)) i)) ∧ (∀ i, IsReal ((m ((c : Thread nD τ).loc main_arg2)) i)) ∧ (∀ i, IsReal ((m ((c : Thread nD τ).loc main_arg3)) i))
      ∧ (∀ i, IsReal ((m ((c : Thread nD τ).loc main_arg4)) i)) ∧ (∀ i, IsReal ((m ((c : Thread nD τ).loc main_arg6)) i)) := by
  have h := h c
  exact ⟨fun i => IsReal.of_abs_lt ((Ideal.cmp_olt_eq_one _ _).1 (congrFun h.1 i)),
    fun i => IsReal.of_abs_lt ((Ideal.cmp_olt_eq_one _ _).1 (congrFun h.2.1 i)),
    fun i => IsReal.of_abs_lt ((Ideal.cmp_olt_eq_one _ _).1 (congrFun h.2.2.1 i)),
    fun i => IsReal.of_abs_lt ((Ideal.cmp_olt_eq_one _ _).1 (congrFun h.2.2.2.1 i)),
    fun i => IsReal.of_abs_lt ((Ideal.cmp_olt_eq_one _ _).1 (congrFun h.2.2.2.2.1 i)),
    fun i => IsReal.of_abs_lt ((Ideal.cmp_olt_eq_one _ _).1 (congrFun h.2.2.2.2.2 i))⟩

/-- Kernel and reference end with the same rows' and weights' gradients. -/
theorem algebraic : Cert.algebraic_NormBackIdeal_NormBackRefIdeal_pre_norm_finite := by
  intro m g m' g' hp hm
  refine ⟨fun c => DX m c, fun c => DX m c, fun c => DW m c, ?_, ?_⟩
  · exact (θ_run defs _ _).mono (fun r h c => ⟨(h c).1.trans (arr7 m c), (h c).2.1.trans (arr8 m c),
      (h c).2.2.1.trans (arr9 m c), (h c).2.2.2⟩) (Cert.NormBackIdeal.Value.run_blocks m g)
  · refine (θ_run Cert.NormBackRefIdeal.defs _ _).mono (fun r h c => ?_) (Cert.NormBackRefIdeal.Value.run m' g')
    obtain ⟨a0, a1, a2, a3, a4, a5, a6⟩ := hm c
    obtain ⟨p0, p1, p2, p3, p4, p6⟩ := pre_real m c hp
    refine ⟨(h c).1.trans ?_, (h c).2.1.trans ?_, (h c).2.2.1.trans ?_, (h c).2.2.2⟩
    · rw [Cert.NormBackRefIdeal.Read.val_main_v45_eq, a0, a1, a2, a3, a4, a5, a6]
      exact refdx _ _ _ _ _ _ _ p0 p1 p2 p3 p4 p6
    · rw [Cert.NormBackRefIdeal.Read.val_main_v46_eq, a0, a1, a2, a3, a4, a5, a6, refdxb]
      exact refdx _ _ _ _ _ _ _ p0 p1 p2 p3 p4 p6
    · rw [Cert.NormBackRefIdeal.Read.val_main_v28_eq, a0, a1, a2, a3, a4]
      exact refdw _ _ _ _ _

/-- The reference is a straight-line host program without semaphores. -/
theorem frame_ref : Cert.quiescent_NormBackRefIdeal := fun m ρ _ =>
  (θ_run Cert.NormBackRefIdeal.defs _ _).mono (fun r h => ⟨fun c => (h c).2.2.2, sem_eq_zero_of_no_sems (by decide) r.2⟩)
    (Cert.NormBackRefIdeal.Value.run m ρ)

end Cert.NormBackIdeal.Hand

end
-- ==== Proof.FfnInValue.lean ====
/-
  The gated layer going up: the two projections, the causal convolution with its rows carried from tile to tile, and the gated product, against the reference's whole-array text.
-/
module

public import proofs.«01_k».proof.Defs
public import proofs.«01_k».proof.Proof.FfnRef
public import proofs.«01_k».proof.Proof.Gen.FfnInIdeal.Value
public import proofs.«01_k».proof.Proof.Gen.FfnInRefIdeal.Run
public import proofs.«01_k».proof.Proof.Gen.FfnInRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.FfnInIdeal.Hand

open Cert.FfnInIdeal Cert.FfnInIdeal.Gen
open Cert.FfnIdeal.Hand (sg gateOf back)
open Idealize.ShloMosaic Idealize.ShloMosaic.TcCoe Idealize.SL.Sem

/-- A projection of the rows. -/
def proj (a : S4096x1024.Idx → EReal) (w : S2816x1024.Idx → EReal) : S4096x2816.Idx → EReal :=
  fun i => ∑ k : Fin 1024, a (ix2 (i 0) k) * w (ix2 (i 1) k)

theorem proj_apply (a : S4096x1024.Idx → EReal) (w : S2816x1024.Idx → EReal) (r : Fin 4096) (l : Fin 2816) :
    proj a w (ix2 r l) = ∑ k : Fin 1024, a (ix2 r k) * w (ix2 l k) := rfl

/-- The gated product. -/
def prod (gate up : S4096x2816.Idx → EReal) : S4096x2816.Idx → EReal :=
  fun i => gate i * sg (gate i) * up i

/-- The rows with eight zero rows in front. -/
def front (gp : S4096x2816.Idx → EReal) (n : ℕ) (l : Fin 2816) : EReal :=
  if h : 8 ≤ n ∧ n < 4104 then gp (ix2 ⟨n - 8, by omega⟩ l) else 0

theorem back_eq (gp : S4096x2816.Idx → EReal) (k : ℕ) (hk : k ≤ 8) (r : Fin 4096) (l : Fin 2816) : back gp k r l = front gp (r.val + 8 - k) l := by
  unfold back front
  by_cases h : r.val < k
  · rw [dif_pos h, dif_neg (by omega)]
  · rw [dif_neg h, dif_pos (by omega)]
    congr 2; apply Fin.ext; show r.val - k = r.val + 8 - k - 8; omega

theorem pay4 (v3 : Vec Ideal S256x1024 .bf16) (v4 : Vec Ideal S2816x1024 .bf16) (r : Fin 256) (l : Fin 2816) :
    k0_pay4 (F := Ideal) v3 v4 (ix2 r l) = ∑ k : Fin 1024, v3 (ix2 r k) * v4 (ix2 l k) := by
  pointwise [k0_pay4]
theorem pay5 (v3 : Vec Ideal S256x1024 .bf16) (v4 : Vec Ideal S2816x1024 .bf16) (r : Fin 256) (l : Fin 2816) :
    k0_pay5 (F := Ideal) v3 v4 (ix2 r l) = ∑ k : Fin 1024, v3 (ix2 r k) * v4 (ix2 l k) := by
  pointwise [k0_pay5]
theorem pay6 (v3 : Vec Ideal S256x1024 .bf16) (v4 : Vec Ideal S2816x1024 .bf16) (r : Fin 256) (l : Fin 2816) :
    k0_pay6 (F := Ideal) v3 v4 (ix2 r l) = ∑ k : Fin 1024, v3 (ix2 r k) * v4 (ix2 l k) := by
  pointwise [k0_pay6, k0_pay4]
theorem pay7 (v3 : Vec Ideal S256x1024 .bf16) (v4 : Vec Ideal S2816x1024 .bf16) (r : Fin 256) (l : Fin 2816) :
    k0_pay7 (F := Ideal) v3 v4 (ix2 r l) = ∑ k : Fin 1024, v3 (ix2 r k) * v4 (ix2 l k) := by
  pointwise [k0_pay7, k0_pay5]
theorem pay2 (v : FVec Ideal S256x2816 .f32) (r : Fin 8) (l : Fin 2816) :
    k0_pay2 (F := Ideal) v (ix2 r l) = v (ix2 ⟨248 + r.val, by omega⟩ l) := by
  pointwise [k0_pay2]
theorem pay3 (j : S8x2816.Idx) : k0_pay3 (F := Ideal) j = 0 := by
  pointwise [k0_pay3]
theorem pay1 (up gate : FVec Ideal S256x2816 .f32) (r : Fin 256) (l : Fin 2816) :
    k0_pay1 (F := Ideal) up gate (ix2 r l) = gate (ix2 r l) * sg (gate (ix2 r l)) * up (ix2 r l) := by
  unfold sg
  pointwise [k0_pay1]

/-- The gate of a tile, from a sequence that holds the carried rows and the tile's own. -/
theorem pay8 (v3 : Vec Ideal S256x1024 .bf16) (v4 : Vec Ideal S2816x1024 .bf16) (car w : Vec Ideal S8x2816 .f32) (b : Vec Ideal S1x2816 .f32)
    (f : ℕ → Fin 2816 → EReal) (h1 : ∀ (r : Fin 8) l, car (ix2 r l) = f r.val l)
    (h2 : ∀ (r : Fin 256) l, k0_pay4 (F := Ideal) v3 v4 (ix2 r l) = f (r.val + 8) l) (r : Fin 256) (l : Fin 2816) :
    k0_pay8 (F := Ideal) v3 v4 car w b (ix2 r l) =
      w (ix2 0 l) * f (r.val + 6) l + w (ix2 1 l) * f (r.val + 7) l + w (ix2 2 l) * f (r.val + 8) l + b (ix2 0 l) := by
  unfold k0_pay8
  generalize k0_pay4 (F := Ideal) v3 v4 = X at h2
  pointwise
  have e : ∀ (n : ℕ) (hn : n < 264), (if h : n < 8 then car (ix2 (⟨n, h⟩ : Fin 8) l) else X (ix2 (⟨n - 8, by omega⟩ : Fin 256) l)) = f n l := fun n hn => by
    by_cases h : n < 8
    · rw [dif_pos h]; exact h1 ⟨n, h⟩ l
    · rw [dif_neg h]
      refine (h2 ⟨n - 8, by omega⟩ l).trans ?_
      congr 1; show n - 8 + 8 = n; omega
  rw [e _ (by omega), e _ (by omega), h2, show (8 + r.val + 264 - 2) % 264 = r.val + 6 by omega, show (8 + r.val + 264 - 1) % 264 = r.val + 7 by omega]

section Blocks
variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![t.val, 0] ∧ win0_6.index t = ![t.val, 0] ∧ win0_7.index t = ![t.val, 0] ∧ win0_8.index t = ![t.val, 0] :=
  (by decide +kernel : ∀ t : Fin grid0.N, win0_0.index t = ![t.val, 0] ∧ win0_1.index t = ![0, 0] ∧ win0_2.index t = ![0, 0] ∧ win0_3.index t = ![0, 0] ∧ win0_4.index t = ![0, 0] ∧ win0_5.index t = ![t.val, 0] ∧ win0_6.index t = ![t.val, 0] ∧ win0_7.index t = ![t.val, 0] ∧ win0_8.index t = ![t.val, 0])

/-- A tile's row, as a row of the whole array. -/
def row (t : Fin cfg0.N) (r : Fin 256) : Fin 4096 :=
  ⟨t.val * 256 + r.val, by have h := lt_of_lt_of_eq t.isLt N_0; omega⟩

/-- The inputs' blocks at a point, as arrays. -/
abbrev B0 (c : Dev nD) (t : Fin cfg0.N) : S256x1024.Idx → EReal := iblk m c 0 t
abbrev B1 (c : Dev nD) (t : Fin cfg0.N) : S2816x1024.Idx → EReal := iblk m c 1 t
abbrev B2 (c : Dev nD) (t : Fin cfg0.N) : S2816x1024.Idx → EReal := iblk m c 2 t
abbrev B3 (c : Dev nD) (t : Fin cfg0.N) : S8x2816.Idx → EReal := iblk m c 3 t
abbrev B4 (c : Dev nD) (t : Fin cfg0.N) : S1x2816.Idx → EReal := iblk m c 4 t

/-- The four results, as functions of the arguments. -/
def GP (c : Dev nD) : S4096x2816.Idx → EReal := proj (m ((c : Thread nD τ).loc main_arg0)) (m ((c : Thread nD τ).loc main_arg1))
def UP (c : Dev nD) : S4096x2816.Idx → EReal := proj (m ((c : Thread nD τ).loc main_arg0)) (m ((c : Thread nD τ).loc main_arg2))
def GATE (c : Dev nD) : S4096x2816.Idx → EReal := gateOf (GP m c) (m ((c : Thread nD τ).loc main_arg3)) (m ((c : Thread nD τ).loc main_arg4))
def ACT (c : Dev nD) : S4096x2816.Idx → EReal := prod (GATE m c) (UP m c)

theorem gp_blk (c : Dev nD) (t : Fin cfg0.N) (r : Fin 256) (l : Fin 2816) :
    ∑ k : Fin 1024, B0 m c t (ix2 r k) * B1 m c t (ix2 l k) = GP m c (ix2 (row t r) l) := by
  refine Eq.trans ?_ (proj_apply (m ((c : Thread nD τ).loc main_arg0)) (m ((c : Thread nD τ).loc main_arg1)) (row t r) l).symm
  refine Finset.sum_congr rfl fun k _ => ?_
  congr 1 <;> blk_ext [B0, B1, Gen.iblk, Gen.V, (idx t).1, (idx t).2.1, row]

theorem up_blk (c : Dev nD) (t : Fin cfg0.N) (r : Fin 256) (l : Fin 2816) :
    ∑ k : Fin 1024, B0 m c t (ix2 r k) * B2 m c t (ix2 l k) = UP m c (ix2 (row t r) l) := by
  refine Eq.trans ?_ (proj_apply (m ((c : Thread nD τ).loc main_arg0)) (m ((c : Thread nD τ).loc main_arg2)) (row t r) l).symm
  refine Finset.sum_congr rfl fun k _ => ?_
  congr 1 <;> blk_ext [B0, B2, Gen.iblk, Gen.V, (idx t).1, (idx t).2.2.1, row]

theorem taps (c : Dev nD) (t : Fin cfg0.N) (r : Fin 3) (l : Fin 2816) :
    B3 m c t (ix2 (⟨r.val, by omega⟩ : Fin 8) l) = (m ((c : Thread nD τ).loc main_arg3)) (ix2 r l) := by
  have e : B3 m c t (ix2 (⟨r.val, by omega⟩ : Fin 8) l) = V m c main_v1 (ix2 (⟨r.val, by omega⟩ : Fin 8) l) := by
    blk_ext [B3, Gen.iblk, (idx t).2.2.2.1]
  rw [e]
  entry_read
  pointwise

theorem b_blk (c : Dev nD) (t : Fin cfg0.N) (l : Fin 2816) : B4 m c t (ix2 0 l) = (m ((c : Thread nD τ).loc main_arg4)) (ix2 0 l) := by
  blk_ext [B4, Gen.iblk, Gen.V, (idx t).2.2.2.2.1]

/-- The rows a point carries to the next one are the last rows of its tile. -/
theorem carry (c : Dev nD) (t : Fin cfg0.N) (r : Fin 8) (l : Fin 2816) :
    (outsAt0 m c t.val t.isLt).2.2.2.2 (ix2 r l) = GP m c (ix2 (row t ⟨248 + r.val, by omega⟩) l) := by
  by_cases h : t.val % 16 = 0
  · rw [outsAt0_A m c t h]
    frame_out
    exact (pay2 _ r l).trans ((pay4 _ _ _ l).trans (gp_blk m c t _ l))
  · rw [outsAt0_B m c t h]
    frame_out
    exact (pay2 _ r l).trans ((pay4 _ _ _ l).trans (gp_blk m c t _ l))

theorem gate_key (c : Dev nD) (t : Fin cfg0.N) (car : Vec Ideal S8x2816 .f32)
    (h1 : ∀ (r : Fin 8) l, car (ix2 r l) = front (GP m c) (t.val * 256 + r.val) l) (r : Fin 256) (l : Fin 2816) :
    k0_pay8 (F := Ideal) (B0 m c t) (B1 m c t) car (B3 m c t) (B4 m c t) (ix2 r l) = GATE m c (ix2 (row t r) l) := by
  rw [pay8 _ _ car _ _ (fun n l => front (GP m c) (t.val * 256 + n) l) h1 (fun r l => by
    rw [pay4, gp_blk]
    show _ = front (GP m c) (t.val * 256 + (r.val + 8)) l
    have ht := lt_of_lt_of_eq t.isLt N_0
    unfold front
    rw [dif_pos (by omega)]
    congr 2)]
  have e0 := taps m c t 0 l
  have e1 := taps m c t 1 l
  have e2 := taps m c t 2 l
  have eb := b_blk m c t l
  show _ = back (GP m c) 2 (row t r) l * (m ((c : Thread nD τ).loc main_arg3)) (ix2 0 l) + back (GP m c) 1 (row t r) l * (m ((c : Thread nD τ).loc main_arg3)) (ix2 1 l)
    + GP m c (ix2 (row t r) l) * (m ((c : Thread nD τ).loc main_arg3)) (ix2 2 l) + (m ((c : Thread nD τ).loc main_arg4)) (ix2 0 l)
  rw [back_eq _ 2 (by omega), back_eq _ 1 (by omega)]
  have e3 : GP m c (ix2 (row t r) l) = front (GP m c) (t.val * 256 + (r.val + 8)) l := by
    have ht := lt_of_lt_of_eq t.isLt N_0
    unfold front
    rw [dif_pos (by omega)]
    congr 2
  rw [e3]
  refine congrArg₂ (· + ·) (congrArg₂ (· + ·) (congrArg₂ (· + ·) ?_ ?_) ?_) eb
  · exact (congrArg (· * _) e0).trans (mul_comm _ _)
  · exact (congrArg (· * _) e1).trans (mul_comm _ _)
  · exact (congrArg (· * _) e2).trans (mul_comm _ _)

theorem first (c : Dev nD) (t : Fin cfg0.N) (h : t.val % 16 = 0) (r : Fin 8) (l : Fin 2816) :
    k0_pay3 (F := Ideal) (ix2 r l) = front (GP m c) (t.val * 256 + r.val) l := by
  have ht := lt_of_lt_of_eq t.isLt N_0
  rw [pay3]
  unfold front
  rw [dif_neg (by omega)]

theorem later (c : Dev nD) (t : Fin cfg0.N) (h : ¬t.val % 16 = 0) (hp : t.val - 1 < cfg0.N) (r : Fin 8) (l : Fin 2816) :
    (outsAt0 m c (t.val - 1) hp).2.2.2.2 (ix2 r l) = front (GP m c) (t.val * 256 + r.val) l := by
  have ht := lt_of_lt_of_eq t.isLt N_0
  refine (carry m c ⟨t.val - 1, hp⟩ r l).trans ?_
  unfold front
  rw [dif_pos (by omega)]
  congr 2; apply Fin.ext; show (t.val - 1) * 256 + (248 + r.val) = t.val * 256 + r.val - 8; omega

theorem out5 (c : Dev nD) (t : Fin cfg0.N) (r : Fin 256) (l : Fin 2816) :
    (outsAt0 m c t.val t.isLt).1 (ix2 r l) = GP m c (ix2 (row t r) l) := by
  by_cases h : t.val % 16 = 0
  · rw [outsAt0_A m c t h]
    frame_out
    exact (pay6 _ _ r l).trans (gp_blk m c t r l)
  · rw [outsAt0_B m c t h]
    frame_out
    exact (pay6 _ _ r l).trans (gp_blk m c t r l)

theorem out6 (c : Dev nD) (t : Fin cfg0.N) (r : Fin 256) (l : Fin 2816) :
    (outsAt0 m c t.val t.isLt).2.1 (ix2 r l) = UP m c (ix2 (row t r) l) := by
  by_cases h : t.val % 16 = 0
  · rw [outsAt0_A m c t h]
    frame_out
    exact (pay7 _ _ r l).trans (up_blk m c t r l)
  · rw [outsAt0_B m c t h]
    frame_out
    exact (pay7 _ _ r l).trans (up_blk m c t r l)

theorem out7 (c : Dev nD) (t : Fin cfg0.N) (r : Fin 256) (l : Fin 2816) :
    (outsAt0 m c t.val t.isLt).2.2.1 (ix2 r l) = GATE m c (ix2 (row t r) l) := by
  by_cases h : t.val % 16 = 0
  · rw [outsAt0_A m c t h]
    frame_out
    exact gate_key m c t _ (first m c t h) r l
  · rw [outsAt0_B m c t h]
    frame_out
    simp only [read_unread_whole]
    exact gate_key m c t _ (later m c t h _) r l

theorem act_key (c : Dev nD) (t : Fin cfg0.N) (car : Vec Ideal S8x2816 .f32)
    (h1 : ∀ (r : Fin 8) l, car (ix2 r l) = front (GP m c) (t.val * 256 + r.val) l) (r : Fin 256) (l : Fin 2816) :
    k0_pay1 (F := Ideal) (k0_pay5 (F := Ideal) (B0 m c t) (B2 m c t)) (k0_pay8 (F := Ideal) (B0 m c t) (B1 m c t) car (B3 m c t) (B4 m c t)) (ix2 r l)
      = ACT m c (ix2 (row t r) l) := by
  rw [pay1, gate_key m c t car h1, pay5, up_blk]
  rfl

theorem out8 (c : Dev nD) (t : Fin cfg0.N) (r : Fin 256) (l : Fin 2816) :
    (outsAt0 m c t.val t.isLt).2.2.2.1 (ix2 r l) = ACT m c (ix2 (row t r) l) := by
  by_cases h : t.val % 16 = 0
  · rw [outsAt0_A m c t h]
    frame_out
    exact act_key m c t _ (first m c t h) r l
  · rw [outsAt0_B m c t h]
    frame_out
    simp only [read_unread_whole]
    exact act_key m c t _ (later m c t h _) r l

theorem arr5 (c : Dev nD) : (dats m 0 c).arrAt 5 cfg0.N = GP m c :=
  (dats m 0 c).arrAt_eq_of_covers 5 _ (by decide +kernel) fun t hf y => by
    blk_simp
    rw [after0_5]
    refine (congrArg _ (eq_ix2 (n0 := 256) (n1 := 2816) y)).trans ((out5 m c t (y 0) (y 1)).trans (congrArg (GP m c)
      (show ix2 (row t (y 0)) (y 1) = _ from ?_)))
    blk_ext [(idx t).2.2.2.2.2.1, row]

theorem arr6 (c : Dev nD) : (dats m 0 c).arrAt 6 cfg0.N = UP m c :=
  (dats m 0 c).arrAt_eq_of_covers 6 _ (by decide +kernel) fun t hf y => by
    blk_simp
    rw [after0_6]
    refine (congrArg _ (eq_ix2 (n0 := 256) (n1 := 2816) y)).trans ((out6 m c t (y 0) (y 1)).trans (congrArg (UP m c)
      (show ix2 (row t (y 0)) (y 1) = _ from ?_)))
    blk_ext [(idx t).2.2.2.2.2.2.1, row]

theorem arr7 (c : Dev nD) : (dats m 0 c).arrAt 7 cfg0.N = GATE m c :=
  (dats m 0 c).arrAt_eq_of_covers 7 _ (by decide +kernel) fun t hf y => by
    blk_simp
    rw [after0_7]
    refine (congrArg _ (eq_ix2 (n0 := 256) (n1 := 2816) y)).trans ((out7 m c t (y 0) (y 1)).trans (congrArg (GATE m c)
      (show ix2 (row t (y 0)) (y 1) = _ from ?_)))
    blk_ext [(idx t).2.2.2.2.2.2.2.1, row]

theorem arr8 (c : Dev nD) : (dats m 0 c).arrAt 8 cfg0.N = ACT m c :=
  (dats m 0 c).arrAt_eq_of_covers 8 _ (by decide +kernel) fun t hf y => by
    blk_simp
    rw [after0_8]
    refine (congrArg _ (eq_ix2 (n0 := 256) (n1 := 2816) y)).trans ((out8 m c t (y 0) (y 1)).trans (congrArg (ACT m c)
      (show ix2 (row t (y 0)) (y 1) = _ from ?_)))
    blk_ext [(idx t).2.2.2.2.2.2.2.2, row]

end Blocks

section Reference
open Cert.FfnInRefIdeal.Read
variable (x0 : S4096x1024.Idx → EReal) (x1 x2 : S2816x1024.Idx → EReal) (x3 : S3x2816.Idx → EReal) (x4 : S1x2816.Idx → EReal)

theorem ref3 : val_main_v3 (F := Ideal) x0 x1 = proj x0 x1 := by
  funext i
  idx_vars i
  pointwise [val_main_v0, val_main_v1, val_main_v2, val_main_v3]
  rfl
theorem ref6 : val_main_v6 (F := Ideal) x0 x2 = proj x0 x2 := by
  funext i
  idx_vars i
  pointwise [val_main_v0, val_main_v4, val_main_v5, val_main_v6]
  rfl
theorem ref33 : val_main_v33 (F := Ideal) x0 x1 = proj x0 x1 := by
  rw [← ref3]
  funext i
  idx_vars i
  pointwise [val_main_v33]
theorem ref34 : val_main_v34 (F := Ideal) x0 x2 = proj x0 x2 := by
  rw [← ref6]
  funext i
  idx_vars i
  pointwise [val_main_v34]

theorem ref32 : val_main_v32 (F := Ideal) x0 x1 x3 x4 = gateOf (proj x0 x1) x3 x4 := by
  rw [← ref3]
  funext i
  idx_vars i
  unfold val_main_v32 val_main_v28 val_main_v27 val_main_v22 val_main_v21 val_main_v20 val_main_v15 val_main_v14 val_main_v9 val_main_v8
  generalize val_main_v3 (F := Ideal) x0 x1 = X
  rw [Cert.FfnRefIdeal.Hand.gateOf_rows]
  pointwise [val_main_v31, val_main_v30, val_main_v29, val_main_v26, val_main_v25, val_main_v24, val_main_v23, val_main_v19, val_main_v18, val_main_v17, val_main_v16, val_main_v13, val_main_v12, val_main_v11, val_main_v10, val_main_v7, val_main_cst]

theorem ref37 : val_main_v37 (F := Ideal) x0 x1 x2 x3 x4 = prod (gateOf (proj x0 x1) x3 x4) (proj x0 x2) := by
  rw [← ref32, ← ref6]
  funext i
  idx_vars i
  unfold val_main_v37 val_main_v36 val_main_v35 val_main_call0_v5 val_main_call0_v3 val_main_call0_v1 val_main_call0_v0
  generalize val_main_v32 (F := Ideal) x0 x1 x3 x4 = X
  generalize val_main_v6 (F := Ideal) x0 x2 = Y
  pointwise [val_main_call0_cst, val_main_call0_cst_0, val_main_call0_v2, val_main_call0_v4]
  show _ = X (ix2 i0 i1) * sg (X (ix2 i0 i1)) * Y (ix2 i0 i1)
  unfold sg
  rw [zero_sub]

end Reference

/-- Kernel and reference end with the same four arrays. -/
theorem algebraic : Cert.algebraic_FfnInIdeal_FfnInRefIdeal := by
  intro m g m' g' _ hm
  refine ⟨fun c => GP m c, fun c => UP m c, fun c => GATE m c, fun c => ACT m c, ?_, ?_⟩
  · exact (θ_run defs _ _).mono (fun r h c => ⟨(h c).1.trans (arr5 m c), (h c).2.1.trans (arr6 m c), (h c).2.2.1.trans (arr7 m c),
      (h c).2.2.2.1.trans (arr8 m c), (h c).2.2.2.2⟩) (Cert.FfnInIdeal.Value.run_blocks m g)
  · refine (θ_run Cert.FfnInRefIdeal.defs _ _).mono (fun r h c => ?_) (Cert.FfnInRefIdeal.Value.run m' g')
    obtain ⟨a0, a1, a2, a3, a4⟩ := hm c
    refine ⟨(h c).1.trans ?_, (h c).2.1.trans ?_, (h c).2.2.1.trans ?_, (h c).2.2.2.1.trans ?_, (h c).2.2.2.2⟩
    · rw [Cert.FfnInRefIdeal.Read.val_main_v33_eq, a0, a1]
      exact ref33 _ _
    · rw [Cert.FfnInRefIdeal.Read.val_main_v34_eq, a0, a2]
      exact ref34 _ _
    · rw [Cert.FfnInRefIdeal.Read.val_main_v32_eq, a0, a1, a3, a4]
      exact ref32 _ _ _ _
    · rw [Cert.FfnInRefIdeal.Read.val_main_v37_eq, a0, a1, a2, a3, a4]
      exact ref37 _ _ _ _ _

/-- The reference is a straight-line host program without semaphores. -/
theorem frame_ref : Cert.quiescent_FfnInRefIdeal := fun m ρ _ =>
  (θ_run Cert.FfnInRefIdeal.defs _ _).mono (fun r h => ⟨fun c => (h c).2.2.2.2, sem_eq_zero_of_no_sems (by decide) r.2⟩)
    (Cert.FfnInRefIdeal.Value.run m ρ)

end Cert.FfnInIdeal.Hand

end
-- ==== Proof.HeadMath.lean ====
/-
  A head's row of 128 entries divided by its root mean square and gated by silu: the kernel's form of the derivative and the chain rule's, over the extended reals.
-/
module

public import proofs.«01_k».proof.Proof.RealNum
public import proofs.«01_k».proof.Proof.RmsMath
public import Idealize.ShloMosaic.PureOps.Ideal
public import Idealize.ShloMosaic.Lib.Pointwise

@[expose] public section

set_option maxRecDepth 16384

noncomputable section

namespace Cert.Head

open Cert.RealNum
open Idealize.ShloMosaic

/-- A head's entry among the heads' columns. -/
def hc (h : Fin 4) (l : Fin 128) : Fin 512 := ⟨128 * h.val + l.val, by omega⟩
/-- The head of a column, and its place in the head. -/
def hd (c : Fin 512) : Fin 4 := ⟨c.val / 128, by omega⟩
def cl (c : Fin 512) : Fin 128 := ⟨c.val % 128, by omega⟩

theorem hc_hd_cl (c : Fin 512) : hc (hd c) (cl c) = c := Fin.ext (show 128 * (c.val / 128) + c.val % 128 = c.val by omega)

/-- The logistic function and silu. -/
def sg (x : EReal) : EReal := Ideal.div 1 (1 + Ideal.exp (0 - x))
def silu (x : EReal) : EReal := x * sg x
def dsilu (x : EReal) : EReal := sg x * (1 + x * (1 - sg x))

/-- A head's width. -/
abbrev len : EReal := Ideal.ofBits FTy.f32 1124073472#32
theorem len_eq : len = ((128 : ℝ) : EReal) := by
  simp [len, Ideal.ofBits, Ideal.ieee, -EReal.coe_mul]; norm_num

/-- A row's mean square, with the small number; one over its root; the row divided by the root. -/
def ms (h : Fin 128 → EReal) : EReal := Ideal.div (∑ x, h x * h x) len + Rms.eps
def inv (h : Fin 128 → EReal) : EReal := Ideal.rsqrt (ms h)
def hat (h : Fin 128 → EReal) (l : Fin 128) : EReal := h l * inv h
/-- The gradient with the mean of its part along the row taken away. -/
def bwd (h w dy : Fin 128 → EReal) (l : Fin 128) : EReal :=
  inv h * (dy l * w l - hat h l * Ideal.div (∑ x, dy x * w x * hat h x) len)
/-- The gradient that reaches a square of the row through the root. -/
def tail (h w dy : Fin 128 → EReal) : EReal :=
  Ideal.div ((∑ x, h x * (dy x * w x)) * (Rms.negHalf * Ideal.div (inv h) (ms h))) len

/-- At a row of reals the mean square is a positive real. -/
theorem ms_coe {h : Fin 128 → ℝ} : ∃ s : ℝ, 0 < s ∧ ms (fun x => (h x : EReal)) = (s : EReal) := by
  obtain ⟨e, he, h0⟩ := Rms.eps_pos
  refine ⟨(∑ x, h x * h x) * (1 / 128) + e, ?_, ?_⟩
  · have : 0 ≤ ∑ x, h x * h x := Finset.sum_nonneg fun x _ => mul_self_nonneg _
    positivity
  · rw [ms, h0, len_eq, Ideal.div_coe (by norm_num)]
    simp only [← EReal.coe_mul, Rms.coe_sum, ← EReal.coe_add]

theorem inv_coe {h : Fin 128 → ℝ} : ∃ s q : ℝ, 0 < s ∧ 0 < q ∧ q * q = 1 / s ∧ ms (fun x => (h x : EReal)) = (s : EReal)
    ∧ inv (fun x => (h x : EReal)) = (q : EReal) := by
  obtain ⟨s, hs, e⟩ := ms_coe (h := h)
  refine ⟨s, (√s)⁻¹, hs, inv_pos.2 (Real.sqrt_pos.2 hs), ?_, e, ?_⟩
  · rw [← mul_inv, Real.mul_self_sqrt hs.le, one_div]
  · rw [inv, e, Ideal.rsqrt_coe, if_neg hs.not_gt, if_neg hs.ne']

theorem hat_real {h : Fin 128 → EReal} (hh : ∀ x, IsReal (h x)) (l : Fin 128) : IsReal (hat h l) := by
  choose h' e using hh
  obtain rfl : h = fun x => (h' x : EReal) := funext e
  obtain ⟨s, q, -, -, -, -, e⟩ := inv_coe (h := h')
  rw [hat, e]
  exact (IsReal.coe _).mul (IsReal.coe _)

/-- A real multiple of a sum twice, where one factor may be infinite: the two orders of the factors agree. -/
theorem twice {S : EReal} {q s x : ℝ} (hs : 0 < s) (hq : 0 < q) (e : q * q = 1 / s) :
    (x : EReal) * (S * ((((-1 / 2 * (q * (1 / s)) : ℝ) : EReal))) * ((1 / 128 : ℝ) : EReal))
      + S * (((-1 / 2 * (q * (1 / s)) : ℝ) : EReal)) * ((1 / 128 : ℝ) : EReal) * (x : EReal)
      = (q : EReal) * -((x : EReal) * (q : EReal) * (S * (q : EReal) * ((1 / 128 : ℝ) : EReal))) := by
  have hn : -1 / 2 * (q * (1 / s)) < 0 := by
    have : 0 < q * (1 / s) := by positivity
    linarith
  have h8 : (0 : ℝ) < 1 / 128 := by norm_num
  induction S using EReal.rec with
  | coe S =>
    simp only [← EReal.coe_mul, ← EReal.coe_add, ← EReal.coe_neg]
    congr 1
    rw [← e]
    ring
  | top =>
    rw [EReal.top_mul_coe_of_neg hn, EReal.bot_mul_coe_of_pos h8, EReal.top_mul_coe_of_pos hq, EReal.top_mul_coe_of_pos h8]
    rcases lt_trichotomy x 0 with hx | rfl | hx
    · rw [EReal.coe_mul_bot_of_neg hx, EReal.bot_mul_coe_of_neg hx, ← EReal.coe_mul,
        EReal.coe_mul_top_of_neg (mul_neg_of_neg_of_pos hx hq), EReal.neg_bot, EReal.coe_mul_top_of_pos hq]
      rfl
    · simp
    · rw [EReal.coe_mul_bot_of_pos hx, EReal.bot_mul_coe_of_pos hx, ← EReal.coe_mul,
        EReal.coe_mul_top_of_pos (mul_pos hx hq), EReal.neg_top, EReal.coe_mul_bot_of_pos hq]
      rfl
  | bot =>
    rw [EReal.bot_mul_coe_of_neg hn, EReal.top_mul_coe_of_pos h8, EReal.bot_mul_coe_of_pos hq, EReal.bot_mul_coe_of_pos h8]
    rcases lt_trichotomy x 0 with hx | rfl | hx
    · rw [EReal.coe_mul_top_of_neg hx, EReal.top_mul_coe_of_neg hx, ← EReal.coe_mul,
        EReal.coe_mul_bot_of_neg (mul_neg_of_neg_of_pos hx hq), EReal.neg_top, EReal.coe_mul_bot_of_pos hq]
      rfl
    · simp
    · rw [EReal.coe_mul_top_of_pos hx, EReal.top_mul_coe_of_pos hx, ← EReal.coe_mul,
        EReal.coe_mul_bot_of_pos (mul_pos hx hq), EReal.neg_bot, EReal.coe_mul_top_of_pos hq]
      rfl

/-- A sum times a real number that is not negative. -/
theorem sum_mul_coe {ι : Type*} (s : Finset ι) (f : ι → EReal) {q : ℝ} (hq : 0 ≤ q) :
    (∑ i ∈ s, f i) * (q : EReal) = ∑ i ∈ s, f i * (q : EReal) := by
  classical
  induction s using Finset.induction_on with
  | empty => simp
  | insert a s ha ih =>
    rw [Finset.sum_insert ha, Finset.sum_insert ha, ← ih,
      EReal.right_distrib_of_nonneg_of_ne_top (EReal.coe_nonneg.2 hq) (EReal.coe_ne_top _)]

/-- The derivative by the product and chain rules is the gradient less its mean part along the row, whatever the incoming
    gradient. -/
theorem bwd_eq {h w dy : Fin 128 → EReal} (hh : ∀ x, IsReal (h x)) (l : Fin 128) :
    dy l * w l * inv h + h l * tail h w dy + tail h w dy * h l = bwd h w dy l := by
  choose h' e1 using hh
  obtain rfl : h = fun x => (h' x : EReal) := funext e1
  obtain ⟨s, q, hs, hq, e, hm, hi⟩ := inv_coe (h := h')
  have hS : (∑ x, dy x * w x * ((h' x : EReal) * (q : EReal))) = (∑ x, (h' x : EReal) * (dy x * w x)) * (q : EReal) := by
    rw [sum_mul_coe _ _ hq.le]
    exact Finset.sum_congr rfl fun x _ => by rw [← mul_assoc, mul_comm (dy x * w x)]
  simp only [bwd, tail, hat, hi, hm, len_eq, Rms.negHalf_eq]
  rw [Ideal.div_coe hs.ne', Ideal.div_coe (by norm_num : (128 : ℝ) ≠ 0), Ideal.div_coe (by norm_num : (128 : ℝ) ≠ 0), hS,
    ← EReal.coe_mul, ← EReal.coe_mul, add_assoc, twice hs hq e, sub_eq_add_neg,
    EReal.left_distrib_of_nonneg_of_ne_top (EReal.coe_nonneg.2 hq.le) (EReal.coe_ne_top _), mul_comm (dy l * w l)]

/-- Silu's derivative in the kernel's form and in the chain rule's, times a real number. -/
theorem gate_deriv {c : EReal} (hc : IsReal c) (g : EReal) : c * dsilu g = c * sg g + g * c * (sg g * (1 - sg g)) := by
  have h := silu_deriv hc g (sg g) (by rw [sg, zero_sub])
  rw [← h, dsilu]
  congr 1
  induction g using EReal.rec with
  | bot =>
    have h1 : (1 : EReal) + ⊤ = ⊤ := rfl
    have : sg ⊥ = 0 := by simp [sg, Ideal.div, h1]
    simp [this]
  | top =>
    have : sg ⊤ = 1 := by simp [sg, Ideal.div]
    have h1 : (1 : EReal) - 1 = 0 := by rw [← EReal.coe_one, ← EReal.coe_sub, sub_self, EReal.coe_zero]
    rw [this, h1]; simp
  | coe g =>
    obtain ⟨q, hq⟩ : IsReal (sg (g : EReal)) := by rw [sg, zero_sub, logistic_coe]; exact ⟨_, rfl⟩
    rw [hq, ← EReal.coe_one]
    simp only [← EReal.coe_sub, ← EReal.coe_mul, ← EReal.coe_add]
    congr 1; ring

/-- The first head's columns are the first columns. -/
theorem hc_zero (l : Fin 128) (p : l.val < 512) : (⟨l.val, p⟩ : Fin 512) = hc 0 l := Fin.ext (show l.val = 128 * 0 + l.val by omega)

/-- Four heads' rows side by side, read at a head's column. -/
theorem cat {α : Type} (f0 f1 f2 f3 : Fin 128 → α) (G : Fin 4 → Fin 128 → α) (h : Fin 4) (l : Fin 128)
    (h0 : f0 l = G 0 l) (h1 : f1 l = G 1 l) (h2 : f2 l = G 2 l) (h3 : f3 l = G 3 l) :
    (if e : (hc h l).val < 128 then f0 ⟨(hc h l).val, e⟩ else
      if e : (hc h l).val - 128 < 128 then f1 ⟨(hc h l).val - 128, e⟩ else
      if e : (hc h l).val - 128 - 128 < 128 then f2 ⟨(hc h l).val - 128 - 128, e⟩ else
      f3 ⟨(hc h l).val - 128 - 128 - 128, by have := (hc h l).isLt; omega⟩) = G h l := by
  obtain ⟨l, hl⟩ := l
  match h with
  | ⟨0, _⟩ =>
    rw [dif_pos (show (hc ⟨0, by omega⟩ ⟨l, hl⟩).val < 128 from show 128 * 0 + l < 128 by omega)]
    refine (congrArg f0 (Fin.ext (show 128 * 0 + l = l by omega))).trans h0
  | ⟨1, _⟩ =>
    rw [dif_neg (show ¬ (hc ⟨1, by omega⟩ ⟨l, hl⟩).val < 128 from show ¬ 128 * 1 + l < 128 by omega),
      dif_pos (show (hc ⟨1, by omega⟩ ⟨l, hl⟩).val - 128 < 128 from show 128 * 1 + l - 128 < 128 by omega)]
    refine (congrArg f1 (Fin.ext (show 128 * 1 + l - 128 = l by omega))).trans h1
  | ⟨2, _⟩ =>
    rw [dif_neg (show ¬ (hc ⟨2, by omega⟩ ⟨l, hl⟩).val < 128 from show ¬ 128 * 2 + l < 128 by omega),
      dif_neg (show ¬ (hc ⟨2, by omega⟩ ⟨l, hl⟩).val - 128 < 128 from show ¬ 128 * 2 + l - 128 < 128 by omega),
      dif_pos (show (hc ⟨2, by omega⟩ ⟨l, hl⟩).val - 128 - 128 < 128 from show 128 * 2 + l - 128 - 128 < 128 by omega)]
    refine (congrArg f2 (Fin.ext (show 128 * 2 + l - 128 - 128 = l by omega))).trans h2
  | ⟨3, _⟩ =>
    rw [dif_neg (show ¬ (hc ⟨3, by omega⟩ ⟨l, hl⟩).val < 128 from show ¬ 128 * 3 + l < 128 by omega),
      dif_neg (show ¬ (hc ⟨3, by omega⟩ ⟨l, hl⟩).val - 128 < 128 from show ¬ 128 * 3 + l - 128 < 128 by omega),
      dif_neg (show ¬ (hc ⟨3, by omega⟩ ⟨l, hl⟩).val - 128 - 128 < 128 from show ¬ 128 * 3 + l - 128 - 128 < 128 by omega)]
    refine (congrArg f3 (Fin.ext (show 128 * 3 + l - 128 - 128 - 128 = l by omega))).trans h3

/-- A row of an array; a head's gradient rows, from the rows of the gated product's gradient `d`, the recurrence's output `o`, the gate `g` and the norm's weights `w`. -/
def ln {n k : ℕ} (o : (⟨2, ![n, k]⟩ : Shape).Idx → EReal) (r : Fin n) : Fin k → EReal := fun l => o (ix2 r l)
def part (o : Fin 512 → EReal) (h : Fin 4) : Fin 128 → EReal := fun l => o (hc h l)
def gateBack (d g : Fin 512 → EReal) (h : Fin 4) : Fin 128 → EReal := fun l => d (hc h l) * silu (g (hc h l))
def outBack (d o g : Fin 512 → EReal) (w : Fin 128 → EReal) (h : Fin 4) (l : Fin 128) : EReal := bwd (part o h) w (gateBack d g h) l
def gBack (d o g : Fin 512 → EReal) (w : Fin 128 → EReal) (h : Fin 4) (l : Fin 128) : EReal :=
  d (hc h l) * (hat (part o h) l * w l) * dsilu (g (hc h l))
def wBack (d o g : Fin 512 → EReal) (h : Fin 4) (l : Fin 128) : EReal := gateBack d g h l * hat (part o h) l
/-- A head's normalised row, gated. -/
def gated (o g : Fin 512 → EReal) (w : Fin 128 → EReal) (h : Fin 4) (l : Fin 128) : EReal := hat (part o h) l * w l * silu (g (hc h l))

/-- A sum over the first two axes of three. -/
theorem sum_two {n0 n1 n2 : ℕ} (h : (⟨3, ![n0, n1, n2]⟩ : Shape).ReducesTo [0, 1] ⟨1, ![n2]⟩) (v : (⟨3, ![n0, n1, n2]⟩ : Shape).Idx → EReal)
    (z : EReal) (l : Fin n2) : Ideal.hostReduceAdd h v z (ix1 l) = z + ∑ a : Fin n0, ∑ b : Fin n1, v (ix3 a b l) := by
  refine congrArg (z + ·) ((Finset.sum_filter_eq_sum_of_fiber _ (fun p : Fin n0 × Fin n1 => ix3 p.1 p.2 l) ?_ ?_ v).trans (Fintype.sum_prod_type _))
  · exact fun p q e => Prod.ext (congrFun e 0) (congrFun e 1)
  · intro i
    constructor
    · intro e
      refine ⟨(i 0, i 1), funext fun a => Fin.ext ?_⟩
      match a with
      | ⟨0, _⟩ => rfl
      | ⟨1, _⟩ => rfl
      | ⟨2, _⟩ => exact (congrArg Fin.val (congrFun e 0)).symm
    · rintro ⟨p, rfl⟩
      funext b
      apply Fin.ext
      match b with
      | ⟨0, _⟩ => rfl

/-- A row of the mix: the heads' gated rows and then the attention's. -/
def mixed (o g : Fin 512 → EReal) (w : Fin 128 → EReal) (a : Fin 512 → EReal) (k : Fin 1024) : EReal :=
  if e : k.val < 512 then gated o g w (hd ⟨k.val, e⟩) (cl ⟨k.val, e⟩) else a ⟨k.val - 512, by omega⟩

/-- Four heads' rows and a longer row side by side. -/
theorem cat5 {α : Type} (f0 f1 f2 f3 : Fin 128 → α) (a : Fin 512 → α) (G : Fin 4 → Fin 128 → α) (k : Fin 1024)
    (h0 : ∀ l, f0 l = G 0 l) (h1 : ∀ l, f1 l = G 1 l) (h2 : ∀ l, f2 l = G 2 l) (h3 : ∀ l, f3 l = G 3 l) :
    (if e : k.val < 128 then f0 ⟨k.val, e⟩ else
      if e : k.val - 128 < 128 then f1 ⟨k.val - 128, e⟩ else
      if e : k.val - 128 - 128 < 128 then f2 ⟨k.val - 128 - 128, e⟩ else
      if e : k.val - 128 - 128 - 128 < 128 then f3 ⟨k.val - 128 - 128 - 128, e⟩ else
      a ⟨k.val - 128 - 128 - 128 - 128, by have := k.isLt; omega⟩)
      = if e : k.val < 512 then G (hd ⟨k.val, e⟩) (cl ⟨k.val, e⟩) else a ⟨k.val - 512, by have := k.isLt; omega⟩ := by
  have hk := k.isLt
  by_cases e0 : k.val < 128
  · rw [dif_pos e0, dif_pos (show k.val < 512 by omega), h0]
    exact congrArg₂ G (Fin.ext (show 0 = k.val / 128 by omega)) (Fin.ext (show k.val = k.val % 128 by omega))
  rw [dif_neg e0]
  by_cases e1 : k.val - 128 < 128
  · rw [dif_pos e1, dif_pos (show k.val < 512 by omega), h1]
    exact congrArg₂ G (Fin.ext (show 1 = k.val / 128 by omega)) (Fin.ext (show k.val - 128 = k.val % 128 by omega))
  rw [dif_neg e1]
  by_cases e2 : k.val - 128 - 128 < 128
  · rw [dif_pos e2, dif_pos (show k.val < 512 by omega), h2]
    exact congrArg₂ G (Fin.ext (show 2 = k.val / 128 by omega)) (Fin.ext (show k.val - 128 - 128 = k.val % 128 by omega))
  rw [dif_neg e2]
  by_cases e3 : k.val - 128 - 128 - 128 < 128
  · rw [dif_pos e3, dif_pos (show k.val < 512 by omega), h3]
    exact congrArg₂ G (Fin.ext (show 3 = k.val / 128 by omega)) (Fin.ext (show k.val - 128 - 128 - 128 = k.val % 128 by omega))
  rw [dif_neg e3, dif_neg (show ¬ k.val < 512 by omega)]
  exact congrArg a (Fin.ext (show k.val - 128 - 128 - 128 - 128 = k.val - 512 by omega))

end Cert.Head

end
-- ==== Proof.MixOutValue.lean ====
/-
  The heads' norms and gates, the output projection, the residual and the next norm: the kernel's row tiles and the reference's mathematics.
-/
module

public import proofs.«01_k».proof.Defs
public import proofs.«01_k».proof.Proof.HeadMath
public import proofs.«01_k».proof.Proof.Gen.MixOutIdeal.Value
public import proofs.«01_k».proof.Proof.Gen.MixOutRefIdeal.Run
public import proofs.«01_k».proof.Proof.Gen.MixOutRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.MixOutIdeal.Hand

open Cert.MixOutIdeal Cert.MixOutIdeal.Gen Cert.RealNum Cert.Head
open Idealize.ShloMosaic Idealize.ShloMosaic.TcCoe Idealize.SL.Sem

/-- The mix. -/
def mix {n : ℕ} (o g a : (⟨2, ![n, 512]⟩ : Shape).Idx → EReal) (hw : S1x128.Idx → EReal) (r : Fin n) (k : Fin 1024) : EReal :=
  mixed (ln o r) (ln g r) (ln hw 0) (ln a r) k

/-- The stream after the output projection. -/
def h1 {n : ℕ} (w : S1024x1024.Idx → EReal) (x : (⟨2, ![n, 1024]⟩ : Shape).Idx → EReal) (o g a : (⟨2, ![n, 512]⟩ : Shape).Idx → EReal) (hw : S1x128.Idx → EReal) (r : Fin n) (l : Fin 1024) : EReal :=
  ∑ k : Fin 1024, mix o g a hw r k * w (ix2 k l) + x (ix2 r l)

/-- The stream, normalised. -/
def h1n {n : ℕ} (w : S1024x1024.Idx → EReal) (x : (⟨2, ![n, 1024]⟩ : Shape).Idx → EReal) (nw : S1x1024.Idx → EReal) (o g a : (⟨2, ![n, 512]⟩ : Shape).Idx → EReal) (hw : S1x128.Idx → EReal) (r : Fin n) (l : Fin 1024) : EReal := Rms.hat (h1 w x o g a hw r) l * Rms.line nw 0 l

theorem head0 (v2 v3 : Vec Ideal S512x512 .f32) (v5 : Vec Ideal S1x128 .f32) (r : Fin 512) (l : Fin 128) :
    k0_pay4 (F := Ideal) v2 v3 v5 (ix2 r l) = gated (ln (n := 512) v2 r) (ln (n := 512) v3 r) (ln (n := 1) v5 0) 0 l := by
  pointwise [k0_pay4]
  simp only [hc_zero]
  rfl
theorem head1 (v2 v3 : Vec Ideal S512x512 .f32) (v5 : Vec Ideal S1x128 .f32) (r : Fin 512) (l : Fin 128) :
    k0_pay6 (F := Ideal) v2 v5 (k0_pay5 (F := Ideal) v3) (ix2 r l) = gated (ln (n := 512) v2 r) (ln (n := 512) v3 r) (ln (n := 1) v5 0) 1 l := by
  pointwise [k0_pay5, k0_pay6]
  rfl
theorem head2 (v2 v3 : Vec Ideal S512x512 .f32) (v5 : Vec Ideal S1x128 .f32) (r : Fin 512) (l : Fin 128) :
    k0_pay7 (F := Ideal) v2 v3 v5 (ix2 r l) = gated (ln (n := 512) v2 r) (ln (n := 512) v3 r) (ln (n := 1) v5 0) 2 l := by
  pointwise [k0_pay7]
  rfl
theorem silu3 (v3 : Vec Ideal S512x512 .f32) (r : Fin 512) (l : Fin 128) :
    k0_pay8 (F := Ideal) v3 (ix2 r l) = silu (ln (n := 512) v3 r (hc 3 l)) := by
  pointwise [k0_pay8]
  rfl
theorem cut3 (v2 : Vec Ideal S512x512 .f32) (r : Fin 512) (l : Fin 128) :
    k0_pay9 (F := Ideal) v2 (ix2 r l) = part (ln (n := 512) v2 r) 3 l := by
  pointwise [k0_pay9]
  rfl
theorem sq3 (v2 : Vec Ideal S512x512 .f32) (r : Fin 512) (l : Fin 128) :
    k0_pay10 (F := Ideal) v2 (ix2 r l) = part (ln (n := 512) v2 r) 3 l * part (ln (n := 512) v2 r) 3 l := by
  pointwise [k0_pay9, k0_pay10]
  rfl
theorem pay1 (v2 v3 v4 : Vec Ideal S512x512 .f32) (v5 : Vec Ideal S1x128 .f32) (r : Fin 512) (k : Fin 1024) :
    k0_pay1 (F := Ideal) v4 v5 (k0_pay4 (F := Ideal) v2 v3 v5) (k0_pay6 (F := Ideal) v2 v5 (k0_pay5 (F := Ideal) v3)) (k0_pay7 (F := Ideal) v2 v3 v5) (k0_pay8 (F := Ideal) v3) (k0_pay9 (F := Ideal) v2) (k0_pay10 (F := Ideal) v2) (ix2 r k) = mix (n := 512) v2 v3 v4 v5 r k := by
  have e0 := head0 v2 v3 v5 r
  have e1 := head1 v2 v3 v5 r
  have e2 := head2 v2 v3 v5 r
  have e3 := silu3 v3 r
  have e4 := cut3 v2 r
  have e5 := sq3 v2 r
  generalize k0_pay4 (F := Ideal) v2 v3 v5 = a0 at e0 ⊢
  generalize k0_pay6 (F := Ideal) v2 v5 (k0_pay5 (F := Ideal) v3) = a1 at e1 ⊢
  generalize k0_pay7 (F := Ideal) v2 v3 v5 = a2 at e2 ⊢
  generalize k0_pay8 (F := Ideal) v3 = a3 at e3 ⊢
  generalize k0_pay9 (F := Ideal) v2 = a4 at e4 ⊢
  generalize k0_pay10 (F := Ideal) v2 = a5 at e5 ⊢
  pointwise [k0_pay1]
  refine cat5 (fun l => a0 (ix2 r l)) (fun l => a1 (ix2 r l)) (fun l => a2 (ix2 r l))
    (fun l => a4 (ix2 r l) * Ideal.rsqrt (Ideal.div (∑ x : Fin 128, a5 (ix2 r x)) len + Rms.eps) * v5 (ix2 0 l) * a3 (ix2 r l)) (ln (n := 512) v4 r)
    (gated (ln (n := 512) v2 r) (ln (n := 512) v3 r) (ln (n := 1) v5 0)) k e0 e1 e2 fun l => ?_
  show a4 (ix2 r l) * Ideal.rsqrt (Ideal.div (∑ x : Fin 128, a5 (ix2 r x)) len + Rms.eps) * v5 (ix2 0 l) * a3 (ix2 r l) = _
  simp only [e3, e4, e5]
  rfl
theorem pay2 (v0 : Vec Ideal S512x1024 .f32) (v2 v3 v4 : Vec Ideal S512x512 .f32) (v5 : Vec Ideal S1x128 .f32) (v101 : FVec Ideal S1024x1024 .bf16) (r : Fin 512) (l : Fin 1024) :
    k0_pay2 (F := Ideal) v0 v4 v5 (k0_pay4 (F := Ideal) v2 v3 v5) (k0_pay6 (F := Ideal) v2 v5 (k0_pay5 (F := Ideal) v3)) (k0_pay7 (F := Ideal) v2 v3 v5) (k0_pay8 (F := Ideal) v3) (k0_pay9 (F := Ideal) v2) (k0_pay10 (F := Ideal) v2) v101 (ix2 r l) = h1 (n := 512) v101 v0 v2 v3 v4 v5 r l := by
  have e := pay1 v2 v3 v4 v5
  unfold k0_pay2
  generalize k0_pay1 (F := Ideal) v4 v5 (k0_pay4 (F := Ideal) v2 v3 v5) (k0_pay6 (F := Ideal) v2 v5 (k0_pay5 (F := Ideal) v3)) (k0_pay7 (F := Ideal) v2 v3 v5) (k0_pay8 (F := Ideal) v3) (k0_pay9 (F := Ideal) v2) (k0_pay10 (F := Ideal) v2) = X at e
  pointwise
  simp only [e]
  rfl
theorem pay3 (v0 : Vec Ideal S512x1024 .f32) (v1 : Vec Ideal S1x1024 .f32) (v2 v3 v4 : Vec Ideal S512x512 .f32) (v5 : Vec Ideal S1x128 .f32) (v101 : FVec Ideal S1024x1024 .bf16) (r : Fin 512) (l : Fin 1024) :
    k0_pay3 (F := Ideal) v0 v1 v4 v5 (k0_pay4 (F := Ideal) v2 v3 v5) (k0_pay6 (F := Ideal) v2 v5 (k0_pay5 (F := Ideal) v3)) (k0_pay7 (F := Ideal) v2 v3 v5) (k0_pay8 (F := Ideal) v3) (k0_pay9 (F := Ideal) v2) (k0_pay10 (F := Ideal) v2) v101 (ix2 r l) = h1n (n := 512) v101 v0 v1 v2 v3 v4 v5 r l := by
  have e := pay2 v0 v2 v3 v4 v5 v101
  unfold k0_pay3
  generalize k0_pay2 (F := Ideal) v0 v4 v5 (k0_pay4 (F := Ideal) v2 v3 v5) (k0_pay6 (F := Ideal) v2 v5 (k0_pay5 (F := Ideal) v3)) (k0_pay7 (F := Ideal) v2 v3 v5) (k0_pay8 (F := Ideal) v3) (k0_pay9 (F := Ideal) v2) (k0_pay10 (F := Ideal) v2) v101 = X at e
  pointwise
  simp only [e]
  rfl
section Blocks
variable (m : (ℓ : Loc nD τ sig) → Buf (Elt Ideal) ℓ)

/-- The block indices: row tiles of the rows' operands, the whole weights. -/
theorem idx : ∀ t : Fin cfg0.N, win0_0.index t = ![0, 0] ∧ win0_1.index t = ![t.val, 0] ∧ win0_2.index t = ![0, 0] ∧ win0_3.index t = ![t.val, 0] ∧ win0_4.index t = ![t.val, 0] ∧ win0_5.index t = ![t.val, 0] ∧ win0_6.index t = ![0, 0] ∧ win0_7.index t = ![t.val, 0] ∧ win0_8.index t = ![t.val, 0] ∧ win0_9.index t = ![t.val, 0] :=
  (by decide +kernel : ∀ t : Fin grid0.N, win0_0.index t = ![0, 0] ∧ win0_1.index t = ![t.val, 0] ∧ win0_2.index t = ![0, 0] ∧ win0_3.index t = ![t.val, 0] ∧ win0_4.index t = ![t.val, 0] ∧ win0_5.index t = ![t.val, 0] ∧ win0_6.index t = ![0, 0] ∧ win0_7.index t = ![t.val, 0] ∧ win0_8.index t = ![t.val, 0] ∧ win0_9.index t = ![t.val, 0])

/-- A tile's row, as a row of the whole array. -/
def row (t : Fin cfg0.N) (r : Fin 512) : Fin 4096 :=
  ⟨t.val * 512 + r.val, by have h := lt_of_lt_of_eq t.isLt N_0; omega⟩

/-- The inputs' blocks at a point, as arrays. -/
abbrev B0 (c : Dev nD) (t : Fin cfg0.N) : S1024x1024.Idx → EReal := iblk m c 0 t
abbrev B1 (c : Dev nD) (t : Fin cfg0.N) : S512x1024.Idx → EReal := iblk m c 1 t
abbrev B2 (c : Dev nD) (t : Fin cfg0.N) : S1x1024.Idx → EReal := iblk m c 2 t
abbrev B3 (c : Dev nD) (t : Fin cfg0.N) : S512x512.Idx → EReal := iblk m c 3 t
abbrev B4 (c : Dev nD) (t : Fin cfg0.N) : S512x512.Idx → EReal := iblk m c 4 t
abbrev B5 (c : Dev nD) (t : Fin cfg0.N) : S512x512.Idx → EReal := iblk m c 5 t
abbrev B6 (c : Dev nD) (t : Fin cfg0.N) : S1x128.Idx → EReal := iblk m c 6 t
theorem o_blk (c : Dev nD) (t : Fin cfg0.N) (r : Fin 512) : ln (n := 512) (B3 m c t) r = ln (n := 4096) (m ((c : Thread nD τ).loc main_arg0)) (row t r) := by
  refine funext fun l => ?_
  unfold ln
  blk_ext [B3, Gen.iblk, Gen.V, (idx t).2.2.2.1, row]

theorem g_blk (c : Dev nD) (t : Fin cfg0.N) (r : Fin 512) : ln (n := 512) (B4 m c t) r = ln (n := 4096) (m ((c : Thread nD τ).loc main_arg1)) (row t r) := by
  refine funext fun l => ?_
  unfold ln
  blk_ext [B4, Gen.iblk, Gen.V, (idx t).2.2.2.2.1, row]

theorem a_blk (c : Dev nD) (t : Fin cfg0.N) (r : Fin 512) : ln (n := 512) (B5 m c t) r = ln (n := 4096) (m ((c : Thread nD τ).loc main_arg2)) (row t r) := by
  refine funext fun l => ?_
  unfold ln
  blk_ext [B5, Gen.iblk, Gen.V, (idx t).2.2.2.2.2.1, row]

theorem hw_blk (c : Dev nD) (t : Fin cfg0.N) : ln (n := 1) (B6 m c t) 0 = ln (n := 1) (m ((c : Thread nD τ).loc main_arg3)) 0 := by
  refine funext fun l => ?_
  unfold ln
  blk_ext [B6, Gen.iblk, Gen.V, (idx t).2.2.2.2.2.2.1]

theorem nw_blk (c : Dev nD) (t : Fin cfg0.N) : Rms.line (n := 1) (B2 m c t) 0 = Rms.line (n := 1) (m ((c : Thread nD τ).loc main_arg6)) 0 := by
  refine funext fun l => ?_
  unfold Rms.line
  blk_ext [B2, Gen.iblk, Gen.V, (idx t).2.2.1]

theorem mix_blk (c : Dev nD) (t : Fin cfg0.N) (r : Fin 512) : mix (n := 512) (B3 m c t) (B4 m c t) (B5 m c t) (B6 m c t) r = mix (n := 4096) (m ((c : Thread nD τ).loc main_arg0)) (m ((c : Thread nD τ).loc main_arg1)) (m ((c : Thread nD τ).loc main_arg2)) (m ((c : Thread nD τ).loc main_arg3)) (row t r) := by
  refine funext fun k => ?_
  unfold mix
  rw [o_blk, g_blk, a_blk, hw_blk]

theorem h1_blk (c : Dev nD) (t : Fin cfg0.N) (r : Fin 512) : h1 (n := 512) (B0 m c t) (B1 m c t) (B3 m c t) (B4 m c t) (B5 m c t) (B6 m c t) r = h1 (n := 4096) (m ((c : Thread nD τ).loc main_arg4)) (m ((c : Thread nD τ).loc main_arg5)) (m ((c : Thread nD τ).loc main_arg0)) (m ((c : Thread nD τ).loc main_arg1)) (m ((c : Thread nD τ).loc main_arg2)) (m ((c : Thread nD τ).loc main_arg3)) (row t r) := by
  refine funext fun l => congrArg₂ (· + ·) (Finset.sum_congr rfl fun k _ => congrArg₂ (· * ·) (congrFun (mix_blk m c t r) k) ?_) ?_
  · blk_ext [B0, Gen.iblk, Gen.V, (idx t).1]
  · blk_ext [B1, Gen.iblk, Gen.V, (idx t).2.1, row]

theorem h1n_blk (c : Dev nD) (t : Fin cfg0.N) (r : Fin 512) (l : Fin 1024) : h1n (n := 512) (B0 m c t) (B1 m c t) (B2 m c t) (B3 m c t) (B4 m c t) (B5 m c t) (B6 m c t) r l = h1n (n := 4096) (m ((c : Thread nD τ).loc main_arg4)) (m ((c : Thread nD τ).loc main_arg5)) (m ((c : Thread nD τ).loc main_arg6)) (m ((c : Thread nD τ).loc main_arg0)) (m ((c : Thread nD τ).loc main_arg1)) (m ((c : Thread nD τ).loc main_arg2)) (m ((c : Thread nD τ).loc main_arg3)) (row t r) l := by
  unfold h1n
  rw [h1_blk, nw_blk]

/-- The three results, as functions of the arguments. -/
def H (c : Dev nD) : S4096x1024.Idx → EReal := fun i => h1 (n := 4096) (m ((c : Thread nD τ).loc main_arg4)) (m ((c : Thread nD τ).loc main_arg5)) (m ((c : Thread nD τ).loc main_arg0)) (m ((c : Thread nD τ).loc main_arg1)) (m ((c : Thread nD τ).loc main_arg2)) (m ((c : Thread nD τ).loc main_arg3)) (i 0) (i 1)
def HN (c : Dev nD) : S4096x1024.Idx → EReal := fun i => h1n (n := 4096) (m ((c : Thread nD τ).loc main_arg4)) (m ((c : Thread nD τ).loc main_arg5)) (m ((c : Thread nD τ).loc main_arg6)) (m ((c : Thread nD τ).loc main_arg0)) (m ((c : Thread nD τ).loc main_arg1)) (m ((c : Thread nD τ).loc main_arg2)) (m ((c : Thread nD τ).loc main_arg3)) (i 0) (i 1)
def MX (c : Dev nD) : S4096x1024.Idx → EReal := fun i => mix (n := 4096) (m ((c : Thread nD τ).loc main_arg0)) (m ((c : Thread nD τ).loc main_arg1)) (m ((c : Thread nD τ).loc main_arg2)) (m ((c : Thread nD τ).loc main_arg3)) (i 0) (i 1)

theorem out7 (c : Dev nD) (t : Fin cfg0.N) (r : Fin 512) (l : Fin 1024) :
    k0_pay2 (F := Ideal) (B1 m c t) (B5 m c t) (B6 m c t) (k0_pay4 (F := Ideal) (B3 m c t) (B4 m c t) (B6 m c t)) (k0_pay6 (F := Ideal) (B3 m c t) (B6 m c t) (k0_pay5 (F := Ideal) (B4 m c t))) (k0_pay7 (F := Ideal) (B3 m c t) (B4 m c t) (B6 m c t)) (k0_pay8 (F := Ideal) (B4 m c t)) (k0_pay9 (F := Ideal) (B3 m c t)) (k0_pay10 (F := Ideal) (B3 m c t)) (B0 m c t) (ix2 r l) = H m c (ix2 (row t r) l) :=
  (pay2 (B1 m c t) (B3 m c t) (B4 m c t) (B5 m c t) (B6 m c t) (B0 m c t) r l).trans (congrFun (h1_blk m c t r) l)
theorem out8 (c : Dev nD) (t : Fin cfg0.N) (r : Fin 512) (l : Fin 1024) :
    k0_pay3 (F := Ideal) (B1 m c t) (B2 m c t) (B5 m c t) (B6 m c t) (k0_pay4 (F := Ideal) (B3 m c t) (B4 m c t) (B6 m c t)) (k0_pay6 (F := Ideal) (B3 m c t) (B6 m c t) (k0_pay5 (F := Ideal) (B4 m c t))) (k0_pay7 (F := Ideal) (B3 m c t) (B4 m c t) (B6 m c t)) (k0_pay8 (F := Ideal) (B4 m c t)) (k0_pay9 (F := Ideal) (B3 m c t)) (k0_pay10 (F := Ideal) (B3 m c t)) (B0 m c t) (ix2 r l) = HN m c (ix2 (row t r) l) :=
  (pay3 (B1 m c t) (B2 m c t) (B3 m c t) (B4 m c t) (B5 m c t) (B6 m c t) (B0 m c t) r l).trans (h1n_blk m c t r l)
theorem out9 (c : Dev nD) (t : Fin cfg0.N) (r : Fin 512) (l : Fin 1024) :
    k0_pay1 (F := Ideal) (B5 m c t) (B6 m c t) (k0_pay4 (F := Ideal) (B3 m c t) (B4 m c t) (B6 m c t)) (k0_pay6 (F := Ideal) (B3 m c t) (B6 m c t) (k0_pay5 (F := Ideal) (B4 m c t))) (k0_pay7 (F := Ideal) (B3 m c t) (B4 m c t) (B6 m c t)) (k0_pay8 (F := Ideal) (B4 m c t)) (k0_pay9 (F := Ideal) (B3 m c t)) (k0_pay10 (F := Ideal) (B3 m c t)) (ix2 r l) = MX m c (ix2 (row t r) l) :=
  (pay1 (B3 m c t) (B4 m c t) (B5 m c t) (B6 m c t) r l).trans (congrFun (mix_blk m c t r) l)

theorem arr7 (c : Dev nD) : (dats m 0 c).arrAt 7 cfg0.N = H m c :=
  (dats m 0 c).arrAt_eq_of_covers 7 _ (by decide +kernel) fun t hf y => by
    blk_simp
    rw [after0_7]
    frame_out
    unfold k0_pay11 k0_pay12 k0_pay13 k0_pay14 k0_pay15 k0_pay16
    frame_out
    refine (congrArg _ (eq_ix2 (n0 := 512) (n1 := 1024) y)).trans ((out7 m c t (y 0) (y 1)).trans (congrArg (H m c)
      (show ix2 (row t (y 0)) (y 1) = _ from ?_)))
    blk_ext [(idx t).2.2.2.2.2.2.2.1, row]

theorem arr8 (c : Dev nD) : (dats m 0 c).arrAt 8 cfg0.N = HN m c :=
  (dats m 0 c).arrAt_eq_of_covers 8 _ (by decide +kernel) fun t hf y => by
    blk_simp
    rw [after0_8]
    frame_out
    unfold k0_pay11 k0_pay12 k0_pay13 k0_pay14 k0_pay15 k0_pay16
    frame_out
    refine (congrArg _ (eq_ix2 (n0 := 512) (n1 := 1024) y)).trans ((out8 m c t (y 0) (y 1)).trans (congrArg (HN m c)
      (show ix2 (row t (y 0)) (y 1) = _ from ?_)))
    blk_ext [(idx t).2.2.2.2.2.2.2.2.1, row]

theorem arr9 (c : Dev nD) : (dats m 0 c).arrAt 9 cfg0.N = MX m c :=
  (dats m 0 c).arrAt_eq_of_covers 9 _ (by decide +kernel) fun t hf y => by
    blk_simp
    rw [after0_9]
    frame_out
    unfold k0_pay11 k0_pay12 k0_pay13 k0_pay14 k0_pay15 k0_pay16
    frame_out
    refine (congrArg _ (eq_ix2 (n0 := 512) (n1 := 1024) y)).trans ((out9 m c t (y 0) (y 1)).trans (congrArg (MX m c)
      (show ix2 (row t (y 0)) (y 1) = _ from ?_)))
    blk_ext [(idx t).2.2.2.2.2.2.2.2.2, row]

end Blocks

section Reference
open Cert.MixOutRefIdeal.Read
variable (x0 x1 x2 : S4096x512.Idx → EReal) (x3 : S1x128.Idx → EReal) (x4 : S1024x1024.Idx → EReal) (x5 : S4096x1024.Idx → EReal) (x6 : S1x1024.Idx → EReal)

/-- An array of the heads' columns and the same array with an axis for the heads. -/
theorem split_idx (r : Fin 4096) (h : Fin 4) (l : Fin 128) : Cert.MixOutRefIdeal.Read.idx_main_v0 (ix3 r h l) = ix2 r (hc h l) :=
  funext fun a => Fin.ext (by
    match a with
    | ⟨0, _⟩ => show ((r.val * 4 + h.val) * 128 + l.val) / 512 = r.val; omega
    | ⟨1, _⟩ => show ((r.val * 4 + h.val) * 128 + l.val) % 512 = 128 * h.val + l.val; omega)
theorem join_idx (r : Fin 4096) (k : Fin 512) : Cert.MixOutRefIdeal.Read.idx_main_v14 (ix2 r k) = ix3 r (hd k) (cl k) :=
  funext fun a => Fin.ext (by
    match a with
    | ⟨0, _⟩ => show (r.val * 512 + k.val) / 512 = r.val; omega
    | ⟨1, _⟩ => show (r.val * 512 + k.val) / 128 % 4 = k.val / 128; omega
    | ⟨2, _⟩ => show (r.val * 512 + k.val) % 128 = k.val % 128; omega)

theorem ref0 (r : Fin 4096) (h : Fin 4) (l : Fin 128) : val_main_v0 (F := Ideal) x0 (ix3 r h l) = part (ln (n := 4096) x0 r) h l := by
  rw [val_main_v0_apply, split_idx]
  rfl
theorem ref8 (r : Fin 4096) (h : Fin 4) (l : Fin 1) : val_main_v8 (F := Ideal) x0 (ix3 r h l) = inv (part (ln (n := 4096) x0 r) h) := by
  have e := ref0 x0
  unfold val_main_v8 val_main_v7 val_main_v5 val_main_v3 val_main_v2 val_main_v1
  generalize val_main_v0 (F := Ideal) x0 = X at e
  pointwise [val_main_cst, val_main_cst_0, val_main_v4, val_main_cst_1, val_main_v6]
  simp only [e]
  rfl
theorem ref14 (r : Fin 4096) (l : Fin 512) : val_main_v14 (F := Ideal) x0 x3 (ix2 r l) = hat (part (ln (n := 4096) x0 r) (hd l)) (cl l) * ln (n := 1) x3 0 (cl l) := by
  rw [val_main_v14_apply, join_idx]
  have e := ref0 x0
  have e1 := ref8 x0
  unfold val_main_v13 val_main_v10 val_main_v9
  generalize val_main_v0 (F := Ideal) x0 = X at e
  generalize val_main_v8 (F := Ideal) x0 = Y at e1
  pointwise [val_main_v11, val_main_v12]
  rw [e, e1]
  rfl
theorem ref16 (r : Fin 4096) (l : Fin 512) : val_main_v16 (F := Ideal) x0 x1 x3 (ix2 r l) = gated (ln (n := 4096) x0 r) (ln (n := 4096) x1 r) (ln (n := 1) x3 0) (hd l) (cl l) := by
  have e := ref14 x0 x3
  unfold val_main_v16
  generalize val_main_v14 (F := Ideal) x0 x3 = X at e
  pointwise [val_main_v15, val_main_call0_v0, val_main_call0_v1, val_main_call0_cst, val_main_call0_v2, val_main_call0_v3, val_main_call0_cst_0, val_main_call0_v4, val_main_call0_v5]
  rw [e]
  unfold gated silu sg
  rw [hc_hd_cl, zero_sub]
  rfl
theorem ref17 (r : Fin 4096) (k : Fin 1024) : val_main_v17 (F := Ideal) x0 x1 x2 x3 (ix2 r k) = mix (n := 4096) x0 x1 x2 x3 r k := by
  have e := ref16 x0 x1 x3
  unfold val_main_v17
  generalize val_main_v16 (F := Ideal) x0 x1 x3 = X at e
  pointwise
  simp only [e]
  rfl
theorem ref20 (r : Fin 4096) (l : Fin 1024) : val_main_v20 (F := Ideal) x0 x1 x2 x3 x4 x5 (ix2 r l) = h1 (n := 4096) x4 x5 x0 x1 x2 x3 r l := by
  have e := ref17 x0 x1 x2 x3
  unfold val_main_v20 val_main_v19
  generalize val_main_v17 (F := Ideal) x0 x1 x2 x3 = X at e
  pointwise [val_main_v18]
  simp only [e]
  exact add_comm _ _
theorem refh : val_main_v20 (F := Ideal) x0 x1 x2 x3 x4 x5 = fun i => h1 (n := 4096) x4 x5 x0 x1 x2 x3 (i 0) (i 1) := by
  funext i
  idx_vars i
  exact ref20 x0 x1 x2 x3 x4 x5 i0 i1
theorem refm : val_main_v34 (F := Ideal) x0 x1 x2 x3 = fun i => mix (n := 4096) x0 x1 x2 x3 (i 0) (i 1) := by
  funext i
  idx_vars i
  have e := ref17 x0 x1 x2 x3
  unfold val_main_v34
  generalize val_main_v17 (F := Ideal) x0 x1 x2 x3 = X at e
  pointwise
  exact e i0 i1
theorem refn : val_main_v33 (F := Ideal) x0 x1 x2 x3 x4 x5 x6 = fun i => h1n (n := 4096) x4 x5 x6 x0 x1 x2 x3 (i 0) (i 1) := by
  funext i
  idx_vars i
  have e := ref20 x0 x1 x2 x3 x4 x5
  unfold val_main_v33 val_main_v32 val_main_v30 val_main_v29 val_main_v28 val_main_v27 val_main_v25 val_main_v23 val_main_v22 val_main_v21
  generalize val_main_v20 (F := Ideal) x0 x1 x2 x3 x4 x5 = X at e
  pointwise [val_main_cst_2, val_main_cst_3, val_main_v24, val_main_cst_4, val_main_v26, val_main_v31]
  simp only [e]
  rfl

end Reference

/-- Kernel and reference end with the same stream, the same normalised stream and the same mix. -/
theorem algebraic : Cert.algebraic_MixOutIdeal_MixOutRefIdeal := by
  intro m g m' g' _ hm
  refine ⟨fun c => H m c, fun c => HN m c, fun c => MX m c, ?_, ?_⟩
  · exact (θ_run defs _ _).mono (fun r h c => ⟨(h c).1.trans (arr7 m c), (h c).2.1.trans (arr8 m c), (h c).2.2.1.trans (arr9 m c),
      (h c).2.2.2⟩) (Cert.MixOutIdeal.Value.run_blocks m g)
  · refine (θ_run Cert.MixOutRefIdeal.defs _ _).mono (fun r h c => ?_) (Cert.MixOutRefIdeal.Value.run m' g')
    obtain ⟨a0, a1, a2, a3, a4, a5, a6⟩ := hm c
    refine ⟨(h c).1.trans ?_, (h c).2.1.trans ?_, (h c).2.2.1.trans ?_, (h c).2.2.2⟩
    · rw [Cert.MixOutRefIdeal.Read.val_main_v20_eq, a0, a1, a2, a3, a4, a5]
      exact refh _ _ _ _ _ _
    · rw [Cert.MixOutRefIdeal.Read.val_main_v33_eq, a0, a1, a2, a3, a4, a5, a6]
      exact refn _ _ _ _ _ _ _
    · rw [Cert.MixOutRefIdeal.Read.val_main_v34_eq, a0, a1, a2, a3]
      exact refm _ _ _ _

/-- The reference is a straight-line host program without semaphores. -/
theorem frame_ref : Cert.quiescent_MixOutRefIdeal := fun m ρ _ =>
  (θ_run Cert.MixOutRefIdeal.defs _ _).mono (fun r h => ⟨fun c => (h c).2.2.2, sem_eq_zero_of_no_sems (by decide) r.2⟩)
    (Cert.MixOutRefIdeal.Value.run m ρ)

end Cert.MixOutIdeal.Hand

end
-- ==== Proof.MixBackValue.lean ====
/-
  The backward pass of the mix: the output projection's transposed product, the gates' and the heads' norms' derivatives; the kernel's row tiles and its accumulated weight gradient, and the reference's derivative.
-/
module

public import proofs.«01_k».proof.Defs
public import proofs.«01_k».proof.Proof.HeadMath
public import proofs.«01_k».proof.Proof.Gen.Pre_mix_finite
public import proofs.«01_k».proof.Proof.Gen.MixBackIdeal.Value
public import proofs.«01_k».proof.Proof.Gen.MixBackRefIdeal.Run
public import proofs.«01_k».proof.Proof.Gen.MixBackRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.MixBackIdeal.Hand

open Cert.MixBackIdeal Cert.MixBackIdeal.Gen Cert.RealNum Cert.Head
open Idealize.ShloMosaic Idealize.ShloMosaic.TcCoe Idealize.SL.Sem

/-- A column of the heads among the columns of the mix, and a column of the attention. -/
def lo (c : Fin 512) : Fin 1024 := ⟨c.val, by omega⟩
def hi (c : Fin 512) : Fin 1024 := ⟨512 + c.val, by omega⟩

/-- The gradient of the mix. -/
def dmix {n : ℕ} (d : (⟨2, ![n, 1024]⟩ : Shape).Idx → EReal) (w : S1024x1024.Idx → EReal) (r : Fin n) (k : Fin 1024) : EReal :=
  ∑ j : Fin 1024, d (ix2 r j) * w (ix2 k j)

/-- Its part at the heads' columns. -/
def dlo {n : ℕ} (d : (⟨2, ![n, 1024]⟩ : Shape).Idx → EReal) (w : S1024x1024.Idx → EReal) (r : Fin n) : Fin 512 → EReal := fun k => dmix d w r (lo k)

theorem pay6 (v3 : Vec Ideal S512x1024 .bf16) (v4 : Vec Ideal S1024x1024 .bf16) (r : Fin 512) (l : Fin 1024) :
    k0_pay6 (F := Ideal) v3 v4 (ix2 r l) = dmix (n := 512) v3 v4 r l := by
  pointwise [k0_pay6]
  rfl
theorem pay7 (v3 : Vec Ideal S512x1024 .bf16) (v4 : Vec Ideal S1024x1024 .bf16) (r : Fin 512) (l : Fin 512) :
    k0_pay7 (F := Ideal) v3 v4 (ix2 r l) = dlo (n := 512) v3 v4 r l := by
  unfold k0_pay7
  have h := pay6 v3 v4
  generalize k0_pay6 (F := Ideal) v3 v4 = X at h
  pointwise []
  exact h _ _
theorem silu0 (v1 : Vec Ideal S512x512 .f32) (r : Fin 512) (l : Fin 128) :
    k0_pay11 (F := Ideal) v1 (ix2 r l) = silu (ln (n := 512) v1 r (hc 0 l)) := by
  pointwise [k0_pay9, k0_pay10, k0_pay11]
  simp only [hc_zero]
  rfl
theorem silu1 (v1 : Vec Ideal S512x512 .f32) (r : Fin 512) (l : Fin 128) :
    k0_pay22 (F := Ideal) v1 (ix2 r l) = silu (ln (n := 512) v1 r (hc 1 l)) := by
  pointwise [k0_pay20, k0_pay21, k0_pay22]
  rfl
theorem silu2 (v1 : Vec Ideal S512x512 .f32) (r : Fin 512) (l : Fin 128) :
    k0_pay36 (F := Ideal) v1 (ix2 r l) = silu (ln (n := 512) v1 r (hc 2 l)) := by
  pointwise [k0_pay34, k0_pay35, k0_pay36]
  rfl
theorem cut1 (v6 : FVec Ideal S512x512 .f32) (r : Fin 512) (l : Fin 128) :
    k0_pay24 (F := Ideal) v6 (ix2 r l) = ln (n := 512) v6 r (hc 1 l) := by
  pointwise [k0_pay24]
  rfl
theorem gate0 (v0 : Vec Ideal S512x512 .f32)(v1 : Vec Ideal S512x512 .f32)(v2 : Vec Ideal S1x128 .f32)(v3 : Vec Ideal S512x1024 .bf16) (v4 : Vec Ideal S1024x1024 .bf16) (r : Fin 512) (l : Fin 128) :
    k0_pay13 (F := Ideal) v0 v1 v2 v3 v4 (ix2 r l) = gBack (ln (n := 512) (k0_pay7 (F := Ideal) v3 v4) r) (ln (n := 512) v0 r) (ln (n := 512) v1 r) (ln (n := 1) v2 0) 0 l := by
  unfold k0_pay13 k0_pay12
  generalize k0_pay7 (F := Ideal) v3 v4 = v6
  pointwise [k0_pay9, k0_pay10]
  simp only [hc_zero]
  rfl
theorem gate1 (v0 : Vec Ideal S512x512 .f32)(v1 : Vec Ideal S512x512 .f32)(v2 : Vec Ideal S1x128 .f32)(v6 : FVec Ideal S512x512 .f32) (r : Fin 512) (l : Fin 128) :
    k0_pay27 (F := Ideal) v2 (k0_pay23 (F := Ideal) v1) (k0_pay24 (F := Ideal) v6) (k0_pay25 (F := Ideal) v0) (k0_pay26 (F := Ideal) v0) (ix2 r l) = gBack (ln (n := 512) v6 r) (ln (n := 512) v0 r) (ln (n := 512) v1 r) (ln (n := 1) v2 0) 1 l := by
  pointwise [k0_pay20, k0_pay21, k0_pay23, k0_pay24, k0_pay25, k0_pay26, k0_pay27]
  rfl
theorem gate2 (v0 : Vec Ideal S512x512 .f32)(v1 : Vec Ideal S512x512 .f32)(v2 : Vec Ideal S1x128 .f32)(v6 : FVec Ideal S512x512 .f32) (r : Fin 512) (l : Fin 128) :
    k0_pay38 (F := Ideal) v0 v2 v6 (k0_pay34 (F := Ideal) v1) (k0_pay35 (F := Ideal) v1) (Scalar.ofBits .f32 0x3F800000#32) (ix2 r l) = gBack (ln (n := 512) v6 r) (ln (n := 512) v0 r) (ln (n := 512) v1 r) (ln (n := 1) v2 0) 2 l := by
  pointwise [k0_pay34, k0_pay35, k0_pay37, k0_pay38]
  rfl
theorem gate3 (v0 : Vec Ideal S512x512 .f32)(v1 : Vec Ideal S512x512 .f32)(v2 : Vec Ideal S1x128 .f32)(v6 : FVec Ideal S512x512 .f32) (r : Fin 512) (l : Fin 128) :
    k0_pay48 (F := Ideal) v0 v1 v2 v6 (ix2 r l) = gBack (ln (n := 512) v6 r) (ln (n := 512) v0 r) (ln (n := 512) v1 r) (ln (n := 1) v2 0) 3 l := by
  pointwise [k0_pay45, k0_pay46, k0_pay47, k0_pay48]
  rfl
theorem out0 (v0 : Vec Ideal S512x512 .f32)(v1 : Vec Ideal S512x512 .f32)(v2 : Vec Ideal S1x128 .f32)(v3 : Vec Ideal S512x1024 .bf16) (v4 : Vec Ideal S1024x1024 .bf16) (r : Fin 512) (l : Fin 128) :
    k0_pay18 (F := Ideal) v0 v2 (k0_pay11 (F := Ideal) v1) (k0_pay12 (F := Ideal) v3 v4) (ix2 r l) = outBack (ln (n := 512) (k0_pay7 (F := Ideal) v3 v4) r) (ln (n := 512) v0 r) (ln (n := 512) v1 r) (ln (n := 1) v2 0) 0 l := by
  have h := silu0 v1
  unfold k0_pay12
  generalize k0_pay7 (F := Ideal) v3 v4 = v6
  generalize k0_pay11 (F := Ideal) v1 = Y at h
  pointwise [k0_pay14, k0_pay15, k0_pay16, k0_pay17, k0_pay18]
  simp only [h, hc_zero]
  rfl
theorem out1 (v0 : Vec Ideal S512x512 .f32)(v1 : Vec Ideal S512x512 .f32)(v2 : Vec Ideal S1x128 .f32)(v6 : FVec Ideal S512x512 .f32) (r : Fin 512) (l : Fin 128) :
    k0_pay32 (F := Ideal) v0 v2 (k0_pay22 (F := Ideal) v1) (k0_pay24 (F := Ideal) v6) (ix2 r l) = outBack (ln (n := 512) v6 r) (ln (n := 512) v0 r) (ln (n := 512) v1 r) (ln (n := 1) v2 0) 1 l := by
  have h := silu1 v1
  generalize k0_pay22 (F := Ideal) v1 = Y at h
  pointwise [k0_pay24, k0_pay28, k0_pay29, k0_pay30, k0_pay31, k0_pay32]
  simp only [h]
  rfl
theorem out2 (v0 : Vec Ideal S512x512 .f32)(v1 : Vec Ideal S512x512 .f32)(v2 : Vec Ideal S1x128 .f32)(v6 : FVec Ideal S512x512 .f32) (r : Fin 512) (l : Fin 128) :
    k0_pay43 (F := Ideal) v0 v2 v6 (k0_pay36 (F := Ideal) v1) (ix2 r l) = outBack (ln (n := 512) v6 r) (ln (n := 512) v0 r) (ln (n := 512) v1 r) (ln (n := 1) v2 0) 2 l := by
  have h := silu2 v1
  generalize k0_pay36 (F := Ideal) v1 = Y at h
  pointwise [k0_pay37, k0_pay39, k0_pay40, k0_pay41, k0_pay42, k0_pay43]
  simp only [h]
  rfl
theorem inv3 (v0 : Vec Ideal S512x512 .f32) (r : Fin 512) (l : Fin 1) :
    k0_pay51 (F := Ideal) v0 (ix2 r l) = inv (part (ln (n := 512) v0 r) 3) := by
  pointwise [k0_pay49, k0_pay51]
  rfl
theorem hat3 (v0 : Vec Ideal S512x512 .f32) (r : Fin 512) (l : Fin 128) :
    k0_pay52 (F := Ideal) v0 (ix2 r l) = hat (part (ln (n := 512) v0 r) 3) l := by
  unfold k0_pay52
  have h := inv3 v0
  generalize k0_pay51 (F := Ideal) v0 = Y at h
  pointwise [k0_pay49]
  simp only [h]
  rfl
theorem dy3 (v1 : Vec Ideal S512x512 .f32)(v6 : FVec Ideal S512x512 .f32) (r : Fin 512) (l : Fin 128) :
    k0_pay50 (F := Ideal) v1 v6 (ix2 r l) = gateBack (ln (n := 512) v6 r) (ln (n := 512) v1 r) 3 l := by
  pointwise [k0_pay45, k0_pay46, k0_pay47, k0_pay50]
  rfl
theorem dyw3 (v1 : Vec Ideal S512x512 .f32)(v2 : Vec Ideal S1x128 .f32)(v6 : FVec Ideal S512x512 .f32) (r : Fin 512) (l : Fin 128) :
    k0_pay53 (F := Ideal) v1 v2 v6 (ix2 r l) = gateBack (ln (n := 512) v6 r) (ln (n := 512) v1 r) 3 l * ln (n := 1) v2 0 l := by
  unfold k0_pay53
  have h := dy3 v1 v6
  generalize k0_pay50 (F := Ideal) v1 v6 = Y at h
  pointwise []
  simp only [h]
  rfl
theorem mean3 (v0 : Vec Ideal S512x512 .f32)(v1 : Vec Ideal S512x512 .f32)(v2 : Vec Ideal S1x128 .f32)(v6 : FVec Ideal S512x512 .f32) (r : Fin 512) (l : Fin 1) :
    k0_pay54 (F := Ideal) v0 v1 v2 v6 (ix2 r l) = ∑ x, gateBack (ln (n := 512) v6 r) (ln (n := 512) v1 r) 3 x * ln (n := 1) v2 0 x * hat (part (ln (n := 512) v0 r) 3) x := by
  unfold k0_pay54
  have h := dyw3 v1 v2 v6
  have h1 := hat3 v0
  generalize k0_pay53 (F := Ideal) v1 v2 v6 = Y at h
  generalize k0_pay52 (F := Ideal) v0 = X at h1
  pointwise []
  simp only [h, h1]
theorem pay3 (v0 : Vec Ideal S512x512 .f32)(v1 : Vec Ideal S512x512 .f32)(v2 : Vec Ideal S1x128 .f32)(v3 : Vec Ideal S512x1024 .bf16) (v4 : Vec Ideal S1024x1024 .bf16) (r : Fin 512) (h : Fin 4) (l : Fin 128) :
    k0_pay3 (F := Ideal) (k0_pay13 (F := Ideal) v0 v1 v2 v3 v4) (k0_pay27 (F := Ideal) v2 (k0_pay23 (F := Ideal) v1) (k0_pay24 (F := Ideal) (k0_pay7 (F := Ideal) v3 v4)) (k0_pay25 (F := Ideal) v0) (k0_pay26 (F := Ideal) v0))
      (k0_pay38 (F := Ideal) v0 v2 (k0_pay7 (F := Ideal) v3 v4) (k0_pay34 (F := Ideal) v1) (k0_pay35 (F := Ideal) v1) (Scalar.ofBits .f32 0x3F800000#32)) (k0_pay48 (F := Ideal) v0 v1 v2 (k0_pay7 (F := Ideal) v3 v4)) (ix2 r (hc h l))
      = gBack (dlo (n := 512) v3 v4 r) (ln (n := 512) v0 r) (ln (n := 512) v1 r) (ln (n := 1) v2 0) h l := by
  have e : ln (n := 512) (k0_pay7 (F := Ideal) v3 v4) r = dlo (n := 512) v3 v4 r := funext fun k => pay7 v3 v4 r k
  have h0 := gate0 v0 v1 v2 v3 v4 r l
  have h1 := gate1 v0 v1 v2 (k0_pay7 (F := Ideal) v3 v4) r l
  have h2 := gate2 v0 v1 v2 (k0_pay7 (F := Ideal) v3 v4) r l
  have h3 := gate3 v0 v1 v2 (k0_pay7 (F := Ideal) v3 v4) r l
  rw [e] at h0 h1 h2 h3
  generalize k0_pay13 (F := Ideal) v0 v1 v2 v3 v4 = a0 at h0 ⊢
  generalize k0_pay27 (F := Ideal) v2 (k0_pay23 (F := Ideal) v1) (k0_pay24 (F := Ideal) (k0_pay7 (F := Ideal) v3 v4)) (k0_pay25 (F := Ideal) v0) (k0_pay26 (F := Ideal) v0) = a1 at h1 ⊢
  generalize k0_pay38 (F := Ideal) v0 v2 (k0_pay7 (F := Ideal) v3 v4) (k0_pay34 (F := Ideal) v1) (k0_pay35 (F := Ideal) v1) (Scalar.ofBits .f32 0x3F800000#32) = a2 at h2 ⊢
  generalize k0_pay48 (F := Ideal) v0 v1 v2 (k0_pay7 (F := Ideal) v3 v4) = a3 at h3 ⊢
  pointwise [k0_pay3]
  exact cat (fun l => a0 (ix2 r l)) (fun l => a1 (ix2 r l)) (fun l => a2 (ix2 r l)) (fun l => a3 (ix2 r l))
    (gBack (dlo (n := 512) v3 v4 r) (ln (n := 512) v0 r) (ln (n := 512) v1 r) (ln (n := 1) v2 0)) h l h0 h1 h2 h3
theorem pay1 (v0 : Vec Ideal S512x512 .f32)(v1 : Vec Ideal S512x512 .f32)(v2 : Vec Ideal S1x128 .f32)(v3 : Vec Ideal S512x1024 .bf16) (v4 : Vec Ideal S1024x1024 .bf16) (r : Fin 512) (h : Fin 4) (l : Fin 128) :
    k0_pay1 (F := Ideal) (k0_pay18 (F := Ideal) v0 v2 (k0_pay11 (F := Ideal) v1) (k0_pay12 (F := Ideal) v3 v4)) (k0_pay32 (F := Ideal) v0 v2 (k0_pay22 (F := Ideal) v1) (k0_pay24 (F := Ideal) (k0_pay7 (F := Ideal) v3 v4)))
      (k0_pay43 (F := Ideal) v0 v2 (k0_pay7 (F := Ideal) v3 v4) (k0_pay36 (F := Ideal) v1)) (k0_pay51 (F := Ideal) v0) (k0_pay52 (F := Ideal) v0) (k0_pay53 (F := Ideal) v1 v2 (k0_pay7 (F := Ideal) v3 v4)) (k0_pay54 (F := Ideal) v0 v1 v2 (k0_pay7 (F := Ideal) v3 v4)) (ix2 r (hc h l))
      = outBack (dlo (n := 512) v3 v4 r) (ln (n := 512) v0 r) (ln (n := 512) v1 r) (ln (n := 1) v2 0) h l := by
  have e : ln (n := 512) (k0_pay7 (F := Ideal) v3 v4) r = dlo (n := 512) v3 v4 r := funext fun k => pay7 v3 v4 r k
  have h0 := out0 v0 v1 v2 v3 v4 r l
  have h1 := out1 v0 v1 v2 (k0_pay7 (F := Ideal) v3 v4) r l
  have h2 := out2 v0 v1 v2 (k0_pay7 (F := Ideal) v3 v4) r l
  have b1 := inv3 v0 r
  have b2 := hat3 v0 r l
  have b3 := dyw3 v1 v2 (k0_pay7 (F := Ideal) v3 v4) r l
  have b4 := mean3 v0 v1 v2 (k0_pay7 (F := Ideal) v3 v4) r
  rw [e] at h0 h1 h2 b3
  simp only [e] at b4
  generalize k0_pay18 (F := Ideal) v0 v2 (k0_pay11 (F := Ideal) v1) (k0_pay12 (F := Ideal) v3 v4) = a0 at h0 ⊢
  generalize k0_pay32 (F := Ideal) v0 v2 (k0_pay22 (F := Ideal) v1) (k0_pay24 (F := Ideal) (k0_pay7 (F := Ideal) v3 v4)) = a1 at h1 ⊢
  generalize k0_pay43 (F := Ideal) v0 v2 (k0_pay7 (F := Ideal) v3 v4) (k0_pay36 (F := Ideal) v1) = a2 at h2 ⊢
  generalize k0_pay51 (F := Ideal) v0 = c1 at b1 ⊢
  generalize k0_pay52 (F := Ideal) v0 = c2 at b2 ⊢
  generalize k0_pay53 (F := Ideal) v1 v2 (k0_pay7 (F := Ideal) v3 v4) = c3 at b3 ⊢
  generalize k0_pay54 (F := Ideal) v0 v1 v2 (k0_pay7 (F := Ideal) v3 v4) = c4 at b4 ⊢
  pointwise [k0_pay1]
  refine cat (fun l => a0 (ix2 r l)) (fun l => a1 (ix2 r l)) (fun l => a2 (ix2 r l)) (fun l => c1 (ix2 r 0) * (c3 (ix2 r l) - c2 (ix2 r l) * Ideal.div (c4 (ix2 r 0)) len))
    (outBack (dlo (n := 512) v3 v4 r) (ln (n := 512) v0 r) (ln (n := 512) v1 r) (ln (n := 1) v2 0)) h l h0 h1 h2 ?_
  show c1 (ix2 r 0) * (c3 (ix2 r l) - c2 (ix2 r l) * Ideal.div (c4 (ix2 r 0)) len) = _
  rw [b1, b2, b3, b4]
  rfl
theorem pay2 (v3 : Vec Ideal S512x1024 .bf16) (v4 : Vec Ideal S1024x1024 .bf16) (r : Fin 512) (l : Fin 512) :
    k0_pay2 (F := Ideal) (k0_pay6 (F := Ideal) v3 v4) (ix2 r l) = dmix (n := 512) v3 v4 r (hi l) := by
  have h := pay6 v3 v4
  generalize k0_pay6 (F := Ideal) v3 v4 = X at h ⊢
  pointwise [k0_pay2]
  exact h _ _
theorem pay4 (i : S1x128.Idx) : k0_pay4 (F := Ideal) i = 0 := by
  pointwise [k0_pay4]
theorem w0 (v0 : Vec Ideal S512x512 .f32)(v1 : Vec Ideal S512x512 .f32)(v3 : Vec Ideal S512x1024 .bf16) (v4 : Vec Ideal S1024x1024 .bf16) (r : Fin 1) (l : Fin 128) :
    k0_pay19 (F := Ideal) v0 (k0_pay8 (F := Ideal)) (k0_pay11 (F := Ideal) v1) (k0_pay12 (F := Ideal) v3 v4) (ix2 r l) = ∑ x : Fin 512, wBack (ln (n := 512) (k0_pay7 (F := Ideal) v3 v4) x) (ln (n := 512) v0 x) (ln (n := 512) v1 x) 0 l := by
  have h := silu0 v1
  unfold k0_pay12
  generalize k0_pay7 (F := Ideal) v3 v4 = v6
  generalize k0_pay11 (F := Ideal) v1 = Y at h
  pointwise [k0_pay8, k0_pay14, k0_pay15, k0_pay16, k0_pay17, k0_pay19]
  simp only [h, hc_zero, zero_add]
  rfl
theorem w1 (v0 : Vec Ideal S512x512 .f32)(v1 : Vec Ideal S512x512 .f32)(v6 : FVec Ideal S512x512 .f32)(b : FVec Ideal S1x128 .f32) (r : Fin 1) (l : Fin 128) :
    k0_pay33 (F := Ideal) v0 b (k0_pay22 (F := Ideal) v1) (k0_pay24 (F := Ideal) v6) (ix2 r l) = b (ix2 r l) + ∑ x : Fin 512, wBack (ln (n := 512) v6 x) (ln (n := 512) v0 x) (ln (n := 512) v1 x) 1 l := by
  have h := silu1 v1
  generalize k0_pay22 (F := Ideal) v1 = Y at h
  pointwise [k0_pay24, k0_pay28, k0_pay29, k0_pay30, k0_pay31, k0_pay33]
  simp only [h]
  rfl
theorem w2 (v0 : Vec Ideal S512x512 .f32)(v1 : Vec Ideal S512x512 .f32)(v6 : FVec Ideal S512x512 .f32)(b : FVec Ideal S1x128 .f32) (r : Fin 1) (l : Fin 128) :
    k0_pay44 (F := Ideal) v0 v6 b (k0_pay36 (F := Ideal) v1) (ix2 r l) = b (ix2 r l) + ∑ x : Fin 512, wBack (ln (n := 512) v6 x) (ln (n := 512) v0 x) (ln (n := 512) v1 x) 2 l := by
  have h := silu2 v1
  generalize k0_pay36 (F := Ideal) v1 = Y at h
  pointwise [k0_pay37, k0_pay39, k0_pay40, k0_pay41, k0_pay42, k0_pay44]
  simp only [h]
  rfl
theorem w3 (v0 : Vec Ideal S512x512 .f32)(v1 : Vec Ideal S512x512 .f32)(v6 : FVec Ideal S512x512 .f32)(a b : FVec Ideal S1x128 .f32) (r : Fin 1) (l : Fin 128) :
    k0_pay5 (F := Ideal) a (k0_pay50 (F := Ideal) v1 v6) (k0_pay52 (F := Ideal) v0) b (ix2 r l) = b (ix2 r l) + (a (ix2 r l) + ∑ x : Fin 512, wBack (ln (n := 512) v6 x) (ln (n := 512) v0 x) (ln (n := 512) v1 x) 3 l) := by
  have h := dy3 v1 v6
  have h1 := hat3 v0
  generalize k0_pay50 (F := Ideal) v1 v6 = Y at h
  generalize k0_pay52 (F := Ideal) v0 = X at h1
  pointwise [k0_pay5]
  simp only [h, h1]
  rfl
/-- What a tile adds to the gradient of the norm's weights. -/
theorem pay5 (v0 : Vec Ideal S512x512 .f32)(v1 : Vec Ideal S512x512 .f32)(v3 : Vec Ideal S512x1024 .bf16) (v4 : Vec Ideal S1024x1024 .bf16) (b : FVec Ideal S1x128 .f32) (r : Fin 1) (l : Fin 128) :
    k0_pay5 (F := Ideal) (k0_pay44 (F := Ideal) v0 (k0_pay7 (F := Ideal) v3 v4) (k0_pay33 (F := Ideal) v0 (k0_pay19 (F := Ideal) v0 (k0_pay8 (F := Ideal)) (k0_pay11 (F := Ideal) v1) (k0_pay12 (F := Ideal) v3 v4)) (k0_pay22 (F := Ideal) v1) (k0_pay24 (F := Ideal) (k0_pay7 (F := Ideal) v3 v4))) (k0_pay36 (F := Ideal) v1)) (k0_pay50 (F := Ideal) v1 (k0_pay7 (F := Ideal) v3 v4)) (k0_pay52 (F := Ideal) v0) b (ix2 r l)
      = b (ix2 r l) + ∑ x : Fin 512, ∑ h : Fin 4, wBack (dlo (n := 512) v3 v4 x) (ln (n := 512) v0 x) (ln (n := 512) v1 x) h l := by
  have e : ∀ x, ln (n := 512) (k0_pay7 (F := Ideal) v3 v4) x = dlo (n := 512) v3 v4 x := fun x => funext fun k => pay7 v3 v4 x k
  rw [w3, w2, w1, w0, Finset.sum_comm, Fin.sum_univ_four]
  simp only [e]
section Blocks
variable (m : (ℓ : Loc nD τ sig) → Buf (Elt Ideal) ℓ)

/-- The block indices: row tiles of the rows' operands, the whole weights. -/
theorem idx : ∀ t : Fin cfg0.N, win0_0.index t = ![t.val, 0] ∧ win0_1.index t = ![0, 0] ∧ win0_2.index t = ![t.val, 0] ∧ win0_3.index t = ![t.val, 0] ∧ win0_4.index t = ![0, 0] ∧ win0_5.index t = ![t.val, 0] ∧ win0_6.index t = ![t.val, 0] ∧ win0_7.index t = ![t.val, 0] :=
  (by decide +kernel : ∀ t : Fin grid0.N, win0_0.index t = ![t.val, 0] ∧ win0_1.index t = ![0, 0] ∧ win0_2.index t = ![t.val, 0] ∧ win0_3.index t = ![t.val, 0] ∧ win0_4.index t = ![0, 0] ∧ win0_5.index t = ![t.val, 0] ∧ win0_6.index t = ![t.val, 0] ∧ win0_7.index t = ![t.val, 0])

/-- A tile's row, as a row of the whole array. -/
def row (t : Fin cfg0.N) (r : Fin 512) : Fin 4096 :=
  ⟨t.val * 512 + r.val, by have h := lt_of_lt_of_eq t.isLt N_0; omega⟩

/-- The inputs' blocks at a point, as arrays. -/
abbrev B0 (c : Dev nD) (t : Fin cfg0.N) : S512x1024.Idx → EReal := iblk m c 0 t
abbrev B1 (c : Dev nD) (t : Fin cfg0.N) : S1024x1024.Idx → EReal := iblk m c 1 t
abbrev B2 (c : Dev nD) (t : Fin cfg0.N) : S512x512.Idx → EReal := iblk m c 2 t
abbrev B3 (c : Dev nD) (t : Fin cfg0.N) : S512x512.Idx → EReal := iblk m c 3 t
abbrev B4 (c : Dev nD) (t : Fin cfg0.N) : S1x128.Idx → EReal := iblk m c 4 t

theorem d_blk (c : Dev nD) (t : Fin cfg0.N) (r : Fin 512) : dmix (n := 512) (B0 m c t) (B1 m c t) r = dmix (n := 4096) (m ((c : Thread nD τ).loc main_arg0)) (m ((c : Thread nD τ).loc main_arg1)) (row t r) := by
  refine funext fun l => Finset.sum_congr rfl fun k _ => ?_
  congr 1 <;> blk_ext [B0, B1, Gen.iblk, Gen.V, (idx t).1, (idx t).2.1, row]

theorem dlo_blk (c : Dev nD) (t : Fin cfg0.N) (r : Fin 512) : dlo (n := 512) (B0 m c t) (B1 m c t) r = dlo (n := 4096) (m ((c : Thread nD τ).loc main_arg0)) (m ((c : Thread nD τ).loc main_arg1)) (row t r) :=
  funext fun l => congrFun (d_blk m c t r) (lo l)

theorem o_blk (c : Dev nD) (t : Fin cfg0.N) (r : Fin 512) : ln (n := 512) (B2 m c t) r = ln (n := 4096) (m ((c : Thread nD τ).loc main_arg2)) (row t r) := by
  refine funext fun l => ?_
  unfold ln
  blk_ext [B2, Gen.iblk, Gen.V, (idx t).2.2.1, row]

theorem g_blk (c : Dev nD) (t : Fin cfg0.N) (r : Fin 512) : ln (n := 512) (B3 m c t) r = ln (n := 4096) (m ((c : Thread nD τ).loc main_arg3)) (row t r) := by
  refine funext fun l => ?_
  unfold ln
  blk_ext [B3, Gen.iblk, Gen.V, (idx t).2.2.2.1, row]

theorem w_blk (c : Dev nD) (t : Fin cfg0.N) : ln (n := 1) (B4 m c t) 0 = ln (n := 1) (m ((c : Thread nD τ).loc main_arg4)) 0 := by
  refine funext fun l => ?_
  unfold ln
  blk_ext [B4, Gen.iblk, Gen.V, (idx t).2.2.2.2.1]

/-- The four results, as functions of the arguments. -/
def DO (c : Dev nD) : S4096x512.Idx → EReal := fun i => outBack (dlo (n := 4096) (m ((c : Thread nD τ).loc main_arg0)) (m ((c : Thread nD τ).loc main_arg1)) (i 0)) (ln (n := 4096) (m ((c : Thread nD τ).loc main_arg2)) (i 0)) (ln (n := 4096) (m ((c : Thread nD τ).loc main_arg3)) (i 0)) (ln (n := 1) (m ((c : Thread nD τ).loc main_arg4)) 0) (hd (i 1)) (cl (i 1))
def DG (c : Dev nD) : S4096x512.Idx → EReal := fun i => gBack (dlo (n := 4096) (m ((c : Thread nD τ).loc main_arg0)) (m ((c : Thread nD τ).loc main_arg1)) (i 0)) (ln (n := 4096) (m ((c : Thread nD τ).loc main_arg2)) (i 0)) (ln (n := 4096) (m ((c : Thread nD τ).loc main_arg3)) (i 0)) (ln (n := 1) (m ((c : Thread nD τ).loc main_arg4)) 0) (hd (i 1)) (cl (i 1))
def DA (c : Dev nD) : S4096x512.Idx → EReal := fun i => dmix (n := 4096) (m ((c : Thread nD τ).loc main_arg0)) (m ((c : Thread nD τ).loc main_arg1)) (i 0) (hi (i 1))
def DW (c : Dev nD) : S1x128.Idx → EReal := fun i => ∑ r : Fin 4096, ∑ h : Fin 4, wBack (dlo (n := 4096) (m ((c : Thread nD τ).loc main_arg0)) (m ((c : Thread nD τ).loc main_arg1)) r) (ln (n := 4096) (m ((c : Thread nD τ).loc main_arg2)) r) (ln (n := 4096) (m ((c : Thread nD τ).loc main_arg3)) r) h (i 1)

theorem out5 (c : Dev nD) (t : Fin cfg0.N) (r : Fin 512) (l : Fin 512) :
    (outsAt0 m c t.val t.isLt).1 (ix2 r l) = DO m c (ix2 (row t r) l) := by
  by_cases h : t.val % 8 = 0
  · rw [outsAt0_A m c t h]
    frame_out
    refine (congrArg _ (congrArg (ix2 r) (hc_hd_cl l).symm)).trans ((pay1 _ _ _ _ _ r (hd l) (cl l)).trans ?_)
    exact congrFun (congrFun (congr (congr (congr (congrArg outBack (dlo_blk m c t r)) (o_blk m c t r)) (g_blk m c t r)) (w_blk m c t)) (hd l)) (cl l)
  · rw [outsAt0_B m c t h]
    frame_out
    refine (congrArg _ (congrArg (ix2 r) (hc_hd_cl l).symm)).trans ((pay1 _ _ _ _ _ r (hd l) (cl l)).trans ?_)
    exact congrFun (congrFun (congr (congr (congr (congrArg outBack (dlo_blk m c t r)) (o_blk m c t r)) (g_blk m c t r)) (w_blk m c t)) (hd l)) (cl l)

theorem out6 (c : Dev nD) (t : Fin cfg0.N) (r : Fin 512) (l : Fin 512) :
    (outsAt0 m c t.val t.isLt).2.1 (ix2 r l) = DG m c (ix2 (row t r) l) := by
  by_cases h : t.val % 8 = 0
  · rw [outsAt0_A m c t h]
    frame_out
    refine (congrArg _ (congrArg (ix2 r) (hc_hd_cl l).symm)).trans ((pay3 _ _ _ _ _ r (hd l) (cl l)).trans ?_)
    exact congrFun (congrFun (congr (congr (congr (congrArg gBack (dlo_blk m c t r)) (o_blk m c t r)) (g_blk m c t r)) (w_blk m c t)) (hd l)) (cl l)
  · rw [outsAt0_B m c t h]
    frame_out
    refine (congrArg _ (congrArg (ix2 r) (hc_hd_cl l).symm)).trans ((pay3 _ _ _ _ _ r (hd l) (cl l)).trans ?_)
    exact congrFun (congrFun (congr (congr (congr (congrArg gBack (dlo_blk m c t r)) (o_blk m c t r)) (g_blk m c t r)) (w_blk m c t)) (hd l)) (cl l)

theorem out7 (c : Dev nD) (t : Fin cfg0.N) (r : Fin 512) (l : Fin 512) :
    (outsAt0 m c t.val t.isLt).2.2.1 (ix2 r l) = DA m c (ix2 (row t r) l) := by
  by_cases h : t.val % 8 = 0
  · rw [outsAt0_A m c t h]
    frame_out
    exact (pay2 _ _ r l).trans (congrFun (d_blk m c t r) (hi l))
  · rw [outsAt0_B m c t h]
    frame_out
    exact (pay2 _ _ r l).trans (congrFun (d_blk m c t r) (hi l))

theorem acc (c : Dev nD) (j : S1x128.Idx) : (outsAt0 m c t0_7.val t0_7.isLt).2.2.2 j = DW m c j := by
  rw [Pipeline.eq_sum_fin_of_reset_step_apply_last (fun n h => (outsAt0 m c n h).2.2.2) 8 (fun _ => 0)
      (fun t j => ∑ x : Fin 512, ∑ h : Fin 4, wBack (dlo (n := 512) (B0 m c t) (B1 m c t) x) (ln (n := 512) (B2 m c t) x) (ln (n := 512) (B3 m c t) x) h (j 1))
      (fun t h j => by
        idx_vars j
        rw [outsAt0_A m c t h]
        frame_out
        refine (pay5 _ _ _ _ _ j0 j1).trans ?_
        rw [pay4])
      (fun t h j => by
        idx_vars j
        rw [outsAt0_B m c t h]
        frame_out
        exact pay5 _ _ _ _ _ j0 j1)
      (le_of_eq N_0) t0_7 rfl j, zero_add]
  unfold DW
  refine Fin.sum_mul_add_congr fun s k hl => ?_
  refine Finset.sum_congr rfl fun h _ => ?_
  rw [dlo_blk, o_blk, g_blk]
  rfl

theorem arr5 (c : Dev nD) : (dats m 0 c).arrAt 5 cfg0.N = DO m c :=
  (dats m 0 c).arrAt_eq_of_covers 5 _ (by decide +kernel) fun t hf y => by
    blk_simp
    rw [after0_5]
    refine (congrArg _ (eq_ix2 (n0 := 512) (n1 := 512) y)).trans ((out5 m c t (y 0) (y 1)).trans (congrArg (DO m c)
      (show ix2 (row t (y 0)) (y 1) = _ from ?_)))
    blk_ext [(idx t).2.2.2.2.2.1, row]

theorem arr6 (c : Dev nD) : (dats m 0 c).arrAt 6 cfg0.N = DG m c :=
  (dats m 0 c).arrAt_eq_of_covers 6 _ (by decide +kernel) fun t hf y => by
    blk_simp
    rw [after0_6]
    refine (congrArg _ (eq_ix2 (n0 := 512) (n1 := 512) y)).trans ((out6 m c t (y 0) (y 1)).trans (congrArg (DG m c)
      (show ix2 (row t (y 0)) (y 1) = _ from ?_)))
    blk_ext [(idx t).2.2.2.2.2.2.1, row]

theorem arr7 (c : Dev nD) : (dats m 0 c).arrAt 7 cfg0.N = DA m c :=
  (dats m 0 c).arrAt_eq_of_covers 7 _ (by decide +kernel) fun t hf y => by
    blk_simp
    rw [after0_7]
    refine (congrArg _ (eq_ix2 (n0 := 512) (n1 := 512) y)).trans ((out7 m c t (y 0) (y 1)).trans (congrArg (DA m c)
      (show ix2 (row t (y 0)) (y 1) = _ from ?_)))
    blk_ext [(idx t).2.2.2.2.2.2.2, row]

theorem arr8 (c : Dev nD) : (dats m 0 c).arrAt 8 cfg0.N = DW m c :=
  (dats m 0 c).arrAt_eq_of_after_last 8 t0_7 (by decide +kernel) _ fun j => by
    blk_simp
    rw [after0_8, acc]

end Blocks

section Reference
open Cert.MixBackRefIdeal.Read
variable (x0 : S4096x1024.Idx → EReal) (x1 : S1024x1024.Idx → EReal) (x2 x3 : S4096x512.Idx → EReal) (x4 : S1x128.Idx → EReal)

/-- An array of the heads' columns and the same array with an axis for the heads. -/
theorem split_idx (r : Fin 4096) (h : Fin 4) (l : Fin 128) : Cert.MixBackRefIdeal.Read.idx_main_v1 (ix3 r h l) = ix2 r (hc h l) :=
  funext fun a => Fin.ext (by
    match a with
    | ⟨0, _⟩ => show ((r.val * 4 + h.val) * 128 + l.val) / 512 = r.val; omega
    | ⟨1, _⟩ => show ((r.val * 4 + h.val) * 128 + l.val) % 512 = 128 * h.val + l.val; omega)
theorem join_idx (r : Fin 4096) (k : Fin 512) : Cert.MixBackRefIdeal.Read.idx_main_v18 (ix2 r k) = ix3 r (hd k) (cl k) :=
  funext fun a => Fin.ext (by
    match a with
    | ⟨0, _⟩ => show (r.val * 512 + k.val) / 512 = r.val; omega
    | ⟨1, _⟩ => show (r.val * 512 + k.val) / 128 % 4 = k.val / 128; omega
    | ⟨2, _⟩ => show (r.val * 512 + k.val) % 128 = k.val % 128; omega)

theorem ref1 (r : Fin 4096) (h : Fin 4) (l : Fin 128) : val_main_v1 (F := Ideal) x2 (ix3 r h l) = part (ln (n := 4096) x2 r) h l := by
  rw [val_main_v1_apply, split_idx]
  rfl
theorem ref8 (r : Fin 4096) (h : Fin 4) (l : Fin 1) : val_main_v8 (F := Ideal) x2 (ix3 r h l) = ms (part (ln (n := 4096) x2 r) h) := by
  have h0 := ref1 x2
  unfold val_main_v8 val_main_v6 val_main_v4 val_main_v3 val_main_v2
  generalize val_main_v1 (F := Ideal) x2 = X0 at h0
  pointwise [val_main_cst_0, val_main_cst_1, val_main_v5, val_main_cst_2, val_main_v7]
  simp only [h0]
  rfl
theorem ref14 (r : Fin 4096) (h : Fin 4) (l : Fin 128) : val_main_v14 (F := Ideal) x2 (ix3 r h l) = hat (part (ln (n := 4096) x2 r) h) l := by
  have h0 := ref1 x2
  have h1 := ref8 x2
  unfold val_main_v14 val_main_v13 val_main_v9
  generalize val_main_v1 (F := Ideal) x2 = X0 at h0
  generalize val_main_v8 (F := Ideal) x2 = X1 at h1
  pointwise
  rw [h0, h1]
  rfl
theorem ref25 (r : Fin 4096) (l : Fin 1024) : val_main_v25 (F := Ideal) x0 x1 (ix2 r l) = dmix (n := 4096) x0 x1 r l := by
  pointwise [val_main_v25, val_main_v24, val_main_v22]
  rfl
theorem ref26 (r : Fin 4096) (l : Fin 512) : val_main_v26 (F := Ideal) x0 x1 (ix2 r l) = dlo (n := 4096) x0 x1 r l := by
  have h0 := ref25 x0 x1
  unfold val_main_v26
  generalize val_main_v25 (F := Ideal) x0 x1 = X0 at h0
  pointwise
  exact h0 _ _
theorem refsg (r : Fin 4096) (l : Fin 512) : val_main_v19_2 (F := Ideal) x3 (ix2 r l) = sg (x3 (ix2 r l)) := by
  pointwise [val_main_v19_2, val_main_call0_v0, val_main_call0_v1, val_main_call0_cst, val_main_call0_v2, val_main_call0_v3, val_main_call0_cst_0, val_main_call0_v4]
  unfold sg
  rw [zero_sub]
theorem refda  : val_main_v27 (F := Ideal) x0 x1 = fun i => dmix (n := 4096) x0 x1 (i 0) (hi (i 1)) := by
  funext i
  idx_vars i
  have h0 := ref25 x0 x1
  unfold val_main_v27
  generalize val_main_v25 (F := Ideal) x0 x1 = X0 at h0
  pointwise
  exact h0 _ _
theorem ref18 (r : Fin 4096) (l : Fin 512) : val_main_v18 (F := Ideal) x2 x4 (ix2 r l) = hat (part (ln (n := 4096) x2 r) (hd l)) (cl l) * ln (n := 1) x4 0 (cl l) := by
  rw [val_main_v18_apply, join_idx]
  have h := ref14 x2
  unfold val_main_v17
  generalize val_main_v14 (F := Ideal) x2 = X at h
  pointwise [val_main_v15, val_main_v16]
  rw [h]
  rfl
theorem ref31 (r : Fin 4096) (h : Fin 4) (l : Fin 128) : val_main_v31 (F := Ideal) x0 x1 x3 (ix3 r h l) = gateBack (dlo (n := 4096) x0 x1 r) (ln (n := 4096) x3 r) h l := by
  rw [val_main_v31_apply]
  rw [show Cert.MixBackRefIdeal.Read.idx_main_v31 (ix3 r h l) = ix2 r (hc h l) from split_idx r h l]
  have h0 := ref26 x0 x1
  have h1 := refsg x3
  unfold val_main_v29 val_main_v19_0
  generalize val_main_v26 (F := Ideal) x0 x1 = X0 at h0
  generalize val_main_v19_2 (F := Ideal) x3 = X1 at h1
  pointwise
  rw [h0, h1]
  rfl
theorem ref33 (l : Fin 128) : val_main_v33 (F := Ideal) x0 x1 x2 x3 (ix1 l) = ∑ r : Fin 4096, ∑ h : Fin 4, wBack (dlo (n := 4096) x0 x1 r) (ln (n := 4096) x2 r) (ln (n := 4096) x3 r) h l := by
  have h0 := ref14 x2
  have h1 := ref31 x0 x1 x3
  unfold val_main_v33 val_main_v32
  generalize val_main_v14 (F := Ideal) x2 = X0 at h0
  generalize val_main_v31 (F := Ideal) x0 x1 x3 = X1 at h1
  refine (sum_two _ _ _ l).trans ?_
  pointwise [val_main_cst_4]
  simp only [h0, h1]
  exact Finset.sum_congr rfl fun r _ => Finset.sum_congr rfl fun h _ => mul_comm _ _
theorem refdw : val_main_v38 (F := Ideal) x0 x1 x2 x3 = fun i => ∑ r : Fin 4096, ∑ h : Fin 4, wBack (dlo (n := 4096) x0 x1 r) (ln (n := 4096) x2 r) (ln (n := 4096) x3 r) h (i 1) := by
  funext i
  idx_vars i
  have h0 := ref33 x0 x1 x2 x3
  unfold val_main_v38 val_main_v37 val_main_v34
  generalize val_main_v33 (F := Ideal) x0 x1 x2 x3 = X0 at h0
  pointwise
  refine (sum_two _ _ _ i1).trans ?_
  pointwise [val_main_cst_5]
  simp only [Fin.sum_univ_one]
  exact h0 i1
theorem ref36 (r : Fin 4096) (h : Fin 4) (l : Fin 128) : val_main_v36 (F := Ideal) x0 x1 x3 x4 (ix3 r h l) = gateBack (dlo (n := 4096) x0 x1 r) (ln (n := 4096) x3 r) h l * (ln (n := 1) x4 0) l := by
  have h0 := ref31 x0 x1 x3
  unfold val_main_v36
  generalize val_main_v31 (F := Ideal) x0 x1 x3 = X0 at h0
  pointwise [val_main_v15, val_main_v35]
  rw [h0]
  rfl
theorem ref47 (r : Fin 4096) (h : Fin 4) : val_main_v47 (F := Ideal) x0 x1 x2 x3 x4 (ix2 r h) = tail (part (ln (n := 4096) x2 r) h) (ln (n := 1) x4 0) (gateBack (dlo (n := 4096) x0 x1 r) (ln (n := 4096) x3 r) h) := by
  have h0 := ref1 x2
  have h1 := ref8 x2
  have h2 := ref36 x0 x1 x3 x4
  unfold val_main_v47 val_main_v46 val_main_v44 val_main_v41 val_main_v40 val_main_v39 val_main_v12 val_main_v10 val_main_v9
  generalize val_main_v1 (F := Ideal) x2 = X0 at h0
  generalize val_main_v8 (F := Ideal) x2 = X1 at h1
  generalize val_main_v36 (F := Ideal) x0 x1 x3 x4 = X2 at h2
  pointwise [val_main_cst_6, val_main_cst_3, val_main_v11, val_main_cst_7, val_main_v45, val_main_cst_8]
  simp only [h0, h1, h2, Fin.sum_univ_one]
  rfl
theorem ref52 (ho : ∀ i, IsReal (x2 i)) (r : Fin 4096) (h : Fin 4) (l : Fin 128) :
    val_main_v52 (F := Ideal) x0 x1 x2 x3 x4 (ix3 r h l) = outBack (dlo (n := 4096) x0 x1 r) (ln (n := 4096) x2 r) (ln (n := 4096) x3 r) (ln (n := 1) x4 0) h l := by
  have h0 := ref1 x2
  have h1 := ref8 x2
  have h2 := ref36 x0 x1 x3 x4
  have h3 := ref47 x0 x1 x2 x3 x4
  unfold val_main_v52 val_main_v51 val_main_v50 val_main_v49 val_main_v48 val_main_v43 val_main_v42 val_main_v9
  generalize val_main_v1 (F := Ideal) x2 = X0 at h0
  generalize val_main_v8 (F := Ideal) x2 = X1 at h1
  generalize val_main_v36 (F := Ideal) x0 x1 x3 x4 = X2 at h2
  generalize val_main_v47 (F := Ideal) x0 x1 x2 x3 x4 = X3 at h3
  pointwise
  rw [h0, h1, h2, h3]
  exact Head.bwd_eq (h := part (ln (n := 4096) x2 r) h) (w := ln (n := 1) x4 0) (dy := gateBack (dlo (n := 4096) x0 x1 r) (ln (n := 4096) x3 r) h) (fun l => ho _) l

theorem refdo (ho : ∀ i, IsReal (x2 i)) : val_main_v53 (F := Ideal) x0 x1 x2 x3 x4
    = fun i => outBack (dlo (n := 4096) x0 x1 (i 0)) (ln (n := 4096) x2 (i 0)) (ln (n := 4096) x3 (i 0)) (ln (n := 1) x4 0) (hd (i 1)) (cl (i 1)) := by
  funext i
  idx_vars i
  rw [val_main_v53_apply]
  exact (congrArg _ (join_idx i0 i1)).trans (ref52 x0 x1 x2 x3 x4 ho i0 (hd i1) (cl i1))

theorem refdg (h0 : ∀ i, IsReal (x0 i)) (h1 : ∀ i, IsReal (x1 i)) (h2 : ∀ i, IsReal (x2 i)) (h4 : ∀ i, IsReal (x4 i)) : val_main_v54 (F := Ideal) x0 x1 x2 x3 x4
    = fun i => gBack (dlo (n := 4096) x0 x1 (i 0)) (ln (n := 4096) x2 (i 0)) (ln (n := 4096) x3 (i 0)) (ln (n := 1) x4 0) (hd (i 1)) (cl (i 1)) := by
  funext i
  idx_vars i
  have e0 := ref18 x2 x4
  have e1 := ref26 x0 x1
  have e2 := refsg x3
  unfold val_main_v54 val_main_v30 val_main_call1_v2 val_main_call1_v1 val_main_call1_v0 val_main_v28 val_main_v19_1 val_main_call0_v7
  generalize val_main_v18 (F := Ideal) x2 x4 = X0 at e0
  generalize val_main_v26 (F := Ideal) x0 x1 = X1 at e1
  generalize val_main_v19_2 (F := Ideal) x3 = X2 at e2
  pointwise [val_main_call0_cst_1, val_main_call0_v6]
  rw [e0, e1, e2]
  show _ = dlo (n := 4096) x0 x1 i0 (hc (hd i1) (cl i1)) * (hat (part (ln (n := 4096) x2 i0) (hd i1)) (cl i1) * ln (n := 1) x4 0 (cl i1)) * dsilu (x3 (ix2 i0 (hc (hd i1) (cl i1))))
  rw [hc_hd_cl, mul_comm (dlo (n := 4096) x0 x1 i0 i1)]
  refine (Head.gate_deriv (c := hat (part (ln (n := 4096) x2 i0) (hd i1)) (cl i1) * ln (n := 1) x4 0 (cl i1) * dlo (n := 4096) x0 x1 i0 i1) ?_ (x3 (ix2 i0 i1))).symm
  exact ((Head.hat_real (fun l => h2 _) _).mul (h4 _)).mul (by unfold dlo dmix; exact IsReal.sum _ fun _ _ => (h0 _).mul (h1 _))

end Reference

/-- The precondition says that these arguments hold real numbers. -/
theorem pre_real (m : (ℓ : Loc nD τ sig) → Buf (Elt Ideal) ℓ) (c : Dev nD) (h : Cert.Pre_MixBackIdeal_mix_finite m) :
    (∀ i, IsReal ((m ((c : Thread nD τ).loc main_arg0)) i)) ∧ (∀ i, IsReal ((m ((c : Thread nD τ).loc main_arg1)) i)) ∧ (∀ i, IsReal ((m ((c : Thread nD τ).loc main_arg2)) i)) ∧ (∀ i, IsReal ((m ((c : Thread nD τ).loc main_arg4)) i)) := by
  have h := h c
  exact ⟨fun i => IsReal.of_abs_lt ((Ideal.cmp_olt_eq_one _ _).1 (congrFun h.1 i)), fun i => IsReal.of_abs_lt ((Ideal.cmp_olt_eq_one _ _).1 (congrFun h.2.1 i)), fun i => IsReal.of_abs_lt ((Ideal.cmp_olt_eq_one _ _).1 (congrFun h.2.2.1 i)), fun i => IsReal.of_abs_lt ((Ideal.cmp_olt_eq_one _ _).1 (congrFun h.2.2.2 i))⟩

/-- Kernel and reference end with the same gradients. -/
theorem algebraic : Cert.algebraic_MixBackIdeal_MixBackRefIdeal_pre_mix_finite := by
  intro m g m' g' hp hm
  refine ⟨fun c => DO m c, fun c => DG m c, fun c => DA m c, fun c => DW m c, ?_, ?_⟩
  · exact (θ_run defs _ _).mono (fun r h c => ⟨(h c).1.trans (arr5 m c), (h c).2.1.trans (arr6 m c), (h c).2.2.1.trans (arr7 m c),
      (h c).2.2.2.1.trans (arr8 m c), (h c).2.2.2.2⟩) (Cert.MixBackIdeal.Value.run_blocks m g)
  · refine (θ_run Cert.MixBackRefIdeal.defs _ _).mono (fun r h c => ?_) (Cert.MixBackRefIdeal.Value.run m' g')
    obtain ⟨a0, a1, a2, a3, a4⟩ := hm c
    obtain ⟨p0, p1, p2, p4⟩ := pre_real m c hp
    refine ⟨(h c).1.trans ?_, (h c).2.1.trans ?_, (h c).2.2.1.trans ?_, (h c).2.2.2.1.trans ?_, (h c).2.2.2.2⟩
    · rw [Cert.MixBackRefIdeal.Read.val_main_v53_eq, a0, a1, a2, a3, a4]
      exact refdo _ _ _ _ _ p2
    · rw [Cert.MixBackRefIdeal.Read.val_main_v54_eq, a0, a1, a2, a3, a4]
      exact refdg _ _ _ _ _ p0 p1 p2 p4
    · rw [Cert.MixBackRefIdeal.Read.val_main_v27_eq, a0, a1]
      exact refda _ _
    · rw [Cert.MixBackRefIdeal.Read.val_main_v38_eq, a0, a1, a2, a3]
      exact refdw _ _ _ _

/-- The reference is a straight-line host program without semaphores. -/
theorem frame_ref : Cert.quiescent_MixBackRefIdeal := fun m ρ _ =>
  (θ_run Cert.MixBackRefIdeal.defs _ _).mono (fun r h => ⟨fun c => (h c).2.2.2.2, sem_eq_zero_of_no_sems (by decide) r.2⟩)
    (Cert.MixBackRefIdeal.Value.run m ρ)

end Cert.MixBackIdeal.Hand

end
-- ==== Proof.OutGradValue.lean ====
/-
  The gradient of the output projection's weight, `mixᵀ · dh1`, as the kernel computes it: the rows are walked in four tiles of 1024,
  each tile's product is added into a scratch accumulator that the first point resets, and the last point writes the
  accumulator out. Read over the extended reals the array after the run is, at `(r, l)`, the sum over all 4096 rows `k` of
  `mix k r * dh1 k l`; the reference's transposed product is the same sum with the factors exchanged.
-/
module

public import proofs.«01_k».proof.Proof.Gen.OutGradIdeal.Value
public import proofs.«01_k».proof.Proof.Gen.OutGradRefIdeal.Run
public import proofs.«01_k».proof.Proof.Gen.OutGradRefIdeal.Read
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

namespace Cert.OutGradIdeal.Hand

open Cert.OutGradIdeal Cert.OutGradIdeal.Gen Idealize.ShloMosaic Idealize.ShloMosaic.TcCoe Idealize.SL.Sem

variable (m : (ℓ : Loc nD τ sig) → Buf (Elt Ideal) ℓ)

/-- The sum over all rows of the products of the two operands' entries. -/
def G (a : S4096x1024.Idx → EReal) (dy : S4096x1024.Idx → EReal) : S1024x1024.Idx → EReal :=
  fun i => ∑ k : Fin 4096, a (ix2 k (i 0)) * dy (ix2 k (i 1))

/-- The block indices of the two inputs at a point: the point's row tile, all columns. -/
theorem idx : ∀ t : Fin cfg0.N, win0_0.index t = ![t.val, 0] ∧ win0_1.index t = ![t.val, 0] :=
  (by decide +kernel : ∀ t : Fin grid0.N, win0_0.index t = ![t.val, 0] ∧ win0_1.index t = ![t.val, 0])

/-- What a tile adds to the accumulator, at an entry. -/
theorem pay_add (x1 : Vec Ideal S1024x1024 .bf16) (acc : Vec Ideal S1024x1024 .f32) (x0 : Vec Ideal S1024x1024 .bf16)
    (j : S1024x1024.Idx) :
    k0_pay2 (F := Ideal) x1 acc x0 j = acc j + ∑ k : Fin 1024, x0 (ix2 k (j 0)) * x1 (ix2 k (j 1)) := by
  pointwise [k0_pay2]

theorem pay_zero (j : S1024x1024.Idx) : k0_pay1 (F := Ideal) j = 0 := by
  pointwise [k0_pay1]

/-- The accumulator after the last point is the sum over all rows. -/
theorem acc_eq (c : Dev nD) (j : S1024x1024.Idx) :
    (outsAt0 m c t0_3.val t0_3.isLt).2 j = G (m ((c : Thread nD τ).loc main_arg0)) (m ((c : Thread nD τ).loc main_arg1)) j := by
  rw [Pipeline.eq_sum_fin_of_reset_step_apply_last (fun n h => (outsAt0 m c n h).2) 4 (fun _ => 0) _
      (fun t h j => by rw [outsAt0_A m c t h (by omega)]; frame_out; rw [pay_add, pay_zero])
      (fun t h j => by
        by_cases h3 : t.val % 4 = 3
        · rw [outsAt0_C m c t h h3]; frame_out; rw [pay_add, (Memref.isWhole_whole _).read_unread]
        · rw [outsAt0_B m c t h h3]; frame_out; rw [pay_add, (Memref.isWhole_whole _).read_unread])
      (le_of_eq N_0) t0_3 rfl j, zero_add]
  unfold G
  refine Fin.sum_mul_add_congr fun s k hl => ?_
  congr 1 <;> blk_ext [Gen.iblk, Gen.V, (idx s).1, (idx s).2]

/-- The output block after the last point is the accumulator it leaves. -/
theorem out_eq (c : Dev nD) (j : S1024x1024.Idx) :
    (outsAt0 m c t0_3.val t0_3.isLt).1 j = (outsAt0 m c t0_3.val t0_3.isLt).2 j := by
  rw [outsAt0_C m c t0_3 (by decide) (by decide)]
  frame_out
  rfl

/-- The result array after the run. -/
theorem arr_eq (c : Dev nD) : (dats m 0 c).arrAt 2 cfg0.N
    = G (m ((c : Thread nD τ).loc main_arg0)) (m ((c : Thread nD τ).loc main_arg1)) :=
  (dats m 0 c).arrAt_eq_of_after_last 2 t0_3 (by decide +kernel) _ fun j => by
    blk_simp
    rw [after0_2, out_eq, acc_eq]

/-- The reference's result is the same sum, the factors exchanged. -/
theorem ref_eq (x0 : S4096x1024.Idx → EReal) (x1 : S4096x1024.Idx → EReal) :
    Cert.OutGradRefIdeal.Read.val_main_v6 (F := Ideal) x0 x1 = G x0 x1 := by
  funext i
  rw [Cert.OutGradRefIdeal.Read.val_main_v6_apply, Cert.OutGradRefIdeal.Read.val_main_v5_apply,
    Cert.OutGradRefIdeal.Read.val_main_v4_apply]
  unfold G
  refine Finset.sum_congr rfl fun k _ => ?_
  rw [Cert.OutGradRefIdeal.Read.val_main_v3_apply, Cert.OutGradRefIdeal.Read.val_main_v1_apply, mul_comm]
  exact congrArg₂ (· * ·) (congrArg x0 (eq_ix2 _)) (congrArg x1 (eq_ix2 _))

/-- Kernel and reference end with the same gradient. -/
theorem algebraic : Cert.algebraic_OutGradIdeal_OutGradRefIdeal := by
  intro m g m' g' _ hm
  refine ⟨fun c => G (m ((c.tc : Thread nD τ).loc main_arg0)) (m ((c.tc : Thread nD τ).loc main_arg1)), ?_, ?_⟩
  · exact (θ_run defs _ _).mono (fun r h c => ⟨(h c).1.trans (arr_eq m c), (h c).2⟩) (Cert.OutGradIdeal.Value.run_blocks m g)
  · refine (θ_run Cert.OutGradRefIdeal.defs _ _).mono (fun r h c => ⟨(h c).1.trans ?_, (h c).2⟩) (Cert.OutGradRefIdeal.Value.run m' g')
    rw [Cert.OutGradRefIdeal.Read.val_main_v6_eq, (hm c).1, (hm c).2, ref_eq]

/-- The reference is a straight-line host program without semaphores. -/
theorem frame_ref : Cert.quiescent_OutGradRefIdeal := fun m ρ _ =>
  (θ_run Cert.OutGradRefIdeal.defs _ _).mono (fun r h => ⟨fun c => (h c).2, sem_eq_zero_of_no_sems (by decide) r.2⟩)
    (Cert.OutGradRefIdeal.Value.run m ρ)

end Cert.OutGradIdeal.Hand

end
-- ==== Proof.AdamWValue.lean ====
/-
  The optimiser's step on a weight matrix of 704 rows: the kernel's two row tiles, and the reference's formula on the whole matrix.
-/
module

public import proofs.«01_k».proof.Defs
public import proofs.«01_k».proof.Proof.Gen.AdamWIdeal.Value
public import proofs.«01_k».proof.Proof.Gen.AdamWRefIdeal.Run
public import proofs.«01_k».proof.Proof.Gen.AdamWRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.AdamWIdeal.Hand

open Cert.AdamWIdeal Cert.AdamWIdeal.Gen
open Idealize.ShloMosaic Idealize.ShloMosaic.TcCoe Idealize.SL.Sem

/-- The first moment after the step, entrywise. -/
def mom {n : ℕ} (g m : (⟨2, ![n, 1024]⟩ : Shape).Idx → EReal) : (⟨2, ![n, 1024]⟩ : Shape).Idx → EReal :=
  fun i => Ideal.ofBits FTy.f32 0x3F666666#32 * m i + Ideal.ofBits FTy.f32 0x3DCCCCCD#32 * g i

/-- The second moment after the step. -/
def mom2 {n : ℕ} (g v : (⟨2, ![n, 1024]⟩ : Shape).Idx → EReal) : (⟨2, ![n, 1024]⟩ : Shape).Idx → EReal :=
  fun i => Ideal.ofBits FTy.f32 0x3F7FBE77#32 * v i + Ideal.ofBits FTy.f32 0x3A83126F#32 * (g i * g i)

/-- The change of the weights: the two moments with their bias taken away, and the decay. -/
def delta {n : ℕ} (w g m v : (⟨2, ![n, 1024]⟩ : Shape).Idx → EReal) : (⟨2, ![n, 1024]⟩ : Shape).Idx → EReal :=
  fun i => Ideal.ofBits FTy.f32 0xBA83126F#32 *
    (Ideal.div (Ideal.div (mom g m i) (Ideal.ofBits FTy.f32 0x3F26BD02#32))
      (Ideal.sqrt (Ideal.div (mom2 g v i) (Ideal.ofBits FTy.f32 0x3C231ACC#32)) + Ideal.ofBits FTy.f32 0x322BCC77#32)
      + Ideal.ofBits FTy.f32 0x3C23D70A#32 * w i)

theorem pay1 (g m : Vec Ideal S352x1024 .f32) (r : Fin 352) (l : Fin 1024) : k0_pay1 (F := Ideal) g m (ix2 r l) = mom (n := 352) g m (ix2 r l) := by
  pointwise [k0_pay1]
  rfl
theorem pay2 (g v : Vec Ideal S352x1024 .f32) (r : Fin 352) (l : Fin 1024) : k0_pay2 (F := Ideal) g v (ix2 r l) = mom2 (n := 352) g v (ix2 r l) := by
  pointwise [k0_pay2]
  rfl
theorem pay3 (w g m v : Vec Ideal S352x1024 .f32) (r : Fin 352) (l : Fin 1024) :
    k0_pay3 (F := Ideal) w g m v (ix2 r l) = delta (n := 352) w g m v (ix2 r l) := by
  have h := pay1 g m
  have h' := pay2 g v
  unfold k0_pay3
  generalize k0_pay1 (F := Ideal) g m = X at h
  generalize k0_pay2 (F := Ideal) g v = Y at h'
  pointwise
  rw [h, h']
  rfl

section Blocks
variable (m : (ℓ : Loc nD τ sig) → Buf (Elt Ideal) ℓ)

/-- The block indices: row tiles of every operand. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0])

/-- A tile's row, as a row of the whole array. -/
def row (t : Fin cfg0.N) (r : Fin 352) : Fin 704 :=
  ⟨t.val * 352 + r.val, by have h := lt_of_lt_of_eq t.isLt N_0; omega⟩

abbrev B0 (c : Dev nD) (t : Fin cfg0.N) : S352x1024.Idx → EReal := iblk m c 0 t
theorem blk0 (c : Dev nD) (t : Fin cfg0.N) (r : Fin 352) (l : Fin 1024) :
    B0 m c t (ix2 r l) = (m ((c : Thread nD τ).loc main_arg0)) (ix2 (row t r) l) := by
  blk_ext [B0, Gen.iblk, Gen.V, (idx t).1, row]

abbrev B1 (c : Dev nD) (t : Fin cfg0.N) : S352x1024.Idx → EReal := iblk m c 1 t
theorem blk1 (c : Dev nD) (t : Fin cfg0.N) (r : Fin 352) (l : Fin 1024) :
    B1 m c t (ix2 r l) = (m ((c : Thread nD τ).loc main_arg1)) (ix2 (row t r) l) := by
  blk_ext [B1, Gen.iblk, Gen.V, (idx t).2.1, row]

abbrev B2 (c : Dev nD) (t : Fin cfg0.N) : S352x1024.Idx → EReal := iblk m c 2 t
theorem blk2 (c : Dev nD) (t : Fin cfg0.N) (r : Fin 352) (l : Fin 1024) :
    B2 m c t (ix2 r l) = (m ((c : Thread nD τ).loc main_arg2)) (ix2 (row t r) l) := by
  blk_ext [B2, Gen.iblk, Gen.V, (idx t).2.2.1, row]

abbrev B3 (c : Dev nD) (t : Fin cfg0.N) : S352x1024.Idx → EReal := iblk m c 3 t
theorem blk3 (c : Dev nD) (t : Fin cfg0.N) (r : Fin 352) (l : Fin 1024) :
    B3 m c t (ix2 r l) = (m ((c : Thread nD τ).loc main_arg3)) (ix2 (row t r) l) := by
  blk_ext [B3, Gen.iblk, Gen.V, (idx t).2.2.2.1, row]

/-- Each result of a tile, at a tile's entry, is the whole matrix's at the tile's row. -/
theorem mom_blk (c : Dev nD) (t : Fin cfg0.N) (r : Fin 352) (l : Fin 1024) :
    mom (n := 352) (B1 m c t) (B2 m c t) (ix2 r l) = mom (n := 704) (m ((c : Thread nD τ).loc main_arg1)) (m ((c : Thread nD τ).loc main_arg2)) (ix2 (row t r) l) := by
  unfold mom
  rw [blk1, blk2]
theorem mom2_blk (c : Dev nD) (t : Fin cfg0.N) (r : Fin 352) (l : Fin 1024) :
    mom2 (n := 352) (B1 m c t) (B3 m c t) (ix2 r l) = mom2 (n := 704) (m ((c : Thread nD τ).loc main_arg1)) (m ((c : Thread nD τ).loc main_arg3)) (ix2 (row t r) l) := by
  unfold mom2
  rw [blk1, blk3]
theorem delta_blk (c : Dev nD) (t : Fin cfg0.N) (r : Fin 352) (l : Fin 1024) :
    delta (n := 352) (B0 m c t) (B1 m c t) (B2 m c t) (B3 m c t) (ix2 r l) = delta (n := 704) (m ((c : Thread nD τ).loc main_arg0)) (m ((c : Thread nD τ).loc main_arg1)) (m ((c : Thread nD τ).loc main_arg2)) (m ((c : Thread nD τ).loc main_arg3)) (ix2 (row t r) l) := by
  unfold delta
  rw [mom_blk, mom2_blk, blk0]

theorem arr4 (c : Dev nD) : (dats m 0 c).arrAt 4 cfg0.N = (m ((c : Thread nD τ).loc main_arg1)) :=
  (dats m 0 c).arrAt_eq_of_covers 4 _ (by decide +kernel) fun t hf y => by
    blk_simp
    rw [after0_4]
    frame_out
    refine (congrArg _ (eq_ix2 (n0 := 352) (n1 := 1024) y)).trans (((blk1 m c t (y 0) (y 1)).trans (congrArg (m ((c : Thread nD τ).loc main_arg1))
      (show ix2 (row t (y 0)) (y 1) = _ from ?_))))
    blk_ext [(idx t).2.2.2.2.1, row]

theorem arr5 (c : Dev nD) : (dats m 0 c).arrAt 5 cfg0.N = (delta (n := 704) (m ((c : Thread nD τ).loc main_arg0)) (m ((c : Thread nD τ).loc main_arg1)) (m ((c : Thread nD τ).loc main_arg2)) (m ((c : Thread nD τ).loc main_arg3))) :=
  (dats m 0 c).arrAt_eq_of_covers 5 _ (by decide +kernel) fun t hf y => by
    blk_simp
    rw [after0_5]
    frame_out
    refine (congrArg _ (eq_ix2 (n0 := 352) (n1 := 1024) y)).trans ((pay3 _ _ _ _ (y 0) (y 1)).trans ((delta_blk m c t (y 0) (y 1)).trans (congrArg (delta (n := 704) (m ((c : Thread nD τ).loc main_arg0)) (m ((c : Thread nD τ).loc main_arg1)) (m ((c : Thread nD τ).loc main_arg2)) (m ((c : Thread nD τ).loc main_arg3)))
      (show ix2 (row t (y 0)) (y 1) = _ from ?_))))
    blk_ext [(idx t).2.2.2.2.2.1, row]

theorem arr6 (c : Dev nD) : (dats m 0 c).arrAt 6 cfg0.N = (mom (n := 704) (m ((c : Thread nD τ).loc main_arg1)) (m ((c : Thread nD τ).loc main_arg2))) :=
  (dats m 0 c).arrAt_eq_of_covers 6 _ (by decide +kernel) fun t hf y => by
    blk_simp
    rw [after0_6]
    frame_out
    refine (congrArg _ (eq_ix2 (n0 := 352) (n1 := 1024) y)).trans ((pay1 _ _ (y 0) (y 1)).trans ((mom_blk m c t (y 0) (y 1)).trans (congrArg (mom (n := 704) (m ((c : Thread nD τ).loc main_arg1)) (m ((c : Thread nD τ).loc main_arg2)))
      (show ix2 (row t (y 0)) (y 1) = _ from ?_))))
    blk_ext [(idx t).2.2.2.2.2.2.1, row]

theorem arr7 (c : Dev nD) : (dats m 0 c).arrAt 7 cfg0.N = (mom2 (n := 704) (m ((c : Thread nD τ).loc main_arg1)) (m ((c : Thread nD τ).loc main_arg3))) :=
  (dats m 0 c).arrAt_eq_of_covers 7 _ (by decide +kernel) fun t hf y => by
    blk_simp
    rw [after0_7]
    frame_out
    refine (congrArg _ (eq_ix2 (n0 := 352) (n1 := 1024) y)).trans ((pay2 _ _ (y 0) (y 1)).trans ((mom2_blk m c t (y 0) (y 1)).trans (congrArg (mom2 (n := 704) (m ((c : Thread nD τ).loc main_arg1)) (m ((c : Thread nD τ).loc main_arg3)))
      (show ix2 (row t (y 0)) (y 1) = _ from ?_))))
    blk_ext [(idx t).2.2.2.2.2.2.2, row]

end Blocks

section Reference
open Cert.AdamWRefIdeal.Read
variable (x0 x1 x2 x3 : S704x1024.Idx → EReal)

theorem ref4 : val_main_v4 (F := Ideal) x1 x2 = mom (n := 704) x1 x2 := by
  funext i
  idx_vars i
  pointwise [val_main_cst, val_main_v0, val_main_v1, val_main_cst_0, val_main_v2, val_main_v3, val_main_v4]
  rfl
theorem ref10 : val_main_v10 (F := Ideal) x1 x3 = mom2 (n := 704) x1 x3 := by
  funext i
  idx_vars i
  pointwise [val_main_cst_1, val_main_v5, val_main_v6, val_main_v7, val_main_cst_2, val_main_v8, val_main_v9, val_main_v10]
  rfl
theorem ref23 : val_main_v23 (F := Ideal) x0 x1 x2 x3 = delta (n := 704) x0 x1 x2 x3 := by
  funext i
  idx_vars i
  have h := ref4 x1 x2
  have h' := ref10 x1 x3
  unfold val_main_v23 val_main_v21 val_main_v18 val_main_v17 val_main_v15 val_main_v14 val_main_v12
  generalize val_main_v4 (F := Ideal) x1 x2 = X at h
  generalize val_main_v10 (F := Ideal) x1 x3 = Y at h'
  pointwise [val_main_cst_3, val_main_v11, val_main_cst_4, val_main_v13, val_main_cst_5, val_main_v16, val_main_cst_6, val_main_v19, val_main_v20, val_main_cst_7, val_main_v22]
  rw [h, h']
  rfl

end Reference

/-- Kernel and reference end with the same change of the weights and the same moments. -/
theorem algebraic : Cert.algebraic_AdamWIdeal_AdamWRefIdeal := by
  intro m g m' g' _ hm
  refine ⟨fun c => (m ((c : Thread nD τ).loc main_arg1)), fun c => delta (n := 704) (m ((c : Thread nD τ).loc main_arg0)) (m ((c : Thread nD τ).loc main_arg1)) (m ((c : Thread nD τ).loc main_arg2)) (m ((c : Thread nD τ).loc main_arg3)), fun c => mom (n := 704) (m ((c : Thread nD τ).loc main_arg1)) (m ((c : Thread nD τ).loc main_arg2)), fun c => mom2 (n := 704) (m ((c : Thread nD τ).loc main_arg1)) (m ((c : Thread nD τ).loc main_arg3)), ?_, ?_⟩
  · exact (θ_run defs _ _).mono (fun r h c => ⟨(h c).1.trans (arr4 m c), (h c).2.1.trans (arr5 m c), (h c).2.2.1.trans (arr6 m c),
      (h c).2.2.2.1.trans (arr7 m c), (h c).2.2.2.2⟩) (Cert.AdamWIdeal.Value.run_blocks m g)
  · refine (θ_run Cert.AdamWRefIdeal.defs _ _).mono (fun r h c => ?_) (Cert.AdamWRefIdeal.Value.run m' g')
    obtain ⟨a0, a1, a2, a3⟩ := hm c
    refine ⟨(h c).1.trans a1, (h c).2.1.trans ?_, (h c).2.2.1.trans ?_, (h c).2.2.2.1.trans ?_, (h c).2.2.2.2⟩
    · rw [Cert.AdamWRefIdeal.Read.val_main_v23_eq, a0, a1, a2, a3, ref23]
    · rw [Cert.AdamWRefIdeal.Read.val_main_v4_eq, a1, a2, ref4]
    · rw [Cert.AdamWRefIdeal.Read.val_main_v10_eq, a1, a3, ref10]

/-- The reference is a straight-line host program without semaphores. -/
theorem frame_ref : Cert.quiescent_AdamWRefIdeal := fun m ρ _ =>
  (θ_run Cert.AdamWRefIdeal.defs _ _).mono (fun r h => ⟨fun c => (h c).2.2.2.2, sem_eq_zero_of_no_sems (by decide) r.2⟩)
    (Cert.AdamWRefIdeal.Value.run m ρ)

end Cert.AdamWIdeal.Hand

end
-- ==== Proof.AttMath.lean ====
/-
  Softmax with a sink, over all keys and over a window of them: a key that the mask sets to minus infinity weighs nothing.
-/
module

public import proofs.«01_k».proof.Proof.RealNum
public import Idealize.ShloMosaic.PureOps.Ideal
public import Idealize.ShloMosaic.Lib.Pointwise

@[expose] public section

set_option maxRecDepth 16384

noncomputable section

namespace Cert.Att

open Cert.RealNum
open Idealize.ShloMosaic

/-- The largest score, the sink among them. -/
def top {n : ℕ} (s : Fin n → EReal) (z : EReal) : EReal := max (Finset.univ.fold max ⊥ s) z
/-- The sum of the weights, the sink's among them. -/
def den {n : ℕ} (s : Fin n → EReal) (z : EReal) : EReal := (∑ k, Ideal.exp (s k - top s z)) + Ideal.exp (z - top s z)
/-- The values under the normalised weights. -/
def soft {n : ℕ} (s : Fin n → EReal) (z : EReal) (v : Fin n → EReal) : EReal :=
  ∑ k, Ideal.div (Ideal.exp (s k - top s z)) (den s z) * v k

theorem exp_nonneg (x : EReal) : 0 ≤ Ideal.exp x := by
  induction x using EReal.rec with
  | bot => exact le_refl _
  | top => exact le_top
  | coe y => rw [Ideal.exp_coe]; exact EReal.coe_nonneg.2 (Real.exp_pos y).le

/-- A score of minus infinity has weight zero. -/
theorem exp_bot_sub (m : EReal) : Ideal.exp (⊥ - m) = 0 := by
  rw [sub_eq_add_neg, EReal.bot_add, Ideal.exp_bot]

theorem top_eq {n : ℕ} (s : Fin n → EReal) (z : EReal) : top s z = max (Finset.univ.sup s) z := rfl

/-- With a real sink and no infinite score the weights' sum is not zero. -/
theorem den_ne {n : ℕ} {s : Fin n → EReal} {z : EReal} (hs : ∀ k, s k ≠ ⊤) (hz : IsReal z) : den s z ≠ 0 := by
  obtain ⟨z, rfl⟩ := hz
  have h1 : top s (z : EReal) ≠ ⊤ := by
    rw [top_eq]
    exact (max_lt ((Finset.sup_lt_iff (EReal.bot_lt_coe 0 |>.trans (EReal.coe_lt_top 0))).2 fun k _ => lt_top_iff_ne_top.2 (hs k)) (EReal.coe_lt_top z)).ne
  have h2 : top s (z : EReal) ≠ ⊥ := fun h => absurd (le_of_le_of_eq (le_max_right (Finset.univ.sup s) (z : EReal)) h) (not_le.2 (EReal.bot_lt_coe z))
  have h3 : 0 < Ideal.exp ((z : EReal) - top s (z : EReal)) := by
    lift top s (z : EReal) to ℝ using ⟨h1, h2⟩ with m
    rw [← EReal.coe_sub, Ideal.exp_coe]
    exact EReal.coe_pos.2 (Real.exp_pos _)
  refine (lt_of_lt_of_le h3 ?_).ne'
  calc Ideal.exp ((z : EReal) - top s (z : EReal)) = 0 + Ideal.exp ((z : EReal) - top s (z : EReal)) := (zero_add _).symm
    _ ≤ den s (z : EReal) := add_le_add (Finset.sum_nonneg fun k _ => exp_nonneg _) le_rfl

section Window
variable {n w : ℕ} (s : Fin n → EReal) (z : EReal) (e : Fin w → Fin n) (he : Function.Injective e) (hout : ∀ k, k ∉ Set.range e → s k = ⊥)
include hout

/-- The largest score is found in the window. -/
theorem top_window : top (fun j => s (e j)) z = top s z := by
  rw [top_eq, top_eq]
  refine congrArg (max · z) (le_antisymm (Finset.sup_le fun j _ => Finset.le_sup (f := s) (Finset.mem_univ _)) (Finset.sup_le fun k _ => ?_))
  by_cases h : k ∈ Set.range e
  · obtain ⟨j, rfl⟩ := h
    exact Finset.le_sup (f := fun j => s (e j)) (Finset.mem_univ j)
  · rw [hout k h]; exact bot_le

include he

/-- The weights' sum is the window's. -/
theorem den_window : den (fun j => s (e j)) z = den s z := by
  unfold den
  rw [top_window s z e hout]
  exact congrArg (· + _) (Fintype.sum_of_injective e he _ _ (fun k h => by rw [hout k h, exp_bot_sub]) fun j => rfl)

/-- The values under the weights of the window, with the quotient taken as a product with one over the sum. -/
theorem soft_window (hd : den s z ≠ 0) (v : Fin n → EReal) :
    ∑ j, Ideal.exp (s (e j) - top (fun j => s (e j)) z) * Ideal.div 1 (den (fun j => s (e j)) z) * v (e j) = soft s z v := by
  rw [den_window s z e he hout, top_window s z e hout]
  refine Fintype.sum_of_injective e he _ _ (fun k h => ?_) fun j => ?_
  · rw [hout k h, exp_bot_sub, Ideal.div, if_neg hd, zero_mul, zero_mul]
  · rw [Ideal.div, if_neg hd, Ideal.div, if_neg hd, one_mul]

end Window

/-- Values that differ only where the score is minus infinity. -/
theorem soft_congr {n : ℕ} (s : Fin n → EReal) (z : EReal) (hd : den s z ≠ 0) (v v' : Fin n → EReal) (h : ∀ k, s k ≠ ⊥ → v k = v' k) :
    soft s z v = soft s z v' := by
  refine Finset.sum_congr rfl fun k _ => ?_
  by_cases hk : s k = ⊥
  · rw [hk, exp_bot_sub, Ideal.div, if_neg hd, zero_mul, zero_mul, zero_mul]
  · rw [h k hk]

end Cert.Att

end
-- ==== Proof.AttRef.lean ====
/-
  Sliding-window attention with sinks: the reference entry by entry.
-/
module

public import proofs.«01_k».proof.Proof.AttMath
public import proofs.«01_k».proof.Proof.Gen.AttnFwdRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Att

open Cert.AttnFwdRefIdeal Cert.AttnFwdRefIdeal.Read Cert.RealNum
open Idealize.ShloMosaic Idealize.ShloMosaic.TcCoe Idealize.SL.Sem

section Spec
variable (x0 : S4096x768.Idx → EReal) (x1 : S1x768.Idx → EReal) (x2 : S1x8.Idx → EReal)

/-- The projected entries with their bias. -/
def y (r : Fin 4096) (c : Fin 768) : EReal := x0 (ix2 r c) + x1 (ix2 0 c)

/-- The row of a query, and the row of a key: the keys are the block before and the block itself. -/
def qrow (n : Fin 32) (q : Fin 128) : Fin 4096 := ⟨128 * n.val + q.val, by omega⟩
def krow (n : Fin 32) (kk : Fin 256) : Fin 4096 := ⟨128 * n.val + kk.val - 128, by omega⟩
/-- The columns of a head's query, and of its key and value. -/
def qcol (h : Fin 8) (d : Fin 64) : Fin 768 := ⟨64 * h.val + d.val, by omega⟩
def kcol (kv : Fin 2) (d : Fin 64) : Fin 768 := ⟨512 + 64 * kv.val + d.val, by omega⟩
def vcol (kv : Fin 2) (d : Fin 64) : Fin 768 := ⟨640 + 64 * kv.val + d.val, by omega⟩
/-- A head, its key head, and a result's column. -/
def hh (kv : Fin 2) (g : Fin 4) : Fin 8 := ⟨4 * kv.val + g.val, by omega⟩
def ocol (h : Fin 8) (d : Fin 64) : Fin 512 := ⟨64 * h.val + d.val, by omega⟩

/-- A key that a query may see: not after it, fewer than 128 rows before it, and a row of the array. -/
def sees (n : Fin 32) (q : Fin 128) (kk : Fin 256) : Prop := kk.val ≤ q.val + 128 ∧ q.val < kk.val ∧ 128 ≤ 128 * n.val + kk.val

instance (n : Fin 32) (q : Fin 128) (kk : Fin 256) : Decidable (sees n q kk) := by unfold sees; infer_instance

abbrev scale : EReal := Ideal.ofBits FTy.f32 0x3E000000#32

/-- A head's scores. -/
def score (n : Fin 32) (kv : Fin 2) (g : Fin 4) (q : Fin 128) (kk : Fin 256) : EReal :=
  if sees n q kk then (∑ d : Fin 64, y x0 x1 (krow n kk) (kcol kv d) * y x0 x1 (qrow n q) (qcol (hh kv g) d)) * scale else ⊥

/-- A head's value entries. -/
def vals (n : Fin 32) (kv : Fin 2) (d : Fin 64) (kk : Fin 256) : EReal := y x0 x1 (krow n kk) (vcol kv d)

/-- The attention. -/
def att (n : Fin 32) (kv : Fin 2) (g : Fin 4) (q : Fin 128) (d : Fin 64) : EReal :=
  soft (score x0 x1 n kv g q) (x2 (ix2 0 (hh kv g))) (vals x0 x1 n kv d)

end Spec

section Ref
variable (x0 : (⟨S4096x768, .f32⟩ : BufTy).Contents (Elt Ideal)) (x1 : (⟨S1x768, .f32⟩ : BufTy).Contents (Elt Ideal)) (x2 : (⟨S1x8, .f32⟩ : BufTy).Contents (Elt Ideal))

theorem cst_zero : Ideal.ofBits FTy.f32 0x00000000#32 = 0 := by simp [Ideal.ofBits, Ideal.ieee]
theorem cst_bot : Ideal.ofBits FTy.f32 0xFF800000#32 = ⊥ := by simp [Ideal.ofBits, Ideal.ieee]

theorem v4 (r : Fin 4096) (c : Fin 768) : val_main_v4 (F := Ideal) x0 x1 (ix3 0 r c) = y x0 x1 r c := by
  rw [val_main_v4_apply, val_main_v0_apply, val_main_v3_apply, val_main_v2_apply, val_main_v1_apply]
  refine congrArg₂ (· + ·) (congrArg x0 ?_) (congrArg x1 ?_)
  · funext a; match a with
    | ⟨0, _⟩ => rfl
    | ⟨1, _⟩ => rfl
  · funext a; match a with
    | ⟨0, _⟩ => rfl
    | ⟨1, _⟩ => exact Fin.ext (show c.val % 768 = c.val by omega)

theorem v5 (r : Fin 4096) (h : Fin 8) (d : Fin 64) : val_main_v5 (F := Ideal) x0 x1 (ix3 0 r ⟨64 * h.val + d.val, by omega⟩) = y x0 x1 r (qcol h d) := by
  rw [val_main_v5_apply, ← v4]
  refine congrArg _ ?_
  funext a; match a with
    | ⟨0, _⟩ => rfl
    | ⟨1, _⟩ => rfl
    | ⟨2, _⟩ => rfl
theorem v6 (r : Fin 4096) (kv : Fin 2) (d : Fin 64) : val_main_v6 (F := Ideal) x0 x1 (ix3 0 r ⟨64 * kv.val + d.val, by omega⟩) = y x0 x1 r (kcol kv d) := by
  rw [val_main_v6_apply, ← v4]
  refine congrArg _ ?_
  funext a; match a with
    | ⟨0, _⟩ => rfl
    | ⟨1, _⟩ => rfl
    | ⟨2, _⟩ => exact Fin.ext (show 512 + (64 * kv.val + d.val) = 512 + 64 * kv.val + d.val by omega)
theorem v7 (r : Fin 4096) (kv : Fin 2) (d : Fin 64) : val_main_v7 (F := Ideal) x0 x1 (ix3 0 r ⟨64 * kv.val + d.val, by omega⟩) = y x0 x1 r (vcol kv d) := by
  rw [val_main_v7_apply, ← v4]
  refine congrArg _ ?_
  funext a; match a with
    | ⟨0, _⟩ => rfl
    | ⟨1, _⟩ => rfl
    | ⟨2, _⟩ => exact Fin.ext (show 640 + (64 * kv.val + d.val) = 640 + 64 * kv.val + d.val by omega)

theorem v8 (r : Fin 4096) (h : Fin 8) (d : Fin 64) : val_main_v8 (F := Ideal) x0 x1 (ix4 0 r h d) = y x0 x1 r (qcol h d) := by
  rw [val_main_v8_apply, ← v5]
  refine congrArg _ ?_
  funext a; match a with
    | ⟨0, _⟩ => rfl
    | ⟨1, _⟩ => exact Fin.ext (show (((0 * 4096 + r.val) * 8 + h.val) * 64 + d.val) / 512 % 4096 = r.val by omega)
    | ⟨2, _⟩ => exact Fin.ext (show (((0 * 4096 + r.val) * 8 + h.val) * 64 + d.val) % 512 = 64 * h.val + d.val by omega)
theorem v9 (r : Fin 4096) (kv : Fin 2) (d : Fin 64) : val_main_v9 (F := Ideal) x0 x1 (ix4 0 r kv d) = y x0 x1 r (kcol kv d) := by
  rw [val_main_v9_apply, ← v6]
  refine congrArg _ ?_
  funext a; match a with
    | ⟨0, _⟩ => rfl
    | ⟨1, _⟩ => exact Fin.ext (show (((0 * 4096 + r.val) * 2 + kv.val) * 64 + d.val) / 128 % 4096 = r.val by omega)
    | ⟨2, _⟩ => exact Fin.ext (show (((0 * 4096 + r.val) * 2 + kv.val) * 64 + d.val) % 128 = 64 * kv.val + d.val by omega)
theorem v10 (r : Fin 4096) (kv : Fin 2) (d : Fin 64) : val_main_v10 (F := Ideal) x0 x1 (ix4 0 r kv d) = y x0 x1 r (vcol kv d) := by
  rw [val_main_v10_apply, ← v7]
  refine congrArg _ ?_
  funext a; match a with
    | ⟨0, _⟩ => rfl
    | ⟨1, _⟩ => exact Fin.ext (show (((0 * 4096 + r.val) * 2 + kv.val) * 64 + d.val) / 128 % 4096 = r.val by omega)
    | ⟨2, _⟩ => exact Fin.ext (show (((0 * 4096 + r.val) * 2 + kv.val) * 64 + d.val) % 128 = 64 * kv.val + d.val by omega)

theorem v12 (n : Fin 32) (q : Fin 128) (kv : Fin 2) (g : Fin 4) (d : Fin 64) :
    val_main_v12 (F := Ideal) x0 x1 (ix6 0 n q kv g d) = y x0 x1 (qrow n q) (qcol (hh kv g) d) := by
  rw [← v8]
  unfold val_main_v12
  generalize val_main_v8 (F := Ideal) x0 x1 = X
  refine shapeCast_apply X _ _ _ ?_
  rewrite [Shape.rowMajor_val_four, Shape.rowMajor_val_six]
  show ((0 * 4096 + (128 * n.val + q.val)) * 8 + (4 * kv.val + g.val)) * 64 + d.val = ((((0 * 32 + n.val) * 128 + q.val) * 2 + kv.val) * 4 + g.val) * 64 + d.val
  omega

/-- The padded array: 128 rows of zeros, then the array. -/
theorem v14_pad (r : Fin 4224) (kv : Fin 2) (d : Fin 64) (h : 128 ≤ r.val) :
    val_main_v14 (F := Ideal) x0 x1 (ix4 0 r kv d) = y x0 x1 ⟨r.val - 128, by omega⟩ (kcol kv d) := by
  rw [← v9]
  unfold val_main_v14
  generalize val_main_v9 (F := Ideal) x0 x1 = X
  rw [concatenate_pair_apply]
  refine (dif_neg (show ¬ r.val < 128 by omega)).trans ?_
  refine congrArg X ?_
  funext a; match a with
    | ⟨0, _⟩ => rfl
    | ⟨1, _⟩ => rfl
    | ⟨2, _⟩ => rfl
    | ⟨3, _⟩ => rfl
theorem v15 (n : Fin 33) (q : Fin 128) (kv : Fin 2) (d : Fin 64) :
    val_main_v15 (F := Ideal) x0 x1 (ix5 0 n q kv d) = val_main_v14 (F := Ideal) x0 x1 (ix4 0 ⟨128 * n.val + q.val, by omega⟩ kv d) := by
  rw [val_main_v15_apply]
  refine congrArg _ ?_
  funext a; match a with
    | ⟨0, _⟩ => rfl
    | ⟨1, _⟩ => exact Fin.ext (show ((((0 * 33 + n.val) * 128 + q.val) * 2 + kv.val) * 64 + d.val) / 128 % 4224 = 128 * n.val + q.val by omega)
    | ⟨2, _⟩ => exact Fin.ext (show ((((0 * 33 + n.val) * 128 + q.val) * 2 + kv.val) * 64 + d.val) / 64 % 2 = kv.val by omega)
    | ⟨3, _⟩ => exact Fin.ext (show ((((0 * 33 + n.val) * 128 + q.val) * 2 + kv.val) * 64 + d.val) % 64 = d.val by omega)
theorem v16 (n : Fin 32) (q : Fin 128) (kv : Fin 2) (d : Fin 64) :
    val_main_v16 (F := Ideal) x0 x1 (ix5 0 n q kv d) = val_main_v14 (F := Ideal) x0 x1 (ix4 0 ⟨128 * n.val + q.val, by omega⟩ kv d) := by
  rw [val_main_v16_apply, ← v15 x0 x1 ⟨n.val, by omega⟩]
  refine congrArg _ ?_
  funext a; match a with
    | ⟨0, _⟩ => rfl
    | ⟨1, _⟩ => rfl
    | ⟨2, _⟩ => rfl
    | ⟨3, _⟩ => rfl
    | ⟨4, _⟩ => rfl
theorem v17 (n : Fin 32) (q : Fin 128) (kv : Fin 2) (d : Fin 64) :
    val_main_v17 (F := Ideal) x0 x1 (ix5 0 n q kv d) = val_main_v14 (F := Ideal) x0 x1 (ix4 0 ⟨128 * (1 + n.val) + q.val, by omega⟩ kv d) := by
  rw [val_main_v17_apply, ← v15 x0 x1 ⟨1 + n.val, by omega⟩]
  refine congrArg _ ?_
  funext a; match a with
    | ⟨0, _⟩ => rfl
    | ⟨1, _⟩ => rfl
    | ⟨2, _⟩ => rfl
    | ⟨3, _⟩ => rfl
    | ⟨4, _⟩ => rfl
/-- The band: two blocks of the padded array. -/
theorem v18_pad (n : Fin 32) (kk : Fin 256) (kv : Fin 2) (d : Fin 64) :
    val_main_v18 (F := Ideal) x0 x1 (ix5 0 n kk kv d) = val_main_v14 (F := Ideal) x0 x1 (ix4 0 ⟨128 * n.val + kk.val, by omega⟩ kv d) := by
  by_cases h : kk.val < 128
  · rw [← v16 x0 x1 n ⟨kk.val, h⟩]
    unfold val_main_v18
    generalize val_main_v16 (F := Ideal) x0 x1 = X
    generalize val_main_v17 (F := Ideal) x0 x1 = Z
    rw [concatenate_pair_apply]
    refine (dif_pos (show kk.val < 128 from h)).trans ?_
    refine congrArg X ?_
    funext a; match a with
      | ⟨0, _⟩ => rfl
      | ⟨1, _⟩ => rfl
      | ⟨2, _⟩ => rfl
      | ⟨3, _⟩ => rfl
      | ⟨4, _⟩ => rfl
  · have e : val_main_v14 (F := Ideal) x0 x1 (ix4 0 ⟨128 * n.val + kk.val, by omega⟩ kv d)
        = val_main_v17 (F := Ideal) x0 x1 (ix5 0 n ⟨kk.val - 128, by omega⟩ kv d) := by
      rw [v17]
      refine congrArg (fun r => val_main_v14 (F := Ideal) x0 x1 (ix4 0 r kv d)) (Fin.ext ?_)
      show 128 * n.val + kk.val = 128 * (1 + n.val) + (kk.val - 128)
      omega
    rw [e]
    unfold val_main_v18
    generalize val_main_v16 (F := Ideal) x0 x1 = X
    generalize val_main_v17 (F := Ideal) x0 x1 = Z
    rw [concatenate_pair_apply]
    refine (dif_neg (show ¬ kk.val < 128 from h)).trans ?_
    refine congrArg Z ?_
    funext a; match a with
      | ⟨0, _⟩ => rfl
      | ⟨1, _⟩ => rfl
      | ⟨2, _⟩ => rfl
      | ⟨3, _⟩ => rfl
      | ⟨4, _⟩ => rfl
theorem v18 (n : Fin 32) (kk : Fin 256) (kv : Fin 2) (d : Fin 64) (h : 128 ≤ 128 * n.val + kk.val) :
    val_main_v18 (F := Ideal) x0 x1 (ix5 0 n kk kv d) = y x0 x1 (krow n kk) (kcol kv d) := by
  rw [v18_pad]
  exact v14_pad x0 x1 _ kv d h

/-- The padded array: 128 rows of zeros, then the array. -/
theorem v20_pad (r : Fin 4224) (kv : Fin 2) (d : Fin 64) (h : 128 ≤ r.val) :
    val_main_v20 (F := Ideal) x0 x1 (ix4 0 r kv d) = y x0 x1 ⟨r.val - 128, by omega⟩ (vcol kv d) := by
  rw [← v10]
  unfold val_main_v20
  generalize val_main_v10 (F := Ideal) x0 x1 = X
  rw [concatenate_pair_apply]
  refine (dif_neg (show ¬ r.val < 128 by omega)).trans ?_
  refine congrArg X ?_
  funext a; match a with
    | ⟨0, _⟩ => rfl
    | ⟨1, _⟩ => rfl
    | ⟨2, _⟩ => rfl
    | ⟨3, _⟩ => rfl
theorem v21 (n : Fin 33) (q : Fin 128) (kv : Fin 2) (d : Fin 64) :
    val_main_v21 (F := Ideal) x0 x1 (ix5 0 n q kv d) = val_main_v20 (F := Ideal) x0 x1 (ix4 0 ⟨128 * n.val + q.val, by omega⟩ kv d) := by
  rw [val_main_v21_apply]
  refine congrArg _ ?_
  funext a; match a with
    | ⟨0, _⟩ => rfl
    | ⟨1, _⟩ => exact Fin.ext (show ((((0 * 33 + n.val) * 128 + q.val) * 2 + kv.val) * 64 + d.val) / 128 % 4224 = 128 * n.val + q.val by omega)
    | ⟨2, _⟩ => exact Fin.ext (show ((((0 * 33 + n.val) * 128 + q.val) * 2 + kv.val) * 64 + d.val) / 64 % 2 = kv.val by omega)
    | ⟨3, _⟩ => exact Fin.ext (show ((((0 * 33 + n.val) * 128 + q.val) * 2 + kv.val) * 64 + d.val) % 64 = d.val by omega)
theorem v22 (n : Fin 32) (q : Fin 128) (kv : Fin 2) (d : Fin 64) :
    val_main_v22 (F := Ideal) x0 x1 (ix5 0 n q kv d) = val_main_v20 (F := Ideal) x0 x1 (ix4 0 ⟨128 * n.val + q.val, by omega⟩ kv d) := by
  rw [val_main_v22_apply, ← v21 x0 x1 ⟨n.val, by omega⟩]
  refine congrArg _ ?_
  funext a; match a with
    | ⟨0, _⟩ => rfl
    | ⟨1, _⟩ => rfl
    | ⟨2, _⟩ => rfl
    | ⟨3, _⟩ => rfl
    | ⟨4, _⟩ => rfl
theorem v23 (n : Fin 32) (q : Fin 128) (kv : Fin 2) (d : Fin 64) :
    val_main_v23 (F := Ideal) x0 x1 (ix5 0 n q kv d) = val_main_v20 (F := Ideal) x0 x1 (ix4 0 ⟨128 * (1 + n.val) + q.val, by omega⟩ kv d) := by
  rw [val_main_v23_apply, ← v21 x0 x1 ⟨1 + n.val, by omega⟩]
  refine congrArg _ ?_
  funext a; match a with
    | ⟨0, _⟩ => rfl
    | ⟨1, _⟩ => rfl
    | ⟨2, _⟩ => rfl
    | ⟨3, _⟩ => rfl
    | ⟨4, _⟩ => rfl
/-- The band: two blocks of the padded array. -/
theorem v24_pad (n : Fin 32) (kk : Fin 256) (kv : Fin 2) (d : Fin 64) :
    val_main_v24 (F := Ideal) x0 x1 (ix5 0 n kk kv d) = val_main_v20 (F := Ideal) x0 x1 (ix4 0 ⟨128 * n.val + kk.val, by omega⟩ kv d) := by
  by_cases h : kk.val < 128
  · rw [← v22 x0 x1 n ⟨kk.val, h⟩]
    unfold val_main_v24
    generalize val_main_v22 (F := Ideal) x0 x1 = X
    generalize val_main_v23 (F := Ideal) x0 x1 = Z
    rw [concatenate_pair_apply]
    refine (dif_pos (show kk.val < 128 from h)).trans ?_
    refine congrArg X ?_
    funext a; match a with
      | ⟨0, _⟩ => rfl
      | ⟨1, _⟩ => rfl
      | ⟨2, _⟩ => rfl
      | ⟨3, _⟩ => rfl
      | ⟨4, _⟩ => rfl
  · have e : val_main_v20 (F := Ideal) x0 x1 (ix4 0 ⟨128 * n.val + kk.val, by omega⟩ kv d)
        = val_main_v23 (F := Ideal) x0 x1 (ix5 0 n ⟨kk.val - 128, by omega⟩ kv d) := by
      rw [v23]
      refine congrArg (fun r => val_main_v20 (F := Ideal) x0 x1 (ix4 0 r kv d)) (Fin.ext ?_)
      show 128 * n.val + kk.val = 128 * (1 + n.val) + (kk.val - 128)
      omega
    rw [e]
    unfold val_main_v24
    generalize val_main_v22 (F := Ideal) x0 x1 = X
    generalize val_main_v23 (F := Ideal) x0 x1 = Z
    rw [concatenate_pair_apply]
    refine (dif_neg (show ¬ kk.val < 128 from h)).trans ?_
    refine congrArg Z ?_
    funext a; match a with
      | ⟨0, _⟩ => rfl
      | ⟨1, _⟩ => rfl
      | ⟨2, _⟩ => rfl
      | ⟨3, _⟩ => rfl
      | ⟨4, _⟩ => rfl
theorem v24 (n : Fin 32) (kk : Fin 256) (kv : Fin 2) (d : Fin 64) (h : 128 ≤ 128 * n.val + kk.val) :
    val_main_v24 (F := Ideal) x0 x1 (ix5 0 n kk kv d) = y x0 x1 (krow n kk) (vcol kv d) := by
  rw [v24_pad]
  exact v20_pad x0 x1 _ kv d h

/-- The band's mask. -/
theorem v42 (q : Fin 128) (kk : Fin 256) : val_main_v42 (F := Ideal) (ix2 q kk) = if kk.val ≤ q.val + 128 ∧ q.val < kk.val then 1#1 else 0#1 := by
  have h : val_main_v42 (F := Ideal) (ix2 q kk) = IntOp.andi
      (IntOp.cmpi .sge (IntOp.subi (IntOp.addi (BitVec.ofNat 32 q.val) 128#32) (BitVec.ofNat 32 kk.val)) 0#32)
      (IntOp.cmpi .slt (IntOp.subi (IntOp.addi (BitVec.ofNat 32 q.val) 128#32) (BitVec.ofNat 32 kk.val)) 128#32) := by
    simp only [val_main_v42_apply, val_main_v39_apply, val_main_v41_apply, val_main_v37_apply, val_main_v35_apply, val_main_v36_apply, val_main_v34_apply, val_main_v33_apply, val_main_v32_apply, val_main_v31_apply, val_main_v30_apply, val_main_v29_apply, val_main_v38_apply, val_main_v40_apply]
    rfl
  rw [h]
  have hq := q.isLt
  have hk := kk.isLt
  revert q kk
  decide +kernel

/-- The rows before the first are no keys. -/
theorem v56 (n : Fin 32) (kk : Fin 256) : val_main_v56 (F := Ideal) (ix2 n kk) = if 128 ≤ 128 * n.val + kk.val then 1#1 else 0#1 := by
  have h : val_main_v56 (F := Ideal) (ix2 n kk) =
      IntOp.cmpi .sge (IntOp.subi (IntOp.addi (IntOp.muli (BitVec.ofNat 32 n.val) 128#32) (BitVec.ofNat 32 kk.val)) 128#32) 0#32 := by
    simp only [val_main_v56_apply, val_main_v55_apply, val_main_v53_apply, val_main_v52_apply, val_main_v51_apply, val_main_v50_apply, val_main_v49_apply, val_main_v48_apply, val_main_v47_apply, val_main_v46_apply, val_main_v45_apply, val_main_v44_apply, val_main_v43_apply]
    rfl
  rw [h]
  revert n kk
  decide +kernel

theorem v60 (n : Fin 32) (q : Fin 128) (kk : Fin 256) : val_main_v60 (F := Ideal) (ix3 n q kk) = if sees n q kk then 1#1 else 0#1 := by
  have e1 : val_main_v58 (F := Ideal) (ix3 n q kk) = val_main_v42 (F := Ideal) (ix2 q kk) := by
    rw [val_main_v58_apply, val_main_v54_apply]
    refine congrArg _ ?_
    funext a; match a with
      | ⟨0, _⟩ => rfl
      | ⟨1, _⟩ => rfl
  have e2 : val_main_v59 (F := Ideal) (ix3 n q kk) = val_main_v56 (F := Ideal) (ix2 n kk) := by
    rw [val_main_v59_apply, val_main_v57_apply]
    refine congrArg _ ?_
    funext a; match a with
      | ⟨0, _⟩ => rfl
      | ⟨1, _⟩ => rfl
  rw [val_main_v60_apply, e1, e2, v42, v56]
  unfold sees
  by_cases h1 : kk.val ≤ q.val + 128 <;> by_cases h2 : q.val < kk.val <;> by_cases h3 : 128 ≤ 128 * n.val + kk.val <;>
    simp only [h1, h2, h3, and_self, and_true, true_and, and_false, false_and, if_true, if_false] <;> rfl

end Ref
end Cert.Att

end
-- ==== Proof.AttKernel.lean ====
/-
  Sliding-window attention with sinks: the payloads of the kernel, entry by entry.
-/
module

public import proofs.«01_k».proof.Proof.AttRef
public import proofs.«01_k».proof.Proof.Gen.AttnFwdIdeal.Value
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.AttnFwdIdeal.Hand

open Cert.AttnFwdIdeal Cert.AttnFwdIdeal.Gen Cert.RealNum Cert.Att
open Idealize.ShloMosaic Idealize.ShloMosaic.TcCoe Idealize.SL.Sem

/-- Four pieces of one length, one after the other. -/
theorem cat4 {α : Type} {w N : ℕ} (f0 f1 f2 f3 : Fin w → α) (f : Fin 4 → α) (g : Fin 4) (l : Fin w) (k : Fin N) (hk : k.val = w * g.val + l.val)
    (h0 : f0 l = f 0) (h1 : f1 l = f 1) (h2 : f2 l = f 2) (h3 : f3 l = f 3) (hN : k.val - w - w - w < w) :
    (if e : k.val < w then f0 ⟨k.val, e⟩ else if e : k.val - w < w then f1 ⟨k.val - w, e⟩ else
      if e : k.val - w - w < w then f2 ⟨k.val - w - w, e⟩ else f3 ⟨k.val - w - w - w, hN⟩) = f g := by
  obtain ⟨l, hl⟩ := l
  match g with
  | ⟨0, _⟩ =>
    have hk : k.val = l := by rw [hk]; show w * 0 + l = l; omega
    rw [dif_pos (show k.val < w by omega)]
    exact (congrArg f0 (Fin.ext hk)).trans h0
  | ⟨1, _⟩ =>
    have hk : k.val = w + l := by rw [hk]; show w * 1 + l = w + l; omega
    rw [dif_neg (show ¬ k.val < w by omega), dif_pos (show k.val - w < w by omega)]
    exact (congrArg f1 (Fin.ext (show k.val - w = l by omega))).trans h1
  | ⟨2, _⟩ =>
    have hk : k.val = w + w + l := by rw [hk]; show w * 2 + l = w + w + l; omega
    rw [dif_neg (show ¬ k.val < w by omega), dif_neg (show ¬ k.val - w < w by omega), dif_pos (show k.val - w - w < w by omega)]
    exact (congrArg f2 (Fin.ext (show k.val - w - w = l by omega))).trans h2
  | ⟨3, _⟩ =>
    have hk : k.val = w + w + w + l := by rw [hk]; show w * 3 + l = w + w + w + l; omega
    rw [dif_neg (show ¬ k.val < w by omega), dif_neg (show ¬ k.val - w < w by omega), dif_neg (show ¬ k.val - w - w < w by omega)]
    exact (congrArg f3 (Fin.ext (show k.val - w - w - w = l by omega))).trans h3

/-- A stacked row: a head's part and a place in it. -/
def lane (g : Fin 4) (t : Fin 64) : Fin 256 := ⟨64 * g.val + t.val, by omega⟩
def wide (g : Fin 4) (q : Fin 128) : Fin 512 := ⟨128 * g.val + q.val, by omega⟩
/-- A half's rows among the queries and among the keys. -/
def qa (a : Fin 2) (t : Fin 64) : Fin 128 := ⟨64 * a.val + t.val, by omega⟩
def ka (a : Fin 2) (j : Fin 192) : Fin 256 := ⟨64 * a.val + j.val, by omega⟩

/-- The scores where the mask is set, minus infinity elsewhere. -/
def sel (M : IVec S192x256 1) (s : FVec Ideal S192x256 .f32) : FVec Ideal S192x256 .f32 :=
  select M s (broadcast S192x256 (Named.named κ "mask" 0xF149F2CA#32))

theorem sel_apply (M : IVec S192x256 1) (s : FVec Ideal S192x256 .f32) (i : S192x256.Idx) : sel M s i = if M i = 1 then s i else ⊥ := by
  unfold sel
  pointwise
  unfold Scalar.select
  rfl

theorem pay11_eq (M : IVec S192x256 1) (a b c d : FVec Ideal S128x64 .f32) (u : FVec Ideal S1x64 .f32) (a1 : FVec Ideal S128x64 .f32) (u1 : FVec Ideal S1x64 .f32) (a2 : FVec Ideal S128x64 .f32) (u2 : FVec Ideal S1x64 .f32) (v5 : FVec Ideal S128x64 .f32) (u5 : FVec Ideal S1x64 .f32) :
    k0_pay11 (F := Ideal) M a b (k0_pay7 (F := Ideal) v5 u5) d u a1 u1 a2 u2 = sel M (k0_pay30 (F := Ideal) a b v5 u5 d u a1 u1 a2 u2) := rfl
theorem pay18_eq (M : IVec S192x256 1) (X : FVec Ideal S512x64 .f32) (Y : FVec Ideal S256x64 .f32) :
    k0_pay18 (F := Ideal) M X Y = sel M (k0_pay36 (F := Ideal) X Y) := rfl
theorem pay31_eq (M : IVec S192x256 1) (V : FVec Ideal S256x64 .f32) (s : FVec Ideal S192x256 .f32) (z0 z1 z2 z3 : Elt Ideal .f32) :
    k0_pay31 (F := Ideal) M V s z0 z1 z2 z3 = k0_pay13 (F := Ideal) V (sel M s) (k0_pay12 (F := Ideal) z0) z1 z2 z3 := rfl

section Scores
variable (Q : Fin 4 → Fin 128 → Fin 64 → EReal) (K : Fin 256 → Fin 64 → EReal)

/-- The products of a half's queries and keys. -/
theorem pay36 (X : FVec Ideal S512x64 .f32) (Y : FVec Ideal S256x64 .f32) (hX : ∀ g q l, X (ix2 (wide g q) l) = Q g q l) (hY : ∀ k l, Y (ix2 k l) = K k l)
    (j : Fin 192) (g : Fin 4) (t : Fin 64) :
    k0_pay36 (F := Ideal) X Y (ix2 j (lane g t)) = (∑ d : Fin 64, K (ka 1 j) d * Q g (qa 1 t) d) * scale := by
  pointwise [k0_pay36]
  refine congrArg (· * scale) (Finset.sum_congr rfl fun x _ => congrArg₂ (· * ·) (hY (ka 1 j) x) ?_)
  refine (cat4 (fun l : Fin 64 => X (ix2 ⟨64 + l.val, by omega⟩ x)) (fun l : Fin 64 => X (ix2 ⟨192 + l.val, by omega⟩ x)) (fun l : Fin 64 => X (ix2 ⟨320 + l.val, by omega⟩ x)) (fun l : Fin 64 => X (ix2 ⟨448 + l.val, by omega⟩ x))
    (fun g => X (ix2 (wide g (qa 1 t)) x)) g t (lane g t) rfl ?_ ?_ ?_ ?_ ?_).trans (hX g (qa 1 t) x)
  · exact congrArg (fun a => X (ix2 a x)) (Fin.ext (show 64 + t.val = 128 * 0 + (64 * 1 + t.val) by omega))
  · exact congrArg (fun a => X (ix2 a x)) (Fin.ext (show 192 + t.val = 128 * 1 + (64 * 1 + t.val) by omega))
  · exact congrArg (fun a => X (ix2 a x)) (Fin.ext (show 320 + t.val = 128 * 2 + (64 * 1 + t.val) by omega))
  · exact congrArg (fun a => X (ix2 a x)) (Fin.ext (show 448 + t.val = 128 * 3 + (64 * 1 + t.val) by omega))
  · show 64 * g.val + t.val - 64 - 64 - 64 < 64
    omega
theorem pay30 (a b c d : FVec Ideal S128x64 .f32) (u v : FVec Ideal S1x64 .f32) (a1 : FVec Ideal S128x64 .f32) (u1 : FVec Ideal S1x64 .f32) (a2 : FVec Ideal S128x64 .f32) (u2 : FVec Ideal S1x64 .f32)
    (hX : ∀ g q l, k0_pay27 (F := Ideal) a b c u d v (ix2 (wide g q) l) = Q g q l) (hY : ∀ k l, k0_pay28 (F := Ideal) a1 u1 a2 u2 (ix2 k l) = K k l)
    (j : Fin 192) (g : Fin 4) (t : Fin 64) :
    k0_pay30 (F := Ideal) a b c u d v a1 u1 a2 u2 (ix2 j (lane g t)) = (∑ d : Fin 64, K (ka 0 j) d * Q g (qa 0 t) d) * scale := by
  unfold k0_pay30
  generalize k0_pay27 (F := Ideal) a b c u d v = X at hX
  generalize k0_pay28 (F := Ideal) a1 u1 a2 u2 = Y at hY
  pointwise
  refine congrArg (· * scale) (Finset.sum_congr rfl fun x _ => congrArg₂ (· * ·) ((congrArg (fun a => Y (ix2 a x)) (Fin.ext (show j.val = 64 * 0 + j.val by omega))).trans (hY (ka 0 j) x)) ?_)
  refine (cat4 (fun l : Fin 64 => X (ix2 ⟨l.val, by omega⟩ x)) (fun l : Fin 64 => X (ix2 ⟨128 + l.val, by omega⟩ x)) (fun l : Fin 64 => X (ix2 ⟨256 + l.val, by omega⟩ x)) (fun l : Fin 64 => X (ix2 ⟨384 + l.val, by omega⟩ x))
    (fun g => X (ix2 (wide g (qa 0 t)) x)) g t (lane g t) rfl ?_ ?_ ?_ ?_ ?_).trans (hX g (qa 0 t) x)
  · exact congrArg (fun a => X (ix2 a x)) (Fin.ext (show t.val = 128 * 0 + (64 * 0 + t.val) by omega))
  · exact congrArg (fun a => X (ix2 a x)) (Fin.ext (show 128 + t.val = 128 * 1 + (64 * 0 + t.val) by omega))
  · exact congrArg (fun a => X (ix2 a x)) (Fin.ext (show 256 + t.val = 128 * 2 + (64 * 0 + t.val) by omega))
  · exact congrArg (fun a => X (ix2 a x)) (Fin.ext (show 384 + t.val = 128 * 3 + (64 * 0 + t.val) by omega))
  · show 64 * g.val + t.val - 64 - 64 - 64 < 64
    omega

end Scores

section Soft
variable (V : FVec Ideal S256x64 .f32) (S : FVec Ideal S192x256 .f32) (zz : Fin 4 → EReal)

/-- A half's weighted values. -/
def mixw (a : Fin 2) (V : FVec Ideal S256x64 .f32) (s : Fin 192 → EReal) (z : EReal) (l : Fin 64) : EReal :=
  ∑ j, Ideal.exp (s j - top s z) * Ideal.div 1 (den s z) * V (ix2 (ka a j) l)

theorem pay13 (g : Fin 4) (t l : Fin 64) :
    k0_pay13 (F := Ideal) V S (k0_pay12 (F := Ideal) (zz 0)) (zz 1) (zz 2) (zz 3) (ix2 (lane g t) l) = mixw 0 V (fun j => S (ix2 j (lane g t))) (zz g) l := by
  pointwise [k0_pay13, k0_pay12]
  have e : (if _ : (lane g t).val < 64 then zz 0 else if _ : (lane g t).val - 64 < 64 then zz 1 else if _ : (lane g t).val - 64 - 64 < 64 then zz 2 else zz 3) = zz g :=
    cat4 (fun _ : Fin 64 => zz 0) (fun _ : Fin 64 => zz 1) (fun _ : Fin 64 => zz 2) (fun _ : Fin 64 => zz 3) zz g t (lane g t) rfl rfl rfl rfl rfl (show 64 * g.val + t.val - 64 - 64 - 64 < 64 by omega)
  rw [e]
  unfold mixw top den top
  rw [cst_bot]
  refine Finset.sum_congr rfl fun x _ => congrArg _ (congrArg (fun a => V (ix2 a l)) (Fin.ext (show x.val = 64 * 0 + x.val by omega)))
theorem pay20 (g : Fin 4) (t l : Fin 64) :
    k0_pay20 (F := Ideal) V S (k0_pay19 (F := Ideal) (zz 0)) (zz 1) (zz 2) (zz 3) (ix2 (lane g t) l) = mixw 1 V (fun j => S (ix2 j (lane g t))) (zz g) l := by
  pointwise [k0_pay20, k0_pay19]
  have e : (if _ : (lane g t).val < 64 then zz 0 else if _ : (lane g t).val - 64 < 64 then zz 1 else if _ : (lane g t).val - 64 - 64 < 64 then zz 2 else zz 3) = zz g :=
    cat4 (fun _ : Fin 64 => zz 0) (fun _ : Fin 64 => zz 1) (fun _ : Fin 64 => zz 2) (fun _ : Fin 64 => zz 3) zz g t (lane g t) rfl rfl rfl rfl rfl (show 64 * g.val + t.val - 64 - 64 - 64 < 64 by omega)
  rw [e]
  unfold mixw top den top
  rw [cst_bot]
  refine Finset.sum_congr rfl fun x _ => congrArg _ (congrArg (fun a => V (ix2 a l)) (Fin.ext (show 64 + x.val = 64 * 1 + x.val by omega)))

end Soft

section Mask
theorem sixty : Scalar.select (Scalar.cmpi CmpIPredicate.eq 64#32 0#32) 1#32 64#32 = 64#32 := by decide
theorem place : ∀ (g : Fin 4) (t : Fin 64), IntOp.remsi ArithUnit.vector (BitVec.ofNat 32 (lane g t).val) 64#32 = BitVec.ofNat 32 t.val := by decide +kernel
theorem wrap : ∀ t : Fin 64, Scalar.select (IntOp.andi (IntOp.xori (IntOp.cmpi CmpIPredicate.slt (BitVec.ofNat 32 t.val) 0#32) (Scalar.cmpi CmpIPredicate.slt 64#32 0#32))
    (IntOp.cmpi CmpIPredicate.ne (BitVec.ofNat 32 t.val) 0#32)) (IntOp.addi (BitVec.ofNat 32 t.val) 64#32) (BitVec.ofNat 32 t.val) = BitVec.ofNat 32 t.val := by decide +kernel
theorem first : ∀ n : Fin 32, Scalar.select (Scalar.cmpi CmpIPredicate.sgt (BitVec.ofNat 32 n.val) 0#32) 0#32 128#32 = if n.val = 0 then 128#32 else 0#32 := by decide +kernel
theorem band : ∀ (t : Fin 64) (j : Fin 192), IntOp.andi (IntOp.cmpi CmpIPredicate.sge (IntOp.subi (IntOp.addi (BitVec.ofNat 32 t.val) 128#32) (BitVec.ofNat 32 j.val)) 0#32)
    (IntOp.cmpi CmpIPredicate.slt (IntOp.subi (IntOp.addi (BitVec.ofNat 32 t.val) 128#32) (BitVec.ofNat 32 j.val)) 128#32) = if j.val ≤ t.val + 128 ∧ t.val < j.val then 1 else 0 := by decide +kernel
theorem edge : ∀ (n : Fin 32) (j : Fin 192), (IntOp.cmpi CmpIPredicate.sge (IntOp.addi (BitVec.ofNat 32 j.val) 0#32) (if n.val = 0 then 128#32 else 0#32) = if 128 ≤ 128 * n.val + j.val then 1 else 0)
    ∧ (IntOp.cmpi CmpIPredicate.sge (IntOp.addi (BitVec.ofNat 32 j.val) 64#32) (if n.val = 0 then 128#32 else 0#32) = if 128 ≤ 128 * n.val + (64 + j.val) then 1 else 0) := by decide +kernel
theorem both (p q : Prop) [Decidable p] [Decidable q] : (IntOp.andi (if p then 1 else 0 : BitVec 1) (if q then 1 else 0) = 1) ↔ (p ∧ q) := by
  by_cases hp : p <;> by_cases hq : q <;> simp only [hp, hq, if_true, if_false, and_true, and_false, true_iff, iff_false] <;> decide
theorem mask0 (i : grid0.Coords) (n : Fin 32) (hi : (i 0).val = n.val) (j : Fin 192) (g : Fin 4) (t : Fin 64) : (k0_pay1 i (ix2 j (lane g t)) = 1) ↔ sees n (qa 0 t) (ka 0 j) := by
  pointwise [k0_pay1]
  rw [sixty, place, wrap, hi, first, band, (edge n j).1, both]
  show _ ↔ (64 * 0 + j.val ≤ 64 * 0 + t.val + 128 ∧ 64 * 0 + t.val < 64 * 0 + j.val ∧ 128 ≤ 128 * n.val + (64 * 0 + j.val))
  omega
theorem mask1 (a : BitVec 32) (n : Fin 32) (ha : a = BitVec.ofNat 32 n.val) (j : Fin 192) (g : Fin 4) (t : Fin 64) :
    (k0_pay4 a (iota Kind.tc S192x256 32 [0] iota_S192x256_d0_w32) (64#32) k0_pay2 k0_pay3 0#32 (ix2 j (lane g t)) = 1) ↔ sees n (qa 1 t) (ka 1 j) := by
  pointwise [k0_pay4, k0_pay3, k0_pay2]
  rw [sixty, place, wrap, ha, first, band, (edge n j).2, both]
  show _ ↔ (64 * 1 + j.val ≤ 64 * 1 + t.val + 128 ∧ 64 * 1 + t.val < 64 * 1 + j.val ∧ 128 ≤ 128 * n.val + (64 * 1 + j.val))
  omega
end Mask

section Pieces
theorem pay14 (V : FVec Ideal S256x64 .f32) (S : FVec Ideal S192x256 .f32) (z : FVec Ideal S1x64 .f32) (z1 z2 z3 : Elt Ideal .f32) (t l : Fin 64) : k0_pay14 (F := Ideal) V S z z1 z2 z3 (ix2 t l) = k0_pay13 (F := Ideal) V S z z1 z2 z3 (ix2 (lane 0 t) l) := by
  unfold k0_pay14
  generalize k0_pay13 (F := Ideal) V S z z1 z2 z3 = X
  pointwise
  exact congrArg (fun a => X (ix2 a l)) (Fin.ext (show t.val = 64 * 0 + t.val by omega))
theorem pay15 (V : FVec Ideal S256x64 .f32) (S : FVec Ideal S192x256 .f32) (z : FVec Ideal S1x64 .f32) (z1 z2 z3 : Elt Ideal .f32) (t l : Fin 64) : k0_pay15 (F := Ideal) V S z z1 z2 z3 (ix2 t l) = k0_pay13 (F := Ideal) V S z z1 z2 z3 (ix2 (lane 1 t) l) := by
  unfold k0_pay15
  generalize k0_pay13 (F := Ideal) V S z z1 z2 z3 = X
  pointwise
  exact congrArg (fun a => X (ix2 a l)) (Fin.ext (show 64 + t.val = 64 * 1 + t.val by omega))
theorem pay16 (V : FVec Ideal S256x64 .f32) (S : FVec Ideal S192x256 .f32) (z : FVec Ideal S1x64 .f32) (z1 z2 z3 : Elt Ideal .f32) (t l : Fin 64) : k0_pay16 (F := Ideal) V S z z1 z2 z3 (ix2 t l) = k0_pay13 (F := Ideal) V S z z1 z2 z3 (ix2 (lane 2 t) l) := by
  unfold k0_pay16
  generalize k0_pay13 (F := Ideal) V S z z1 z2 z3 = X
  pointwise
  exact congrArg (fun a => X (ix2 a l)) (Fin.ext (show 128 + t.val = 64 * 2 + t.val by omega))
theorem pay17 (V : FVec Ideal S256x64 .f32) (S : FVec Ideal S192x256 .f32) (z : FVec Ideal S1x64 .f32) (z1 z2 z3 : Elt Ideal .f32) (t l : Fin 64) : k0_pay17 (F := Ideal) V S z z1 z2 z3 (ix2 t l) = k0_pay13 (F := Ideal) V S z z1 z2 z3 (ix2 (lane 3 t) l) := by
  unfold k0_pay17
  generalize k0_pay13 (F := Ideal) V S z z1 z2 z3 = X
  pointwise
  exact congrArg (fun a => X (ix2 a l)) (Fin.ext (show 192 + t.val = 64 * 3 + t.val by omega))
theorem pay21 (V : FVec Ideal S256x64 .f32) (S : FVec Ideal S192x256 .f32) (z : FVec Ideal S1x64 .f32) (z1 z2 z3 : Elt Ideal .f32) (t l : Fin 64) : k0_pay21 (F := Ideal) V S z z1 z2 z3 (ix2 t l) = k0_pay20 (F := Ideal) V S z z1 z2 z3 (ix2 (lane 0 t) l) := by
  unfold k0_pay21
  generalize k0_pay20 (F := Ideal) V S z z1 z2 z3 = X
  pointwise
  exact congrArg (fun a => X (ix2 a l)) (Fin.ext (show t.val = 64 * 0 + t.val by omega))
theorem pay22 (V : FVec Ideal S256x64 .f32) (S : FVec Ideal S192x256 .f32) (z : FVec Ideal S1x64 .f32) (z1 z2 z3 : Elt Ideal .f32) (t l : Fin 64) : k0_pay22 (F := Ideal) V S z z1 z2 z3 (ix2 t l) = k0_pay20 (F := Ideal) V S z z1 z2 z3 (ix2 (lane 1 t) l) := by
  unfold k0_pay22
  generalize k0_pay20 (F := Ideal) V S z z1 z2 z3 = X
  pointwise
  exact congrArg (fun a => X (ix2 a l)) (Fin.ext (show 64 + t.val = 64 * 1 + t.val by omega))
theorem pay23 (V : FVec Ideal S256x64 .f32) (S : FVec Ideal S192x256 .f32) (z : FVec Ideal S1x64 .f32) (z1 z2 z3 : Elt Ideal .f32) (t l : Fin 64) : k0_pay23 (F := Ideal) V S z z1 z2 z3 (ix2 t l) = k0_pay20 (F := Ideal) V S z z1 z2 z3 (ix2 (lane 2 t) l) := by
  unfold k0_pay23
  generalize k0_pay20 (F := Ideal) V S z z1 z2 z3 = X
  pointwise
  exact congrArg (fun a => X (ix2 a l)) (Fin.ext (show 128 + t.val = 64 * 2 + t.val by omega))
theorem pay24 (V : FVec Ideal S256x64 .f32) (S : FVec Ideal S192x256 .f32) (z : FVec Ideal S1x64 .f32) (z1 z2 z3 : Elt Ideal .f32) (t l : Fin 64) : k0_pay24 (F := Ideal) V S z z1 z2 z3 (ix2 t l) = k0_pay20 (F := Ideal) V S z z1 z2 z3 (ix2 (lane 3 t) l) := by
  unfold k0_pay24
  generalize k0_pay20 (F := Ideal) V S z z1 z2 z3 = X
  pointwise
  exact congrArg (fun a => X (ix2 a l)) (Fin.ext (show 192 + t.val = 64 * 3 + t.val by omega))
theorem pay32 (M : IVec S192x256 1) (V : FVec Ideal S256x64 .f32) (S : FVec Ideal S192x256 .f32) (z z1 z2 z3 : Elt Ideal .f32) (t l : Fin 64) : k0_pay32 (F := Ideal) M V S z z1 z2 z3 (ix2 t l) = k0_pay31 (F := Ideal) M V S z z1 z2 z3 (ix2 (lane 0 t) l) := by
  unfold k0_pay32
  generalize k0_pay31 (F := Ideal) M V S z z1 z2 z3 = X
  pointwise
  exact congrArg (fun a => X (ix2 a l)) (Fin.ext (show t.val = 64 * 0 + t.val by omega))
theorem pay33 (M : IVec S192x256 1) (V : FVec Ideal S256x64 .f32) (S : FVec Ideal S192x256 .f32) (z z1 z2 z3 : Elt Ideal .f32) (t l : Fin 64) : k0_pay33 (F := Ideal) M V S z z1 z2 z3 (ix2 t l) = k0_pay31 (F := Ideal) M V S z z1 z2 z3 (ix2 (lane 1 t) l) := by
  unfold k0_pay33
  generalize k0_pay31 (F := Ideal) M V S z z1 z2 z3 = X
  pointwise
  exact congrArg (fun a => X (ix2 a l)) (Fin.ext (show 64 + t.val = 64 * 1 + t.val by omega))
theorem pay34 (M : IVec S192x256 1) (V : FVec Ideal S256x64 .f32) (S : FVec Ideal S192x256 .f32) (z z1 z2 z3 : Elt Ideal .f32) (t l : Fin 64) : k0_pay34 (F := Ideal) M V S z z1 z2 z3 (ix2 t l) = k0_pay31 (F := Ideal) M V S z z1 z2 z3 (ix2 (lane 2 t) l) := by
  unfold k0_pay34
  generalize k0_pay31 (F := Ideal) M V S z z1 z2 z3 = X
  pointwise
  exact congrArg (fun a => X (ix2 a l)) (Fin.ext (show 128 + t.val = 64 * 2 + t.val by omega))
theorem pay35 (M : IVec S192x256 1) (V : FVec Ideal S256x64 .f32) (S : FVec Ideal S192x256 .f32) (z z1 z2 z3 : Elt Ideal .f32) (t l : Fin 64) : k0_pay35 (F := Ideal) M V S z z1 z2 z3 (ix2 t l) = k0_pay31 (F := Ideal) M V S z z1 z2 z3 (ix2 (lane 3 t) l) := by
  unfold k0_pay35
  generalize k0_pay31 (F := Ideal) M V S z z1 z2 z3 = X
  pointwise
  exact congrArg (fun a => X (ix2 a l)) (Fin.ext (show 192 + t.val = 64 * 3 + t.val by omega))

/-- The heads' halves put together. -/
def asm (a0 a1 a2 a3 b0 b1 b2 b3 c0 c1 c2 c3 : FVec Ideal S64x64 .f32) (X : FVec Ideal S256x64 .f32) : FVec Ideal S128x512 .f32 :=
  let pair (a b : FVec Ideal S64x64 .f32) : FVec Ideal S128x64 .f32 := concatenate S128x64 0 [⟨S64x64, a⟩, ⟨S64x64, b⟩] concatenates_S64x64_S64x64_S128x64_d0
  concatenate S128x512 1 [⟨S128x64, pair a0 b0⟩, ⟨S128x64, pair a1 b1⟩, ⟨S128x64, pair a2 b2⟩, ⟨S128x64, pair a3 b3⟩,
    ⟨S128x64, pair c0 (extractStridedSlice S64x64 ![0, 0] X slices_S256x64_o0_0_S64x64)⟩, ⟨S128x64, pair c1 (extractStridedSlice S64x64 ![64, 0] X slices_S256x64_o64_0_S64x64)⟩,
    ⟨S128x64, pair c2 (extractStridedSlice S64x64 ![128, 0] X slices_S256x64_o128_0_S64x64)⟩, ⟨S128x64, pair c3 (extractStridedSlice S64x64 ![192, 0] X slices_S256x64_o192_0_S64x64)⟩]
    concatenates_S128x64_S128x64_S128x64_S128x64_S128x64_S128x64_S128x64_S128x64_S128x512_d1

theorem pay37_eq (M : IVec S192x256 1) (a0 a1 a2 a3 b0 b1 b2 b3 : FVec Ideal S64x64 .f32) (V : FVec Ideal S256x64 .f32) (c0 c1 c2 c3 : FVec Ideal S64x64 .f32) (s : FVec Ideal S192x256 .f32) (z0 z1 z2 z3 : Elt Ideal .f32) :
    k0_pay37 (F := Ideal) M a0 a1 a2 a3 b0 b1 b2 b3 V c0 c1 c2 c3 s z0 z1 z2 z3 = asm a0 a1 a2 a3 b0 b1 b2 b3 c0 c1 c2 c3 (k0_pay20 (F := Ideal) V (sel M s) (k0_pay19 (F := Ideal) z0) z1 z2 z3) := rfl

theorem asm_half0 (a0 a1 a2 a3 b0 b1 b2 b3 c0 c1 c2 c3 : FVec Ideal S64x64 .f32) (X : FVec Ideal S256x64 .f32) (f : Fin 8 → EReal) (t : Fin 64) (h : Fin 8) (d : Fin 64) (q : Fin 128) (k : Fin 512) (hq : q.val = 64 * 0 + t.val) (hk : k.val = 64 * h.val + d.val)
    (e0 : a0 (ix2 t d) = f 0) (e1 : a1 (ix2 t d) = f 1) (e2 : a2 (ix2 t d) = f 2) (e3 : a3 (ix2 t d) = f 3) (e4 : c0 (ix2 t d) = f 4) (e5 : c1 (ix2 t d) = f 5) (e6 : c2 (ix2 t d) = f 6) (e7 : c3 (ix2 t d) = f 7) :
    asm a0 a1 a2 a3 b0 b1 b2 b3 c0 c1 c2 c3 X (ix2 q k) = f h := by
  pointwise [asm]
  match h with
  | ⟨0, _⟩ =>
    have hk : k.val = 64 * 0 + d.val := hk
    rw [dif_pos (show k.val < 64 by omega), dif_pos (show q.val < 64 by omega)]
    exact (congrArg₂ (fun a b => a0 (ix2 a b)) (Fin.ext (show q.val = t.val by omega)) (Fin.ext (show k.val = d.val by omega))).trans e0
  | ⟨1, _⟩ =>
    have hk : k.val = 64 * 1 + d.val := hk
    rw [dif_neg (show ¬ k.val < 64 by omega), dif_pos (show k.val - 64 < 64 by omega), dif_pos (show q.val < 64 by omega)]
    exact (congrArg₂ (fun a b => a1 (ix2 a b)) (Fin.ext (show q.val = t.val by omega)) (Fin.ext (show k.val - 64 = d.val by omega))).trans e1
  | ⟨2, _⟩ =>
    have hk : k.val = 64 * 2 + d.val := hk
    rw [dif_neg (show ¬ k.val < 64 by omega), dif_neg (show ¬ k.val - 64 < 64 by omega), dif_pos (show k.val - 64 - 64 < 64 by omega), dif_pos (show q.val < 64 by omega)]
    exact (congrArg₂ (fun a b => a2 (ix2 a b)) (Fin.ext (show q.val = t.val by omega)) (Fin.ext (show k.val - 64 - 64 = d.val by omega))).trans e2
  | ⟨3, _⟩ =>
    have hk : k.val = 64 * 3 + d.val := hk
    rw [dif_neg (show ¬ k.val < 64 by omega), dif_neg (show ¬ k.val - 64 < 64 by omega), dif_neg (show ¬ k.val - 64 - 64 < 64 by omega), dif_pos (show k.val - 64 - 64 - 64 < 64 by omega), dif_pos (show q.val < 64 by omega)]
    exact (congrArg₂ (fun a b => a3 (ix2 a b)) (Fin.ext (show q.val = t.val by omega)) (Fin.ext (show k.val - 64 - 64 - 64 = d.val by omega))).trans e3
  | ⟨4, _⟩ =>
    have hk : k.val = 64 * 4 + d.val := hk
    rw [dif_neg (show ¬ k.val < 64 by omega), dif_neg (show ¬ k.val - 64 < 64 by omega), dif_neg (show ¬ k.val - 64 - 64 < 64 by omega), dif_neg (show ¬ k.val - 64 - 64 - 64 < 64 by omega), dif_pos (show k.val - 64 - 64 - 64 - 64 < 64 by omega), dif_pos (show q.val < 64 by omega)]
    exact (congrArg₂ (fun a b => c0 (ix2 a b)) (Fin.ext (show q.val = t.val by omega)) (Fin.ext (show k.val - 64 - 64 - 64 - 64 = d.val by omega))).trans e4
  | ⟨5, _⟩ =>
    have hk : k.val = 64 * 5 + d.val := hk
    rw [dif_neg (show ¬ k.val < 64 by omega), dif_neg (show ¬ k.val - 64 < 64 by omega), dif_neg (show ¬ k.val - 64 - 64 < 64 by omega), dif_neg (show ¬ k.val - 64 - 64 - 64 < 64 by omega), dif_neg (show ¬ k.val - 64 - 64 - 64 - 64 < 64 by omega), dif_pos (show k.val - 64 - 64 - 64 - 64 - 64 < 64 by omega), dif_pos (show q.val < 64 by omega)]
    exact (congrArg₂ (fun a b => c1 (ix2 a b)) (Fin.ext (show q.val = t.val by omega)) (Fin.ext (show k.val - 64 - 64 - 64 - 64 - 64 = d.val by omega))).trans e5
  | ⟨6, _⟩ =>
    have hk : k.val = 64 * 6 + d.val := hk
    rw [dif_neg (show ¬ k.val < 64 by omega), dif_neg (show ¬ k.val - 64 < 64 by omega), dif_neg (show ¬ k.val - 64 - 64 < 64 by omega), dif_neg (show ¬ k.val - 64 - 64 - 64 < 64 by omega), dif_neg (show ¬ k.val - 64 - 64 - 64 - 64 < 64 by omega), dif_neg (show ¬ k.val - 64 - 64 - 64 - 64 - 64 < 64 by omega), dif_pos (show k.val - 64 - 64 - 64 - 64 - 64 - 64 < 64 by omega), dif_pos (show q.val < 64 by omega)]
    exact (congrArg₂ (fun a b => c2 (ix2 a b)) (Fin.ext (show q.val = t.val by omega)) (Fin.ext (show k.val - 64 - 64 - 64 - 64 - 64 - 64 = d.val by omega))).trans e6
  | ⟨7, _⟩ =>
    have hk : k.val = 64 * 7 + d.val := hk
    rw [dif_neg (show ¬ k.val < 64 by omega), dif_neg (show ¬ k.val - 64 < 64 by omega), dif_neg (show ¬ k.val - 64 - 64 < 64 by omega), dif_neg (show ¬ k.val - 64 - 64 - 64 < 64 by omega), dif_neg (show ¬ k.val - 64 - 64 - 64 - 64 < 64 by omega), dif_neg (show ¬ k.val - 64 - 64 - 64 - 64 - 64 < 64 by omega), dif_neg (show ¬ k.val - 64 - 64 - 64 - 64 - 64 - 64 < 64 by omega), dif_pos (show q.val < 64 by omega)]
    exact (congrArg₂ (fun a b => c3 (ix2 a b)) (Fin.ext (show q.val = t.val by omega)) (Fin.ext (show k.val - 64 - 64 - 64 - 64 - 64 - 64 - 64 = d.val by omega))).trans e7
theorem asm_half1 (a0 a1 a2 a3 b0 b1 b2 b3 c0 c1 c2 c3 : FVec Ideal S64x64 .f32) (X : FVec Ideal S256x64 .f32) (f : Fin 8 → EReal) (t : Fin 64) (h : Fin 8) (d : Fin 64) (q : Fin 128) (k : Fin 512) (hq : q.val = 64 * 1 + t.val) (hk : k.val = 64 * h.val + d.val)
    (e0 : b0 (ix2 t d) = f 0) (e1 : b1 (ix2 t d) = f 1) (e2 : b2 (ix2 t d) = f 2) (e3 : b3 (ix2 t d) = f 3) (e4 : X (ix2 (lane 0 t) d) = f 4) (e5 : X (ix2 (lane 1 t) d) = f 5) (e6 : X (ix2 (lane 2 t) d) = f 6) (e7 : X (ix2 (lane 3 t) d) = f 7) :
    asm a0 a1 a2 a3 b0 b1 b2 b3 c0 c1 c2 c3 X (ix2 q k) = f h := by
  pointwise [asm]
  match h with
  | ⟨0, _⟩ =>
    have hk : k.val = 64 * 0 + d.val := hk
    rw [dif_pos (show k.val < 64 by omega), dif_neg (show ¬ q.val < 64 by omega)]
    exact (congrArg₂ (fun a b => b0 (ix2 a b)) (Fin.ext (show q.val - 64 = t.val by omega)) (Fin.ext (show k.val = d.val by omega))).trans e0
  | ⟨1, _⟩ =>
    have hk : k.val = 64 * 1 + d.val := hk
    rw [dif_neg (show ¬ k.val < 64 by omega), dif_pos (show k.val - 64 < 64 by omega), dif_neg (show ¬ q.val < 64 by omega)]
    exact (congrArg₂ (fun a b => b1 (ix2 a b)) (Fin.ext (show q.val - 64 = t.val by omega)) (Fin.ext (show k.val - 64 = d.val by omega))).trans e1
  | ⟨2, _⟩ =>
    have hk : k.val = 64 * 2 + d.val := hk
    rw [dif_neg (show ¬ k.val < 64 by omega), dif_neg (show ¬ k.val - 64 < 64 by omega), dif_pos (show k.val - 64 - 64 < 64 by omega), dif_neg (show ¬ q.val < 64 by omega)]
    exact (congrArg₂ (fun a b => b2 (ix2 a b)) (Fin.ext (show q.val - 64 = t.val by omega)) (Fin.ext (show k.val - 64 - 64 = d.val by omega))).trans e2
  | ⟨3, _⟩ =>
    have hk : k.val = 64 * 3 + d.val := hk
    rw [dif_neg (show ¬ k.val < 64 by omega), dif_neg (show ¬ k.val - 64 < 64 by omega), dif_neg (show ¬ k.val - 64 - 64 < 64 by omega), dif_pos (show k.val - 64 - 64 - 64 < 64 by omega), dif_neg (show ¬ q.val < 64 by omega)]
    exact (congrArg₂ (fun a b => b3 (ix2 a b)) (Fin.ext (show q.val - 64 = t.val by omega)) (Fin.ext (show k.val - 64 - 64 - 64 = d.val by omega))).trans e3
  | ⟨4, _⟩ =>
    have hk : k.val = 64 * 4 + d.val := hk
    rw [dif_neg (show ¬ k.val < 64 by omega), dif_neg (show ¬ k.val - 64 < 64 by omega), dif_neg (show ¬ k.val - 64 - 64 < 64 by omega), dif_neg (show ¬ k.val - 64 - 64 - 64 < 64 by omega), dif_pos (show k.val - 64 - 64 - 64 - 64 < 64 by omega), dif_neg (show ¬ q.val < 64 by omega)]
    exact (congrArg₂ (fun a b => X (ix2 a b)) (Fin.ext (show q.val - 64 = 64 * 0 + t.val by omega)) (Fin.ext (show k.val - 64 - 64 - 64 - 64 = d.val by omega))).trans e4
  | ⟨5, _⟩ =>
    have hk : k.val = 64 * 5 + d.val := hk
    rw [dif_neg (show ¬ k.val < 64 by omega), dif_neg (show ¬ k.val - 64 < 64 by omega), dif_neg (show ¬ k.val - 64 - 64 < 64 by omega), dif_neg (show ¬ k.val - 64 - 64 - 64 < 64 by omega), dif_neg (show ¬ k.val - 64 - 64 - 64 - 64 < 64 by omega), dif_pos (show k.val - 64 - 64 - 64 - 64 - 64 < 64 by omega), dif_neg (show ¬ q.val < 64 by omega)]
    exact (congrArg₂ (fun a b => X (ix2 a b)) (Fin.ext (show 64 + (q.val - 64) = 64 * 1 + t.val by omega)) (Fin.ext (show k.val - 64 - 64 - 64 - 64 - 64 = d.val by omega))).trans e5
  | ⟨6, _⟩ =>
    have hk : k.val = 64 * 6 + d.val := hk
    rw [dif_neg (show ¬ k.val < 64 by omega), dif_neg (show ¬ k.val - 64 < 64 by omega), dif_neg (show ¬ k.val - 64 - 64 < 64 by omega), dif_neg (show ¬ k.val - 64 - 64 - 64 < 64 by omega), dif_neg (show ¬ k.val - 64 - 64 - 64 - 64 < 64 by omega), dif_neg (show ¬ k.val - 64 - 64 - 64 - 64 - 64 < 64 by omega), dif_pos (show k.val - 64 - 64 - 64 - 64 - 64 - 64 < 64 by omega), dif_neg (show ¬ q.val < 64 by omega)]
    exact (congrArg₂ (fun a b => X (ix2 a b)) (Fin.ext (show 128 + (q.val - 64) = 64 * 2 + t.val by omega)) (Fin.ext (show k.val - 64 - 64 - 64 - 64 - 64 - 64 = d.val by omega))).trans e6
  | ⟨7, _⟩ =>
    have hk : k.val = 64 * 7 + d.val := hk
    rw [dif_neg (show ¬ k.val < 64 by omega), dif_neg (show ¬ k.val - 64 < 64 by omega), dif_neg (show ¬ k.val - 64 - 64 < 64 by omega), dif_neg (show ¬ k.val - 64 - 64 - 64 < 64 by omega), dif_neg (show ¬ k.val - 64 - 64 - 64 - 64 < 64 by omega), dif_neg (show ¬ k.val - 64 - 64 - 64 - 64 - 64 < 64 by omega), dif_neg (show ¬ k.val - 64 - 64 - 64 - 64 - 64 - 64 < 64 by omega), dif_neg (show ¬ q.val < 64 by omega)]
    exact (congrArg₂ (fun a b => X (ix2 a b)) (Fin.ext (show 192 + (q.val - 64) = 64 * 3 + t.val by omega)) (Fin.ext (show k.val - 64 - 64 - 64 - 64 - 64 - 64 - 64 = d.val by omega))).trans e7

end Pieces

end Cert.AttnFwdIdeal.Hand

end
-- ==== Proof.AttRefOut.lean ====
/-
  Sliding-window attention with sinks: the reference result.
-/
module

public import proofs.«01_k».proof.Proof.AttRef
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Att

open Cert.AttnFwdRefIdeal Cert.AttnFwdRefIdeal.Read Cert.RealNum
open Idealize.ShloMosaic Idealize.ShloMosaic.TcCoe Idealize.SL.Sem

section Ref
variable (x0 : (⟨S4096x768, .f32⟩ : BufTy).Contents (Elt Ideal)) (x1 : (⟨S1x768, .f32⟩ : BufTy).Contents (Elt Ideal)) (x2 : (⟨S1x8, .f32⟩ : BufTy).Contents (Elt Ideal))

theorem mask (n : Fin 32) (kv : Fin 2) (g : Fin 4) (q : Fin 128) (kk : Fin 256) :
    val_main_call0_v1 (F := Ideal) (ix6 0 n kv g q kk) = if sees n q kk then 1#1 else 0#1 := by
  rw [val_main_call0_v1_apply, val_main_v61_apply, ← v60]
  refine congrArg _ ?_
  funext a; match a with
    | ⟨0, _⟩ => rfl
    | ⟨1, _⟩ => rfl
    | ⟨2, _⟩ => rfl

theorem v26 (n : Fin 32) (kv : Fin 2) (g : Fin 4) (q : Fin 128) (kk : Fin 256) :
    val_main_v26 (F := Ideal) x0 x1 (ix6 0 n kv g q kk)
      = ∑ d : Fin 64, val_main_v18 (F := Ideal) x0 x1 (ix5 0 n kk kv d) * y x0 x1 (qrow n q) (qcol (hh kv g) d) := by
  rw [val_main_v26_apply, val_main_v25_apply]
  refine Finset.sum_congr rfl fun d _ => ?_
  rw [← v12]
  refine congrArg₂ (· * ·) (congrArg _ ?_) (congrArg _ ?_)
  · funext a; match a with
      | ⟨0, _⟩ => rfl
      | ⟨1, _⟩ => rfl
      | ⟨2, _⟩ => rfl
      | ⟨3, _⟩ => rfl
      | ⟨4, _⟩ => rfl
  · funext a; match a with
      | ⟨0, _⟩ => rfl
      | ⟨1, _⟩ => rfl
      | ⟨2, _⟩ => rfl
      | ⟨3, _⟩ => rfl
      | ⟨4, _⟩ => rfl
      | ⟨5, _⟩ => rfl

theorem v62 (n : Fin 32) (kv : Fin 2) (g : Fin 4) (q : Fin 128) (kk : Fin 256) :
    val_main_v62 (F := Ideal) x0 x1 (ix6 0 n kv g q kk) = score x0 x1 n kv g q kk := by
  rw [val_main_v62_apply, mask, val_main_v28_apply, v26, val_main_v27_apply]
  unfold score
  split
  · next h =>
    refine (if_pos (by decide)).trans ?_
    refine congrArg (· * scale) (Finset.sum_congr rfl fun d _ => ?_)
    rw [v18 x0 x1 n kk kv d h.2.2]
  · refine (if_neg (by decide)).trans ?_
    exact cst_bot

theorem v67 (n : Fin 32) (kv : Fin 2) (g : Fin 4) (q : Fin 128) : val_main_v67 (F := Ideal) x2 (ix6 0 n kv g q 0) = x2 (ix2 0 (hh kv g)) := by
  rw [val_main_v67_apply, val_main_v64_apply, val_main_v63_apply, val_main_v11_apply]
  refine congrArg x2 ?_
  funext a; match a with
    | ⟨0, _⟩ => rfl
    | ⟨1, _⟩ => exact Fin.ext (show (kv.val * 4 + g.val) % 8 = 4 * kv.val + g.val by omega)
theorem v74 (n : Fin 32) (kv : Fin 2) (g : Fin 4) (q : Fin 128) : val_main_v74 (F := Ideal) x2 (ix6 0 n kv g q 0) = x2 (ix2 0 (hh kv g)) := by
  rw [val_main_v74_apply, val_main_v64_apply, val_main_v63_apply, val_main_v11_apply]
  refine congrArg x2 ?_
  funext a; match a with
    | ⟨0, _⟩ => rfl
    | ⟨1, _⟩ => exact Fin.ext (show (kv.val * 4 + g.val) % 8 = 4 * kv.val + g.val by omega)

theorem v65 (n : Fin 32) (kv : Fin 2) (g : Fin 4) (q : Fin 128) :
    val_main_v65 (F := Ideal) x0 x1 (ix5 0 n kv g q) = Finset.univ.fold max ⊥ (score x0 x1 n kv g q) := by
  have h := v62 x0 x1 n kv g q
  unfold val_main_v65
  generalize val_main_v62 (F := Ideal) x0 x1 = X at h
  have hr : S1x32x2x4x128x256.Reduces [5] S1x32x2x4x128 := by decide
  have e := Host.reduce_eq_fold_single (α := EReal) max (s := S1x32x2x4x128x256) (t := S1x32x2x4x128) (u := S_) X (val_main_cst_8 (F := Ideal)) Gen.reducesTo_S1x32x2x4x128x256_S1x32x2x4x128_d5 hr Gen.h_S_ (ix5 0 n kv g q)
  refine Eq.trans (show _ = Host.reduce (α := EReal) max X (val_main_cst_8 (F := Ideal)) Gen.reducesTo_S1x32x2x4x128x256_S1x32x2x4x128_d5 Gen.h_S_ (ix5 0 n kv g q) from rfl) (e.trans ?_)
  refine congrArg₂ (fun b f => Finset.univ.fold max b f) cst_bot (funext fun kk => ?_)
  refine (congrArg X ?_ : X (hr.lift (ix5 0 n kv g q) kk) = X (ix6 0 n kv g q kk)).trans (h kk)
  funext a; match a with
    | ⟨0, _⟩ => rfl
    | ⟨1, _⟩ => rfl
    | ⟨2, _⟩ => rfl
    | ⟨3, _⟩ => rfl
    | ⟨4, _⟩ => rfl
    | ⟨5, _⟩ => rfl

theorem v68 (n : Fin 32) (kv : Fin 2) (g : Fin 4) (q : Fin 128) :
    val_main_v68 (F := Ideal) x0 x1 x2 (ix6 0 n kv g q 0) = top (score x0 x1 n kv g q) (x2 (ix2 0 (hh kv g))) := by
  rw [val_main_v68_apply, v67, val_main_v66_apply, top, ← v65]
  refine congrArg (fun i => max (val_main_v65 (F := Ideal) x0 x1 i) _) ?_
  funext a; match a with
    | ⟨0, _⟩ => rfl
    | ⟨1, _⟩ => rfl
    | ⟨2, _⟩ => rfl
    | ⟨3, _⟩ => rfl
    | ⟨4, _⟩ => rfl

theorem v71 (n : Fin 32) (kv : Fin 2) (g : Fin 4) (q : Fin 128) (kk : Fin 256) :
    val_main_v71 (F := Ideal) x0 x1 x2 (ix6 0 n kv g q kk) = Ideal.exp (score x0 x1 n kv g q kk - top (score x0 x1 n kv g q) (x2 (ix2 0 (hh kv g)))) := by
  rw [val_main_v71_apply, val_main_v70_apply, v62, val_main_v69_apply, ← v68 x0 x1 x2 n]
  refine congrArg (fun i => Ideal.exp (_ - val_main_v68 (F := Ideal) x0 x1 x2 i)) ?_
  funext a; match a with
    | ⟨0, _⟩ => rfl
    | ⟨1, _⟩ => rfl
    | ⟨2, _⟩ => rfl
    | ⟨3, _⟩ => rfl
    | ⟨4, _⟩ => rfl
    | ⟨5, _⟩ => rfl

theorem v77 (n : Fin 32) (kv : Fin 2) (g : Fin 4) (q : Fin 128) :
    val_main_v77 (F := Ideal) x0 x1 x2 (ix6 0 n kv g q 0) = den (score x0 x1 n kv g q) (x2 (ix2 0 (hh kv g))) := by
  rw [val_main_v77_apply, val_main_v76_apply, val_main_v75_apply, v74, v68, val_main_v73_apply, val_main_v72_apply]
  refine congrArg (· + _) (((congrArg (· + _) cst_zero).trans (zero_add _)).trans (Finset.sum_congr rfl fun kk _ => ?_))
  rw [← v71 x0 x1 x2 n]
  refine congrArg _ ?_
  funext a; match a with
    | ⟨0, _⟩ => rfl
    | ⟨1, _⟩ => rfl
    | ⟨2, _⟩ => rfl
    | ⟨3, _⟩ => rfl
    | ⟨4, _⟩ => rfl
    | ⟨5, _⟩ => rfl

theorem v79 (n : Fin 32) (kv : Fin 2) (g : Fin 4) (q : Fin 128) (kk : Fin 256) :
    val_main_v79 (F := Ideal) x0 x1 x2 (ix6 0 n kv g q kk)
      = Ideal.div (Ideal.exp (score x0 x1 n kv g q kk - top (score x0 x1 n kv g q) (x2 (ix2 0 (hh kv g))))) (den (score x0 x1 n kv g q) (x2 (ix2 0 (hh kv g)))) := by
  rw [val_main_v79_apply, v71, val_main_v78_apply, ← v77 x0 x1 x2 n]
  refine congrArg (fun i => Ideal.div _ (val_main_v77 (F := Ideal) x0 x1 x2 i)) ?_
  funext a; match a with
    | ⟨0, _⟩ => rfl
    | ⟨1, _⟩ => rfl
    | ⟨2, _⟩ => rfl
    | ⟨3, _⟩ => rfl
    | ⟨4, _⟩ => rfl
    | ⟨5, _⟩ => rfl

theorem v81 (n : Fin 32) (kv : Fin 2) (g : Fin 4) (q : Fin 128) (d : Fin 64) :
    val_main_v81 (F := Ideal) x0 x1 x2 (ix6 0 n q kv g d)
      = soft (score x0 x1 n kv g q) (x2 (ix2 0 (hh kv g))) fun kk => val_main_v24 (F := Ideal) x0 x1 (ix5 0 n kk kv d) := by
  rw [val_main_v81_apply, val_main_v80_apply]
  refine Finset.sum_congr rfl fun kk _ => ?_
  rw [mul_comm, ← v79 x0 x1 x2 n]
  refine congrArg₂ (· * ·) (congrArg _ ?_) (congrArg _ ?_)
  · funext a; match a with
      | ⟨0, _⟩ => rfl
      | ⟨1, _⟩ => rfl
      | ⟨2, _⟩ => rfl
      | ⟨3, _⟩ => rfl
      | ⟨4, _⟩ => rfl
      | ⟨5, _⟩ => rfl
  · funext a; match a with
      | ⟨0, _⟩ => rfl
      | ⟨1, _⟩ => rfl
      | ⟨2, _⟩ => rfl
      | ⟨3, _⟩ => rfl
      | ⟨4, _⟩ => rfl

theorem score_bot {n : Fin 32} {kv : Fin 2} {g : Fin 4} {q : Fin 128} {kk : Fin 256} (h : score x0 x1 n kv g q kk ≠ ⊥) : sees n q kk := by
  by_contra hn
  exact h (if_neg hn)

/-- The reference's result. -/
theorem v83 (n : Fin 32) (kv : Fin 2) (g : Fin 4) (q : Fin 128) (d : Fin 64)
    (hd : den (score x0 x1 n kv g q) (x2 (ix2 0 (hh kv g))) ≠ 0) :
    val_main_v83 (F := Ideal) x0 x1 x2 (ix2 (qrow n q) (ocol (hh kv g) d)) = att x0 x1 x2 n kv g q d := by
  have e : val_main_v83 (F := Ideal) x0 x1 x2 (ix2 (qrow n q) (ocol (hh kv g) d)) = val_main_v81 (F := Ideal) x0 x1 x2 (ix6 0 n q kv g d) := by
    rw [val_main_v83_apply]
    unfold val_main_v82
    generalize val_main_v81 (F := Ideal) x0 x1 x2 = X
    refine shapeCast_apply X _ _ _ ?_
    rewrite [Shape.rowMajor_val_three, Shape.rowMajor_val_six]
    show ((((0 * 32 + n.val) * 128 + q.val) * 2 + kv.val) * 4 + g.val) * 64 + d.val
      = (0 * 4096 + ((128 * n.val + q.val) * 512 + (64 * (4 * kv.val + g.val) + d.val)) / 512 % 4096) * 512 + ((128 * n.val + q.val) * 512 + (64 * (4 * kv.val + g.val) + d.val)) % 512
    omega
  rw [e, v81]
  exact soft_congr _ _ hd _ _ fun kk h => v24 x0 x1 n kk kv d (score_bot x0 x1 h).2.2

theorem scale_real : IsReal scale := by
  refine ⟨1 / 8, ?_⟩
  simp [scale, Ideal.ofBits, Ideal.ieee, -EReal.coe_mul]; norm_num
theorem _root_.Cert.RealNum.IsReal.ne_top {x : EReal} (h : IsReal x) : x ≠ ⊤ := by
  obtain ⟨r, rfl⟩ := h
  exact EReal.coe_ne_top r

/-- A score of finite entries is not plus infinity. -/
theorem score_ne (h0 : ∀ r c, c.val < 640 → IsReal (y x0 x1 r c)) (n : Fin 32) (kv : Fin 2) (g : Fin 4) (q : Fin 128) (kk : Fin 256) :
    score x0 x1 n kv g q kk ≠ ⊤ := by
  unfold score
  split
  · have hs : IsReal scale := scale_real
    exact ((IsReal.sum _ fun d _ => (h0 _ _ (show 512 + 64 * kv.val + d.val < 640 by omega)).mul (h0 _ _ (show 64 * (4 * kv.val + g.val) + d.val < 640 by omega))).mul hs).ne_top
  · exact bot_ne_top

end Ref
end Cert.Att

end
-- ==== Proof.AttnFwdValue.lean ====
/-
  Sliding-window attention with sinks: the kernel and the reference.
-/
module

public import proofs.«01_k».proof.Defs
public import proofs.«01_k».proof.Proof.AttKernel
public import proofs.«01_k».proof.Proof.AttRefOut
public import proofs.«01_k».proof.Proof.Gen.Pre_att_finite
public import proofs.«01_k».proof.Proof.Gen.AttnFwdIdeal.Value
public import proofs.«01_k».proof.Proof.Gen.AttnFwdRefIdeal.Run
public import proofs.«01_k».proof.Proof.Gen.AttnFwdRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.AttnFwdIdeal.Hand

open Cert.AttnFwdIdeal Cert.AttnFwdIdeal.Gen Cert.RealNum Cert.Att
open Idealize.ShloMosaic Idealize.ShloMosaic.TcCoe Idealize.SL.Sem

/-- Sixty-four columns of a tile from a column on, of the bias, and one sink. -/
abbrev tl (X : Vec Ideal S128x768 .f32) (o : ℕ) (h : ∀ a, ![0, o] a + S128x64.size a ≤ S128x768.size a) : FVec Ideal S128x64 .f32 := View.ld X (Rect.unit ![0, o] ![128, 64] h)
abbrev bl (X : Vec Ideal S1x768 .f32) (o : ℕ) (h : ∀ a, ![0, o] a + S1x64.size a ≤ S1x768.size a) : FVec Ideal S1x64 .f32 := View.ld X (Rect.unit ![0, o] ![1, 64] h)
abbrev sl (X : Vec Ideal S1x8 .f32) (o : ℕ) (h : ∀ a, ![0, o] a + S1x1.size a ≤ S1x8.size a) : Elt Ideal .f32 :=
  View.ld X (Rect.unit ![0, o] ![1, 1] h) (Shape.Idx.first (show 0 < (Rect.unit (s := S1x8) ![0, o] ![1, 1] h).shape.numel from numel1_S1x1.symm ▸ Nat.one_pos))

theorem tl_apply (X : Vec Ideal S128x768 .f32) (o : ℕ) (h : ∀ a, ![0, o] a + S128x64.size a ≤ S128x768.size a) (q : Fin 128) (d : Fin 64) (c : Fin 768) (hc : c.val = o + d.val) :
    tl X o h (ix2 q d) = X (ix2 q c) := by
  refine congrArg X ?_
  funext a; match a with
    | ⟨0, _⟩ => exact Fin.ext (show 0 + 1 * q.val = q.val by omega)
    | ⟨1, _⟩ => exact Fin.ext (show o + 1 * d.val = c.val by omega)
theorem bl_apply (X : Vec Ideal S1x768 .f32) (o : ℕ) (h : ∀ a, ![0, o] a + S1x64.size a ≤ S1x768.size a) (d : Fin 64) (c : Fin 768) (hc : c.val = o + d.val) :
    bl X o h (ix2 0 d) = X (ix2 0 c) := by
  refine congrArg X ?_
  funext a; match a with
    | ⟨0, _⟩ => rfl
    | ⟨1, _⟩ => exact Fin.ext (show o + 1 * d.val = c.val by omega)
theorem sl_apply (X : Vec Ideal S1x8 .f32) (o : ℕ) (h : ∀ a, ![0, o] a + S1x1.size a ≤ S1x8.size a) (c : Fin 8) (hc : c.val = o) : sl X o h = X (ix2 0 c) := by
  refine congrArg X ?_
  funext a; match a with
    | ⟨0, _⟩ => rfl
    | ⟨1, _⟩ => exact Fin.ext (show o + 1 * 0 = c.val by omega)

/-- The parts of a point's output. -/
abbrev KM1 (i : grid0.Coords) : IVec S192x256 1 :=
  k0_pay4 (BitVec.ofNat 32 (i 0).val) (iota Kind.tc S192x256 32 [0] iota_S192x256_d0_w32) (64#32) k0_pay2 k0_pay3 0#32
abbrev KV0 (C P : Vec Ideal S128x768 .f32) (B : Vec Ideal S1x768 .f32) : FVec Ideal S256x64 .f32 :=
  k0_pay10 (F := Ideal) (tl P 640 inb_S128x768_S128x64_0_640) (bl B 640 inb_S1x768_S1x64_0_640) (tl C 640 inb_S128x768_S128x64_0_640) (bl B 640 inb_S1x768_S1x64_0_640)
abbrev KV1 (C P : Vec Ideal S128x768 .f32) (B : Vec Ideal S1x768 .f32) : FVec Ideal S256x64 .f32 :=
  k0_pay29 (F := Ideal) (tl P 704 inb_S128x768_S128x64_0_704) (bl B 704 inb_S1x768_S1x64_0_704) (tl C 704 inb_S128x768_S128x64_0_704) (bl B 704 inb_S1x768_S1x64_0_704)
abbrev KX0 (C : Vec Ideal S128x768 .f32) (B : Vec Ideal S1x768 .f32) : FVec Ideal S512x64 .f32 :=
  k0_pay8 (F := Ideal) (k0_pay5 (F := Ideal) (tl C 0 inb_S128x768_S128x64_0_0) (bl B 0 inb_S1x768_S1x64_0_0)) (k0_pay6 (F := Ideal) (tl C 64 inb_S128x768_S128x64_0_64) (bl B 64 inb_S1x768_S1x64_0_64)) (k0_pay7 (F := Ideal) (tl C 128 inb_S128x768_S128x64_0_128) (bl B 128 inb_S1x768_S1x64_0_128)) (tl C 192 inb_S128x768_S128x64_0_192) (bl B 192 inb_S1x768_S1x64_0_192)
abbrev KX1 (C : Vec Ideal S128x768 .f32) (B : Vec Ideal S1x768 .f32) : FVec Ideal S512x64 .f32 :=
  k0_pay27 (F := Ideal) (k0_pay25 (F := Ideal) (tl C 256 inb_S128x768_S128x64_0_256) (bl B 256 inb_S1x768_S1x64_0_256)) (k0_pay26 (F := Ideal) (tl C 320 inb_S128x768_S128x64_0_320) (bl B 320 inb_S1x768_S1x64_0_320)) (tl C 384 inb_S128x768_S128x64_0_384) (bl B 384 inb_S1x768_S1x64_0_384) (tl C 448 inb_S128x768_S128x64_0_448) (bl B 448 inb_S1x768_S1x64_0_448)
abbrev KY0 (C P : Vec Ideal S128x768 .f32) (B : Vec Ideal S1x768 .f32) : FVec Ideal S256x64 .f32 :=
  k0_pay9 (F := Ideal) (tl P 512 inb_S128x768_S128x64_0_512) (bl B 512 inb_S1x768_S1x64_0_512) (tl C 512 inb_S128x768_S128x64_0_512) (bl B 512 inb_S1x768_S1x64_0_512)
abbrev KY1 (C P : Vec Ideal S128x768 .f32) (B : Vec Ideal S1x768 .f32) : FVec Ideal S256x64 .f32 :=
  k0_pay28 (F := Ideal) (tl P 576 inb_S128x768_S128x64_0_576) (bl B 576 inb_S1x768_S1x64_0_576) (tl C 576 inb_S128x768_S128x64_0_576) (bl B 576 inb_S1x768_S1x64_0_576)
abbrev KT1 (C P : Vec Ideal S128x768 .f32) (B : Vec Ideal S1x768 .f32) : FVec Ideal S192x256 .f32 :=
  k0_pay30 (F := Ideal) (k0_pay25 (F := Ideal) (tl C 256 inb_S128x768_S128x64_0_256) (bl B 256 inb_S1x768_S1x64_0_256)) (k0_pay26 (F := Ideal) (tl C 320 inb_S128x768_S128x64_0_320) (bl B 320 inb_S1x768_S1x64_0_320)) (tl C 384 inb_S128x768_S128x64_0_384) (bl B 384 inb_S1x768_S1x64_0_384) (tl C 448 inb_S128x768_S128x64_0_448) (bl B 448 inb_S1x768_S1x64_0_448) (tl P 576 inb_S128x768_S128x64_0_576) (bl B 576 inb_S1x768_S1x64_0_576) (tl C 576 inb_S128x768_S128x64_0_576) (bl B 576 inb_S1x768_S1x64_0_576)
abbrev KS0 (i : grid0.Coords) (C P : Vec Ideal S128x768 .f32) (B : Vec Ideal S1x768 .f32) : FVec Ideal S192x256 .f32 :=
  k0_pay11 (F := Ideal) (k0_pay1 (i)) (k0_pay5 (F := Ideal) (tl C 0 inb_S128x768_S128x64_0_0) (bl B 0 inb_S1x768_S1x64_0_0)) (k0_pay6 (F := Ideal) (tl C 64 inb_S128x768_S128x64_0_64) (bl B 64 inb_S1x768_S1x64_0_64)) (k0_pay7 (F := Ideal) (tl C 128 inb_S128x768_S128x64_0_128) (bl B 128 inb_S1x768_S1x64_0_128)) (tl C 192 inb_S128x768_S128x64_0_192) (bl B 192 inb_S1x768_S1x64_0_192) (tl P 512 inb_S128x768_S128x64_0_512) (bl B 512 inb_S1x768_S1x64_0_512) (tl C 512 inb_S128x768_S128x64_0_512) (bl B 512 inb_S1x768_S1x64_0_512)
abbrev KS1 (i : grid0.Coords) (C P : Vec Ideal S128x768 .f32) (B : Vec Ideal S1x768 .f32) : FVec Ideal S192x256 .f32 :=
  k0_pay18 (F := Ideal) (KM1 i) (KX0 C B) (KY0 C P B)

def whole (i : grid0.Coords) (C P : Vec Ideal S128x768 .f32) (B : Vec Ideal S1x768 .f32) (SK : Vec Ideal S1x8 .f32) : FVec Ideal S128x512 .f32 :=
  k0_pay37 (F := Ideal) (KM1 i) (k0_pay14 (F := Ideal) (KV0 C P B) (KS0 i C P B) (k0_pay12 (F := Ideal) (sl SK 0 inb_S1x8_S1x1_0_0)) (sl SK 1 inb_S1x8_S1x1_0_1) (sl SK 2 inb_S1x8_S1x1_0_2) (sl SK 3 inb_S1x8_S1x1_0_3)) (k0_pay15 (F := Ideal) (KV0 C P B) (KS0 i C P B) (k0_pay12 (F := Ideal) (sl SK 0 inb_S1x8_S1x1_0_0)) (sl SK 1 inb_S1x8_S1x1_0_1) (sl SK 2 inb_S1x8_S1x1_0_2) (sl SK 3 inb_S1x8_S1x1_0_3)) (k0_pay16 (F := Ideal) (KV0 C P B) (KS0 i C P B) (k0_pay12 (F := Ideal) (sl SK 0 inb_S1x8_S1x1_0_0)) (sl SK 1 inb_S1x8_S1x1_0_1) (sl SK 2 inb_S1x8_S1x1_0_2) (sl SK 3 inb_S1x8_S1x1_0_3)) (k0_pay17 (F := Ideal) (KV0 C P B) (KS0 i C P B) (k0_pay12 (F := Ideal) (sl SK 0 inb_S1x8_S1x1_0_0)) (sl SK 1 inb_S1x8_S1x1_0_1) (sl SK 2 inb_S1x8_S1x1_0_2) (sl SK 3 inb_S1x8_S1x1_0_3)) (k0_pay21 (F := Ideal) (KV0 C P B) (KS1 i C P B) (k0_pay19 (F := Ideal) (sl SK 0 inb_S1x8_S1x1_0_0)) (sl SK 1 inb_S1x8_S1x1_0_1) (sl SK 2 inb_S1x8_S1x1_0_2) (sl SK 3 inb_S1x8_S1x1_0_3)) (k0_pay22 (F := Ideal) (KV0 C P B) (KS1 i C P B) (k0_pay19 (F := Ideal) (sl SK 0 inb_S1x8_S1x1_0_0)) (sl SK 1 inb_S1x8_S1x1_0_1) (sl SK 2 inb_S1x8_S1x1_0_2) (sl SK 3 inb_S1x8_S1x1_0_3)) (k0_pay23 (F := Ideal) (KV0 C P B) (KS1 i C P B) (k0_pay19 (F := Ideal) (sl SK 0 inb_S1x8_S1x1_0_0)) (sl SK 1 inb_S1x8_S1x1_0_1) (sl SK 2 inb_S1x8_S1x1_0_2) (sl SK 3 inb_S1x8_S1x1_0_3)) (k0_pay24 (F := Ideal) (KV0 C P B) (KS1 i C P B) (k0_pay19 (F := Ideal) (sl SK 0 inb_S1x8_S1x1_0_0)) (sl SK 1 inb_S1x8_S1x1_0_1) (sl SK 2 inb_S1x8_S1x1_0_2) (sl SK 3 inb_S1x8_S1x1_0_3)) (KV1 C P B) (k0_pay32 (F := Ideal) (k0_pay1 (i)) (KV1 C P B) (KT1 C P B) (sl SK 4 inb_S1x8_S1x1_0_4) (sl SK 5 inb_S1x8_S1x1_0_5) (sl SK 6 inb_S1x8_S1x1_0_6) (sl SK 7 inb_S1x8_S1x1_0_7)) (k0_pay33 (F := Ideal) (k0_pay1 (i)) (KV1 C P B) (KT1 C P B) (sl SK 4 inb_S1x8_S1x1_0_4) (sl SK 5 inb_S1x8_S1x1_0_5) (sl SK 6 inb_S1x8_S1x1_0_6) (sl SK 7 inb_S1x8_S1x1_0_7)) (k0_pay34 (F := Ideal) (k0_pay1 (i)) (KV1 C P B) (KT1 C P B) (sl SK 4 inb_S1x8_S1x1_0_4) (sl SK 5 inb_S1x8_S1x1_0_5) (sl SK 6 inb_S1x8_S1x1_0_6) (sl SK 7 inb_S1x8_S1x1_0_7)) (k0_pay35 (F := Ideal) (k0_pay1 (i)) (KV1 C P B) (KT1 C P B) (sl SK 4 inb_S1x8_S1x1_0_4) (sl SK 5 inb_S1x8_S1x1_0_5) (sl SK 6 inb_S1x8_S1x1_0_6) (sl SK 7 inb_S1x8_S1x1_0_7)) (k0_pay36 (F := Ideal) (KX1 C B) (KY1 C P B)) (sl SK 4 inb_S1x8_S1x1_0_4) (sl SK 5 inb_S1x8_S1x1_0_5) (sl SK 6 inb_S1x8_S1x1_0_6) (sl SK 7 inb_S1x8_S1x1_0_7)

/-- The four heads' queries under one another. -/
theorem stack (a b c d : FVec Ideal S128x64 .f32) (u v w x : FVec Ideal S1x64 .f32) (Q : Fin 4 → Fin 128 → Fin 64 → EReal) (g : Fin 4) (q : Fin 128) (l : Fin 64)
    (h0 : a (ix2 q l) + u (ix2 0 l) = Q 0 q l) (h1 : b (ix2 q l) + v (ix2 0 l) = Q 1 q l) (h2 : c (ix2 q l) + w (ix2 0 l) = Q 2 q l) (h3 : d (ix2 q l) + x (ix2 0 l) = Q 3 q l) :
    k0_pay8 (F := Ideal) (k0_pay5 (F := Ideal) a u) (k0_pay6 (F := Ideal) b v) (k0_pay7 (F := Ideal) c w) d x (ix2 (wide g q) l) = Q g q l := by
  pointwise [k0_pay8, k0_pay5, k0_pay6, k0_pay7]
  exact cat4 (fun q => a (ix2 q l) + u (ix2 0 l)) (fun q => b (ix2 q l) + v (ix2 0 l)) (fun q => c (ix2 q l) + w (ix2 0 l)) (fun q => d (ix2 q l) + x (ix2 0 l))
    (fun g => Q g q l) g q (wide g q) rfl h0 h1 h2 h3 (show 128 * g.val + q.val - 128 - 128 - 128 < 128 by omega)
theorem pair (a b : FVec Ideal S128x64 .f32) (u v : FVec Ideal S1x64 .f32) (k : Fin 256) (d : Fin 64) :
    k0_pay9 (F := Ideal) a u b v (ix2 k d) = if h : k.val < 128 then a (ix2 ⟨k.val, h⟩ d) + u (ix2 0 d) else b (ix2 ⟨k.val - 128, by omega⟩ d) + v (ix2 0 d) := by
  pointwise [k0_pay9]

theorem soft0 (V : FVec Ideal S256x64 .f32) (S : FVec Ideal S192x256 .f32) (z0 z1 z2 z3 : Elt Ideal .f32) (zz : Fin 4 → EReal) (h0 : z0 = zz 0) (h1 : z1 = zz 1) (h2 : z2 = zz 2) (h3 : z3 = zz 3) (g : Fin 4) (t l : Fin 64) :
    k0_pay13 (F := Ideal) V S (k0_pay12 (F := Ideal) z0) z1 z2 z3 (ix2 (lane g t) l) = mixw 0 V (fun j => S (ix2 j (lane g t))) (zz g) l := by
  subst h0 h1 h2 h3
  exact pay13 V S zz g t l
theorem soft1 (V : FVec Ideal S256x64 .f32) (S : FVec Ideal S192x256 .f32) (z0 z1 z2 z3 : Elt Ideal .f32) (zz : Fin 4 → EReal) (h0 : z0 = zz 0) (h1 : z1 = zz 1) (h2 : z2 = zz 2) (h3 : z3 = zz 3) (g : Fin 4) (t l : Fin 64) :
    k0_pay20 (F := Ideal) V S (k0_pay19 (F := Ideal) z0) z1 z2 z3 (ix2 (lane g t) l) = mixw 1 V (fun j => S (ix2 j (lane g t))) (zz g) l := by
  subst h0 h1 h2 h3
  exact pay20 V S zz g t l

section Block
variable (x0 : S4096x768.Idx → EReal) (x1 : S1x768.Idx → EReal) (x2 : S1x8.Idx → EReal) (n : Fin 32)
  (C P : Vec Ideal S128x768 .f32) (B : Vec Ideal S1x768 .f32) (SK : Vec Ideal S1x8 .f32)

/-- A point's blocks: its own rows, the rows before them, the bias and the sinks. -/
structure Blk : Prop where
  cur : ∀ (q : Fin 128) (c : Fin 768), C (ix2 q c) = x0 (ix2 (qrow n q) c)
  prev : 0 < n.val → ∀ (q : Fin 128) (c : Fin 768), P (ix2 q c) = x0 (ix2 (⟨128 * (n.val - 1) + q.val, by omega⟩ : Fin 4096) c)
  bias : ∀ c : Fin 768, B (ix2 0 c) = x1 (ix2 0 c)
  sink : ∀ h : Fin 8, SK (ix2 0 h) = x2 (ix2 0 h)

variable (H : Blk x0 x1 x2 n C P B SK)
variable {x0 x1 x2 n C P B SK}

include H in
theorem q_tile (o : ℕ) (h h') (q : Fin 128) (d : Fin 64) (c : Fin 768) (hc : c.val = o + d.val) : tl C o h (ix2 q d) + bl B o h' (ix2 0 d) = y x0 x1 (qrow n q) c :=
  congrArg₂ (· + ·) ((tl_apply C o h q d c hc).trans (H.cur q c)) ((bl_apply B o h' d c hc).trans (H.bias c))
include H in
theorem k_tile (o : ℕ) (h h') (k : Fin 256) (d : Fin 64) (c : Fin 768) (hc : c.val = o + d.val) (hk : 128 ≤ 128 * n.val + k.val) :
    k0_pay9 (F := Ideal) (tl P o h) (bl B o h') (tl C o h) (bl B o h') (ix2 k d) = y x0 x1 (krow n k) c := by
  rw [pair]
  split
  · rename_i e
    refine congrArg₂ (· + ·) ((tl_apply P o h _ d c hc).trans ((H.prev (by omega) _ c).trans ?_)) ((bl_apply B o h' d c hc).trans (H.bias c))
    exact congrArg (fun r => x0 (ix2 r c)) (Fin.ext (show 128 * (n.val - 1) + k.val = 128 * n.val + k.val - 128 by omega))
  · rename_i e
    refine congrArg₂ (· + ·) ((tl_apply C o h _ d c hc).trans ((H.cur _ c).trans ?_)) ((bl_apply B o h' d c hc).trans (H.bias c))
    exact congrArg (fun r => x0 (ix2 r c)) (Fin.ext (show 128 * n.val + (k.val - 128) = 128 * n.val + k.val - 128 by omega))

/-- A half's weighted values are the attention's. -/
theorem core (kv : Fin 2) (g : Fin 4) (a : Fin 2) (t d : Fin 64) (V : FVec Ideal S256x64 .f32) (K : Fin 256 → Fin 64 → EReal) (s : Fin 192 → EReal)
    (hd : den (score x0 x1 n kv g (qa a t)) (x2 (ix2 0 (hh kv g))) ≠ 0)
    (hs : ∀ j, s j = if sees n (qa a t) (ka a j) then (∑ d : Fin 64, K (ka a j) d * y x0 x1 (qrow n (qa a t)) (qcol (hh kv g) d)) * scale else ⊥)
    (hK : ∀ k : Fin 256, 128 ≤ 128 * n.val + k.val → ∀ l, K k l = y x0 x1 (krow n k) (kcol kv l))
    (hV : ∀ k : Fin 256, 128 ≤ 128 * n.val + k.val → V (ix2 k d) = y x0 x1 (krow n k) (vcol kv d)) :
    mixw a V s (x2 (ix2 0 (hh kv g))) d = att x0 x1 x2 n kv g (qa a t) d := by
  have e : s = fun j => score x0 x1 n kv g (qa a t) (ka a j) := funext fun j => by
    rw [hs j]
    unfold score
    split
    · rename_i h
      exact congrArg (· * scale) (Finset.sum_congr rfl fun l _ => congrArg (· * _) (hK _ h.2.2 l))
    · rfl
  subst e
  refine (soft_window (score x0 x1 n kv g (qa a t)) _ (ka a) (fun i j h => Fin.ext (by have h := congrArg Fin.val h; change 64 * a.val + i.val = 64 * a.val + j.val at h; omega)) (fun k hk => ?_) hd fun k => V (ix2 k d)).trans
    (soft_congr _ _ hd _ _ fun k h => hV k (score_bot x0 x1 h).2.2)
  refine if_neg fun h => ?_
  have h1 : k.val ≤ 64 * a.val + t.val + 128 := h.1
  have h2 : 64 * a.val + t.val < k.val := h.2.1
  exact hk ⟨⟨k.val - 64 * a.val, by omega⟩, Fin.ext (show 64 * a.val + (k.val - 64 * a.val) = k.val by omega)⟩

include H in
theorem qs0 (g : Fin 4) (q : Fin 128) (l : Fin 64) : KX0 C B (ix2 (wide g q) l) = y x0 x1 (qrow n q) (qcol (hh 0 g) l) :=
  stack _ _ _ _ _ _ _ _ (fun g q l => y x0 x1 (qrow n q) (qcol (hh 0 g) l)) g q l
    (q_tile H 0 _ _ q l (qcol (hh 0 0) l) (show 64 * (4 * 0 + 0) + l.val = 0 + l.val by omega)) (q_tile H 64 _ _ q l (qcol (hh 0 1) l) (show 64 * (4 * 0 + 1) + l.val = 64 + l.val by omega)) (q_tile H 128 _ _ q l (qcol (hh 0 2) l) (show 64 * (4 * 0 + 2) + l.val = 128 + l.val by omega)) (q_tile H 192 _ _ q l (qcol (hh 0 3) l) (show 64 * (4 * 0 + 3) + l.val = 192 + l.val by omega))
include H in
theorem ks0 (k : Fin 256) (hk : 128 ≤ 128 * n.val + k.val) (l : Fin 64) : KY0 C P B (ix2 k l) = y x0 x1 (krow n k) (kcol 0 l) :=
  k_tile H 512 _ _ k l (kcol 0 l) (show 512 + 64 * 0 + l.val = 512 + l.val by omega) hk
include H in
theorem vs0 (k : Fin 256) (hk : 128 ≤ 128 * n.val + k.val) (l : Fin 64) : KV0 C P B (ix2 k l) = y x0 x1 (krow n k) (vcol 0 l) :=
  k_tile H 640 _ _ k l (vcol 0 l) (show 640 + 64 * 0 + l.val = 640 + l.val by omega) hk
include H in
theorem part00 (i : grid0.Coords) (hi : (i 0).val = n.val) (g : Fin 4) (t d : Fin 64) (hd : den (score x0 x1 n 0 g (qa 0 t)) (x2 (ix2 0 (hh 0 g))) ≠ 0) :
    k0_pay13 (F := Ideal) (KV0 C P B) (KS0 i C P B) (k0_pay12 (F := Ideal) (sl SK 0 inb_S1x8_S1x1_0_0)) (sl SK 1 inb_S1x8_S1x1_0_1) (sl SK 2 inb_S1x8_S1x1_0_2) (sl SK 3 inb_S1x8_S1x1_0_3) (ix2 (lane g t) d) = att x0 x1 x2 n 0 g (qa 0 t) d := by
  refine (soft0 _ _ _ _ _ _ (fun g => x2 (ix2 0 (hh 0 g))) ((sl_apply SK 0 inb_S1x8_S1x1_0_0 (hh 0 0) rfl).trans (H.sink _)) ((sl_apply SK 1 inb_S1x8_S1x1_0_1 (hh 0 1) rfl).trans (H.sink _)) ((sl_apply SK 2 inb_S1x8_S1x1_0_2 (hh 0 2) rfl).trans (H.sink _)) ((sl_apply SK 3 inb_S1x8_S1x1_0_3 (hh 0 3) rfl).trans (H.sink _)) g t d).trans ?_
  refine core 0 g 0 t d _ (fun k l => KY0 C P B (ix2 k l)) _ hd (fun j => ?_) (fun k hk l => ks0 H k hk l) fun k hk => vs0 H k hk d
  refine (sel_apply _ _ _).trans (if_congr (mask0 i n hi j g t) ?_ rfl)
  exact pay30 (fun g q l => y x0 x1 (qrow n q) (qcol (hh 0 g) l)) (fun k l => KY0 C P B (ix2 k l)) _ _ _ _ _ _ _ _ _ _ (qs0 H) (fun _ _ => rfl) j g t
include H in
theorem part01 (i : grid0.Coords) (hi : (i 0).val = n.val) (g : Fin 4) (t d : Fin 64) (hd : den (score x0 x1 n 0 g (qa 1 t)) (x2 (ix2 0 (hh 0 g))) ≠ 0) :
    k0_pay20 (F := Ideal) (KV0 C P B) (KS1 i C P B) (k0_pay19 (F := Ideal) (sl SK 0 inb_S1x8_S1x1_0_0)) (sl SK 1 inb_S1x8_S1x1_0_1) (sl SK 2 inb_S1x8_S1x1_0_2) (sl SK 3 inb_S1x8_S1x1_0_3) (ix2 (lane g t) d) = att x0 x1 x2 n 0 g (qa 1 t) d := by
  refine (soft1 _ _ _ _ _ _ (fun g => x2 (ix2 0 (hh 0 g))) ((sl_apply SK 0 inb_S1x8_S1x1_0_0 (hh 0 0) rfl).trans (H.sink _)) ((sl_apply SK 1 inb_S1x8_S1x1_0_1 (hh 0 1) rfl).trans (H.sink _)) ((sl_apply SK 2 inb_S1x8_S1x1_0_2 (hh 0 2) rfl).trans (H.sink _)) ((sl_apply SK 3 inb_S1x8_S1x1_0_3 (hh 0 3) rfl).trans (H.sink _)) g t d).trans ?_
  refine core 0 g 1 t d _ (fun k l => KY0 C P B (ix2 k l)) _ hd (fun j => ?_) (fun k hk l => ks0 H k hk l) fun k hk => vs0 H k hk d
  refine (sel_apply _ _ _).trans (if_congr (mask1 _ n (congrArg (BitVec.ofNat 32) hi) j g t) ?_ rfl)
  exact pay36 (fun g q l => y x0 x1 (qrow n q) (qcol (hh 0 g) l)) (fun k l => KY0 C P B (ix2 k l)) (KX0 C B) (KY0 C P B) (qs0 H) (fun _ _ => rfl) j g t
include H in
theorem qs1 (g : Fin 4) (q : Fin 128) (l : Fin 64) : KX1 C B (ix2 (wide g q) l) = y x0 x1 (qrow n q) (qcol (hh 1 g) l) :=
  stack _ _ _ _ _ _ _ _ (fun g q l => y x0 x1 (qrow n q) (qcol (hh 1 g) l)) g q l
    (q_tile H 256 _ _ q l (qcol (hh 1 0) l) (show 64 * (4 * 1 + 0) + l.val = 256 + l.val by omega)) (q_tile H 320 _ _ q l (qcol (hh 1 1) l) (show 64 * (4 * 1 + 1) + l.val = 320 + l.val by omega)) (q_tile H 384 _ _ q l (qcol (hh 1 2) l) (show 64 * (4 * 1 + 2) + l.val = 384 + l.val by omega)) (q_tile H 448 _ _ q l (qcol (hh 1 3) l) (show 64 * (4 * 1 + 3) + l.val = 448 + l.val by omega))
include H in
theorem ks1 (k : Fin 256) (hk : 128 ≤ 128 * n.val + k.val) (l : Fin 64) : KY1 C P B (ix2 k l) = y x0 x1 (krow n k) (kcol 1 l) :=
  k_tile H 576 _ _ k l (kcol 1 l) (show 512 + 64 * 1 + l.val = 576 + l.val by omega) hk
include H in
theorem vs1 (k : Fin 256) (hk : 128 ≤ 128 * n.val + k.val) (l : Fin 64) : KV1 C P B (ix2 k l) = y x0 x1 (krow n k) (vcol 1 l) :=
  k_tile H 704 _ _ k l (vcol 1 l) (show 640 + 64 * 1 + l.val = 704 + l.val by omega) hk
include H in
theorem part10 (i : grid0.Coords) (hi : (i 0).val = n.val) (g : Fin 4) (t d : Fin 64) (hd : den (score x0 x1 n 1 g (qa 0 t)) (x2 (ix2 0 (hh 1 g))) ≠ 0) :
    k0_pay13 (F := Ideal) (KV1 C P B) (sel (k0_pay1 i) (KT1 C P B)) (k0_pay12 (F := Ideal) (sl SK 4 inb_S1x8_S1x1_0_4)) (sl SK 5 inb_S1x8_S1x1_0_5) (sl SK 6 inb_S1x8_S1x1_0_6) (sl SK 7 inb_S1x8_S1x1_0_7) (ix2 (lane g t) d) = att x0 x1 x2 n 1 g (qa 0 t) d := by
  refine (soft0 _ _ _ _ _ _ (fun g => x2 (ix2 0 (hh 1 g))) ((sl_apply SK 4 inb_S1x8_S1x1_0_4 (hh 1 0) rfl).trans (H.sink _)) ((sl_apply SK 5 inb_S1x8_S1x1_0_5 (hh 1 1) rfl).trans (H.sink _)) ((sl_apply SK 6 inb_S1x8_S1x1_0_6 (hh 1 2) rfl).trans (H.sink _)) ((sl_apply SK 7 inb_S1x8_S1x1_0_7 (hh 1 3) rfl).trans (H.sink _)) g t d).trans ?_
  refine core 1 g 0 t d _ (fun k l => KY1 C P B (ix2 k l)) _ hd (fun j => ?_) (fun k hk l => ks1 H k hk l) fun k hk => vs1 H k hk d
  refine (sel_apply _ _ _).trans (if_congr (mask0 i n hi j g t) ?_ rfl)
  exact pay30 (fun g q l => y x0 x1 (qrow n q) (qcol (hh 1 g) l)) (fun k l => KY1 C P B (ix2 k l)) _ _ _ _ _ _ _ _ _ _ (qs1 H) (fun _ _ => rfl) j g t
include H in
theorem part11 (i : grid0.Coords) (hi : (i 0).val = n.val) (g : Fin 4) (t d : Fin 64) (hd : den (score x0 x1 n 1 g (qa 1 t)) (x2 (ix2 0 (hh 1 g))) ≠ 0) :
    k0_pay20 (F := Ideal) (KV1 C P B) (sel (KM1 i) (k0_pay36 (F := Ideal) (KX1 C B) (KY1 C P B))) (k0_pay19 (F := Ideal) (sl SK 4 inb_S1x8_S1x1_0_4)) (sl SK 5 inb_S1x8_S1x1_0_5) (sl SK 6 inb_S1x8_S1x1_0_6) (sl SK 7 inb_S1x8_S1x1_0_7) (ix2 (lane g t) d) = att x0 x1 x2 n 1 g (qa 1 t) d := by
  refine (soft1 _ _ _ _ _ _ (fun g => x2 (ix2 0 (hh 1 g))) ((sl_apply SK 4 inb_S1x8_S1x1_0_4 (hh 1 0) rfl).trans (H.sink _)) ((sl_apply SK 5 inb_S1x8_S1x1_0_5 (hh 1 1) rfl).trans (H.sink _)) ((sl_apply SK 6 inb_S1x8_S1x1_0_6 (hh 1 2) rfl).trans (H.sink _)) ((sl_apply SK 7 inb_S1x8_S1x1_0_7 (hh 1 3) rfl).trans (H.sink _)) g t d).trans ?_
  refine core 1 g 1 t d _ (fun k l => KY1 C P B (ix2 k l)) _ hd (fun j => ?_) (fun k hk l => ks1 H k hk l) fun k hk => vs1 H k hk d
  refine (sel_apply _ _ _).trans (if_congr (mask1 _ n (congrArg (BitVec.ofNat 32) hi) j g t) ?_ rfl)
  exact pay36 (fun g q l => y x0 x1 (qrow n q) (qcol (hh 1 g) l)) (fun k l => KY1 C P B (ix2 k l)) (KX1 C B) (KY1 C P B) (qs1 H) (fun _ _ => rfl) j g t

/-- The reference's entry at a result's column. -/
def entry (x0 : S4096x768.Idx → EReal) (x1 : S1x768.Idx → EReal) (x2 : S1x8.Idx → EReal) (n : Fin 32) (h : Fin 8) (q : Fin 128) (d : Fin 64) : EReal :=
  att x0 x1 x2 n ⟨h.val / 4, by omega⟩ ⟨h.val % 4, by omega⟩ q d

include H in
theorem whole0 (i : grid0.Coords) (hi : (i 0).val = n.val) (hd : ∀ kv g q, den (score x0 x1 n kv g q) (x2 (ix2 0 (hh kv g))) ≠ 0) (h : Fin 8) (t d : Fin 64) (q : Fin 128) (k : Fin 512)
    (hq : q.val = 64 * 0 + t.val) (hk : k.val = 64 * h.val + d.val) : whole i C P B SK (ix2 q k) = entry x0 x1 x2 n h (qa 0 t) d := by
  unfold whole
  rw [pay37_eq]
  exact asm_half0 _ _ _ _ _ _ _ _ _ _ _ _ _ (fun h => entry x0 x1 x2 n h (qa 0 t) d) t h d q k hq hk
    ((pay14 _ _ _ _ _ _ t d).trans (part00 H i hi 0 t d (hd _ _ _)))
    ((pay15 _ _ _ _ _ _ t d).trans (part00 H i hi 1 t d (hd _ _ _)))
    ((pay16 _ _ _ _ _ _ t d).trans (part00 H i hi 2 t d (hd _ _ _)))
    ((pay17 _ _ _ _ _ _ t d).trans (part00 H i hi 3 t d (hd _ _ _)))
    ((pay32 _ _ _ _ _ _ _ t d).trans (part10 H i hi 0 t d (hd _ _ _)))
    ((pay33 _ _ _ _ _ _ _ t d).trans (part10 H i hi 1 t d (hd _ _ _)))
    ((pay34 _ _ _ _ _ _ _ t d).trans (part10 H i hi 2 t d (hd _ _ _)))
    ((pay35 _ _ _ _ _ _ _ t d).trans (part10 H i hi 3 t d (hd _ _ _)))
include H in
theorem whole1 (i : grid0.Coords) (hi : (i 0).val = n.val) (hd : ∀ kv g q, den (score x0 x1 n kv g q) (x2 (ix2 0 (hh kv g))) ≠ 0) (h : Fin 8) (t d : Fin 64) (q : Fin 128) (k : Fin 512)
    (hq : q.val = 64 * 1 + t.val) (hk : k.val = 64 * h.val + d.val) : whole i C P B SK (ix2 q k) = entry x0 x1 x2 n h (qa 1 t) d := by
  unfold whole
  rw [pay37_eq]
  exact asm_half1 _ _ _ _ _ _ _ _ _ _ _ _ _ (fun h => entry x0 x1 x2 n h (qa 1 t) d) t h d q k hq hk
    ((pay21 _ _ _ _ _ _ t d).trans (part01 H i hi 0 t d (hd _ _ _)))
    ((pay22 _ _ _ _ _ _ t d).trans (part01 H i hi 1 t d (hd _ _ _)))
    ((pay23 _ _ _ _ _ _ t d).trans (part01 H i hi 2 t d (hd _ _ _)))
    ((pay24 _ _ _ _ _ _ t d).trans (part01 H i hi 3 t d (hd _ _ _)))
    (part11 H i hi 0 t d (hd _ _ _))
    (part11 H i hi 1 t d (hd _ _ _))
    (part11 H i hi 2 t d (hd _ _ _))
    (part11 H i hi 3 t d (hd _ _ _))
include H in
theorem whole_apply (i : grid0.Coords) (hi : (i 0).val = n.val) (hd : ∀ kv g q, den (score x0 x1 n kv g q) (x2 (ix2 0 (hh kv g))) ≠ 0) (q : Fin 128) (k : Fin 512) :
    whole i C P B SK (ix2 q k) = entry x0 x1 x2 n ⟨k.val / 64, by omega⟩ q ⟨k.val % 64, by omega⟩ := by
  by_cases e : q.val < 64
  · refine (whole0 H i hi hd ⟨k.val / 64, by omega⟩ ⟨q.val, e⟩ ⟨k.val % 64, by omega⟩ q k (show q.val = 64 * 0 + q.val by omega) (show k.val = 64 * (k.val / 64) + k.val % 64 by omega)).trans ?_
    exact congrArg (fun q => entry x0 x1 x2 n _ q _) (Fin.ext (show 64 * 0 + q.val = q.val by omega))
  · refine (whole1 H i hi hd ⟨k.val / 64, by omega⟩ ⟨q.val - 64, by omega⟩ ⟨k.val % 64, by omega⟩ q k (show q.val = 64 * 1 + (q.val - 64) by omega) (show k.val = 64 * (k.val / 64) + k.val % 64 by omega)).trans ?_
    exact congrArg (fun q => entry x0 x1 x2 n _ q _) (Fin.ext (show 64 * 1 + (q.val - 64) = q.val by omega))

end Block

section Blocks
variable (m : (ℓ : Loc nD τ sig) → Buf (Elt Ideal) ℓ)

/-- The block indices: the sinks and the bias whole, a point's rows and the rows before them. -/
theorem idx : ∀ t : Fin cfg0.N, win0_0.index t = ![0, 0] ∧ win0_1.index t = ![t.val, 0] ∧ win0_2.index t = ![t.val - 1, 0] ∧ win0_3.index t = ![0, 0] ∧ win0_4.index t = ![t.val, 0] ∧ ((grid0.coords t) 0).val = t.val :=
  (by decide +kernel : ∀ t : Fin grid0.N, win0_0.index t = ![0, 0] ∧ win0_1.index t = ![t.val, 0] ∧ win0_2.index t = ![t.val - 1, 0] ∧ win0_3.index t = ![0, 0] ∧ win0_4.index t = ![t.val, 0] ∧ ((grid0.coords t) 0).val = t.val)

/-- The inputs' blocks at a point, as arrays. -/
abbrev B0 (c : Dev nD) (t : Fin cfg0.N) : S1x8.Idx → EReal := iblk m c 0 t
abbrev B1 (c : Dev nD) (t : Fin cfg0.N) : S128x768.Idx → EReal := iblk m c 1 t
abbrev B2 (c : Dev nD) (t : Fin cfg0.N) : S128x768.Idx → EReal := iblk m c 2 t
abbrev B3 (c : Dev nD) (t : Fin cfg0.N) : S1x768.Idx → EReal := iblk m c 3 t
abbrev A0 (c : Dev nD) : S4096x768.Idx → EReal := m ((c : Thread nD τ).loc main_arg0)
abbrev A1 (c : Dev nD) : S1x768.Idx → EReal := m ((c : Thread nD τ).loc main_arg1)
abbrev A2 (c : Dev nD) : S1x8.Idx → EReal := m ((c : Thread nD τ).loc main_arg2)
/-- A point's number. -/
def pt (t : Fin cfg0.N) : Fin 32 := ⟨t.val, by have h := lt_of_lt_of_eq t.isLt N_0; omega⟩

theorem blocks (c : Dev nD) (t : Fin cfg0.N) : Blk (A0 m c) (A1 m c) (A2 m c) (pt t) (B1 m c t) (B2 m c t) (B3 m c t) (B0 m c t) where
  cur q k := by blk_ext [B1, A0, Gen.iblk, Gen.V, (idx t).2.1, qrow, pt]
  prev h q k := by blk_ext [B2, A0, Gen.iblk, Gen.V, (idx t).2.2.1, pt]
  bias k := by blk_ext [B3, A1, Gen.iblk, Gen.V, (idx t).2.2.2.1]
  sink k := by blk_ext [B0, A2, Gen.iblk, Gen.V, (idx t).1]

/-- The result, as a function of the arguments. -/
def O (c : Dev nD) : S4096x512.Idx → EReal := fun i =>
  entry (A0 m c) (A1 m c) (A2 m c) ⟨(i 0).val / 128, Nat.div_lt_of_lt_mul (i 0).isLt⟩ ⟨(i 1).val / 64, Nat.div_lt_of_lt_mul (i 1).isLt⟩ ⟨(i 0).val % 128, Nat.mod_lt _ (by omega)⟩ ⟨(i 1).val % 64, Nat.mod_lt _ (by omega)⟩

/-- No weights' sum of the arguments is zero. -/
def Sums (c : Dev nD) : Prop := ∀ n kv g q, den (score (A0 m c) (A1 m c) n kv g q) (A2 m c (ix2 0 (hh kv g))) ≠ 0

theorem out4 (c : Dev nD) (hd : Sums m c) (t : Fin cfg0.N) (q : Fin 128) (k : Fin 512) :
    whole (grid0.coords t) (B1 m c t) (B2 m c t) (B3 m c t) (B0 m c t) (ix2 q k) = O m c (ix2 (qrow (pt t) q) k) := by
  refine (whole_apply (blocks m c t) (grid0.coords t) (idx t).2.2.2.2.2 (hd (pt t)) q k).trans ?_
  exact congrArg₂ (fun n q => entry (A0 m c) (A1 m c) (A2 m c) n _ q _) (Fin.ext (show t.val = (128 * t.val + q.val) / 128 by omega)) (Fin.ext (show q.val = (128 * t.val + q.val) % 128 by omega))

theorem arr4 (c : Dev nD) (hd : Sums m c) : (dats m 0 c).arrAt 4 cfg0.N = O m c :=
  (dats m 0 c).arrAt_eq_of_covers 4 _ (by decide +kernel) fun t hf y => by
    blk_simp
    rw [after0_4]
    unfold outsAt0
    frame_out
    refine (congrArg _ (eq_ix2 (n0 := 128) (n1 := 512) y)).trans ((out4 m c hd t (y 0) (y 1)).trans (congrArg (O m c)
      (show ix2 (qrow (pt t) (y 0)) (y 1) = _ from ?_)))
    blk_ext [(idx t).2.2.2.2.1, qrow, pt]

end Blocks

theorem preserves : Cert.preserves_AttnFwd_AttnFwdIdeal := IdealRules.named_const.statement Cert.AttnFwdIdeal.κ "mask" .f32 0xF149F2CA#32 ⊥ rfl

/-- What the precondition says of the arguments. -/
theorem pre_real (m : (ℓ : Loc nD τ sig) → Buf (Elt Ideal) ℓ) (c : Dev nD) (h : Cert.Pre_AttnFwdIdeal_att_finite m) :
    (∀ r k, k.val < 640 → IsReal (y (A0 m c) (A1 m c) r k)) ∧ (∀ i, IsReal (A2 m c i)) := by
  have h := h c
  refine ⟨fun r k hk => IsReal.add ?_ ?_, fun i => IsReal.of_abs_lt ((Ideal.cmp_olt_eq_one _ _).1 (congrFun h.2.2 i))⟩
  · have e := IsReal.of_abs_lt ((Ideal.cmp_olt_eq_one _ _).1 (congrFun h.1 (ix2 r (⟨k.val, hk⟩ : Fin 640))))
    refine (congrArg (fun i => IsReal (A0 m c i)) (funext fun a => ?_)).mp e
    match a with
    | ⟨0, _⟩ => exact Fin.ext (show 0 + r.val = r.val by omega)
    | ⟨1, _⟩ => exact Fin.ext (show 0 + k.val = k.val by omega)
  · have e := IsReal.of_abs_lt ((Ideal.cmp_olt_eq_one _ _).1 (congrFun h.2.1 (ix2 0 (⟨k.val, hk⟩ : Fin 640))))
    refine (congrArg (fun i => IsReal (A1 m c i)) (funext fun a => ?_)).mp e
    match a with
    | ⟨0, _⟩ => rfl
    | ⟨1, _⟩ => exact Fin.ext (show 0 + k.val = k.val by omega)

theorem sums (m : (ℓ : Loc nD τ sig) → Buf (Elt Ideal) ℓ) (c : Dev nD) (h : Cert.Pre_AttnFwdIdeal_att_finite m) : Sums m c := fun n kv g q =>
  den_ne (score_ne _ _ (pre_real m c h).1 n kv g q) ((pre_real m c h).2 _)

/-- The reference's result is the kernel's. -/
theorem ref_out (m : (ℓ : Loc nD τ sig) → Buf (Elt Ideal) ℓ) (c : Dev nD) (hd : Sums m c) :
    Cert.AttnFwdRefIdeal.Read.val_main_v83 (F := Ideal) (A0 m c) (A1 m c) (A2 m c) = O m c := by
  refine funext fun i => ?_
  idx_vars i
  refine Eq.trans (congrArg (Cert.AttnFwdRefIdeal.Read.val_main_v83 (F := Ideal) (A0 m c) (A1 m c) (A2 m c)) (funext fun a => ?_))
    (v83 (A0 m c) (A1 m c) (A2 m c) ⟨i0.val / 128, by omega⟩ ⟨i1.val / 64 / 4, by omega⟩ ⟨i1.val / 64 % 4, by omega⟩ ⟨i0.val % 128, by omega⟩ ⟨i1.val % 64, by omega⟩ (hd _ _ _ _))
  match a with
  | ⟨0, _⟩ => exact Fin.ext (show i0.val = 128 * (i0.val / 128) + i0.val % 128 by omega)
  | ⟨1, _⟩ => exact Fin.ext (show i1.val = 64 * (4 * (i1.val / 64 / 4) + i1.val / 64 % 4) + i1.val % 64 by omega)

/-- Kernel and reference end with the same attention. -/
theorem algebraic : Cert.algebraic_AttnFwdIdeal_AttnFwdRefIdeal_pre_att_finite := by
  intro m g m' g' hp hm
  refine ⟨fun c => O m c, ?_, ?_⟩
  · exact (θ_run defs _ _).mono (fun r h c => ⟨(h c).1.trans (arr4 m c (sums m c hp)), (h c).2⟩) (Cert.AttnFwdIdeal.Value.run_blocks m g)
  · refine (θ_run Cert.AttnFwdRefIdeal.defs _ _).mono (fun r h c => ?_) (Cert.AttnFwdRefIdeal.Value.run m' g')
    obtain ⟨a0, a1, a2⟩ := hm c
    refine ⟨(h c).1.trans ?_, (h c).2⟩
    rw [Cert.AttnFwdRefIdeal.Read.val_main_v83_eq, a0, a1, a2]
    exact ref_out m c (sums m c hp)

/-- The reference is a straight-line host program without semaphores. -/
theorem frame_ref : Cert.quiescent_AttnFwdRefIdeal := fun m ρ _ =>
  (θ_run Cert.AttnFwdRefIdeal.defs _ _).mono (fun r h => ⟨fun c => (h c).2, sem_eq_zero_of_no_sems (by decide) r.2⟩)
    (Cert.AttnFwdRefIdeal.Value.run m ρ)

end Cert.AttnFwdIdeal.Hand

end
-- ==== Proof.SmallSpec.lean ====
/-
  The update of the small weights, entrywise: the sums over the devices, the gradient of the lower bound's logits, and the optimiser's step.
-/
module

public import proofs.«01_k».proof.Proof.RealNum
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Small

open Cert.RealNum
open Idealize.ShloMosaic Idealize.ShloMosaic.TcCoe Idealize.SL.Sem

/-- A packed array of the small weights. -/
abbrev Mat := (⟨2, ![160, 128]⟩ : Shape).Idx → EReal
/-- The packed partial sums of the eight devices. -/
abbrev Stack := (⟨3, ![8, 160, 128]⟩ : Shape).Idx → EReal

/-- The devices' sum. -/
def tot (s : Stack) (r : Fin 160) (l : Fin 128) : EReal := ∑ k : Fin 8, s (ix3 k r l)

/-- The logistic function. -/
def sg (x : EReal) : EReal := Ideal.div 1 (1 + Ideal.exp (0 - x))
/-- The gradient that the logistic function passes to its argument, times a factor. -/
def lbg (c d x : EReal) : EReal := c * d * sg x * (1 - sg x)

/-- The gradient of the packed weights: the sum, but for the eight rows of the lower bound's logits. -/
def grad (s : Stack) (w : Mat) (r : Fin 160) (l : Fin 128) : EReal :=
  if r.val < 24 then tot s r l
  else if h : r.val < 28 then lbg 1 (tot s r l + tot s ⟨r.val + 4, by omega⟩ l) (w (ix2 r l) - w (ix2 (⟨r.val + 4, by omega⟩ : Fin 160) l))
  else if h : r.val < 32 then lbg (-1) (tot s r l + tot s ⟨r.val - 4, by omega⟩ l) (w (ix2 r l) - w (ix2 (⟨r.val - 4, by omega⟩ : Fin 160) l))
  else tot s r l

theorem grad_a (s : Stack) (w : Mat) (r : Fin 160) (l : Fin 128) (h1 : ¬r.val < 24) (h : r.val < 28) : grad s w r l
    = lbg 1 (tot s r l + tot s ⟨r.val + 4, by omega⟩ l) (w (ix2 r l) - w (ix2 (⟨r.val + 4, by omega⟩ : Fin 160) l)) := by
  unfold grad
  rw [if_neg h1, dif_pos h]
theorem grad_b (s : Stack) (w : Mat) (r : Fin 160) (l : Fin 128) (h1 : ¬r.val < 28) (h : r.val < 32) : grad s w r l
    = lbg (-1) (tot s r l + tot s ⟨r.val - 4, by omega⟩ l) (w (ix2 r l) - w (ix2 (⟨r.val - 4, by omega⟩ : Fin 160) l)) := by
  unfold grad
  rw [if_neg (show ¬r.val < 24 by omega), dif_neg h1, dif_pos h]
theorem grad_c (s : Stack) (w : Mat) (r : Fin 160) (l : Fin 128) (h : r.val < 24 ∨ 32 ≤ r.val) : grad s w r l = tot s r l := by
  unfold grad
  rcases h with h | h
  · rw [if_pos h]
  · rw [if_neg (show ¬r.val < 24 by omega), dif_neg (show ¬r.val < 28 by omega), dif_neg (show ¬r.val < 32 by omega)]

/-- The same as an array. -/
def G (s : Stack) (w : Mat) : Mat := fun i => grad s w (i 0) (i 1)

/-- The first moment after the step. -/
def mom (g m : Mat) : Mat :=
  fun i => Ideal.ofBits FTy.f32 0x3F666666#32 * m i + Ideal.ofBits FTy.f32 0x3DCCCCCD#32 * g i
/-- The second moment after the step. -/
def mom2 (g v : Mat) : Mat :=
  fun i => Ideal.ofBits FTy.f32 0x3F7FBE77#32 * v i + Ideal.ofBits FTy.f32 0x3A83126F#32 * (g i * g i)
/-- The change of the weights. -/
def delta (w g m v : Mat) : Mat :=
  fun i => Ideal.ofBits FTy.f32 0xBA83126F#32 *
    (Ideal.div (Ideal.div (mom g m i) (Ideal.ofBits FTy.f32 0x3F26BD02#32))
      (Ideal.sqrt (Ideal.div (mom2 g v i) (Ideal.ofBits FTy.f32 0x3C231ACC#32)) + Ideal.ofBits FTy.f32 0x322BCC77#32)
      + Ideal.ofBits FTy.f32 0x3C23D70A#32 * w i)

/-- The loss: the sum of the first eight rows. -/
def loss (s : Stack) : EReal := ∑ x : Fin 8, ∑ l : Fin 128, tot s ⟨x.val, by omega⟩ l

theorem bot_bits : Ideal.ofBits FTy.f32 4286578688#32 = ⊥ := by simp [Ideal.ofBits, Ideal.ieee]

theorem neg_one : Ideal.ofBits FTy.f32 3212836864#32 = -1 := by
  simp [Ideal.ofBits, Ideal.ieee, -EReal.coe_mul]; norm_num

/-- The logistic function of a difference, from the exponentials with any common shift. -/
theorem sg_sub (x y M : ℝ) : sg ((x : EReal) - (y : EReal))
    = ((Real.exp (x - M) / (Real.exp (x - M) + Real.exp (y - M)) : ℝ) : EReal) := by
  have h : (1 + Real.exp (-(x - y))) ≠ 0 := by positivity
  have hb : Real.exp (-(x - y)) = Real.exp (y - M) / Real.exp (x - M) := by
    rw [← Real.exp_sub]; congr 1; ring
  have ha := Real.exp_pos (x - M)
  have hc := Real.exp_pos (y - M)
  unfold sg
  rw [← EReal.coe_sub, zero_sub, ← EReal.coe_neg, Ideal.exp_coe, ← EReal.coe_one, ← EReal.coe_add, Ideal.div_coe h, ← EReal.coe_mul, one_mul, hb]
  generalize Real.exp (x - M) = a at *
  generalize Real.exp (y - M) = b at *
  congr 1
  field_simp

/-- The gradient of two logits from that of the first share of their softmax, as differentiating the exponentials and their sum gives it. -/
theorem lb_math (d x y M : ℝ) (f e : Fin 2 → EReal) (h0 : f 0 = (d : EReal)) (h1 : f 1 = 0)
    (e0 : e 0 = Ideal.exp ((x : EReal) - (M : EReal))) (e1 : e 1 = Ideal.exp ((y : EReal) - (M : EReal))) (i : Fin 2) :
    (Ideal.div (f i) (∑ k : Fin 2, e k) + ∑ _k : Fin 1, -∑ k : Fin 2, f k * Ideal.div 1 ((∑ k : Fin 2, e k) * (∑ k : Fin 2, e k)) * e k) * e i
      = if i.val < 1 then lbg 1 (d : EReal) ((x : EReal) - (y : EReal)) else lbg (-1) (d : EReal) ((y : EReal) - (x : EReal)) := by
  have ha := Real.exp_pos (x - M)
  have hb := Real.exp_pos (y - M)
  unfold lbg
  rw [sg_sub x y M, sg_sub y x M]
  rw [← EReal.coe_sub, Ideal.exp_coe] at e0 e1
  generalize Real.exp (x - M) = a at *
  generalize Real.exp (y - M) = b at *
  have h1' : f 1 = ((0 : ℝ) : EReal) := h1
  have hs : a + b ≠ 0 := by positivity
  have hss : (a + b) * (a + b) ≠ 0 := by positivity
  simp only [Fin.sum_univ_two, Fin.sum_univ_one, e0, e1, h0, h1']
  rw [← EReal.coe_add, ← EReal.coe_mul, Ideal.div_coe hss]
  match i with
  | ⟨0, _⟩ =>
    rw [show f ⟨0, by omega⟩ = (d : EReal) from h0, show e ⟨0, by omega⟩ = (a : EReal) from e0, Ideal.div_coe hs, if_pos (show (0 : ℕ) < 1 by omega), ← EReal.coe_one]
    simp only [← EReal.coe_sub, ← EReal.coe_mul, ← EReal.coe_add, ← EReal.coe_neg]
    congr 1
    field_simp
    ring
  | ⟨1, _⟩ =>
    rw [show f ⟨1, by omega⟩ = ((0 : ℝ) : EReal) from h1, show e ⟨1, by omega⟩ = (b : EReal) from e1, Ideal.div_coe hs, if_neg (show ¬(1 : ℕ) < 1 by omega), ← EReal.coe_one]
    simp only [← EReal.coe_sub, ← EReal.coe_mul, ← EReal.coe_add, ← EReal.coe_neg]
    congr 1
    field_simp
    ring

end Cert.Small

end
-- ==== Proof.SmallRef.lean ====
/-
  The reference's update of the small weights, entrywise.
-/
module

public import proofs.«01_k».proof.Proof.SmallSpec
public import proofs.«01_k».proof.Proof.Gen.SmallUpdRefIdeal.Run
public import proofs.«01_k».proof.Proof.Gen.SmallUpdRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.SmallRef

open Cert.SmallUpdRefIdeal Cert.SmallUpdRefIdeal.Read Cert.RealNum
open Cert.Small (Mat Stack tot sg lbg grad mom mom2 delta loss lb_math)
open Idealize.ShloMosaic Idealize.ShloMosaic.TcCoe Idealize.SL.Sem

variable (x1 : Stack) (x2 x3 x4 : Mat)

theorem v0 (r : Fin 160) (l : Fin 128) : val_main_v0 (F := Ideal) x1 (ix2 r l) = tot x1 r l := by
  pointwise [val_main_v0, val_main_cst]
  rfl

/-- The loss at every entry. -/
theorem v79 (i : S8x128.Idx) : val_main_v79 (F := Ideal) x1 i = loss x1 := by
  have h := v0 x1
  unfold val_main_v79 val_main_v2 val_main_v1
  generalize val_main_v0 (F := Ideal) x1 = X at h
  idx_vars i
  pointwise [val_main_cst_0]
  unfold loss
  simp only [h]

/-- The logits as two rows of 512. -/
theorem v8 (i : Fin 2) (k : Fin 512) : val_main_v8 (F := Ideal) x2 (ix2 i k) = x2 (ix2 (⟨24 + (i.val * 4 + k.val / 128), by omega⟩ : Fin 160) (⟨k.val % 128, by omega⟩ : Fin 128)) := by
  pointwise [val_main_v8, val_main_v7]

theorem v9 (hw : ∀ (j : Fin 8) (l : Fin 128), IsReal (x2 (ix2 (⟨24 + j.val, by omega⟩ : Fin 160) l))) (k : Fin 512) : IsReal (val_main_v9 (F := Ideal) x2 (ix1 k)) := by
  have h := v8 x2
  have hx : ∀ (i : Fin 2) (k : Fin 512), IsReal (val_main_v8 (F := Ideal) x2 (ix2 i k)) := fun i k => by
    rw [h]; exact hw ⟨i.val * 4 + k.val / 128, by omega⟩ _
  clear h
  unfold val_main_v9
  generalize val_main_v8 (F := Ideal) x2 = X at hx
  have hr : S2x512.Reduces [0] S512 := by decide
  have e := Host.reduce_eq_fold_single (α := EReal) max (s := S2x512) (t := S512) (u := S_) X (val_main_cst_2 (F := Ideal)) Gen.reducesTo_S2x512_S512_d0 hr Gen.h_S_ (ix1 k)
  have e' : Host.reduce (α := EReal) max X (val_main_cst_2 (F := Ideal)) Gen.reducesTo_S2x512_S512_d0 Gen.h_S_ (ix1 k)
      = Finset.univ.fold max ⊥ (fun i : Fin 2 => X (ix2 i k)) := by
    refine e.trans ?_
    refine congrArg₂ (fun b f => Finset.univ.fold max b f) Cert.Small.bot_bits (funext fun kk => ?_)
    refine congrArg X ?_
    funext a; match a with
      | ⟨0, _⟩ => rfl
      | ⟨1, _⟩ => rfl
  have hf : IsReal (Finset.univ.fold max ⊥ (fun i : Fin 2 => X (ix2 i k))) := by
    obtain ⟨p, hp⟩ := hx 0 k
    obtain ⟨q, hq⟩ := hx 1 k
    have : Finset.univ.fold max ⊥ (fun i : Fin 2 => X (ix2 i k)) = max (X (ix2 0 k)) (max (X (ix2 1 k)) ⊥) := by
      rw [show (Finset.univ : Finset (Fin 2)) = insert 0 {1} from by decide, Finset.fold_insert (by decide), Finset.fold_singleton]
    rw [this, hp, hq, max_bot_right]
    rcases le_total p q with hpq | hpq
    · exact ⟨q, max_eq_right (EReal.coe_le_coe_iff.2 hpq)⟩
    · exact ⟨p, max_eq_left (EReal.coe_le_coe_iff.2 hpq)⟩
  obtain ⟨z, hz⟩ := hf
  exact ⟨z, (show _ = Host.reduce (α := EReal) max X (val_main_cst_2 (F := Ideal)) Gen.reducesTo_S2x512_S512_d0 Gen.h_S_ (ix1 k) from rfl).trans (e'.trans hz)⟩

theorem v29 (i : Fin 2) (k : Fin 512) : val_main_v29 (F := Ideal) x2 (ix2 i k)
    = Ideal.exp (x2 (ix2 (⟨24 + (i.val * 4 + k.val / 128), by omega⟩ : Fin 160) (⟨k.val % 128, by omega⟩ : Fin 128)) - val_main_v9 (F := Ideal) x2 (ix1 k)) := by
  pointwise [val_main_v29, val_main_v28, val_main_v27, val_main_v26, val_main_v16, val_main_v15, val_main_cst_4, val_main_v8, val_main_v7]
  rw [show Ideal.ofBits FTy.f32 4286578688#32 = ⊥ from Cert.Small.bot_bits, max_bot_left]

theorem v38 (i : Fin 2) (k : Fin 512) : val_main_v38 (F := Ideal) x1 (ix2 i k)
    = if i.val < 1 then ∑ x : Fin 2, tot x1 (⟨24 + (x.val * 4 + k.val / 128), by omega⟩ : Fin 160) (⟨k.val % 128, by omega⟩ : Fin 128) else 0 := by
  have h := v0 x1
  unfold val_main_v38 val_main_v6 val_main_v5 val_main_v4 val_main_v3
  generalize val_main_v0 (F := Ideal) x1 = X at h
  pointwise [val_main_cst_12, val_main_cst_1]
  simp only [h]
  rfl

theorem v31 (k : Fin 512) : val_main_v31 (F := Ideal) x2 (ix2 0 k) = ∑ x : Fin 2, val_main_v29 (F := Ideal) x2 (ix2 x k) := by
  unfold val_main_v31 val_main_v30
  generalize val_main_v29 (F := Ideal) x2 = X
  pointwise [val_main_cst_10]

variable (hs : ∀ (j : Fin 8) (l : Fin 128), IsReal (tot x1 (⟨24 + j.val, by omega⟩ : Fin 160) l)) (hw : ∀ (j : Fin 8) (l : Fin 128), IsReal (x2 (ix2 (⟨24 + j.val, by omega⟩ : Fin 160) l)))
include hs hw

/-- The gradient of the two rows of logits. -/
theorem v50 (i : Fin 2) (k : Fin 512) : val_main_v50 (F := Ideal) x1 x2 (ix2 i k)
    = if i.val < 1 then lbg 1 (tot x1 (⟨24 + k.val / 128, by omega⟩ : Fin 160) (⟨k.val % 128, by omega⟩ : Fin 128) + tot x1 (⟨28 + k.val / 128, by omega⟩ : Fin 160) (⟨k.val % 128, by omega⟩ : Fin 128))
        (x2 (ix2 (⟨24 + k.val / 128, by omega⟩ : Fin 160) (⟨k.val % 128, by omega⟩ : Fin 128)) - x2 (ix2 (⟨28 + k.val / 128, by omega⟩ : Fin 160) (⟨k.val % 128, by omega⟩ : Fin 128)))
      else lbg (-1) (tot x1 (⟨24 + k.val / 128, by omega⟩ : Fin 160) (⟨k.val % 128, by omega⟩ : Fin 128) + tot x1 (⟨28 + k.val / 128, by omega⟩ : Fin 160) (⟨k.val % 128, by omega⟩ : Fin 128))
        (x2 (ix2 (⟨28 + k.val / 128, by omega⟩ : Fin 160) (⟨k.val % 128, by omega⟩ : Fin 128)) - x2 (ix2 (⟨24 + k.val / 128, by omega⟩ : Fin 160) (⟨k.val % 128, by omega⟩ : Fin 128))) := by
  have h31 := v31 x2 k
  have h38 := fun i => v38 x1 i k
  have h29 := fun i => v29 x2 i k
  obtain ⟨M, hM⟩ := v9 x2 hw k
  have w0 : (⟨24 + ((0 : Fin 2).val * 4 + k.val / 128), by omega⟩ : Fin 160) = ⟨24 + k.val / 128, by omega⟩ := Fin.ext (show 24 + (0 * 4 + k.val / 128) = 24 + k.val / 128 by omega)
  have w1 : (⟨24 + ((1 : Fin 2).val * 4 + k.val / 128), by omega⟩ : Fin 160) = ⟨28 + k.val / 128, by omega⟩ := Fin.ext (show 24 + (1 * 4 + k.val / 128) = 28 + k.val / 128 by omega)
  obtain ⟨p, hp⟩ := hw ⟨k.val / 128, by omega⟩ ⟨k.val % 128, by omega⟩
  obtain ⟨q, hq⟩ := hw ⟨4 + k.val / 128, by omega⟩ ⟨k.val % 128, by omega⟩
  obtain ⟨a, ha⟩ := hs ⟨k.val / 128, by omega⟩ ⟨k.val % 128, by omega⟩
  obtain ⟨b, hb⟩ := hs ⟨4 + k.val / 128, by omega⟩ ⟨k.val % 128, by omega⟩
  have w2 : (⟨24 + (4 + k.val / 128), by omega⟩ : Fin 160) = ⟨28 + k.val / 128, by omega⟩ := Fin.ext (show 24 + (4 + k.val / 128) = 28 + k.val / 128 by omega)
  rw [w2] at hq hb
  rw [hp, hq, ha, hb, ← EReal.coe_add]
  have f0 : val_main_v38 (F := Ideal) x1 (ix2 0 k) = ((a + b : ℝ) : EReal) := by
    rw [h38, if_pos (by decide), Fin.sum_univ_two, w0, w1, ha, hb, ← EReal.coe_add]
  have f1 : val_main_v38 (F := Ideal) x1 (ix2 1 k) = 0 := by
    rw [h38, if_neg (by decide)]
  have e0 : val_main_v29 (F := Ideal) x2 (ix2 0 k) = Ideal.exp ((p : EReal) - (M : EReal)) := by
    rw [h29, w0, hp, hM]
  have e1 : val_main_v29 (F := Ideal) x2 (ix2 1 k) = Ideal.exp ((q : EReal) - (M : EReal)) := by
    rw [h29, w1, hq, hM]
  refine Eq.trans ?_ (lb_math (a + b) p q M (fun i => val_main_v38 (F := Ideal) x1 (ix2 i k)) (fun i => val_main_v29 (F := Ideal) x2 (ix2 i k)) f0 f1 e0 e1 i)
  clear f0 f1 e0 e1 h38 h29
  unfold val_main_v50 val_main_v49 val_main_v48 val_main_v47 val_main_v46 val_main_v45 val_main_v44 val_main_v43 val_main_v42 val_main_v41 val_main_v40 val_main_v39 val_main_v36 val_main_v35 val_main_v34
  generalize val_main_v31 (F := Ideal) x2 = X at h31
  generalize val_main_v29 (F := Ideal) x2 = Y at h31
  generalize val_main_v38 (F := Ideal) x1 = Z
  pointwise [val_main_cst_14, val_main_cst_13, val_main_cst_11]
  rw [h31]

/-- The gradient. -/
theorem v54 : val_main_v54 (F := Ideal) x1 x2 = Cert.Small.G x1 x2 := by
  funext i
  idx_vars i
  have h := v0 x1
  have h' := v50 x1 x2 hs hw
  unfold val_main_v54 val_main_v53 val_main_v52 val_main_v51
  generalize val_main_v0 (F := Ideal) x1 = X at h
  generalize val_main_v50 (F := Ideal) x1 x2 = Y at h'
  pointwise
  simp only [h, h']
  show _ = grad x1 x2 i0 i1
  unfold grad
  by_cases h1 : i0.val < 24
  · rw [dif_pos h1, if_pos h1]
  rw [dif_neg h1, if_neg h1]
  by_cases h2 : i0.val - 24 < 8
  · rw [dif_pos h2]
    have hl : (⟨((i0.val - 24) % 4 * 128 + i1.val) % 128, by omega⟩ : Fin 128) = i1 := Fin.ext (show ((i0.val - 24) % 4 * 128 + i1.val) % 128 = i1.val by omega)
    by_cases h3 : i0.val < 28
    · have ea : (⟨24 + ((i0.val - 24) % 4 * 128 + i1.val) / 128, by omega⟩ : Fin 160) = i0 := Fin.ext (show 24 + ((i0.val - 24) % 4 * 128 + i1.val) / 128 = i0.val by omega)
      have eb : (⟨28 + ((i0.val - 24) % 4 * 128 + i1.val) / 128, by omega⟩ : Fin 160) = ⟨i0.val + 4, by omega⟩ := Fin.ext (show 28 + ((i0.val - 24) % 4 * 128 + i1.val) / 128 = i0.val + 4 by omega)
      rw [if_pos (show (i0.val - 24) / 4 < 1 by omega), dif_pos h3, hl, ea, eb]
    · have ea : (⟨24 + ((i0.val - 24) % 4 * 128 + i1.val) / 128, by omega⟩ : Fin 160) = ⟨i0.val - 4, by omega⟩ := Fin.ext (show 24 + ((i0.val - 24) % 4 * 128 + i1.val) / 128 = i0.val - 4 by omega)
      have eb : (⟨28 + ((i0.val - 24) % 4 * 128 + i1.val) / 128, by omega⟩ : Fin 160) = i0 := Fin.ext (show 28 + ((i0.val - 24) % 4 * 128 + i1.val) / 128 = i0.val by omega)
      rw [if_neg (show ¬(i0.val - 24) / 4 < 1 by omega), dif_neg h3, dif_pos (show i0.val < 32 by omega), hl, ea, eb, add_comm (tot x1 _ i1)]
  · rw [dif_neg h2, dif_neg (show ¬i0.val < 28 by omega), dif_neg (show ¬i0.val < 32 by omega)]
    exact congrArg (fun r => tot x1 r i1) (Fin.ext (show 32 + (i0.val - 24 - 8) = i0.val by omega))

theorem v59 : val_main_v59 (F := Ideal) x1 x2 x3 = mom (Cert.Small.G x1 x2) x3 := by
  funext i
  idx_vars i
  have h := v54 x1 x2 hs hw
  unfold val_main_v59 val_main_v58
  rw [h]
  generalize Cert.Small.G x1 x2 = X
  pointwise [val_main_v56, val_main_v55, val_main_v57, val_main_cst_15, val_main_cst_16]
  rfl
theorem v65 : val_main_v65 (F := Ideal) x1 x2 x4 = mom2 (Cert.Small.G x1 x2) x4 := by
  funext i
  idx_vars i
  have h := v54 x1 x2 hs hw
  unfold val_main_v65 val_main_v64 val_main_v62
  rw [h]
  generalize Cert.Small.G x1 x2 = X
  pointwise [val_main_v61, val_main_v60, val_main_v63, val_main_cst_17, val_main_cst_18]
  rfl
theorem v78 : val_main_v78 (F := Ideal) x1 x2 x3 x4 = delta x2 (Cert.Small.G x1 x2) x3 x4 := by
  funext i
  idx_vars i
  have h := v59 x1 x2 x3 hs hw
  have h' := v65 x1 x2 x4 hs hw
  unfold val_main_v78 val_main_v76 val_main_v73 val_main_v72 val_main_v70 val_main_v69 val_main_v67
  rw [h, h']
  show _ = _ * (Ideal.div (Ideal.div (mom _ _ _) _) (Ideal.sqrt (Ideal.div (mom2 _ _ _) _) + _) + _)
  generalize mom (Cert.Small.G x1 x2) x3 = X
  generalize mom2 (Cert.Small.G x1 x2) x4 = Y
  pointwise [val_main_v66, val_main_v68, val_main_v71, val_main_v74, val_main_v75, val_main_v77, val_main_cst_19, val_main_cst_20, val_main_cst_21, val_main_cst_22, val_main_cst_23]

end Cert.SmallRef

end
-- ==== Proof.SmallUpdValue.lean ====
/-
  The update of the small weights: the kernel's one point, and the claim.
-/
module

public import proofs.«01_k».proof.Defs
public import proofs.«01_k».proof.Proof.SmallRef
public import proofs.«01_k».proof.Proof.Gen.SmallUpdIdeal.Value
public import proofs.«01_k».proof.Proof.Gen.Pre_small_finite
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.SmallUpdIdeal.Hand

open Cert.SmallUpdIdeal Cert.SmallUpdIdeal.Gen Cert.RealNum
open Cert.Small (Mat Stack tot sg lbg grad mom mom2 delta loss)
open Idealize.ShloMosaic Idealize.ShloMosaic.TcCoe Idealize.SL.Sem

/-- One device's part of the stack. -/
abbrev part (X : Vec Ideal S8x160x128 .f32) (k : ℕ) (h : ∀ a, (![k, 0, 0] : Fin 3 → Nat) a + S1x160x128.size a ≤ S8x160x128.size a) : Vec Ideal S1x160x128 .f32 :=
  View.ld X (Rect.unit ![k, 0, 0] ![1, 160, 128] h)
/-- The rows of the logits. -/
abbrev rows (X : Vec Ideal S160x128 .f32) (h : ∀ a, (![24, 0] : Fin 2 → Nat) a + S8x128.size a ≤ S160x128.size a) : Vec Ideal S8x128 .f32 :=
  View.ld X (Rect.unit ![24, 0] ![8, 128] h)

theorem sel (j : ℕ) (hj : j < 8) (a : EReal) : Scalar.select (IntOp.cmpi .slt (BitVec.ofNat 32 j) 4#32) a (Ideal.ofBits FTy.f32 3212836864#32) = if j < 4 then a else -1 := by
  rw [Cert.Small.neg_one]
  generalize (-1 : EReal) = b
  interval_cases j <;> rfl

set_option maxHeartbeats 1000000 in
theorem pay5 (s : Stack) (w : Mat) (g : FVec Ideal S160x128 .f32) (u : Vec Ideal S8x128 .f32) (hg : ∀ r l, g (ix2 r l) = tot s r l)
    (hu : ∀ (j : Fin 8) (l : Fin 128), u (ix2 j l) = w (ix2 (⟨24 + j.val, by omega⟩ : Fin 160) l)) (r : Fin 160) (l : Fin 128) :
    k0_pay5 (F := Ideal) g u (ix2 r l) = grad s w r l := by
  pointwise [k0_pay5]
  simp only [hg, hu]
  by_cases h1 : r.val < 24
  · rw [dif_pos h1]
    exact (Cert.Small.grad_c s w r l (Or.inl h1)).symm
  rw [dif_neg h1]
  by_cases h2 : r.val - 24 < 8
  · rw [dif_pos h2, sel _ h2]
    have er : ∀ h, (⟨24 + (r.val - 24), h⟩ : Fin 160) = r := fun _ => Fin.ext (show 24 + (r.val - 24) = r.val by omega)
    by_cases h3 : r.val < 28
    · have eb : ∀ h, (⟨24 + (r.val - 24 + 8 - 4) % 8, h⟩ : Fin 160) = ⟨r.val + 4, by omega⟩ := fun _ => Fin.ext (show 24 + (r.val - 24 + 8 - 4) % 8 = r.val + 4 by omega)
      rw [if_pos (show r.val - 24 < 4 by omega)]
      refine Eq.trans ?_ (Cert.Small.grad_a s w r l h1 h3).symm
      rw [er]
      simp only [eb]
      rfl
    · have eb : ∀ h, (⟨24 + (r.val - 24 + 8 - 4) % 8, h⟩ : Fin 160) = ⟨r.val - 4, by omega⟩ := fun _ => Fin.ext (show 24 + (r.val - 24 + 8 - 4) % 8 = r.val - 4 by omega)
      rw [if_neg (show ¬r.val - 24 < 4 by omega)]
      refine Eq.trans ?_ (Cert.Small.grad_b s w r l h3 (by omega)).symm
      rw [er]
      simp only [eb]
      rfl
  · rw [dif_neg h2]
    refine Eq.trans ?_ (Cert.Small.grad_c s w r l (Or.inr (by omega))).symm
    exact congrArg (fun r => tot s r l) (Fin.ext (show 32 + (r.val - 24 - 8) = r.val by omega))

theorem pay7 (i : S160x128.Idx) : k0_pay7 (F := Ideal) i = Ideal.ofBits FTy.f32 0x3F7FBE77#32 := rfl

theorem pay6 (s : Stack) (w mm : Mat) (g : FVec Ideal S160x128 .f32) (u : Vec Ideal S8x128 .f32) (hg : ∀ r l, g (ix2 r l) = tot s r l)
    (hu : ∀ (j : Fin 8) (l : Fin 128), u (ix2 j l) = w (ix2 (⟨24 + j.val, by omega⟩ : Fin 160) l)) (r : Fin 160) (l : Fin 128) :
    k0_pay6 (F := Ideal) g u mm (ix2 r l) = mom (Cert.Small.G s w) mm (ix2 r l) := by
  have h := pay5 s w g u hg hu
  unfold k0_pay6
  generalize k0_pay5 (F := Ideal) g u = x at h
  pointwise
  rw [h]
  rfl

theorem pay1 (s : Stack) (w v : Mat) (g : FVec Ideal S160x128 .f32) (u : Vec Ideal S8x128 .f32) (hg : ∀ r l, g (ix2 r l) = tot s r l)
    (hu : ∀ (j : Fin 8) (l : Fin 128), u (ix2 j l) = w (ix2 (⟨24 + j.val, by omega⟩ : Fin 160) l)) (r : Fin 160) (l : Fin 128) :
    k0_pay1 (F := Ideal) (k0_pay5 (F := Ideal) g u) v (k0_pay7 (F := Ideal)) (ix2 r l) = mom2 (Cert.Small.G s w) v (ix2 r l) := by
  have h := pay5 s w g u hg hu
  generalize k0_pay5 (F := Ideal) g u = x at h
  pointwise [k0_pay1, k0_pay7]
  rw [h]
  rfl

theorem pay2 (s : Stack) (w mm v : Mat) (g : FVec Ideal S160x128 .f32) (u : Vec Ideal S8x128 .f32) (hg : ∀ r l, g (ix2 r l) = tot s r l)
    (hu : ∀ (j : Fin 8) (l : Fin 128), u (ix2 j l) = w (ix2 (⟨24 + j.val, by omega⟩ : Fin 160) l)) (r : Fin 160) (l : Fin 128) :
    k0_pay2 (F := Ideal) (k0_pay5 (F := Ideal) g u) w v (k0_pay6 (F := Ideal) g u mm) (k0_pay7 (F := Ideal)) (ix2 r l) = delta w (Cert.Small.G s w) mm v (ix2 r l) := by
  have h := pay1 s w v g u hg hu r l
  have h' := pay6 s w mm g u hg hu r l
  unfold k0_pay2
  generalize k0_pay6 (F := Ideal) g u mm = y at h'
  generalize k0_pay1 (F := Ideal) (k0_pay5 (F := Ideal) g u) v (k0_pay7 (F := Ideal)) = z at h
  pointwise
  rw [h, h']
  rfl

theorem part_apply (X : Vec Ideal S8x160x128 .f32) (o : ℕ) (h) (k : Fin 8) (hk : k.val = o) (r : Fin 160) (l : Fin 128) : part X o h (ix3 0 r l) = X (ix3 k r l) := by
  refine congrArg X ?_
  funext a; match a with
    | ⟨0, _⟩ => exact Fin.ext (show o + 1 * 0 = k.val by omega)
    | ⟨1, _⟩ => exact Fin.ext (show 0 + 1 * r.val = r.val by omega)
    | ⟨2, _⟩ => exact Fin.ext (show 0 + 1 * l.val = l.val by omega)

/-- The logits' rows, and the sum of the eight parts, as the kernel takes them. -/
abbrev lrow (X : Vec Ideal S160x128 .f32) : Vec Ideal S8x128 .f32 := rows X inb_S160x128_S8x128_24_0
abbrev gk (X : Vec Ideal S8x160x128 .f32) : FVec Ideal S160x128 .f32 := k0_pay3 (F := Ideal) (part X 0 inb_S8x160x128_S1x160x128_0_0_0) (part X 1 inb_S8x160x128_S1x160x128_1_0_0) (part X 2 inb_S8x160x128_S1x160x128_2_0_0) (part X 3 inb_S8x160x128_S1x160x128_3_0_0) (part X 4 inb_S8x160x128_S1x160x128_4_0_0) (part X 5 inb_S8x160x128_S1x160x128_5_0_0) (part X 6 inb_S8x160x128_S1x160x128_6_0_0) (part X 7 inb_S8x160x128_S1x160x128_7_0_0)

theorem lrow_apply (X : Mat) (j : Fin 8) (l : Fin 128) : lrow X (ix2 j l) = X (ix2 (⟨24 + j.val, by omega⟩ : Fin 160) l) := by
  refine congrArg X ?_
  funext a; match a with
    | ⟨0, _⟩ => exact Fin.ext (show 24 + 1 * j.val = 24 + j.val by omega)
    | ⟨1, _⟩ => exact Fin.ext (show 0 + 1 * l.val = l.val by omega)

theorem pay3 (X : Stack) (r : Fin 160) (l : Fin 128) : gk X (ix2 r l) = tot X r l := by
  unfold tot gk
  rw [Fin.sum_univ_eight]
  have e0 := part_apply X 0 inb_S8x160x128_S1x160x128_0_0_0 0 rfl r l
  have e1 := part_apply X 1 inb_S8x160x128_S1x160x128_1_0_0 1 rfl r l
  have e2 := part_apply X 2 inb_S8x160x128_S1x160x128_2_0_0 2 rfl r l
  have e3 := part_apply X 3 inb_S8x160x128_S1x160x128_3_0_0 3 rfl r l
  have e4 := part_apply X 4 inb_S8x160x128_S1x160x128_4_0_0 4 rfl r l
  have e5 := part_apply X 5 inb_S8x160x128_S1x160x128_5_0_0 5 rfl r l
  have e6 := part_apply X 6 inb_S8x160x128_S1x160x128_6_0_0 6 rfl r l
  have e7 := part_apply X 7 inb_S8x160x128_S1x160x128_7_0_0 7 rfl r l
  generalize part X 0 inb_S8x160x128_S1x160x128_0_0_0 = s0 at e0
  generalize part X 1 inb_S8x160x128_S1x160x128_1_0_0 = s1 at e1
  generalize part X 2 inb_S8x160x128_S1x160x128_2_0_0 = s2 at e2
  generalize part X 3 inb_S8x160x128_S1x160x128_3_0_0 = s3 at e3
  generalize part X 4 inb_S8x160x128_S1x160x128_4_0_0 = s4 at e4
  generalize part X 5 inb_S8x160x128_S1x160x128_5_0_0 = s5 at e5
  generalize part X 6 inb_S8x160x128_S1x160x128_6_0_0 = s6 at e6
  generalize part X 7 inb_S8x160x128_S1x160x128_7_0_0 = s7 at e7
  pointwise [k0_pay3]
  rw [e0, e1, e2, e3, e4, e5, e6, e7]

theorem pay4 (X : Stack) (r : Fin 8) (l : Fin 128) :
    k0_pay4 (F := Ideal) (part X 0 inb_S8x160x128_S1x160x128_0_0_0) (part X 1 inb_S8x160x128_S1x160x128_1_0_0) (part X 2 inb_S8x160x128_S1x160x128_2_0_0) (part X 3 inb_S8x160x128_S1x160x128_3_0_0) (part X 4 inb_S8x160x128_S1x160x128_4_0_0) (part X 5 inb_S8x160x128_S1x160x128_5_0_0) (part X 6 inb_S8x160x128_S1x160x128_6_0_0) (part X 7 inb_S8x160x128_S1x160x128_7_0_0) (ix2 r l) = loss X := by
  have h : ∀ (r : Fin 160) (l : Fin 128), k0_pay3 (F := Ideal) (part X 0 inb_S8x160x128_S1x160x128_0_0_0) (part X 1 inb_S8x160x128_S1x160x128_1_0_0) (part X 2 inb_S8x160x128_S1x160x128_2_0_0) (part X 3 inb_S8x160x128_S1x160x128_3_0_0) (part X 4 inb_S8x160x128_S1x160x128_4_0_0) (part X 5 inb_S8x160x128_S1x160x128_5_0_0) (part X 6 inb_S8x160x128_S1x160x128_6_0_0) (part X 7 inb_S8x160x128_S1x160x128_7_0_0) (ix2 r l) = tot X r l := pay3 X
  unfold k0_pay4
  generalize k0_pay3 (F := Ideal) (part X 0 inb_S8x160x128_S1x160x128_0_0_0) (part X 1 inb_S8x160x128_S1x160x128_1_0_0) (part X 2 inb_S8x160x128_S1x160x128_2_0_0) (part X 3 inb_S8x160x128_S1x160x128_3_0_0) (part X 4 inb_S8x160x128_S1x160x128_4_0_0) (part X 5 inb_S8x160x128_S1x160x128_5_0_0) (part X 6 inb_S8x160x128_S1x160x128_6_0_0) (part X 7 inb_S8x160x128_S1x160x128_7_0_0) = g at h
  pointwise
  exact Finset.sum_congr rfl fun x _ => Finset.sum_congr rfl fun l _ => h ⟨x.val, by omega⟩ l

section Blocks
variable (m : (ℓ : Loc nD τ sig) → Buf (Elt Ideal) ℓ)

theorem idx : ∀ t : Fin cfg0.N, win0_0.index t = ![0, 0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] :=
  (by decide +kernel : ∀ t : Fin grid0.N, win0_0.index t = ![0, 0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0])

abbrev A1 (c : Dev nD) : Stack := (m ((c : Thread nD τ).loc main_arg1))
abbrev A2 (c : Dev nD) : Mat := (m ((c : Thread nD τ).loc main_arg2))
abbrev A3 (c : Dev nD) : Mat := (m ((c : Thread nD τ).loc main_arg3))
abbrev A4 (c : Dev nD) : Mat := (m ((c : Thread nD τ).loc main_arg4))
abbrev B0 (c : Dev nD) (t : Fin cfg0.N) : Stack := iblk m c 0 t
theorem blk0 (c : Dev nD) (t : Fin cfg0.N) : B0 m c t = A1 m c := by
  funext i
  idx_vars i
  blk_ext [B0, Gen.iblk, Gen.V, (idx t).1]
abbrev B1 (c : Dev nD) (t : Fin cfg0.N) : Mat := iblk m c 1 t
theorem blk1 (c : Dev nD) (t : Fin cfg0.N) : B1 m c t = A2 m c := by
  funext i
  idx_vars i
  blk_ext [B1, Gen.iblk, Gen.V, (idx t).2.1]
abbrev B2 (c : Dev nD) (t : Fin cfg0.N) : Mat := iblk m c 2 t
theorem blk2 (c : Dev nD) (t : Fin cfg0.N) : B2 m c t = A3 m c := by
  funext i
  idx_vars i
  blk_ext [B2, Gen.iblk, Gen.V, (idx t).2.2.1]
abbrev B3 (c : Dev nD) (t : Fin cfg0.N) : Mat := iblk m c 3 t
theorem blk3 (c : Dev nD) (t : Fin cfg0.N) : B3 m c t = A4 m c := by
  funext i
  idx_vars i
  blk_ext [B3, Gen.iblk, Gen.V, (idx t).2.2.2.1]

theorem out4 (c : Dev nD) (t : Fin cfg0.N) (r : Fin 160) (l : Fin 128) :
    k0_pay5 (F := Ideal) (gk (B0 m c t)) (lrow (B1 m c t)) (ix2 r l) = (Cert.Small.G (A1 m c) (A2 m c)) (ix2 r l) := by
  rw [blk0, blk1]
  exact pay5 (A1 m c) (A2 m c) (gk (A1 m c)) (lrow (A2 m c)) (pay3 (A1 m c)) (lrow_apply (A2 m c)) r l

theorem arr4 (c : Dev nD) : (dats m 0 c).arrAt 4 cfg0.N = (Cert.Small.G (A1 m c) (A2 m c)) :=
  (dats m 0 c).arrAt_eq_of_covers 4 _ (by decide +kernel) fun t hf y => by
    blk_simp
    rw [after0_4]
    unfold outsAt0
    frame_out
    simp only [read_unread_whole]
    change k0_pay5 (F := Ideal) (gk (B0 m c t)) (lrow (B1 m c t)) y = _
    refine (congrArg _ (eq_ix2 (n0 := 160) (n1 := 128) y)).trans ((out4 m c t (y 0) (y 1)).trans (congrArg (Cert.Small.G (A1 m c) (A2 m c))
      (show ix2 (y 0) (y 1) = _ from ?_)))
    blk_ext [(idx t).2.2.2.2.1]

theorem out5 (c : Dev nD) (t : Fin cfg0.N) (r : Fin 160) (l : Fin 128) :
    k0_pay2 (F := Ideal) (k0_pay5 (F := Ideal) (gk (B0 m c t)) (lrow (B1 m c t))) (B1 m c t) (B3 m c t) (k0_pay6 (F := Ideal) (gk (B0 m c t)) (lrow (B1 m c t)) (B2 m c t)) (k0_pay7 (F := Ideal)) (ix2 r l) = (delta (A2 m c) (Cert.Small.G (A1 m c) (A2 m c)) (A3 m c) (A4 m c)) (ix2 r l) := by
  rw [blk0, blk1, blk2, blk3]
  exact pay2 (A1 m c) (A2 m c) (A3 m c) (A4 m c) (gk (A1 m c)) (lrow (A2 m c)) (pay3 (A1 m c)) (lrow_apply (A2 m c)) r l

theorem arr5 (c : Dev nD) : (dats m 0 c).arrAt 5 cfg0.N = (delta (A2 m c) (Cert.Small.G (A1 m c) (A2 m c)) (A3 m c) (A4 m c)) :=
  (dats m 0 c).arrAt_eq_of_covers 5 _ (by decide +kernel) fun t hf y => by
    blk_simp
    rw [after0_5]
    unfold outsAt0
    frame_out
    simp only [read_unread_whole]
    change k0_pay2 (F := Ideal) (k0_pay5 (F := Ideal) (gk (B0 m c t)) (lrow (B1 m c t))) (B1 m c t) (B3 m c t) (k0_pay6 (F := Ideal) (gk (B0 m c t)) (lrow (B1 m c t)) (B2 m c t)) (k0_pay7 (F := Ideal)) y = _
    refine (congrArg _ (eq_ix2 (n0 := 160) (n1 := 128) y)).trans ((out5 m c t (y 0) (y 1)).trans (congrArg (delta (A2 m c) (Cert.Small.G (A1 m c) (A2 m c)) (A3 m c) (A4 m c))
      (show ix2 (y 0) (y 1) = _ from ?_)))
    blk_ext [(idx t).2.2.2.2.2.1]

theorem out6 (c : Dev nD) (t : Fin cfg0.N) (r : Fin 160) (l : Fin 128) :
    k0_pay6 (F := Ideal) (gk (B0 m c t)) (lrow (B1 m c t)) (B2 m c t) (ix2 r l) = (mom (Cert.Small.G (A1 m c) (A2 m c)) (A3 m c)) (ix2 r l) := by
  rw [blk0, blk1, blk2]
  exact pay6 (A1 m c) (A2 m c) (A3 m c) (gk (A1 m c)) (lrow (A2 m c)) (pay3 (A1 m c)) (lrow_apply (A2 m c)) r l

theorem arr6 (c : Dev nD) : (dats m 0 c).arrAt 6 cfg0.N = (mom (Cert.Small.G (A1 m c) (A2 m c)) (A3 m c)) :=
  (dats m 0 c).arrAt_eq_of_covers 6 _ (by decide +kernel) fun t hf y => by
    blk_simp
    rw [after0_6]
    unfold outsAt0
    frame_out
    simp only [read_unread_whole]
    change k0_pay6 (F := Ideal) (gk (B0 m c t)) (lrow (B1 m c t)) (B2 m c t) y = _
    refine (congrArg _ (eq_ix2 (n0 := 160) (n1 := 128) y)).trans ((out6 m c t (y 0) (y 1)).trans (congrArg (mom (Cert.Small.G (A1 m c) (A2 m c)) (A3 m c))
      (show ix2 (y 0) (y 1) = _ from ?_)))
    blk_ext [(idx t).2.2.2.2.2.2.1]

theorem out7 (c : Dev nD) (t : Fin cfg0.N) (r : Fin 160) (l : Fin 128) :
    k0_pay1 (F := Ideal) (k0_pay5 (F := Ideal) (gk (B0 m c t)) (lrow (B1 m c t))) (B3 m c t) (k0_pay7 (F := Ideal)) (ix2 r l) = (mom2 (Cert.Small.G (A1 m c) (A2 m c)) (A4 m c)) (ix2 r l) := by
  rw [blk0, blk1, blk3]
  exact pay1 (A1 m c) (A2 m c) (A4 m c) (gk (A1 m c)) (lrow (A2 m c)) (pay3 (A1 m c)) (lrow_apply (A2 m c)) r l

theorem arr7 (c : Dev nD) : (dats m 0 c).arrAt 7 cfg0.N = (mom2 (Cert.Small.G (A1 m c) (A2 m c)) (A4 m c)) :=
  (dats m 0 c).arrAt_eq_of_covers 7 _ (by decide +kernel) fun t hf y => by
    blk_simp
    rw [after0_7]
    unfold outsAt0
    frame_out
    simp only [read_unread_whole]
    change k0_pay1 (F := Ideal) (k0_pay5 (F := Ideal) (gk (B0 m c t)) (lrow (B1 m c t))) (B3 m c t) (k0_pay7 (F := Ideal)) y = _
    refine (congrArg _ (eq_ix2 (n0 := 160) (n1 := 128) y)).trans ((out7 m c t (y 0) (y 1)).trans (congrArg (mom2 (Cert.Small.G (A1 m c) (A2 m c)) (A4 m c))
      (show ix2 (y 0) (y 1) = _ from ?_)))
    blk_ext [(idx t).2.2.2.2.2.2.2.1]

theorem out8 (c : Dev nD) (t : Fin cfg0.N) (r : Fin 8) (l : Fin 128) :
    k0_pay4 (F := Ideal) (part (B0 m c t) 0 inb_S8x160x128_S1x160x128_0_0_0) (part (B0 m c t) 1 inb_S8x160x128_S1x160x128_1_0_0) (part (B0 m c t) 2 inb_S8x160x128_S1x160x128_2_0_0) (part (B0 m c t) 3 inb_S8x160x128_S1x160x128_3_0_0) (part (B0 m c t) 4 inb_S8x160x128_S1x160x128_4_0_0) (part (B0 m c t) 5 inb_S8x160x128_S1x160x128_5_0_0) (part (B0 m c t) 6 inb_S8x160x128_S1x160x128_6_0_0) (part (B0 m c t) 7 inb_S8x160x128_S1x160x128_7_0_0) (ix2 r l) = (fun _ => loss (A1 m c) : S8x128.Idx → EReal) (ix2 r l) := by
  rw [blk0]
  exact pay4 (A1 m c) r l

theorem arr8 (c : Dev nD) : (dats m 0 c).arrAt 8 cfg0.N = (fun _ => loss (A1 m c) : S8x128.Idx → EReal) :=
  (dats m 0 c).arrAt_eq_of_covers 8 _ (by decide +kernel) fun t hf y => by
    blk_simp
    rw [after0_8]
    unfold outsAt0
    frame_out
    simp only [read_unread_whole]
    change k0_pay4 (F := Ideal) (part (B0 m c t) 0 inb_S8x160x128_S1x160x128_0_0_0) (part (B0 m c t) 1 inb_S8x160x128_S1x160x128_1_0_0) (part (B0 m c t) 2 inb_S8x160x128_S1x160x128_2_0_0) (part (B0 m c t) 3 inb_S8x160x128_S1x160x128_3_0_0) (part (B0 m c t) 4 inb_S8x160x128_S1x160x128_4_0_0) (part (B0 m c t) 5 inb_S8x160x128_S1x160x128_5_0_0) (part (B0 m c t) 6 inb_S8x160x128_S1x160x128_6_0_0) (part (B0 m c t) 7 inb_S8x160x128_S1x160x128_7_0_0) y = _
    exact (congrArg _ (eq_ix2 (n0 := 8) (n1 := 128) y)).trans (out8 m c t (y 0) (y 1))

/-- Under the precondition the sums and the weights at the logits' rows are real numbers. -/
theorem pre_real (c : Dev nD) (h : Cert.Pre_SmallUpdIdeal_small_finite m) :
    (∀ (j : Fin 8) (l : Fin 128), IsReal (tot (A1 m c) (⟨24 + j.val, by omega⟩ : Fin 160) l)) ∧ (∀ (j : Fin 8) (l : Fin 128), IsReal (A2 m c (ix2 (⟨24 + j.val, by omega⟩ : Fin 160) l))) := by
  have h := h c
  refine ⟨fun j l => IsReal.sum _ fun k _ => ?_, fun j l => ?_⟩
  · have e := IsReal.of_abs_lt ((Ideal.cmp_olt_eq_one _ _).1 (congrFun h.1 (ix3 k j l)))
    refine Eq.mp (congrArg (fun i => IsReal (A1 m c i)) ?_) e
    funext a; match a with
      | ⟨0, _⟩ => exact Fin.ext (show 0 + k.val = k.val by omega)
      | ⟨1, _⟩ => rfl
      | ⟨2, _⟩ => exact Fin.ext (show 0 + l.val = l.val by omega)
  · have e := IsReal.of_abs_lt ((Ideal.cmp_olt_eq_one _ _).1 (congrFun h.2 (ix2 j l)))
    refine Eq.mp (congrArg (fun i => IsReal (A2 m c i)) ?_) e
    funext a; match a with
      | ⟨0, _⟩ => rfl
      | ⟨1, _⟩ => exact Fin.ext (show 0 + l.val = l.val by omega)

end Blocks

/-- Kernel and reference end with the same gradient, change of the weights, moments and loss. -/
theorem algebraic : Cert.algebraic_SmallUpdIdeal_SmallUpdRefIdeal_pre_small_finite := by
  intro m g m' g' hp hm
  refine ⟨fun c => (Cert.Small.G (A1 m c) (A2 m c)), fun c => (delta (A2 m c) (Cert.Small.G (A1 m c) (A2 m c)) (A3 m c) (A4 m c)), fun c => (mom (Cert.Small.G (A1 m c) (A2 m c)) (A3 m c)), fun c => (mom2 (Cert.Small.G (A1 m c) (A2 m c)) (A4 m c)), fun c => (fun _ => loss (A1 m c) : S8x128.Idx → EReal), ?_, ?_⟩
  · exact (θ_run defs _ _).mono (fun r h c => ⟨(h c).1.trans (arr4 m c), (h c).2.1.trans (arr5 m c), (h c).2.2.1.trans (arr6 m c),
      (h c).2.2.2.1.trans (arr7 m c), (h c).2.2.2.2.1.trans (arr8 m c), (h c).2.2.2.2.2⟩) (Cert.SmallUpdIdeal.Value.run_blocks m g)
  · refine (θ_run Cert.SmallUpdRefIdeal.defs _ _).mono (fun r h c => ?_) (Cert.SmallUpdRefIdeal.Value.run m' g')
    obtain ⟨a0, a1, a2, a3, a4⟩ := hm c
    obtain ⟨hs, hw⟩ := pre_real m c hp
    refine ⟨(h c).1.trans ?_, (h c).2.1.trans ?_, (h c).2.2.1.trans ?_, (h c).2.2.2.1.trans ?_, (h c).2.2.2.2.1.trans ?_, (h c).2.2.2.2.2⟩
    · rw [Cert.SmallUpdRefIdeal.Read.val_main_v54_eq, a1, a2]
      exact Cert.SmallRef.v54 (A1 m c) (A2 m c) hs hw
    · rw [Cert.SmallUpdRefIdeal.Read.val_main_v78_eq, a1, a2, a3, a4]
      exact Cert.SmallRef.v78 (A1 m c) (A2 m c) (A3 m c) (A4 m c) hs hw
    · rw [Cert.SmallUpdRefIdeal.Read.val_main_v59_eq, a1, a2, a3]
      exact Cert.SmallRef.v59 (A1 m c) (A2 m c) (A3 m c) hs hw
    · rw [Cert.SmallUpdRefIdeal.Read.val_main_v65_eq, a1, a2, a4]
      exact Cert.SmallRef.v65 (A1 m c) (A2 m c) (A4 m c) hs hw
    · rw [Cert.SmallUpdRefIdeal.Read.val_main_v79_eq, a1]
      exact funext fun i => Cert.SmallRef.v79 (A1 m c) i

/-- The reference is a straight-line host program without semaphores. -/
theorem frame_ref : Cert.quiescent_SmallUpdRefIdeal := fun m ρ _ =>
  (θ_run Cert.SmallUpdRefIdeal.defs _ _).mono (fun r h => ⟨fun c => (h c).2.2.2.2.2, sem_eq_zero_of_no_sems (by decide) r.2⟩)
    (Cert.SmallUpdRefIdeal.Value.run m ρ)

end Cert.SmallUpdIdeal.Hand

end
-- ==== Proof.AdamOutValue.lean ====
/-
  The optimiser's step on the shard of the output projection, 256 rows: the kernel's one tile, and the reference's formula.
-/
module

public import proofs.«01_k».proof.Defs
public import proofs.«01_k».proof.Proof.AdamWValue
public import proofs.«01_k».proof.Proof.Gen.AdamOutIdeal.Value
public import proofs.«01_k».proof.Proof.Gen.AdamOutRefIdeal.Run
public import proofs.«01_k».proof.Proof.Gen.AdamOutRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.AdamOutIdeal.Hand

open Cert.AdamOutIdeal Cert.AdamOutIdeal.Gen
open Idealize.ShloMosaic Idealize.ShloMosaic.TcCoe Idealize.SL.Sem

open Cert.AdamWIdeal.Hand (mom mom2 delta)

theorem pay1 (g m : Vec Ideal S256x1024 .f32) (r : Fin 256) (l : Fin 1024) : k0_pay1 (F := Ideal) g m (ix2 r l) = mom (n := 256) g m (ix2 r l) := by
  pointwise [k0_pay1]
  rfl
theorem pay2 (g v : Vec Ideal S256x1024 .f32) (r : Fin 256) (l : Fin 1024) : k0_pay2 (F := Ideal) g v (ix2 r l) = mom2 (n := 256) g v (ix2 r l) := by
  pointwise [k0_pay2]
  rfl
theorem pay3 (w g m v : Vec Ideal S256x1024 .f32) (r : Fin 256) (l : Fin 1024) :
    k0_pay3 (F := Ideal) w g m v (ix2 r l) = delta (n := 256) w g m v (ix2 r l) := by
  have h := pay1 g m
  have h' := pay2 g v
  unfold k0_pay3
  generalize k0_pay1 (F := Ideal) g m = X at h
  generalize k0_pay2 (F := Ideal) g v = Y at h'
  pointwise
  rw [h, h']
  rfl

section Blocks
variable (m : (ℓ : Loc nD τ sig) → Buf (Elt Ideal) ℓ)

/-- The block indices: row tiles of every operand. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0])

/-- A tile's row, as a row of the whole array. -/
def row (t : Fin cfg0.N) (r : Fin 256) : Fin 256 :=
  ⟨t.val * 256 + r.val, by have h := lt_of_lt_of_eq t.isLt N_0; omega⟩

abbrev B0 (c : Dev nD) (t : Fin cfg0.N) : S256x1024.Idx → EReal := iblk m c 0 t
theorem blk0 (c : Dev nD) (t : Fin cfg0.N) (r : Fin 256) (l : Fin 1024) :
    B0 m c t (ix2 r l) = (m ((c : Thread nD τ).loc main_arg0)) (ix2 (row t r) l) := by
  blk_ext [B0, Gen.iblk, Gen.V, (idx t).1, row]

abbrev B1 (c : Dev nD) (t : Fin cfg0.N) : S256x1024.Idx → EReal := iblk m c 1 t
theorem blk1 (c : Dev nD) (t : Fin cfg0.N) (r : Fin 256) (l : Fin 1024) :
    B1 m c t (ix2 r l) = (m ((c : Thread nD τ).loc main_arg1)) (ix2 (row t r) l) := by
  blk_ext [B1, Gen.iblk, Gen.V, (idx t).2.1, row]

abbrev B2 (c : Dev nD) (t : Fin cfg0.N) : S256x1024.Idx → EReal := iblk m c 2 t
theorem blk2 (c : Dev nD) (t : Fin cfg0.N) (r : Fin 256) (l : Fin 1024) :
    B2 m c t (ix2 r l) = (m ((c : Thread nD τ).loc main_arg2)) (ix2 (row t r) l) := by
  blk_ext [B2, Gen.iblk, Gen.V, (idx t).2.2.1, row]

abbrev B3 (c : Dev nD) (t : Fin cfg0.N) : S256x1024.Idx → EReal := iblk m c 3 t
theorem blk3 (c : Dev nD) (t : Fin cfg0.N) (r : Fin 256) (l : Fin 1024) :
    B3 m c t (ix2 r l) = (m ((c : Thread nD τ).loc main_arg3)) (ix2 (row t r) l) := by
  blk_ext [B3, Gen.iblk, Gen.V, (idx t).2.2.2.1, row]

/-- Each result of a tile, at a tile's entry, is the whole matrix's at the tile's row. -/
theorem mom_blk (c : Dev nD) (t : Fin cfg0.N) (r : Fin 256) (l : Fin 1024) :
    mom (n := 256) (B1 m c t) (B2 m c t) (ix2 r l) = mom (n := 256) (m ((c : Thread nD τ).loc main_arg1)) (m ((c : Thread nD τ).loc main_arg2)) (ix2 (row t r) l) := by
  unfold mom
  rw [blk1, blk2]
theorem mom2_blk (c : Dev nD) (t : Fin cfg0.N) (r : Fin 256) (l : Fin 1024) :
    mom2 (n := 256) (B1 m c t) (B3 m c t) (ix2 r l) = mom2 (n := 256) (m ((c : Thread nD τ).loc main_arg1)) (m ((c : Thread nD τ).loc main_arg3)) (ix2 (row t r) l) := by
  unfold mom2
  rw [blk1, blk3]
theorem delta_blk (c : Dev nD) (t : Fin cfg0.N) (r : Fin 256) (l : Fin 1024) :
    delta (n := 256) (B0 m c t) (B1 m c t) (B2 m c t) (B3 m c t) (ix2 r l) = delta (n := 256) (m ((c : Thread nD τ).loc main_arg0)) (m ((c : Thread nD τ).loc main_arg1)) (m ((c : Thread nD τ).loc main_arg2)) (m ((c : Thread nD τ).loc main_arg3)) (ix2 (row t r) l) := by
  unfold delta
  rw [mom_blk, mom2_blk, blk0]

theorem arr4 (c : Dev nD) : (dats m 0 c).arrAt 4 cfg0.N = (m ((c : Thread nD τ).loc main_arg1)) :=
  (dats m 0 c).arrAt_eq_of_covers 4 _ (by decide +kernel) fun t hf y => by
    blk_simp
    rw [after0_4]
    frame_out
    refine (congrArg _ (eq_ix2 (n0 := 256) (n1 := 1024) y)).trans (((blk1 m c t (y 0) (y 1)).trans (congrArg (m ((c : Thread nD τ).loc main_arg1))
      (show ix2 (row t (y 0)) (y 1) = _ from ?_))))
    blk_ext [(idx t).2.2.2.2.1, row]

theorem arr5 (c : Dev nD) : (dats m 0 c).arrAt 5 cfg0.N = (delta (n := 256) (m ((c : Thread nD τ).loc main_arg0)) (m ((c : Thread nD τ).loc main_arg1)) (m ((c : Thread nD τ).loc main_arg2)) (m ((c : Thread nD τ).loc main_arg3))) :=
  (dats m 0 c).arrAt_eq_of_covers 5 _ (by decide +kernel) fun t hf y => by
    blk_simp
    rw [after0_5]
    frame_out
    refine (congrArg _ (eq_ix2 (n0 := 256) (n1 := 1024) y)).trans ((pay3 _ _ _ _ (y 0) (y 1)).trans ((delta_blk m c t (y 0) (y 1)).trans (congrArg (delta (n := 256) (m ((c : Thread nD τ).loc main_arg0)) (m ((c : Thread nD τ).loc main_arg1)) (m ((c : Thread nD τ).loc main_arg2)) (m ((c : Thread nD τ).loc main_arg3)))
      (show ix2 (row t (y 0)) (y 1) = _ from ?_))))
    blk_ext [(idx t).2.2.2.2.2.1, row]

theorem arr6 (c : Dev nD) : (dats m 0 c).arrAt 6 cfg0.N = (mom (n := 256) (m ((c : Thread nD τ).loc main_arg1)) (m ((c : Thread nD τ).loc main_arg2))) :=
  (dats m 0 c).arrAt_eq_of_covers 6 _ (by decide +kernel) fun t hf y => by
    blk_simp
    rw [after0_6]
    frame_out
    refine (congrArg _ (eq_ix2 (n0 := 256) (n1 := 1024) y)).trans ((pay1 _ _ (y 0) (y 1)).trans ((mom_blk m c t (y 0) (y 1)).trans (congrArg (mom (n := 256) (m ((c : Thread nD τ).loc main_arg1)) (m ((c : Thread nD τ).loc main_arg2)))
      (show ix2 (row t (y 0)) (y 1) = _ from ?_))))
    blk_ext [(idx t).2.2.2.2.2.2.1, row]

theorem arr7 (c : Dev nD) : (dats m 0 c).arrAt 7 cfg0.N = (mom2 (n := 256) (m ((c : Thread nD τ).loc main_arg1)) (m ((c : Thread nD τ).loc main_arg3))) :=
  (dats m 0 c).arrAt_eq_of_covers 7 _ (by decide +kernel) fun t hf y => by
    blk_simp
    rw [after0_7]
    frame_out
    refine (congrArg _ (eq_ix2 (n0 := 256) (n1 := 1024) y)).trans ((pay2 _ _ (y 0) (y 1)).trans ((mom2_blk m c t (y 0) (y 1)).trans (congrArg (mom2 (n := 256) (m ((c : Thread nD τ).loc main_arg1)) (m ((c : Thread nD τ).loc main_arg3)))
      (show ix2 (row t (y 0)) (y 1) = _ from ?_))))
    blk_ext [(idx t).2.2.2.2.2.2.2, row]

end Blocks

section Reference
open Cert.AdamOutRefIdeal.Read
variable (x0 x1 x2 x3 : S256x1024.Idx → EReal)

theorem ref4 : val_main_v4 (F := Ideal) x1 x2 = mom (n := 256) x1 x2 := by
  funext i
  idx_vars i
  pointwise [val_main_cst, val_main_v0, val_main_v1, val_main_cst_0, val_main_v2, val_main_v3, val_main_v4]
  rfl
theorem ref10 : val_main_v10 (F := Ideal) x1 x3 = mom2 (n := 256) x1 x3 := by
  funext i
  idx_vars i
  pointwise [val_main_cst_1, val_main_v5, val_main_v6, val_main_v7, val_main_cst_2, val_main_v8, val_main_v9, val_main_v10]
  rfl
theorem ref23 : val_main_v23 (F := Ideal) x0 x1 x2 x3 = delta (n := 256) x0 x1 x2 x3 := by
  funext i
  idx_vars i
  have h := ref4 x1 x2
  have h' := ref10 x1 x3
  unfold val_main_v23 val_main_v21 val_main_v18 val_main_v17 val_main_v15 val_main_v14 val_main_v12
  generalize val_main_v4 (F := Ideal) x1 x2 = X at h
  generalize val_main_v10 (F := Ideal) x1 x3 = Y at h'
  pointwise [val_main_cst_3, val_main_v11, val_main_cst_4, val_main_v13, val_main_cst_5, val_main_v16, val_main_cst_6, val_main_v19, val_main_v20, val_main_cst_7, val_main_v22]
  rw [h, h']
  rfl

end Reference

/-- Kernel and reference end with the same change of the weights and the same moments. -/
theorem algebraic : Cert.algebraic_AdamOutIdeal_AdamOutRefIdeal := by
  intro m g m' g' _ hm
  refine ⟨fun c => (m ((c : Thread nD τ).loc main_arg1)), fun c => delta (n := 256) (m ((c : Thread nD τ).loc main_arg0)) (m ((c : Thread nD τ).loc main_arg1)) (m ((c : Thread nD τ).loc main_arg2)) (m ((c : Thread nD τ).loc main_arg3)), fun c => mom (n := 256) (m ((c : Thread nD τ).loc main_arg1)) (m ((c : Thread nD τ).loc main_arg2)), fun c => mom2 (n := 256) (m ((c : Thread nD τ).loc main_arg1)) (m ((c : Thread nD τ).loc main_arg3)), ?_, ?_⟩
  · exact (θ_run defs _ _).mono (fun r h c => ⟨(h c).1.trans (arr4 m c), (h c).2.1.trans (arr5 m c), (h c).2.2.1.trans (arr6 m c),
      (h c).2.2.2.1.trans (arr7 m c), (h c).2.2.2.2⟩) (Cert.AdamOutIdeal.Value.run_blocks m g)
  · refine (θ_run Cert.AdamOutRefIdeal.defs _ _).mono (fun r h c => ?_) (Cert.AdamOutRefIdeal.Value.run m' g')
    obtain ⟨a0, a1, a2, a3⟩ := hm c
    refine ⟨(h c).1.trans a1, (h c).2.1.trans ?_, (h c).2.2.1.trans ?_, (h c).2.2.2.1.trans ?_, (h c).2.2.2.2⟩
    · rw [Cert.AdamOutRefIdeal.Read.val_main_v23_eq, a0, a1, a2, a3, ref23]
    · rw [Cert.AdamOutRefIdeal.Read.val_main_v4_eq, a1, a2, ref4]
    · rw [Cert.AdamOutRefIdeal.Read.val_main_v10_eq, a1, a3, ref10]

/-- The reference is a straight-line host program without semaphores. -/
theorem frame_ref : Cert.quiescent_AdamOutRefIdeal := fun m ρ _ =>
  (θ_run Cert.AdamOutRefIdeal.defs _ _).mono (fun r h => ⟨fun c => (h c).2.2.2.2, sem_eq_zero_of_no_sems (by decide) r.2⟩)
    (Cert.AdamOutRefIdeal.Value.run m ρ)

end Cert.AdamOutIdeal.Hand

end
-- ==== Proof.lean ====
module

public import proofs.«01_k».proof.Defs
public import proofs.«01_k».proof.Proof.Gen.Pre_finite
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Wgrad
public import proofs.«01_k».proof.Proof.Gen.Wgrad.Skeleton
public import proofs.«01_k».proof.Proof.Gen.Wgrad.Launch
public import proofs.«01_k».proof.Proof.Gen.Wgrad.Points
public import proofs.«01_k».proof.Proof.Gen.Wgrad.Frame
public import proofs.«01_k».proof.Proof.Gen.WgradIdeal
public import proofs.«01_k».proof.Proof.Gen.WgradIdeal.Skeleton
public import proofs.«01_k».proof.Proof.Gen.WgradIdeal.Launch
public import proofs.«01_k».proof.Proof.Gen.WgradIdeal.Points
public import proofs.«01_k».proof.Proof.Gen.WgradIdeal.Frame
public import proofs.«01_k».proof.Proof.Gen.WgradIdeal.Value
public import proofs.«01_k».proof.Proof.Gen.WgradRefIdeal
public import proofs.«01_k».proof.Proof.Gen.WgradRefIdeal.Run
public import proofs.«01_k».proof.Proof.Gen.WgradRefIdeal.Read
public import proofs.«01_k».proof.Proof.WgradValue
public import proofs.«01_k».proof.Proof.FfnTie
public import proofs.«01_k».proof.Proof.DownLossValue
public import proofs.«01_k».proof.Proof.InBackValue
public import proofs.«01_k».proof.Proof.InGradValue
public import proofs.«01_k».proof.Proof.InProjValue
public import proofs.«01_k».proof.Proof.NormBackValue
public import proofs.«01_k».proof.Proof.FfnInValue
public import proofs.«01_k».proof.Proof.MixOutValue
public import proofs.«01_k».proof.Proof.MixBackValue
public import proofs.«01_k».proof.Proof.OutGradValue
public import proofs.«01_k».proof.Proof.AdamWValue
public import proofs.«01_k».proof.Proof.AttnFwdValue
public import proofs.«01_k».proof.Proof.SmallUpdValue
public import proofs.«01_k».proof.Proof.AdamOutValue
public import proofs.«01_k».proof.Proof.Gen.FfnIn
public import proofs.«01_k».proof.Proof.Gen.FfnIn.Skeleton
public import proofs.«01_k».proof.Proof.Gen.FfnIn.Launch
public import proofs.«01_k».proof.Proof.Gen.FfnIn.Points
public import proofs.«01_k».proof.Proof.Gen.FfnIn.Frame
public import proofs.«01_k».proof.Proof.Gen.FfnInIdeal
public import proofs.«01_k».proof.Proof.Gen.FfnInIdeal.Skeleton
public import proofs.«01_k».proof.Proof.Gen.FfnInIdeal.Launch
public import proofs.«01_k».proof.Proof.Gen.FfnInIdeal.Points
public import proofs.«01_k».proof.Proof.Gen.FfnInIdeal.Frame
public import proofs.«01_k».proof.Proof.Gen.FfnInIdeal.Value
public import proofs.«01_k».proof.Proof.Gen.FfnInRefIdeal
public import proofs.«01_k».proof.Proof.Gen.FfnInRefIdeal.Run
public import proofs.«01_k».proof.Proof.Gen.FfnInRefIdeal.Read
public import proofs.«01_k».proof.Proof.Gen.NormBack
public import proofs.«01_k».proof.Proof.Gen.NormBack.Skeleton
public import proofs.«01_k».proof.Proof.Gen.NormBack.Launch
public import proofs.«01_k».proof.Proof.Gen.NormBack.Points
public import proofs.«01_k».proof.Proof.Gen.NormBack.Frame
public import proofs.«01_k».proof.Proof.Gen.NormBackIdeal
public import proofs.«01_k».proof.Proof.Gen.NormBackIdeal.Skeleton
public import proofs.«01_k».proof.Proof.Gen.NormBackIdeal.Launch
public import proofs.«01_k».proof.Proof.Gen.NormBackIdeal.Points
public import proofs.«01_k».proof.Proof.Gen.NormBackIdeal.Frame
public import proofs.«01_k».proof.Proof.Gen.NormBackIdeal.Value
public import proofs.«01_k».proof.Proof.Gen.NormBackRefIdeal
public import proofs.«01_k».proof.Proof.Gen.NormBackRefIdeal.Run
public import proofs.«01_k».proof.Proof.Gen.NormBackRefIdeal.Read
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.InGrad
public import proofs.«01_k».proof.Proof.Gen.InGrad.Skeleton
public import proofs.«01_k».proof.Proof.Gen.InGrad.Launch
public import proofs.«01_k».proof.Proof.Gen.InGrad.Points
public import proofs.«01_k».proof.Proof.Gen.InGrad.Frame
public import proofs.«01_k».proof.Proof.Gen.InGradIdeal
public import proofs.«01_k».proof.Proof.Gen.InGradIdeal.Skeleton
public import proofs.«01_k».proof.Proof.Gen.InGradIdeal.Launch
public import proofs.«01_k».proof.Proof.Gen.InGradIdeal.Points
public import proofs.«01_k».proof.Proof.Gen.InGradIdeal.Frame
public import proofs.«01_k».proof.Proof.Gen.InGradIdeal.Value
public import proofs.«01_k».proof.Proof.Gen.InGradRefIdeal
public import proofs.«01_k».proof.Proof.Gen.InGradRefIdeal.Run
public import proofs.«01_k».proof.Proof.Gen.InGradRefIdeal.Read
public import proofs.«01_k».proof.Proof.Gen.InBack
public import proofs.«01_k».proof.Proof.Gen.InBack.Skeleton
public import proofs.«01_k».proof.Proof.Gen.InBack.Launch
public import proofs.«01_k».proof.Proof.Gen.InBack.Points
public import proofs.«01_k».proof.Proof.Gen.InBack.Frame
public import proofs.«01_k».proof.Proof.Gen.InBackIdeal
public import proofs.«01_k».proof.Proof.Gen.InBackIdeal.Skeleton
public import proofs.«01_k».proof.Proof.Gen.InBackIdeal.Launch
public import proofs.«01_k».proof.Proof.Gen.InBackIdeal.Points
public import proofs.«01_k».proof.Proof.Gen.InBackIdeal.Frame
public import proofs.«01_k».proof.Proof.Gen.InBackIdeal.Value
public import proofs.«01_k».proof.Proof.Gen.InBackRefIdeal
public import proofs.«01_k».proof.Proof.Gen.InBackRefIdeal.Run
public import proofs.«01_k».proof.Proof.Gen.InBackRefIdeal.Read
public import proofs.«01_k».proof.Proof.Gen.DownLoss
public import proofs.«01_k».proof.Proof.Gen.DownLoss.Skeleton
public import proofs.«01_k».proof.Proof.Gen.DownLoss.Launch
public import proofs.«01_k».proof.Proof.Gen.DownLoss.Points
public import proofs.«01_k».proof.Proof.Gen.DownLoss.Frame
public import proofs.«01_k».proof.Proof.Gen.DownLossIdeal
public import proofs.«01_k».proof.Proof.Gen.DownLossIdeal.Skeleton
public import proofs.«01_k».proof.Proof.Gen.DownLossIdeal.Launch
public import proofs.«01_k».proof.Proof.Gen.DownLossIdeal.Points
public import proofs.«01_k».proof.Proof.Gen.DownLossIdeal.Frame
public import proofs.«01_k».proof.Proof.Gen.DownLossIdeal.Value
public import proofs.«01_k».proof.Proof.Gen.DownLossRefIdeal
public import proofs.«01_k».proof.Proof.Gen.DownLossRefIdeal.Run
public import proofs.«01_k».proof.Proof.Gen.DownLossRefIdeal.Read
public import proofs.«01_k».proof.Proof.Gen.MixOut
public import proofs.«01_k».proof.Proof.Gen.MixOut.Skeleton
public import proofs.«01_k».proof.Proof.Gen.MixOut.Launch
public import proofs.«01_k».proof.Proof.Gen.MixOut.Points
public import proofs.«01_k».proof.Proof.Gen.MixOut.Frame
public import proofs.«01_k».proof.Proof.Gen.MixOutIdeal
public import proofs.«01_k».proof.Proof.Gen.MixOutIdeal.Skeleton
public import proofs.«01_k».proof.Proof.Gen.MixOutIdeal.Launch
public import proofs.«01_k».proof.Proof.Gen.MixOutIdeal.Points
public import proofs.«01_k».proof.Proof.Gen.MixOutIdeal.Frame
public import proofs.«01_k».proof.Proof.Gen.MixOutIdeal.Value
public import proofs.«01_k».proof.Proof.Gen.MixOutRefIdeal
public import proofs.«01_k».proof.Proof.Gen.MixOutRefIdeal.Run
public import proofs.«01_k».proof.Proof.Gen.MixOutRefIdeal.Read
public import proofs.«01_k».proof.Proof.Gen.MixBack
public import proofs.«01_k».proof.Proof.Gen.MixBack.Skeleton
public import proofs.«01_k».proof.Proof.Gen.MixBack.Launch
public import proofs.«01_k».proof.Proof.Gen.MixBack.Points
public import proofs.«01_k».proof.Proof.Gen.MixBack.Frame
public import proofs.«01_k».proof.Proof.Gen.MixBackIdeal
public import proofs.«01_k».proof.Proof.Gen.MixBackIdeal.Skeleton
public import proofs.«01_k».proof.Proof.Gen.MixBackIdeal.Launch
public import proofs.«01_k».proof.Proof.Gen.MixBackIdeal.Points
public import proofs.«01_k».proof.Proof.Gen.MixBackIdeal.Frame
public import proofs.«01_k».proof.Proof.Gen.MixBackIdeal.Value
public import proofs.«01_k».proof.Proof.Gen.MixBackRefIdeal
public import proofs.«01_k».proof.Proof.Gen.MixBackRefIdeal.Run
public import proofs.«01_k».proof.Proof.Gen.MixBackRefIdeal.Read
public import proofs.«01_k».proof.Proof.Gen.OutGrad
public import proofs.«01_k».proof.Proof.Gen.OutGrad.Skeleton
public import proofs.«01_k».proof.Proof.Gen.OutGrad.Launch
public import proofs.«01_k».proof.Proof.Gen.OutGrad.Points
public import proofs.«01_k».proof.Proof.Gen.OutGrad.Frame
public import proofs.«01_k».proof.Proof.Gen.OutGradIdeal
public import proofs.«01_k».proof.Proof.Gen.OutGradIdeal.Skeleton
public import proofs.«01_k».proof.Proof.Gen.OutGradIdeal.Launch
public import proofs.«01_k».proof.Proof.Gen.OutGradIdeal.Points
public import proofs.«01_k».proof.Proof.Gen.OutGradIdeal.Frame
public import proofs.«01_k».proof.Proof.Gen.OutGradIdeal.Value
public import proofs.«01_k».proof.Proof.Gen.OutGradRefIdeal
public import proofs.«01_k».proof.Proof.Gen.OutGradRefIdeal.Run
public import proofs.«01_k».proof.Proof.Gen.OutGradRefIdeal.Read
public import proofs.«01_k».proof.Proof.Gen.AdamW
public import proofs.«01_k».proof.Proof.Gen.AdamW.Skeleton
public import proofs.«01_k».proof.Proof.Gen.AdamW.Launch
public import proofs.«01_k».proof.Proof.Gen.AdamW.Points
public import proofs.«01_k».proof.Proof.Gen.AdamW.Frame
public import proofs.«01_k».proof.Proof.Gen.AdamWIdeal
public import proofs.«01_k».proof.Proof.Gen.AdamWIdeal.Skeleton
public import proofs.«01_k».proof.Proof.Gen.AdamWIdeal.Launch
public import proofs.«01_k».proof.Proof.Gen.AdamWIdeal.Points
public import proofs.«01_k».proof.Proof.Gen.AdamWIdeal.Frame
public import proofs.«01_k».proof.Proof.Gen.AdamWIdeal.Value
public import proofs.«01_k».proof.Proof.Gen.AdamWRefIdeal
public import proofs.«01_k».proof.Proof.Gen.AdamWRefIdeal.Run
public import proofs.«01_k».proof.Proof.Gen.AdamWRefIdeal.Read
public import proofs.«01_k».proof.Proof.Gen.SmallUpd
public import proofs.«01_k».proof.Proof.Gen.SmallUpd.Skeleton
public import proofs.«01_k».proof.Proof.Gen.SmallUpd.Launch
public import proofs.«01_k».proof.Proof.Gen.SmallUpd.Points
public import proofs.«01_k».proof.Proof.Gen.SmallUpd.Frame
public import proofs.«01_k».proof.Proof.Gen.SmallUpdIdeal
public import proofs.«01_k».proof.Proof.Gen.SmallUpdIdeal.Skeleton
public import proofs.«01_k».proof.Proof.Gen.SmallUpdIdeal.Launch
public import proofs.«01_k».proof.Proof.Gen.SmallUpdIdeal.Points
public import proofs.«01_k».proof.Proof.Gen.SmallUpdIdeal.Frame
public import proofs.«01_k».proof.Proof.Gen.SmallUpdIdeal.Value
public import proofs.«01_k».proof.Proof.Gen.SmallUpdRefIdeal
public import proofs.«01_k».proof.Proof.Gen.SmallUpdRefIdeal.Run
public import proofs.«01_k».proof.Proof.Gen.SmallUpdRefIdeal.Read
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutIdeal.Value
public import proofs.«01_k».proof.Proof.Gen.AdamOutRefIdeal
public import proofs.«01_k».proof.Proof.Gen.AdamOutRefIdeal.Run
public import proofs.«01_k».proof.Proof.Gen.AdamOutRefIdeal.Read
public import proofs.«01_k».proof.Proof.Gen.AttnFwd
public import proofs.«01_k».proof.Proof.Gen.AttnFwd.Skeleton
public import proofs.«01_k».proof.Proof.Gen.AttnFwd.Launch
public import proofs.«01_k».proof.Proof.Gen.AttnFwd.Points
public import proofs.«01_k».proof.Proof.Gen.AttnFwd.Frame
public import proofs.«01_k».proof.Proof.Gen.AttnFwdIdeal
public import proofs.«01_k».proof.Proof.Gen.AttnFwdIdeal.Skeleton
public import proofs.«01_k».proof.Proof.Gen.AttnFwdIdeal.Launch
public import proofs.«01_k».proof.Proof.Gen.AttnFwdIdeal.Points
public import proofs.«01_k».proof.Proof.Gen.AttnFwdIdeal.Frame
public import proofs.«01_k».proof.Proof.Gen.AttnFwdIdeal.Value
public import proofs.«01_k».proof.Proof.Gen.AttnFwdRefIdeal
public import proofs.«01_k».proof.Proof.Gen.AttnFwdRefIdeal.Run
public import proofs.«01_k».proof.Proof.Gen.AttnFwdRefIdeal.Read
public import proofs.«01_k».proof.Proof.Gen.Pre_mix_finite
public import proofs.«01_k».proof.Proof.Gen.Pre_att_finite
public import proofs.«01_k».proof.Proof.Gen.Pre_small_finite
public import proofs.«01_k».proof.Proof.Gen.Pre_norm_finite
public import proofs.«01_k».proof.Proof.Gen.Pre_in_finite
public import proofs.«01_k».proof.Proof.Gen.Pre_down_finite
public import Idealize.ShloMosaic.Adequacy
public import Idealize.ShloMosaic.Init

@[expose] public section

noncomputable section

namespace Cert.Proof

open Idealize.ShloMosaic Idealize.SL.Sem

theorem claim : Cert.Claim := ⟨Cert.Ffn.Gen.facts, Cert.FfnIdeal.Gen.facts, Cert.FfnRefIdeal.Gen.facts, Cert.Wgrad.Gen.facts, Cert.WgradIdeal.Gen.facts, Cert.WgradRefIdeal.Gen.facts, Cert.FfnIn.Gen.facts, Cert.FfnInIdeal.Gen.facts, Cert.FfnInRefIdeal.Gen.facts, Cert.NormBack.Gen.facts, Cert.NormBackIdeal.Gen.facts, Cert.NormBackRefIdeal.Gen.facts, Cert.InProj.Gen.facts, Cert.InProjIdeal.Gen.facts, Cert.InProjRefIdeal.Gen.facts, Cert.InGrad.Gen.facts, Cert.InGradIdeal.Gen.facts, Cert.InGradRefIdeal.Gen.facts, Cert.InBack.Gen.facts, Cert.InBackIdeal.Gen.facts, Cert.InBackRefIdeal.Gen.facts, Cert.DownLoss.Gen.facts, Cert.DownLossIdeal.Gen.facts, Cert.DownLossRefIdeal.Gen.facts, Cert.MixOut.Gen.facts, Cert.MixOutIdeal.Gen.facts, Cert.MixOutRefIdeal.Gen.facts, Cert.MixBack.Gen.facts, Cert.MixBackIdeal.Gen.facts, Cert.MixBackRefIdeal.Gen.facts, Cert.OutGrad.Gen.facts, Cert.OutGradIdeal.Gen.facts, Cert.OutGradRefIdeal.Gen.facts, Cert.AdamW.Gen.facts, Cert.AdamWIdeal.Gen.facts, Cert.AdamWRefIdeal.Gen.facts, Cert.AttnFwd.Gen.facts, Cert.AttnFwdIdeal.Gen.facts, Cert.AttnFwdRefIdeal.Gen.facts, Cert.SmallUpd.Gen.facts, Cert.SmallUpdIdeal.Gen.facts, Cert.SmallUpdRefIdeal.Gen.facts, Cert.AdamOut.Gen.facts, Cert.AdamOutIdeal.Gen.facts, Cert.AdamOutRefIdeal.Gen.facts,
    Cert.Pre_finite.Gen.facts, Cert.Pre_norm_finite.Gen.facts, Cert.Pre_in_finite.Gen.facts, Cert.Pre_down_finite.Gen.facts, Cert.Pre_mix_finite.Gen.facts, Cert.Pre_att_finite.Gen.facts, Cert.Pre_small_finite.Gen.facts,
    fun m ρ _ => Cert.Ffn.Gen.frame m ρ, fun m ρ _ => Cert.FfnIdeal.Gen.frame m ρ, fun m ρ _ => Cert.FfnIdeal.Gen.frame m ρ, Cert.FfnIdeal.Hand.frame_ref, fun m ρ _ => Cert.FfnIdeal.Hand.frame_ref m ρ trivial,
    fun m ρ _ => Cert.Wgrad.Gen.frame m ρ, fun m ρ _ => Cert.WgradIdeal.Gen.frame m ρ, Cert.WgradIdeal.Hand.frame_ref,
    fun m ρ _ => Cert.FfnIn.Gen.frame m ρ, fun m ρ _ => Cert.FfnInIdeal.Gen.frame m ρ, Cert.FfnInIdeal.Hand.frame_ref,
    fun m ρ _ => Cert.NormBack.Gen.frame m ρ, fun m ρ _ => Cert.NormBackIdeal.Gen.frame m ρ, fun m ρ _ => Cert.NormBackIdeal.Gen.frame m ρ, Cert.NormBackIdeal.Hand.frame_ref, fun m ρ _ => Cert.NormBackIdeal.Hand.frame_ref m ρ trivial,
    fun m ρ _ => Cert.InProj.Gen.frame m ρ, fun m ρ _ => Cert.InProjIdeal.Gen.frame m ρ, Cert.InProjIdeal.Hand.frame_ref,
    fun m ρ _ => Cert.InGrad.Gen.frame m ρ, fun m ρ _ => Cert.InGradIdeal.Gen.frame m ρ, Cert.InGradIdeal.Hand.frame_ref,
    fun m ρ _ => Cert.InBack.Gen.frame m ρ, fun m ρ _ => Cert.InBackIdeal.Gen.frame m ρ, fun m ρ _ => Cert.InBackIdeal.Gen.frame m ρ, Cert.InBackIdeal.Hand.frame_ref, fun m ρ _ => Cert.InBackIdeal.Hand.frame_ref m ρ trivial,
    fun m ρ _ => Cert.DownLoss.Gen.frame m ρ, fun m ρ _ => Cert.DownLossIdeal.Gen.frame m ρ, fun m ρ _ => Cert.DownLossIdeal.Gen.frame m ρ, Cert.DownLossIdeal.Hand.frame_ref, fun m ρ _ => Cert.DownLossIdeal.Hand.frame_ref m ρ trivial,
    fun m ρ _ => Cert.MixOut.Gen.frame m ρ, fun m ρ _ => Cert.MixOutIdeal.Gen.frame m ρ, Cert.MixOutIdeal.Hand.frame_ref,
    fun m ρ _ => Cert.MixBack.Gen.frame m ρ, fun m ρ _ => Cert.MixBackIdeal.Gen.frame m ρ, fun m ρ _ => Cert.MixBackIdeal.Gen.frame m ρ, Cert.MixBackIdeal.Hand.frame_ref, fun m ρ _ => Cert.MixBackIdeal.Hand.frame_ref m ρ trivial,
    fun m ρ _ => Cert.OutGrad.Gen.frame m ρ, fun m ρ _ => Cert.OutGradIdeal.Gen.frame m ρ, Cert.OutGradIdeal.Hand.frame_ref,
    fun m ρ _ => Cert.AdamW.Gen.frame m ρ, fun m ρ _ => Cert.AdamWIdeal.Gen.frame m ρ, Cert.AdamWIdeal.Hand.frame_ref,
    fun m ρ _ => Cert.AttnFwd.Gen.frame m ρ, fun m ρ _ => Cert.AttnFwdIdeal.Gen.frame m ρ, fun m ρ _ => Cert.AttnFwdIdeal.Gen.frame m ρ, Cert.AttnFwdIdeal.Hand.frame_ref, fun m ρ _ => Cert.AttnFwdIdeal.Hand.frame_ref m ρ trivial,
    fun m ρ _ => Cert.SmallUpd.Gen.frame m ρ, fun m ρ _ => Cert.SmallUpdIdeal.Gen.frame m ρ, fun m ρ _ => Cert.SmallUpdIdeal.Gen.frame m ρ, Cert.SmallUpdIdeal.Hand.frame_ref, fun m ρ _ => Cert.SmallUpdIdeal.Hand.frame_ref m ρ trivial,
    fun m ρ _ => Cert.AdamOut.Gen.frame m ρ, fun m ρ _ => Cert.AdamOutIdeal.Gen.frame m ρ, Cert.AdamOutIdeal.Hand.frame_ref,
    trivial, Cert.FfnIdeal.Hand.algebraic, trivial, Cert.WgradIdeal.Hand.algebraic, trivial, Cert.FfnInIdeal.Hand.algebraic, trivial, Cert.NormBackIdeal.Hand.algebraic, trivial, Cert.InProjIdeal.Hand.algebraic, trivial, Cert.InGradIdeal.Hand.algebraic, trivial, Cert.InBackIdeal.Hand.algebraic, trivial, Cert.DownLossIdeal.Hand.algebraic, trivial, Cert.MixOutIdeal.Hand.algebraic, trivial, Cert.MixBackIdeal.Hand.algebraic, trivial, Cert.OutGradIdeal.Hand.algebraic, trivial, Cert.AdamWIdeal.Hand.algebraic, Cert.AttnFwdIdeal.Hand.preserves, Cert.AttnFwdIdeal.Hand.algebraic, trivial, Cert.SmallUpdIdeal.Hand.algebraic, trivial, Cert.AdamOutIdeal.Hand.algebraic⟩

end Cert.Proof

end
